-- ==== Defs.lean ====
def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixRefIdeal (m : (ℓ : Loc Cert.MixRefIdeal.nD Cert.MixRefIdeal.τ Cert.MixRefIdeal.sig) → Buf (Elt Ideal) ℓ) : Prop :=
  True

def Pre_Sb (m : (ℓ : Loc Cert.Sb.nD Cert.Sb.τ Cert.Sb.sig) → Buf (Elt Bits) ℓ) : Prop :=
  True

def Pre_SbIdeal (m : (ℓ : Loc Cert.SbIdeal.nD Cert.SbIdeal.τ Cert.SbIdeal.sig) → Buf (Elt Ideal) ℓ) : Prop :=
  True

def Pre_SbIdeal_sb_finite [hPre_sb_finite : Cert.Pre_sb_finite.Facts] (m : (ℓ : Loc Cert.SbIdeal.nD Cert.SbIdeal.τ Cert.SbIdeal.sig) → Buf (Elt Ideal) ℓ) : Prop :=
  ∀ c : Dev Cert.SbIdeal.nD,
    (Cert.Pre_sb_finite.fn (F := Ideal) (m ((c.tc : Thread Cert.SbIdeal.nD Cert.SbIdeal.τ).loc Cert.SbIdeal.main_arg0)) (m ((c.tc : Thread Cert.SbIdeal.nD Cert.SbIdeal.τ).loc Cert.SbIdeal.main_arg1))) = (fun _ => 1#1)

def Pre_SbRefIdeal (m : (ℓ : Loc Cert.SbRefIdeal.nD Cert.SbRefIdeal.τ Cert.SbRefIdeal.sig) → Buf (Elt Ideal) ℓ) : Prop :=
  True

def Pre_SbRefIdeal_sb_finite [hPre_sb_finite : Cert.Pre_sb_finite.Facts] (m : (ℓ : Loc Cert.SbRefIdeal.nD Cert.SbRefIdeal.τ Cert.SbRefIdeal.sig) → Buf (Elt Ideal) ℓ) : Prop :=
  ∀ c : Dev Cert.SbRefIdeal.nD,
    (Cert.Pre_sb_finite.fn (F := Ideal) (m ((c.tc : Thread Cert.SbRefIdeal.nD Cert.SbRefIdeal.τ).loc Cert.SbRefIdeal.main_arg0)) (m ((c.tc : Thread Cert.SbRefIdeal.nD Cert.SbRefIdeal.τ).loc Cert.SbRefIdeal.main_arg1))) = (fun _ => 1#1)

def Pre_Rel (m : (ℓ : Loc Cert.Rel.nD Cert.Rel.τ Cert.Rel.sig) → Buf (Elt Bits) ℓ) : Prop :=
  True

def Pre_RelIdeal (m : (ℓ : Loc Cert.RelIdeal.nD Cert.RelIdeal.τ Cert.RelIdeal.sig) → Buf (Elt Ideal) ℓ) : Prop :=
  True

def Pre_RelRefIdeal (m : (ℓ : Loc Cert.RelRefIdeal.nD Cert.RelRefIdeal.τ Cert.RelRefIdeal.sig) → Buf (Elt Ideal) ℓ) : Prop :=
  True

def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpIdeal_mlp_finite [hPre_mlp_finite : Cert.Pre_mlp_finite.Facts] (m : (ℓ : Loc Cert.MlpIdeal.nD Cert.MlpIdeal.τ Cert.MlpIdeal.sig) → Buf (Elt Ideal) ℓ) : Prop :=
  ∀ c : Dev Cert.MlpIdeal.nD,
    (Cert.Pre_mlp_finite.fn (F := Ideal) (m ((c.tc : Thread Cert.MlpIdeal.nD Cert.MlpIdeal.τ).loc Cert.MlpIdeal.main_arg0)) (m ((c.tc : Thread Cert.MlpIdeal.nD Cert.MlpIdeal.τ).loc Cert.MlpIdeal.main_arg1)) (m ((c.tc : Thread Cert.MlpIdeal.nD Cert.MlpIdeal.τ).loc Cert.MlpIdeal.main_arg2)) (m ((c.tc : Thread Cert.MlpIdeal.nD Cert.MlpIdeal.τ).loc Cert.MlpIdeal.main_arg3)) (m ((c.tc : Thread Cert.MlpIdeal.nD Cert.MlpIdeal.τ).loc Cert.MlpIdeal.main_arg4)) (m ((c.tc : Thread Cert.MlpIdeal.nD Cert.MlpIdeal.τ).loc Cert.MlpIdeal.main_arg5)) (m ((c.tc : Thread Cert.MlpIdeal.nD Cert.MlpIdeal.τ).loc Cert.MlpIdeal.main_arg6)) (m ((c.tc : Thread Cert.MlpIdeal.nD Cert.MlpIdeal.τ).loc Cert.MlpIdeal.main_arg7)) (m ((c.tc : Thread Cert.MlpIdeal.nD Cert.MlpIdeal.τ).loc Cert.MlpIdeal.main_arg8)) (m ((c.tc : Thread Cert.MlpIdeal.nD Cert.MlpIdeal.τ).loc Cert.MlpIdeal.main_arg9)) (m ((c.tc : Thread Cert.MlpIdeal.nD Cert.MlpIdeal.τ).loc Cert.MlpIdeal.main_arg10)) (m ((c.tc : Thread Cert.MlpIdeal.nD Cert.MlpIdeal.τ).loc Cert.MlpIdeal.main_arg11)) (m ((c.tc : Thread Cert.MlpIdeal.nD Cert.MlpIdeal.τ).loc Cert.MlpIdeal.main_arg12)) (m ((c.tc : Thread Cert.MlpIdeal.nD Cert.MlpIdeal.τ).loc Cert.MlpIdeal.main_arg13)) (m ((c.tc : Thread Cert.MlpIdeal.nD Cert.MlpIdeal.τ).loc Cert.MlpIdeal.main_arg14))) = (fun _ => 1#1)

def Pre_MlpRefIdeal (m : (ℓ : Loc Cert.MlpRefIdeal.nD Cert.MlpRefIdeal.τ Cert.MlpRefIdeal.sig) → Buf (Elt Ideal) ℓ) : Prop :=
  True

def Pre_MlpRefIdeal_mlp_finite [hPre_mlp_finite : Cert.Pre_mlp_finite.Facts] (m : (ℓ : Loc Cert.MlpRefIdeal.nD Cert.MlpRefIdeal.τ Cert.MlpRefIdeal.sig) → Buf (Elt Ideal) ℓ) : Prop :=
  ∀ c : Dev Cert.MlpRefIdeal.nD,
    (Cert.Pre_mlp_finite.fn (F := Ideal) (m ((c.tc : Thread Cert.MlpRefIdeal.nD Cert.MlpRefIdeal.τ).loc Cert.MlpRefIdeal.main_arg0)) (m ((c.tc : Thread Cert.MlpRefIdeal.nD Cert.MlpRefIdeal.τ).loc Cert.MlpRefIdeal.main_arg1)) (m ((c.tc : Thread Cert.MlpRefIdeal.nD Cert.MlpRefIdeal.τ).loc Cert.MlpRefIdeal.main_arg2)) (m ((c.tc : Thread Cert.MlpRefIdeal.nD Cert.MlpRefIdeal.τ).loc Cert.MlpRefIdeal.main_arg3)) (m ((c.tc : Thread Cert.MlpRefIdeal.nD Cert.MlpRefIdeal.τ).loc Cert.MlpRefIdeal.main_arg4)) (m ((c.tc : Thread Cert.MlpRefIdeal.nD Cert.MlpRefIdeal.τ).loc Cert.MlpRefIdeal.main_arg5)) (m ((c.tc : Thread Cert.MlpRefIdeal.nD Cert.MlpRefIdeal.τ).loc Cert.MlpRefIdeal.main_arg6)) (m ((c.tc : Thread Cert.MlpRefIdeal.nD Cert.MlpRefIdeal.τ).loc Cert.MlpRefIdeal.main_arg7)) (m ((c.tc : Thread Cert.MlpRefIdeal.nD Cert.MlpRefIdeal.τ).loc Cert.MlpRefIdeal.main_arg8)) (m ((c.tc : Thread Cert.MlpRefIdeal.nD Cert.MlpRefIdeal.τ).loc Cert.MlpRefIdeal.main_arg9)) (m ((c.tc : Thread Cert.MlpRefIdeal.nD Cert.MlpRefIdeal.τ).loc Cert.MlpRefIdeal.main_arg10)) (m ((c.tc : Thread Cert.MlpRefIdeal.nD Cert.MlpRefIdeal.τ).loc Cert.MlpRefIdeal.main_arg11)) (m ((c.tc : Thread Cert.MlpRefIdeal.nD Cert.MlpRefIdeal.τ).loc Cert.MlpRefIdeal.main_arg12)) (m ((c.tc : Thread Cert.MlpRefIdeal.nD Cert.MlpRefIdeal.τ).loc Cert.MlpRefIdeal.main_arg13)) (m ((c.tc : Thread Cert.MlpRefIdeal.nD Cert.MlpRefIdeal.τ).loc Cert.MlpRefIdeal.main_arg14))) = (fun _ => 1#1)

def Pre_SbFwd (m : (ℓ : Loc Cert.SbFwd.nD Cert.SbFwd.τ Cert.SbFwd.sig) → Buf (Elt Bits) ℓ) : Prop :=
  True

def Pre_SbFwdIdeal (m : (ℓ : Loc Cert.SbFwdIdeal.nD Cert.SbFwdIdeal.τ Cert.SbFwdIdeal.sig) → Buf (Elt Ideal) ℓ) : Prop :=
  True

def Pre_SbFwdIdeal_sb_fwd_finite [hPre_sb_fwd_finite : Cert.Pre_sb_fwd_finite.Facts] (m : (ℓ : Loc Cert.SbFwdIdeal.nD Cert.SbFwdIdeal.τ Cert.SbFwdIdeal.sig) → Buf (Elt Ideal) ℓ) : Prop :=
  ∀ c : Dev Cert.SbFwdIdeal.nD,
    (Cert.Pre_sb_fwd_finite.fn (F := Ideal) (m ((c.tc : Thread Cert.SbFwdIdeal.nD Cert.SbFwdIdeal.τ).loc Cert.SbFwdIdeal.main_arg0))) = (fun _ => 1#1)

def Pre_SbFwdRefIdeal (m : (ℓ : Loc Cert.SbFwdRefIdeal.nD Cert.SbFwdRefIdeal.τ Cert.SbFwdRefIdeal.sig) → Buf (Elt Ideal) ℓ) : Prop :=
  True

def Pre_SbFwdRefIdeal_sb_fwd_finite [hPre_sb_fwd_finite : Cert.Pre_sb_fwd_finite.Facts] (m : (ℓ : Loc Cert.SbFwdRefIdeal.nD Cert.SbFwdRefIdeal.τ Cert.SbFwdRefIdeal.sig) → Buf (Elt Ideal) ℓ) : Prop :=
  ∀ c : Dev Cert.SbFwdRefIdeal.nD,
    (Cert.Pre_sb_fwd_finite.fn (F := Ideal) (m ((c.tc : Thread Cert.SbFwdRefIdeal.nD Cert.SbFwdRefIdeal.τ).loc Cert.SbFwdRefIdeal.main_arg0))) = (fun _ => 1#1)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6)
      ∧ r.2.mem ((c.tc : Thread Cert.Mix.nD Cert.Mix.τ).loc Cert.Mix.main_arg7) = m ((c.tc : Thread Cert.Mix.nD Cert.Mix.τ).loc Cert.Mix.main_arg7))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6)
      ∧ r.2.mem ((c.tc : Thread Cert.MixRefIdeal.nD Cert.MixRefIdeal.τ).loc Cert.MixRefIdeal.main_arg7) = m ((c.tc : Thread Cert.MixRefIdeal.nD Cert.MixRefIdeal.τ).loc Cert.MixRefIdeal.main_arg7))
      ∧ r.2.sem = fun _ => 0)

def quiescent_Sb [hSb : Cert.Sb.Facts] : Prop :=
  ∀ (m : (ℓ : Loc Cert.Sb.nD Cert.Sb.τ Cert.Sb.sig) → Buf (Elt Bits) ℓ) (g : Dev Cert.Sb.nD → PrngReg), Pre_Sb m →
    θ_run (Cert.Sb.defs (F := Bits)) (onTc (τ := Cert.Sb.τ) (Cert.Sb.main (F := Bits))) ⟨m, fun _ => 0, g⟩ (fun r => (∀ c : Dev Cert.Sb.nD,
      r.2.mem ((c.tc : Thread Cert.Sb.nD Cert.Sb.τ).loc Cert.Sb.main_arg0) = m ((c.tc : Thread Cert.Sb.nD Cert.Sb.τ).loc Cert.Sb.main_arg0)
      ∧ r.2.mem ((c.tc : Thread Cert.Sb.nD Cert.Sb.τ).loc Cert.Sb.main_arg1) = m ((c.tc : Thread Cert.Sb.nD Cert.Sb.τ).loc Cert.Sb.main_arg1))
      ∧ r.2.sem = fun _ => 0)

def quiescent_SbIdeal [hSbIdeal : Cert.SbIdeal.Facts] : Prop :=
  ∀ (m : (ℓ : Loc Cert.SbIdeal.nD Cert.SbIdeal.τ Cert.SbIdeal.sig) → Buf (Elt Ideal) ℓ) (g : Dev Cert.SbIdeal.nD → PrngReg), Pre_SbIdeal m →
    θ_run (Cert.SbIdeal.defs (F := Ideal)) (onTc (τ := Cert.SbIdeal.τ) (Cert.SbIdeal.main (F := Ideal))) ⟨m, fun _ => 0, g⟩ (fun r => (∀ c : Dev Cert.SbIdeal.nD,
      r.2.mem ((c.tc : Thread Cert.SbIdeal.nD Cert.SbIdeal.τ).loc Cert.SbIdeal.main_arg0) = m ((c.tc : Thread Cert.SbIdeal.nD Cert.SbIdeal.τ).loc Cert.SbIdeal.main_arg0)
      ∧ r.2.mem ((c.tc : Thread Cert.SbIdeal.nD Cert.SbIdeal.τ).loc Cert.SbIdeal.main_arg1) = m ((c.tc : Thread Cert.SbIdeal.nD Cert.SbIdeal.τ).loc Cert.SbIdeal.main_arg1))
      ∧ r.2.sem = fun _ => 0)

def quiescent_SbIdeal_pre_sb_finite [hSbIdeal : Cert.SbIdeal.Facts] [hPre_sb_finite : Cert.Pre_sb_finite.Facts] : Prop :=
  ∀ (m : (ℓ : Loc Cert.SbIdeal.nD Cert.SbIdeal.τ Cert.SbIdeal.sig) → Buf (Elt Ideal) ℓ) (g : Dev Cert.SbIdeal.nD → PrngReg), Pre_SbIdeal_sb_finite m →
    θ_run (Cert.SbIdeal.defs (F := Ideal)) (onTc (τ := Cert.SbIdeal.τ) (Cert.SbIdeal.main (F := Ideal))) ⟨m, fun _ => 0, g⟩ (fun r => (∀ c : Dev Cert.SbIdeal.nD,
      r.2.mem ((c.tc : Thread Cert.SbIdeal.nD Cert.SbIdeal.τ).loc Cert.SbIdeal.main_arg0) = m ((c.tc : Thread Cert.SbIdeal.nD Cert.SbIdeal.τ).loc Cert.SbIdeal.main_arg0)
      ∧ r.2.mem ((c.tc : Thread Cert.SbIdeal.nD Cert.SbIdeal.τ).loc Cert.SbIdeal.main_arg1) = m ((c.tc : Thread Cert.SbIdeal.nD Cert.SbIdeal.τ).loc Cert.SbIdeal.main_arg1))
      ∧ r.2.sem = fun _ => 0)

def quiescent_SbRefIdeal [hSbRefIdeal : Cert.SbRefIdeal.Facts] : Prop :=
  ∀ (m : (ℓ : Loc Cert.SbRefIdeal.nD Cert.SbRefIdeal.τ Cert.SbRefIdeal.sig) → Buf (Elt Ideal) ℓ) (g : Dev Cert.SbRefIdeal.nD → PrngReg), Pre_SbRefIdeal m →
    θ_run (Cert.SbRefIdeal.defs (F := Ideal)) (onTc (τ := Cert.SbRefIdeal.τ) (Cert.SbRefIdeal.main (F := Ideal))) ⟨m, fun _ => 0, g⟩ (fun r => (∀ c : Dev Cert.SbRefIdeal.nD,
      r.2.mem ((c.tc : Thread Cert.SbRefIdeal.nD Cert.SbRefIdeal.τ).loc Cert.SbRefIdeal.main_arg0) = m ((c.tc : Thread Cert.SbRefIdeal.nD Cert.SbRefIdeal.τ).loc Cert.SbRefIdeal.main_arg0)
      ∧ r.2.mem ((c.tc : Thread Cert.SbRefIdeal.nD Cert.SbRefIdeal.τ).loc Cert.SbRefIdeal.main_arg1) = m ((c.tc : Thread Cert.SbRefIdeal.nD Cert.SbRefIdeal.τ).loc Cert.SbRefIdeal.main_arg1))
      ∧ r.2.sem = fun _ => 0)

def quiescent_SbRefIdeal_pre_sb_finite [hSbRefIdeal : Cert.SbRefIdeal.Facts] [hPre_sb_finite : Cert.Pre_sb_finite.Facts] : Prop :=
  ∀ (m : (ℓ : Loc Cert.SbRefIdeal.nD Cert.SbRefIdeal.τ Cert.SbRefIdeal.sig) → Buf (Elt Ideal) ℓ) (g : Dev Cert.SbRefIdeal.nD → PrngReg), Pre_SbRefIdeal_sb_finite m →
    θ_run (Cert.SbRefIdeal.defs (F := Ideal)) (onTc (τ := Cert.SbRefIdeal.τ) (Cert.SbRefIdeal.main (F := Ideal))) ⟨m, fun _ => 0, g⟩ (fun r => (∀ c : Dev Cert.SbRefIdeal.nD,
      r.2.mem ((c.tc : Thread Cert.SbRefIdeal.nD Cert.SbRefIdeal.τ).loc Cert.SbRefIdeal.main_arg0) = m ((c.tc : Thread Cert.SbRefIdeal.nD Cert.SbRefIdeal.τ).loc Cert.SbRefIdeal.main_arg0)
      ∧ r.2.mem ((c.tc : Thread Cert.SbRefIdeal.nD Cert.SbRefIdeal.τ).loc Cert.SbRefIdeal.main_arg1) = m ((c.tc : Thread Cert.SbRefIdeal.nD Cert.SbRefIdeal.τ).loc Cert.SbRefIdeal.main_arg1))
      ∧ r.2.sem = fun _ => 0)

def quiescent_Rel [hRel : Cert.Rel.Facts] : Prop :=
  ∀ (m : (ℓ : Loc Cert.Rel.nD Cert.Rel.τ Cert.Rel.sig) → Buf (Elt Bits) ℓ) (g : Dev Cert.Rel.nD → PrngReg), Pre_Rel m →
    θ_run (Cert.Rel.defs (F := Bits)) (onTc (τ := Cert.Rel.τ) (Cert.Rel.main (F := Bits))) ⟨m, fun _ => 0, g⟩ (fun r => (∀ c : Dev Cert.Rel.nD,
      r.2.mem ((c.tc : Thread Cert.Rel.nD Cert.Rel.τ).loc Cert.Rel.main_arg0) = m ((c.tc : Thread Cert.Rel.nD Cert.Rel.τ).loc Cert.Rel.main_arg0))
      ∧ r.2.sem = fun _ => 0)

def quiescent_RelIdeal [hRelIdeal : Cert.RelIdeal.Facts] : Prop :=
  ∀ (m : (ℓ : Loc Cert.RelIdeal.nD Cert.RelIdeal.τ Cert.RelIdeal.sig) → Buf (Elt Ideal) ℓ) (g : Dev Cert.RelIdeal.nD → PrngReg), Pre_RelIdeal m →
    θ_run (Cert.RelIdeal.defs (F := Ideal)) (onTc (τ := Cert.RelIdeal.τ) (Cert.RelIdeal.main (F := Ideal))) ⟨m, fun _ => 0, g⟩ (fun r => (∀ c : Dev Cert.RelIdeal.nD,
      r.2.mem ((c.tc : Thread Cert.RelIdeal.nD Cert.RelIdeal.τ).loc Cert.RelIdeal.main_arg0) = m ((c.tc : Thread Cert.RelIdeal.nD Cert.RelIdeal.τ).loc Cert.RelIdeal.main_arg0))
      ∧ r.2.sem = fun _ => 0)

def quiescent_RelRefIdeal [hRelRefIdeal : Cert.RelRefIdeal.Facts] : Prop :=
  ∀ (m : (ℓ : Loc Cert.RelRefIdeal.nD Cert.RelRefIdeal.τ Cert.RelRefIdeal.sig) → Buf (Elt Ideal) ℓ) (g : Dev Cert.RelRefIdeal.nD → PrngReg), Pre_RelRefIdeal m →
    θ_run (Cert.RelRefIdeal.defs (F := Ideal)) (onTc (τ := Cert.RelRefIdeal.τ) (Cert.RelRefIdeal.main (F := Ideal))) ⟨m, fun _ => 0, g⟩ (fun r => (∀ c : Dev Cert.RelRefIdeal.nD,
      r.2.mem ((c.tc : Thread Cert.RelRefIdeal.nD Cert.RelRefIdeal.τ).loc Cert.RelRefIdeal.main_arg0) = m ((c.tc : Thread Cert.RelRefIdeal.nD Cert.RelRefIdeal.τ).loc Cert.RelRefIdeal.main_arg0))
      ∧ r.2.sem = fun _ => 0)

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3)
      ∧ r.2.mem ((c.tc : Thread Cert.Mlp.nD Cert.Mlp.τ).loc Cert.Mlp.main_arg4) = m ((c.tc : Thread Cert.Mlp.nD Cert.Mlp.τ).loc Cert.Mlp.main_arg4)
      ∧ r.2.mem ((c.tc : Thread Cert.Mlp.nD Cert.Mlp.τ).loc Cert.Mlp.main_arg5) = m ((c.tc : Thread Cert.Mlp.nD Cert.Mlp.τ).loc Cert.Mlp.main_arg5)
      ∧ r.2.mem ((c.tc : Thread Cert.Mlp.nD Cert.Mlp.τ).loc Cert.Mlp.main_arg6) = m ((c.tc : Thread Cert.Mlp.nD Cert.Mlp.τ).loc Cert.Mlp.main_arg6)
      ∧ r.2.mem ((c.tc : Thread Cert.Mlp.nD Cert.Mlp.τ).loc Cert.Mlp.main_arg7) = m ((c.tc : Thread Cert.Mlp.nD Cert.Mlp.τ).loc Cert.Mlp.main_arg7)
      ∧ r.2.mem ((c.tc : Thread Cert.Mlp.nD Cert.Mlp.τ).loc Cert.Mlp.main_arg8) = m ((c.tc : Thread Cert.Mlp.nD Cert.Mlp.τ).loc Cert.Mlp.main_arg8)
      ∧ r.2.mem ((c.tc : Thread Cert.Mlp.nD Cert.Mlp.τ).loc Cert.Mlp.main_arg9) = m ((c.tc : Thread Cert.Mlp.nD Cert.Mlp.τ).loc Cert.Mlp.main_arg9)
      ∧ r.2.mem ((c.tc : Thread Cert.Mlp.nD Cert.Mlp.τ).loc Cert.Mlp.main_arg10) = m ((c.tc : Thread Cert.Mlp.nD Cert.Mlp.τ).loc Cert.Mlp.main_arg10)
      ∧ r.2.mem ((c.tc : Thread Cert.Mlp.nD Cert.Mlp.τ).loc Cert.Mlp.main_arg11) = m ((c.tc : Thread Cert.Mlp.nD Cert.Mlp.τ).loc Cert.Mlp.main_arg11)
      ∧ r.2.mem ((c.tc : Thread Cert.Mlp.nD Cert.Mlp.τ).loc Cert.Mlp.main_arg12) = m ((c.tc : Thread Cert.Mlp.nD Cert.Mlp.τ).loc Cert.Mlp.main_arg12)
      ∧ r.2.mem ((c.tc : Thread Cert.Mlp.nD Cert.Mlp.τ).loc Cert.Mlp.main_arg13) = m ((c.tc : Thread Cert.Mlp.nD Cert.Mlp.τ).loc Cert.Mlp.main_arg13)
      ∧ r.2.mem ((c.tc : Thread Cert.Mlp.nD Cert.Mlp.τ).loc Cert.Mlp.main_arg14) = m ((c.tc : Thread Cert.Mlp.nD Cert.Mlp.τ).loc Cert.Mlp.main_arg14))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
      ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5)
      ∧ r.2.mem ((c.tc : Thread Cert.MlpIdeal.nD Cert.MlpIdeal.τ).loc Cert.MlpIdeal.main_arg6) = m ((c.tc : Thread Cert.MlpIdeal.nD Cert.MlpIdeal.τ).loc Cert.MlpIdeal.main_arg6)
      ∧ r.2.mem ((c.tc : Thread Cert.MlpIdeal.nD Cert.MlpIdeal.τ).loc Cert.MlpIdeal.main_arg7) = m ((c.tc : Thread Cert.MlpIdeal.nD Cert.MlpIdeal.τ).loc Cert.MlpIdeal.main_arg7)
      ∧ r.2.mem ((c.tc : Thread Cert.MlpIdeal.nD Cert.MlpIdeal.τ).loc Cert.MlpIdeal.main_arg8) = m ((c.tc : Thread Cert.MlpIdeal.nD Cert.MlpIdeal.τ).loc Cert.MlpIdeal.main_arg8)
      ∧ r.2.mem ((c.tc : Thread Cert.MlpIdeal.nD Cert.MlpIdeal.τ).loc Cert.MlpIdeal.main_arg9) = m ((c.tc : Thread Cert.MlpIdeal.nD Cert.MlpIdeal.τ).loc Cert.MlpIdeal.main_arg9)
      ∧ r.2.mem ((c.tc : Thread Cert.MlpIdeal.nD Cert.MlpIdeal.τ).loc Cert.MlpIdeal.main_arg10) = m ((c.tc : Thread Cert.MlpIdeal.nD Cert.MlpIdeal.τ).loc Cert.MlpIdeal.main_arg10)
      ∧ r.2.mem ((c.tc : Thread Cert.MlpIdeal.nD Cert.MlpIdeal.τ).loc Cert.MlpIdeal.main_arg11) = m ((c.tc : Thread Cert.MlpIdeal.nD Cert.MlpIdeal.τ).loc Cert.MlpIdeal.main_arg11)
      ∧ r.2.mem ((c.tc : Thread Cert.MlpIdeal.nD Cert.MlpIdeal.τ).loc Cert.MlpIdeal.main_arg12) = m ((c.tc : Thread Cert.MlpIdeal.nD Cert.MlpIdeal.τ).loc Cert.MlpIdeal.main_arg12)
      ∧ r.2.mem ((c.tc : Thread Cert.MlpIdeal.nD Cert.MlpIdeal.τ).loc Cert.MlpIdeal.main_arg13) = m ((c.tc : Thread Cert.MlpIdeal.nD Cert.MlpIdeal.τ).loc Cert.MlpIdeal.main_arg13)
      ∧ r.2.mem ((c.tc : Thread Cert.MlpIdeal.nD Cert.MlpIdeal.τ).loc Cert.MlpIdeal.main_arg14) = m ((c.tc : Thread Cert.MlpIdeal.nD Cert.MlpIdeal.τ).loc Cert.MlpIdeal.main_arg14))
      ∧ r.2.sem = fun _ => 0)

def quiescent_MlpIdeal_pre_mlp_finite [hMlpIdeal : Cert.MlpIdeal.Facts] [hPre_mlp_finite : Cert.Pre_mlp_finite.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal_mlp_finite m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
      ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5)
      ∧ r.2.mem ((c.tc : Thread Cert.MlpIdeal.nD Cert.MlpIdeal.τ).loc Cert.MlpIdeal.main_arg6) = m ((c.tc : Thread Cert.MlpIdeal.nD Cert.MlpIdeal.τ).loc Cert.MlpIdeal.main_arg6)
      ∧ r.2.mem ((c.tc : Thread Cert.MlpIdeal.nD Cert.MlpIdeal.τ).loc Cert.MlpIdeal.main_arg7) = m ((c.tc : Thread Cert.MlpIdeal.nD Cert.MlpIdeal.τ).loc Cert.MlpIdeal.main_arg7)
      ∧ r.2.mem ((c.tc : Thread Cert.MlpIdeal.nD Cert.MlpIdeal.τ).loc Cert.MlpIdeal.main_arg8) = m ((c.tc : Thread Cert.MlpIdeal.nD Cert.MlpIdeal.τ).loc Cert.MlpIdeal.main_arg8)
      ∧ r.2.mem ((c.tc : Thread Cert.MlpIdeal.nD Cert.MlpIdeal.τ).loc Cert.MlpIdeal.main_arg9) = m ((c.tc : Thread Cert.MlpIdeal.nD Cert.MlpIdeal.τ).loc Cert.MlpIdeal.main_arg9)
      ∧ r.2.mem ((c.tc : Thread Cert.MlpIdeal.nD Cert.MlpIdeal.τ).loc Cert.MlpIdeal.main_arg10) = m ((c.tc : Thread Cert.MlpIdeal.nD Cert.MlpIdeal.τ).loc Cert.MlpIdeal.main_arg10)
      ∧ r.2.mem ((c.tc : Thread Cert.MlpIdeal.nD Cert.MlpIdeal.τ).loc Cert.MlpIdeal.main_arg11) = m ((c.tc : Thread Cert.MlpIdeal.nD Cert.MlpIdeal.τ).loc Cert.MlpIdeal.main_arg11)
      ∧ r.2.mem ((c.tc : Thread Cert.MlpIdeal.nD Cert.MlpIdeal.τ).loc Cert.MlpIdeal.main_arg12) = m ((c.tc : Thread Cert.MlpIdeal.nD Cert.MlpIdeal.τ).loc Cert.MlpIdeal.main_arg12)
      ∧ r.2.mem ((c.tc : Thread Cert.MlpIdeal.nD Cert.MlpIdeal.τ).loc Cert.MlpIdeal.main_arg13) = m ((c.tc : Thread Cert.MlpIdeal.nD Cert.MlpIdeal.τ).loc Cert.MlpIdeal.main_arg13)
      ∧ r.2.mem ((c.tc : Thread Cert.MlpIdeal.nD Cert.MlpIdeal.τ).loc Cert.MlpIdeal.main_arg14) = m ((c.tc : Thread Cert.MlpIdeal.nD Cert.MlpIdeal.τ).loc Cert.MlpIdeal.main_arg14))
      ∧ r.2.sem = fun _ => 0)

def quiescent_MlpRefIdeal [hMlpRefIdeal : Cert.MlpRefIdeal.Facts] : Prop :=
  ∀ (m : (ℓ : Loc Cert.MlpRefIdeal.nD Cert.MlpRefIdeal.τ Cert.MlpRefIdeal.sig) → Buf (Elt Ideal) ℓ) (g : Dev Cert.MlpRefIdeal.nD → PrngReg), Pre_MlpRefIdeal m →
    θ_run (Cert.MlpRefIdeal.defs (F := Ideal)) (onTc (τ := Cert.MlpRefIdeal.τ) (Cert.MlpRefIdeal.main (F := Ideal))) ⟨m, fun _ => 0, g⟩ (fun r => (∀ c : Dev Cert.MlpRefIdeal.nD,
      r.2.mem ((c.tc : Thread Cert.MlpRefIdeal.nD Cert.MlpRefIdeal.τ).loc Cert.MlpRefIdeal.main_arg0) = m ((c.tc : Thread Cert.MlpRefIdeal.nD Cert.MlpRefIdeal.τ).loc Cert.MlpRefIdeal.main_arg0)
      ∧ r.2.mem ((c.tc : Thread Cert.MlpRefIdeal.nD Cert.MlpRefIdeal.τ).loc Cert.MlpRefIdeal.main_arg1) = m ((c.tc : Thread Cert.MlpRefIdeal.nD Cert.MlpRefIdeal.τ).loc Cert.MlpRefIdeal.main_arg1)
      ∧ r.2.mem ((c.tc : Thread Cert.MlpRefIdeal.nD Cert.MlpRefIdeal.τ).loc Cert.MlpRefIdeal.main_arg2) = m ((c.tc : Thread Cert.MlpRefIdeal.nD Cert.MlpRefIdeal.τ).loc Cert.MlpRefIdeal.main_arg2)
      ∧ r.2.mem ((c.tc : Thread Cert.MlpRefIdeal.nD Cert.MlpRefIdeal.τ).loc Cert.MlpRefIdeal.main_arg3) = m ((c.tc : Thread Cert.MlpRefIdeal.nD Cert.MlpRefIdeal.τ).loc Cert.MlpRefIdeal.main_arg3)
      ∧ r.2.mem ((c.tc : Thread Cert.MlpRefIdeal.nD Cert.MlpRefIdeal.τ).loc Cert.MlpRefIdeal.main_arg4) = m ((c.tc : Thread Cert.MlpRefIdeal.nD Cert.MlpRefIdeal.τ).loc Cert.MlpRefIdeal.main_arg4)
      ∧ r.2.mem ((c.tc : Thread Cert.MlpRefIdeal.nD Cert.MlpRefIdeal.τ).loc Cert.MlpRefIdeal.main_arg5) = m ((c.tc : Thread Cert.MlpRefIdeal.nD Cert.MlpRefIdeal.τ).loc Cert.MlpRefIdeal.main_arg5)
      ∧ r.2.mem ((c.tc : Thread Cert.MlpRefIdeal.nD Cert.MlpRefIdeal.τ).loc Cert.MlpRefIdeal.main_arg6) = m ((c.tc : Thread Cert.MlpRefIdeal.nD Cert.MlpRefIdeal.τ).loc Cert.MlpRefIdeal.main_arg6)
      ∧ r.2.mem ((c.tc : Thread Cert.MlpRefIdeal.nD Cert.MlpRefIdeal.τ).loc Cert.MlpRefIdeal.main_arg7) = m ((c.tc : Thread Cert.MlpRefIdeal.nD Cert.MlpRefIdeal.τ).loc Cert.MlpRefIdeal.main_arg7)
      ∧ r.2.mem ((c.tc : Thread Cert.MlpRefIdeal.nD Cert.MlpRefIdeal.τ).loc Cert.MlpRefIdeal.main_arg8) = m ((c.tc : Thread Cert.MlpRefIdeal.nD Cert.MlpRefIdeal.τ).loc Cert.MlpRefIdeal.main_arg8)
      ∧ r.2.mem ((c.tc : Thread Cert.MlpRefIdeal.nD Cert.MlpRefIdeal.τ).loc Cert.MlpRefIdeal.main_arg9) = m ((c.tc : Thread Cert.MlpRefIdeal.nD Cert.MlpRefIdeal.τ).loc Cert.MlpRefIdeal.main_arg9)
      ∧ r.2.mem ((c.tc : Thread Cert.MlpRefIdeal.nD Cert.MlpRefIdeal.τ).loc Cert.MlpRefIdeal.main_arg10) = m ((c.tc : Thread Cert.MlpRefIdeal.nD Cert.MlpRefIdeal.τ).loc Cert.MlpRefIdeal.main_arg10)
      ∧ r.2.mem ((c.tc : Thread Cert.MlpRefIdeal.nD Cert.MlpRefIdeal.τ).loc Cert.MlpRefIdeal.main_arg11) = m ((c.tc : Thread Cert.MlpRefIdeal.nD Cert.MlpRefIdeal.τ).loc Cert.MlpRefIdeal.main_arg11)
      ∧ r.2.mem ((c.tc : Thread Cert.MlpRefIdeal.nD Cert.MlpRefIdeal.τ).loc Cert.MlpRefIdeal.main_arg12) = m ((c.tc : Thread Cert.MlpRefIdeal.nD Cert.MlpRefIdeal.τ).loc Cert.MlpRefIdeal.main_arg12)
      ∧ r.2.mem ((c.tc : Thread Cert.MlpRefIdeal.nD Cert.MlpRefIdeal.τ).loc Cert.MlpRefIdeal.main_arg13) = m ((c.tc : Thread Cert.MlpRefIdeal.nD Cert.MlpRefIdeal.τ).loc Cert.MlpRefIdeal.main_arg13)
      ∧ r.2.mem ((c.tc : Thread Cert.MlpRefIdeal.nD Cert.MlpRefIdeal.τ).loc Cert.MlpRefIdeal.main_arg14) = m ((c.tc : Thread Cert.MlpRefIdeal.nD Cert.MlpRefIdeal.τ).loc Cert.MlpRefIdeal.main_arg14))
      ∧ r.2.sem = fun _ => 0)

def quiescent_MlpRefIdeal_pre_mlp_finite [hMlpRefIdeal : Cert.MlpRefIdeal.Facts] [hPre_mlp_finite : Cert.Pre_mlp_finite.Facts] : Prop :=
  ∀ (m : (ℓ : Loc Cert.MlpRefIdeal.nD Cert.MlpRefIdeal.τ Cert.MlpRefIdeal.sig) → Buf (Elt Ideal) ℓ) (g : Dev Cert.MlpRefIdeal.nD → PrngReg), Pre_MlpRefIdeal_mlp_finite m →
    θ_run (Cert.MlpRefIdeal.defs (F := Ideal)) (onTc (τ := Cert.MlpRefIdeal.τ) (Cert.MlpRefIdeal.main (F := Ideal))) ⟨m, fun _ => 0, g⟩ (fun r => (∀ c : Dev Cert.MlpRefIdeal.nD,
      r.2.mem ((c.tc : Thread Cert.MlpRefIdeal.nD Cert.MlpRefIdeal.τ).loc Cert.MlpRefIdeal.main_arg0) = m ((c.tc : Thread Cert.MlpRefIdeal.nD Cert.MlpRefIdeal.τ).loc Cert.MlpRefIdeal.main_arg0)
      ∧ r.2.mem ((c.tc : Thread Cert.MlpRefIdeal.nD Cert.MlpRefIdeal.τ).loc Cert.MlpRefIdeal.main_arg1) = m ((c.tc : Thread Cert.MlpRefIdeal.nD Cert.MlpRefIdeal.τ).loc Cert.MlpRefIdeal.main_arg1)
      ∧ r.2.mem ((c.tc : Thread Cert.MlpRefIdeal.nD Cert.MlpRefIdeal.τ).loc Cert.MlpRefIdeal.main_arg2) = m ((c.tc : Thread Cert.MlpRefIdeal.nD Cert.MlpRefIdeal.τ).loc Cert.MlpRefIdeal.main_arg2)
      ∧ r.2.mem ((c.tc : Thread Cert.MlpRefIdeal.nD Cert.MlpRefIdeal.τ).loc Cert.MlpRefIdeal.main_arg3) = m ((c.tc : Thread Cert.MlpRefIdeal.nD Cert.MlpRefIdeal.τ).loc Cert.MlpRefIdeal.main_arg3)
      ∧ r.2.mem ((c.tc : Thread Cert.MlpRefIdeal.nD Cert.MlpRefIdeal.τ).loc Cert.MlpRefIdeal.main_arg4) = m ((c.tc : Thread Cert.MlpRefIdeal.nD Cert.MlpRefIdeal.τ).loc Cert.MlpRefIdeal.main_arg4)
      ∧ r.2.mem ((c.tc : Thread Cert.MlpRefIdeal.nD Cert.MlpRefIdeal.τ).loc Cert.MlpRefIdeal.main_arg5) = m ((c.tc : Thread Cert.MlpRefIdeal.nD Cert.MlpRefIdeal.τ).loc Cert.MlpRefIdeal.main_arg5)
      ∧ r.2.mem ((c.tc : Thread Cert.MlpRefIdeal.nD Cert.MlpRefIdeal.τ).loc Cert.MlpRefIdeal.main_arg6) = m ((c.tc : Thread Cert.MlpRefIdeal.nD Cert.MlpRefIdeal.τ).loc Cert.MlpRefIdeal.main_arg6)
      ∧ r.2.mem ((c.tc : Thread Cert.MlpRefIdeal.nD Cert.MlpRefIdeal.τ).loc Cert.MlpRefIdeal.main_arg7) = m ((c.tc : Thread Cert.MlpRefIdeal.nD Cert.MlpRefIdeal.τ).loc Cert.MlpRefIdeal.main_arg7)
      ∧ r.2.mem ((c.tc : Thread Cert.MlpRefIdeal.nD Cert.MlpRefIdeal.τ).loc Cert.MlpRefIdeal.main_arg8) = m ((c.tc : Thread Cert.MlpRefIdeal.nD Cert.MlpRefIdeal.τ).loc Cert.MlpRefIdeal.main_arg8)
      ∧ r.2.mem ((c.tc : Thread Cert.MlpRefIdeal.nD Cert.MlpRefIdeal.τ).loc Cert.MlpRefIdeal.main_arg9) = m ((c.tc : Thread Cert.MlpRefIdeal.nD Cert.MlpRefIdeal.τ).loc Cert.MlpRefIdeal.main_arg9)
      ∧ r.2.mem ((c.tc : Thread Cert.MlpRefIdeal.nD Cert.MlpRefIdeal.τ).loc Cert.MlpRefIdeal.main_arg10) = m ((c.tc : Thread Cert.MlpRefIdeal.nD Cert.MlpRefIdeal.τ).loc Cert.MlpRefIdeal.main_arg10)
      ∧ r.2.mem ((c.tc : Thread Cert.MlpRefIdeal.nD Cert.MlpRefIdeal.τ).loc Cert.MlpRefIdeal.main_arg11) = m ((c.tc : Thread Cert.MlpRefIdeal.nD Cert.MlpRefIdeal.τ).loc Cert.MlpRefIdeal.main_arg11)
      ∧ r.2.mem ((c.tc : Thread Cert.MlpRefIdeal.nD Cert.MlpRefIdeal.τ).loc Cert.MlpRefIdeal.main_arg12) = m ((c.tc : Thread Cert.MlpRefIdeal.nD Cert.MlpRefIdeal.τ).loc Cert.MlpRefIdeal.main_arg12)
      ∧ r.2.mem ((c.tc : Thread Cert.MlpRefIdeal.nD Cert.MlpRefIdeal.τ).loc Cert.MlpRefIdeal.main_arg13) = m ((c.tc : Thread Cert.MlpRefIdeal.nD Cert.MlpRefIdeal.τ).loc Cert.MlpRefIdeal.main_arg13)
      ∧ r.2.mem ((c.tc : Thread Cert.MlpRefIdeal.nD Cert.MlpRefIdeal.τ).loc Cert.MlpRefIdeal.main_arg14) = m ((c.tc : Thread Cert.MlpRefIdeal.nD Cert.MlpRefIdeal.τ).loc Cert.MlpRefIdeal.main_arg14))
      ∧ r.2.sem = fun _ => 0)

def quiescent_SbFwd [hSbFwd : Cert.SbFwd.Facts] : Prop :=
  ∀ (m : (ℓ : Loc Cert.SbFwd.nD Cert.SbFwd.τ Cert.SbFwd.sig) → Buf (Elt Bits) ℓ) (g : Dev Cert.SbFwd.nD → PrngReg), Pre_SbFwd m →
    θ_run (Cert.SbFwd.defs (F := Bits)) (onTc (τ := Cert.SbFwd.τ) (Cert.SbFwd.main (F := Bits))) ⟨m, fun _ => 0, g⟩ (fun r => (∀ c : Dev Cert.SbFwd.nD,
      r.2.mem ((c.tc : Thread Cert.SbFwd.nD Cert.SbFwd.τ).loc Cert.SbFwd.main_arg0) = m ((c.tc : Thread Cert.SbFwd.nD Cert.SbFwd.τ).loc Cert.SbFwd.main_arg0))
      ∧ r.2.sem = fun _ => 0)

def quiescent_SbFwdIdeal [hSbFwdIdeal : Cert.SbFwdIdeal.Facts] : Prop :=
  ∀ (m : (ℓ : Loc Cert.SbFwdIdeal.nD Cert.SbFwdIdeal.τ Cert.SbFwdIdeal.sig) → Buf (Elt Ideal) ℓ) (g : Dev Cert.SbFwdIdeal.nD → PrngReg), Pre_SbFwdIdeal m →
    θ_run (Cert.SbFwdIdeal.defs (F := Ideal)) (onTc (τ := Cert.SbFwdIdeal.τ) (Cert.SbFwdIdeal.main (F := Ideal))) ⟨m, fun _ => 0, g⟩ (fun r => (∀ c : Dev Cert.SbFwdIdeal.nD,
      r.2.mem ((c.tc : Thread Cert.SbFwdIdeal.nD Cert.SbFwdIdeal.τ).loc Cert.SbFwdIdeal.main_arg0) = m ((c.tc : Thread Cert.SbFwdIdeal.nD Cert.SbFwdIdeal.τ).loc Cert.SbFwdIdeal.main_arg0))
      ∧ r.2.sem = fun _ => 0)

def quiescent_SbFwdIdeal_pre_sb_fwd_finite [hSbFwdIdeal : Cert.SbFwdIdeal.Facts] [hPre_sb_fwd_finite : Cert.Pre_sb_fwd_finite.Facts] : Prop :=
  ∀ (m : (ℓ : Loc Cert.SbFwdIdeal.nD Cert.SbFwdIdeal.τ Cert.SbFwdIdeal.sig) → Buf (Elt Ideal) ℓ) (g : Dev Cert.SbFwdIdeal.nD → PrngReg), Pre_SbFwdIdeal_sb_fwd_finite m →
    θ_run (Cert.SbFwdIdeal.defs (F := Ideal)) (onTc (τ := Cert.SbFwdIdeal.τ) (Cert.SbFwdIdeal.main (F := Ideal))) ⟨m, fun _ => 0, g⟩ (fun r => (∀ c : Dev Cert.SbFwdIdeal.nD,
      r.2.mem ((c.tc : Thread Cert.SbFwdIdeal.nD Cert.SbFwdIdeal.τ).loc Cert.SbFwdIdeal.main_arg0) = m ((c.tc : Thread Cert.SbFwdIdeal.nD Cert.SbFwdIdeal.τ).loc Cert.SbFwdIdeal.main_arg0))
      ∧ r.2.sem = fun _ => 0)

def quiescent_SbFwdRefIdeal [hSbFwdRefIdeal : Cert.SbFwdRefIdeal.Facts] : Prop :=
  ∀ (m : (ℓ : Loc Cert.SbFwdRefIdeal.nD Cert.SbFwdRefIdeal.τ Cert.SbFwdRefIdeal.sig) → Buf (Elt Ideal) ℓ) (g : Dev Cert.SbFwdRefIdeal.nD → PrngReg), Pre_SbFwdRefIdeal m →
    θ_run (Cert.SbFwdRefIdeal.defs (F := Ideal)) (onTc (τ := Cert.SbFwdRefIdeal.τ) (Cert.SbFwdRefIdeal.main (F := Ideal))) ⟨m, fun _ => 0, g⟩ (fun r => (∀ c : Dev Cert.SbFwdRefIdeal.nD,
      r.2.mem ((c.tc : Thread Cert.SbFwdRefIdeal.nD Cert.SbFwdRefIdeal.τ).loc Cert.SbFwdRefIdeal.main_arg0) = m ((c.tc : Thread Cert.SbFwdRefIdeal.nD Cert.SbFwdRefIdeal.τ).loc Cert.SbFwdRefIdeal.main_arg0))
      ∧ r.2.sem = fun _ => 0)

def quiescent_SbFwdRefIdeal_pre_sb_fwd_finite [hSbFwdRefIdeal : Cert.SbFwdRefIdeal.Facts] [hPre_sb_fwd_finite : Cert.Pre_sb_fwd_finite.Facts] : Prop :=
  ∀ (m : (ℓ : Loc Cert.SbFwdRefIdeal.nD Cert.SbFwdRefIdeal.τ Cert.SbFwdRefIdeal.sig) → Buf (Elt Ideal) ℓ) (g : Dev Cert.SbFwdRefIdeal.nD → PrngReg), Pre_SbFwdRefIdeal_sb_fwd_finite m →
    θ_run (Cert.SbFwdRefIdeal.defs (F := Ideal)) (onTc (τ := Cert.SbFwdRefIdeal.τ) (Cert.SbFwdRefIdeal.main (F := Ideal))) ⟨m, fun _ => 0, g⟩ (fun r => (∀ c : Dev Cert.SbFwdRefIdeal.nD,
      r.2.mem ((c.tc : Thread Cert.SbFwdRefIdeal.nD Cert.SbFwdRefIdeal.τ).loc Cert.SbFwdRefIdeal.main_arg0) = m ((c.tc : Thread Cert.SbFwdRefIdeal.nD Cert.SbFwdRefIdeal.τ).loc Cert.SbFwdRefIdeal.main_arg0))
      ∧ r.2.sem = fun _ => 0)

def preserves_Mix_MixIdeal : Prop :=
  True

def algebraic_MixIdeal_MixRefIdeal [hMixIdeal : Cert.MixIdeal.Facts] [hMixRefIdeal : Cert.MixRefIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)
      ∧ m' ((c.tc : Thread Cert.MixRefIdeal.nD Cert.MixRefIdeal.τ).loc Cert.MixRefIdeal.main_arg5) = m ((c.tc : Thread Cert.MixIdeal.nD Cert.MixIdeal.τ).loc Cert.MixIdeal.main_arg5)
      ∧ m' ((c.tc : Thread Cert.MixRefIdeal.nD Cert.MixRefIdeal.τ).loc Cert.MixRefIdeal.main_arg6) = m ((c.tc : Thread Cert.MixIdeal.nD Cert.MixIdeal.τ).loc Cert.MixIdeal.main_arg6)
      ∧ m' ((c.tc : Thread Cert.MixRefIdeal.nD Cert.MixRefIdeal.τ).loc Cert.MixRefIdeal.main_arg7) = m ((c.tc : Thread Cert.MixIdeal.nD Cert.MixIdeal.τ).loc Cert.MixIdeal.main_arg7)) →
    ∃ (v0 : (c : Dev Cert.MixIdeal.nD) → Buf (Elt Ideal) ((c.tc : Thread Cert.MixIdeal.nD Cert.MixIdeal.τ).loc Cert.MixIdeal.main_v9_0)) (v1 : (c : Dev Cert.MixIdeal.nD) → Buf (Elt Ideal) ((c.tc : Thread Cert.MixIdeal.nD Cert.MixIdeal.τ).loc Cert.MixIdeal.main_v9_1)) (v2 : (c : Dev Cert.MixIdeal.nD) → Buf (Elt Ideal) ((c.tc : Thread Cert.MixIdeal.nD Cert.MixIdeal.τ).loc Cert.MixIdeal.main_v9_2)) (v3 : (c : Dev Cert.MixIdeal.nD) → Buf (Elt Ideal) ((c.tc : Thread Cert.MixIdeal.nD Cert.MixIdeal.τ).loc Cert.MixIdeal.main_v9_3)) (v4 : (c : Dev Cert.MixIdeal.nD) → Buf (Elt Ideal) ((c.tc : Thread Cert.MixIdeal.nD Cert.MixIdeal.τ).loc Cert.MixIdeal.main_v9_4)) (v5 : (c : Dev Cert.MixIdeal.nD) → Buf (Elt Ideal) ((c.tc : Thread Cert.MixIdeal.nD Cert.MixIdeal.τ).loc Cert.MixIdeal.main_v9_5)) (v6 : (c : Dev Cert.MixIdeal.nD) → Buf (Elt Ideal) ((c.tc : Thread Cert.MixIdeal.nD Cert.MixIdeal.τ).loc Cert.MixIdeal.main_v9_6)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v9_0) = v0 c
          ∧ r.2.mem ((c.tc : Thread Cert.MixIdeal.nD Cert.MixIdeal.τ).loc Cert.MixIdeal.main_v9_1) = v1 c
          ∧ r.2.mem ((c.tc : Thread Cert.MixIdeal.nD Cert.MixIdeal.τ).loc Cert.MixIdeal.main_v9_2) = v2 c
          ∧ r.2.mem ((c.tc : Thread Cert.MixIdeal.nD Cert.MixIdeal.τ).loc Cert.MixIdeal.main_v9_3) = v3 c
          ∧ r.2.mem ((c.tc : Thread Cert.MixIdeal.nD Cert.MixIdeal.τ).loc Cert.MixIdeal.main_v9_4) = v4 c
          ∧ r.2.mem ((c.tc : Thread Cert.MixIdeal.nD Cert.MixIdeal.τ).loc Cert.MixIdeal.main_v9_5) = v5 c
          ∧ r.2.mem ((c.tc : Thread Cert.MixIdeal.nD Cert.MixIdeal.τ).loc Cert.MixIdeal.main_v9_6) = v6 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
          ∧ r.2.mem ((c.tc : Thread Cert.MixIdeal.nD Cert.MixIdeal.τ).loc Cert.MixIdeal.main_arg7) = m ((c.tc : Thread Cert.MixIdeal.nD Cert.MixIdeal.τ).loc Cert.MixIdeal.main_arg7))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v40) = v0 c
          ∧ r.2.mem ((c.tc : Thread Cert.MixRefIdeal.nD Cert.MixRefIdeal.τ).loc Cert.MixRefIdeal.main_v41) = v1 c
          ∧ r.2.mem ((c.tc : Thread Cert.MixRefIdeal.nD Cert.MixRefIdeal.τ).loc Cert.MixRefIdeal.main_v42) = v2 c
          ∧ r.2.mem ((c.tc : Thread Cert.MixRefIdeal.nD Cert.MixRefIdeal.τ).loc Cert.MixRefIdeal.main_v43) = v3 c
          ∧ r.2.mem ((c.tc : Thread Cert.MixRefIdeal.nD Cert.MixRefIdeal.τ).loc Cert.MixRefIdeal.main_v21) = v4 c
          ∧ r.2.mem ((c.tc : Thread Cert.MixRefIdeal.nD Cert.MixRefIdeal.τ).loc Cert.MixRefIdeal.main_v45) = v5 c
          ∧ r.2.mem ((c.tc : Thread Cert.MixRefIdeal.nD Cert.MixRefIdeal.τ).loc Cert.MixRefIdeal.main_v47) = v6 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4)
          ∧ r.2.mem ((c.tc : Thread Cert.MixRefIdeal.nD Cert.MixRefIdeal.τ).loc Cert.MixRefIdeal.main_arg5) = m' ((c.tc : Thread Cert.MixRefIdeal.nD Cert.MixRefIdeal.τ).loc Cert.MixRefIdeal.main_arg5)
          ∧ r.2.mem ((c.tc : Thread Cert.MixRefIdeal.nD Cert.MixRefIdeal.τ).loc Cert.MixRefIdeal.main_arg6) = m' ((c.tc : Thread Cert.MixRefIdeal.nD Cert.MixRefIdeal.τ).loc Cert.MixRefIdeal.main_arg6)
          ∧ r.2.mem ((c.tc : Thread Cert.MixRefIdeal.nD Cert.MixRefIdeal.τ).loc Cert.MixRefIdeal.main_arg7) = m' ((c.tc : Thread Cert.MixRefIdeal.nD Cert.MixRefIdeal.τ).loc Cert.MixRefIdeal.main_arg7))

def preserves_Sb_SbIdeal : Prop :=
  IdealRules.named_const.Statement Cert.SbIdeal.κ "cut" .f32 0x42D00000#32 ⊤

def algebraic_SbIdeal_SbRefIdeal_pre_sb_finite [hSbIdeal : Cert.SbIdeal.Facts] [hSbRefIdeal : Cert.SbRefIdeal.Facts] [hPre_sb_finite : Cert.Pre_sb_finite.Facts] : Prop :=
  ∀ (m : (ℓ : Loc Cert.SbIdeal.nD Cert.SbIdeal.τ Cert.SbIdeal.sig) → Buf (Elt Ideal) ℓ) (g : Dev Cert.SbIdeal.nD → PrngReg)
    (m' : (ℓ : Loc Cert.SbRefIdeal.nD Cert.SbRefIdeal.τ Cert.SbRefIdeal.sig) → Buf (Elt Ideal) ℓ) (g' : Dev Cert.SbRefIdeal.nD → PrngReg), Pre_SbIdeal_sb_finite m →
    (∀ c : Dev Cert.SbIdeal.nD,
      m' ((c.tc : Thread Cert.SbRefIdeal.nD Cert.SbRefIdeal.τ).loc Cert.SbRefIdeal.main_arg0) = m ((c.tc : Thread Cert.SbIdeal.nD Cert.SbIdeal.τ).loc Cert.SbIdeal.main_arg0)
      ∧ m' ((c.tc : Thread Cert.SbRefIdeal.nD Cert.SbRefIdeal.τ).loc Cert.SbRefIdeal.main_arg1) = m ((c.tc : Thread Cert.SbIdeal.nD Cert.SbIdeal.τ).loc Cert.SbIdeal.main_arg1)) →
    ∃ (v0 : (c : Dev Cert.SbIdeal.nD) → Buf (Elt Ideal) ((c.tc : Thread Cert.SbIdeal.nD Cert.SbIdeal.τ).loc Cert.SbIdeal.main_v34_0)) (v1 : (c : Dev Cert.SbIdeal.nD) → Buf (Elt Ideal) ((c.tc : Thread Cert.SbIdeal.nD Cert.SbIdeal.τ).loc Cert.SbIdeal.main_v34_1)) (v2 : (c : Dev Cert.SbIdeal.nD) → Buf (Elt Ideal) ((c.tc : Thread Cert.SbIdeal.nD Cert.SbIdeal.τ).loc Cert.SbIdeal.main_v34_2)),
      θ_run (Cert.SbIdeal.defs (F := Ideal)) (onTc (τ := Cert.SbIdeal.τ) (Cert.SbIdeal.main (F := Ideal))) ⟨m, fun _ => 0, g⟩ (fun r => ∀ c : Dev Cert.SbIdeal.nD,
          r.2.mem ((c.tc : Thread Cert.SbIdeal.nD Cert.SbIdeal.τ).loc Cert.SbIdeal.main_v34_0) = v0 c
          ∧ r.2.mem ((c.tc : Thread Cert.SbIdeal.nD Cert.SbIdeal.τ).loc Cert.SbIdeal.main_v34_1) = v1 c
          ∧ r.2.mem ((c.tc : Thread Cert.SbIdeal.nD Cert.SbIdeal.τ).loc Cert.SbIdeal.main_v34_2) = v2 c
          ∧ r.2.mem ((c.tc : Thread Cert.SbIdeal.nD Cert.SbIdeal.τ).loc Cert.SbIdeal.main_arg0) = m ((c.tc : Thread Cert.SbIdeal.nD Cert.SbIdeal.τ).loc Cert.SbIdeal.main_arg0)
          ∧ r.2.mem ((c.tc : Thread Cert.SbIdeal.nD Cert.SbIdeal.τ).loc Cert.SbIdeal.main_arg1) = m ((c.tc : Thread Cert.SbIdeal.nD Cert.SbIdeal.τ).loc Cert.SbIdeal.main_arg1))
      ∧ θ_run (Cert.SbRefIdeal.defs (F := Ideal)) (onTc (τ := Cert.SbRefIdeal.τ) (Cert.SbRefIdeal.main (F := Ideal))) ⟨m', fun _ => 0, g'⟩ (fun r => ∀ c : Dev Cert.SbRefIdeal.nD,
          r.2.mem ((c.tc : Thread Cert.SbRefIdeal.nD Cert.SbRefIdeal.τ).loc Cert.SbRefIdeal.main_v58) = v0 c
          ∧ r.2.mem ((c.tc : Thread Cert.SbRefIdeal.nD Cert.SbRefIdeal.τ).loc Cert.SbRefIdeal.main_v59) = v1 c
          ∧ r.2.mem ((c.tc : Thread Cert.SbRefIdeal.nD Cert.SbRefIdeal.τ).loc Cert.SbRefIdeal.main_v60) = v2 c
          ∧ r.2.mem ((c.tc : Thread Cert.SbRefIdeal.nD Cert.SbRefIdeal.τ).loc Cert.SbRefIdeal.main_arg0) = m' ((c.tc : Thread Cert.SbRefIdeal.nD Cert.SbRefIdeal.τ).loc Cert.SbRefIdeal.main_arg0)
          ∧ r.2.mem ((c.tc : Thread Cert.SbRefIdeal.nD Cert.SbRefIdeal.τ).loc Cert.SbRefIdeal.main_arg1) = m' ((c.tc : Thread Cert.SbRefIdeal.nD Cert.SbRefIdeal.τ).loc Cert.SbRefIdeal.main_arg1))

def preserves_Rel_RelIdeal : Prop :=
  True

def algebraic_RelIdeal_RelRefIdeal [hRelIdeal : Cert.RelIdeal.Facts] [hRelRefIdeal : Cert.RelRefIdeal.Facts] : Prop :=
  ∀ (m : (ℓ : Loc Cert.RelIdeal.nD Cert.RelIdeal.τ Cert.RelIdeal.sig) → Buf (Elt Ideal) ℓ) (g : Dev Cert.RelIdeal.nD → PrngReg)
    (m' : (ℓ : Loc Cert.RelRefIdeal.nD Cert.RelRefIdeal.τ Cert.RelRefIdeal.sig) → Buf (Elt Ideal) ℓ) (g' : Dev Cert.RelRefIdeal.nD → PrngReg), Pre_RelIdeal m →
    (∀ c : Dev Cert.RelIdeal.nD,
      m' ((c.tc : Thread Cert.RelRefIdeal.nD Cert.RelRefIdeal.τ).loc Cert.RelRefIdeal.main_arg0) = m ((c.tc : Thread Cert.RelIdeal.nD Cert.RelIdeal.τ).loc Cert.RelIdeal.main_arg0)) →
    ∃ (v0 : (c : Dev Cert.RelIdeal.nD) → Buf (Elt Ideal) ((c.tc : Thread Cert.RelIdeal.nD Cert.RelIdeal.τ).loc Cert.RelIdeal.main_v0)),
      θ_run (Cert.RelIdeal.defs (F := Ideal)) (onTc (τ := Cert.RelIdeal.τ) (Cert.RelIdeal.main (F := Ideal))) ⟨m, fun _ => 0, g⟩ (fun r => ∀ c : Dev Cert.RelIdeal.nD,
          r.2.mem ((c.tc : Thread Cert.RelIdeal.nD Cert.RelIdeal.τ).loc Cert.RelIdeal.main_v0) = v0 c
          ∧ r.2.mem ((c.tc : Thread Cert.RelIdeal.nD Cert.RelIdeal.τ).loc Cert.RelIdeal.main_arg0) = m ((c.tc : Thread Cert.RelIdeal.nD Cert.RelIdeal.τ).loc Cert.RelIdeal.main_arg0))
      ∧ θ_run (Cert.RelRefIdeal.defs (F := Ideal)) (onTc (τ := Cert.RelRefIdeal.τ) (Cert.RelRefIdeal.main (F := Ideal))) ⟨m', fun _ => 0, g'⟩ (fun r => ∀ c : Dev Cert.RelRefIdeal.nD,
          r.2.mem ((c.tc : Thread Cert.RelRefIdeal.nD Cert.RelRefIdeal.τ).loc Cert.RelRefIdeal.main_v27) = v0 c
          ∧ r.2.mem ((c.tc : Thread Cert.RelRefIdeal.nD Cert.RelRefIdeal.τ).loc Cert.RelRefIdeal.main_arg0) = m' ((c.tc : Thread Cert.RelRefIdeal.nD Cert.RelRefIdeal.τ).loc Cert.RelRefIdeal.main_arg0))

def preserves_Mlp_MlpIdeal : Prop :=
  True

def algebraic_MlpIdeal_MlpRefIdeal_pre_mlp_finite [hMlpIdeal : Cert.MlpIdeal.Facts] [hMlpRefIdeal : Cert.MlpRefIdeal.Facts] [hPre_mlp_finite : Cert.Pre_mlp_finite.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpRefIdeal.nD Cert.MlpRefIdeal.τ Cert.MlpRefIdeal.sig) → Buf (Elt Ideal) ℓ) (g' : Dev Cert.MlpRefIdeal.nD → PrngReg), Pre_MlpIdeal_mlp_finite m →
    (∀ c : Dev Cert.MlpIdeal.nD,
      m' ((c.tc : Thread Cert.MlpRefIdeal.nD Cert.MlpRefIdeal.τ).loc Cert.MlpRefIdeal.main_arg0) = m ((c.tc : Thread Cert.MlpIdeal.nD Cert.MlpIdeal.τ).loc Cert.MlpIdeal.main_arg0)
      ∧ m' ((c.tc : Thread Cert.MlpRefIdeal.nD Cert.MlpRefIdeal.τ).loc Cert.MlpRefIdeal.main_arg1) = m ((c.tc : Thread Cert.MlpIdeal.nD Cert.MlpIdeal.τ).loc Cert.MlpIdeal.main_arg1)
      ∧ m' ((c.tc : Thread Cert.MlpRefIdeal.nD Cert.MlpRefIdeal.τ).loc Cert.MlpRefIdeal.main_arg2) = m ((c.tc : Thread Cert.MlpIdeal.nD Cert.MlpIdeal.τ).loc Cert.MlpIdeal.main_arg2)
      ∧ m' ((c.tc : Thread Cert.MlpRefIdeal.nD Cert.MlpRefIdeal.τ).loc Cert.MlpRefIdeal.main_arg3) = m ((c.tc : Thread Cert.MlpIdeal.nD Cert.MlpIdeal.τ).loc Cert.MlpIdeal.main_arg3)
      ∧ m' ((c.tc : Thread Cert.MlpRefIdeal.nD Cert.MlpRefIdeal.τ).loc Cert.MlpRefIdeal.main_arg4) = m ((c.tc : Thread Cert.MlpIdeal.nD Cert.MlpIdeal.τ).loc Cert.MlpIdeal.main_arg4)
      ∧ m' ((c.tc : Thread Cert.MlpRefIdeal.nD Cert.MlpRefIdeal.τ).loc Cert.MlpRefIdeal.main_arg5) = m ((c.tc : Thread Cert.MlpIdeal.nD Cert.MlpIdeal.τ).loc Cert.MlpIdeal.main_arg5)
      ∧ m' ((c.tc : Thread Cert.MlpRefIdeal.nD Cert.MlpRefIdeal.τ).loc Cert.MlpRefIdeal.main_arg6) = m ((c.tc : Thread Cert.MlpIdeal.nD Cert.MlpIdeal.τ).loc Cert.MlpIdeal.main_arg6)
      ∧ m' ((c.tc : Thread Cert.MlpRefIdeal.nD Cert.MlpRefIdeal.τ).loc Cert.MlpRefIdeal.main_arg7) = m ((c.tc : Thread Cert.MlpIdeal.nD Cert.MlpIdeal.τ).loc Cert.MlpIdeal.main_arg7)
      ∧ m' ((c.tc : Thread Cert.MlpRefIdeal.nD Cert.MlpRefIdeal.τ).loc Cert.MlpRefIdeal.main_arg8) = m ((c.tc : Thread Cert.MlpIdeal.nD Cert.MlpIdeal.τ).loc Cert.MlpIdeal.main_arg8)
      ∧ m' ((c.tc : Thread Cert.MlpRefIdeal.nD Cert.MlpRefIdeal.τ).loc Cert.MlpRefIdeal.main_arg9) = m ((c.tc : Thread Cert.MlpIdeal.nD Cert.MlpIdeal.τ).loc Cert.MlpIdeal.main_arg9)
      ∧ m' ((c.tc : Thread Cert.MlpRefIdeal.nD Cert.MlpRefIdeal.τ).loc Cert.MlpRefIdeal.main_arg10) = m ((c.tc : Thread Cert.MlpIdeal.nD Cert.MlpIdeal.τ).loc Cert.MlpIdeal.main_arg10)
      ∧ m' ((c.tc : Thread Cert.MlpRefIdeal.nD Cert.MlpRefIdeal.τ).loc Cert.MlpRefIdeal.main_arg11) = m ((c.tc : Thread Cert.MlpIdeal.nD Cert.MlpIdeal.τ).loc Cert.MlpIdeal.main_arg11)
      ∧ m' ((c.tc : Thread Cert.MlpRefIdeal.nD Cert.MlpRefIdeal.τ).loc Cert.MlpRefIdeal.main_arg12) = m ((c.tc : Thread Cert.MlpIdeal.nD Cert.MlpIdeal.τ).loc Cert.MlpIdeal.main_arg12)
      ∧ m' ((c.tc : Thread Cert.MlpRefIdeal.nD Cert.MlpRefIdeal.τ).loc Cert.MlpRefIdeal.main_arg13) = m ((c.tc : Thread Cert.MlpIdeal.nD Cert.MlpIdeal.τ).loc Cert.MlpIdeal.main_arg13)
      ∧ m' ((c.tc : Thread Cert.MlpRefIdeal.nD Cert.MlpRefIdeal.τ).loc Cert.MlpRefIdeal.main_arg14) = m ((c.tc : Thread Cert.MlpIdeal.nD Cert.MlpIdeal.τ).loc Cert.MlpIdeal.main_arg14)) →
    ∃ (v0 : (c : Dev Cert.MlpIdeal.nD) → Buf (Elt Ideal) ((c.tc : Thread Cert.MlpIdeal.nD Cert.MlpIdeal.τ).loc Cert.MlpIdeal.main_v17_0)) (v1 : (c : Dev Cert.MlpIdeal.nD) → Buf (Elt Ideal) ((c.tc : Thread Cert.MlpIdeal.nD Cert.MlpIdeal.τ).loc Cert.MlpIdeal.main_v17_1)) (v2 : (c : Dev Cert.MlpIdeal.nD) → Buf (Elt Ideal) ((c.tc : Thread Cert.MlpIdeal.nD Cert.MlpIdeal.τ).loc Cert.MlpIdeal.main_v17_2)) (v3 : (c : Dev Cert.MlpIdeal.nD) → Buf (Elt Ideal) ((c.tc : Thread Cert.MlpIdeal.nD Cert.MlpIdeal.τ).loc Cert.MlpIdeal.main_v17_3)) (v4 : (c : Dev Cert.MlpIdeal.nD) → Buf (Elt Ideal) ((c.tc : Thread Cert.MlpIdeal.nD Cert.MlpIdeal.τ).loc Cert.MlpIdeal.main_v17_4)) (v5 : (c : Dev Cert.MlpIdeal.nD) → Buf (Elt Ideal) ((c.tc : Thread Cert.MlpIdeal.nD Cert.MlpIdeal.τ).loc Cert.MlpIdeal.main_v17_5)) (v6 : (c : Dev Cert.MlpIdeal.nD) → Buf (Elt Ideal) ((c.tc : Thread Cert.MlpIdeal.nD Cert.MlpIdeal.τ).loc Cert.MlpIdeal.main_v17_6)) (v7 : (c : Dev Cert.MlpIdeal.nD) → Buf (Elt Ideal) ((c.tc : Thread Cert.MlpIdeal.nD Cert.MlpIdeal.τ).loc Cert.MlpIdeal.main_v17_7)) (v8 : (c : Dev Cert.MlpIdeal.nD) → Buf (Elt Ideal) ((c.tc : Thread Cert.MlpIdeal.nD Cert.MlpIdeal.τ).loc Cert.MlpIdeal.main_v17_8)) (v9 : (c : Dev Cert.MlpIdeal.nD) → Buf (Elt Ideal) ((c.tc : Thread Cert.MlpIdeal.nD Cert.MlpIdeal.τ).loc Cert.MlpIdeal.main_v17_9)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v17_0) = v0 c
          ∧ r.2.mem ((c.tc : Thread Cert.MlpIdeal.nD Cert.MlpIdeal.τ).loc Cert.MlpIdeal.main_v17_1) = v1 c
          ∧ r.2.mem ((c.tc : Thread Cert.MlpIdeal.nD Cert.MlpIdeal.τ).loc Cert.MlpIdeal.main_v17_2) = v2 c
          ∧ r.2.mem ((c.tc : Thread Cert.MlpIdeal.nD Cert.MlpIdeal.τ).loc Cert.MlpIdeal.main_v17_3) = v3 c
          ∧ r.2.mem ((c.tc : Thread Cert.MlpIdeal.nD Cert.MlpIdeal.τ).loc Cert.MlpIdeal.main_v17_4) = v4 c
          ∧ r.2.mem ((c.tc : Thread Cert.MlpIdeal.nD Cert.MlpIdeal.τ).loc Cert.MlpIdeal.main_v17_5) = v5 c
          ∧ r.2.mem ((c.tc : Thread Cert.MlpIdeal.nD Cert.MlpIdeal.τ).loc Cert.MlpIdeal.main_v17_6) = v6 c
          ∧ r.2.mem ((c.tc : Thread Cert.MlpIdeal.nD Cert.MlpIdeal.τ).loc Cert.MlpIdeal.main_v17_7) = v7 c
          ∧ r.2.mem ((c.tc : Thread Cert.MlpIdeal.nD Cert.MlpIdeal.τ).loc Cert.MlpIdeal.main_v17_8) = v8 c
          ∧ r.2.mem ((c.tc : Thread Cert.MlpIdeal.nD Cert.MlpIdeal.τ).loc Cert.MlpIdeal.main_v17_9) = v9 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
          ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
          ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5)
          ∧ r.2.mem ((c.tc : Thread Cert.MlpIdeal.nD Cert.MlpIdeal.τ).loc Cert.MlpIdeal.main_arg6) = m ((c.tc : Thread Cert.MlpIdeal.nD Cert.MlpIdeal.τ).loc Cert.MlpIdeal.main_arg6)
          ∧ r.2.mem ((c.tc : Thread Cert.MlpIdeal.nD Cert.MlpIdeal.τ).loc Cert.MlpIdeal.main_arg7) = m ((c.tc : Thread Cert.MlpIdeal.nD Cert.MlpIdeal.τ).loc Cert.MlpIdeal.main_arg7)
          ∧ r.2.mem ((c.tc : Thread Cert.MlpIdeal.nD Cert.MlpIdeal.τ).loc Cert.MlpIdeal.main_arg8) = m ((c.tc : Thread Cert.MlpIdeal.nD Cert.MlpIdeal.τ).loc Cert.MlpIdeal.main_arg8)
          ∧ r.2.mem ((c.tc : Thread Cert.MlpIdeal.nD Cert.MlpIdeal.τ).loc Cert.MlpIdeal.main_arg9) = m ((c.tc : Thread Cert.MlpIdeal.nD Cert.MlpIdeal.τ).loc Cert.MlpIdeal.main_arg9)
          ∧ r.2.mem ((c.tc : Thread Cert.MlpIdeal.nD Cert.MlpIdeal.τ).loc Cert.MlpIdeal.main_arg10) = m ((c.tc : Thread Cert.MlpIdeal.nD Cert.MlpIdeal.τ).loc Cert.MlpIdeal.main_arg10)
          ∧ r.2.mem ((c.tc : Thread Cert.MlpIdeal.nD Cert.MlpIdeal.τ).loc Cert.MlpIdeal.main_arg11) = m ((c.tc : Thread Cert.MlpIdeal.nD Cert.MlpIdeal.τ).loc Cert.MlpIdeal.main_arg11)
          ∧ r.2.mem ((c.tc : Thread Cert.MlpIdeal.nD Cert.MlpIdeal.τ).loc Cert.MlpIdeal.main_arg12) = m ((c.tc : Thread Cert.MlpIdeal.nD Cert.MlpIdeal.τ).loc Cert.MlpIdeal.main_arg12)
          ∧ r.2.mem ((c.tc : Thread Cert.MlpIdeal.nD Cert.MlpIdeal.τ).loc Cert.MlpIdeal.main_arg13) = m ((c.tc : Thread Cert.MlpIdeal.nD Cert.MlpIdeal.τ).loc Cert.MlpIdeal.main_arg13)
          ∧ r.2.mem ((c.tc : Thread Cert.MlpIdeal.nD Cert.MlpIdeal.τ).loc Cert.MlpIdeal.main_arg14) = m ((c.tc : Thread Cert.MlpIdeal.nD Cert.MlpIdeal.τ).loc Cert.MlpIdeal.main_arg14))
      ∧ θ_run (Cert.MlpRefIdeal.defs (F := Ideal)) (onTc (τ := Cert.MlpRefIdeal.τ) (Cert.MlpRefIdeal.main (F := Ideal))) ⟨m', fun _ => 0, g'⟩ (fun r => ∀ c : Dev Cert.MlpRefIdeal.nD,
          r.2.mem ((c.tc : Thread Cert.MlpRefIdeal.nD Cert.MlpRefIdeal.τ).loc Cert.MlpRefIdeal.main_v183) = v0 c
          ∧ r.2.mem ((c.tc : Thread Cert.MlpRefIdeal.nD Cert.MlpRefIdeal.τ).loc Cert.MlpRefIdeal.main_v184) = v1 c
          ∧ r.2.mem ((c.tc : Thread Cert.MlpRefIdeal.nD Cert.MlpRefIdeal.τ).loc Cert.MlpRefIdeal.main_v185) = v2 c
          ∧ r.2.mem ((c.tc : Thread Cert.MlpRefIdeal.nD Cert.MlpRefIdeal.τ).loc Cert.MlpRefIdeal.main_v186) = v3 c
          ∧ r.2.mem ((c.tc : Thread Cert.MlpRefIdeal.nD Cert.MlpRefIdeal.τ).loc Cert.MlpRefIdeal.main_v182) = v4 c
          ∧ r.2.mem ((c.tc : Thread Cert.MlpRefIdeal.nD Cert.MlpRefIdeal.τ).loc Cert.MlpRefIdeal.main_v187) = v5 c
          ∧ r.2.mem ((c.tc : Thread Cert.MlpRefIdeal.nD Cert.MlpRefIdeal.τ).loc Cert.MlpRefIdeal.main_v188) = v6 c
          ∧ r.2.mem ((c.tc : Thread Cert.MlpRefIdeal.nD Cert.MlpRefIdeal.τ).loc Cert.MlpRefIdeal.main_v189) = v7 c
          ∧ r.2.mem ((c.tc : Thread Cert.MlpRefIdeal.nD Cert.MlpRefIdeal.τ).loc Cert.MlpRefIdeal.main_v190) = v8 c
          ∧ r.2.mem ((c.tc : Thread Cert.MlpRefIdeal.nD Cert.MlpRefIdeal.τ).loc Cert.MlpRefIdeal.main_v191) = v9 c
          ∧ r.2.mem ((c.tc : Thread Cert.MlpRefIdeal.nD Cert.MlpRefIdeal.τ).loc Cert.MlpRefIdeal.main_arg0) = m' ((c.tc : Thread Cert.MlpRefIdeal.nD Cert.MlpRefIdeal.τ).loc Cert.MlpRefIdeal.main_arg0)
          ∧ r.2.mem ((c.tc : Thread Cert.MlpRefIdeal.nD Cert.MlpRefIdeal.τ).loc Cert.MlpRefIdeal.main_arg1) = m' ((c.tc : Thread Cert.MlpRefIdeal.nD Cert.MlpRefIdeal.τ).loc Cert.MlpRefIdeal.main_arg1)
          ∧ r.2.mem ((c.tc : Thread Cert.MlpRefIdeal.nD Cert.MlpRefIdeal.τ).loc Cert.MlpRefIdeal.main_arg2) = m' ((c.tc : Thread Cert.MlpRefIdeal.nD Cert.MlpRefIdeal.τ).loc Cert.MlpRefIdeal.main_arg2)
          ∧ r.2.mem ((c.tc : Thread Cert.MlpRefIdeal.nD Cert.MlpRefIdeal.τ).loc Cert.MlpRefIdeal.main_arg3) = m' ((c.tc : Thread Cert.MlpRefIdeal.nD Cert.MlpRefIdeal.τ).loc Cert.MlpRefIdeal.main_arg3)
          ∧ r.2.mem ((c.tc : Thread Cert.MlpRefIdeal.nD Cert.MlpRefIdeal.τ).loc Cert.MlpRefIdeal.main_arg4) = m' ((c.tc : Thread Cert.MlpRefIdeal.nD Cert.MlpRefIdeal.τ).loc Cert.MlpRefIdeal.main_arg4)
          ∧ r.2.mem ((c.tc : Thread Cert.MlpRefIdeal.nD Cert.MlpRefIdeal.τ).loc Cert.MlpRefIdeal.main_arg5) = m' ((c.tc : Thread Cert.MlpRefIdeal.nD Cert.MlpRefIdeal.τ).loc Cert.MlpRefIdeal.main_arg5)
          ∧ r.2.mem ((c.tc : Thread Cert.MlpRefIdeal.nD Cert.MlpRefIdeal.τ).loc Cert.MlpRefIdeal.main_arg6) = m' ((c.tc : Thread Cert.MlpRefIdeal.nD Cert.MlpRefIdeal.τ).loc Cert.MlpRefIdeal.main_arg6)
          ∧ r.2.mem ((c.tc : Thread Cert.MlpRefIdeal.nD Cert.MlpRefIdeal.τ).loc Cert.MlpRefIdeal.main_arg7) = m' ((c.tc : Thread Cert.MlpRefIdeal.nD Cert.MlpRefIdeal.τ).loc Cert.MlpRefIdeal.main_arg7)
          ∧ r.2.mem ((c.tc : Thread Cert.MlpRefIdeal.nD Cert.MlpRefIdeal.τ).loc Cert.MlpRefIdeal.main_arg8) = m' ((c.tc : Thread Cert.MlpRefIdeal.nD Cert.MlpRefIdeal.τ).loc Cert.MlpRefIdeal.main_arg8)
          ∧ r.2.mem ((c.tc : Thread Cert.MlpRefIdeal.nD Cert.MlpRefIdeal.τ).loc Cert.MlpRefIdeal.main_arg9) = m' ((c.tc : Thread Cert.MlpRefIdeal.nD Cert.MlpRefIdeal.τ).loc Cert.MlpRefIdeal.main_arg9)
          ∧ r.2.mem ((c.tc : Thread Cert.MlpRefIdeal.nD Cert.MlpRefIdeal.τ).loc Cert.MlpRefIdeal.main_arg10) = m' ((c.tc : Thread Cert.MlpRefIdeal.nD Cert.MlpRefIdeal.τ).loc Cert.MlpRefIdeal.main_arg10)
          ∧ r.2.mem ((c.tc : Thread Cert.MlpRefIdeal.nD Cert.MlpRefIdeal.τ).loc Cert.MlpRefIdeal.main_arg11) = m' ((c.tc : Thread Cert.MlpRefIdeal.nD Cert.MlpRefIdeal.τ).loc Cert.MlpRefIdeal.main_arg11)
          ∧ r.2.mem ((c.tc : Thread Cert.MlpRefIdeal.nD Cert.MlpRefIdeal.τ).loc Cert.MlpRefIdeal.main_arg12) = m' ((c.tc : Thread Cert.MlpRefIdeal.nD Cert.MlpRefIdeal.τ).loc Cert.MlpRefIdeal.main_arg12)
          ∧ r.2.mem ((c.tc : Thread Cert.MlpRefIdeal.nD Cert.MlpRefIdeal.τ).loc Cert.MlpRefIdeal.main_arg13) = m' ((c.tc : Thread Cert.MlpRefIdeal.nD Cert.MlpRefIdeal.τ).loc Cert.MlpRefIdeal.main_arg13)
          ∧ r.2.mem ((c.tc : Thread Cert.MlpRefIdeal.nD Cert.MlpRefIdeal.τ).loc Cert.MlpRefIdeal.main_arg14) = m' ((c.tc : Thread Cert.MlpRefIdeal.nD Cert.MlpRefIdeal.τ).loc Cert.MlpRefIdeal.main_arg14))

def preserves_SbFwd_SbFwdIdeal : Prop :=
  IdealRules.named_const.Statement Cert.SbFwdIdeal.κ "cut" .f32 0x42D00000#32 ⊤

def algebraic_SbFwdIdeal_SbFwdRefIdeal_pre_sb_fwd_finite [hSbFwdIdeal : Cert.SbFwdIdeal.Facts] [hSbFwdRefIdeal : Cert.SbFwdRefIdeal.Facts] [hPre_sb_fwd_finite : Cert.Pre_sb_fwd_finite.Facts] : Prop :=
  ∀ (m : (ℓ : Loc Cert.SbFwdIdeal.nD Cert.SbFwdIdeal.τ Cert.SbFwdIdeal.sig) → Buf (Elt Ideal) ℓ) (g : Dev Cert.SbFwdIdeal.nD → PrngReg)
    (m' : (ℓ : Loc Cert.SbFwdRefIdeal.nD Cert.SbFwdRefIdeal.τ Cert.SbFwdRefIdeal.sig) → Buf (Elt Ideal) ℓ) (g' : Dev Cert.SbFwdRefIdeal.nD → PrngReg), Pre_SbFwdIdeal_sb_fwd_finite m →
    (∀ c : Dev Cert.SbFwdIdeal.nD,
      m' ((c.tc : Thread Cert.SbFwdRefIdeal.nD Cert.SbFwdRefIdeal.τ).loc Cert.SbFwdRefIdeal.main_arg0) = m ((c.tc : Thread Cert.SbFwdIdeal.nD Cert.SbFwdIdeal.τ).loc Cert.SbFwdIdeal.main_arg0)) →
    ∃ (v0 : (c : Dev Cert.SbFwdIdeal.nD) → Buf (Elt Ideal) ((c.tc : Thread Cert.SbFwdIdeal.nD Cert.SbFwdIdeal.τ).loc Cert.SbFwdIdeal.main_v1)),
      θ_run (Cert.SbFwdIdeal.defs (F := Ideal)) (onTc (τ := Cert.SbFwdIdeal.τ) (Cert.SbFwdIdeal.main (F := Ideal))) ⟨m, fun _ => 0, g⟩ (fun r => ∀ c : Dev Cert.SbFwdIdeal.nD,
          r.2.mem ((c.tc : Thread Cert.SbFwdIdeal.nD Cert.SbFwdIdeal.τ).loc Cert.SbFwdIdeal.main_v1) = v0 c
          ∧ r.2.mem ((c.tc : Thread Cert.SbFwdIdeal.nD Cert.SbFwdIdeal.τ).loc Cert.SbFwdIdeal.main_arg0) = m ((c.tc : Thread Cert.SbFwdIdeal.nD Cert.SbFwdIdeal.τ).loc Cert.SbFwdIdeal.main_arg0))
      ∧ θ_run (Cert.SbFwdRefIdeal.defs (F := Ideal)) (onTc (τ := Cert.SbFwdRefIdeal.τ) (Cert.SbFwdRefIdeal.main (F := Ideal))) ⟨m', fun _ => 0, g'⟩ (fun r => ∀ c : Dev Cert.SbFwdRefIdeal.nD,
          r.2.mem ((c.tc : Thread Cert.SbFwdRefIdeal.nD Cert.SbFwdRefIdeal.τ).loc Cert.SbFwdRefIdeal.main_v31) = v0 c
          ∧ r.2.mem ((c.tc : Thread Cert.SbFwdRefIdeal.nD Cert.SbFwdRefIdeal.τ).loc Cert.SbFwdRefIdeal.main_arg0) = m' ((c.tc : Thread Cert.SbFwdRefIdeal.nD Cert.SbFwdRefIdeal.τ).loc Cert.SbFwdRefIdeal.main_arg0))

def Claim : Prop :=
  ∃ (hMix : Cert.Mix.Facts) (hMixIdeal : Cert.MixIdeal.Facts) (hMixRefIdeal : Cert.MixRefIdeal.Facts) (hSb : Cert.Sb.Facts) (hSbIdeal : Cert.SbIdeal.Facts) (hSbRefIdeal : Cert.SbRefIdeal.Facts) (hRel : Cert.Rel.Facts) (hRelIdeal : Cert.RelIdeal.Facts) (hRelRefIdeal : Cert.RelRefIdeal.Facts) (hMlp : Cert.Mlp.Facts) (hMlpIdeal : Cert.MlpIdeal.Facts) (hMlpRefIdeal : Cert.MlpRefIdeal.Facts) (hSbFwd : Cert.SbFwd.Facts) (hSbFwdIdeal : Cert.SbFwdIdeal.Facts) (hSbFwdRefIdeal : Cert.SbFwdRefIdeal.Facts) (hPre_sb_finite : Cert.Pre_sb_finite.Facts) (hPre_mlp_finite : Cert.Pre_mlp_finite.Facts) (hPre_sb_fwd_finite : Cert.Pre_sb_fwd_finite.Facts),
    quiescent_Mix (hMix := hMix)
    ∧ quiescent_MixIdeal (hMixIdeal := hMixIdeal)
    ∧ quiescent_MixRefIdeal (hMixRefIdeal := hMixRefIdeal)
    ∧ quiescent_Sb (hSb := hSb)
    ∧ quiescent_SbIdeal (hSbIdeal := hSbIdeal)
    ∧ quiescent_SbIdeal_pre_sb_finite (hSbIdeal := hSbIdeal) (hPre_sb_finite := hPre_sb_finite)
    ∧ quiescent_SbRefIdeal (hSbRefIdeal := hSbRefIdeal)
    ∧ quiescent_SbRefIdeal_pre_sb_finite (hSbRefIdeal := hSbRefIdeal) (hPre_sb_finite := hPre_sb_finite)
    ∧ quiescent_Rel (hRel := hRel)
    ∧ quiescent_RelIdeal (hRelIdeal := hRelIdeal)
    ∧ quiescent_RelRefIdeal (hRelRefIdeal := hRelRefIdeal)
    ∧ quiescent_Mlp (hMlp := hMlp)
    ∧ quiescent_MlpIdeal (hMlpIdeal := hMlpIdeal)
    ∧ quiescent_MlpIdeal_pre_mlp_finite (hMlpIdeal := hMlpIdeal) (hPre_mlp_finite := hPre_mlp_finite)
    ∧ quiescent_MlpRefIdeal (hMlpRefIdeal := hMlpRefIdeal)
    ∧ quiescent_MlpRefIdeal_pre_mlp_finite (hMlpRefIdeal := hMlpRefIdeal) (hPre_mlp_finite := hPre_mlp_finite)
    ∧ quiescent_SbFwd (hSbFwd := hSbFwd)
    ∧ quiescent_SbFwdIdeal (hSbFwdIdeal := hSbFwdIdeal)
    ∧ quiescent_SbFwdIdeal_pre_sb_fwd_finite (hSbFwdIdeal := hSbFwdIdeal) (hPre_sb_fwd_finite := hPre_sb_fwd_finite)
    ∧ quiescent_SbFwdRefIdeal (hSbFwdRefIdeal := hSbFwdRefIdeal)
    ∧ quiescent_SbFwdRefIdeal_pre_sb_fwd_finite (hSbFwdRefIdeal := hSbFwdRefIdeal) (hPre_sb_fwd_finite := hPre_sb_fwd_finite)
    ∧ preserves_Mix_MixIdeal
    ∧ algebraic_MixIdeal_MixRefIdeal (hMixIdeal := hMixIdeal) (hMixRefIdeal := hMixRefIdeal)
    ∧ preserves_Sb_SbIdeal
    ∧ algebraic_SbIdeal_SbRefIdeal_pre_sb_finite (hSbIdeal := hSbIdeal) (hSbRefIdeal := hSbRefIdeal) (hPre_sb_finite := hPre_sb_finite)
    ∧ preserves_Rel_RelIdeal
    ∧ algebraic_RelIdeal_RelRefIdeal (hRelIdeal := hRelIdeal) (hRelRefIdeal := hRelRefIdeal)
    ∧ preserves_Mlp_MlpIdeal
    ∧ algebraic_MlpIdeal_MlpRefIdeal_pre_mlp_finite (hMlpIdeal := hMlpIdeal) (hMlpRefIdeal := hMlpRefIdeal) (hPre_mlp_finite := hPre_mlp_finite)
    ∧ preserves_SbFwd_SbFwdIdeal
    ∧ algebraic_SbFwdIdeal_SbFwdRefIdeal_pre_sb_fwd_finite (hSbFwdIdeal := hSbFwdIdeal) (hSbFwdRefIdeal := hSbFwdRefIdeal) (hPre_sb_fwd_finite := hPre_sb_fwd_finite)
-- ==== Pre_mlp_finite.lean ====
abbrev S4096x1024 : Shape := ⟨2, ![4096, 1024]⟩
abbrev S4096x512 : Shape := ⟨2, ![4096, 512]⟩
abbrev S4096x2048 : Shape := ⟨2, ![4096, 2048]⟩
abbrev S2048 : Shape := ⟨1, ![2048]⟩
abbrev S512x1024 : Shape := ⟨2, ![512, 1024]⟩
abbrev S1024x1024 : Shape := ⟨2, ![1024, 1024]⟩
abbrev S1024 : Shape := ⟨1, ![1024]⟩
abbrev S1024x4096 : Shape := ⟨2, ![1024, 4096]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S4096x512 : S_.BroadcastsInDim S4096x512 (![] : Fin 0 → Fin S4096x512.rank)
  reducesTo_S4096x512_S_d0_1 : S4096x512.ReducesTo [0, 1] S_
  bcast_S_S512x1024 : S_.BroadcastsInDim S512x1024 (![] : Fin 0 → Fin S512x1024.rank)
  reducesTo_S512x1024_S_d0_1 : S512x1024.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_
  bcast_S_S1024x4096 : S_.BroadcastsInDim S1024x4096 (![] : Fin 0 → Fin S1024x4096.rank)
  reducesTo_S1024x4096_S_d0_1 : S1024x4096.ReducesTo [0, 1] S_

variable [Facts]

def fn_part3 {F : FTy → Type} [FloatOps F] (main_arg13 : FVec F S1024 .f32) (main_arg14 : FVec F S4096x1024 .f32) (main_v49 : IVec S_ 1) (main_v50 : FVec F S1024 .f32) : IVec S_ 1 :=
  let main_cst_19 : FVec F S_ .f32 := constant S_ .f32 0x7F800000#32
  let main_v51 : FVec F S1024 .f32 := broadcastInDim S1024 ![] bcast_S_S1024 main_cst_19
  let main_v52 : IVec S1024 1 := cmpf .olt main_v50 main_v51
  let main_c_20 : IVec S_ 1 := constantI S_ 1 1#1
  let main_v53 : IVec S_ 1 := (fun x v => Host.reduce IntOp.andi x v reducesTo_S1024_S_d0 h_S_) main_v52 main_c_20
  let main_v54 : IVec S_ 1 := andi main_v49 main_v53
  let main_v55 : FVec F S1024 .f32 := Host.absf main_arg13
  let main_cst_21 : FVec F S_ .f32 := constant S_ .f32 0x7F800000#32
  let main_v56 : FVec F S1024 .f32 := broadcastInDim S1024 ![] bcast_S_S1024 main_cst_21
  let main_v57 : IVec S1024 1 := cmpf .olt main_v55 main_v56
  let main_c_22 : IVec S_ 1 := constantI S_ 1 1#1
  let main_v58 : IVec S_ 1 := (fun x v => Host.reduce IntOp.andi x v reducesTo_S1024_S_d0 h_S_) main_v57 main_c_22
  let main_v59 : IVec S_ 1 := andi main_v54 main_v58
  let main_v60 : FVec F S4096x1024 .f32 := Host.absf main_arg14
  let main_cst_23 : FVec F S_ .f32 := constant S_ .f32 0x7F800000#32
  let main_v61 : FVec F S4096x1024 .f32 := broadcastInDim S4096x1024 ![] bcast_S_S4096x1024 main_cst_23
  let main_v62 : IVec S4096x1024 1 := cmpf .olt main_v60 main_v61
  let main_c_24 : IVec S_ 1 := constantI S_ 1 1#1
  let main_v63 : IVec S_ 1 := (fun x v => Host.reduce IntOp.andi x v reducesTo_S4096x1024_S_d0_1 h_S_) main_v62 main_c_24
  let main_v64 : IVec S_ 1 := andi main_v59 main_v63
  main_v64

def fn_part2 {F : FTy → Type} [FloatOps F] (main_arg9 : FVec F S1024 .f32) (main_arg10 : FVec F S1024x4096 .f32) (main_arg11 : FVec F S4096x1024 .f32) (main_arg12 : FVec F S1024 .f32) (main_arg13 : FVec F S1024 .f32) (main_arg14 : FVec F S4096x1024 .f32) (main_v29 : IVec S_ 1) (main_v32 : IVec S1024 1) (main_c_12 : IVec S_ 1) : IVec S_ 1 :=
  let main_v33 : IVec S_ 1 := (fun x v => Host.reduce IntOp.andi x v reducesTo_S1024_S_d0 h_S_) main_v32 main_c_12
  let main_v34 : IVec S_ 1 := andi main_v29 main_v33
  let main_v35 : FVec F S1024 .f32 := Host.absf main_arg9
  let main_cst_13 : FVec F S_ .f32 := constant S_ .f32 0x7F800000#32
  let main_v36 : FVec F S1024 .f32 := broadcastInDim S1024 ![] bcast_S_S1024 main_cst_13
  let main_v37 : IVec S1024 1 := cmpf .olt main_v35 main_v36
  let main_c_14 : IVec S_ 1 := constantI S_ 1 1#1
  let main_v38 : IVec S_ 1 := (fun x v => Host.reduce IntOp.andi x v reducesTo_S1024_S_d0 h_S_) main_v37 main_c_14
  let main_v39 : IVec S_ 1 := andi main_v34 main_v38
  let main_v40 : FVec F S1024x4096 .f32 := Host.absf main_arg10
  let main_cst_15 : FVec F S_ .f32 := constant S_ .f32 0x7F800000#32
  let main_v41 : FVec F S1024x4096 .f32 := broadcastInDim S1024x4096 ![] bcast_S_S1024x4096 main_cst_15
  let main_v42 : IVec S1024x4096 1 := cmpf .olt main_v40 main_v41
  let main_c_16 : IVec S_ 1 := constantI S_ 1 1#1
  let main_v43 : IVec S_ 1 := (fun x v => Host.reduce IntOp.andi x v reducesTo_S1024x4096_S_d0_1 h_S_) main_v42 main_c_16
  let main_v44 : IVec S_ 1 := andi main_v39 main_v43
  let main_v45 : FVec F S4096x1024 .f32 := Host.absf main_arg11
  let main_cst_17 : FVec F S_ .f32 := constant S_ .f32 0x7F800000#32
  let main_v46 : FVec F S4096x1024 .f32 := broadcastInDim S4096x1024 ![] bcast_S_S4096x1024 main_cst_17
  let main_v47 : IVec S4096x1024 1 := cmpf .olt main_v45 main_v46
  let main_c_18 : IVec S_ 1 := constantI S_ 1 1#1
  let main_v48 : IVec S_ 1 := (fun x v => Host.reduce IntOp.andi x v reducesTo_S4096x1024_S_d0_1 h_S_) main_v47 main_c_18
  let main_v49 : IVec S_ 1 := andi main_v44 main_v48
  let main_v50 : FVec F S1024 .f32 := Host.absf main_arg12
  fn_part3 (F := F) main_arg13 main_arg14 main_v49 main_v50

def fn_part1 {F : FTy → Type} [FloatOps F] (main_arg6 : FVec F S512x1024 .f32) (main_arg7 : FVec F S1024x1024 .f32) (main_arg8 : FVec F S1024 .f32) (main_arg9 : FVec F S1024 .f32) (main_arg10 : FVec F S1024x4096 .f32) (main_arg11 : FVec F S4096x1024 .f32) (main_arg12 : FVec F S1024 .f32) (main_arg13 : FVec F S1024 .f32) (main_arg14 : FVec F S4096x1024 .f32) (main_v14 : IVec S_ 1) (main_v15 : FVec F S512x1024 .f32) (main_cst_5 : FVec F S_ .f32) : IVec S_ 1 :=
  let main_v16 : FVec F S512x1024 .f32 := broadcastInDim S512x1024 ![] bcast_S_S512x1024 main_cst_5
  let main_v17 : IVec S512x1024 1 := cmpf .olt main_v15 main_v16
  let main_c_6 : IVec S_ 1 := constantI S_ 1 1#1
  let main_v18 : IVec S_ 1 := (fun x v => Host.reduce IntOp.andi x v reducesTo_S512x1024_S_d0_1 h_S_) main_v17 main_c_6
  let main_v19 : IVec S_ 1 := andi main_v14 main_v18
  let main_v20 : FVec F S512x1024 .f32 := Host.absf main_arg6
  let main_cst_7 : FVec F S_ .f32 := constant S_ .f32 0x7F800000#32
  let main_v21 : FVec F S512x1024 .f32 := broadcastInDim S512x1024 ![] bcast_S_S512x1024 main_cst_7
  let main_v22 : IVec S512x1024 1 := cmpf .olt main_v20 main_v21
  let main_c_8 : IVec S_ 1 := constantI S_ 1 1#1
  let main_v23 : IVec S_ 1 := (fun x v => Host.reduce IntOp.andi x v reducesTo_S512x1024_S_d0_1 h_S_) main_v22 main_c_8
  let main_v24 : IVec S_ 1 := andi main_v19 main_v23
  let main_v25 : FVec F S1024x1024 .f32 := Host.absf main_arg7
  let main_cst_9 : FVec F S_ .f32 := constant S_ .f32 0x7F800000#32
  let main_v26 : FVec F S1024x1024 .f32 := broadcastInDim S1024x1024 ![] bcast_S_S1024x1024 main_cst_9
  let main_v27 : IVec S1024x1024 1 := cmpf .olt main_v25 main_v26
  let main_c_10 : IVec S_ 1 := constantI S_ 1 1#1
  let main_v28 : IVec S_ 1 := (fun x v => Host.reduce IntOp.andi x v reducesTo_S1024x1024_S_d0_1 h_S_) main_v27 main_c_10
  let main_v29 : IVec S_ 1 := andi main_v24 main_v28
  let main_v30 : FVec F S1024 .f32 := Host.absf main_arg8
  let main_cst_11 : FVec F S_ .f32 := constant S_ .f32 0x7F800000#32
  let main_v31 : FVec F S1024 .f32 := broadcastInDim S1024 ![] bcast_S_S1024 main_cst_11
  let main_v32 : IVec S1024 1 := cmpf .olt main_v30 main_v31
  let main_c_12 : IVec S_ 1 := constantI S_ 1 1#1
  fn_part2 (F := F) main_arg9 main_arg10 main_arg11 main_arg12 main_arg13 main_arg14 main_v29 main_v32 main_c_12

def fn {F : FTy → Type} [FloatOps F] (main_arg0 : FVec F S4096x1024 .f32) (main_arg1 : FVec F S4096x512 .f32) (main_arg2 : FVec F S4096x512 .f32) (main_arg3 : FVec F S4096x2048 .f32) (main_arg4 : FVec F S2048 .f32) (main_arg5 : FVec F S512x1024 .f32) (main_arg6 : FVec F S512x1024 .f32) (main_arg7 : FVec F S1024x1024 .f32) (main_arg8 : FVec F S1024 .f32) (main_arg9 : FVec F S1024 .f32) (main_arg10 : FVec F S1024x4096 .f32) (main_arg11 : FVec F S4096x1024 .f32) (main_arg12 : FVec F S1024 .f32) (main_arg13 : FVec F S1024 .f32) (main_arg14 : FVec F S4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_c_0 : IVec S_ 1 := constantI S_ 1 1#1
  let main_v4 : IVec S_ 1 := andi main_c_0 main_v3
  let main_v5 : FVec F S4096x512 .f32 := Host.absf main_arg1
  let main_cst_1 : FVec F S_ .f32 := constant S_ .f32 0x7F800000#32
  let main_v6 : FVec F S4096x512 .f32 := broadcastInDim S4096x512 ![] bcast_S_S4096x512 main_cst_1
  let main_v7 : IVec S4096x512 1 := cmpf .olt main_v5 main_v6
  let main_c_2 : IVec S_ 1 := constantI S_ 1 1#1
  let main_v8 : IVec S_ 1 := (fun x v => Host.reduce IntOp.andi x v reducesTo_S4096x512_S_d0_1 h_S_) main_v7 main_c_2
  let main_v9 : IVec S_ 1 := andi main_v4 main_v8
  let main_v10 : FVec F S4096x512 .f32 := Host.absf main_arg2
  let main_cst_3 : FVec F S_ .f32 := constant S_ .f32 0x7F800000#32
  let main_v11 : FVec F S4096x512 .f32 := broadcastInDim S4096x512 ![] bcast_S_S4096x512 main_cst_3
  let main_v12 : IVec S4096x512 1 := cmpf .olt main_v10 main_v11
  let main_c_4 : IVec S_ 1 := constantI S_ 1 1#1
  let main_v13 : IVec S_ 1 := (fun x v => Host.reduce IntOp.andi x v reducesTo_S4096x512_S_d0_1 h_S_) main_v12 main_c_4
  let main_v14 : IVec S_ 1 := andi main_v9 main_v13
  let main_v15 : FVec F S512x1024 .f32 := Host.absf main_arg5
  let main_cst_5 : FVec F S_ .f32 := constant S_ .f32 0x7F800000#32
  fn_part1 (F := F) main_arg6 main_arg7 main_arg8 main_arg9 main_arg10 main_arg11 main_arg12 main_arg13 main_arg14 main_v14 main_v15 main_cst_5
-- ==== Pre_sb_finite.lean ====
abbrev S4096x3072 : Shape := ⟨2, ![4096, 3072]⟩
abbrev S4096x512 : Shape := ⟨2, ![4096, 512]⟩
abbrev S4096x1536 : Shape := ⟨2, ![4096, 1536]⟩
abbrev S_ : Shape := ⟨0, ![]⟩

class Facts : Prop where
  slices_S4096x3072_S4096x1536_0_0 : S4096x3072.Slices ![0, 0] S4096x1536
  bcast_S_S4096x1536 : S_.BroadcastsInDim S4096x1536 (![] : Fin 0 → Fin S4096x1536.rank)
  reducesTo_S4096x1536_S_d0_1 : S4096x1536.ReducesTo [0, 1] S_
  h_S_ : 0 < S_.numel
  bcast_S_S4096x512 : S_.BroadcastsInDim S4096x512 (![] : Fin 0 → Fin S4096x512.rank)
  reducesTo_S4096x512_S_d0_1 : S4096x512.ReducesTo [0, 1] S_

variable [Facts]

def fn {F : FTy → Type} [FloatOps F] (main_arg0 : FVec F S4096x3072 .f32) (main_arg1 : FVec F S4096x512 .f32) : IVec S_ 1 :=
  let main_v0 : FVec F S4096x1536 .f32 := (extractStridedSlice S4096x1536 ![0, 0] · slices_S4096x3072_S4096x1536_0_0) main_arg0
  let main_v1 : FVec F S4096x1536 .f32 := Host.absf main_v0
  let main_cst : FVec F S_ .f32 := constant S_ .f32 0x7F800000#32
  let main_v2 : FVec F S4096x1536 .f32 := broadcastInDim S4096x1536 ![] bcast_S_S4096x1536 main_cst
  let main_v3 : IVec S4096x1536 1 := cmpf .olt main_v1 main_v2
  let main_c : IVec S_ 1 := constantI S_ 1 1#1
  let main_v4 : IVec S_ 1 := (fun x v => Host.reduce IntOp.andi x v reducesTo_S4096x1536_S_d0_1 h_S_) main_v3 main_c
  let main_v5 : FVec F S4096x512 .f32 := Host.absf main_arg1
  let main_cst_0 : FVec F S_ .f32 := constant S_ .f32 0x7F800000#32
  let main_v6 : FVec F S4096x512 .f32 := broadcastInDim S4096x512 ![] bcast_S_S4096x512 main_cst_0
  let main_v7 : IVec S4096x512 1 := cmpf .olt main_v5 main_v6
  let main_c_1 : IVec S_ 1 := constantI S_ 1 1#1
  let main_v8 : IVec S_ 1 := (fun x v => Host.reduce IntOp.andi x v reducesTo_S4096x512_S_d0_1 h_S_) main_v7 main_c_1
  let main_v9 : IVec S_ 1 := andi main_v4 main_v8
  main_v9
-- ==== Pre_sb_fwd_finite.lean ====
abbrev S4096x3072 : Shape := ⟨2, ![4096, 3072]⟩
abbrev S4096x1536 : Shape := ⟨2, ![4096, 1536]⟩
abbrev S_ : Shape := ⟨0, ![]⟩

class Facts : Prop where
  slices_S4096x3072_S4096x1536_0_0 : S4096x3072.Slices ![0, 0] S4096x1536
  bcast_S_S4096x1536 : S_.BroadcastsInDim S4096x1536 (![] : Fin 0 → Fin S4096x1536.rank)
  reducesTo_S4096x1536_S_d0_1 : S4096x1536.ReducesTo [0, 1] S_
  h_S_ : 0 < S_.numel

variable [Facts]

def fn {F : FTy → Type} [FloatOps F] (main_arg0 : FVec F S4096x3072 .f32) : IVec S_ 1 :=
  let main_v0 : FVec F S4096x1536 .f32 := (extractStridedSlice S4096x1536 ![0, 0] · slices_S4096x3072_S4096x1536_0_0) main_arg0
  let main_v1 : FVec F S4096x1536 .f32 := Host.absf main_v0
  let main_cst : FVec F S_ .f32 := constant S_ .f32 0x7F800000#32
  let main_v2 : FVec F S4096x1536 .f32 := broadcastInDim S4096x1536 ![] bcast_S_S4096x1536 main_cst
  let main_v3 : IVec S4096x1536 1 := cmpf .olt main_v1 main_v2
  let main_c : IVec S_ 1 := constantI S_ 1 1#1
  let main_v4 : IVec S_ 1 := (fun x v => Host.reduce IntOp.andi x v reducesTo_S4096x1536_S_d0_1 h_S_) main_v3 main_c
  main_v4
-- ==== Mix.lean ====
abbrev S4096x1024 : Shape := ⟨2, ![4096, 1024]⟩
abbrev S4096x512 : Shape := ⟨2, ![4096, 512]⟩
abbrev S4096x2048 : Shape := ⟨2, ![4096, 2048]⟩
abbrev S2048 : Shape := ⟨1, ![2048]⟩
abbrev S512x1024 : Shape := ⟨2, ![512, 1024]⟩
abbrev S1024x1024 : Shape := ⟨2, ![1024, 1024]⟩
abbrev S512x8x128 : Shape := ⟨3, ![512, 8, 128]⟩
abbrev S8x512x128 : Shape := ⟨3, ![8, 512, 128]⟩
abbrev S1x2048 : Shape := ⟨2, ![1, 2048]⟩
abbrev S256x1024 : Shape := ⟨2, ![256, 1024]⟩
abbrev S256x512 : Shape := ⟨2, ![256, 512]⟩
abbrev S256x2048 : Shape := ⟨2, ![256, 2048]⟩
abbrev S1x512x128 : Shape := ⟨3, ![1, 512, 128]⟩
abbrev S512x128 : Shape := ⟨2, ![512, 128]⟩
abbrev S1x1024 : Shape := ⟨2, ![1, 1024]⟩
abbrev S1024 : Shape := ⟨1, ![1024]⟩

abbrev nBuf : Space → Nat
  | .hbm => 24
  | .vmem => 26
  | .smem => 0
  | _ => 0

abbrev bufTy : (tb : Table) → Fin (tcTables nBuf tb) → BufTy
  | .hbm, ⟨0, _⟩ => ⟨S4096x1024, .f32⟩
  | .hbm, ⟨1, _⟩ => ⟨S4096x512, .f32⟩
  | .hbm, ⟨2, _⟩ => ⟨S4096x512, .f32⟩
  | .hbm, ⟨3, _⟩ => ⟨S4096x2048, .f32⟩
  | .hbm, ⟨4, _⟩ => ⟨S2048, .f32⟩
  | .hbm, ⟨5, _⟩ => ⟨S512x1024, .f32⟩
  | .hbm, ⟨6, _⟩ => ⟨S512x1024, .f32⟩
  | .hbm, ⟨7, _⟩ => ⟨S1024x1024, .f32⟩
  | .hbm, ⟨8, _⟩ => ⟨S4096x512, .bf16⟩
  | .hbm, ⟨9, _⟩ => ⟨S512x1024, .bf16⟩
  | .hbm, ⟨10, _⟩ => ⟨S512x8x128, .bf16⟩
  | .hbm, ⟨11, _⟩ => ⟨S8x512x128, .bf16⟩
  | .hbm, ⟨12, _⟩ => ⟨S512x1024, .bf16⟩
  | .hbm, ⟨13, _⟩ => ⟨S512x8x128, .bf16⟩
  | .hbm, ⟨14, _⟩ => ⟨S8x512x128, .bf16⟩
  | .hbm, ⟨15, _⟩ => ⟨S1024x1024, .bf16⟩
  | .hbm, ⟨16, _⟩ => ⟨S1x2048, .f32⟩
  | .hbm, ⟨17, _⟩ => ⟨S4096x2048, .bf16⟩
  | .hbm, ⟨18, _⟩ => ⟨S4096x512, .bf16⟩
  | .hbm, ⟨19, _⟩ => ⟨S4096x512, .bf16⟩
  | .hbm, ⟨20, _⟩ => ⟨S1x2048, .f32⟩
  | .hbm, ⟨21, _⟩ => ⟨S1024x1024, .f32⟩
  | .hbm, ⟨22, _⟩ => ⟨S8x512x128, .f32⟩
  | .hbm, ⟨23, _⟩ => ⟨S8x512x128, .f32⟩
  | .local _ .vmem, ⟨0, _⟩ => ⟨S256x1024, .f32⟩
  | .local _ .vmem, ⟨1, _⟩ => ⟨S256x1024, .f32⟩
  | .local _ .vmem, ⟨2, _⟩ => ⟨S256x512, .f32⟩
  | .local _ .vmem, ⟨3, _⟩ => ⟨S256x512, .f32⟩
  | .local _ .vmem, ⟨4, _⟩ => ⟨S256x512, .bf16⟩
  | .local _ .vmem, ⟨5, _⟩ => ⟨S256x512, .bf16⟩
  | .local _ .vmem, ⟨6, _⟩ => ⟨S256x2048, .f32⟩
  | .local _ .vmem, ⟨7, _⟩ => ⟨S256x2048, .f32⟩
  | .local _ .vmem, ⟨8, _⟩ => ⟨S1x2048, .f32⟩
  | .local _ .vmem, ⟨9, _⟩ => ⟨S8x512x128, .bf16⟩
  | .local _ .vmem, ⟨10, _⟩ => ⟨S8x512x128, .bf16⟩
  | .local _ .vmem, ⟨11, _⟩ => ⟨S1024x1024, .bf16⟩
  | .local _ .vmem, ⟨12, _⟩ => ⟨S256x2048, .bf16⟩
  | .local _ .vmem, ⟨13, _⟩ => ⟨S256x2048, .bf16⟩
  | .local _ .vmem, ⟨14, _⟩ => ⟨S256x512, .bf16⟩
  | .local _ .vmem, ⟨15, _⟩ => ⟨S256x512, .bf16⟩
  | .local _ .vmem, ⟨16, _⟩ => ⟨S256x512, .bf16⟩
  | .local _ .vmem, ⟨17, _⟩ => ⟨S256x512, .bf16⟩
  | .local _ .vmem, ⟨18, _⟩ => ⟨S1x2048, .f32⟩
  | .local _ .vmem, ⟨19, _⟩ => ⟨S1024x1024, .f32⟩
  | .local _ .vmem, ⟨20, _⟩ => ⟨S8x512x128, .f32⟩
  | .local _ .vmem, ⟨21, _⟩ => ⟨S8x512x128, .f32⟩
  | .local _ .vmem, ⟨22, _⟩ => ⟨S512x1024, .bf16⟩
  | .local _ .vmem, ⟨23, _⟩ => ⟨S512x1024, .bf16⟩
  | .local _ .vmem, ⟨24, _⟩ => ⟨S512x1024, .f32⟩
  | .local _ .vmem, ⟨25, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9_0 : Ref sig .tc := ⟨.hbm, 17, rfl⟩
abbrev main_v9_1 : Ref sig .tc := ⟨.hbm, 18, rfl⟩
abbrev main_v9_2 : Ref sig .tc := ⟨.hbm, 19, rfl⟩
abbrev main_v9_3 : Ref sig .tc := ⟨.hbm, 20, rfl⟩
abbrev main_v9_4 : Ref sig .tc := ⟨.hbm, 21, rfl⟩
abbrev main_v9_5 : Ref sig .tc := ⟨.hbm, 22, rfl⟩
abbrev main_v9_6 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_scratch3 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem12_0 : DmaSem sig := 19
abbrev cc0_sem13_0 : DmaSem sig := 20
abbrev cc0_sem14_0 : DmaSem sig := 21

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v83 : BitVec 1 := Scalar.cmpi .eq arg0 c15_i32
  let v84 : BitVec 32 := Scalar.extui v83
  let c0_i32_58 : BitVec 32 := 0#32
  let v85 : BitVec 1 := Scalar.cmpi .ne v84 c0_i32_58
  v85

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x512x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x512x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S8x512x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S8x512x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== MixRefIdeal.lean ====
abbrev S4096x1024 : Shape := ⟨2, ![4096, 1024]⟩
abbrev S4096x512 : Shape := ⟨2, ![4096, 512]⟩
abbrev S4096x2048 : Shape := ⟨2, ![4096, 2048]⟩
abbrev S2048 : Shape := ⟨1, ![2048]⟩
abbrev S512x1024 : Shape := ⟨2, ![512, 1024]⟩
abbrev S1024x1024 : Shape := ⟨2, ![1024, 1024]⟩
abbrev S1x2048 : Shape := ⟨2, ![1, 2048]⟩
abbrev S_ : Shape := ⟨0, ![]⟩
abbrev S1024x512 : Shape := ⟨2, ![1024, 512]⟩
abbrev S512x8x128 : Shape := ⟨3, ![512, 8, 128]⟩
abbrev S8x512x128 : Shape := ⟨3, ![8, 512, 128]⟩

abbrev nBuf : Space → Nat
  | .hbm => 63
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x512, .f32⟩
  | .hbm, ⟨2, _⟩ => ⟨S4096x512, .f32⟩
  | .hbm, ⟨3, _⟩ => ⟨S4096x2048, .f32⟩
  | .hbm, ⟨4, _⟩ => ⟨S2048, .f32⟩
  | .hbm, ⟨5, _⟩ => ⟨S512x1024, .f32⟩
  | .hbm, ⟨6, _⟩ => ⟨S512x1024, .f32⟩
  | .hbm, ⟨7, _⟩ => ⟨S1024x1024, .f32⟩
  | .hbm, ⟨8, _⟩ => ⟨S1x2048, .f32⟩
  | .hbm, ⟨9, _⟩ => ⟨S4096x2048, .f32⟩
  | .hbm, ⟨10, _⟩ => ⟨S4096x2048, .f32⟩
  | .hbm, ⟨11, _⟩ => ⟨S4096x1024, .f32⟩
  | .hbm, ⟨12, _⟩ => ⟨S4096x1024, .f32⟩
  | .hbm, ⟨13, _⟩ => ⟨S4096x2048, .f32⟩
  | .hbm, ⟨14, _⟩ => ⟨S4096x2048, .f32⟩
  | .hbm, ⟨15, _⟩ => ⟨S_, .f32⟩
  | .hbm, ⟨16, _⟩ => ⟨S4096x2048, .f32⟩
  | .hbm, ⟨17, _⟩ => ⟨S4096x2048, .f32⟩
  | .hbm, ⟨18, _⟩ => ⟨S_, .f32⟩
  | .hbm, ⟨19, _⟩ => ⟨S4096x2048, .f32⟩
  | .hbm, ⟨20, _⟩ => ⟨S4096x2048, .f32⟩
  | .hbm, ⟨21, _⟩ => ⟨S_, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S1024x1024, .f32⟩
  | .hbm, ⟨32, _⟩ => ⟨S1024x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S_, .f32⟩
  | .hbm, ⟨37, _⟩ => ⟨S4096x2048, .f32⟩
  | .hbm, ⟨38, _⟩ => ⟨S4096x1024, .f32⟩
  | .hbm, ⟨39, _⟩ => ⟨S4096x1024, .f32⟩
  | .hbm, ⟨40, _⟩ => ⟨S_, .f32⟩
  | .hbm, ⟨41, _⟩ => ⟨S4096x2048, .f32⟩
  | .hbm, ⟨42, _⟩ => ⟨S4096x2048, .f32⟩
  | .hbm, ⟨43, _⟩ => ⟨S4096x2048, .f32⟩
  | .hbm, ⟨44, _⟩ => ⟨S1024x512, .f32⟩
  | .hbm, ⟨45, _⟩ => ⟨S512x1024, .f32⟩
  | .hbm, ⟨46, _⟩ => ⟨S4096x512, .f32⟩
  | .hbm, ⟨47, _⟩ => ⟨S1024x512, .f32⟩
  | .hbm, ⟨48, _⟩ => ⟨S512x1024, .f32⟩
  | .hbm, ⟨49, _⟩ => ⟨S4096x512, .f32⟩
  | .hbm, ⟨50, _⟩ => ⟨S_, .f32⟩
  | .hbm, ⟨51, _⟩ => ⟨S2048, .f32⟩
  | .hbm, ⟨52, _⟩ => ⟨S1x2048, .f32⟩
  | .hbm, ⟨53, _⟩ => ⟨S_, .f32⟩
  | .hbm, ⟨54, _⟩ => ⟨S2048, .f32⟩
  | .hbm, ⟨55, _⟩ => ⟨S4096x2048, .bf16⟩
  | .hbm, ⟨56, _⟩ => ⟨S4096x512, .bf16⟩
  | .hbm, ⟨57, _⟩ => ⟨S4096x512, .bf16⟩
  | .hbm, ⟨58, _⟩ => ⟨S1x2048, .f32⟩
  | .hbm, ⟨59, _⟩ => ⟨S512x8x128, .f32⟩
  | .hbm, ⟨60, _⟩ => ⟨S8x512x128, .f32⟩
  | .hbm, ⟨61, _⟩ => ⟨S512x8x128, .f32⟩
  | .hbm, ⟨62, _⟩ => ⟨S8x512x128, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_2 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_3 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_4 : Ref sig .tc := ⟨.hbm, 50, rfl⟩
abbrev main_v37 : Ref sig .tc := ⟨.hbm, 51, rfl⟩
abbrev main_v38 : Ref sig .tc := ⟨.hbm, 52, rfl⟩
abbrev main_cst_5 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩

abbrev nD : Nat := 1
abbrev τ : Topo := Topo.v7x

variable {F : FTy → Type} [FloatOps F]
-- ==== Sb.lean ====
abbrev S4096x3072 : Shape := ⟨2, ![4096, 3072]⟩
abbrev S4096x512 : Shape := ⟨2, ![4096, 512]⟩
abbrev S1x4096x8x64 : Shape := ⟨4, ![1, 4096, 8, 64]⟩
abbrev S1x8x4096x64 : Shape := ⟨4, ![1, 8, 4096, 64]⟩
abbrev S1x8x4096x4096 : Shape := ⟨4, ![1, 8, 4096, 4096]⟩
abbrev S_ : Shape := ⟨0, ![]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S1x8x64x4096 : Shape := ⟨4, ![1, 8, 64, 4096]⟩
abbrev S1x4096x512 : Shape := ⟨3, ![1, 4096, 512]⟩
abbrev S512x128 : Shape := ⟨2, ![512, 128]⟩
abbrev S4096x128 : Shape := ⟨2, ![4096, 128]⟩
abbrev S2x512x128 : Shape := ⟨3, ![2, 512, 128]⟩
abbrev S1x128 : Shape := ⟨2, ![1, 128]⟩
abbrev S512 : Shape := ⟨1, ![512]⟩
abbrev S512x1 : Shape := ⟨2, ![512, 1]⟩
abbrev S1x512x128 : Shape := ⟨3, ![1, 512, 128]⟩
abbrev S128x128 : Shape := ⟨2, ![128, 128]⟩
abbrev S512x256 : Shape := ⟨2, ![512, 256]⟩
abbrev S256x128 : Shape := ⟨2, ![256, 128]⟩
abbrev S128x256 : Shape := ⟨2, ![128, 256]⟩
abbrev S128x512 : Shape := ⟨2, ![128, 512]⟩
abbrev S384x128 : Shape := ⟨2, ![384, 128]⟩
abbrev S128x1 : Shape := ⟨2, ![128, 1]⟩
abbrev S256x256 : Shape := ⟨2, ![256, 256]⟩
abbrev S256x512 : Shape := ⟨2, ![256, 512]⟩
abbrev S384x256 : Shape := ⟨2, ![384, 256]⟩
abbrev S384x512 : Shape := ⟨2, ![384, 512]⟩
abbrev S512x512 : Shape := ⟨2, ![512, 512]⟩
abbrev S1x2x512x128 : Shape := ⟨4, ![1, 2, 512, 128]⟩
abbrev S1 : Shape := ⟨1, ![1]⟩
abbrev S1x1x1x1 : Shape := ⟨4, ![1, 1, 1, 1]⟩

abbrev nBuf : Space → Nat
  | .hbm => 80
  | .vmem => 22
  | .smem => 0
  | _ => 0

abbrev bufTy : (tb : Table) → Fin (tcTables nBuf tb) → BufTy
  | .hbm, ⟨0, _⟩ => ⟨S4096x3072, .f32⟩
  | .hbm, ⟨1, _⟩ => ⟨S4096x512, .f32⟩
  | .hbm, ⟨2, _⟩ => ⟨S4096x3072, .bf16⟩
  | .hbm, ⟨3, _⟩ => ⟨S4096x512, .f32⟩
  | .hbm, ⟨4, _⟩ => ⟨S4096x512, .f32⟩
  | .hbm, ⟨5, _⟩ => ⟨S4096x512, .f32⟩
  | .hbm, ⟨6, _⟩ => ⟨S1x4096x8x64, .f32⟩
  | .hbm, ⟨7, _⟩ => ⟨S1x4096x8x64, .f32⟩
  | .hbm, ⟨8, _⟩ => ⟨S1x4096x8x64, .f32⟩
  | .hbm, ⟨9, _⟩ => ⟨S1x8x4096x64, .f32⟩
  | .hbm, ⟨10, _⟩ => ⟨S1x8x4096x64, .f32⟩
  | .hbm, ⟨11, _⟩ => ⟨S1x8x4096x64, .f32⟩
  | .hbm, ⟨12, _⟩ => ⟨S1x8x4096x4096, .f32⟩
  | .hbm, ⟨13, _⟩ => ⟨S_, .f32⟩
  | .hbm, ⟨14, _⟩ => ⟨S1x8x4096x4096, .f32⟩
  | .hbm, ⟨15, _⟩ => ⟨S1x8x4096x4096, .f32⟩
  | .hbm, ⟨16, _⟩ => ⟨S4096, .i32⟩
  | .hbm, ⟨17, _⟩ => ⟨S4096x1, .i32⟩
  | .hbm, ⟨18, _⟩ => ⟨S4096, .i32⟩
  | .hbm, ⟨19, _⟩ => ⟨S1x4096, .i32⟩
  | .hbm, ⟨20, _⟩ => ⟨S4096x4096, .i32⟩
  | .hbm, ⟨21, _⟩ => ⟨S4096x4096, .i32⟩
  | .hbm, ⟨22, _⟩ => ⟨S4096x4096, .i1⟩
  | .hbm, ⟨23, _⟩ => ⟨S1x8x4096x4096, .f32⟩
  | .hbm, ⟨24, _⟩ => ⟨S1x8x4096x4096, .f32⟩
  | .hbm, ⟨25, _⟩ => ⟨S_, .f32⟩
  | .hbm, ⟨26, _⟩ => ⟨S1x8x4096x4096, .f32⟩
  | .hbm, ⟨27, _⟩ => ⟨S1x8x4096x4096, .f32⟩
  | .hbm, ⟨28, _⟩ => ⟨S1x8x4096x4096, .f32⟩
  | .hbm, ⟨29, _⟩ => ⟨S1x8x4096x4096, .f32⟩
  | .hbm, ⟨30, _⟩ => ⟨S1x8x4096x4096, .i1⟩
  | .hbm, ⟨31, _⟩ => ⟨S1x8x4096x4096, .f32⟩
  | .hbm, ⟨32, _⟩ => ⟨S1x8x4096x4096, .f32⟩
  | .hbm, ⟨33, _⟩ => ⟨S1x8x4096x4096, .f32⟩
  | .hbm, ⟨34, _⟩ => ⟨S1x8x4096x4096, .f32⟩
  | .hbm, ⟨35, _⟩ => ⟨S1x8x4096x4096, .f32⟩
  | .hbm, ⟨36, _⟩ => ⟨S1x8x4096x4096, .f32⟩
  | .hbm, ⟨37, _⟩ => ⟨S1x8x4096x4096, .f32⟩
  | .hbm, ⟨38, _⟩ => ⟨S1x8x4096x4096, .f32⟩
  | .hbm, ⟨39, _⟩ => ⟨S1x8x4096x4096, .f32⟩
  | .hbm, ⟨40, _⟩ => ⟨S_, .f32⟩
  | .hbm, ⟨41, _⟩ => ⟨S_, .f32⟩
  | .hbm, ⟨42, _⟩ => ⟨S1x8x4096x4096, .i1⟩
  | .hbm, ⟨43, _⟩ => ⟨S1x8x4096x4096, .f32⟩
  | .hbm, ⟨44, _⟩ => ⟨S1x8x4096x4096, .f32⟩
  | .hbm, ⟨45, _⟩ => ⟨S_, .f32⟩
  | .hbm, ⟨46, _⟩ => ⟨S_, .f32⟩
  | .hbm, ⟨47, _⟩ => ⟨S1x8x4096x4096, .f32⟩
  | .hbm, ⟨48, _⟩ => ⟨S1x8x4096x4096, .f32⟩
  | .hbm, ⟨49, _⟩ => ⟨S1x8x4096x4096, .f32⟩
  | .hbm, ⟨50, _⟩ => ⟨S_, .f32⟩
  | .hbm, ⟨51, _⟩ => ⟨S1x8x4096x4096, .f32⟩
  | .hbm, ⟨52, _⟩ => ⟨S1x8x4096x4096, .f32⟩
  | .hbm, ⟨53, _⟩ => ⟨S1x8x4096x4096, .f32⟩
  | .hbm, ⟨54, _⟩ => ⟨S1x8x4096x4096, .f32⟩
  | .hbm, ⟨55, _⟩ => ⟨S1x8x4096x4096, .i1⟩
  | .hbm, ⟨56, _⟩ => ⟨S1x8x4096x4096, .f32⟩
  | .hbm, ⟨57, _⟩ => ⟨S1x8x4096x4096, .f32⟩
  | .hbm, ⟨58, _⟩ => ⟨S1x8x4096x4096, .f32⟩
  | .hbm, ⟨59, _⟩ => ⟨S1x8x4096x4096, .f32⟩
  | .hbm, ⟨60, _⟩ => ⟨S1x8x4096x4096, .f32⟩
  | .hbm, ⟨61, _⟩ => ⟨S1x8x4096x4096, .f32⟩
  | .hbm, ⟨62, _⟩ => ⟨S1x8x4096x4096, .f32⟩
  | .hbm, ⟨63, _⟩ => ⟨S1x8x4096x4096, .f32⟩
  | .hbm, ⟨64, _⟩ => ⟨S1x8x4096x4096, .f32⟩
  | .hbm, ⟨65, _⟩ => ⟨S1x8x4096x4096, .f32⟩
  | .hbm, ⟨66, _⟩ => ⟨S1x8x4096x4096, .f32⟩
  | .hbm, ⟨67, _⟩ => ⟨S_, .f32⟩
  | .hbm, ⟨68, _⟩ => ⟨S_, .f32⟩
  | .hbm, ⟨69, _⟩ => ⟨S1x8x4096x4096, .i1⟩
  | .hbm, ⟨70, _⟩ => ⟨S1x8x4096x4096, .f32⟩
  | .hbm, ⟨71, _⟩ => ⟨S1x8x4096x4096, .f32⟩
  | .hbm, ⟨72, _⟩ => ⟨S1x8x64x4096, .f32⟩
  | .hbm, ⟨73, _⟩ => ⟨S1x4096x8x64, .f32⟩
  | .hbm, ⟨74, _⟩ => ⟨S1x4096x512, .f32⟩
  | .hbm, ⟨75, _⟩ => ⟨S4096x512, .f32⟩
  | .hbm, ⟨76, _⟩ => ⟨S4096x512, .bf16⟩
  | .hbm, ⟨77, _⟩ => ⟨S4096x512, .bf16⟩
  | .hbm, ⟨78, _⟩ => ⟨S4096x512, .bf16⟩
  | .hbm, ⟨79, _⟩ => ⟨S4096x512, .bf16⟩
  | .local _ .vmem, ⟨0, _⟩ => ⟨S512x128, .bf16⟩
  | .local _ .vmem, ⟨1, _⟩ => ⟨S512x128, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S512x128, .f32⟩
  | .local _ .vmem, ⟨7, _⟩ => ⟨S512x128, .f32⟩
  | .local _ .vmem, ⟨8, _⟩ => ⟨S512x128, .bf16⟩
  | .local _ .vmem, ⟨9, _⟩ => ⟨S512x128, .bf16⟩
  | .local _ .vmem, ⟨10, _⟩ => ⟨S512x128, .bf16⟩
  | .local _ .vmem, ⟨11, _⟩ => ⟨S512x128, .bf16⟩
  | .local _ .vmem, ⟨12, _⟩ => ⟨S4096x128, .bf16⟩
  | .local _ .vmem, ⟨13, _⟩ => ⟨S4096x128, .bf16⟩
  | .local _ .vmem, ⟨14, _⟩ => ⟨S4096x128, .bf16⟩
  | .local _ .vmem, ⟨15, _⟩ => ⟨S4096x128, .bf16⟩
  | .local _ .vmem, ⟨16, _⟩ => ⟨S2x512x128, .f32⟩
  | .local _ .vmem, ⟨17, _⟩ => ⟨S2x512x128, .f32⟩
  | .local _ .vmem, ⟨18, _⟩ => ⟨S2x512x128, .f32⟩
  | .local _ .vmem, ⟨19, _⟩ => ⟨S512x128, .f32⟩
  | .local _ .vmem, ⟨20, _⟩ => ⟨S4096x128, .f32⟩
  | .local _ .vmem, ⟨21, _⟩ => ⟨S4096x128, .f32⟩
  | _, _ => ⟨S4096x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_cst : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_call0_v0 : Ref sig .tc := ⟨.hbm, 24, rfl⟩
abbrev main_call0_call0_cst : Ref sig .tc := ⟨.hbm, 25, rfl⟩
abbrev main_call0_call0_v0 : Ref sig .tc := ⟨.hbm, 26, rfl⟩
abbrev main_call0_call0_v1 : Ref sig .tc := ⟨.hbm, 27, rfl⟩
abbrev main_call0_call0_v2 : Ref sig .tc := ⟨.hbm, 28, rfl⟩
abbrev main_call0_call0_v3 : Ref sig .tc := ⟨.hbm, 29, rfl⟩
abbrev main_call0_call0_v4 : Ref sig .tc := ⟨.hbm, 30, rfl⟩
abbrev main_call0_call0_v5 : Ref sig .tc := ⟨.hbm, 31, rfl⟩
abbrev main_call0_call0_v6 : Ref sig .tc := ⟨.hbm, 32, rfl⟩
abbrev main_call0_call0_v7 : Ref sig .tc := ⟨.hbm, 33, rfl⟩
abbrev main_call0_call0_v8 : Ref sig .tc := ⟨.hbm, 34, rfl⟩
abbrev main_call0_call0_v9 : Ref sig .tc := ⟨.hbm, 35, rfl⟩
abbrev main_call0_call0_v10 : Ref sig .tc := ⟨.hbm, 36, rfl⟩
abbrev main_call0_call0_v11 : Ref sig .tc := ⟨.hbm, 37, rfl⟩
abbrev main_call0_v1 : Ref sig .tc := ⟨.hbm, 38, rfl⟩
abbrev main_v21 : Ref sig .tc := ⟨.hbm, 39, rfl⟩
abbrev main_cst_0 : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_v22 : Ref sig .tc := ⟨.hbm, 44, rfl⟩
abbrev main_call2_cst : Ref sig .tc := ⟨.hbm, 45, rfl⟩
abbrev main_call2_v0 : Ref sig .tc := ⟨.hbm, 46, rfl⟩
abbrev main_v23 : Ref sig .tc := ⟨.hbm, 47, rfl⟩
abbrev main_v24 : Ref sig .tc := ⟨.hbm, 48, rfl⟩
abbrev main_call3_v0 : Ref sig .tc := ⟨.hbm, 49, rfl⟩
abbrev main_call3_call0_cst : Ref sig .tc := ⟨.hbm, 50, rfl⟩
abbrev main_call3_call0_v0 : Ref sig .tc := ⟨.hbm, 51, rfl⟩
abbrev main_call3_call0_v1 : Ref sig .tc := ⟨.hbm, 52, rfl⟩
abbrev main_call3_call0_v2 : Ref sig .tc := ⟨.hbm, 53, rfl⟩
abbrev main_call3_call0_v3 : Ref sig .tc := ⟨.hbm, 54, rfl⟩
abbrev main_call3_call0_v4 : Ref sig .tc := ⟨.hbm, 55, rfl⟩
abbrev main_call3_call0_v5 : Ref sig .tc := ⟨.hbm, 56, rfl⟩
abbrev main_call3_call0_v6 : Ref sig .tc := ⟨.hbm, 57, rfl⟩
abbrev main_call3_call0_v7 : Ref sig .tc := ⟨.hbm, 58, rfl⟩
abbrev main_call3_call0_v8 : Ref sig .tc := ⟨.hbm, 59, rfl⟩
abbrev main_call3_call0_v9 : Ref sig .tc := ⟨.hbm, 60, rfl⟩
abbrev main_call3_call0_v10 : Ref sig .tc := ⟨.hbm, 61, rfl⟩
abbrev main_call3_call0_v11 : Ref sig .tc := ⟨.hbm, 62, rfl⟩
abbrev main_call3_v1 : Ref sig .tc := ⟨.hbm, 63, rfl⟩
abbrev main_v25 : Ref sig .tc := ⟨.hbm, 64, rfl⟩
abbrev main_v26 : Ref sig .tc := ⟨.hbm, 65, rfl⟩
abbrev main_v27 : Ref sig .tc := ⟨.hbm, 66, rfl⟩
abbrev main_cst_1 : Ref sig .tc := ⟨.hbm, 67, rfl⟩
abbrev main_call4_v0 : Ref sig .tc := ⟨.hbm, 68, rfl⟩
abbrev main_call4_v1 : Ref sig .tc := ⟨.hbm, 69, rfl⟩
abbrev main_call4_v2 : Ref sig .tc := ⟨.hbm, 70, rfl⟩
abbrev main_v28 : Ref sig .tc := ⟨.hbm, 71, rfl⟩
abbrev main_v29 : Ref sig .tc := ⟨.hbm, 72, rfl⟩
abbrev main_v30 : Ref sig .tc := ⟨.hbm, 73, rfl⟩
abbrev main_v31 : Ref sig .tc := ⟨.hbm, 74, rfl⟩
abbrev main_v32 : Ref sig .tc := ⟨.hbm, 75, rfl⟩
abbrev main_v33 : Ref sig .tc := ⟨.hbm, 76, rfl⟩
abbrev main_v34_0 : Ref sig .tc := ⟨.hbm, 77, rfl⟩
abbrev main_v34_1 : Ref sig .tc := ⟨.hbm, 78, rfl⟩
abbrev main_v34_2 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_scratch4 : Ref sig .tc := ⟨.vmem, 20, rfl⟩
abbrev cc0_scratch5 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 8], ![false, false]⟩

def k0_mult1 (i : grid0.Coords) : BitVec 32 :=
  let arg1 : BitVec 32 := BitVec.ofNat 32 (i 1).val
  let c512_i32 : BitVec 32 := 512#32
  let v69 : BitVec 32 := Scalar.muli arg1 c512_i32
  let c384_i32 : BitVec 32 := 384#32
  let v95 : BitVec 32 := Scalar.addi v69 c384_i32
  v95
def k0_off1 (i : grid0.Coords) (c384_i32 : BitVec 32) : Fin 2 → Nat :=
  let arg1 : BitVec 32 := BitVec.ofNat 32 (i 1).val
  let c512_i32 : BitVec 32 := 512#32
  let v69 : BitVec 32 := Scalar.muli arg1 c512_i32
  let v95 : BitVec 32 := Scalar.addi v69 c384_i32
  let v96 : BitVec 32 := v95
  let v97 : Index := Scalar.indexCast v96
  let c0_48 : Index := 0#32
  ![v97.toNat, 0]
def k0_mult2 (i : grid0.Coords) : BitVec 32 :=
  let arg1 : BitVec 32 := BitVec.ofNat 32 (i 1).val
  let c512_i32 : BitVec 32 := 512#32
  let v69 : BitVec 32 := Scalar.muli arg1 c512_i32
  let c256_i32 : BitVec 32 := 256#32
  let v292 : BitVec 32 := Scalar.addi v69 c256_i32
  v292
def k0_mult3 (i : grid0.Coords) : BitVec 32 :=
  let arg1 : BitVec 32 := BitVec.ofNat 32 (i 1).val
  let c512_i32 : BitVec 32 := 512#32
  let v69 : BitVec 32 := Scalar.muli arg1 c512_i32
  let c128_i32_108 : BitVec 32 := 128#32
  let v601 : BitVec 32 := Scalar.addi v69 c128_i32_108
  v601
def k0_mult4 (i : grid0.Coords) : BitVec 32 :=
  let arg1 : BitVec 32 := BitVec.ofNat 32 (i 1).val
  let c512_i32 : BitVec 32 := 512#32
  let v69 : BitVec 32 := Scalar.muli arg1 c512_i32
  let c0_i32_148 : BitVec 32 := 0#32
  let v1012 : BitVec 32 := Scalar.addi v69 c0_i32_148
  v1012
def k0_mult5 (arg16 : BitVec 32) : BitVec 32 :=
  let c256_i32_216 : BitVec 32 := 256#32
  let v1516 : BitVec 32 := Scalar.muli arg16 c256_i32_216
  let c128_i32_236 : BitVec 32 := 128#32
  let v1554 : BitVec 32 := Scalar.addi v1516 c128_i32_236
  v1554

def k0_off2 (arg16 : BitVec 32) (c128_i32_236 : BitVec 32) : Fin 2 → Nat :=
  let c256_i32_216 : BitVec 32 := 256#32
  let v1516 : BitVec 32 := Scalar.muli arg16 c256_i32_216
  let v1554 : BitVec 32 := Scalar.addi v1516 c128_i32_236
  let v1555 : BitVec 32 := v1554
  let v1556 : Index := Scalar.indexCast v1555
  let c0_237 : Index := 0#32
  ![v1556.toNat, 0]
def k0_mult6 (arg16 : BitVec 32) : BitVec 32 :=
  let c256_i32_216 : BitVec 32 := 256#32
  let v1516 : BitVec 32 := Scalar.muli arg16 c256_i32_216
  let c0_i32_276 : BitVec 32 := 0#32
  let v2034 : BitVec 32 := Scalar.addi v1516 c0_i32_276
  v2034

def k0_chk1 (arg16 : BitVec 32) : Prop :=
  (128 ∣ (k0_mult5 arg16).toNat) ∧
  (∀ (r : Fin 2), ∀ a, (k0_off2 arg16 (BitVec.ofNat 32 (128 * r.val))) a + S128x128.size a ≤ S4096x128.size a) ∧
  (128 ∣ (k0_mult6 arg16).toNat)
theorem k0_mult5_dvd : ∀ (arg16 : BitVec 32) (k0_hw1 : k0_chk1 arg16), 128 ∣ (k0_mult5 arg16).toNat := fun arg16 k0_hw1 => k0_hw1.1
theorem k0_off2_inb : ∀ (arg16 : BitVec 32) (k0_hw1 : k0_chk1 arg16), ∀ (r : Fin 2), ∀ a, (k0_off2 arg16 (BitVec.ofNat 32 (128 * r.val))) a + S128x128.size a ≤ S4096x128.size a := fun arg16 k0_hw1 r => k0_hw1.2.1 r
theorem k0_mult6_dvd : ∀ (arg16 : BitVec 32) (k0_hw1 : k0_chk1 arg16), 128 ∣ (k0_mult6 arg16).toNat := fun arg16 k0_hw1 => k0_hw1.2.2

def k0_cond2 (i : grid0.Coords) : BitVec 1 :=
  let arg1 : BitVec 32 := BitVec.ofNat 32 (i 1).val
  let c7_i32 : BitVec 32 := 7#32
  let v1513 : BitVec 1 := Scalar.cmpi .eq arg1 c7_i32
  let v1514 : BitVec 32 := Scalar.extui v1513
  let c0_i32_215 : BitVec 32 := 0#32
  let v1515 : BitVec 1 := Scalar.cmpi .ne v1514 c0_i32_215
  v1515

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S4096x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S4096x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== SbIdeal.lean ====
variable {F : FTy → Type} [FloatOps F] [Named F]
def κ : String → Option EReal := fun
  | "cut" => some ⊤
  | _ => none
-- ==== SbRefIdeal.lean ====
abbrev S4096x3072 : Shape := ⟨2, ![4096, 3072]⟩
abbrev S4096x512 : Shape := ⟨2, ![4096, 512]⟩
abbrev S1x4096x8x64 : Shape := ⟨4, ![1, 4096, 8, 64]⟩
abbrev S1x8x4096x64 : Shape := ⟨4, ![1, 8, 4096, 64]⟩
abbrev S1x8x4096x4096 : Shape := ⟨4, ![1, 8, 4096, 4096]⟩
abbrev S_ : Shape := ⟨0, ![]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S1x8x64x4096 : Shape := ⟨4, ![1, 8, 64, 4096]⟩
abbrev S1x4096x512 : Shape := ⟨3, ![1, 4096, 512]⟩

abbrev nBuf : Space → Nat
  | .hbm => 183
  | .vmem => 0
  | .smem => 0
  | _ => 0

abbrev hbmTy0_0 (i : Nat) : BufTy := match i % 128 with
  | 0 => ⟨S4096x3072, .f32⟩
  | 1 => ⟨S4096x512, .f32⟩
  | 2 => ⟨S4096x512, .f32⟩
  | 3 => ⟨S4096x512, .f32⟩
  | 4 => ⟨S4096x512, .f32⟩
  | 5 => ⟨S1x4096x8x64, .f32⟩
  | 6 => ⟨S1x4096x8x64, .f32⟩
  | 7 => ⟨S1x4096x8x64, .f32⟩
  | 8 => ⟨S1x8x4096x64, .f32⟩
  | 9 => ⟨S1x8x4096x64, .f32⟩
  | 10 => ⟨S1x8x4096x64, .f32⟩
  | 11 => ⟨S1x8x4096x4096, .f32⟩
  | 12 => ⟨S_, .f32⟩
  | 13 => ⟨S1x8x4096x4096, .f32⟩
  | 14 => ⟨S1x8x4096x4096, .f32⟩
  | 15 => ⟨S4096, .i32⟩
  | 16 => ⟨S4096x1, .i32⟩
  | 17 => ⟨S4096, .i32⟩
  | 18 => ⟨S1x4096, .i32⟩
  | 19 => ⟨S4096x4096, .i32⟩
  | 20 => ⟨S4096x4096, .i32⟩
  | 21 => ⟨S4096x4096, .i1⟩
  | 22 => ⟨S1x8x4096x4096, .f32⟩
  | 23 => ⟨S1x8x4096x4096, .f32⟩
  | 24 => ⟨S_, .f32⟩
  | 25 => ⟨S1x8x4096x4096, .f32⟩
  | 26 => ⟨S1x8x4096x4096, .f32⟩
  | 27 => ⟨S1x8x4096x4096, .f32⟩
  | 28 => ⟨S1x8x4096x4096, .f32⟩
  | 29 => ⟨S1x8x4096x4096, .i1⟩
  | 30 => ⟨S1x8x4096x4096, .f32⟩
  | 31 => ⟨S1x8x4096x4096, .f32⟩
  | 32 => ⟨S1x8x4096x4096, .f32⟩
  | 33 => ⟨S1x8x4096x4096, .f32⟩
  | 34 => ⟨S1x8x4096x4096, .f32⟩
  | 35 => ⟨S1x8x4096x4096, .f32⟩
  | 36 => ⟨S1x8x4096x4096, .f32⟩
  | 37 => ⟨S1x8x4096x4096, .f32⟩
  | 38 => ⟨S_, .f32⟩
  | 39 => ⟨S1x8x4096x4096, .f32⟩
  | 40 => ⟨S1x8x4096x4096, .i1⟩
  | 41 => ⟨S_, .f32⟩
  | 42 => ⟨S1x8x4096x4096, .f32⟩
  | 43 => ⟨S1x8x4096x4096, .f32⟩
  | 44 => ⟨S_, .f32⟩
  | 45 => ⟨S1x8x4096x4096, .f32⟩
  | 46 => ⟨S1x8x4096x4096, .i1⟩
  | 47 => ⟨S_, .f32⟩
  | 48 => ⟨S1x8x4096x4096, .f32⟩
  | 49 => ⟨S1x8x4096x4096, .f32⟩
  | 50 => ⟨S1x8x4096x4096, .f32⟩
  | 51 => ⟨S1x8x4096x4096, .f32⟩
  | 52 => ⟨S_, .f32⟩
  | 53 => ⟨S_, .f32⟩
  | 54 => ⟨S_, .i1⟩
  | 55 => ⟨S_, .f32⟩
  | 56 => ⟨S_, .f32⟩
  | 57 => ⟨S_, .f32⟩
  | 58 => ⟨S_, .f32⟩
  | 59 => ⟨S1x8x4096x4096, .f32⟩
  | 60 => ⟨S1x8x4096x4096, .i1⟩
  | 61 => ⟨S_, .f32⟩
  | 62 => ⟨S1x8x4096x4096, .f32⟩
  | 63 => ⟨S1x8x4096x4096, .f32⟩
  | 64 => ⟨S1x8x4096x4096, .f32⟩
  | 65 => ⟨S1x8x4096x4096, .f32⟩
  | 66 => ⟨S1x8x4096x4096, .f32⟩
  | 67 => ⟨S_, .f32⟩
  | 68 => ⟨S1x8x4096x4096, .f32⟩
  | 69 => ⟨S1x8x4096x4096, .f32⟩
  | 70 => ⟨S1x8x4096x4096, .f32⟩
  | 71 => ⟨S_, .f32⟩
  | 72 => ⟨S_, .f32⟩
  | 73 => ⟨S1x8x4096x4096, .i1⟩
  | 74 => ⟨S1x8x4096x4096, .f32⟩
  | 75 => ⟨S1x8x4096x4096, .f32⟩
  | 76 => ⟨S_, .f32⟩
  | 77 => ⟨S1x8x4096x4096, .f32⟩
  | 78 => ⟨S_, .f32⟩
  | 79 => ⟨S_, .f32⟩
  | 80 => ⟨S1x8x4096x4096, .f32⟩
  | 81 => ⟨S1x8x4096x4096, .f32⟩
  | 82 => ⟨S1x8x4096x4096, .f32⟩
  | 83 => ⟨S_, .f32⟩
  | 84 => ⟨S1x8x4096x4096, .f32⟩
  | 85 => ⟨S1x8x4096x4096, .f32⟩
  | 86 => ⟨S1x8x4096x4096, .f32⟩
  | 87 => ⟨S1x8x4096x4096, .f32⟩
  | 88 => ⟨S1x8x4096x4096, .i1⟩
  | 89 => ⟨S1x8x4096x4096, .f32⟩
  | 90 => ⟨S1x8x4096x4096, .f32⟩
  | 91 => ⟨S1x8x4096x4096, .f32⟩
  | 92 => ⟨S1x8x4096x4096, .f32⟩
  | 93 => ⟨S1x8x4096x4096, .f32⟩
  | 94 => ⟨S1x8x4096x4096, .f32⟩
  | 95 => ⟨S1x8x4096x4096, .f32⟩
  | 96 => ⟨S1x8x4096x4096, .f32⟩
  | 97 => ⟨S_, .f32⟩
  | 98 => ⟨S1x8x4096x4096, .f32⟩
  | 99 => ⟨S1x8x4096x4096, .i1⟩
  | 100 => ⟨S_, .f32⟩
  | 101 => ⟨S1x8x4096x4096, .f32⟩
  | 102 => ⟨S1x8x4096x4096, .f32⟩
  | 103 => ⟨S_, .f32⟩
  | 104 => ⟨S1x8x4096x4096, .f32⟩
  | 105 => ⟨S1x8x4096x4096, .i1⟩
  | 106 => ⟨S_, .f32⟩
  | 107 => ⟨S1x8x4096x4096, .f32⟩
  | 108 => ⟨S1x8x4096x4096, .f32⟩
  | 109 => ⟨S1x8x4096x4096, .f32⟩
  | 110 => ⟨S1x8x4096x4096, .f32⟩
  | 111 => ⟨S_, .f32⟩
  | 112 => ⟨S_, .f32⟩
  | 113 => ⟨S_, .i1⟩
  | 114 => ⟨S_, .f32⟩
  | 115 => ⟨S_, .f32⟩
  | 116 => ⟨S_, .f32⟩
  | 117 => ⟨S_, .f32⟩
  | 118 => ⟨S1x8x4096x4096, .f32⟩
  | 119 => ⟨S1x8x4096x4096, .i1⟩
  | 120 => ⟨S_, .f32⟩
  | 121 => ⟨S1x8x4096x4096, .f32⟩
  | 122 => ⟨S1x8x4096x4096, .f32⟩
  | 123 => ⟨S1x8x4096x4096, .f32⟩
  | 124 => ⟨S1x8x4096x4096, .f32⟩
  | 125 => ⟨S1x8x4096x4096, .f32⟩
  | 126 => ⟨S_, .f32⟩
  | 127 => ⟨S1x8x4096x4096, .f32⟩
  | _ => ⟨S4096x3072, .f32⟩

abbrev hbmTy0_1 (i : Nat) : BufTy := match i % 128 with
  | 0 => ⟨S1x8x4096x4096, .f32⟩
  | 1 => ⟨S1x8x4096x4096, .f32⟩
  | 2 => ⟨S1x8x4096x4096, .f32⟩
  | 3 => ⟨S1x8x4096x4096, .f32⟩
  | 4 => ⟨S_, .f32⟩
  | 5 => ⟨S_, .f32⟩
  | 6 => ⟨S1x8x4096x4096, .i1⟩
  | 7 => ⟨S1x8x4096x4096, .f32⟩
  | 8 => ⟨S1x8x4096x4096, .f32⟩
  | 9 => ⟨S_, .f32⟩
  | 10 => ⟨S1x8x4096x4096, .f32⟩
  | 11 => ⟨S1x8x64x4096, .f32⟩
  | 12 => ⟨S1x4096x8x64, .f32⟩
  | 13 => ⟨S1x4096x512, .f32⟩
  | 14 => ⟨S4096x512, .f32⟩
  | 15 => ⟨S1x4096x512, .f32⟩
  | 16 => ⟨S1x4096x8x64, .f32⟩
  | 17 => ⟨S1x8x64x4096, .f32⟩
  | 18 => ⟨S1x8x4096x4096, .f32⟩
  | 19 => ⟨S1x8x64x4096, .f32⟩
  | 20 => ⟨S1x8x4096x64, .f32⟩
  | 21 => ⟨S_, .f32⟩
  | 22 => ⟨S1x8x4096x4096, .f32⟩
  | 23 => ⟨S1x8x4096x4096, .f32⟩
  | 24 => ⟨S1x8x4096x4096, .f32⟩
  | 25 => ⟨S1x8x4096x4096, .f32⟩
  | 26 => ⟨S1x8x4096x4096, .f32⟩
  | 27 => ⟨S1x8x4096x4096, .f32⟩
  | 28 => ⟨S1x8x4096x4096, .f32⟩
  | 29 => ⟨S_, .f32⟩
  | 30 => ⟨S_, .f32⟩
  | 31 => ⟨S1x8x4096x4096, .f32⟩
  | 32 => ⟨S1x8x4096x4096, .f32⟩
  | 33 => ⟨S_, .f32⟩
  | 34 => ⟨S1x8x4096x4096, .f32⟩
  | 35 => ⟨S1x8x4096x4096, .f32⟩
  | 36 => ⟨S1x8x4096x4096, .f32⟩
  | 37 => ⟨S1x8x4096x4096, .f32⟩
  | 38 => ⟨S1x8x4096x4096, .f32⟩
  | 39 => ⟨S1x8x4096x4096, .f32⟩
  | 40 => ⟨S1x8x4096x4096, .f32⟩
  | 41 => ⟨S_, .f32⟩
  | 42 => ⟨S1x8x4096x4096, .f32⟩
  | 43 => ⟨S1x8x4096x4096, .f32⟩
  | 44 => ⟨S1x8x4096x64, .f32⟩
  | 45 => ⟨S1x8x4096x64, .f32⟩
  | 46 => ⟨S1x4096x8x64, .f32⟩
  | 47 => ⟨S1x4096x8x64, .f32⟩
  | 48 => ⟨S1x4096x8x64, .f32⟩
  | 49 => ⟨S4096x512, .f32⟩
  | 50 => ⟨S4096x512, .f32⟩
  | 51 => ⟨S4096x512, .f32⟩
  | 52 => ⟨S4096x512, .bf16⟩
  | 53 => ⟨S4096x512, .bf16⟩
  | 54 => ⟨S4096x512, .bf16⟩
  | _ => ⟨S4096x3072, .f32⟩

abbrev hbmTy (i : Nat) : BufTy := match i / 128 with
  | 0 => hbmTy0_0 i
  | 1 => hbmTy0_1 i
  | _ => ⟨S4096x3072, .f32⟩

abbrev bufTy : (tb : Table) → Fin (tcTables nBuf tb) → BufTy
  | .hbm, ⟨i, _⟩ => hbmTy i
  | _, _ => ⟨S4096x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_call0_v0 : Ref sig .tc := ⟨.hbm, 23, rfl⟩
abbrev main_call0_call0_cst : Ref sig .tc := ⟨.hbm, 24, rfl⟩
abbrev main_call0_call0_v0 : Ref sig .tc := ⟨.hbm, 25, rfl⟩
abbrev main_call0_call0_v1 : Ref sig .tc := ⟨.hbm, 26, rfl⟩
abbrev main_call0_call0_v2 : Ref sig .tc := ⟨.hbm, 27, rfl⟩
abbrev main_call0_call0_v3 : Ref sig .tc := ⟨.hbm, 28, rfl⟩
abbrev main_call0_call0_v4 : Ref sig .tc := ⟨.hbm, 29, rfl⟩
abbrev main_call0_call0_v5 : Ref sig .tc := ⟨.hbm, 30, rfl⟩
abbrev main_call0_call0_v6 : Ref sig .tc := ⟨.hbm, 31, rfl⟩
abbrev main_call0_call0_v7 : Ref sig .tc := ⟨.hbm, 32, rfl⟩
abbrev main_call0_call0_v8 : Ref sig .tc := ⟨.hbm, 33, rfl⟩
abbrev main_call0_call0_v9 : Ref sig .tc := ⟨.hbm, 34, rfl⟩
abbrev main_call0_call0_v10 : Ref sig .tc := ⟨.hbm, 35, rfl⟩
abbrev main_call0_call0_v11 : Ref sig .tc := ⟨.hbm, 36, rfl⟩
abbrev main_call0_v1_0 : Ref sig .tc := ⟨.hbm, 37, rfl⟩
abbrev main_call0_call0_cst_0 : Ref sig .tc := ⟨.hbm, 38, rfl⟩
abbrev main_call0_call0_v13 : Ref sig .tc := ⟨.hbm, 39, rfl⟩
abbrev main_call0_call0_v14 : Ref sig .tc := ⟨.hbm, 40, rfl⟩
abbrev main_call0_call0_cst_1 : Ref sig .tc := ⟨.hbm, 41, rfl⟩
abbrev main_call0_call0_v15 : Ref sig .tc := ⟨.hbm, 42, rfl⟩
abbrev main_call0_call0_v16 : Ref sig .tc := ⟨.hbm, 43, rfl⟩
abbrev main_call0_call0_cst_2 : Ref sig .tc := ⟨.hbm, 44, rfl⟩
abbrev main_call0_call0_v17 : Ref sig .tc := ⟨.hbm, 45, rfl⟩
abbrev main_call0_call0_v18 : Ref sig .tc := ⟨.hbm, 46, rfl⟩
abbrev main_call0_call0_cst_3 : Ref sig .tc := ⟨.hbm, 47, rfl⟩
abbrev main_call0_call0_v19 : Ref sig .tc := ⟨.hbm, 48, rfl⟩
abbrev main_call0_call0_v20 : Ref sig .tc := ⟨.hbm, 49, rfl⟩
abbrev main_call0_call0_v21 : Ref sig .tc := ⟨.hbm, 50, rfl⟩
abbrev main_v20_1 : Ref sig .tc := ⟨.hbm, 51, rfl⟩
abbrev main_call0_call0_cst_4 : Ref sig .tc := ⟨.hbm, 52, rfl⟩
abbrev main_call0_call0_cst_5 : Ref sig .tc := ⟨.hbm, 53, rfl⟩
abbrev main_call0_call0_v23 : Ref sig .tc := ⟨.hbm, 54, rfl⟩
abbrev main_call0_call0_cst_6 : Ref sig .tc := ⟨.hbm, 55, rfl⟩
abbrev main_call0_call0_cst_7 : Ref sig .tc := ⟨.hbm, 56, rfl⟩
abbrev main_call0_call0_v24 : Ref sig .tc := ⟨.hbm, 57, rfl⟩
abbrev main_call0_call0_cst_8 : Ref sig .tc := ⟨.hbm, 58, rfl⟩
abbrev main_call0_call0_v25 : Ref sig .tc := ⟨.hbm, 59, rfl⟩
abbrev main_call0_call0_v26 : Ref sig .tc := ⟨.hbm, 60, rfl⟩
abbrev main_call0_call0_cst_9 : Ref sig .tc := ⟨.hbm, 61, rfl⟩
abbrev main_call0_call0_v27 : Ref sig .tc := ⟨.hbm, 62, rfl⟩
abbrev main_call0_call0_v28 : Ref sig .tc := ⟨.hbm, 63, rfl⟩
abbrev main_call0_call0_v29 : Ref sig .tc := ⟨.hbm, 64, rfl⟩
abbrev main_call0_call0_v30 : Ref sig .tc := ⟨.hbm, 65, rfl⟩
abbrev main_call0_call0_v31 : Ref sig .tc := ⟨.hbm, 66, rfl⟩
abbrev main_call0_call0_cst_10 : Ref sig .tc := ⟨.hbm, 67, rfl⟩
abbrev main_call0_call0_v32 : Ref sig .tc := ⟨.hbm, 68, rfl⟩
abbrev main_v20_2 : Ref sig .tc := ⟨.hbm, 69, rfl⟩
abbrev main_v20_0 : Ref sig .tc := ⟨.hbm, 70, rfl⟩
abbrev main_cst_0 : Ref sig .tc := ⟨.hbm, 71, rfl⟩
abbrev main_call1_v0 : Ref sig .tc := ⟨.hbm, 72, rfl⟩
abbrev main_v21_1 : Ref sig .tc := ⟨.hbm, 73, rfl⟩
abbrev main_call1_v2 : Ref sig .tc := ⟨.hbm, 74, rfl⟩
abbrev main_v21_0 : Ref sig .tc := ⟨.hbm, 75, rfl⟩
abbrev main_call1_cst : Ref sig .tc := ⟨.hbm, 76, rfl⟩
abbrev main_v21_2 : Ref sig .tc := ⟨.hbm, 77, rfl⟩
abbrev main_call2_cst : Ref sig .tc := ⟨.hbm, 78, rfl⟩
abbrev main_call2_v0 : Ref sig .tc := ⟨.hbm, 79, rfl⟩
abbrev main_v22 : Ref sig .tc := ⟨.hbm, 80, rfl⟩
abbrev main_v23 : Ref sig .tc := ⟨.hbm, 81, rfl⟩
abbrev main_call3_v0 : Ref sig .tc := ⟨.hbm, 82, rfl⟩
abbrev main_call3_call0_cst : Ref sig .tc := ⟨.hbm, 83, rfl⟩
abbrev main_call3_call0_v0 : Ref sig .tc := ⟨.hbm, 84, rfl⟩
abbrev main_call3_call0_v1 : Ref sig .tc := ⟨.hbm, 85, rfl⟩
abbrev main_call3_call0_v2 : Ref sig .tc := ⟨.hbm, 86, rfl⟩
abbrev main_call3_call0_v3 : Ref sig .tc := ⟨.hbm, 87, rfl⟩
abbrev main_call3_call0_v4 : Ref sig .tc := ⟨.hbm, 88, rfl⟩
abbrev main_call3_call0_v5 : Ref sig .tc := ⟨.hbm, 89, rfl⟩
abbrev main_call3_call0_v6 : Ref sig .tc := ⟨.hbm, 90, rfl⟩
abbrev main_call3_call0_v7 : Ref sig .tc := ⟨.hbm, 91, rfl⟩
abbrev main_call3_call0_v8 : Ref sig .tc := ⟨.hbm, 92, rfl⟩
abbrev main_call3_call0_v9 : Ref sig .tc := ⟨.hbm, 93, rfl⟩
abbrev main_call3_call0_v10 : Ref sig .tc := ⟨.hbm, 94, rfl⟩
abbrev main_call3_call0_v11 : Ref sig .tc := ⟨.hbm, 95, rfl⟩
abbrev main_call3_v1_0 : Ref sig .tc := ⟨.hbm, 96, rfl⟩
abbrev main_call3_call0_cst_0 : Ref sig .tc := ⟨.hbm, 97, rfl⟩
abbrev main_call3_call0_v13 : Ref sig .tc := ⟨.hbm, 98, rfl⟩
abbrev main_call3_call0_v14 : Ref sig .tc := ⟨.hbm, 99, rfl⟩
abbrev main_call3_call0_cst_1 : Ref sig .tc := ⟨.hbm, 100, rfl⟩
abbrev main_call3_call0_v15 : Ref sig .tc := ⟨.hbm, 101, rfl⟩
abbrev main_call3_call0_v16 : Ref sig .tc := ⟨.hbm, 102, rfl⟩
abbrev main_call3_call0_cst_2 : Ref sig .tc := ⟨.hbm, 103, rfl⟩
abbrev main_call3_call0_v17 : Ref sig .tc := ⟨.hbm, 104, rfl⟩
abbrev main_call3_call0_v18 : Ref sig .tc := ⟨.hbm, 105, rfl⟩
abbrev main_call3_call0_cst_3 : Ref sig .tc := ⟨.hbm, 106, rfl⟩
abbrev main_call3_call0_v19 : Ref sig .tc := ⟨.hbm, 107, rfl⟩
abbrev main_call3_call0_v20 : Ref sig .tc := ⟨.hbm, 108, rfl⟩
abbrev main_call3_call0_v21 : Ref sig .tc := ⟨.hbm, 109, rfl⟩
abbrev main_v24_1 : Ref sig .tc := ⟨.hbm, 110, rfl⟩
abbrev main_call3_call0_cst_4 : Ref sig .tc := ⟨.hbm, 111, rfl⟩
abbrev main_call3_call0_cst_5 : Ref sig .tc := ⟨.hbm, 112, rfl⟩
abbrev main_call3_call0_v23 : Ref sig .tc := ⟨.hbm, 113, rfl⟩
abbrev main_call3_call0_cst_6 : Ref sig .tc := ⟨.hbm, 114, rfl⟩
abbrev main_call3_call0_cst_7 : Ref sig .tc := ⟨.hbm, 115, rfl⟩
abbrev main_call3_call0_v24 : Ref sig .tc := ⟨.hbm, 116, rfl⟩
abbrev main_call3_call0_cst_8 : Ref sig .tc := ⟨.hbm, 117, rfl⟩
abbrev main_call3_call0_v25 : Ref sig .tc := ⟨.hbm, 118, rfl⟩
abbrev main_call3_call0_v26 : Ref sig .tc := ⟨.hbm, 119, rfl⟩
abbrev main_call3_call0_cst_9 : Ref sig .tc := ⟨.hbm, 120, rfl⟩
abbrev main_call3_call0_v27 : Ref sig .tc := ⟨.hbm, 121, rfl⟩
abbrev main_call3_call0_v28 : Ref sig .tc := ⟨.hbm, 122, rfl⟩
abbrev main_call3_call0_v29 : Ref sig .tc := ⟨.hbm, 123, rfl⟩
abbrev main_call3_call0_v30 : Ref sig .tc := ⟨.hbm, 124, rfl⟩
abbrev main_call3_call0_v31 : Ref sig .tc := ⟨.hbm, 125, rfl⟩
abbrev main_call3_call0_cst_10 : Ref sig .tc := ⟨.hbm, 126, rfl⟩
abbrev main_call3_call0_v32 : Ref sig .tc := ⟨.hbm, 127, rfl⟩
abbrev main_v24_2 : Ref sig .tc := ⟨.hbm, 128, rfl⟩
abbrev main_v24_0 : Ref sig .tc := ⟨.hbm, 129, rfl⟩
abbrev main_v25 : Ref sig .tc := ⟨.hbm, 130, rfl⟩
abbrev main_v26 : Ref sig .tc := ⟨.hbm, 131, rfl⟩
abbrev main_cst_1 : Ref sig .tc := ⟨.hbm, 132, rfl⟩
abbrev main_call4_v0 : Ref sig .tc := ⟨.hbm, 133, rfl⟩
abbrev main_v27_1 : Ref sig .tc := ⟨.hbm, 134, rfl⟩
abbrev main_call4_v2 : Ref sig .tc := ⟨.hbm, 135, rfl⟩
abbrev main_v27_0 : Ref sig .tc := ⟨.hbm, 136, rfl⟩
abbrev main_call4_cst : Ref sig .tc := ⟨.hbm, 137, rfl⟩
abbrev main_v27_2 : Ref sig .tc := ⟨.hbm, 138, rfl⟩
abbrev main_v28 : Ref sig .tc := ⟨.hbm, 139, rfl⟩
abbrev main_v29 : Ref sig .tc := ⟨.hbm, 140, rfl⟩
abbrev main_v30 : Ref sig .tc := ⟨.hbm, 141, rfl⟩
abbrev main_v31 : Ref sig .tc := ⟨.hbm, 142, rfl⟩
abbrev main_v32 : Ref sig .tc := ⟨.hbm, 143, rfl⟩
abbrev main_v33 : Ref sig .tc := ⟨.hbm, 144, rfl⟩
abbrev main_v34 : Ref sig .tc := ⟨.hbm, 145, rfl⟩
abbrev main_v35 : Ref sig .tc := ⟨.hbm, 146, rfl⟩
abbrev main_v36 : Ref sig .tc := ⟨.hbm, 147, rfl⟩
abbrev main_v37 : Ref sig .tc := ⟨.hbm, 148, rfl⟩
abbrev main_call5_cst : Ref sig .tc := ⟨.hbm, 149, rfl⟩
abbrev main_call5_v0 : Ref sig .tc := ⟨.hbm, 150, rfl⟩
abbrev main_v38 : Ref sig .tc := ⟨.hbm, 151, rfl⟩
abbrev main_v39 : Ref sig .tc := ⟨.hbm, 152, rfl⟩
abbrev main_call6_v0 : Ref sig .tc := ⟨.hbm, 153, rfl⟩
abbrev main_call6_v1 : Ref sig .tc := ⟨.hbm, 154, rfl⟩
abbrev main_v40 : Ref sig .tc := ⟨.hbm, 155, rfl⟩
abbrev main_v41 : Ref sig .tc := ⟨.hbm, 156, rfl⟩
abbrev main_call7_cst : Ref sig .tc := ⟨.hbm, 157, rfl⟩
abbrev main_call7_v0 : Ref sig .tc := ⟨.hbm, 158, rfl⟩
abbrev main_v42 : Ref sig .tc := ⟨.hbm, 159, rfl⟩
abbrev main_v43 : Ref sig .tc := ⟨.hbm, 160, rfl⟩
abbrev main_call8_cst : Ref sig .tc := ⟨.hbm, 161, rfl⟩
abbrev main_call8_v0 : Ref sig .tc := ⟨.hbm, 162, rfl⟩
abbrev main_v44 : Ref sig .tc := ⟨.hbm, 163, rfl⟩
abbrev main_call9_v0 : Ref sig .tc := ⟨.hbm, 164, rfl⟩
abbrev main_call9_v1 : Ref sig .tc := ⟨.hbm, 165, rfl⟩
abbrev main_v45 : Ref sig .tc := ⟨.hbm, 166, rfl⟩
abbrev main_v46 : Ref sig .tc := ⟨.hbm, 167, rfl⟩
abbrev main_v47 : Ref sig .tc := ⟨.hbm, 168, rfl⟩
abbrev main_cst_2 : Ref sig .tc := ⟨.hbm, 169, rfl⟩
abbrev main_v48 : Ref sig .tc := ⟨.hbm, 170, rfl⟩
abbrev main_v49 : Ref sig .tc := ⟨.hbm, 171, rfl⟩
abbrev main_v50 : Ref sig .tc := ⟨.hbm, 172, rfl⟩
abbrev main_v51 : Ref sig .tc := ⟨.hbm, 173, rfl⟩
abbrev main_v52 : Ref sig .tc := ⟨.hbm, 174, rfl⟩
abbrev main_v53 : Ref sig .tc := ⟨.hbm, 175, rfl⟩
abbrev main_v54 : Ref sig .tc := ⟨.hbm, 176, rfl⟩
abbrev main_v55 : Ref sig .tc := ⟨.hbm, 177, rfl⟩
abbrev main_v56 : Ref sig .tc := ⟨.hbm, 178, rfl⟩
abbrev main_v57 : Ref sig .tc := ⟨.hbm, 179, rfl⟩
abbrev main_v58 : Ref sig .tc := ⟨.hbm, 180, rfl⟩
abbrev main_v59 : Ref sig .tc := ⟨.hbm, 181, rfl⟩
abbrev main_v60 : Ref sig .tc := ⟨.hbm, 182, rfl⟩

abbrev nD : Nat := 1
abbrev τ : Topo := Topo.v7x

variable {F : FTy → Type} [FloatOps F]
-- ==== Rel.lean ====
abbrev S8x5x128x128 : Shape := ⟨4, ![8, 5, 128, 128]⟩
abbrev S8x640 : Shape := ⟨2, ![8, 640]⟩
abbrev S128x128 : Shape := ⟨2, ![128, 128]⟩
abbrev S128x640 : Shape := ⟨2, ![128, 640]⟩
abbrev S1x1x128x128 : Shape := ⟨4, ![1, 1, 128, 128]⟩
abbrev S128 : Shape := ⟨1, ![128]⟩
abbrev S1x128 : Shape := ⟨2, ![1, 128]⟩
abbrev S8x128 : Shape := ⟨2, ![8, 128]⟩

abbrev nBuf : Space → Nat
  | .hbm => 2
  | .vmem => 2
  | .smem => 0
  | _ => 0

abbrev bufTy : (tb : Table) → Fin (tcTables nBuf tb) → BufTy
  | .hbm, ⟨0, _⟩ => ⟨S8x5x128x128, .f32⟩
  | .hbm, ⟨1, _⟩ => ⟨S8x640, .f32⟩
  | .local _ .vmem, ⟨0, _⟩ => ⟨S8x5x128x128, .f32⟩
  | .local _ .vmem, ⟨1, _⟩ => ⟨S8x640, .f32⟩
  | _, _ => ⟨S8x5x128x128, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S8x5x128x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x640 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== RelRefIdeal.lean ====
abbrev S8x5x128x128 : Shape := ⟨4, ![8, 5, 128, 128]⟩
abbrev S_ : Shape := ⟨0, ![]⟩
abbrev S8x513 : Shape := ⟨2, ![8, 513]⟩
abbrev S5 : Shape := ⟨1, ![5]⟩
abbrev S5x1x1 : Shape := ⟨3, ![5, 1, 1]⟩
abbrev S128 : Shape := ⟨1, ![128]⟩
abbrev S1x128x1 : Shape := ⟨3, ![1, 128, 1]⟩
abbrev S1x1x128 : Shape := ⟨3, ![1, 1, 128]⟩
abbrev S5x128x1 : Shape := ⟨3, ![5, 128, 1]⟩
abbrev S5x128x128 : Shape := ⟨3, ![5, 128, 128]⟩
abbrev S5x128x128x1 : Shape := ⟨4, ![5, 128, 128, 1]⟩
abbrev S8x640 : Shape := ⟨2, ![8, 640]⟩

abbrev nBuf : Space → Nat
  | .hbm => 44
  | .vmem => 0
  | .smem => 0
  | _ => 0

abbrev bufTy : (tb : Table) → Fin (tcTables nBuf tb) → BufTy
  | .hbm, ⟨0, _⟩ => ⟨S8x5x128x128, .f32⟩
  | .hbm, ⟨1, _⟩ => ⟨S_, .f32⟩
  | .hbm, ⟨2, _⟩ => ⟨S8x513, .f32⟩
  | .hbm, ⟨3, _⟩ => ⟨S5, .i32⟩
  | .hbm, ⟨4, _⟩ => ⟨S5x1x1, .i32⟩
  | .hbm, ⟨5, _⟩ => ⟨S128, .i32⟩
  | .hbm, ⟨6, _⟩ => ⟨S1x128x1, .i32⟩
  | .hbm, ⟨7, _⟩ => ⟨S128, .i32⟩
  | .hbm, ⟨8, _⟩ => ⟨S1x1x128, .i32⟩
  | .hbm, ⟨9, _⟩ => ⟨S_, .i32⟩
  | .hbm, ⟨10, _⟩ => ⟨S5x1x1, .i32⟩
  | .hbm, ⟨11, _⟩ => ⟨S5x1x1, .i32⟩
  | .hbm, ⟨12, _⟩ => ⟨S5x128x1, .i32⟩
  | .hbm, ⟨13, _⟩ => ⟨S5x128x1, .i32⟩
  | .hbm, ⟨14, _⟩ => ⟨S5x128x1, .i32⟩
  | .hbm, ⟨15, _⟩ => ⟨S5x128x128, .i32⟩
  | .hbm, ⟨16, _⟩ => ⟨S5x128x128, .i32⟩
  | .hbm, ⟨17, _⟩ => ⟨S5x128x128, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S5x128x128, .i32⟩
  | .hbm, ⟨22, _⟩ => ⟨S5x128x128, .i32⟩
  | .hbm, ⟨23, _⟩ => ⟨S_, .i32⟩
  | .hbm, ⟨24, _⟩ => ⟨S5x128x128, .i32⟩
  | .hbm, ⟨25, _⟩ => ⟨S5x128x128, .i32⟩
  | .hbm, ⟨26, _⟩ => ⟨S_, .i32⟩
  | .hbm, ⟨27, _⟩ => ⟨S5x128x128, .i32⟩
  | .hbm, ⟨28, _⟩ => ⟨S5x128x128, .i32⟩
  | .hbm, ⟨29, _⟩ => ⟨S_, .i32⟩
  | .hbm, ⟨30, _⟩ => ⟨S5x128x128, .i32⟩
  | .hbm, ⟨31, _⟩ => ⟨S5x128x128, .i1⟩
  | .hbm, ⟨32, _⟩ => ⟨S_, .i32⟩
  | .hbm, ⟨33, _⟩ => ⟨S5x128x128, .i32⟩
  | .hbm, ⟨34, _⟩ => ⟨S5x128x128, .i32⟩
  | .hbm, ⟨35, _⟩ => ⟨S5x128x128, .i32⟩
  | .hbm, ⟨36, _⟩ => ⟨S5x128x128x1, .i32⟩
  | .hbm, ⟨37, _⟩ => ⟨S8x5x128x128, .f32⟩
  | .hbm, ⟨38, _⟩ => ⟨S_, .f32⟩
  | .hbm, ⟨39, _⟩ => ⟨S8x513, .f32⟩
  | .hbm, ⟨40, _⟩ => ⟨S8x513, .f32⟩
  | .hbm, ⟨41, _⟩ => ⟨S_, .i32⟩
  | .hbm, ⟨42, _⟩ => ⟨S_, .f32⟩
  | .hbm, ⟨43, _⟩ => ⟨S8x640, .f32⟩
  | _, _ => ⟨S8x5x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_c : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_c_0 : Ref sig .tc := ⟨.hbm, 18, rfl⟩
abbrev main_c_1 : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_v15 : Ref sig .tc := ⟨.hbm, 25, rfl⟩
abbrev main_c_2 : Ref sig .tc := ⟨.hbm, 26, rfl⟩
abbrev main_v16 : Ref sig .tc := ⟨.hbm, 27, rfl⟩
abbrev main_v17 : Ref sig .tc := ⟨.hbm, 28, rfl⟩
abbrev main_c_3 : Ref sig .tc := ⟨.hbm, 29, rfl⟩
abbrev main_v18 : Ref sig .tc := ⟨.hbm, 30, rfl⟩
abbrev main_v19 : Ref sig .tc := ⟨.hbm, 31, rfl⟩
abbrev main_c_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_5 : Ref sig .tc := ⟨.hbm, 38, rfl⟩
abbrev main_v25 : Ref sig .tc := ⟨.hbm, 39, rfl⟩
abbrev main_v26 : Ref sig .tc := ⟨.hbm, 40, rfl⟩
abbrev main_c_6 : Ref sig .tc := ⟨.hbm, 41, rfl⟩
abbrev main_call1_v0 : Ref sig .tc := ⟨.hbm, 42, rfl⟩
abbrev main_v27 : Ref sig .tc := ⟨.hbm, 43, rfl⟩

abbrev nD : Nat := 1
abbrev τ : Topo := Topo.v7x

variable {F : FTy → Type} [FloatOps F]
-- ==== Mlp.lean ====
abbrev S4096x1024 : Shape := ⟨2, ![4096, 1024]⟩
abbrev S4096x512 : Shape := ⟨2, ![4096, 512]⟩
abbrev S4096x2048 : Shape := ⟨2, ![4096, 2048]⟩
abbrev S2048 : Shape := ⟨1, ![2048]⟩
abbrev S512x1024 : Shape := ⟨2, ![512, 1024]⟩
abbrev S1024x1024 : Shape := ⟨2, ![1024, 1024]⟩
abbrev S1024 : Shape := ⟨1, ![1024]⟩
abbrev S1024x4096 : Shape := ⟨2, ![1024, 4096]⟩
abbrev S512x8x128 : Shape := ⟨3, ![512, 8, 128]⟩
abbrev S8x512x128 : Shape := ⟨3, ![8, 512, 128]⟩
abbrev S1024x8x512 : Shape := ⟨3, ![1024, 8, 512]⟩
abbrev S8x1024x512 : Shape := ⟨3, ![8, 1024, 512]⟩
abbrev S1x2048 : Shape := ⟨2, ![1, 2048]⟩
abbrev S1x1024 : Shape := ⟨2, ![1, 1024]⟩
abbrev S4096x4096 : Shape := ⟨2, ![4096, 4096]⟩
abbrev S1x1 : Shape := ⟨2, ![1, 1]⟩
abbrev S256x1024 : Shape := ⟨2, ![256, 1024]⟩
abbrev S256x512 : Shape := ⟨2, ![256, 512]⟩
abbrev S256x2048 : Shape := ⟨2, ![256, 2048]⟩
abbrev S256x4096 : Shape := ⟨2, ![256, 4096]⟩
abbrev S9 : Shape := ⟨1, ![9]⟩
abbrev S17 : Shape := ⟨1, ![17]⟩
abbrev S1 : Shape := ⟨1, ![1]⟩
abbrev S_ : Shape := ⟨0, ![]⟩
abbrev S1024x512 : Shape := ⟨2, ![1024, 512]⟩
abbrev S1x1024x512 : Shape := ⟨3, ![1, 1024, 512]⟩
abbrev S512x128 : Shape := ⟨2, ![512, 128]⟩
abbrev S1x512x128 : Shape := ⟨3, ![1, 512, 128]⟩
abbrev S256 : Shape := ⟨1, ![256]⟩
abbrev S256x1 : Shape := ⟨2, ![256, 1]⟩

abbrev nBuf : Space → Nat
  | .hbm => 42
  | .vmem => 36
  | .smem => 0
  | _ => 0

abbrev bufTy : (tb : Table) → Fin (tcTables nBuf tb) → BufTy
  | .hbm, ⟨0, _⟩ => ⟨S4096x1024, .f32⟩
  | .hbm, ⟨1, _⟩ => ⟨S4096x512, .f32⟩
  | .hbm, ⟨2, _⟩ => ⟨S4096x512, .f32⟩
  | .hbm, ⟨3, _⟩ => ⟨S4096x2048, .f32⟩
  | .hbm, ⟨4, _⟩ => ⟨S2048, .f32⟩
  | .hbm, ⟨5, _⟩ => ⟨S512x1024, .f32⟩
  | .hbm, ⟨6, _⟩ => ⟨S512x1024, .f32⟩
  | .hbm, ⟨7, _⟩ => ⟨S1024x1024, .f32⟩
  | .hbm, ⟨8, _⟩ => ⟨S1024, .f32⟩
  | .hbm, ⟨9, _⟩ => ⟨S1024, .f32⟩
  | .hbm, ⟨10, _⟩ => ⟨S1024x4096, .f32⟩
  | .hbm, ⟨11, _⟩ => ⟨S4096x1024, .f32⟩
  | .hbm, ⟨12, _⟩ => ⟨S1024, .f32⟩
  | .hbm, ⟨13, _⟩ => ⟨S1024, .f32⟩
  | .hbm, ⟨14, _⟩ => ⟨S4096x1024, .f32⟩
  | .hbm, ⟨15, _⟩ => ⟨S4096x512, .bf16⟩
  | .hbm, ⟨16, _⟩ => ⟨S512x1024, .bf16⟩
  | .hbm, ⟨17, _⟩ => ⟨S512x8x128, .bf16⟩
  | .hbm, ⟨18, _⟩ => ⟨S8x512x128, .bf16⟩
  | .hbm, ⟨19, _⟩ => ⟨S512x1024, .bf16⟩
  | .hbm, ⟨20, _⟩ => ⟨S512x8x128, .bf16⟩
  | .hbm, ⟨21, _⟩ => ⟨S8x512x128, .bf16⟩
  | .hbm, ⟨22, _⟩ => ⟨S1024x1024, .bf16⟩
  | .hbm, ⟨23, _⟩ => ⟨S1024x4096, .bf16⟩
  | .hbm, ⟨24, _⟩ => ⟨S1024x8x512, .bf16⟩
  | .hbm, ⟨25, _⟩ => ⟨S8x1024x512, .bf16⟩
  | .hbm, ⟨26, _⟩ => ⟨S4096x1024, .bf16⟩
  | .hbm, ⟨27, _⟩ => ⟨S1x2048, .f32⟩
  | .hbm, ⟨28, _⟩ => ⟨S1x1024, .f32⟩
  | .hbm, ⟨29, _⟩ => ⟨S1x1024, .f32⟩
  | .hbm, ⟨30, _⟩ => ⟨S1x1024, .f32⟩
  | .hbm, ⟨31, _⟩ => ⟨S1x1024, .f32⟩
  | .hbm, ⟨32, _⟩ => ⟨S4096x4096, .bf16⟩
  | .hbm, ⟨33, _⟩ => ⟨S4096x1024, .bf16⟩
  | .hbm, ⟨34, _⟩ => ⟨S4096x4096, .bf16⟩
  | .hbm, ⟨35, _⟩ => ⟨S4096x1024, .bf16⟩
  | .hbm, ⟨36, _⟩ => ⟨S4096x1024, .f32⟩
  | .hbm, ⟨37, _⟩ => ⟨S1x1, .f32⟩
  | .hbm, ⟨38, _⟩ => ⟨S1x1024, .f32⟩
  | .hbm, ⟨39, _⟩ => ⟨S1x1024, .f32⟩
  | .hbm, ⟨40, _⟩ => ⟨S1x1024, .f32⟩
  | .hbm, ⟨41, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x512, .f32⟩
  | .local _ .vmem, ⟨3, _⟩ => ⟨S256x512, .f32⟩
  | .local _ .vmem, ⟨4, _⟩ => ⟨S256x512, .bf16⟩
  | .local _ .vmem, ⟨5, _⟩ => ⟨S256x512, .bf16⟩
  | .local _ .vmem, ⟨6, _⟩ => ⟨S256x2048, .f32⟩
  | .local _ .vmem, ⟨7, _⟩ => ⟨S256x2048, .f32⟩
  | .local _ .vmem, ⟨8, _⟩ => ⟨S1x2048, .f32⟩
  | .local _ .vmem, ⟨9, _⟩ => ⟨S256x1024, .f32⟩
  | .local _ .vmem, ⟨10, _⟩ => ⟨S256x1024, .f32⟩
  | .local _ .vmem, ⟨11, _⟩ => ⟨S1x1024, .f32⟩
  | .local _ .vmem, ⟨12, _⟩ => ⟨S1x1024, .f32⟩
  | .local _ .vmem, ⟨13, _⟩ => ⟨S1x1024, .f32⟩
  | .local _ .vmem, ⟨14, _⟩ => ⟨S1x1024, .f32⟩
  | .local _ .vmem, ⟨15, _⟩ => ⟨S256x4096, .bf16⟩
  | .local _ .vmem, ⟨16, _⟩ => ⟨S256x4096, .bf16⟩
  | .local _ .vmem, ⟨17, _⟩ => ⟨S256x1024, .bf16⟩
  | .local _ .vmem, ⟨18, _⟩ => ⟨S256x1024, .bf16⟩
  | .local _ .vmem, ⟨19, _⟩ => ⟨S256x4096, .bf16⟩
  | .local _ .vmem, ⟨20, _⟩ => ⟨S256x4096, .bf16⟩
  | .local _ .vmem, ⟨21, _⟩ => ⟨S256x1024, .bf16⟩
  | .local _ .vmem, ⟨22, _⟩ => ⟨S256x1024, .bf16⟩
  | .local _ .vmem, ⟨23, _⟩ => ⟨S256x1024, .f32⟩
  | .local _ .vmem, ⟨24, _⟩ => ⟨S256x1024, .f32⟩
  | .local _ .vmem, ⟨25, _⟩ => ⟨S1x1, .f32⟩
  | .local _ .vmem, ⟨26, _⟩ => ⟨S1x1024, .f32⟩
  | .local _ .vmem, ⟨27, _⟩ => ⟨S1x1024, .f32⟩
  | .local _ .vmem, ⟨28, _⟩ => ⟨S1x1024, .f32⟩
  | .local _ .vmem, ⟨29, _⟩ => ⟨S1x1024, .f32⟩
  | .local _ .vmem, ⟨30, _⟩ => ⟨S1024x4096, .bf16⟩
  | .local _ .vmem, ⟨31, _⟩ => ⟨S4096x1024, .bf16⟩
  | .local _ .vmem, ⟨32, _⟩ => ⟨S256x4096, .f32⟩
  | .local _ .vmem, ⟨33, _⟩ => ⟨S512x1024, .bf16⟩
  | .local _ .vmem, ⟨34, _⟩ => ⟨S512x1024, .bf16⟩
  | .local _ .vmem, ⟨35, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 56 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | _ => false

abbrev sig : RefSig :=
  ofTc nBuf bufTy 0 56 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17_0 : Ref sig .tc := ⟨.hbm, 32, rfl⟩
abbrev main_v17_1 : Ref sig .tc := ⟨.hbm, 33, rfl⟩
abbrev main_v17_2 : Ref sig .tc := ⟨.hbm, 34, rfl⟩
abbrev main_v17_3 : Ref sig .tc := ⟨.hbm, 35, rfl⟩
abbrev main_v17_4 : Ref sig .tc := ⟨.hbm, 36, rfl⟩
abbrev main_v17_5 : Ref sig .tc := ⟨.hbm, 37, rfl⟩
abbrev main_v17_6 : Ref sig .tc := ⟨.hbm, 38, rfl⟩
abbrev main_v17_7 : Ref sig .tc := ⟨.hbm, 39, rfl⟩
abbrev main_v17_8 : Ref sig .tc := ⟨.hbm, 40, rfl⟩
abbrev main_v17_9 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg16_0 : Ref sig .tc := ⟨.vmem, 26, rfl⟩
abbrev cc0_stg17_0 : Ref sig .tc := ⟨.vmem, 27, rfl⟩
abbrev cc0_stg18_0 : Ref sig .tc := ⟨.vmem, 28, rfl⟩
abbrev cc0_stg19_0 : Ref sig .tc := ⟨.vmem, 29, rfl⟩
abbrev cc0_scratch0 : Ref sig .tc := ⟨.vmem, 30, rfl⟩
abbrev cc0_scratch1 : Ref sig .tc := ⟨.vmem, 31, rfl⟩
abbrev cc0_scratch3 : Ref sig .tc := ⟨.vmem, 32, rfl⟩
abbrev cc0_scratch4 : Ref sig .tc := ⟨.vmem, 33, rfl⟩
abbrev cc0_scratch5 : Ref sig .tc := ⟨.vmem, 34, rfl⟩
abbrev cc0_scratch6 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem16_0 : DmaSem sig := 26
abbrev cc0_sem17_0 : DmaSem sig := 27
abbrev cc0_sem18_0 : DmaSem sig := 28
abbrev cc0_sem19_0 : DmaSem sig := 29

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x4096 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x4096 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S1x1 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]
-- ==== MlpRefIdeal.lean ====
abbrev S4096x1024 : Shape := ⟨2, ![4096, 1024]⟩
abbrev S4096x512 : Shape := ⟨2, ![4096, 512]⟩
abbrev S4096x2048 : Shape := ⟨2, ![4096, 2048]⟩
abbrev S2048 : Shape := ⟨1, ![2048]⟩
abbrev S512x1024 : Shape := ⟨2, ![512, 1024]⟩
abbrev S1024x1024 : Shape := ⟨2, ![1024, 1024]⟩
abbrev S1024 : Shape := ⟨1, ![1024]⟩
abbrev S1024x4096 : Shape := ⟨2, ![1024, 4096]⟩
abbrev S_ : Shape := ⟨0, ![]⟩
abbrev S1x2048 : Shape := ⟨2, ![1, 2048]⟩
abbrev S4096x4096 : Shape := ⟨2, ![4096, 4096]⟩
abbrev S4096 : Shape := ⟨1, ![4096]⟩
abbrev S4096x1 : Shape := ⟨2, ![4096, 1]⟩
abbrev S1x1024 : Shape := ⟨2, ![1, 1024]⟩
abbrev S1x1 : Shape := ⟨2, ![1, 1]⟩

abbrev nBuf : Space → Nat
  | .hbm => 264
  | .vmem => 0
  | .smem => 0
  | _ => 0

abbrev hbmTy0_0 (i : Nat) : BufTy := match i % 128 with
  | 0 => ⟨S4096x1024, .f32⟩
  | 1 => ⟨S4096x512, .f32⟩
  | 2 => ⟨S4096x512, .f32⟩
  | 3 => ⟨S4096x2048, .f32⟩
  | 4 => ⟨S2048, .f32⟩
  | 5 => ⟨S512x1024, .f32⟩
  | 6 => ⟨S512x1024, .f32⟩
  | 7 => ⟨S1024x1024, .f32⟩
  | 8 => ⟨S1024, .f32⟩
  | 9 => ⟨S1024, .f32⟩
  | 10 => ⟨S1024x4096, .f32⟩
  | 11 => ⟨S4096x1024, .f32⟩
  | 12 => ⟨S1024, .f32⟩
  | 13 => ⟨S1024, .f32⟩
  | 14 => ⟨S4096x1024, .f32⟩
  | 15 => ⟨S_, .f32⟩
  | 16 => ⟨S4096x1024, .f32⟩
  | 17 => ⟨S4096x1024, .f32⟩
  | 18 => ⟨S1x2048, .f32⟩
  | 19 => ⟨S4096x2048, .f32⟩
  | 20 => ⟨S4096x2048, .f32⟩
  | 21 => ⟨S4096x1024, .f32⟩
  | 22 => ⟨S4096x1024, .f32⟩
  | 23 => ⟨S4096x2048, .f32⟩
  | 24 => ⟨S4096x2048, .f32⟩
  | 25 => ⟨S_, .f32⟩
  | 26 => ⟨S4096x2048, .f32⟩
  | 27 => ⟨S4096x2048, .f32⟩
  | 28 => ⟨S_, .f32⟩
  | 29 => ⟨S4096x2048, .f32⟩
  | 30 => ⟨S4096x2048, .f32⟩
  | 31 => ⟨S4096x1024, .f32⟩
  | 32 => ⟨S4096x1024, .f32⟩
  | 33 => ⟨S4096x1024, .f32⟩
  | 34 => ⟨S4096x1024, .f32⟩
  | 35 => ⟨S4096x1024, .f32⟩
  | 36 => ⟨S4096x1024, .f32⟩
  | 37 => ⟨S4096x1024, .f32⟩
  | 38 => ⟨S_, .f32⟩
  | 39 => ⟨S4096x4096, .f32⟩
  | 40 => ⟨S_, .f32⟩
  | 41 => ⟨S4096x1024, .f32⟩
  | 42 => ⟨S_, .f32⟩
  | 43 => ⟨S4096, .f32⟩
  | 44 => ⟨S4096x1, .f32⟩
  | 45 => ⟨S_, .f32⟩
  | 46 => ⟨S4096x1, .f32⟩
  | 47 => ⟨S4096x1, .f32⟩
  | 48 => ⟨S4096x1024, .f32⟩
  | 49 => ⟨S4096x1024, .f32⟩
  | 50 => ⟨S4096x1024, .f32⟩
  | 51 => ⟨S_, .f32⟩
  | 52 => ⟨S4096x1024, .f32⟩
  | 53 => ⟨S4096x1024, .f32⟩
  | 54 => ⟨S_, .f32⟩
  | 55 => ⟨S4096, .f32⟩
  | 56 => ⟨S4096x1, .f32⟩
  | 57 => ⟨S_, .f32⟩
  | 58 => ⟨S4096x1, .f32⟩
  | 59 => ⟨S4096x1, .f32⟩
  | 60 => ⟨S4096x1024, .f32⟩
  | 61 => ⟨S4096x1024, .f32⟩
  | 62 => ⟨S_, .f32⟩
  | 63 => ⟨S4096x1, .f32⟩
  | 64 => ⟨S4096x1, .f32⟩
  | 65 => ⟨S4096x1, .f32⟩
  | 66 => ⟨S4096x1, .f32⟩
  | 67 => ⟨S_, .f32⟩
  | 68 => ⟨S4096x1, .f32⟩
  | 69 => ⟨S4096x1, .f32⟩
  | 70 => ⟨S4096x1024, .f32⟩
  | 71 => ⟨S4096x1024, .f32⟩
  | 72 => ⟨S1x1024, .f32⟩
  | 73 => ⟨S4096x1024, .f32⟩
  | 74 => ⟨S4096x1024, .f32⟩
  | 75 => ⟨S1x1024, .f32⟩
  | 76 => ⟨S4096x1024, .f32⟩
  | 77 => ⟨S4096x1024, .f32⟩
  | 78 => ⟨S4096x4096, .f32⟩
  | 79 => ⟨S4096x4096, .f32⟩
  | 80 => ⟨S_, .f32⟩
  | 81 => ⟨S4096x4096, .f32⟩
  | 82 => ⟨S4096x4096, .f32⟩
  | 83 => ⟨S_, .f32⟩
  | 84 => ⟨S4096x4096, .f32⟩
  | 85 => ⟨S4096x4096, .i1⟩
  | 86 => ⟨S_, .f32⟩
  | 87 => ⟨S4096x4096, .f32⟩
  | 88 => ⟨S4096x4096, .f32⟩
  | 89 => ⟨S_, .f32⟩
  | 90 => ⟨S4096x4096, .f32⟩
  | 91 => ⟨S4096x4096, .f32⟩
  | 92 => ⟨S4096x1024, .f32⟩
  | 93 => ⟨S_, .f32⟩
  | 94 => ⟨S4096x1024, .f32⟩
  | 95 => ⟨S4096x1024, .f32⟩
  | 96 => ⟨S4096x1024, .f32⟩
  | 97 => ⟨S4096x1024, .f32⟩
  | 98 => ⟨S_, .f32⟩
  | 99 => ⟨S4096, .f32⟩
  | 100 => ⟨S4096x1, .f32⟩
  | 101 => ⟨S_, .f32⟩
  | 102 => ⟨S4096x1, .f32⟩
  | 103 => ⟨S4096x1, .f32⟩
  | 104 => ⟨S4096x1024, .f32⟩
  | 105 => ⟨S4096x1024, .f32⟩
  | 106 => ⟨S4096x1024, .f32⟩
  | 107 => ⟨S_, .f32⟩
  | 108 => ⟨S4096x1024, .f32⟩
  | 109 => ⟨S4096x1024, .f32⟩
  | 110 => ⟨S_, .f32⟩
  | 111 => ⟨S4096, .f32⟩
  | 112 => ⟨S4096x1, .f32⟩
  | 113 => ⟨S_, .f32⟩
  | 114 => ⟨S4096x1, .f32⟩
  | 115 => ⟨S4096x1, .f32⟩
  | 116 => ⟨S4096x1024, .f32⟩
  | 117 => ⟨S4096x1024, .f32⟩
  | 118 => ⟨S_, .f32⟩
  | 119 => ⟨S4096x1, .f32⟩
  | 120 => ⟨S4096x1, .f32⟩
  | 121 => ⟨S4096x1, .f32⟩
  | 122 => ⟨S4096x1, .f32⟩
  | 123 => ⟨S_, .f32⟩
  | 124 => ⟨S4096x1, .f32⟩
  | 125 => ⟨S4096x1, .f32⟩
  | 126 => ⟨S4096x1024, .f32⟩
  | 127 => ⟨S4096x1024, .f32⟩
  | _ => ⟨S4096x1024, .f32⟩

abbrev hbmTy0_1 (i : Nat) : BufTy := match i % 128 with
  | 0 => ⟨S1x1024, .f32⟩
  | 1 => ⟨S4096x1024, .f32⟩
  | 2 => ⟨S4096x1024, .f32⟩
  | 3 => ⟨S1x1024, .f32⟩
  | 4 => ⟨S4096x1024, .f32⟩
  | 5 => ⟨S4096x1024, .f32⟩
  | 6 => ⟨S4096x1024, .f32⟩
  | 7 => ⟨S4096x1024, .f32⟩
  | 8 => ⟨S_, .f32⟩
  | 9 => ⟨S4096x1024, .f32⟩
  | 10 => ⟨S4096x1024, .f32⟩
  | 11 => ⟨S_, .f32⟩
  | 12 => ⟨S4096, .f32⟩
  | 13 => ⟨S_, .f32⟩
  | 14 => ⟨S4096, .f32⟩
  | 15 => ⟨S4096, .f32⟩
  | 16 => ⟨S_, .f32⟩
  | 17 => ⟨S_, .f32⟩
  | 18 => ⟨S_, .f32⟩
  | 19 => ⟨S_, .f32⟩
  | 20 => ⟨S_, .f32⟩
  | 21 => ⟨S_, .f32⟩
  | 22 => ⟨S_, .f32⟩
  | 23 => ⟨S4096, .f32⟩
  | 24 => ⟨S_, .f32⟩
  | 25 => ⟨S4096, .f32⟩
  | 26 => ⟨S4096, .f32⟩
  | 27 => ⟨S4096x1024, .f32⟩
  | 28 => ⟨S4096x1024, .f32⟩
  | 29 => ⟨S_, .f32⟩
  | 30 => ⟨S1024, .f32⟩
  | 31 => ⟨S1x1024, .f32⟩
  | 32 => ⟨S_, .f32⟩
  | 33 => ⟨S1024, .f32⟩
  | 34 => ⟨S4096x1024, .f32⟩
  | 35 => ⟨S_, .f32⟩
  | 36 => ⟨S1024, .f32⟩
  | 37 => ⟨S1x1024, .f32⟩
  | 38 => ⟨S4096x1024, .f32⟩
  | 39 => ⟨S4096x1024, .f32⟩
  | 40 => ⟨S_, .f32⟩
  | 41 => ⟨S1024, .f32⟩
  | 42 => ⟨S4096x1024, .f32⟩
  | 43 => ⟨S_, .f32⟩
  | 44 => ⟨S4096, .f32⟩
  | 45 => ⟨S4096x1, .f32⟩
  | 46 => ⟨S4096x1024, .f32⟩
  | 47 => ⟨S4096x1024, .f32⟩
  | 48 => ⟨S4096x1, .f32⟩
  | 49 => ⟨S4096x1024, .f32⟩
  | 50 => ⟨S_, .f32⟩
  | 51 => ⟨S4096, .f32⟩
  | 52 => ⟨S4096x1, .f32⟩
  | 53 => ⟨S_, .f32⟩
  | 54 => ⟨S4096x1, .f32⟩
  | 55 => ⟨S4096x1, .f32⟩
  | 56 => ⟨S_, .f32⟩
  | 57 => ⟨S4096, .f32⟩
  | 58 => ⟨S4096x1024, .f32⟩
  | 59 => ⟨S4096x1024, .f32⟩
  | 60 => ⟨S4096x1024, .f32⟩
  | 61 => ⟨S_, .f32⟩
  | 62 => ⟨S4096, .f32⟩
  | 63 => ⟨S4096x1, .f32⟩
  | 64 => ⟨S4096x1024, .f32⟩
  | 65 => ⟨S4096x1, .f32⟩
  | 66 => ⟨S_, .f32⟩
  | 67 => ⟨S4096x1, .f32⟩
  | 68 => ⟨S4096x1, .f32⟩
  | 69 => ⟨S_, .f32⟩
  | 70 => ⟨S4096, .f32⟩
  | 71 => ⟨S4096x1024, .f32⟩
  | 72 => ⟨S4096x1024, .f32⟩
  | 73 => ⟨S_, .f32⟩
  | 74 => ⟨S4096x1024, .f32⟩
  | 75 => ⟨S4096x1024, .f32⟩
  | 76 => ⟨S4096x4096, .f32⟩
  | 77 => ⟨S4096x4096, .f32⟩
  | 78 => ⟨S_, .f32⟩
  | 79 => ⟨S4096x4096, .f32⟩
  | 80 => ⟨S4096x4096, .f32⟩
  | 81 => ⟨S4096x1024, .f32⟩
  | 82 => ⟨S4096x1024, .f32⟩
  | 83 => ⟨S_, .f32⟩
  | 84 => ⟨S1024, .f32⟩
  | 85 => ⟨S1x1024, .f32⟩
  | 86 => ⟨S_, .f32⟩
  | 87 => ⟨S1024, .f32⟩
  | 88 => ⟨S4096x1024, .f32⟩
  | 89 => ⟨S_, .f32⟩
  | 90 => ⟨S1024, .f32⟩
  | 91 => ⟨S1x1024, .f32⟩
  | 92 => ⟨S4096x1024, .f32⟩
  | 93 => ⟨S4096x1024, .f32⟩
  | 94 => ⟨S_, .f32⟩
  | 95 => ⟨S1024, .f32⟩
  | 96 => ⟨S4096x1024, .f32⟩
  | 97 => ⟨S_, .f32⟩
  | 98 => ⟨S4096, .f32⟩
  | 99 => ⟨S4096x1, .f32⟩
  | 100 => ⟨S4096x1024, .f32⟩
  | 101 => ⟨S4096x1024, .f32⟩
  | 102 => ⟨S4096x1, .f32⟩
  | 103 => ⟨S4096x1024, .f32⟩
  | 104 => ⟨S_, .f32⟩
  | 105 => ⟨S4096, .f32⟩
  | 106 => ⟨S4096x1, .f32⟩
  | 107 => ⟨S_, .f32⟩
  | 108 => ⟨S4096x1, .f32⟩
  | 109 => ⟨S4096x1, .f32⟩
  | 110 => ⟨S_, .f32⟩
  | 111 => ⟨S4096, .f32⟩
  | 112 => ⟨S4096x1024, .f32⟩
  | 113 => ⟨S4096x1024, .f32⟩
  | 114 => ⟨S4096x1024, .f32⟩
  | 115 => ⟨S_, .f32⟩
  | 116 => ⟨S4096, .f32⟩
  | 117 => ⟨S4096x1, .f32⟩
  | 118 => ⟨S4096x1024, .f32⟩
  | 119 => ⟨S4096x1, .f32⟩
  | 120 => ⟨S_, .f32⟩
  | 121 => ⟨S4096x1, .f32⟩
  | 122 => ⟨S4096x1, .f32⟩
  | 123 => ⟨S_, .f32⟩
  | 124 => ⟨S4096, .f32⟩
  | 125 => ⟨S4096x1024, .f32⟩
  | 126 => ⟨S4096x1024, .f32⟩
  | 127 => ⟨S4096x4096, .bf16⟩
  | _ => ⟨S4096x1024, .f32⟩

abbrev hbmTy0_2 (i : Nat) : BufTy := match i % 128 with
  | 0 => ⟨S4096x1024, .bf16⟩
  | 1 => ⟨S4096x4096, .bf16⟩
  | 2 => ⟨S4096x1024, .bf16⟩
  | 3 => ⟨S1x1, .f32⟩
  | 4 => ⟨S1x1024, .f32⟩
  | 5 => ⟨S1x1024, .f32⟩
  | 6 => ⟨S1x1024, .f32⟩
  | 7 => ⟨S1x1024, .f32⟩
  | _ => ⟨S4096x1024, .f32⟩

abbrev hbmTy (i : Nat) : BufTy := match i / 128 with
  | 0 => hbmTy0_0 i
  | 1 => hbmTy0_1 i
  | 2 => hbmTy0_2 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_cst : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_cst_0 : Ref sig .tc := ⟨.hbm, 25, rfl⟩
abbrev main_v9 : Ref sig .tc := ⟨.hbm, 26, rfl⟩
abbrev main_v10 : Ref sig .tc := ⟨.hbm, 27, rfl⟩
abbrev main_cst_1 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_cst_2 : Ref sig .tc := ⟨.hbm, 38, rfl⟩
abbrev main_v20 : Ref sig .tc := ⟨.hbm, 39, rfl⟩
abbrev main_cst_3 : Ref sig .tc := ⟨.hbm, 40, rfl⟩
abbrev main_v21 : Ref sig .tc := ⟨.hbm, 41, rfl⟩
abbrev main_cst_4 : Ref sig .tc := ⟨.hbm, 42, rfl⟩
abbrev main_v22 : Ref sig .tc := ⟨.hbm, 43, rfl⟩
abbrev main_v23 : Ref sig .tc := ⟨.hbm, 44, rfl⟩
abbrev main_cst_5 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_cst_6 : Ref sig .tc := ⟨.hbm, 51, rfl⟩
abbrev main_v29 : Ref sig .tc := ⟨.hbm, 52, rfl⟩
abbrev main_v30 : Ref sig .tc := ⟨.hbm, 53, rfl⟩
abbrev main_cst_7 : Ref sig .tc := ⟨.hbm, 54, rfl⟩
abbrev main_v31 : Ref sig .tc := ⟨.hbm, 55, rfl⟩
abbrev main_v32 : Ref sig .tc := ⟨.hbm, 56, rfl⟩
abbrev main_cst_8 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_cst_9 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_cst_10 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_call0_cst : Ref sig .tc := ⟨.hbm, 80, rfl⟩
abbrev main_call0_v0 : Ref sig .tc := ⟨.hbm, 81, rfl⟩
abbrev main_v53 : Ref sig .tc := ⟨.hbm, 82, rfl⟩
abbrev main_cst_11 : Ref sig .tc := ⟨.hbm, 83, rfl⟩
abbrev main_v54 : Ref sig .tc := ⟨.hbm, 84, rfl⟩
abbrev main_v55 : Ref sig .tc := ⟨.hbm, 85, rfl⟩
abbrev main_cst_12 : Ref sig .tc := ⟨.hbm, 86, rfl⟩
abbrev main_v56 : Ref sig .tc := ⟨.hbm, 87, rfl⟩
abbrev main_v57 : Ref sig .tc := ⟨.hbm, 88, rfl⟩
abbrev main_cst_13 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_cst_14 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_cst_15 : Ref sig .tc := ⟨.hbm, 98, rfl⟩
abbrev main_v65 : Ref sig .tc := ⟨.hbm, 99, rfl⟩
abbrev main_v66 : Ref sig .tc := ⟨.hbm, 100, rfl⟩
abbrev main_cst_16 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_cst_17 : Ref sig .tc := ⟨.hbm, 107, rfl⟩
abbrev main_v72 : Ref sig .tc := ⟨.hbm, 108, rfl⟩
abbrev main_v73 : Ref sig .tc := ⟨.hbm, 109, rfl⟩
abbrev main_cst_18 : Ref sig .tc := ⟨.hbm, 110, rfl⟩
abbrev main_v74 : Ref sig .tc := ⟨.hbm, 111, rfl⟩
abbrev main_v75 : Ref sig .tc := ⟨.hbm, 112, rfl⟩
abbrev main_cst_19 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_cst_20 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_cst_21 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_cst_22 : Ref sig .tc := ⟨.hbm, 136, rfl⟩
abbrev main_v96 : Ref sig .tc := ⟨.hbm, 137, rfl⟩
abbrev main_v97 : Ref sig .tc := ⟨.hbm, 138, rfl⟩
abbrev main_cst_23 : Ref sig .tc := ⟨.hbm, 139, rfl⟩
abbrev main_v98 : Ref sig .tc := ⟨.hbm, 140, rfl⟩
abbrev main_cst_24 : Ref sig .tc := ⟨.hbm, 141, rfl⟩
abbrev main_v99 : Ref sig .tc := ⟨.hbm, 142, rfl⟩
abbrev main_v100 : Ref sig .tc := ⟨.hbm, 143, rfl⟩
abbrev main_cst_25 : Ref sig .tc := ⟨.hbm, 144, rfl⟩
abbrev main_v101 : Ref sig .tc := ⟨.hbm, 145, rfl⟩
abbrev main_cst_26 : Ref sig .tc := ⟨.hbm, 146, rfl⟩
abbrev main_v102 : Ref sig .tc := ⟨.hbm, 147, rfl⟩
abbrev main_cst_27 : Ref sig .tc := ⟨.hbm, 148, rfl⟩
abbrev main_cst_28 : Ref sig .tc := ⟨.hbm, 149, rfl⟩
abbrev main_v103 : Ref sig .tc := ⟨.hbm, 150, rfl⟩
abbrev main_v104 : Ref sig .tc := ⟨.hbm, 151, rfl⟩
abbrev main_cst_29 : Ref sig .tc := ⟨.hbm, 152, rfl⟩
abbrev main_v105 : Ref sig .tc := ⟨.hbm, 153, rfl⟩
abbrev main_v106 : Ref sig .tc := ⟨.hbm, 154, rfl⟩
abbrev main_v107 : Ref sig .tc := ⟨.hbm, 155, rfl⟩
abbrev main_v108 : Ref sig .tc := ⟨.hbm, 156, rfl⟩
abbrev main_cst_30 : Ref sig .tc := ⟨.hbm, 157, rfl⟩
abbrev main_v109 : Ref sig .tc := ⟨.hbm, 158, rfl⟩
abbrev main_v110 : Ref sig .tc := ⟨.hbm, 159, rfl⟩
abbrev main_cst_31 : Ref sig .tc := ⟨.hbm, 160, rfl⟩
abbrev main_v111 : Ref sig .tc := ⟨.hbm, 161, rfl⟩
abbrev main_v112 : Ref sig .tc := ⟨.hbm, 162, rfl⟩
abbrev main_cst_32 : Ref sig .tc := ⟨.hbm, 163, rfl⟩
abbrev main_v113 : Ref sig .tc := ⟨.hbm, 164, rfl⟩
abbrev main_v114 : Ref sig .tc := ⟨.hbm, 165, rfl⟩
abbrev main_v115 : Ref sig .tc := ⟨.hbm, 166, rfl⟩
abbrev main_v116 : Ref sig .tc := ⟨.hbm, 167, rfl⟩
abbrev main_cst_33 : Ref sig .tc := ⟨.hbm, 168, rfl⟩
abbrev main_v117 : Ref sig .tc := ⟨.hbm, 169, rfl⟩
abbrev main_v118 : Ref sig .tc := ⟨.hbm, 170, rfl⟩
abbrev main_cst_34 : Ref sig .tc := ⟨.hbm, 171, rfl⟩
abbrev main_v119 : Ref sig .tc := ⟨.hbm, 172, rfl⟩
abbrev main_v120 : Ref sig .tc := ⟨.hbm, 173, rfl⟩
abbrev main_v121 : Ref sig .tc := ⟨.hbm, 174, rfl⟩
abbrev main_v122 : Ref sig .tc := ⟨.hbm, 175, rfl⟩
abbrev main_v123 : Ref sig .tc := ⟨.hbm, 176, rfl⟩
abbrev main_v124 : Ref sig .tc := ⟨.hbm, 177, rfl⟩
abbrev main_cst_35 : Ref sig .tc := ⟨.hbm, 178, rfl⟩
abbrev main_v125 : Ref sig .tc := ⟨.hbm, 179, rfl⟩
abbrev main_v126 : Ref sig .tc := ⟨.hbm, 180, rfl⟩
abbrev main_cst_36 : Ref sig .tc := ⟨.hbm, 181, rfl⟩
abbrev main_v127 : Ref sig .tc := ⟨.hbm, 182, rfl⟩
abbrev main_v128 : Ref sig .tc := ⟨.hbm, 183, rfl⟩
abbrev main_cst_37 : Ref sig .tc := ⟨.hbm, 184, rfl⟩
abbrev main_v129 : Ref sig .tc := ⟨.hbm, 185, rfl⟩
abbrev main_v130 : Ref sig .tc := ⟨.hbm, 186, rfl⟩
abbrev main_v131 : Ref sig .tc := ⟨.hbm, 187, rfl⟩
abbrev main_v132 : Ref sig .tc := ⟨.hbm, 188, rfl⟩
abbrev main_cst_38 : Ref sig .tc := ⟨.hbm, 189, rfl⟩
abbrev main_v133 : Ref sig .tc := ⟨.hbm, 190, rfl⟩
abbrev main_v134 : Ref sig .tc := ⟨.hbm, 191, rfl⟩
abbrev main_v135 : Ref sig .tc := ⟨.hbm, 192, rfl⟩
abbrev main_v136 : Ref sig .tc := ⟨.hbm, 193, rfl⟩
abbrev main_cst_39 : Ref sig .tc := ⟨.hbm, 194, rfl⟩
abbrev main_v137 : Ref sig .tc := ⟨.hbm, 195, rfl⟩
abbrev main_v138 : Ref sig .tc := ⟨.hbm, 196, rfl⟩
abbrev main_cst_40 : Ref sig .tc := ⟨.hbm, 197, rfl⟩
abbrev main_v139 : Ref sig .tc := ⟨.hbm, 198, rfl⟩
abbrev main_v140 : Ref sig .tc := ⟨.hbm, 199, rfl⟩
abbrev main_v141 : Ref sig .tc := ⟨.hbm, 200, rfl⟩
abbrev main_cst_41 : Ref sig .tc := ⟨.hbm, 201, rfl⟩
abbrev main_v142 : Ref sig .tc := ⟨.hbm, 202, rfl⟩
abbrev main_v143 : Ref sig .tc := ⟨.hbm, 203, rfl⟩
abbrev main_v144 : Ref sig .tc := ⟨.hbm, 204, rfl⟩
abbrev main_v145 : Ref sig .tc := ⟨.hbm, 205, rfl⟩
abbrev main_cst_42 : Ref sig .tc := ⟨.hbm, 206, rfl⟩
abbrev main_v146 : Ref sig .tc := ⟨.hbm, 207, rfl⟩
abbrev main_v147 : Ref sig .tc := ⟨.hbm, 208, rfl⟩
abbrev main_v148 : Ref sig .tc := ⟨.hbm, 209, rfl⟩
abbrev main_v149 : Ref sig .tc := ⟨.hbm, 210, rfl⟩
abbrev main_cst_43 : Ref sig .tc := ⟨.hbm, 211, rfl⟩
abbrev main_v150 : Ref sig .tc := ⟨.hbm, 212, rfl⟩
abbrev main_v151 : Ref sig .tc := ⟨.hbm, 213, rfl⟩
abbrev main_cst_44 : Ref sig .tc := ⟨.hbm, 214, rfl⟩
abbrev main_v152 : Ref sig .tc := ⟨.hbm, 215, rfl⟩
abbrev main_v153 : Ref sig .tc := ⟨.hbm, 216, rfl⟩
abbrev main_cst_45 : Ref sig .tc := ⟨.hbm, 217, rfl⟩
abbrev main_v154 : Ref sig .tc := ⟨.hbm, 218, rfl⟩
abbrev main_v155 : Ref sig .tc := ⟨.hbm, 219, rfl⟩
abbrev main_v156 : Ref sig .tc := ⟨.hbm, 220, rfl⟩
abbrev main_v157 : Ref sig .tc := ⟨.hbm, 221, rfl⟩
abbrev main_cst_46 : Ref sig .tc := ⟨.hbm, 222, rfl⟩
abbrev main_v158 : Ref sig .tc := ⟨.hbm, 223, rfl⟩
abbrev main_v159 : Ref sig .tc := ⟨.hbm, 224, rfl⟩
abbrev main_cst_47 : Ref sig .tc := ⟨.hbm, 225, rfl⟩
abbrev main_v160 : Ref sig .tc := ⟨.hbm, 226, rfl⟩
abbrev main_v161 : Ref sig .tc := ⟨.hbm, 227, rfl⟩
abbrev main_v162 : Ref sig .tc := ⟨.hbm, 228, rfl⟩
abbrev main_v163 : Ref sig .tc := ⟨.hbm, 229, rfl⟩
abbrev main_v164 : Ref sig .tc := ⟨.hbm, 230, rfl⟩
abbrev main_v165 : Ref sig .tc := ⟨.hbm, 231, rfl⟩
abbrev main_cst_48 : Ref sig .tc := ⟨.hbm, 232, rfl⟩
abbrev main_v166 : Ref sig .tc := ⟨.hbm, 233, rfl⟩
abbrev main_v167 : Ref sig .tc := ⟨.hbm, 234, rfl⟩
abbrev main_cst_49 : Ref sig .tc := ⟨.hbm, 235, rfl⟩
abbrev main_v168 : Ref sig .tc := ⟨.hbm, 236, rfl⟩
abbrev main_v169 : Ref sig .tc := ⟨.hbm, 237, rfl⟩
abbrev main_cst_50 : Ref sig .tc := ⟨.hbm, 238, rfl⟩
abbrev main_v170 : Ref sig .tc := ⟨.hbm, 239, rfl⟩
abbrev main_v171 : Ref sig .tc := ⟨.hbm, 240, rfl⟩
abbrev main_v172 : Ref sig .tc := ⟨.hbm, 241, rfl⟩
abbrev main_v173 : Ref sig .tc := ⟨.hbm, 242, rfl⟩
abbrev main_cst_51 : Ref sig .tc := ⟨.hbm, 243, rfl⟩
abbrev main_v174 : Ref sig .tc := ⟨.hbm, 244, rfl⟩
abbrev main_v175 : Ref sig .tc := ⟨.hbm, 245, rfl⟩
abbrev main_v176 : Ref sig .tc := ⟨.hbm, 246, rfl⟩
abbrev main_v177 : Ref sig .tc := ⟨.hbm, 247, rfl⟩
abbrev main_cst_52 : Ref sig .tc := ⟨.hbm, 248, rfl⟩
abbrev main_v178 : Ref sig .tc := ⟨.hbm, 249, rfl⟩
abbrev main_v179 : Ref sig .tc := ⟨.hbm, 250, rfl⟩
abbrev main_cst_53 : Ref sig .tc := ⟨.hbm, 251, rfl⟩
abbrev main_v180 : Ref sig .tc := ⟨.hbm, 252, rfl⟩
abbrev main_v181 : Ref sig .tc := ⟨.hbm, 253, rfl⟩
abbrev main_v182 : Ref sig .tc := ⟨.hbm, 254, rfl⟩
abbrev main_v183 : Ref sig .tc := ⟨.hbm, 255, rfl⟩
abbrev main_v184 : Ref sig .tc := ⟨.hbm, 256, rfl⟩
abbrev main_v185 : Ref sig .tc := ⟨.hbm, 257, rfl⟩
abbrev main_v186 : Ref sig .tc := ⟨.hbm, 258, rfl⟩
abbrev main_v187 : Ref sig .tc := ⟨.hbm, 259, rfl⟩
abbrev main_v188 : Ref sig .tc := ⟨.hbm, 260, rfl⟩
abbrev main_v189 : Ref sig .tc := ⟨.hbm, 261, rfl⟩
abbrev main_v190 : Ref sig .tc := ⟨.hbm, 262, rfl⟩
abbrev main_v191 : Ref sig .tc := ⟨.hbm, 263, rfl⟩

abbrev nD : Nat := 1
abbrev τ : Topo := Topo.v7x

variable {F : FTy → Type} [FloatOps F]
-- ==== SbFwd.lean ====
abbrev S4096x3072 : Shape := ⟨2, ![4096, 3072]⟩
abbrev S4096x512 : Shape := ⟨2, ![4096, 512]⟩
abbrev S512x128 : Shape := ⟨2, ![512, 128]⟩
abbrev S4096x128 : Shape := ⟨2, ![4096, 128]⟩
abbrev S2x512x128 : Shape := ⟨3, ![2, 512, 128]⟩
abbrev S1x128 : Shape := ⟨2, ![1, 128]⟩
abbrev S128x128 : Shape := ⟨2, ![128, 128]⟩
abbrev S512x256 : Shape := ⟨2, ![512, 256]⟩
abbrev S1x512x128 : Shape := ⟨3, ![1, 512, 128]⟩
abbrev S256x128 : Shape := ⟨2, ![256, 128]⟩
abbrev S128x256 : Shape := ⟨2, ![128, 256]⟩
abbrev S128x512 : Shape := ⟨2, ![128, 512]⟩
abbrev S384x128 : Shape := ⟨2, ![384, 128]⟩
abbrev S128x1 : Shape := ⟨2, ![128, 1]⟩
abbrev S256x256 : Shape := ⟨2, ![256, 256]⟩
abbrev S256x512 : Shape := ⟨2, ![256, 512]⟩
abbrev S384x256 : Shape := ⟨2, ![384, 256]⟩
abbrev S384x512 : Shape := ⟨2, ![384, 512]⟩
abbrev S512x512 : Shape := ⟨2, ![512, 512]⟩
abbrev S1x2x512x128 : Shape := ⟨4, ![1, 2, 512, 128]⟩
abbrev S1 : Shape := ⟨1, ![1]⟩
abbrev S1x1x1x1 : Shape := ⟨4, ![1, 1, 1, 1]⟩

abbrev nBuf : Space → Nat
  | .hbm => 3
  | .vmem => 9
  | .smem => 0
  | _ => 0

abbrev bufTy : (tb : Table) → Fin (tcTables nBuf tb) → BufTy
  | .hbm, ⟨0, _⟩ => ⟨S4096x3072, .f32⟩
  | .hbm, ⟨1, _⟩ => ⟨S4096x3072, .bf16⟩
  | .hbm, ⟨2, _⟩ => ⟨S4096x512, .f32⟩
  | .local _ .vmem, ⟨0, _⟩ => ⟨S512x128, .bf16⟩
  | .local _ .vmem, ⟨1, _⟩ => ⟨S512x128, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S512x128, .f32⟩
  | .local _ .vmem, ⟨7, _⟩ => ⟨S512x128, .f32⟩
  | .local _ .vmem, ⟨8, _⟩ => ⟨S2x512x128, .f32⟩
  | _, _ => ⟨S4096x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 8], ![false, false]⟩

def k0_mult1 (i : grid0.Coords) : BitVec 32 :=
  let arg1 : BitVec 32 := BitVec.ofNat 32 (i 1).val
  let c512_i32 : BitVec 32 := 512#32
  let v32 : BitVec 32 := Scalar.muli arg1 c512_i32
  let c384_i32 : BitVec 32 := 384#32
  let v38 : BitVec 32 := Scalar.addi v32 c384_i32
  v38
def k0_off1 (i : grid0.Coords) (c384_i32 : BitVec 32) : Fin 2 → Nat :=
  let arg1 : BitVec 32 := BitVec.ofNat 32 (i 1).val
  let c512_i32 : BitVec 32 := 512#32
  let v32 : BitVec 32 := Scalar.muli arg1 c512_i32
  let v38 : BitVec 32 := Scalar.addi v32 c384_i32
  let v39 : BitVec 32 := v38
  let v41 : Index := Scalar.indexCast v39
  let c0_17 : Index := 0#32
  ![v41.toNat, 0]
def k0_mult2 (i : grid0.Coords) : BitVec 32 :=
  let arg1 : BitVec 32 := BitVec.ofNat 32 (i 1).val
  let c512_i32 : BitVec 32 := 512#32
  let v32 : BitVec 32 := Scalar.muli arg1 c512_i32
  let c256_i32 : BitVec 32 := 256#32
  let v142 : BitVec 32 := Scalar.addi v32 c256_i32
  v142
def k0_mult3 (i : grid0.Coords) : BitVec 32 :=
  let arg1 : BitVec 32 := BitVec.ofNat 32 (i 1).val
  let c512_i32 : BitVec 32 := 512#32
  let v32 : BitVec 32 := Scalar.muli arg1 c512_i32
  let c128_i32_57 : BitVec 32 := 128#32
  let v306 : BitVec 32 := Scalar.addi v32 c128_i32_57
  v306
def k0_mult4 (i : grid0.Coords) : BitVec 32 :=
  let arg1 : BitVec 32 := BitVec.ofNat 32 (i 1).val
  let c512_i32 : BitVec 32 := 512#32
  let v32 : BitVec 32 := Scalar.muli arg1 c512_i32
  let c0_i32 : BitVec 32 := 0#32
  let v525 : BitVec 32 := Scalar.addi v32 c0_i32
  v525
def k0_mult5 (arg7 : BitVec 32) : BitVec 32 :=
  let c256_i32_132 : BitVec 32 := 256#32
  let v802 : BitVec 32 := Scalar.muli arg7 c256_i32_132
  let c128_i32_140 : BitVec 32 := 128#32
  let v808 : BitVec 32 := Scalar.addi v802 c128_i32_140
  v808

def k0_off2 (arg7 : BitVec 32) (c128_i32_140 : BitVec 32) : Fin 2 → Nat :=
  let c256_i32_132 : BitVec 32 := 256#32
  let v802 : BitVec 32 := Scalar.muli arg7 c256_i32_132
  let v808 : BitVec 32 := Scalar.addi v802 c128_i32_140
  let v809 : BitVec 32 := v808
  let v810 : Index := Scalar.indexCast v809
  let c0_141 : Index := 0#32
  ![v810.toNat, 0]
def k0_mult6 (arg7 : BitVec 32) : BitVec 32 :=
  let c256_i32_132 : BitVec 32 := 256#32
  let v802 : BitVec 32 := Scalar.muli arg7 c256_i32_132
  let c0_i32_172 : BitVec 32 := 0#32
  let v1064 : BitVec 32 := Scalar.addi v802 c0_i32_172
  v1064

def k0_chk1 (arg7 : BitVec 32) : Prop :=
  (128 ∣ (k0_mult5 arg7).toNat) ∧
  (∀ (r : Fin 2), ∀ a, (k0_off2 arg7 (BitVec.ofNat 32 (128 * r.val))) a + S128x128.size a ≤ S4096x128.size a) ∧
  (128 ∣ (k0_mult6 arg7).toNat)
theorem k0_mult5_dvd : ∀ (arg7 : BitVec 32) (k0_hw1 : k0_chk1 arg7), 128 ∣ (k0_mult5 arg7).toNat := fun arg7 k0_hw1 => k0_hw1.1
theorem k0_off2_inb : ∀ (arg7 : BitVec 32) (k0_hw1 : k0_chk1 arg7), ∀ (r : Fin 2), ∀ a, (k0_off2 arg7 (BitVec.ofNat 32 (128 * r.val))) a + S128x128.size a ≤ S4096x128.size a := fun arg7 k0_hw1 r => k0_hw1.2.1 r
theorem k0_mult6_dvd : ∀ (arg7 : BitVec 32) (k0_hw1 : k0_chk1 arg7), 128 ∣ (k0_mult6 arg7).toNat := fun arg7 k0_hw1 => k0_hw1.2.2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== SbFwdIdeal.lean ====
variable {F : FTy → Type} [FloatOps F] [Named F]
def κ : String → Option EReal := fun
  | "cut" => some ⊤
  | _ => none
-- ==== SbFwdRefIdeal.lean ====
abbrev S4096x3072 : Shape := ⟨2, ![4096, 3072]⟩
abbrev S4096x512 : Shape := ⟨2, ![4096, 512]⟩
abbrev S1x4096x8x64 : Shape := ⟨4, ![1, 4096, 8, 64]⟩
abbrev S1x8x4096x64 : Shape := ⟨4, ![1, 8, 4096, 64]⟩
abbrev S1x8x4096x4096 : Shape := ⟨4, ![1, 8, 4096, 4096]⟩
abbrev S_ : Shape := ⟨0, ![]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S1x8x64x4096 : Shape := ⟨4, ![1, 8, 64, 4096]⟩
abbrev S1x4096x512 : Shape := ⟨3, ![1, 4096, 512]⟩

abbrev nBuf : Space → Nat
  | .hbm => 74
  | .vmem => 0
  | .smem => 0
  | _ => 0

abbrev bufTy : (tb : Table) → Fin (tcTables nBuf tb) → BufTy
  | .hbm, ⟨0, _⟩ => ⟨S4096x3072, .f32⟩
  | .hbm, ⟨1, _⟩ => ⟨S4096x512, .f32⟩
  | .hbm, ⟨2, _⟩ => ⟨S4096x512, .f32⟩
  | .hbm, ⟨3, _⟩ => ⟨S4096x512, .f32⟩
  | .hbm, ⟨4, _⟩ => ⟨S1x4096x8x64, .f32⟩
  | .hbm, ⟨5, _⟩ => ⟨S1x4096x8x64, .f32⟩
  | .hbm, ⟨6, _⟩ => ⟨S1x4096x8x64, .f32⟩
  | .hbm, ⟨7, _⟩ => ⟨S1x8x4096x64, .f32⟩
  | .hbm, ⟨8, _⟩ => ⟨S1x8x4096x64, .f32⟩
  | .hbm, ⟨9, _⟩ => ⟨S1x8x4096x64, .f32⟩
  | .hbm, ⟨10, _⟩ => ⟨S1x8x4096x4096, .f32⟩
  | .hbm, ⟨11, _⟩ => ⟨S_, .f32⟩
  | .hbm, ⟨12, _⟩ => ⟨S1x8x4096x4096, .f32⟩
  | .hbm, ⟨13, _⟩ => ⟨S1x8x4096x4096, .f32⟩
  | .hbm, ⟨14, _⟩ => ⟨S4096, .i32⟩
  | .hbm, ⟨15, _⟩ => ⟨S4096x1, .i32⟩
  | .hbm, ⟨16, _⟩ => ⟨S4096, .i32⟩
  | .hbm, ⟨17, _⟩ => ⟨S1x4096, .i32⟩
  | .hbm, ⟨18, _⟩ => ⟨S4096x4096, .i32⟩
  | .hbm, ⟨19, _⟩ => ⟨S4096x4096, .i32⟩
  | .hbm, ⟨20, _⟩ => ⟨S4096x4096, .i1⟩
  | .hbm, ⟨21, _⟩ => ⟨S1x8x4096x4096, .f32⟩
  | .hbm, ⟨22, _⟩ => ⟨S1x8x4096x4096, .f32⟩
  | .hbm, ⟨23, _⟩ => ⟨S_, .f32⟩
  | .hbm, ⟨24, _⟩ => ⟨S1x8x4096x4096, .f32⟩
  | .hbm, ⟨25, _⟩ => ⟨S1x8x4096x4096, .f32⟩
  | .hbm, ⟨26, _⟩ => ⟨S1x8x4096x4096, .f32⟩
  | .hbm, ⟨27, _⟩ => ⟨S1x8x4096x4096, .f32⟩
  | .hbm, ⟨28, _⟩ => ⟨S1x8x4096x4096, .i1⟩
  | .hbm, ⟨29, _⟩ => ⟨S1x8x4096x4096, .f32⟩
  | .hbm, ⟨30, _⟩ => ⟨S1x8x4096x4096, .f32⟩
  | .hbm, ⟨31, _⟩ => ⟨S1x8x4096x4096, .f32⟩
  | .hbm, ⟨32, _⟩ => ⟨S1x8x4096x4096, .f32⟩
  | .hbm, ⟨33, _⟩ => ⟨S1x8x4096x4096, .f32⟩
  | .hbm, ⟨34, _⟩ => ⟨S1x8x4096x4096, .f32⟩
  | .hbm, ⟨35, _⟩ => ⟨S1x8x4096x4096, .f32⟩
  | .hbm, ⟨36, _⟩ => ⟨S1x8x4096x4096, .f32⟩
  | .hbm, ⟨37, _⟩ => ⟨S1x8x4096x4096, .f32⟩
  | .hbm, ⟨38, _⟩ => ⟨S_, .f32⟩
  | .hbm, ⟨39, _⟩ => ⟨S_, .f32⟩
  | .hbm, ⟨40, _⟩ => ⟨S1x8x4096x4096, .i1⟩
  | .hbm, ⟨41, _⟩ => ⟨S1x8x4096x4096, .f32⟩
  | .hbm, ⟨42, _⟩ => ⟨S1x8x4096x4096, .f32⟩
  | .hbm, ⟨43, _⟩ => ⟨S_, .f32⟩
  | .hbm, ⟨44, _⟩ => ⟨S_, .f32⟩
  | .hbm, ⟨45, _⟩ => ⟨S1x8x4096x4096, .f32⟩
  | .hbm, ⟨46, _⟩ => ⟨S1x8x4096x4096, .f32⟩
  | .hbm, ⟨47, _⟩ => ⟨S1x8x4096x4096, .f32⟩
  | .hbm, ⟨48, _⟩ => ⟨S_, .f32⟩
  | .hbm, ⟨49, _⟩ => ⟨S1x8x4096x4096, .f32⟩
  | .hbm, ⟨50, _⟩ => ⟨S1x8x4096x4096, .f32⟩
  | .hbm, ⟨51, _⟩ => ⟨S1x8x4096x4096, .f32⟩
  | .hbm, ⟨52, _⟩ => ⟨S1x8x4096x4096, .f32⟩
  | .hbm, ⟨53, _⟩ => ⟨S1x8x4096x4096, .i1⟩
  | .hbm, ⟨54, _⟩ => ⟨S1x8x4096x4096, .f32⟩
  | .hbm, ⟨55, _⟩ => ⟨S1x8x4096x4096, .f32⟩
  | .hbm, ⟨56, _⟩ => ⟨S1x8x4096x4096, .f32⟩
  | .hbm, ⟨57, _⟩ => ⟨S1x8x4096x4096, .f32⟩
  | .hbm, ⟨58, _⟩ => ⟨S1x8x4096x4096, .f32⟩
  | .hbm, ⟨59, _⟩ => ⟨S1x8x4096x4096, .f32⟩
  | .hbm, ⟨60, _⟩ => ⟨S1x8x4096x4096, .f32⟩
  | .hbm, ⟨61, _⟩ => ⟨S1x8x4096x4096, .f32⟩
  | .hbm, ⟨62, _⟩ => ⟨S1x8x4096x4096, .f32⟩
  | .hbm, ⟨63, _⟩ => ⟨S1x8x4096x4096, .f32⟩
  | .hbm, ⟨64, _⟩ => ⟨S1x8x4096x4096, .f32⟩
  | .hbm, ⟨65, _⟩ => ⟨S_, .f32⟩
  | .hbm, ⟨66, _⟩ => ⟨S_, .f32⟩
  | .hbm, ⟨67, _⟩ => ⟨S1x8x4096x4096, .i1⟩
  | .hbm, ⟨68, _⟩ => ⟨S1x8x4096x4096, .f32⟩
  | .hbm, ⟨69, _⟩ => ⟨S1x8x4096x4096, .f32⟩
  | .hbm, ⟨70, _⟩ => ⟨S1x8x64x4096, .f32⟩
  | .hbm, ⟨71, _⟩ => ⟨S1x4096x8x64, .f32⟩
  | .hbm, ⟨72, _⟩ => ⟨S1x4096x512, .f32⟩
  | .hbm, ⟨73, _⟩ => ⟨S4096x512, .f32⟩
  | _, _ => ⟨S4096x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_cst : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_call0_v0 : Ref sig .tc := ⟨.hbm, 22, rfl⟩
abbrev main_call0_call0_cst : Ref sig .tc := ⟨.hbm, 23, rfl⟩
abbrev main_call0_call0_v0 : Ref sig .tc := ⟨.hbm, 24, rfl⟩
abbrev main_call0_call0_v1 : Ref sig .tc := ⟨.hbm, 25, rfl⟩
abbrev main_call0_call0_v2 : Ref sig .tc := ⟨.hbm, 26, rfl⟩
abbrev main_call0_call0_v3 : Ref sig .tc := ⟨.hbm, 27, rfl⟩
abbrev main_call0_call0_v4 : Ref sig .tc := ⟨.hbm, 28, rfl⟩
abbrev main_call0_call0_v5 : Ref sig .tc := ⟨.hbm, 29, rfl⟩
abbrev main_call0_call0_v6 : Ref sig .tc := ⟨.hbm, 30, rfl⟩
abbrev main_call0_call0_v7 : Ref sig .tc := ⟨.hbm, 31, rfl⟩
abbrev main_call0_call0_v8 : Ref sig .tc := ⟨.hbm, 32, rfl⟩
abbrev main_call0_call0_v9 : Ref sig .tc := ⟨.hbm, 33, rfl⟩
abbrev main_call0_call0_v10 : Ref sig .tc := ⟨.hbm, 34, rfl⟩
abbrev main_call0_call0_v11 : Ref sig .tc := ⟨.hbm, 35, rfl⟩
abbrev main_call0_v1 : Ref sig .tc := ⟨.hbm, 36, rfl⟩
abbrev main_v20 : Ref sig .tc := ⟨.hbm, 37, rfl⟩
abbrev main_cst_0 : Ref sig .tc := ⟨.hbm, 38, rfl⟩
abbrev main_call1_v0 : Ref sig .tc := ⟨.hbm, 39, rfl⟩
abbrev main_call1_v1 : Ref sig .tc := ⟨.hbm, 40, rfl⟩
abbrev main_call1_v2 : Ref sig .tc := ⟨.hbm, 41, rfl⟩
abbrev main_v21 : Ref sig .tc := ⟨.hbm, 42, rfl⟩
abbrev main_call2_cst : Ref sig .tc := ⟨.hbm, 43, rfl⟩
abbrev main_call2_v0 : Ref sig .tc := ⟨.hbm, 44, rfl⟩
abbrev main_v22 : Ref sig .tc := ⟨.hbm, 45, rfl⟩
abbrev main_v23 : Ref sig .tc := ⟨.hbm, 46, rfl⟩
abbrev main_call3_v0 : Ref sig .tc := ⟨.hbm, 47, rfl⟩
abbrev main_call3_call0_cst : Ref sig .tc := ⟨.hbm, 48, rfl⟩
abbrev main_call3_call0_v0 : Ref sig .tc := ⟨.hbm, 49, rfl⟩
abbrev main_call3_call0_v1 : Ref sig .tc := ⟨.hbm, 50, rfl⟩
abbrev main_call3_call0_v2 : Ref sig .tc := ⟨.hbm, 51, rfl⟩
abbrev main_call3_call0_v3 : Ref sig .tc := ⟨.hbm, 52, rfl⟩
abbrev main_call3_call0_v4 : Ref sig .tc := ⟨.hbm, 53, rfl⟩
abbrev main_call3_call0_v5 : Ref sig .tc := ⟨.hbm, 54, rfl⟩
abbrev main_call3_call0_v6 : Ref sig .tc := ⟨.hbm, 55, rfl⟩
abbrev main_call3_call0_v7 : Ref sig .tc := ⟨.hbm, 56, rfl⟩
abbrev main_call3_call0_v8 : Ref sig .tc := ⟨.hbm, 57, rfl⟩
abbrev main_call3_call0_v9 : Ref sig .tc := ⟨.hbm, 58, rfl⟩
abbrev main_call3_call0_v10 : Ref sig .tc := ⟨.hbm, 59, rfl⟩
abbrev main_call3_call0_v11 : Ref sig .tc := ⟨.hbm, 60, rfl⟩
abbrev main_call3_v1 : Ref sig .tc := ⟨.hbm, 61, rfl⟩
abbrev main_v24 : Ref sig .tc := ⟨.hbm, 62, rfl⟩
abbrev main_v25 : Ref sig .tc := ⟨.hbm, 63, rfl⟩
abbrev main_v26 : Ref sig .tc := ⟨.hbm, 64, rfl⟩
abbrev main_cst_1 : Ref sig .tc := ⟨.hbm, 65, rfl⟩
abbrev main_call4_v0 : Ref sig .tc := ⟨.hbm, 66, rfl⟩
abbrev main_call4_v1 : Ref sig .tc := ⟨.hbm, 67, rfl⟩
abbrev main_call4_v2 : Ref sig .tc := ⟨.hbm, 68, rfl⟩
abbrev main_v27 : Ref sig .tc := ⟨.hbm, 69, rfl⟩
abbrev main_v28 : Ref sig .tc := ⟨.hbm, 70, rfl⟩
abbrev main_v29 : Ref sig .tc := ⟨.hbm, 71, rfl⟩
abbrev main_v30 : Ref sig .tc := ⟨.hbm, 72, rfl⟩
abbrev main_v31 : Ref sig .tc := ⟨.hbm, 73, rfl⟩

abbrev nD : Nat := 1
abbrev τ : Topo := Topo.v7x

variable {F : FTy → Type} [FloatOps F]
-- ==== Proof.Sb.Model.lean ====
module

public import Idealize.ShloMosaic.Lib.VecWindow
public import Idealize.ShloMosaic.Lib.Pipeline.Value
public import Idealize.ShloMosaic.Lib.MatmulPlain
public import Idealize.ShloMosaic.Lib.WritesUnit
public import Idealize.ShloMosaic.Lib.WholeRead
public import Idealize.ShloMosaic.Lib.Pipeline.FrameBody
public import Mathlib.Tactic.FinCases

@[expose] public section

noncomputable section

/-! The kernel's work on one block of 128 keys, as a function of the blocks it reads: the same operations as the program text, written
once for any number `n` of 128-row query tiles. -/

namespace Cert.SbModel

open Idealize.ShloMosaic Idealize.ShloMosaic.ValueIdx

variable {F : FTy → Type} [FloatOps F] {α : Type}

/-- `n` tiles of 128 rows, `m` columns. -/
abbrev Rows (n m : ℕ) : Shape := ⟨2, ![128 * n, m]⟩
/-- One tile. -/
abbrev Tile : Shape := ⟨2, ![128, 128]⟩
/-- A mask of the lanes. -/
abbrev Lanes : Shape := ⟨2, ![1, 128]⟩

/-- A rectangle inside a two-axis array. -/
theorem slices2 {a b c d x y : ℕ} (h0 : x + c ≤ a) (h1 : y + d ≤ b) :
    (⟨2, ![a, b]⟩ : Shape).Slices ![x, y] ⟨2, ![c, d]⟩ :=
  ⟨rfl, fun i => by fin_cases i; exacts [h0, h1]⟩

/-- Two arrays one under the other. -/
theorem joins0 {a b c m : ℕ} (h : a + b = c) :
    Shape.Concatenates [⟨2, ![a, m]⟩, ⟨2, ![b, m]⟩] ⟨2, ![c, m]⟩ 0 := by
  refine ⟨Nat.le_refl 2, ?_, ?_⟩
  · intro s hs
    fin_cases hs <;> exact ⟨rfl, fun i hi => by fin_cases i; exacts [absurd rfl hi, rfl]⟩
  · simpa using h

/-- Two arrays side by side. -/
theorem joins1 {m a b c : ℕ} (h : a + b = c) :
    Shape.Concatenates [⟨2, ![m, a]⟩, ⟨2, ![m, b]⟩] ⟨2, ![m, c]⟩ 1 := by
  refine ⟨Nat.le_refl 2, ?_, ?_⟩
  · intro s hs
    fin_cases hs <;> exact ⟨rfl, fun i hi => by fin_cases i; exacts [rfl, absurd rfl hi]⟩
  · simpa using h

/-- Several tiles one under the other. -/
theorem joinsRows (n m : ℕ) (f : Fin (n + 2) → ((⟨2, ![128, m]⟩ : Shape).Idx → α)) :
    Shape.Concatenates ((List.ofFn fun r => (⟨⟨2, ![128, m]⟩, f r⟩ : (s : Shape) × (s.Idx → α))).map (·.1)) (Rows (n + 2) m) 0 := by
  have e : ((List.ofFn fun r => (⟨⟨2, ![128, m]⟩, f r⟩ : (s : Shape) × (s.Idx → α))).map (·.1))
      = List.replicate (n + 2) (⟨2, ![128, m]⟩ : Shape) := by
    rw [List.map_ofFn]; exact List.ofFn_const _ _
  rw [e]
  refine ⟨by simp, ?_, ?_⟩
  · intro s hs
    obtain rfl := (List.mem_replicate.1 hs).2
    exact ⟨rfl, fun i hi => by fin_cases i; exacts [absurd rfl hi, rfl]⟩
  · simp [Nat.mul_comm]

/-- Tile `(r, h)`. -/
def tile {n m : ℕ} (v : (Rows n m).Idx → α) (r h : ℕ) (hr : r < n) (hh : 128 * h + 128 ≤ m) : Tile.Idx → α :=
  extractStridedSlice Tile ![128 * r, 128 * h] v (slices2 (by omega) hh)

/-- `n` tiles of 128 rows one under the other. -/
def stack (m : ℕ) : (n : ℕ) → (Fin n → ((⟨2, ![128, m]⟩ : Shape).Idx → α)) → ((Rows n m).Idx → α)
  | 0, _ => fun j => (Nat.not_lt_zero _ (j 0).isLt).elim
  | 1, f => f 0
  | n + 2, f => concatenate (Rows (n + 2) m) 0 (List.ofFn fun r => ⟨⟨2, ![128, m]⟩, f r⟩) (joinsRows n m f)

/-- Two arrays of one shape side by side. -/
def beside {a b c : ℕ} (hc : b + b = c) (x y : (⟨2, ![a, b]⟩ : Shape).Idx → α) : (⟨2, ![a, c]⟩ : Shape).Idx → α :=
  concatenate ⟨2, ![a, c]⟩ 1 [⟨⟨2, ![a, b]⟩, x⟩, ⟨⟨2, ![a, b]⟩, y⟩] (joins1 hc)

/-- The two heads of every row tile: side by side, then one under the other. -/
def grid2 (n : ℕ) (f : Fin n → Fin 2 → (Tile.Idx → α)) : (Rows n 256).Idx → α :=
  stack 256 n fun r => beside rfl (f r 0) (f r 1)

/-- The last `n` of four row tiles. -/
def from4 {m : ℕ} : (n : ℕ) → n ≤ 4 → ((Rows 4 m).Idx → α) → ((Rows n m).Idx → α)
  | 4, _, v => v
  | n, h, v => extractStridedSlice (Rows n m) ![128 * (4 - n), 0] v (slices2 (by omega) (by omega))

/-- `part` added to the last `n` of four row tiles. -/
def addRows : (n : ℕ) → n ≤ 4 → FVec F (Rows 4 128) .f32 → FVec F (Rows n 128) .f32 → FVec F (Rows 4 128) .f32
  | 4, _, total, part => addf total part
  | n, h, total, part =>
    concatenate (Rows 4 128) 0
      [⟨Rows (4 - n) 128, extractStridedSlice (Rows (4 - n) 128) ![0, 0] total (slices2 (by omega) (by omega))⟩,
       ⟨Rows n 128, addf (extractStridedSlice (Rows n 128) ![128 * (4 - n), 0] total (slices2 (by omega) (by omega))) part⟩]
      (joins0 (by omega))

/-- The zero of a format, everywhere. -/
def zeros (s : Shape) : FVec F s .f32 := broadcast s (Scalar.ofBits .f32 0x00000000#32)

/-- A lane mask over the rows of a tile. -/
def lanes {a : ℕ} (w : IVec Lanes 1) : IVec ⟨2, ![a, 128]⟩ 1 :=
  broadcastTo ⟨2, ![a, 128]⟩ (shapeCast Lanes w rfl) ⟨Nat.le_refl 2, fun i => by fin_cases i; exacts [.inl rfl, .inr fun _ => rfl]⟩

/-- `log (1 + exp z)`. -/
def drop (z : FVec F Tile .f32) : FVec F Tile .f32 :=
  addf (maximumf z (zeros Tile))
    (log (addf (broadcast Tile (Scalar.ofBits .f32 0x3F800000#32)) (exp (subf (zeros Tile) (absf z)))))

/-- The block under the first head's lanes, then under the second's. -/
def byHead (w0 w1 : IVec Lanes 1) (x : FVec F Tile .bf16) : FVec F ⟨2, ![256, 128]⟩ .bf16 :=
  concatenate ⟨2, ![256, 128]⟩ 0
    [⟨Tile, select (lanes w0) x (broadcast Tile (Scalar.ofBits .bf16 0x0000#16))⟩,
     ⟨Tile, select (lanes w1) x (broadcast Tile (Scalar.ofBits .bf16 0x0000#16))⟩] (joins0 rfl)

/-- The key blocks' transposed product with the rows. -/
def transposedLhs (n : ℕ) : DotDims (Rows n 256) (Rows n 128) ⟨2, ![256, 128]⟩ where
  lhsContracting := [0]
  rhsContracting := [0]
  lhsNonContracting := [1]
  rhsNonContracting := [1]
  lhsBatch := []
  rhsBatch := []
  wf := ⟨rfl, by simp, rfl, by simp, by simp, by simp, by simpa [List.finRange] using List.Perm.swap 0 1 [],
    by simpa [List.finRange] using List.Perm.swap 0 1 [], rfl, Nat.two_pos, fun b => by fin_cases b <;> rfl⟩

/-- The sums over the keys from each key on, per tile: high parts and remainders against the triangle. -/
def suffixSums (n : ℕ) (f : Fin n → Fin 2 → FVec F Tile .f32) (tri : FVec F ⟨2, ![512, 256]⟩ .bf16) : FVec F (Rows n 256) .f32 :=
  matmul (DotDims.plain (128 * n) 512 256) none
    (beside rfl (grid2 n fun r h => truncf .bf16 (f r h) (by decide))
      (grid2 n fun r h => truncf .bf16 (subf (f r h) (extf .f32 (truncf .bf16 (f r h) (by decide)) (by decide))) (by decide)))
    tri (constant _ .f32 0x00000000#32)

/-- Each row's total: the first column of the sums, over all the lanes. -/
def rowTotals (n : ℕ) (c : FVec F (Rows n 256) .f32) (h : Fin 2) : FVec F (Rows n 128) .f32 :=
  stack 128 n fun r =>
    broadcastTo Tile
      (shapeCast ⟨2, ![128, 1]⟩ (extractStridedSlice ⟨2, ![128, 1]⟩ ![0, 0] (tile c r h r.2 (by omega)) (slices2 (by omega) (by omega))) rfl)
      ⟨Nat.le_refl 2, fun i => by fin_cases i; exacts [.inr fun _ => rfl, .inl rfl]⟩

/-- What does not change over a chunk of queries. -/
structure Fixed (F : FTy → Type) where
  w0 : IVec Lanes 1
  w1 : IVec Lanes 1
  q : FVec F (Rows 4 128) .bf16
  g : FVec F (Rows 4 128) .bf16
  tri : FVec F ⟨2, ![512, 256]⟩ .bf16
  etot : Fin 2 → FVec F (Rows 4 128) .f32

/-- The running sums of the two heads, and the query gradient. -/
structure Sums (F : FTy → Type) where
  l : Fin 2 → FVec F (Rows 4 128) .f32
  e : Fin 2 → FVec F (Rows 4 128) .f32
  dq : FVec F (Rows 4 128) .f32

/-- The strict mask on the first row tile of a masked piece. -/
def masked (msk : Option (IVec Tile 1)) (r : ℕ) (x : FVec F Tile .f32) : FVec F Tile .f32 :=
  match msk, r with
  | some w, 0 => select w x (zeros Tile)
  | _, _ => x

/-- The first head's rows on its lanes, the second's on the others. -/
def pick (X : Fixed F) (x : FVec F ⟨2, ![256, 128]⟩ .f32) : FVec F Tile .f32 :=
  select (lanes X.w0) (extractStridedSlice Tile ![0, 0] x (slices2 (by omega) (by omega)))
    (extractStridedSlice Tile ![128, 0] x (slices2 (by omega) (by omega)))

section Piece

variable (X : Fixed F) (msk : Option (IVec Tile 1)) (n : ℕ) (hn : n ≤ 4) (k v : FVec F Tile .bf16) (S : Sums F)

def kk : FVec F ⟨2, ![256, 128]⟩ .bf16 := byHead X.w0 X.w1 k
def qr : FVec F (Rows n 128) .bf16 := from4 n hn X.q
def gr : FVec F (Rows n 128) .bf16 := from4 n hn X.g
def zz : FVec F (Rows n 256) .f32 :=
  matmul (DotDims.transposedRhs (128 * n) 128 256) none (qr X n hn) (kk X k) (constant _ .f32 0x00000000#32)
def da : FVec F (Rows n 256) .f32 :=
  matmul (DotDims.transposedRhs (128 * n) 128 256) none (gr X n hn) (kk X v) (constant _ .f32 0x00000000#32)
def zt (r : Fin n) (h : Fin 2) : FVec F Tile .f32 := tile (zz X n hn k) r h r.2 (by omega)
/-- The running sums' tile beside row tile `r` of the piece. -/
def beside4 (x : FVec F (Rows 4 128) .f32) (r : Fin n) : FVec F Tile .f32 := tile x (4 - n + r) 0 (by omega) (by omega)
def drops (r : Fin n) (h : Fin 2) : FVec F Tile .f32 := masked msk r (drop (zt X n hn k r h))
def csum : FVec F (Rows n 256) .f32 := suffixSums n (drops X msk n hn k) X.tri
def weights (r : Fin n) (h : Fin 2) : FVec F Tile .f32 :=
  masked msk r (exp (subf (zt X n hn k r h) (addf (tile (csum X msk n hn k) r h r.2 (by omega)) (beside4 n hn (S.l h) r))))
def ab (r : Fin n) (h : Fin 2) : FVec F Tile .bf16 := truncf .bf16 (weights X msk n hn k S r h) (by decide)
def es (r : Fin n) (h : Fin 2) : FVec F Tile .f32 :=
  mulf (extf .f32 (ab X msk n hn k S r h) (by decide)) (tile (da X n hn v) r h r.2 (by omega))
def esum : FVec F (Rows n 256) .f32 := suffixSums n (es X msk n hn k v S) X.tri
def dzt (r : Fin n) (h : Fin 2) : FVec F Tile .f32 :=
  masked msk r
    (subf (es X msk n hn k v S r h)
      (mulf (exp (subf (zt X n hn k r h) (drops X msk n hn k r h)))
        (subf (beside4 n hn (X.etot h) r)
          (subf (addf (tile (esum X msk n hn k v S) r h r.2 (by omega)) (beside4 n hn (S.e h) r)) (es X msk n hn k v S r h)))))
def dz : FVec F (Rows n 256) .bf16 := grid2 n fun r h => truncf .bf16 (dzt X msk n hn k v S r h) (by decide)
/-- What the piece adds to the key gradient's rows. -/
def dkAdd : FVec F Tile .f32 :=
  pick X (matmul (transposedLhs n) none (dz X msk n hn k v S) (qr X n hn) (constant _ .f32 0x00000000#32))
/-- What the piece adds to the value gradient's rows. -/
def dvAdd : FVec F Tile .f32 :=
  pick X (matmul (transposedLhs n) none (grid2 n (ab X msk n hn k S)) (gr X n hn) (constant _ .f32 0x00000000#32))
/-- The sums after the piece. -/
def piece : Sums F where
  l h := addRows n hn (S.l h) (rowTotals n (csum X msk n hn k) h)
  e h := addRows n hn (S.e h) (rowTotals n (esum X msk n hn k v S) h)
  dq := addRows n hn S.dq (matmul (DotDims.plain (128 * n) 256 128) none (dz X msk n hn k v S) (kk X k) (constant _ .f32 0x00000000#32))

end Piece

/-- All the keys of a pair of heads. -/
abbrev Keys : Shape := ⟨2, ![4096, 128]⟩

/-- The rows of key block `b`. -/
def rowsAt (K : Keys.Idx → α) (b : ℕ) (hb : b < 32) : Tile.Idx → α :=
  fun j => K (ix2 ⟨128 * b + (j 0).val, by have := idx2_lt0 j; omega⟩ (j 1))

/-- The rows of key block `b` replaced. -/
def putRows (D : Keys.Idx → α) (b : ℕ) (x : Tile.Idx → α) : Keys.Idx → α :=
  fun j => if h : 128 * b ≤ (j 0).val ∧ (j 0).val < 128 * b + 128 then x (ix2 ⟨(j 0).val - 128 * b, by omega⟩ (j 1)) else D j

/-- The rows of key block `b` added to. -/
def addBlock (D : FVec F Keys .f32) (b : ℕ) (hb : b < 32) (x : FVec F Tile .f32) : FVec F Keys .f32 :=
  putRows D b (addf (rowsAt D b hb) x)

/-- Two slabs in one buffer. -/
def slabs (f : Fin 2 → ((Rows 4 128).Idx → α)) : (⟨3, ![2, 512, 128]⟩ : Shape).Idx → α := fun j => f (j 0) (ix2 (j 1) (j 2))

/-- The running sums of a chunk and the gradients of the keys and values. -/
structure Acc (F : FTy → Type) where
  S : Sums F
  dk : FVec F Keys .f32
  dv : FVec F Keys .f32

/-- One key block's work. -/
def work (X : Fixed F) (K V : FVec F Keys .bf16) (msk : Option (IVec Tile 1)) (n : ℕ) (hn : n ≤ 4) (b : ℕ) (hb : b < 32) (A : Acc F) : Acc F where
  S := piece X msk n hn (rowsAt K b hb) (rowsAt V b hb) A.S
  dk := addBlock A.dk b hb (dkAdd X msk n hn (rowsAt K b hb) (rowsAt V b hb) A.S)
  dv := addBlock A.dv b hb (dvAdd X msk n hn (rowsAt K b hb) A.S)

/-- The query gradient set to zero before a span. -/
def Acc.start (A : Acc F) : Acc F := { A with S := { A.S with dq := zeros _ } }

/-- The query gradient of a span added to what was there. -/
def Acc.finish (A : Acc F) (dq : FVec F (Rows 4 128) .f32) : Acc F := { A with S := { A.S with dq := addf dq A.S.dq } }

/-- The two key blocks of one turn of the loop. -/
def turn (X : Fixed F) (K V : FVec F Keys .bf16) (a : Fin 16) (A : Acc F) : Acc F :=
  (work X K V none 4 (Nat.le_refl 4) (2 * a) (by omega) (work X K V none 4 (Nat.le_refl 4) (2 * a + 1) (by omega) A.start)).finish A.S.dq

/-- The four key blocks on the diagonal. -/
def diag (X : Fixed F) (K V : FVec F Keys .bf16) (strict : IVec Tile 1) (i : Fin 8) (A : Acc F) : Acc F :=
  (work X K V (some strict) 4 (by omega) (4 * i) (by omega) (work X K V (some strict) 3 (by omega) (4 * i + 1) (by omega)
    (work X K V (some strict) 2 (by omega) (4 * i + 2) (by omega) (work X K V (some strict) 1 (by omega) (4 * i + 3) (by omega) A.start)))).finish A.S.dq

/-! What the buffers read as. -/

section Reads

variable {sig : RefSig} {κ : Kind} {sp : Space} {e : EltTy} {Val : EltTy → Type}

theorem slab_read {arg : Memref sig κ sp ⟨3, ![2, 512, 128]⟩ e} (harg : arg.IsWhole) (f : Fin 2 → ((Rows 4 128).Idx → Val e)) (h : Fin 2)
    (inb) (hc) :
    shapeCast (Rows 4 128) (View.readAt Val arg.view (Rect.unit (s := ⟨3, ![2, 512, 128]⟩) ![h, 0, 0] ![1, 512, 128] inb).toLoadRect
      (harg.unread (slabs f))) hc = f h := by
  funext j
  refine (shapeCast_dropUnit_apply (n := 2) ![512, 128] _ hc j).trans ?_
  rw [harg.readAt_unread]
  have ei : ∀ x : (⟨3, ![2, 512, 128]⟩ : Shape).Idx, (x 0).val = h.val → (x 1).val = (j 0).val → (x 2).val = (j 1).val → slabs f x = f h j := by
    intro x h0 h1 h2
    have e0 : x 0 = h := Fin.ext h0
    have e1 : (ix2 (x 1) (x 2) : (Rows 4 128).Idx) = j := by
      rw [eq_ix2 j]; exact congrArg₂ ix2 (Fin.ext h1) (Fin.ext h2)
    show f (x 0) (ix2 (x 1) (x 2)) = _
    rw [e0, e1]
  refine ei _ ?_ ?_ ?_
  · show h.val + 1 * 0 = _; omega
  · show 0 + 1 * (j 0).val = _; omega
  · show 0 + 1 * (j 1).val = _; omega

/-- A buffer of two slabs after both are stored. -/
theorem slabs_written {v : View sig κ sp ⟨3, ![2, 512, 128]⟩ e} (g : v.ty.Contents Val) (f : Fin 2 → ((Rows 4 128).Idx → Val e))
    (inb0 inb1) (h0 h1) :
    v.read Val (v.writes Val g [⟨Rect.unit (s := ⟨3, ![2, 512, 128]⟩) ![1, 0, 0] ![1, 512, 128] inb1, shapeCast ⟨3, ![1, 512, 128]⟩ (f 1) h1⟩,
      ⟨Rect.unit (s := ⟨3, ![2, 512, 128]⟩) ![0, 0, 0] ![1, 512, 128] inb0, shapeCast ⟨3, ![1, 512, 128]⟩ (f 0) h0⟩]) = slabs f := by
  funext j
  by_cases hj : (j 0).val = 1
  · rw [View.read_writes_cons_unit_of_mem v g inb1 _ _ j (ix3 0 (j 1) (j 2)) rfl
      (fun a => by match a with | 0 => exact hj | 1 => exact (Nat.zero_add _).symm | 2 => exact (Nat.zero_add _).symm)]
    refine (shapeCast_addUnit_apply (n := 2) ![512, 128] _ h1 _).trans ?_
    have e0 : j 0 = (1 : Fin 2) := Fin.ext hj
    show _ = f (j 0) _
    rw [e0]; congr 1; funext a; match a with | 0 => rfl | 1 => rfl
  · have hj0 : (j 0).val = 0 := by have := (j 0).isLt; simp at this; omega
    rw [View.read_writes_cons_unit_of_not_mem v g inb1 _ _ j rfl 0 (.inl (by show (j 0).val < 1; omega)),
      View.read_writes_cons_unit_of_mem v g inb0 _ _ j (ix3 0 (j 1) (j 2)) rfl
      (fun a => by match a with | 0 => exact hj0 | 1 => exact (Nat.zero_add _).symm | 2 => exact (Nat.zero_add _).symm)]
    refine (shapeCast_addUnit_apply (n := 2) ![512, 128] _ h0 _).trans ?_
    have e0 : j 0 = (0 : Fin 2) := Fin.ext hj0
    show _ = f (j 0) _
    rw [e0]; congr 1; funext a; match a with | 0 => rfl | 1 => rfl

/-- One slab replaced. -/
def putSlab (y : (⟨3, ![2, 512, 128]⟩ : Shape).Idx → α) (h : Fin 2) (x : (Rows 4 128).Idx → α) : (⟨3, ![2, 512, 128]⟩ : Shape).Idx → α :=
  fun j => if (j 0).val = h.val then x (ix2 (j 1) (j 2)) else y j

theorem slab_written {v : View sig κ sp ⟨3, ![2, 512, 128]⟩ e} (g : v.ty.Contents Val) (L) (h : Fin 2) (inb) (x : (Rows 4 128).Idx → Val e) (hc) :
    v.read Val (v.writes Val g (⟨Rect.unit (s := ⟨3, ![2, 512, 128]⟩) ![h, 0, 0] ![1, 512, 128] inb, shapeCast ⟨3, ![1, 512, 128]⟩ x hc⟩ :: L))
      = putSlab (v.read Val (v.writes Val g L)) h x := by
  funext j
  unfold putSlab
  by_cases hj : (j 0).val = h.val
  · rw [if_pos hj, View.read_writes_cons_unit_of_mem v g inb _ _ j (ix3 0 (j 1) (j 2)) rfl
      (fun a => by match a with | 0 => exact hj | 1 => exact (Nat.zero_add _).symm | 2 => exact (Nat.zero_add _).symm)]
    refine (shapeCast_addUnit_apply (n := 2) ![512, 128] _ hc _).trans ?_
    congr 1; funext a; match a with | 0 => rfl | 1 => rfl
  · rw [if_neg hj, View.read_writes_cons_unit_of_not_mem v g inb _ _ j rfl 0
      (by show (j 0).val < h.val ∨ h.val + 1 ≤ (j 0).val; omega)]

theorem putSlab_both (y : (⟨3, ![2, 512, 128]⟩ : Shape).Idx → α) (f : Fin 2 → (Rows 4 128).Idx → α) : putSlab (putSlab y 0 (f 0)) 1 (f 1) = slabs f := by
  funext j
  unfold putSlab slabs
  have hlt : (j 0).val < 2 := (j 0).isLt
  by_cases hj : (j 0).val = 1
  · have e : j 0 = (1 : Fin 2) := Fin.ext hj
    exact (if_pos hj).trans (congrArg (fun a => f a (ix2 (j 1) (j 2))) e.symm)
  · have h0 : (j 0).val = 0 := by omega
    have e : j 0 = (0 : Fin 2) := Fin.ext h0
    exact (if_neg hj).trans ((if_pos h0).trans (congrArg (fun a => f a (ix2 (j 1) (j 2))) e.symm))

/-- A load of a key block. -/
theorem rows_read {v : View sig κ sp Keys e} (g : v.ty.Contents Val) (b : ℕ) (hb : b < 32) {off : Fin 2 → ℕ} (ho : off = ![128 * b, 0]) (inb) :
    View.readAt Val v (Rect.unit (s := Keys) off ![128, 128] inb).toLoadRect g = rowsAt (v.read Val g) b hb := by
  subst ho
  funext j
  show v.read Val g _ = v.read Val g _
  congr 1
  funext a
  match a with
  | 0 => exact Fin.ext (by show 128 * b + 1 * (j 0).val = 128 * b + (j 0).val; omega)
  | 1 => exact Fin.ext (by show 0 + 1 * (j 1).val = (j 1).val; omega)

/-- A store to a key block. -/
theorem rows_written {v : View sig κ sp Keys e} (g : v.ty.Contents Val) (L) (b : ℕ) {off : Fin 2 → ℕ} (ho : off = ![128 * b, 0]) (inb)
    (x : Tile.Idx → Val e) :
    v.read Val (v.writes Val g (⟨Rect.unit (s := Keys) off ![128, 128] inb, x⟩ :: L)) = putRows (v.read Val (v.writes Val g L)) b x := by
  funext j
  refine (View.read_writes_cons_rows v g inb x L j ho (W := 128) rfl rfl).trans ?_
  unfold putRows
  split
  · congr 1; funext a; match a with | 0 => rfl | 1 => rfl
  · rfl

theorem slab_casts : (⟨3, ![1, 512, 128]⟩ : Shape).ShapeCasts (Rows 4 128) := by decide

theorem slab_casts' : (Rows 4 128).ShapeCasts ⟨3, ![1, 512, 128]⟩ := by decide

/-- A two-slab buffer's slab, as a load gives it. -/
def slabLoad (arg : Memref sig κ sp ⟨3, ![2, 512, 128]⟩ e) (g : arg.view.ty.Contents Val) (h : Fin 2) : (Rows 4 128).Idx → Val e :=
  shapeCast (s := ⟨3, ![1, 512, 128]⟩) (Rows 4 128) (View.readAt Val arg.view (Rect.unit (s := ⟨3, ![2, 512, 128]⟩) ![h, 0, 0] ![1, 512, 128]
    (by intro a; fin_cases a; exacts [Nat.succ_le_of_lt h.2, Nat.le_refl _, Nat.le_refl _])).toLoadRect g) slab_casts

theorem slabLoad_eq {arg : Memref sig κ sp ⟨3, ![2, 512, 128]⟩ e} (harg : arg.IsWhole) (f : Fin 2 → ((Rows 4 128).Idx → Val e)) :
    slabLoad arg (harg.unread (slabs f)) = f := funext fun h => slab_read harg f h _ _

/-- Both slabs stored, the second last. -/
def slabPieces (f : Fin 2 → ((Rows 4 128).Idx → Val e)) : List (View.Piece Val ⟨3, ![2, 512, 128]⟩ e) :=
  [⟨Rect.unit (s := ⟨3, ![2, 512, 128]⟩) ![1, 0, 0] ![1, 512, 128] (by decide), shapeCast ⟨3, ![1, 512, 128]⟩ (f 1) slab_casts'⟩,
   ⟨Rect.unit (s := ⟨3, ![2, 512, 128]⟩) ![0, 0, 0] ![1, 512, 128] (by decide), shapeCast ⟨3, ![1, 512, 128]⟩ (f 0) slab_casts'⟩]

theorem slabPieces_read {v : View sig κ sp ⟨3, ![2, 512, 128]⟩ e} (g : v.ty.Contents Val) (f : Fin 2 → ((Rows 4 128).Idx → Val e)) :
    v.read Val (v.writes Val g (slabPieces f)) = slabs f := slabs_written g f _ _ _ _

/-- A key block, as a load gives it. -/
def rowsLoad (v : View sig κ sp Keys e) (g : v.ty.Contents Val) (off : Fin 2 → ℕ) (inb : ∀ a : Fin 2, off a + (![128, 128] : Fin 2 → ℕ) a ≤ (![4096, 128] : Fin 2 → ℕ) a) : Tile.Idx → Val e :=
  shapeCast Tile (View.readAt Val v (Rect.unit (s := Keys) off ![128, 128] inb).toLoadRect g) rfl

theorem rowsLoad_eq {v : View sig κ sp Keys e} (g : v.ty.Contents Val) (b : ℕ) (hb : b < 32) {off : Fin 2 → ℕ} (ho : off = ![128 * b, 0]) (inb : ∀ a : Fin 2, off a + (![128, 128] : Fin 2 → ℕ) a ≤ (![4096, 128] : Fin 2 → ℕ) a) :
    rowsLoad v g off inb = rowsAt (v.read Val g) b hb :=
  (Idealize.ShloMosaic.shapeCast_self _ _).trans (rows_read g b hb ho inb)

/-- The pieces after a key block is added to. -/
def addPiece {v : View sig κ sp Keys .f32} (g : v.ty.Contents (Elt F)) (L : List (View.Piece (Elt F) Keys .f32)) (off : Fin 2 → ℕ) (inb : ∀ a : Fin 2, off a + (![128, 128] : Fin 2 → ℕ) a ≤ (![4096, 128] : Fin 2 → ℕ) a)
    (x : FVec F Tile .f32) : List (View.Piece (Elt F) Keys .f32) :=
  ⟨Rect.unit (s := Keys) off ![128, 128] inb,
    shapeCast Tile (addf (View.readAt (Elt F) v (Rect.unit (s := Keys) off ![128, 128] inb).toLoadRect (v.writes (Elt F) g L)) x) rfl⟩ :: L

theorem addPiece_read {v : View sig κ sp Keys .f32} (g : v.ty.Contents (Elt F)) (L : List (View.Piece (Elt F) Keys .f32)) (b : ℕ) (hb : b < 32)
    {off : Fin 2 → ℕ} (ho : off = ![128 * b, 0]) (inb : ∀ a : Fin 2, off a + (![128, 128] : Fin 2 → ℕ) a ≤ (![4096, 128] : Fin 2 → ℕ) a) (x : FVec F Tile .f32) :
    v.read (Elt F) (v.writes (Elt F) g (addPiece g L off inb x)) = addBlock (v.read (Elt F) (v.writes (Elt F) g L)) b hb x := by
  refine (rows_written g L b ho inb _).trans ?_
  refine congrArg (putRows _ b) ((Idealize.ShloMosaic.shapeCast_self _ _).trans ?_)
  rw [rows_read (v.writes (Elt F) g L) b hb ho inb]

theorem rowsAt_putRows_ne (D : Keys.Idx → α) (b b' : ℕ) (hb : b < 32) (hne : b ≠ b') (x : Tile.Idx → α) : rowsAt (putRows D b' x) b hb = rowsAt D b hb := by
  funext j
  have hj := idx2_lt0 j
  exact dif_neg (by show ¬ (128 * b' ≤ 128 * b + (j 0).val ∧ 128 * b + (j 0).val < 128 * b' + 128); omega)

/-- The pieces after a key block no piece is on is added to. -/
def freshPiece {v : View sig κ sp Keys .f32} (g : v.ty.Contents (Elt F)) (L : List (View.Piece (Elt F) Keys .f32)) (off : Fin 2 → ℕ) (inb : ∀ a : Fin 2, off a + (![128, 128] : Fin 2 → ℕ) a ≤ (![4096, 128] : Fin 2 → ℕ) a)
    (x : FVec F Tile .f32) : List (View.Piece (Elt F) Keys .f32) :=
  ⟨Rect.unit (s := Keys) off ![128, 128] inb,
    shapeCast Tile (addf (View.readAt (Elt F) v (Rect.unit (s := Keys) off ![128, 128] inb).toLoadRect g) x) rfl⟩ :: L

theorem freshPiece_read {v : View sig κ sp Keys .f32} (g : v.ty.Contents (Elt F)) (L : List (View.Piece (Elt F) Keys .f32)) (b : ℕ) (hb : b < 32)
    {off : Fin 2 → ℕ} (ho : off = ![128 * b, 0]) (inb : ∀ a : Fin 2, off a + (![128, 128] : Fin 2 → ℕ) a ≤ (![4096, 128] : Fin 2 → ℕ) a) (x : FVec F Tile .f32)
    (W : FVec F Keys .f32) (hW : v.read (Elt F) (v.writes (Elt F) g L) = W) (hne : rowsAt W b hb = rowsAt (v.read (Elt F) g) b hb) :
    v.read (Elt F) (v.writes (Elt F) g (freshPiece g L off inb x)) = addBlock W b hb x := by
  refine (rows_written g L b ho inb _).trans ?_
  rw [hW]
  refine congrArg (putRows _ b) ((Idealize.ShloMosaic.shapeCast_self _ _).trans ?_)
  rw [rows_read g b hb ho inb, hne]

/-- Four key blocks added to, the fourth first. -/
theorem four_read {arg : Memref sig κ sp Keys .f32} (harg : arg.IsWhole) (D : FVec F Keys .f32) (a : Fin 8) {o0 o1 o2 o3 : Fin 2 → ℕ}
    (h0 : o0 = ![128 * (4 * a.val + 0), 0]) (h1 : o1 = ![128 * (4 * a.val + 1), 0]) (h2 : o2 = ![128 * (4 * a.val + 2), 0]) (h3 : o3 = ![128 * (4 * a.val + 3), 0])
    (i0 i1 i2 i3) (x0 x1 x2 x3 : FVec F Tile .f32) :
    arg.view.read (Elt F) (arg.view.writes (Elt F) (harg.unread D)
        (freshPiece (harg.unread D) (freshPiece (harg.unread D) (freshPiece (harg.unread D) (freshPiece (harg.unread D) [] o3 i3 x3) o2 i2 x2) o1 i1 x1) o0 i0 x0))
      = addBlock (addBlock (addBlock (addBlock D (4 * a.val + 3) (by omega) x3) (4 * a.val + 2) (by omega) x2) (4 * a.val + 1) (by omega) x1) (4 * a.val + 0) (by omega) x0 := by
  have hD : arg.view.read (Elt F) (harg.unread D) = D := harg.read_unread (Val := Elt F) D
  have e : arg.view.read (Elt F) (arg.view.writes (Elt F) (harg.unread D) []) = D := by rw [View.writes_nil]; exact hD
  have r3 := freshPiece_read (harg.unread D) [] (4 * a.val + 3) (by omega) h3 i3 x3 D e (by rw [hD])
  have r2 := freshPiece_read (harg.unread D) _ (4 * a.val + 2) (by omega) h2 i2 x2 _ r3
    (by rw [hD]; exact rowsAt_putRows_ne _ _ _ _ (by omega) _)
  have r1 := freshPiece_read (harg.unread D) _ (4 * a.val + 1) (by omega) h1 i1 x1 _ r2
    (by rw [hD]; exact (rowsAt_putRows_ne _ _ _ _ (by omega) _).trans (rowsAt_putRows_ne _ _ _ _ (by omega) _))
  exact freshPiece_read (harg.unread D) _ (4 * a.val + 0) (by omega) h0 i0 x0 _ r1
    (by rw [hD]; exact (rowsAt_putRows_ne _ _ _ _ (by omega) _).trans ((rowsAt_putRows_ne _ _ _ _ (by omega) _).trans (rowsAt_putRows_ne _ _ _ _ (by omega) _)))

/-- A whole buffer added to, as stored. -/
def wholeSum (v : View sig κ sp (Rows 4 128) .f32) (g : v.ty.Contents (Elt F)) (inb : ∀ a : Fin 2, (![0, 0] : Fin 2 → ℕ) a + (![512, 128] : Fin 2 → ℕ) a ≤ (![512, 128] : Fin 2 → ℕ) a)
    (x : FVec F (Rows 4 128) .f32) : FVec F (Rows 4 128) .f32 :=
  shapeCast (Rows 4 128) (addf (View.readAt (Elt F) v (Rect.unit (s := Rows 4 128) ![0, 0] ![512, 128] inb).toLoadRect g) x) rfl

theorem wholeSum_eq {arg : Memref sig κ sp (Rows 4 128) .f32} (harg : arg.IsWhole) (inb) (D x : FVec F (Rows 4 128) .f32) :
    wholeSum arg.view (harg.unread D) inb x = addf D x := by
  refine (Idealize.ShloMosaic.shapeCast_self _ _).trans ?_
  have e : View.readAt (Elt F) arg.view (Rect.unit (s := Rows 4 128) ![0, 0] ![512, 128] inb).toLoadRect (harg.unread D) = D :=
    (View.readAt_full (v := arg.view) _ inb).trans (harg.read_unread (Val := Elt F) D)
  rw [e]

theorem none_read [∀ e, Nonempty (Val e)] {s : Shape} {arg : Memref sig κ sp s e} (harg : arg.IsWhole) (x : s.Idx → Val e) :
    arg.view.read Val (arg.view.writes Val (harg.unread x) []) = x := by
  rw [View.writes_nil]; exact harg.read_unread x

end Reads

end Cert.SbModel
-- ==== Proof.Sb.Trip.lean ====
module

public import proofs.«01_k».proof.Proof.Gen.SbIdeal.Launch
public import proofs.«01_k».proof.Proof.Gen.SbIdeal.Points
public import proofs.«01_k».proof.Proof.Gen.SbIdeal.Skeleton
public import Idealize.ShloMosaic.Lib.Pipeline.FrameBody
public import Idealize.ShloMosaic.Lib.Pipeline.Frame
public import proofs.«01_k».proof.Proof.Sb.Model
public import Idealize.ShloMosaic.Lib.Exec
public import Idealize.ShloMosaic.Lib.Tactic

@[expose] public section

set_option maxRecDepth 16384

noncomputable section

namespace Cert.SbRun

open Cert.SbIdeal Cert.SbIdeal.Gen Cert.SbModel
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The word a turn's side condition is about, for the sixteen turns there can be. -/
theorem off2_eq : ∀ (a : Fin 16) (r : Fin 2), k0_off2 (BitVec.ofNat 32 a) (BitVec.ofNat 32 (128 * r.val)) = ![128 * (2 * a.val + r.val), 0] := by
  intro a r
  have h : ∀ (a : Fin 16) (r : Fin 2), k0_off2 (BitVec.ofNat 32 a) (BitVec.ofNat 32 (128 * r.val)) 0 = 128 * (2 * a.val + r.val) := by decide
  funext x
  fin_cases x
  · exact h a r
  · rfl

theorem chk1 : ∀ a : Fin 16, k0_chk1 (BitVec.ofNat 32 a) := by
  intro a
  refine ⟨?_, ?_, ?_⟩
  · revert a; decide
  · intro r x
    rw [off2_eq]
    fin_cases x
    · show 128 * (2 * a.val + r.val) + 128 ≤ 4096; omega
    · show 0 + 128 ≤ 128; omega
  · revert a; decide

section Turn

variable (X : Fixed F) (K V : FVec F Keys .bf16) (A : Acc F)

/-- The buffers the loop works on, at definite contents. -/
def held (c : Dev nD) (arg10 arg11 arg12 : Memref sig .tc .vmem S2x512x128 .f32) (arg3 arg4 : Memref sig .tc .vmem S4096x128 .bf16)
    (arg14 arg15 : Memref sig .tc .vmem S4096x128 .f32) (arg13 : Memref sig .tc .vmem S512x128 .f32)
    (X : Fixed F) (K V : FVec F Keys .bf16) (A : Acc F) : sProp 𝕄 :=
  iprop(owns (c : Thread nD τ) arg10 fullShare (slabs A.S.l) ∗ owns (c : Thread nD τ) arg11 fullShare (slabs A.S.e)
    ∗ owns (c : Thread nD τ) arg12 fullShare (slabs X.etot)
    ∗ owns (c : Thread nD τ) arg3 fullShare K ∗ owns (c : Thread nD τ) arg4 fullShare V ∗ owns (c : Thread nD τ) arg14 fullShare A.dk
    ∗ owns (c : Thread nD τ) arg15 fullShare A.dv ∗ owns (c : Thread nD τ) arg13 fullShare A.S.dq)

theorem fixed_eq {arg12 : Memref sig .tc .vmem S2x512x128 .f32} (harg12 : arg12.IsWhole) (X : Fixed F) :
    ({ X with etot := slabLoad (Val := Elt F) arg12 (harg12.unread (slabs X.etot)) } : Fixed F) = X := by
  rw [slabLoad_eq]

theorem start_eq {arg10 arg11 : Memref sig .tc .vmem S2x512x128 .f32} (harg10 : arg10.IsWhole) (harg11 : arg11.IsWhole) (A : Acc F) :
    ({ l := slabLoad (Val := Elt F) arg10 (harg10.unread (slabs A.S.l)), e := slabLoad (Val := Elt F) arg11 (harg11.unread (slabs A.S.e)), dq := zeros _ } : Sums F)
      = A.start.S := by
  rw [slabLoad_eq, slabLoad_eq]; rfl

/-- A turn from the blocks it reads. -/
theorem turn_parts (a : Fin 16) (Xr : Fixed F) (b1 d1 b0 d0 : FVec F Tile .bf16) (S0 : Sums F) (hX : Xr = X)
    (hk1 : b1 = rowsAt K (2 * a + 1) (by omega)) (hv1 : d1 = rowsAt V (2 * a + 1) (by omega))
    (hk0 : b0 = rowsAt K (2 * a) (by omega)) (hv0 : d0 = rowsAt V (2 * a) (by omega)) (hS : S0 = A.start.S) :
    (piece Xr none 4 (Nat.le_refl 4) b0 d0 (piece Xr none 4 (Nat.le_refl 4) b1 d1 S0)).l = (turn X K V a A).S.l
    ∧ (piece Xr none 4 (Nat.le_refl 4) b0 d0 (piece Xr none 4 (Nat.le_refl 4) b1 d1 S0)).e = (turn X K V a A).S.e
    ∧ addf A.S.dq (piece Xr none 4 (Nat.le_refl 4) b0 d0 (piece Xr none 4 (Nat.le_refl 4) b1 d1 S0)).dq = (turn X K V a A).S.dq
    ∧ addBlock (addBlock A.dk (2 * a + 1) (by omega) (dkAdd Xr none 4 (Nat.le_refl 4) b1 d1 S0)) (2 * a) (by omega)
        (dkAdd Xr none 4 (Nat.le_refl 4) b0 d0 (piece Xr none 4 (Nat.le_refl 4) b1 d1 S0)) = (turn X K V a A).dk
    ∧ addBlock (addBlock A.dv (2 * a + 1) (by omega) (dvAdd Xr none 4 (Nat.le_refl 4) b1 S0)) (2 * a) (by omega)
        (dvAdd Xr none 4 (Nat.le_refl 4) b0 (piece Xr none 4 (Nat.le_refl 4) b1 d1 S0)) = (turn X K V a A).dv := by
  subst hX hk1 hv1 hk0 hv0 hS
  exact ⟨rfl, rfl, rfl, rfl, rfl⟩

set_option maxHeartbeats 400000 in
theorem trip (c : Dev nD) (u : Option ℕ) (i : grid0.Coords) (arg10 : Memref sig .tc .vmem S2x512x128 .f32) (harg10 : arg10.IsWhole)
    (arg11 : Memref sig .tc .vmem S2x512x128 .f32) (harg11 : arg11.IsWhole) (arg12 : Memref sig .tc .vmem S2x512x128 .f32) (harg12 : arg12.IsWhole)
    (arg3 : Memref sig .tc .vmem S4096x128 .bf16) (harg3 : arg3.IsWhole) (arg4 : Memref sig .tc .vmem S4096x128 .bf16) (harg4 : arg4.IsWhole)
    (arg14 : Memref sig .tc .vmem S4096x128 .f32) (harg14 : arg14.IsWhole) (arg15 : Memref sig .tc .vmem S4096x128 .f32) (harg15 : arg15.IsWhole)
    (arg13 : Memref sig .tc .vmem S512x128 .f32) (harg13 : arg13.IsWhole) (a : Fin 16) (E : Set ℕ) (Q : PUnit → sProp 𝕄) :
    iprop(held c arg10 arg11 arg12 arg3 arg4 arg14 arg15 arg13 X K V A
      ∗ (held c arg10 arg11 arg12 arg3 arg4 arg14 arg15 arg13 X K V (turn X K V a A) -∗ Q ⟨⟩))
    ⊢ wp frame (wpE (defs₀ (F := F)) Variants.nat c u) E (do
        let ⟨v2511, v2512⟩ ← k0_part48 i arg10 harg10 arg11 harg11 arg12 harg12 arg3 harg3 X.w0 X.w1 arg4 harg4 X.q X.g X.tri arg14 harg14 arg15 harg15 arg13 harg13 (BitVec.ofNat 32 a)
        Prog.lift (.store arg13 (Rect.unit (s := S512x128) ![0, 0] S512x128.size inb_S512x128_S512x128_0_0) (k0_pay6 v2511) Finset.univ (View.stores_vmem_bits_univ h_S512x128 rfl) (.inl rfl))) Q := by
  simp only [k0_part48_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton]
  have hw := chk1 a
  have o0 := off2_eq a 0
  have o1 := off2_eq a 1
  generalize BitVec.ofNat 32 a.val = arg16 at hw o0 o1
  unfold held owns
  iintro ⟨⟨⟨%f10, %hf10, H10⟩, ⟨%f11, %hf11, H11⟩, ⟨%f12, %hf12, H12⟩, ⟨%f3, %hf3, H3⟩, ⟨%f4, %hf4, H4⟩, ⟨%f14, %hf14, H14⟩, ⟨%f15, %hf15, H15⟩, ⟨%f13, %hf13, H13⟩⟩, HK⟩
  obtain rfl := harg10.eq_unread hf10; obtain rfl := harg11.eq_unread hf11; obtain rfl := harg12.eq_unread hf12
  obtain rfl := harg3.eq_unread hf3; obtain rfl := harg4.eq_unread hf4; obtain rfl := harg14.eq_unread hf14
  obtain rfl := harg15.eq_unread hf15; obtain rfl := harg13.eq_unread hf13
  sl_exec (disch := sl_exact hw)
  -- the values, over the loads as the run names them
  let Xr : Fixed F := { X with etot := slabLoad (Val := Elt F) arg12 (harg12.unread (slabs X.etot)) }
  let b1 := rowsLoad (Val := Elt F) arg3.view (harg3.unread K) _ (k0_off2_inb arg16 hw 1)
  let b0 := rowsLoad (Val := Elt F) arg3.view (harg3.unread K) _ (k0_off2_inb arg16 hw 0)
  let d1 := rowsLoad (Val := Elt F) arg4.view (harg4.unread V) _ (k0_off2_inb arg16 hw 1)
  let d0 := rowsLoad (Val := Elt F) arg4.view (harg4.unread V) _ (k0_off2_inb arg16 hw 0)
  let S0 : Sums F := { l := slabLoad (Val := Elt F) arg10 (harg10.unread (slabs A.S.l)), e := slabLoad (Val := Elt F) arg11 (harg11.unread (slabs A.S.e)), dq := zeros _ }
  have eX : Xr = X := fixed_eq harg12 X
  have ek1 : b1 = rowsAt K (2 * a + 1) (by omega) := (rowsLoad_eq _ (2 * a.val + 1) (by omega) o1 _).trans (by rw [harg3.read_unread])
  have ek0 : b0 = rowsAt K (2 * a) (by omega) := (rowsLoad_eq _ (2 * a.val) (by omega) o0 _).trans (by rw [harg3.read_unread])
  have ev1 : d1 = rowsAt V (2 * a + 1) (by omega) := (rowsLoad_eq _ (2 * a.val + 1) (by omega) o1 _).trans (by rw [harg4.read_unread])
  have ev0 : d0 = rowsAt V (2 * a) (by omega) := (rowsLoad_eq _ (2 * a.val) (by omega) o0 _).trans (by rw [harg4.read_unread])
  have eS0 : S0 = A.start.S := start_eq harg10 harg11 A
  have hT := turn_parts X K V A a Xr b1 d1 b0 d0 S0 eX ek1 ev1 ek0 ev0 eS0
  have r10 := (slabPieces_read (Val := Elt F) (v := arg10.view) (harg10.unread (slabs A.S.l)) (piece Xr none 4 (Nat.le_refl 4) b0 d0 (piece Xr none 4 (Nat.le_refl 4) b1 d1 S0)).l).trans (congrArg slabs hT.1)
  have r11 := (slabPieces_read (Val := Elt F) (v := arg11.view) (harg11.unread (slabs A.S.e)) (piece Xr none 4 (Nat.le_refl 4) b0 d0 (piece Xr none 4 (Nat.le_refl 4) b1 d1 S0)).e).trans (congrArg slabs hT.2.1)
  have r13 := (wholeSum_eq harg13 inb_S512x128_S512x128_0_0 A.S.dq (piece Xr none 4 (Nat.le_refl 4) b0 d0 (piece Xr none 4 (Nat.le_refl 4) b1 d1 S0)).dq).trans hT.2.2.1
  have r14 := (addPiece_read (v := arg14.view) (harg14.unread A.dk) (addPiece (harg14.unread A.dk) [] _ (k0_off2_inb arg16 hw 1) (dkAdd Xr none 4 (Nat.le_refl 4) b1 d1 S0))
      (2 * a.val) (by omega) o0 (k0_off2_inb arg16 hw 0) (dkAdd Xr none 4 (Nat.le_refl 4) b0 d0 (piece Xr none 4 (Nat.le_refl 4) b1 d1 S0))).trans
    ((congrArg (fun D => addBlock D (2 * a.val) (by omega) _) (addPiece_read (v := arg14.view) (harg14.unread A.dk) [] (2 * a.val + 1) (by omega) o1 (k0_off2_inb arg16 hw 1) _)).trans
      ((congrArg (fun D => addBlock (addBlock D (2 * a.val + 1) (by omega) _) (2 * a.val) (by omega) _) (none_read (Val := Elt F) harg14 A.dk)).trans hT.2.2.2.1))
  have r15 := (addPiece_read (v := arg15.view) (harg15.unread A.dv) (addPiece (harg15.unread A.dv) [] _ (k0_off2_inb arg16 hw 1) (dvAdd Xr none 4 (Nat.le_refl 4) b1 S0))
      (2 * a.val) (by omega) o0 (k0_off2_inb arg16 hw 0) (dvAdd Xr none 4 (Nat.le_refl 4) b0 (piece Xr none 4 (Nat.le_refl 4) b1 d1 S0))).trans
    ((congrArg (fun D => addBlock D (2 * a.val) (by omega) _) (addPiece_read (v := arg15.view) (harg15.unread A.dv) [] (2 * a.val + 1) (by omega) o1 (k0_off2_inb arg16 hw 1) _)).trans
      ((congrArg (fun D => addBlock (addBlock D (2 * a.val + 1) (by omega) _) (2 * a.val) (by omega) _) (none_read (Val := Elt F) harg15 A.dv)).trans hT.2.2.2.2))
  rw [wp_ret]
  imodintro
  iapply HK
  isplitl [H10]
  · iexists _; isplitr; rotate_left; · iexact H10
    ipureintro
    refine Eq.trans ?_ r10
    sl_kernel_rfl
  isplitl [H11]
  · iexists _; isplitr; rotate_left; · iexact H11
    ipureintro
    refine Eq.trans ?_ r11
    sl_kernel_rfl
  isplitl [H12]
  · iexists _; isplitr; rotate_left; · iexact H12
    ipureintro; exact harg12.read_unread _
  isplitl [H3]
  · iexists _; isplitr; rotate_left; · iexact H3
    ipureintro; exact harg3.read_unread _
  isplitl [H4]
  · iexists _; isplitr; rotate_left; · iexact H4
    ipureintro; exact harg4.read_unread _
  isplitl [H14]
  · iexists _; isplitr; rotate_left; · iexact H14
    ipureintro
    refine Eq.trans ?_ r14
    sl_kernel_rfl
  isplitl [H15]
  · iexists _; isplitr; rotate_left; · iexact H15
    ipureintro
    refine Eq.trans ?_ r15
    sl_kernel_rfl
  iexists _; isplitr; rotate_left; · iexact H13
  ipureintro
  refine (View.read_writes_full (Val := Elt F) arg13.view (harg13.unread A.S.dq) inb_S512x128_S512x128_0_0 _ []).trans (Eq.trans ?_ r13)
  sl_kernel_rfl

end Turn

end Cert.SbRun
-- ==== Proof.Sb.Loop.lean ====
module

public import proofs.«01_k».proof.Proof.Sb.Trip

@[expose] public section

set_option maxRecDepth 16384

noncomputable section

namespace Cert.SbRun

open Cert.SbIdeal Cert.SbIdeal.Gen Cert.SbModel
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- Whether the loop goes on: the least of the running drops is below the cut. -/
def goesOn (A : Acc F) : Prop := Scalar.cmpf .olt (k0_pay5 (slabs A.S.l)) (Named.named κ "cut" 0x42D00000#32 : F .f32) = 1#1

open Classical in
/-- The turns from turn `k - 1` down, as long as the loop goes on. -/
def sweep (X : Fixed F) (K V : FVec F Keys .bf16) : (k : ℕ) → k ≤ 16 → Acc F → Acc F
  | 0, _, A => A
  | k + 1, h, A => if goesOn A then sweep X K V k (by omega) (turn X K V ⟨k, by omega⟩ A) else A

theorem counter_pos : ∀ a : Fin 16, Scalar.cmpi .sge (Scalar.subi (BitVec.ofNat 32 (a.val + 1)) 1#32) 0#32 = 1#1 ∧ Scalar.subi (BitVec.ofNat 32 (a.val + 1)) 1#32 = BitVec.ofNat 32 a.val := by decide

theorem counter_zero : Scalar.cmpi .sge (Scalar.subi (BitVec.ofNat 32 0) 1#32) 0#32 = 0#1 := by decide

theorem one_and : ∀ b : BitVec 1, Scalar.andi 1#1 b = b := by decide

theorem zero_and : ∀ b : BitVec 1, ¬ Scalar.andi 0#1 b = 1#1 := by decide

theorem split_last {E : Type → Type} {α β γ : Type} (p : Prog E α) (e : α → E β) (C : Prog E γ) :
    (p >>= fun x => Prog.op (e x) (fun _ => C)) = ((p >>= fun x => Prog.op (e x) Prog.ret) >>= fun _ => C) :=
  (Prog.bind_assoc p (fun x => Prog.op (e x) Prog.ret) (fun _ => C)).symm

section Loop

variable (X : Fixed F) (K V : FVec F Keys .bf16)

/-- What the loop does with `k` turns to go: the buffers held before, the swept ones after. -/
def loopSpec (c : Dev nD) (arg10 arg11 arg12 : Memref sig .tc .vmem S2x512x128 .f32) (arg3 arg4 : Memref sig .tc .vmem S4096x128 .bf16)
    (arg14 arg15 : Memref sig .tc .vmem S4096x128 .f32) (arg13 : Memref sig .tc .vmem S512x128 .f32) (k : ℕ) (hk : k ≤ 16) (A : Acc F) : sWPT 𝕄 (BitVec 32) := do
  sWPT.consume (held c arg10 arg11 arg12 arg3 arg4 arg14 arg15 arg13 X K V A)
  let r ← sWPT.arbitrary
  sWPT.produce (held c arg10 arg11 arg12 arg3 arg4 arg14 arg15 arg13 X K V (sweep X K V k hk A))
  pure r

theorem loopSpec_apply (c : Dev nD) (arg10 arg11 arg12 : Memref sig .tc .vmem S2x512x128 .f32) (arg3 arg4 : Memref sig .tc .vmem S4096x128 .bf16)
    (arg14 arg15 : Memref sig .tc .vmem S4096x128 .f32) (arg13 : Memref sig .tc .vmem S512x128 .f32) (k : ℕ) (hk : k ≤ 16) (A : Acc F) (Q : BitVec 32 → sProp 𝕄) :
    loopSpec X K V c arg10 arg11 arg12 arg3 arg4 arg14 arg15 arg13 k hk A Q
      = iprop(held c arg10 arg11 arg12 arg3 arg4 arg14 arg15 arg13 X K V A
        ∗ ∀ r, (held c arg10 arg11 arg12 arg3 arg4 arg14 arg15 arg13 X K V (sweep X K V k hk A) -∗ Q r)) := rfl

theorem loop_meets (c : Dev nD) (i : grid0.Coords) (arg10 : Memref sig .tc .vmem S2x512x128 .f32) (harg10 : arg10.IsWhole)
    (arg11 : Memref sig .tc .vmem S2x512x128 .f32) (harg11 : arg11.IsWhole) (arg12 : Memref sig .tc .vmem S2x512x128 .f32) (harg12 : arg12.IsWhole)
    (arg3 : Memref sig .tc .vmem S4096x128 .bf16) (harg3 : arg3.IsWhole) (arg4 : Memref sig .tc .vmem S4096x128 .bf16) (harg4 : arg4.IsWhole)
    (arg14 : Memref sig .tc .vmem S4096x128 .f32) (harg14 : arg14.IsWhole) (arg15 : Memref sig .tc .vmem S4096x128 .f32) (harg15 : arg15.IsWhole)
    (arg13 : Memref sig .tc .vmem S512x128 .f32) (harg13 : arg13.IsWhole) (E : Set ℕ) :
    ∀ (k : ℕ) (hk : k ≤ 16) (A : Acc F) (Q : BitVec 32 → sProp 𝕄), loopSpec X K V c arg10 arg11 arg12 arg3 arg4 arg14 arg15 arg13 k hk A Q
      ⊢ wp frame (wpE (defs₀ (F := F)) Variants.nat (c : Thread nD τ) (some k)) E
          (defs₀ (F := F) .tc 1 ⟨i, arg10, harg10, arg11, harg11, arg12, harg12, arg3, harg3, X.w0, X.w1, arg4, harg4, X.q, X.g, X.tri,
            arg14, harg14, arg15, harg15, arg13, harg13, Scalar.subi (BitVec.ofNat 32 k) 1#32⟩) Q := by
  intro k
  induction k with
  | zero =>
    intro hk A Q
    rw [loopSpec_apply]
    show _ ⊢ wp frame (wpE (defs₀ (F := F)) Variants.nat (c : Thread nD τ) (some 0)) E
      (cc0_while1 i arg10 harg10 arg11 harg11 arg12 harg12 arg3 harg3 X.w0 X.w1 arg4 harg4 X.q X.g X.tri
        arg14 harg14 arg15 harg15 arg13 harg13 (Scalar.subi (BitVec.ofNat 32 0) 1#32)) Q
    simp only [cc0_while1_eq_skeleton]; unfold cc0_while1_skel
    rw [counter_zero]
    simp only [Prog.lift, Prog.bind_op, Prog.bind_ret, Prog.pure_eq_ret, zero_and, ↓reduceIte]
    unfold held owns
    iintro ⟨⟨⟨%f10, %hf10, H10⟩, HR⟩, HK⟩
    iapply (wp_load Variants.nat (c : Thread nD τ) (some 0) E (m := arg10) (View.setOn_subset_set _ _)) $$ H10; iintro H10
    rw [wp_ret]; imodintro
    iapply HK
    isplitl [H10]
    · iexists _; isplitr; rotate_left; · iexact H10
      ipureintro; exact hf10
    iexact HR
  | succ k ih =>
    intro hk A Q
    rw [loopSpec_apply]
    show _ ⊢ wp frame (wpE (defs₀ (F := F)) Variants.nat (c : Thread nD τ) (some (k + 1))) E
      (cc0_while1 i arg10 harg10 arg11 harg11 arg12 harg12 arg3 harg3 X.w0 X.w1 arg4 harg4 X.q X.g X.tri
        arg14 harg14 arg15 harg15 arg13 harg13 (Scalar.subi (BitVec.ofNat 32 (k + 1)) 1#32)) Q
    simp only [cc0_while1_eq_skeleton]; unfold cc0_while1_skel
    obtain ⟨hpos, hdown⟩ := counter_pos ⟨k, by omega⟩
    simp only at hpos hdown
    rw [hpos, hdown]
    simp only [Prog.lift, Prog.bind_op, Prog.bind_ret, Prog.pure_eq_ret, one_and]
    have hh : held c arg10 arg11 arg12 arg3 arg4 arg14 arg15 arg13 X K V A
        ⊢ iprop(owns (c : Thread nD τ) arg10 fullShare (slabs A.S.l) ∗ (owns (c : Thread nD τ) arg10 fullShare (slabs A.S.l) -∗ held c arg10 arg11 arg12 arg3 arg4 arg14 arg15 arg13 X K V A)) := by
      unfold held
      iintro ⟨H, HR⟩
      isplitl [H]; · iexact H
      iintro H
      isplitl [H]; · iexact H
      iexact HR
    iintro ⟨HH, HK⟩
    ihave HH := hh $$ HH
    unfold owns
    icases HH with ⟨⟨%f10, %hf10, H10⟩, HR⟩
    iapply (wp_load Variants.nat (c : Thread nD τ) (some (k + 1)) E (m := arg10) (View.setOn_subset_set _ _)) $$ H10; iintro H10
    have er : View.readAt (Elt F) arg10.view (Rect.unit (s := S2x512x128) ![0, 0, 0] S2x512x128.size inb_S2x512x128_S2x512x128_0_0_0).toLoadRect f10 = slabs A.S.l :=
      (View.readAt_full _ _ _).trans hf10
    rw [er]
    ihave HH := HR $$ [H10]
    · iexists _; isplitr; rotate_left; · iexact H10
      ipureintro; exact hf10
    by_cases hg : goesOn A
    · have hg' := hg
      unfold goesOn at hg'
      rw [if_pos hg']
      have es : sweep X K V (k + 1) hk A = sweep X K V k (by omega) (turn X K V ⟨k, by omega⟩ A) := if_pos hg
      rw [es]
      rw [split_last, wp_bind]
      iapply (trip X K V A c (some (k + 1)) i arg10 harg10 arg11 harg11 arg12 harg12 arg3 harg3 arg4 harg4 arg14 harg14 arg15 harg15 arg13 harg13
        ⟨k, by omega⟩ E _)
      isplitl [HH]; · iexact HH
      iintro HH
      iapply (wp_call_spec Variants.nat (c : Thread nD τ) (some (k + 1)) E
        (loopSpec X K V c arg10 arg11 arg12 arg3 arg4 arg14 arg15 arg13 k (by omega) (turn X K V ⟨k, by omega⟩ A)) k
        (fun u hu => by cases hu; exact Nat.lt_succ_self k) (ih (by omega) (turn X K V ⟨k, by omega⟩ A)))
      rw [loopSpec_apply]
      isplitl [HH]; · iexact HH
      iintro %r HH
      rw [wp_ret]; imodintro
      iapply HK
      iexact HH
    · have hg' := hg
      unfold goesOn at hg'
      rw [if_neg hg']
      have es : sweep X K V (k + 1) hk A = A := if_neg hg
      rw [es, wp_ret]; imodintro
      iapply HK
      iexact HH

end Loop

end Cert.SbRun
-- ==== Proof.Sb.Opens.lean ====
module

public import proofs.«01_k».proof.Proof.Sb.Loop
public import Idealize.ShloMosaic.Lib.Pipeline.ReadBack

@[expose] public section

set_option maxRecDepth 16384

noncomputable section

namespace Cert.SbRun

open Cert.SbIdeal Cert.SbIdeal.Gen Cert.SbModel
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- A point on the first chunk. -/
abbrev first (i : grid0.Coords) : Prop := (i 1).val = 0

theorem first_iff (i : grid0.Coords) :
    Scalar.cmpi .ne (Scalar.extui (Scalar.cmpi .eq (BitVec.ofNat 32 (i 1).val) 0#32) : BitVec 32) 0#32 = 1#1 ↔ first i := by
  have h : ∀ a : Fin 8, Scalar.cmpi .ne (Scalar.extui (Scalar.cmpi .eq (BitVec.ofNat 32 a.val) 0#32) : BitVec 32) 0#32 = 1#1 ↔ a.val = 0 := by decide
  exact h (i 1)

/-- Each row's sum over the marked lanes, over all the lanes. -/
def rowDots (w : IVec Lanes 1) (x : FVec F (Rows 4 128) .f32) : FVec F (Rows 4 128) .f32 :=
  broadcastTo (Rows 4 128) (shapeCast S512x1 (shapeCast S512x1 (multiReduction .add [1] S512
    (select (broadcastTo (Rows 4 128) (shapeCast Lanes w rfl) broadcasts_S1x128_S512x128) x (zeros (Rows 4 128))) 0x00000000#32 reduces_S512x128_S512 (.inl rfl) rfl)
    shapeCasts_S512_S512x1) shapeCasts_S512x1_S512x1) broadcasts_S512x1_S512x128

/-- What does not change over a chunk, of its queries, output gradient and output. -/
def fixed (q g : FVec F (Rows 4 128) .bf16) (o : FVec F (Rows 4 128) .f32) : Fixed F where
  w0 := k0_pay9
  w1 := k0_pay10
  q := k0_pay11 q
  g := k0_pay12 g
  tri := k0_pay18
  etot := fun h => match h with
    | 0 => rowDots k0_pay9 (k0_pay13 g o)
    | 1 => rowDots k0_pay10 (k0_pay13 g o)

/-- The running sums and the gradients as a chunk starts, of what the gradients held. -/
def begun (i : grid0.Coords) (dk dv : FVec F Keys .f32) : Acc F where
  S := { l := fun _ => zeros _, e := fun _ => zeros _, dq := zeros _ }
  dk := if first i then zeros _ else dk
  dv := if first i then zeros _ else dv

section Opens

theorem opens1 (c : Dev nD) (u : Option ℕ) (i : grid0.Coords)
    (arg2 : Memref sig .tc .vmem S512x128 .bf16) (harg2 : arg2.IsWhole)
    (arg3 : Memref sig .tc .vmem S4096x128 .bf16) (harg3 : arg3.IsWhole)
    (arg4 : Memref sig .tc .vmem S4096x128 .bf16) (harg4 : arg4.IsWhole)
    (arg5 : Memref sig .tc .vmem S512x128 .f32) (harg5 : arg5.IsWhole)
    (arg6 : Memref sig .tc .vmem S512x128 .bf16) (harg6 : arg6.IsWhole)
    (arg7 : Memref sig .tc .vmem S512x128 .bf16) (harg7 : arg7.IsWhole)
    (arg8 : Memref sig .tc .vmem S4096x128 .bf16) (harg8 : arg8.IsWhole)
    (arg9 : Memref sig .tc .vmem S4096x128 .bf16) (harg9 : arg9.IsWhole)
    (arg10 : Memref sig .tc .vmem S2x512x128 .f32) (harg10 : arg10.IsWhole)
    (arg11 : Memref sig .tc .vmem S2x512x128 .f32) (harg11 : arg11.IsWhole)
    (arg12 : Memref sig .tc .vmem S2x512x128 .f32) (harg12 : arg12.IsWhole)
    (arg13 : Memref sig .tc .vmem S512x128 .f32) (harg13 : arg13.IsWhole)
    (arg14 : Memref sig .tc .vmem S4096x128 .f32) (harg14 : arg14.IsWhole)
    (arg15 : Memref sig .tc .vmem S4096x128 .f32) (harg15 : arg15.IsWhole)
    (q g : FVec F (Rows 4 128) .bf16) (o : FVec F (Rows 4 128) .f32) (y : S2x512x128.Idx → F .f32) (dk dv : FVec F Keys .f32) (E : Set ℕ) (Q : _ → sProp 𝕄) :
    iprop((owns (c : Thread nD τ) arg2 fullShare q ∗ owns (c : Thread nD τ) arg6 fullShare g ∗ owns (c : Thread nD τ) arg5 fullShare o
        ∗ owns (c : Thread nD τ) arg12 fullShare y ∗ owns (c : Thread nD τ) arg14 fullShare dk ∗ owns (c : Thread nD τ) arg15 fullShare dv)
      ∗ ((owns (c : Thread nD τ) arg2 fullShare q ∗ owns (c : Thread nD τ) arg6 fullShare g ∗ owns (c : Thread nD τ) arg5 fullShare o
        ∗ owns (c : Thread nD τ) arg12 fullShare (putSlab y 0 (rowDots k0_pay9 (k0_pay13 g o))) ∗ owns (c : Thread nD τ) arg14 fullShare (begun i dk dv).dk
        ∗ owns (c : Thread nD τ) arg15 fullShare (begun i dk dv).dv) -∗ Q ⟨BitVec.ofNat 32 (i 1).val, k0_pay9, k0_pay10, k0_pay11 q, k0_pay12 g, k0_pay15 g o⟩))
    ⊢ wp frame (wpE (defs₀ (F := F)) Variants.nat c u) E (k0_part1 i arg2 harg2 arg3 harg3 arg4 harg4 arg5 harg5 arg6 harg6 arg7 harg7 arg8 harg8 arg9 harg9 arg10 harg10 arg11 harg11 arg12 harg12 arg13 harg13 arg14 harg14 arg15 harg15) Q := by
  simp only [k0_part1_eq_skeleton]
  unfold k0_part1_skel owns
  iintro ⟨⟨⟨%f2, %hf2, H2⟩, ⟨%f6, %hf6, H6⟩, ⟨%f5, %hf5, H5⟩, ⟨%f12, %hf12, H12⟩, ⟨%f14, %hf14, H14⟩, ⟨%f15, %hf15, H15⟩⟩, HK⟩
  obtain rfl := harg2.eq_unread hf2; obtain rfl := harg6.eq_unread hf6; obtain rfl := harg5.eq_unread hf5; obtain rfl := harg12.eq_unread hf12; obtain rfl := harg14.eq_unread hf14; obtain rfl := harg15.eq_unread hf15
  have e2 : View.readAt (Elt F) arg2.view (Rect.unit (s := S512x128) ![0, 0] S512x128.size inb_S512x128_S512x128_0_0).toLoadRect (harg2.unread q) = q :=
    (View.readAt_full _ _ _).trans (harg2.read_unread (Val := Elt F) q)
  have e6 : View.readAt (Elt F) arg6.view (Rect.unit (s := S512x128) ![0, 0] S512x128.size inb_S512x128_S512x128_0_0).toLoadRect (harg6.unread g) = g :=
    (View.readAt_full _ _ _).trans (harg6.read_unread (Val := Elt F) g)
  have e5 : View.readAt (Elt F) arg5.view (Rect.unit (s := S512x128) ![0, 0] S512x128.size inb_S512x128_S512x128_0_0).toLoadRect (harg5.unread o) = o :=
    (View.readAt_full _ _ _).trans (harg5.read_unread (Val := Elt F) o)
  have r12 : arg12.view.read (Elt F) (arg12.view.writes (Elt F) (harg12.unread y) [⟨Rect.unit (s := S2x512x128) ![0, 0, 0] S1x512x128.size inb_S2x512x128_S1x512x128_0_0_0, k0_pay14 g o⟩]) = putSlab y 0 (rowDots k0_pay9 (k0_pay13 g o)) :=
    (slab_written (Val := Elt F) (v := arg12.view) (harg12.unread y) [] 0 _ _ (by decide)).trans (by rw [View.writes_nil, harg12.read_unread]; rfl)
  by_cases h : first i
  · have h1 := (first_iff i).2 h
    simp only [h1, ↓reduceDIte]
    sl_exec
    rw [wp_ret]; imodintro
    iapply HK
    isplitl [H2]
    · iexists _; isplitr; rotate_left; · iexact H2
      ipureintro; exact hf2
    isplitl [H6]
    · iexists _; isplitr; rotate_left; · iexact H6
      ipureintro; exact hf6
    isplitl [H5]
    · iexists _; isplitr; rotate_left; · iexact H5
      ipureintro; exact hf5
    isplitl [H12]
    · iexists _; isplitr; rotate_left; · iexact H12
      ipureintro; exact r12
    isplitl [H14]
    · iexists _; isplitr; rotate_left; · iexact H14
      ipureintro; exact (View.read_writes_full (Val := Elt F) arg14.view _ _ _ []).trans ((Idealize.ShloMosaic.shapeCast_self _ _).trans (if_pos h).symm)
    iexists _; isplitr; rotate_left; · iexact H15
    ipureintro; exact (View.read_writes_full (Val := Elt F) arg15.view _ _ _ []).trans ((Idealize.ShloMosaic.shapeCast_self _ _).trans (if_pos h).symm)
  · have h1 := fun h' => h ((first_iff i).1 h')
    simp only [h1, ↓reduceDIte]
    sl_exec
    rw [wp_ret]; imodintro
    iapply HK
    isplitl [H2]
    · iexists _; isplitr; rotate_left; · iexact H2
      ipureintro; exact hf2
    isplitl [H6]
    · iexists _; isplitr; rotate_left; · iexact H6
      ipureintro; exact hf6
    isplitl [H5]
    · iexists _; isplitr; rotate_left; · iexact H5
      ipureintro; exact hf5
    isplitl [H12]
    · iexists _; isplitr; rotate_left; · iexact H12
      ipureintro; exact r12
    isplitl [H14]
    · iexists _; isplitr; rotate_left; · iexact H14
      ipureintro; exact hf14.trans (if_neg h).symm
    iexists _; isplitr; rotate_left; · iexact H15
    ipureintro; exact hf15.trans (if_neg h).symm

theorem opens2 (c : Dev nD) (u : Option ℕ) (i : grid0.Coords)
    (arg2 : Memref sig .tc .vmem S512x128 .bf16) (harg2 : arg2.IsWhole)
    (arg3 : Memref sig .tc .vmem S4096x128 .bf16) (harg3 : arg3.IsWhole)
    (arg4 : Memref sig .tc .vmem S4096x128 .bf16) (harg4 : arg4.IsWhole)
    (arg5 : Memref sig .tc .vmem S512x128 .f32) (harg5 : arg5.IsWhole)
    (arg6 : Memref sig .tc .vmem S512x128 .bf16) (harg6 : arg6.IsWhole)
    (arg7 : Memref sig .tc .vmem S512x128 .bf16) (harg7 : arg7.IsWhole)
    (arg8 : Memref sig .tc .vmem S4096x128 .bf16) (harg8 : arg8.IsWhole)
    (arg9 : Memref sig .tc .vmem S4096x128 .bf16) (harg9 : arg9.IsWhole)
    (arg10 : Memref sig .tc .vmem S2x512x128 .f32) (harg10 : arg10.IsWhole)
    (arg11 : Memref sig .tc .vmem S2x512x128 .f32) (harg11 : arg11.IsWhole)
    (arg12 : Memref sig .tc .vmem S2x512x128 .f32) (harg12 : arg12.IsWhole)
    (arg13 : Memref sig .tc .vmem S512x128 .f32) (harg13 : arg13.IsWhole)
    (arg14 : Memref sig .tc .vmem S4096x128 .f32) (harg14 : arg14.IsWhole)
    (arg15 : Memref sig .tc .vmem S4096x128 .f32) (harg15 : arg15.IsWhole)
    (q g : FVec F (Rows 4 128) .bf16) (o : FVec F (Rows 4 128) .f32) (y x10 x11 : S2x512x128.Idx → F .f32) (x13 : FVec F (Rows 4 128) .f32) (E : Set ℕ) (Q : _ → sProp 𝕄) :
    iprop((owns (c : Thread nD τ) arg12 fullShare (putSlab y 0 (rowDots k0_pay9 (k0_pay13 g o))) ∗ owns (c : Thread nD τ) arg10 fullShare x10
        ∗ owns (c : Thread nD τ) arg11 fullShare x11 ∗ owns (c : Thread nD τ) arg13 fullShare x13)
      ∗ ((owns (c : Thread nD τ) arg12 fullShare (slabs (fixed q g o).etot) ∗ owns (c : Thread nD τ) arg10 fullShare (slabs fun _ => zeros (Rows 4 128))
        ∗ owns (c : Thread nD τ) arg11 fullShare (slabs fun _ => zeros (Rows 4 128)) ∗ owns (c : Thread nD τ) arg13 fullShare (zeros (Rows 4 128)))
        -∗ Q ⟨k0_pay17, k0_pay18, Scalar.muli (BitVec.ofNat 32 (i 1).val) 512#32, zeros (Rows 4 128)⟩))
    ⊢ wp frame (wpE (defs₀ (F := F)) Variants.nat c u) E (k0_part2 i arg2 harg2 arg3 harg3 arg4 harg4 arg5 harg5 arg6 harg6 arg7 harg7 arg8 harg8 arg9 harg9 arg10 harg10 arg11 harg11 arg12 harg12 arg13 harg13 arg14 harg14 arg15 harg15 (BitVec.ofNat 32 (i 1).val) (k0_pay15 g o)) Q := by
  simp only [k0_part2_eq_skeleton]
  unfold k0_part2_skel owns
  iintro ⟨⟨⟨%f12, %hf12, H12⟩, ⟨%f10, %hf10, H10⟩, ⟨%f11, %hf11, H11⟩, ⟨%f13, %hf13, H13⟩⟩, HK⟩
  obtain rfl := harg12.eq_unread hf12; obtain rfl := harg10.eq_unread hf10; obtain rfl := harg11.eq_unread hf11; obtain rfl := harg13.eq_unread hf13
  sl_exec
  have r12 : arg12.view.read (Elt F) (arg12.view.writes (Elt F) (harg12.unread (putSlab y 0 (rowDots k0_pay9 (k0_pay13 g o))))
      [⟨Rect.unit (s := S2x512x128) ![1, 0, 0] S1x512x128.size inb_S2x512x128_S1x512x128_1_0_0, k0_pay16 (k0_pay15 g o)⟩]) = slabs (fixed q g o).etot :=
    (slab_written (Val := Elt F) (v := arg12.view) _ [] 1 _ _ (by decide)).trans (by rw [View.writes_nil, harg12.read_unread]; exact putSlab_both y (fixed q g o).etot)
  have ez : k0_pay22 (opens2.sl.v70 (F := F) c arg10) = zeros (Rows 4 128) := by
    unfold opens2.sl.v70 opens2.sl.H10_1
    have e19 : k0_pay19 (F := F) = fun _ => Scalar.ofBits .f32 0x00000000#32 := Idealize.ShloMosaic.shapeCast_self _ _
    rw [e19]
    refine (congrArg k0_pay22 (View.readCov_fill (Val := Elt F) arg10.view inb_S2x512x128_S2x512x128_0_0_0 (fun _ => Scalar.ofBits .f32 0x00000000#32) []
      (Rect.unit (s := S2x512x128) ![0, 0, 0] S1x512x128.size inb_S2x512x128_S1x512x128_0_0_0) (by decide))).trans ?_
    funext j
    exact shapeCast_dropUnit_apply (n := 2) ![512, 128] (View.ld (Val := Elt F) (e' := .f32) (fun _ => (Scalar.ofBits .f32 0x00000000#32 : F .f32)) (Rect.unit (s := S2x512x128) ![0, 0, 0] S1x512x128.size inb_S2x512x128_S1x512x128_0_0_0)) shapeCasts_S1x512x128_S512x128 j
  have e69 : opens2.sl.v69 i = Scalar.muli (BitVec.ofNat 32 (i 1).val) 512#32 := rfl
  rw [ez, e69, wp_ret]; imodintro
  iapply HK
  isplitl [H12]
  · iexists _; isplitr; rotate_left; · iexact H12
    ipureintro; exact r12
  isplitl [H10]
  · iexists _; isplitr; rotate_left; · iexact H10
    ipureintro; exact (View.read_writes_full (Val := Elt F) arg10.view _ _ _ []).trans (Idealize.ShloMosaic.shapeCast_self _ _)
  isplitl [H11]
  · iexists _; isplitr; rotate_left; · iexact H11
    ipureintro; exact (View.read_writes_full (Val := Elt F) arg11.view _ _ _ []).trans (Idealize.ShloMosaic.shapeCast_self _ _)
  iexists _; isplitr; rotate_left; · iexact H13
  ipureintro; exact (View.read_writes_full (Val := Elt F) arg13.view _ _ _ []).trans (Idealize.ShloMosaic.shapeCast_self _ _)

end Opens

end Cert.SbRun
-- ==== Proof.Sb.Body.lean ====
module

public import proofs.«01_k».proof.Proof.Sb.Opens

@[expose] public section

set_option maxRecDepth 16384

noncomputable section

namespace Cert.SbRun

open Cert.SbIdeal Cert.SbIdeal.Gen Cert.SbModel
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The chunk of a point. -/
def chunk (i : grid0.Coords) : Fin 8 := i 1

theorem off1_eq (i : grid0.Coords) (j : Fin 4) : k0_off1 i (BitVec.ofNat 32 (128 * j.val)) = ![128 * (4 * (chunk i).val + j.val), 0] := by
  have h : ∀ (a : Fin 8) (j : Fin 4), (Scalar.indexCast (Scalar.addi (Scalar.muli (BitVec.ofNat 32 a.val) 512#32) (BitVec.ofNat 32 (128 * j.val)))).toNat = 128 * (4 * a.val + j.val) := by decide
  funext x
  fin_cases x
  · exact h (chunk i) j
  · rfl

theorem last_iff (i : grid0.Coords) : k0_cond2 i = 1#1 ↔ (chunk i).val = 7 := by
  have h : ∀ a : Fin 8, Scalar.cmpi .ne (Scalar.extui (Scalar.cmpi .eq (BitVec.ofNat 32 a.val) 7#32) : BitVec 32) 0#32 = 1#1 ↔ a.val = 7 := by decide
  exact h (i 1)

theorem counter_eq (i : grid0.Coords) : Scalar.subi (Scalar.muli (BitVec.ofNat 32 (i 1).val) 2#32) 1#32 = Scalar.subi (BitVec.ofNat 32 (2 * (chunk i).val)) 1#32 := by
  have h : ∀ a : Fin 8, Scalar.subi (Scalar.muli (BitVec.ofNat 32 a.val) 2#32) 1#32 = Scalar.subi (BitVec.ofNat 32 (2 * a.val)) 1#32 := by decide
  exact h (i 1)

section Whole

variable (X : Fixed F) (K V : FVec F Keys .bf16) (A : Acc F)

theorem diag_parts (a : Fin 8) (Xr : Fixed F) (b0 d0 : FVec F Tile .bf16) (b1 d1 : FVec F Tile .bf16) (b2 d2 : FVec F Tile .bf16) (b3 d3 : FVec F Tile .bf16) (S0 : Sums F) (hX : Xr = X)
    (hk0 : b0 = rowsAt K (4 * a + 0) (by omega)) (hv0 : d0 = rowsAt V (4 * a + 0) (by omega))
    (hk1 : b1 = rowsAt K (4 * a + 1) (by omega)) (hv1 : d1 = rowsAt V (4 * a + 1) (by omega))
    (hk2 : b2 = rowsAt K (4 * a + 2) (by omega)) (hv2 : d2 = rowsAt V (4 * a + 2) (by omega))
    (hk3 : b3 = rowsAt K (4 * a + 3) (by omega)) (hv3 : d3 = rowsAt V (4 * a + 3) (by omega)) (hS : S0 = A.start.S) :
    (piece Xr (some k0_pay17) 4 (by omega) b0 d0 (piece Xr (some k0_pay17) 3 (by omega) b1 d1 (piece Xr (some k0_pay17) 2 (by omega) b2 d2 (piece Xr (some k0_pay17) 1 (by omega) b3 d3 S0)))).l = (diag X K V k0_pay17 a A).S.l
    ∧ (piece Xr (some k0_pay17) 4 (by omega) b0 d0 (piece Xr (some k0_pay17) 3 (by omega) b1 d1 (piece Xr (some k0_pay17) 2 (by omega) b2 d2 (piece Xr (some k0_pay17) 1 (by omega) b3 d3 S0)))).e = (diag X K V k0_pay17 a A).S.e
    ∧ addf A.S.dq (piece Xr (some k0_pay17) 4 (by omega) b0 d0 (piece Xr (some k0_pay17) 3 (by omega) b1 d1 (piece Xr (some k0_pay17) 2 (by omega) b2 d2 (piece Xr (some k0_pay17) 1 (by omega) b3 d3 S0)))).dq = (diag X K V k0_pay17 a A).S.dq
    ∧ (addBlock (addBlock (addBlock (addBlock A.dk (4 * a.val + 3) (by omega) (dkAdd Xr (some k0_pay17) 1 (by omega) b3 d3 S0)) (4 * a.val + 2) (by omega) (dkAdd Xr (some k0_pay17) 2 (by omega) b2 d2 (piece Xr (some k0_pay17) 1 (by omega) b3 d3 S0))) (4 * a.val + 1) (by omega) (dkAdd Xr (some k0_pay17) 3 (by omega) b1 d1 (piece Xr (some k0_pay17) 2 (by omega) b2 d2 (piece Xr (some k0_pay17) 1 (by omega) b3 d3 S0)))) (4 * a.val + 0) (by omega) (dkAdd Xr (some k0_pay17) 4 (by omega) b0 d0 (piece Xr (some k0_pay17) 3 (by omega) b1 d1 (piece Xr (some k0_pay17) 2 (by omega) b2 d2 (piece Xr (some k0_pay17) 1 (by omega) b3 d3 S0))))) = (diag X K V k0_pay17 a A).dk
    ∧ (addBlock (addBlock (addBlock (addBlock A.dv (4 * a.val + 3) (by omega) (dvAdd Xr (some k0_pay17) 1 (by omega) b3 S0)) (4 * a.val + 2) (by omega) (dvAdd Xr (some k0_pay17) 2 (by omega) b2 (piece Xr (some k0_pay17) 1 (by omega) b3 d3 S0))) (4 * a.val + 1) (by omega) (dvAdd Xr (some k0_pay17) 3 (by omega) b1 (piece Xr (some k0_pay17) 2 (by omega) b2 d2 (piece Xr (some k0_pay17) 1 (by omega) b3 d3 S0)))) (4 * a.val + 0) (by omega) (dvAdd Xr (some k0_pay17) 4 (by omega) b0 (piece Xr (some k0_pay17) 3 (by omega) b1 d1 (piece Xr (some k0_pay17) 2 (by omega) b2 d2 (piece Xr (some k0_pay17) 1 (by omega) b3 d3 S0))))) = (diag X K V k0_pay17 a A).dv := by
  subst hX hk0 hv0 hk1 hv1 hk2 hv2 hk3 hv3 hS
  exact ⟨rfl, rfl, rfl, rfl, rfl⟩

theorem begun_eq {arg10 arg11 : Memref sig .tc .vmem S2x512x128 .f32} (harg10 : arg10.IsWhole) (harg11 : arg11.IsWhole) (i : grid0.Coords) (dk dv : FVec F Keys .f32) :
    ({ l := fun h => match h with | 0 => zeros _ | 1 => slabLoad (Val := Elt F) arg10 (harg10.unread (slabs fun _ => zeros (Rows 4 128))) 1
       e := slabLoad (Val := Elt F) arg11 (harg11.unread (slabs fun _ => zeros (Rows 4 128)))
       dq := zeros _ } : Sums F) = (begun i dk dv).start.S := by
  rw [slabLoad_eq, slabLoad_eq]
  unfold begun Acc.start
  congr 1
  funext h
  match h with | 0 => rfl | 1 => rfl

/-- The sums and the gradients after a point's work, of what the gradients held. -/
def worked (i : grid0.Coords) (q g : FVec F (Rows 4 128) .bf16) (o : FVec F (Rows 4 128) .f32) (dk dv : FVec F Keys .f32) : Acc F :=
  sweep (fixed q g o) K V (2 * (chunk i).val) (by omega) (diag (fixed q g o) K V k0_pay17 (chunk i) (begun i dk dv))

end Whole

section Body

variable (K V : FVec F Keys .bf16)

set_option maxHeartbeats 1000000 in
theorem body (c : Dev nD) (i : grid0.Coords)
    (arg2 : Memref sig .tc .vmem S512x128 .bf16) (harg2 : arg2.IsWhole)
    (arg3 : Memref sig .tc .vmem S4096x128 .bf16) (harg3 : arg3.IsWhole)
    (arg4 : Memref sig .tc .vmem S4096x128 .bf16) (harg4 : arg4.IsWhole)
    (arg5 : Memref sig .tc .vmem S512x128 .f32) (harg5 : arg5.IsWhole)
    (arg6 : Memref sig .tc .vmem S512x128 .bf16) (harg6 : arg6.IsWhole)
    (arg7 : Memref sig .tc .vmem S512x128 .bf16) (harg7 : arg7.IsWhole)
    (arg8 : Memref sig .tc .vmem S4096x128 .bf16) (harg8 : arg8.IsWhole)
    (arg9 : Memref sig .tc .vmem S4096x128 .bf16) (harg9 : arg9.IsWhole)
    (arg10 : Memref sig .tc .vmem S2x512x128 .f32) (harg10 : arg10.IsWhole)
    (arg11 : Memref sig .tc .vmem S2x512x128 .f32) (harg11 : arg11.IsWhole)
    (arg12 : Memref sig .tc .vmem S2x512x128 .f32) (harg12 : arg12.IsWhole)
    (arg13 : Memref sig .tc .vmem S512x128 .f32) (harg13 : arg13.IsWhole)
    (arg14 : Memref sig .tc .vmem S4096x128 .f32) (harg14 : arg14.IsWhole)
    (arg15 : Memref sig .tc .vmem S4096x128 .f32) (harg15 : arg15.IsWhole)
    (q g : FVec F (Rows 4 128) .bf16) (o : FVec F (Rows 4 128) .f32) (y x10 x11 : S2x512x128.Idx → F .f32) (x13 : FVec F (Rows 4 128) .f32)
    (dk dv : FVec F Keys .f32) (x7 : FVec F (Rows 4 128) .bf16) (x8 x9 : FVec F Keys .bf16) (E : Set ℕ) (Q : PUnit → sProp 𝕄) :
    iprop((owns (c : Thread nD τ) arg2 fullShare q ∗ owns (c : Thread nD τ) arg6 fullShare g ∗ owns (c : Thread nD τ) arg5 fullShare o
        ∗ owns (c : Thread nD τ) arg3 fullShare K ∗ owns (c : Thread nD τ) arg4 fullShare V
        ∗ owns (c : Thread nD τ) arg7 fullShare x7 ∗ owns (c : Thread nD τ) arg8 fullShare x8 ∗ owns (c : Thread nD τ) arg9 fullShare x9
        ∗ owns (c : Thread nD τ) arg12 fullShare y ∗ owns (c : Thread nD τ) arg10 fullShare x10 ∗ owns (c : Thread nD τ) arg11 fullShare x11
        ∗ owns (c : Thread nD τ) arg13 fullShare x13 ∗ owns (c : Thread nD τ) arg14 fullShare dk ∗ owns (c : Thread nD τ) arg15 fullShare dv)
      ∗ ((owns (c : Thread nD τ) arg2 fullShare q ∗ owns (c : Thread nD τ) arg6 fullShare g ∗ owns (c : Thread nD τ) arg5 fullShare o
        ∗ owns (c : Thread nD τ) arg7 fullShare (k0_pay2 (worked K V i q g o dk dv).S.dq)
        ∗ owns (c : Thread nD τ) arg8 fullShare (if (chunk i).val = 7 then k0_pay3 (worked K V i q g o dk dv).dk else x8)
        ∗ owns (c : Thread nD τ) arg9 fullShare (if (chunk i).val = 7 then k0_pay4 (worked K V i q g o dk dv).dv else x9)
        ∗ held c arg10 arg11 arg12 arg3 arg4 arg14 arg15 arg13 (fixed q g o) K V (worked K V i q g o dk dv)) -∗ Q ⟨⟩))
    ⊢ wp frame (wpE (defs₀ (F := F)) Variants.nat c none) E (cc0_sb_bwd i arg2 harg2 arg3 harg3 arg4 harg4 arg5 harg5 arg6 harg6 arg7 harg7 arg8 harg8 arg9 harg9 arg10 harg10 arg11 harg11 arg12 harg12 arg13 harg13 arg14 harg14 arg15 harg15) Q := by
  simp only [cc0_sb_bwd_eq_skeleton]
  unfold cc0_sb_bwd_skel
  rw [wp_bind]
  iintro ⟨⟨H2, H6, H5, H3, H4, H7, H8, H9, H12, H10, H11, H13, H14, H15⟩, HK⟩
  iapply (opens1 c none i arg2 harg2 arg3 harg3 arg4 harg4 arg5 harg5 arg6 harg6 arg7 harg7 arg8 harg8 arg9 harg9 arg10 harg10 arg11 harg11 arg12 harg12 arg13 harg13 arg14 harg14 arg15 harg15 q g o y dk dv E _)
  isplitl [H2 H6 H5 H12 H14 H15]
  · isplitl [H2]; · iexact H2
    isplitl [H6]; · iexact H6
    isplitl [H5]; · iexact H5
    isplitl [H12]; · iexact H12
    isplitl [H14]; · iexact H14
    iexact H15
  iintro ⟨H2, H6, H5, H12, H14, H15⟩
  rw [wp_bind]
  iapply (opens2 c none i arg2 harg2 arg3 harg3 arg4 harg4 arg5 harg5 arg6 harg6 arg7 harg7 arg8 harg8 arg9 harg9 arg10 harg10 arg11 harg11 arg12 harg12 arg13 harg13 arg14 harg14 arg15 harg15 q g o y x10 x11 x13 E _)
  isplitl [H12 H10 H11 H13]
  · isplitl [H12]; · iexact H12
    isplitl [H10]; · iexact H10
    isplitl [H11]; · iexact H11
    iexact H13
  iintro ⟨H12, H10, H11, H13⟩
  simp only [k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton]
  unfold owns
  icases H2 with ⟨%f2, %hf2, H2⟩
  icases H3 with ⟨%f3, %hf3, H3⟩
  icases H4 with ⟨%f4, %hf4, H4⟩
  icases H10 with ⟨%f10, %hf10, H10⟩
  icases H11 with ⟨%f11, %hf11, H11⟩
  icases H12 with ⟨%f12, %hf12, H12⟩
  icases H13 with ⟨%f13, %hf13, H13⟩
  icases H14 with ⟨%f14, %hf14, H14⟩
  icases H15 with ⟨%f15, %hf15, H15⟩
  obtain rfl := harg3.eq_unread hf3; obtain rfl := harg4.eq_unread hf4; obtain rfl := harg10.eq_unread hf10; obtain rfl := harg11.eq_unread hf11; obtain rfl := harg12.eq_unread hf12; obtain rfl := harg13.eq_unread hf13; obtain rfl := harg14.eq_unread hf14; obtain rfl := harg15.eq_unread hf15
  generalize hD0 : (begun i dk dv).dk = D0
  generalize hD1 : (begun i dk dv).dv = D1
  sl_exec
  let a := chunk i
  let Xr : Fixed F := { fixed q g o with etot := slabLoad (Val := Elt F) arg12 (harg12.unread (slabs (fixed q g o).etot)) }
  have o0 : k0_off1 i 0#32 = ![128 * (4 * (chunk i).val + 0), 0] := off1_eq i 0
  let b0 := rowsLoad (Val := Elt F) arg3.view (harg3.unread K) _ (k0_off1_inb i 0)
  let d0 := rowsLoad (Val := Elt F) arg4.view (harg4.unread V) _ (k0_off1_inb i 0)
  have ek0 : b0 = rowsAt K (4 * (chunk i).val + 0) (by omega) := (rowsLoad_eq _ (4 * (chunk i).val + 0) (by omega) o0 _).trans (by rw [harg3.read_unread])
  have ev0 : d0 = rowsAt V (4 * (chunk i).val + 0) (by omega) := (rowsLoad_eq _ (4 * (chunk i).val + 0) (by omega) o0 _).trans (by rw [harg4.read_unread])
  have o1 : k0_off1 i 128#32 = ![128 * (4 * (chunk i).val + 1), 0] := off1_eq i 1
  let b1 := rowsLoad (Val := Elt F) arg3.view (harg3.unread K) _ (k0_off1_inb i 1)
  let d1 := rowsLoad (Val := Elt F) arg4.view (harg4.unread V) _ (k0_off1_inb i 1)
  have ek1 : b1 = rowsAt K (4 * (chunk i).val + 1) (by omega) := (rowsLoad_eq _ (4 * (chunk i).val + 1) (by omega) o1 _).trans (by rw [harg3.read_unread])
  have ev1 : d1 = rowsAt V (4 * (chunk i).val + 1) (by omega) := (rowsLoad_eq _ (4 * (chunk i).val + 1) (by omega) o1 _).trans (by rw [harg4.read_unread])
  have o2 : k0_off1 i 256#32 = ![128 * (4 * (chunk i).val + 2), 0] := off1_eq i 2
  let b2 := rowsLoad (Val := Elt F) arg3.view (harg3.unread K) _ (k0_off1_inb i 2)
  let d2 := rowsLoad (Val := Elt F) arg4.view (harg4.unread V) _ (k0_off1_inb i 2)
  have ek2 : b2 = rowsAt K (4 * (chunk i).val + 2) (by omega) := (rowsLoad_eq _ (4 * (chunk i).val + 2) (by omega) o2 _).trans (by rw [harg3.read_unread])
  have ev2 : d2 = rowsAt V (4 * (chunk i).val + 2) (by omega) := (rowsLoad_eq _ (4 * (chunk i).val + 2) (by omega) o2 _).trans (by rw [harg4.read_unread])
  have o3 : k0_off1 i 384#32 = ![128 * (4 * (chunk i).val + 3), 0] := off1_eq i 3
  let b3 := rowsLoad (Val := Elt F) arg3.view (harg3.unread K) _ (k0_off1_inb i 3)
  let d3 := rowsLoad (Val := Elt F) arg4.view (harg4.unread V) _ (k0_off1_inb i 3)
  have ek3 : b3 = rowsAt K (4 * (chunk i).val + 3) (by omega) := (rowsLoad_eq _ (4 * (chunk i).val + 3) (by omega) o3 _).trans (by rw [harg3.read_unread])
  have ev3 : d3 = rowsAt V (4 * (chunk i).val + 3) (by omega) := (rowsLoad_eq _ (4 * (chunk i).val + 3) (by omega) o3 _).trans (by rw [harg4.read_unread])
  let S0 : Sums F := {
    l := fun h => match h with | 0 => zeros _ | 1 => slabLoad (Val := Elt F) arg10 (harg10.unread (slabs fun _ => zeros (Rows 4 128))) 1
    e := slabLoad (Val := Elt F) arg11 (harg11.unread (slabs fun _ => zeros (Rows 4 128)))
    dq := zeros _ }
  have eX : Xr = fixed q g o := fixed_eq harg12 (fixed q g o)
  have eS0 : S0 = (begun i dk dv).start.S := begun_eq harg10 harg11 i dk dv
  have hT := diag_parts (fixed q g o) K V (begun i dk dv) (chunk i) Xr b0 d0 b1 d1 b2 d2 b3 d3 S0 eX ek0 ev0 ek1 ev1 ek2 ev2 ek3 ev3 eS0
  rw [hD0, hD1] at hT
  have r10 := (slabPieces_read (Val := Elt F) (v := arg10.view) (harg10.unread (slabs fun _ => zeros (Rows 4 128))) (piece Xr (some k0_pay17) 4 (by omega) b0 d0 (piece Xr (some k0_pay17) 3 (by omega) b1 d1 (piece Xr (some k0_pay17) 2 (by omega) b2 d2 (piece Xr (some k0_pay17) 1 (by omega) b3 d3 S0)))).l).trans (congrArg slabs hT.1)
  have r11 := (slabPieces_read (Val := Elt F) (v := arg11.view) (harg11.unread (slabs fun _ => zeros (Rows 4 128))) (piece Xr (some k0_pay17) 4 (by omega) b0 d0 (piece Xr (some k0_pay17) 3 (by omega) b1 d1 (piece Xr (some k0_pay17) 2 (by omega) b2 d2 (piece Xr (some k0_pay17) 1 (by omega) b3 d3 S0)))).e).trans (congrArg slabs hT.2.1)
  have r13 := (wholeSum_eq harg13 inb_S512x128_S512x128_0_0 (zeros (Rows 4 128)) (piece Xr (some k0_pay17) 4 (by omega) b0 d0 (piece Xr (some k0_pay17) 3 (by omega) b1 d1 (piece Xr (some k0_pay17) 2 (by omega) b2 d2 (piece Xr (some k0_pay17) 1 (by omega) b3 d3 S0)))).dq).trans hT.2.2.1
  have r14 := (four_read harg14 D0 (chunk i) o0 o1 o2 o3 (k0_off1_inb i 0) (k0_off1_inb i 1) (k0_off1_inb i 2) (k0_off1_inb i 3)
    (dkAdd Xr (some k0_pay17) 4 (by omega) b0 d0 (piece Xr (some k0_pay17) 3 (by omega) b1 d1 (piece Xr (some k0_pay17) 2 (by omega) b2 d2 (piece Xr (some k0_pay17) 1 (by omega) b3 d3 S0)))) (dkAdd Xr (some k0_pay17) 3 (by omega) b1 d1 (piece Xr (some k0_pay17) 2 (by omega) b2 d2 (piece Xr (some k0_pay17) 1 (by omega) b3 d3 S0))) (dkAdd Xr (some k0_pay17) 2 (by omega) b2 d2 (piece Xr (some k0_pay17) 1 (by omega) b3 d3 S0)) (dkAdd Xr (some k0_pay17) 1 (by omega) b3 d3 S0)).trans hT.2.2.2.1
  have r15 := (four_read harg15 D1 (chunk i) o0 o1 o2 o3 (k0_off1_inb i 0) (k0_off1_inb i 1) (k0_off1_inb i 2) (k0_off1_inb i 3)
    (dvAdd Xr (some k0_pay17) 4 (by omega) b0 (piece Xr (some k0_pay17) 3 (by omega) b1 d1 (piece Xr (some k0_pay17) 2 (by omega) b2 d2 (piece Xr (some k0_pay17) 1 (by omega) b3 d3 S0)))) (dvAdd Xr (some k0_pay17) 3 (by omega) b1 (piece Xr (some k0_pay17) 2 (by omega) b2 d2 (piece Xr (some k0_pay17) 1 (by omega) b3 d3 S0))) (dvAdd Xr (some k0_pay17) 2 (by omega) b2 (piece Xr (some k0_pay17) 1 (by omega) b3 d3 S0)) (dvAdd Xr (some k0_pay17) 1 (by omega) b3 S0)).trans hT.2.2.2.2
  rw [counter_eq]
  iapply (wp_call_spec Variants.nat (c : Thread nD τ) none E
    (loopSpec (fixed q g o) K V c arg10 arg11 arg12 arg3 arg4 arg14 arg15 arg13 (2 * (chunk i).val) (by omega) (diag (fixed q g o) K V k0_pay17 (chunk i) (begun i dk dv)))
    (2 * (chunk i).val) (fun u hu => nomatch hu)
    (loop_meets (fixed q g o) K V c i arg10 harg10 arg11 harg11 arg12 harg12 arg3 harg3 arg4 harg4 arg14 harg14 arg15 harg15 arg13 harg13 E (2 * (chunk i).val) (by omega) _))
  rw [loopSpec_apply]
  isplitl [H10 H11 H12 H3 H4 H14 H15 H13]
  · unfold held owns
    isplitl [H10]
    · iexists _; isplitr; rotate_left; · iexact H10
      ipureintro
      refine Eq.trans ?_ r10
      sl_kernel_rfl
    isplitl [H11]
    · iexists _; isplitr; rotate_left; · iexact H11
      ipureintro
      refine Eq.trans ?_ r11
      sl_kernel_rfl
    isplitl [H12]
    · iexists _; isplitr; rotate_left; · iexact H12
      ipureintro
      exact harg12.read_unread _
    isplitl [H3]
    · iexists _; isplitr; rotate_left; · iexact H3
      ipureintro
      exact harg3.read_unread _
    isplitl [H4]
    · iexists _; isplitr; rotate_left; · iexact H4
      ipureintro
      exact harg4.read_unread _
    isplitl [H14]
    · iexists _; isplitr; rotate_left; · iexact H14
      ipureintro
      refine Eq.trans ?_ r14
      sl_kernel_rfl
    isplitl [H15]
    · iexists _; isplitr; rotate_left; · iexact H15
      ipureintro
      refine Eq.trans ?_ r15
      sl_kernel_rfl
    iexists _; isplitr; rotate_left; · iexact H13
    ipureintro
    refine (View.read_writes_full (Val := Elt F) arg13.view (harg13.unread (zeros (Rows 4 128))) inb_S512x128_S512x128_0_0 _ []).trans (Eq.trans ?_ r13)
    sl_kernel_rfl
  iintro %r HH
  have ew : sweep (fixed q g o) K V (2 * (chunk i).val) (by omega) (diag (fixed q g o) K V k0_pay17 (chunk i) (begun i dk dv)) = worked K V i q g o dk dv := rfl
  rw [ew]
  generalize worked K V i q g o dk dv = W
  clear hT r10 r11 r13 r14 r15
  unfold held owns
  icases HH with ⟨⟨%g10, %hg10, H10⟩, ⟨%g11, %hg11, H11⟩, ⟨%g12, %hg12, H12⟩, ⟨%g3, %hg3, H3⟩, ⟨%g4, %hg4, H4⟩, ⟨%g14, %hg14, H14⟩, ⟨%g15, %hg15, H15⟩, ⟨%g13, %hg13, H13⟩⟩
  icases H5 with ⟨%f5, %hf5, H5⟩
  icases H6 with ⟨%f6, %hf6, H6⟩
  icases H7 with ⟨%f7, %hf7, H7⟩
  icases H8 with ⟨%f8, %hf8, H8⟩
  icases H9 with ⟨%f9, %hf9, H9⟩
  obtain rfl := harg10.eq_unread hg10; obtain rfl := harg11.eq_unread hg11; obtain rfl := harg12.eq_unread hg12; obtain rfl := harg3.eq_unread hg3
  obtain rfl := harg4.eq_unread hg4; obtain rfl := harg14.eq_unread hg14; obtain rfl := harg15.eq_unread hg15; obtain rfl := harg13.eq_unread hg13
  by_cases h : (chunk i).val = 7
  · have h2 := (last_iff i).2 h
    simp only [h2, ↓reduceDIte]
    sl_exec
    rw [wp_ret]; imodintro
    iapply HK
    isplitl [H2]
    · iexists _; isplitr; rotate_left; · iexact H2
      ipureintro; exact hf2
    isplitl [H6]
    · iexists _; isplitr; rotate_left; · iexact H6
      ipureintro; exact hf6
    isplitl [H5]
    · iexists _; isplitr; rotate_left; · iexact H5
      ipureintro; exact hf5
    isplitl [H7]
    · iexists _; isplitr; rotate_left; · iexact H7
      ipureintro; exact (View.read_writes_full (Val := Elt F) arg7.view _ _ _ []).trans (congrArg k0_pay2 ((View.readAt_full _ _ _).trans (harg13.read_unread (Val := Elt F) _)))
    isplitl [H8]
    · iexists _; isplitr; rotate_left; · iexact H8
      ipureintro; exact ((View.read_writes_full (Val := Elt F) arg8.view _ _ _ []).trans (congrArg k0_pay3 ((View.readAt_full _ _ _).trans (harg14.read_unread (Val := Elt F) _)))).trans (if_pos h).symm
    isplitl [H9]
    · iexists _; isplitr; rotate_left; · iexact H9
      ipureintro; exact ((View.read_writes_full (Val := Elt F) arg9.view _ _ _ []).trans (congrArg k0_pay4 ((View.readAt_full _ _ _).trans (harg15.read_unread (Val := Elt F) _)))).trans (if_pos h).symm
    isplitl [H10]
    · iexists _; isplitr; rotate_left; · iexact H10
      ipureintro; exact harg10.read_unread _
    isplitl [H11]
    · iexists _; isplitr; rotate_left; · iexact H11
      ipureintro; exact harg11.read_unread _
    isplitl [H12]
    · iexists _; isplitr; rotate_left; · iexact H12
      ipureintro; exact harg12.read_unread _
    isplitl [H3]
    · iexists _; isplitr; rotate_left; · iexact H3
      ipureintro; exact harg3.read_unread _
    isplitl [H4]
    · iexists _; isplitr; rotate_left; · iexact H4
      ipureintro; exact harg4.read_unread _
    isplitl [H14]
    · iexists _; isplitr; rotate_left; · iexact H14
      ipureintro; exact harg14.read_unread _
    isplitl [H15]
    · iexists _; isplitr; rotate_left; · iexact H15
      ipureintro; exact harg15.read_unread _
    iexists _; isplitr; rotate_left; · iexact H13
    ipureintro; exact harg13.read_unread _
  · have h2 := fun h' => h ((last_iff i).1 h')
    simp only [h2, ↓reduceDIte]
    sl_exec
    rw [wp_ret]; imodintro
    iapply HK
    isplitl [H2]
    · iexists _; isplitr; rotate_left; · iexact H2
      ipureintro; exact hf2
    isplitl [H6]
    · iexists _; isplitr; rotate_left; · iexact H6
      ipureintro; exact hf6
    isplitl [H5]
    · iexists _; isplitr; rotate_left; · iexact H5
      ipureintro; exact hf5
    isplitl [H7]
    · iexists _; isplitr; rotate_left; · iexact H7
      ipureintro; exact (View.read_writes_full (Val := Elt F) arg7.view _ _ _ []).trans (congrArg k0_pay2 ((View.readAt_full _ _ _).trans (harg13.read_unread (Val := Elt F) _)))
    isplitl [H8]
    · iexists _; isplitr; rotate_left; · iexact H8
      ipureintro; exact hf8.trans (if_neg h).symm
    isplitl [H9]
    · iexists _; isplitr; rotate_left; · iexact H9
      ipureintro; exact hf9.trans (if_neg h).symm
    isplitl [H10]
    · iexists _; isplitr; rotate_left; · iexact H10
      ipureintro; exact harg10.read_unread _
    isplitl [H11]
    · iexists _; isplitr; rotate_left; · iexact H11
      ipureintro; exact harg11.read_unread _
    isplitl [H12]
    · iexists _; isplitr; rotate_left; · iexact H12
      ipureintro; exact harg12.read_unread _
    isplitl [H3]
    · iexists _; isplitr; rotate_left; · iexact H3
      ipureintro; exact harg3.read_unread _
    isplitl [H4]
    · iexists _; isplitr; rotate_left; · iexact H4
      ipureintro; exact harg4.read_unread _
    isplitl [H14]
    · iexists _; isplitr; rotate_left; · iexact H14
      ipureintro; exact harg14.read_unread _
    isplitl [H15]
    · iexists _; isplitr; rotate_left; · iexact H15
      ipureintro; exact harg15.read_unread _
    iexists _; isplitr; rotate_left; · iexact H13
    ipureintro; exact harg13.read_unread _

end Body

end Cert.SbRun
-- ==== Proof.Sb.Frame.lean ====
module

public import proofs.«01_k».proof.Proof.Sb.Body

@[expose] public section

set_option maxRecDepth 16384

noncomputable section

namespace Cert.SbRun

open Cert.SbIdeal Cert.SbIdeal.Gen Cert.SbModel
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The host lines before the launch -/

/-- The lines, stretch by stretch. -/
abbrev hostLines : List (List (HloOp τ sig (Elt F))) :=
  [hostOps0, hostOps0_1, hostOps0_2, hostOps0_3, hostOps0_4, hostOps0_5, hostOps0_6, hostOps0_7, hostOps0_8, hostOps0_9]

theorem hostLines_sub : (hostLines (F := F)).Forall fun ops => ops.Forall fun op => op.bufs ⊆ StableHlo.tcRefs τ sig :=
  ⟨hostOps0_sub, hostOps0_1_sub, hostOps0_2_sub, hostOps0_3_sub, hostOps0_4_sub, hostOps0_5_sub, hostOps0_6_sub, hostOps0_7_sub, hostOps0_8_sub, hostOps0_9_sub⟩

theorem hostLines_fresh : (hostLines (F := F)).Forall fun ops => ops.Forall fun op => op.fresh = ∅ := by
  simp only [hostLines, List.Forall]; repeat' constructor

/-- What core `c`'s arrays hold when the call is reached. -/
abbrev V (c : Dev nD) (b : Ref sig .tc) : Buf (Elt F) ((c : Thread nD τ).loc b) :=
  StableHlo.after (hostLines (F := F)).flatten (fun b => m (c, b)) b

set_option maxHeartbeats 800000 in
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main hostLines hostLines_sub hostLines_fresh main_chain

set_option maxHeartbeats 1600000 in
theorem V_main_arg0 (c : Dev nD) : V m c main_arg0 = m ((c : Thread nD τ).loc main_arg0) :=
  StableHlo.after_of_forall_not_mem (b := Proc.devRef .tc main_arg0) _ _ (List.forall_iff_forall_mem.mp (by
    simp only [hostLines, hostOps0, hostOps0_1, hostOps0_2, hostOps0_3, hostOps0_4, hostOps0_5, hostOps0_6, hostOps0_7, hostOps0_8, hostOps0_9,
      List.flatten_cons, List.flatten_nil, List.append_nil, List.cons_append,
      List.nil_append, List.Forall, StableHlo.TRef.nullary, StableHlo.TRef.unary, StableHlo.TRef.binary, StableHlo.TRef.ternary,
      StableHlo.nullary_writes, StableHlo.unary_writes, StableHlo.binary_writes, StableHlo.ternary_writes, StableHlo.reshape_writes, Finset.mem_singleton]
    repeat' apply And.intro
    all_goals exact StableHlo.devRef_ne_of_ne (by decide)))

set_option maxHeartbeats 1600000 in
theorem V_main_arg1 (c : Dev nD) : V m c main_arg1 = m ((c : Thread nD τ).loc main_arg1) :=
  StableHlo.after_of_forall_not_mem (b := Proc.devRef .tc main_arg1) _ _ (List.forall_iff_forall_mem.mp (by
    simp only [hostLines, hostOps0, hostOps0_1, hostOps0_2, hostOps0_3, hostOps0_4, hostOps0_5, hostOps0_6, hostOps0_7, hostOps0_8, hostOps0_9,
      List.flatten_cons, List.flatten_nil, List.append_nil, List.cons_append,
      List.nil_append, List.Forall, StableHlo.TRef.nullary, StableHlo.TRef.unary, StableHlo.TRef.binary, StableHlo.TRef.ternary,
      StableHlo.nullary_writes, StableHlo.unary_writes, StableHlo.binary_writes, StableHlo.ternary_writes, StableHlo.reshape_writes, Finset.mem_singleton]
    repeat' apply And.intro
    all_goals exact StableHlo.devRef_ne_of_ne (by decide)))

/-- Window `w`'s block at point `t`. -/
def iblk (c : Dev nD) (w : Fin (cfg0 (F := F)).W) (t : Fin (cfg0 (F := F)).N) : (((cfg0 (F := F)).win w).xblock ((cfg0 (F := F)).grid.coords t)).Idx → Elt F ((cfg0 (F := F)).win w).elt :=
  (((cfg0 (F := F)).win w).blk t).view.read (Elt F) (V m c (Pipeline.arrRef spec0 w))

/-! ## The points -/

variable (c : Dev nD)

/-- What point `t` works out, over the keys' sums so far. -/
def turnAt (t : Fin (cfg0 (F := F)).N) (dk dv : FVec F Keys .f32) : Acc F :=
  worked (iblk m c 1 t) (iblk m c 2 t) (grid0.coords t) (iblk m c 0 t) (iblk m c 4 t) (iblk m c 3 t) dk dv

/-- What point `n` leaves. -/
def accAt : (n : ℕ) → n < (cfg0 (F := F)).N → Acc F
  | 0, h => turnAt m c ⟨0, h⟩ (zeros _) (zeros _)
  | n + 1, h => turnAt m c ⟨n + 1, h⟩ (accAt n (Nat.lt_of_succ_lt h)).dk (accAt n (Nat.lt_of_succ_lt h)).dv

/-- The first point of a pair of heads reads no sums. -/
theorem turnAt_first (t : Fin (cfg0 (F := F)).N) (h : first (grid0.coords t)) (dk dv dk' dv' : FVec F Keys .f32) : turnAt m c t dk dv = turnAt m c t dk' dv' := by
  unfold turnAt worked begun; rw [if_pos h, if_pos h, if_pos h, if_pos h]

theorem accAt_pos (t : Fin (cfg0 (F := F)).N) (h : t.val ≠ 0) :
    accAt m c t.val t.isLt = turnAt m c t (accAt m c (t.val - 1) (by omega)).dk (accAt m c (t.val - 1) (by omega)).dv := by
  obtain ⟨n, hn⟩ := t
  cases n with
  | zero => exact absurd rfl h
  | succ n => rfl

/-- The scratch arrays between points: the keys' sums are what the last point left. -/
def PhiS : (n : ℕ) → n ≤ (cfg0 (F := F)).N → sProp 𝕄
  | 0, _ => Pipeline.ΦA spec0 c
  | n + 1, hn => iprop(iprop((∃ d, owns (c : Thread nD τ) (Memref.whole cc0_scratch0) fullShare d) ∗ (∃ d, owns (c : Thread nD τ) (Memref.whole cc0_scratch1) fullShare d)
      ∗ (∃ d, owns (c : Thread nD τ) (Memref.whole cc0_scratch2) fullShare d) ∗ (∃ d, owns (c : Thread nD τ) (Memref.whole cc0_scratch3) fullShare d)
      ∗ owns (c : Thread nD τ) (Memref.whole cc0_scratch4) fullShare (accAt m c n hn).dk ∗ owns (c : Thread nD τ) (Memref.whole cc0_scratch5) fullShare (accAt m c n hn).dv)
      ∗ (∃ r, prngReg c r))

theorem PhiA_eq :
    (Pipeline.ΦA spec0 c : sProp 𝕄)
      = iprop(iprop((∃ d, owns (c : Thread nD τ) (Memref.whole cc0_scratch0) fullShare d) ∗ (∃ d, owns (c : Thread nD τ) (Memref.whole cc0_scratch1) fullShare d)
      ∗ (∃ d, owns (c : Thread nD τ) (Memref.whole cc0_scratch2) fullShare d) ∗ (∃ d, owns (c : Thread nD τ) (Memref.whole cc0_scratch3) fullShare d)
      ∗ (∃ d, owns (c : Thread nD τ) (Memref.whole cc0_scratch4) fullShare d) ∗ (∃ d, owns (c : Thread nD τ) (Memref.whole cc0_scratch5) fullShare d))
      ∗ (∃ r, prngReg c r)) := by
  unfold Pipeline.ΦA; rw [scopedRest0_eq]; simp only [owns_whole]; try rfl

/-- What a point starts from, the first as any other. -/
theorem PhiS_open (t : Fin (cfg0 (F := F)).N) : PhiS m c t.val (Nat.le_of_lt t.isLt) ⊢
    iprop(∃ dk dv, ⌜accAt m c t.val t.isLt = turnAt m c t dk dv⌝ ∗ iprop((∃ d, owns (c : Thread nD τ) (Memref.whole cc0_scratch0) fullShare d) ∗ (∃ d, owns (c : Thread nD τ) (Memref.whole cc0_scratch1) fullShare d)
      ∗ (∃ d, owns (c : Thread nD τ) (Memref.whole cc0_scratch2) fullShare d) ∗ (∃ d, owns (c : Thread nD τ) (Memref.whole cc0_scratch3) fullShare d)
      ∗ owns (c : Thread nD τ) (Memref.whole cc0_scratch4) fullShare dk ∗ owns (c : Thread nD τ) (Memref.whole cc0_scratch5) fullShare dv)
      ∗ (∃ r, prngReg c r)) := by
  have first0 : ∀ h : 0 < (cfg0 (F := F)).N, first (grid0.coords ⟨0, h⟩) := (by decide : ∀ h : 0 < grid0.N, first (grid0.coords ⟨0, h⟩))
  obtain ⟨n, hn⟩ := t
  cases n with
  | zero =>
    show Pipeline.ΦA spec0 c ⊢ _
    rw [PhiA_eq]
    iintro ⟨⟨H0, H1, H2, H3, ⟨%dk, H4⟩, ⟨%dv, H5⟩⟩, Hg⟩
    iexists dk, dv
    isplitr; · ipureintro; exact turnAt_first m c ⟨0, hn⟩ (first0 hn) _ _ _ _
    isplitr [Hg]; rotate_left; · iexact Hg
    isplitl [H0]; · iexact H0
    isplitl [H1]; · iexact H1
    isplitl [H2]; · iexact H2
    isplitl [H3]; · iexact H3
    isplitl [H4]; · iexact H4
    iexact H5
  | succ n =>
    simp only [PhiS]
    iintro H
    iexists (accAt m c n (Nat.lt_of_succ_lt hn)).dk, (accAt m c n (Nat.lt_of_succ_lt hn)).dv
    isplitr; · ipureintro; rfl
    iexact H

/-- The windows' contents after a point. -/
def dats (_ : Fin 1) (c : Dev nD) : Dat τ (Elt F) Unit ℕ (UR sig nD τ) ℕ (cfg0 (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => k0_pay2 (accAt m c t.val t.isLt).S.dq
    | ⟨6, _⟩ => k0_pay3 (accAt m c t.val t.isLt).dk
    | ⟨7, _⟩ => k0_pay4 (accAt m c t.val t.isLt).dv
  Φ t := PhiS m c t.val (Nat.le_of_lt_succ t.isLt)
  q := Pipeline.shareOf spec0
  owed _ := 0

theorem A_eq (c : Dev nD) (w : Fin (cfg0 (F := F)).W) : (dats m 0 c).A w = V m c (Pipeline.arrRef spec0 w) := by
  dsimp only [dats]

theorem PhiS_castSucc (t : Fin (cfg0 (F := F)).N) : (dats m 0 c).Φ t.castSucc = PhiS m c t.val (Nat.le_of_lt t.isLt) := by
  dsimp only [dats]; exact Pipeline.Dat.Φ_castSucc (PhiS m c) t

theorem after_0 (t : Fin (cfg0 (F := F)).N) : (dats m 0 c).after 0 t = iblk m c 0 t := by dsimp only [dats]; rfl
theorem after_1 (t : Fin (cfg0 (F := F)).N) : (dats m 0 c).after 1 t = iblk m c 1 t := by dsimp only [dats]; rfl
theorem after_2 (t : Fin (cfg0 (F := F)).N) : (dats m 0 c).after 2 t = iblk m c 2 t := by dsimp only [dats]; rfl
theorem after_3 (t : Fin (cfg0 (F := F)).N) : (dats m 0 c).after 3 t = iblk m c 3 t := by dsimp only [dats]; rfl
theorem after_4 (t : Fin (cfg0 (F := F)).N) : (dats m 0 c).after 4 t = iblk m c 4 t := by dsimp only [dats]; rfl
theorem after_5 (t : Fin (cfg0 (F := F)).N) : (dats m 0 c).after 5 t = k0_pay2 (accAt m c t.val t.isLt).S.dq := by dsimp only [dats]; rfl
theorem after_6 (t : Fin (cfg0 (F := F)).N) : (dats m 0 c).after 6 t = k0_pay3 (accAt m c t.val t.isLt).dk := by dsimp only [dats]; rfl
theorem after_7 (t : Fin (cfg0 (F := F)).N) : (dats m 0 c).after 7 t = k0_pay4 (accAt m c t.val t.isLt).dv := by dsimp only [dats]; rfl

theorem before_0 (t : Fin (cfg0 (F := F)).N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (t : Fin (cfg0 (F := F)).N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (t : Fin (cfg0 (F := F)).N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (t : Fin (cfg0 (F := F)).N) (d) : (dats m 0 c).before 3 t d = iblk m c 3 t :=
  ((dats m 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (t : Fin (cfg0 (F := F)).N) (d) : (dats m 0 c).before 4 t d = iblk m c 4 t :=
  ((dats m 0 c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)

/-! ## The body at a point -/

def bodyPre (t : Fin (cfg0 (F := F)).N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

def bodyPost (t : Fin (cfg0 (F := F)).N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

theorem leaves_live (w : Fin (cfg0 (F := F)).W) (t : Fin (cfg0 (F := F)).N) (h : (cfg0 (F := F)).idle w (grid0.coords t) = false) :
    (dats m 0 c).leavesExact w t = owns (c : Thread nD τ) (((cfg0 (F := F)).win w).stage ((cfg0 (F := F)).slots t w)) fullShare ((dats m 0 c).after w t) := by
  unfold Dat.leavesExact; rw [h]

theorem idle_6 : ∀ t : Fin (cfg0 (F := F)).N, (chunk (grid0.coords t)).val ≠ 7 → (cfg0 (F := F)).idle 6 (grid0.coords t) = true ∧ ((cfg0 (F := F)).win 6).flush t = false :=
  (by decide +kernel : ∀ t : Fin grid0.N, (chunk (grid0.coords t)).val ≠ 7 → idle0 6 (grid0.coords t) = true ∧ win0_6.flush t = false)
theorem idle_7 : ∀ t : Fin (cfg0 (F := F)).N, (chunk (grid0.coords t)).val ≠ 7 → (cfg0 (F := F)).idle 7 (grid0.coords t) = true ∧ ((cfg0 (F := F)).win 7).flush t = false :=
  (by decide +kernel : ∀ t : Fin grid0.N, (chunk (grid0.coords t)).val ≠ 7 → idle0 7 (grid0.coords t) = true ∧ win0_7.flush t = false)
theorem live_6 : ∀ t : Fin (cfg0 (F := F)).N, (chunk (grid0.coords t)).val = 7 → (cfg0 (F := F)).idle 6 (grid0.coords t) = false :=
  (by decide +kernel : ∀ t : Fin grid0.N, (chunk (grid0.coords t)).val = 7 → idle0 6 (grid0.coords t) = false)
theorem live_7 : ∀ t : Fin (cfg0 (F := F)).N, (chunk (grid0.coords t)).val = 7 → (cfg0 (F := F)).idle 7 (grid0.coords t) = false :=
  (by decide +kernel : ∀ t : Fin grid0.N, (chunk (grid0.coords t)).val = 7 → idle0 7 (grid0.coords t) = false)

/-- An output stored at the last chunk only: its buffer after the point. -/
theorem leaves_last (w : Fin (cfg0 (F := F)).W) (t : Fin (cfg0 (F := F)).N)
    (hi : (chunk (grid0.coords t)).val ≠ 7 → (cfg0 (F := F)).idle w (grid0.coords t) = true ∧ ((cfg0 (F := F)).win w).flush t = false)
    (hl : (chunk (grid0.coords t)).val = 7 → (cfg0 (F := F)).idle w (grid0.coords t) = false) (d)
    (X : ((cfg0 (F := F)).win w).block.Idx → Elt F ((cfg0 (F := F)).win w).elt) (hX : (dats m 0 c).after w t = X) :
    owns (c : Thread nD τ) (((cfg0 (F := F)).win w).stage ((cfg0 (F := F)).slots t w)) fullShare (if (chunk (grid0.coords t)).val = 7 then X else (dats m 0 c).before w t d)
      ⊢ (dats m 0 c).leavesExact w t := by
  by_cases h : (chunk (grid0.coords t)).val = 7
  · rw [leaves_live m c w t (hl h), if_pos h, hX]
  · rw [Dat.leavesExact_idle (dats m 0 c) w t (hi h).1 (hi h).2, if_neg h]
    iintro H; iexists d; iexact H

set_option maxHeartbeats 4000000 in
theorem sound_body (t : Fin (cfg0 (F := F)).N) :
    bodyPre m c t ⊢ wp frame (wpE (defs₀ (F := F)) Variants.nat c none) Set.univ (bodyAt0 t) (fun _ => bodyPost m c t) := by
  unfold bodyPre bodyPost bodyAt0
  simp only [before_0, before_1, before_2, before_3, before_4]
  rw [show (dats m 0 c).owesAt () t.succ = (dats m 0 c).owesAt () t.castSucc from rfl, PhiS_castSucc]
  rw [show (dats m 0 c).Φ t.succ = PhiS m c (t.val + 1) t.isLt from rfl]
  rw [leaves_live m c 0 t rfl, leaves_live m c 1 t rfl, leaves_live m c 2 t rfl, leaves_live m c 3 t rfl, leaves_live m c 4 t rfl, leaves_live m c 5 t rfl]
  rw [after_0, after_1, after_2, after_3, after_4, after_5]
  refine (Idealize.SL.BI.BIClass.sep_mono (PhiS_open m c t) (Idealize.SL.BI.Entails.refl _)).trans ?_
  iintro ⟨⟨%dk, %dv, %e, ⟨⟨%x10, S0⟩, ⟨%x11, S1⟩, ⟨%y, S2⟩, ⟨%x13, S3⟩, S4, S5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (body (iblk m c 1 t) (iblk m c 2 t) c (grid0.coords t) _ _ _ _ _ _ _ _ _ _ _ _ _ _ _ _ _ _ _ _ _ _ _ _ _ _ _ _
    (iblk m c 0 t) (iblk m c 4 t) (iblk m c 3 t) y x10 x11 x13 dk dv ((dats m 0 c).before 5 t d5) ((dats m 0 c).before 6 t d6) ((dats m 0 c).before 7 t d7) Set.univ _)
  isplitl [H0 H1 H2 H3 H4 H5 H6 H7 S0 S1 S2 S3 S4 S5]
  · isplitl [H0]; · iexact H0
    isplitl [H4]; · iexact H4
    isplitl [H3]; · iexact H3
    isplitl [H1]; · iexact H1
    isplitl [H2]; · iexact H2
    isplitl [H5]; · iexact H5
    isplitl [H6]; · iexact H6
    isplitl [H7]; · iexact H7
    isplitl [S2]; · iexact S2
    isplitl [S0]; · iexact S0
    isplitl [S1]; · iexact S1
    isplitl [S3]; · iexact S3
    isplitl [S4]; · iexact S4
    iexact S5
  rw [show worked (iblk m c 1 t) (iblk m c 2 t) (grid0.coords t) (iblk m c 0 t) (iblk m c 4 t) (iblk m c 3 t) dk dv = accAt m c t.val t.isLt from e.symm]
  unfold held
  iintro ⟨H0, H4, H3, H5, H6, H7, S0, S1, S2, H1, H2, S4, S5, S3⟩
  isplitl [S0 S1 S2 S3 S4 S5 Hg]
  · unfold PhiS
    isplitr [Hg]; rotate_left; · iexact Hg
    isplitl [S0]; · iexists _; iexact S0
    isplitl [S1]; · iexists _; iexact S1
    isplitl [S2]; · iexists _; iexact S2
    isplitl [S3]; · iexists _; iexact S3
    isplitl [S4]; · iexact S4
    iexact S5
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · iapply (leaves_last m c 6 t (idle_6 t) (live_6 t) d6 _ (after_6 m c t)); iexact H6
  iapply (leaves_last m c 7 t (idle_7 t) (live_7 t) d7 _ (after_7 m c t)); iexact H7

theorem defs₀_row (t : Fin (cfg0 (F := F)).N) :
    defs₀ (F := F) .tc (cfg0 (F := F)).body ((cfg0 (F := F)).bodyArgs t ((cfg0 (F := F)).slots t)) = bodyAt0 t := by
  unfold defs₀; rw [Defs.onTc_tc]

theorem body_obligation : BodyObligation (dats (F := F) m 0 c) (defs₀ (F := F)) Variants.nat () Set.univ := fun t => by
  rw [bigSep_W0, bigSep_W0, defs₀_row]
  exact triple_restated (sound_body m c t) rfl .rfl fun _ => .rfl

theorem hin : Pipeline.ΦA spec0 c ⊢ (dats m 0 c).Φ 0 := by
  rw [show (dats m 0 c).Φ 0 = PhiS m c 0 (Nat.zero_le _) from rfl]
  exact Idealize.SL.BI.Entails.refl _

theorem hout : (dats m 0 c).Φ (Fin.last (cfg0 (F := F)).N) ⊢ Pipeline.ΦA spec0 c := by
  rw [show (dats m 0 c).Φ (Fin.last (cfg0 (F := F)).N) = PhiS m c (31 + 1) (le_of_eq N_0.symm) from rfl, PhiA_eq]
  simp only [PhiS]
  iintro ⟨⟨H0, H1, H2, H3, H4, H5⟩, Hg⟩
  isplitr [Hg]; rotate_left; · iexact Hg
  isplitl [H0]; · iexact H0
  isplitl [H1]; · iexact H1
  isplitl [H2]; · iexact H2
  isplitl [H3]; · iexact H3
  isplitl [H4]; · iexists _; iexact H4
  iexists _; iexact H5

/-! ## The launch -/

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.nat m ρ main
    (hbody := fun c => (body_obligation m c).loose) (hq := fun _ _ _ => rfl)
    (howed := fun _ _ => rfl) (V := V m) (hmain := hmain m Variants.nat) (hA := A_eq m) (hin := hin m) (hout := hout m)

theorem rest_arg0 : main_arg0 ∈ Pipeline.restRefs sig ((cfgs (F := F)) 0).spec := (by decide : main_arg0 ∈ Pipeline.restRefs sig spec0)
theorem rest_arg1 : main_arg1 ∈ Pipeline.restRefs sig ((cfgs (F := F)) 0).spec := (by decide : main_arg1 ∈ Pipeline.restRefs sig spec0)

/-- The arguments end as they were, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c => ⟨(h.1 c).2 main_arg0 (rest_arg0 (F := F)) |>.trans (V_main_arg0 m c), (h.1 c).2 main_arg1 (rest_arg1 (F := F)) |>.trans (V_main_arg1 m c)⟩, h.2⟩)
    (run_main_quiescent m ρ)

end Cert.SbRun

end
-- ==== Proof.Sb.Frames.lean ====
module

public import proofs.«01_k».proof.Defs
public import proofs.«01_k».proof.Proof.Sb.Frame
public import proofs.«01_k».proof.Proof.SbWords.Frame
public import proofs.«01_k».proof.Proof.Gen.SbRefIdeal.Run

/-! The attention gradient's frames. The kernel over the reals has a named constant and the kernel at the words has not, so each has its run. -/

@[expose] public section
set_option maxRecDepth 16384
noncomputable section
namespace Cert.SbClaim
open Idealize Idealize.ShloMosaic

theorem frame : Cert.quiescent_Sb := fun m ρ _ => Cert.SbWordsRun.frame (F := Bits) m ρ

theorem frame_ideal : Cert.quiescent_SbIdeal := fun m ρ _ => Cert.SbRun.frame (F := Ideal) m ρ

/-- The reference's run leaves the arguments alone, and it has no semaphore. -/
theorem frame_ref : Cert.quiescent_SbRefIdeal := fun m ρ _ =>
  (θ_run Cert.SbRefIdeal.defs _ _).mono
    (fun r h => ⟨fun c => (h c).2.2.2, sem_eq_zero_of_no_sems (by decide) r.2⟩)
    (Cert.SbRefIdeal.Value.run (F := Ideal) m ρ)

/-- The cut is past by the constant's name. -/
theorem preserves : Cert.preserves_Sb_SbIdeal := IdealRules.named_const.statement _ _ _ _ _ rfl

/-- The precondition's own side conditions. -/
theorem preFacts : Cert.Pre_sb_finite.Facts where
  slices_S4096x3072_S4096x1536_0_0 := by decide
  bcast_S_S4096x1536 := by decide
  reducesTo_S4096x1536_S_d0_1 := by decide
  h_S_ := by decide
  bcast_S_S4096x512 := by decide
  reducesTo_S4096x512_S_d0_1 := by decide

end Cert.SbClaim
-- ==== Proof.Sb.Calc.lean ====
module

public import proofs.«01_k».proof.Proof.Sb.Model
public import Idealize.ShloMosaic.Lib.IdealHost
public import Idealize.ShloMosaic.Lib.ValueIdx
public import Mathlib.Analysis.SpecialFunctions.Log.Basic

@[expose] public section

noncomputable section

/-! Arrays whose entries are reals, and the operations of the kernel's work on them. Rows, columns and heads are counted by naturals. -/

namespace Cert.SbModel

open Idealize.ShloMosaic Idealize.ShloMosaic.ValueIdx Finset

/-- The array's entries are these reals. -/
def Is {n m : ℕ} (v : (⟨2, ![n, m]⟩ : Shape).Idx → EReal) (f : ℕ → ℕ → ℝ) : Prop :=
  ∀ (a : Fin n) (c : Fin m), v (ix2 a c) = ((f a.val c.val : ℝ) : EReal)

variable {n m : ℕ}

theorem Is.congr {v : (⟨2, ![n, m]⟩ : Shape).Idx → EReal} {f g : ℕ → ℕ → ℝ} (h : Is v f) (e : ∀ a, a < n → ∀ c, c < m → f a c = g a c) : Is v g :=
  fun a c => (h a c).trans (congrArg _ (e a a.2 c c.2))

theorem coe_sum (n : ℕ) (f : ℕ → ℝ) : ((∑ k ∈ range n, f k : ℝ) : EReal) = ∑ k : Fin n, ((f k.val : ℝ) : EReal) := by
  rw [Fin.sum_univ_eq_sum_range fun k => ((f k : ℝ) : EReal)]
  induction n with
  | zero => simp
  | succ n ih => rw [sum_range_succ, sum_range_succ, EReal.coe_add, ih]

section Elementwise

variable {x y : (⟨2, ![n, m]⟩ : Shape).Idx → EReal} {f g : ℕ → ℕ → ℝ}

theorem Is.add {φ : FTy} (hx : Is x f) (hy : Is y g) : Is (addf (F := Ideal) (φ := φ) x y) fun a c => f a c + g a c := fun a c => by
  show x _ + y _ = _; rw [hx a c, hy a c, ← EReal.coe_add]

theorem Is.sub {φ : FTy} (hx : Is x f) (hy : Is y g) : Is (subf (F := Ideal) (φ := φ) x y) fun a c => f a c - g a c := fun a c => by
  show x _ - y _ = _; rw [hx a c, hy a c, ← EReal.coe_sub]

theorem Is.mul {φ : FTy} (hx : Is x f) (hy : Is y g) : Is (mulf (F := Ideal) (φ := φ) x y) fun a c => f a c * g a c := fun a c => by
  show x _ * y _ = _; rw [hx a c, hy a c, ← EReal.coe_mul]

theorem Is.exp {φ : FTy} (hx : Is x f) : Is (exp (F := Ideal) (φ := φ) x) fun a c => Real.exp (f a c) := fun a c => by
  show Ideal.exp (x _) = _; rw [hx a c]; rfl

theorem Is.trunc (hx : Is x f) (h) : Is (truncf (F := Ideal) (φ := .f32) .bf16 x h) f := fun a c => hx a c
theorem Is.ext (hx : Is x f) (h) : Is (extf (F := Ideal) (φ := .bf16) .f32 x h) f := fun a c => hx a c

end Elementwise

theorem Is.zeros : Is (zeros (F := Ideal) ⟨2, ![n, m]⟩) fun _ _ => 0 := fun _ _ => Ideal.ofBits_zero_f32

/-- The softplus from the larger of the number and zero. -/
theorem softplus_eq (x : ℝ) : max x 0 + Real.log (1 + Real.exp (0 - max x (-x))) = Real.log (1 + Real.exp x) := by
  have hp : ∀ y : ℝ, 0 < 1 + Real.exp y := fun y => by positivity
  rcases le_total x 0 with h | h
  · rw [max_eq_right h, max_eq_right (by linarith : x ≤ -x), zero_add]; congr 3; ring
  · rw [max_eq_left h, max_eq_left (by linarith : -x ≤ x)]
    conv_lhs => rw [← Real.log_exp x]
    rw [Real.log_exp, ← Real.log_exp x, ← Real.log_mul (Real.exp_pos _).ne' (hp _).ne', Real.log_exp]
    congr 1
    rw [mul_add, ← Real.exp_add]; simp [add_comm]

theorem coe_max (x y : ℝ) : max (x : EReal) (y : EReal) = ((max x y : ℝ) : EReal) := (EReal.coe_strictMono.monotone.map_max).symm

theorem coe_log {x : ℝ} (h : 0 < x) : Ideal.log (x : EReal) = ((Real.log x : ℝ) : EReal) := by
  show (if x ≤ 0 then (⊥ : EReal) else (Real.log x : EReal)) = _
  rw [if_neg (not_le.2 h)]

theorem Is.drop {z : Tile.Idx → EReal} {f : ℕ → ℕ → ℝ} (hz : Is z f) : Is (drop (F := Ideal) z) fun a c => Real.log (1 + Real.exp (f a c)) := fun a c => by
  show max (z _) (Ideal.ofBits .f32 0x00000000#32) + Ideal.log (Ideal.ofBits .f32 0x3F800000#32
    + Ideal.exp (Ideal.ofBits .f32 0x00000000#32 - max (z (ix2 a c)) (-z (ix2 a c)))) = _
  rw [hz a c, Ideal.ofBits_zero_f32, Ideal.ofBits_one_f32]
  have e0 : ((0 : ℝ) : EReal) = 0 := EReal.coe_zero
  have e1 : ((1 : ℝ) : EReal) = 1 := EReal.coe_one
  rw [← e0, ← e1, ← EReal.coe_neg, coe_max, coe_max, ← EReal.coe_sub]
  show _ + Ideal.log (_ + ((Real.exp _ : ℝ) : EReal)) = _
  rw [← EReal.coe_add, coe_log (by positivity), ← EReal.coe_add, softplus_eq]

section Layout

theorem Is.slice {n' m' : ℕ} {v : (⟨2, ![n, m]⟩ : Shape).Idx → EReal} {f : ℕ → ℕ → ℝ} (hv : Is v f) (x y : ℕ) (h) (hx : x + n' ≤ n) (hy : y + m' ≤ m) :
    Is (extractStridedSlice ⟨2, ![n', m']⟩ ![x, y] v h) fun a c => f (x + a) (y + c) := fun a c => by
  rw [extractStridedSlice_apply _ _ _ _ (ix2 (⟨x + a.val, by omega⟩ : Fin n) (⟨y + c.val, by omega⟩ : Fin m))
    (fun b => by match b with | 0 => rfl | 1 => rfl)]
  exact hv _ _

theorem Is.tile {v : (Rows n m).Idx → EReal} {f : ℕ → ℕ → ℝ} (hv : Is v f) (r h : ℕ) (hr : r < n) (hh : 128 * h + 128 ≤ m) :
    Is (tile v r h hr hh) fun a c => f (128 * r + a) (128 * h + c) := hv.slice _ _ _ (by omega) hh

theorem Is.beside {a b c : ℕ} (hc : b + b = c) {x y : (⟨2, ![a, b]⟩ : Shape).Idx → EReal} {f g : ℕ → ℕ → ℝ} (hx : Is x f) (hy : Is y g) :
    Is (beside hc x y) fun i j => if j < b then f i j else g i (j - b) := fun i j => by
  unfold SbModel.beside
  by_cases h : j.val < b
  · simp only [h, ↓reduceIte]
    rw [concatenate_pair_apply_left 1 x y (joins1 hc) (ix2 i j) rfl (ix2 i ⟨j.val, h⟩) (fun b => by match b with | 0 => rfl | 1 => rfl)]
    exact hx _ _
  · simp only [h, ↓reduceIte]
    rw [concatenate_pair_apply_right 1 x y (joins1 hc) (ix2 i j) rfl rfl (ix2 i ⟨j.val - b, by omega⟩)
      (fun b hb => by match b with | 0 => rfl | 1 => exact absurd rfl hb) (by show j.val - b + b = j.val; omega)]
    exact hy _ _

theorem Is.under {a b c : ℕ} (hc : a + b = c) {x : (⟨2, ![a, m]⟩ : Shape).Idx → EReal} {y : (⟨2, ![b, m]⟩ : Shape).Idx → EReal} {f g : ℕ → ℕ → ℝ}
    (hx : Is x f) (hy : Is y g) :
    Is (concatenate ⟨2, ![c, m]⟩ 0 [⟨⟨2, ![a, m]⟩, x⟩, ⟨⟨2, ![b, m]⟩, y⟩] (joins0 hc)) fun i j => if i < a then f i j else g (i - a) j := fun i j => by
  by_cases h : i.val < a
  · simp only [h, ↓reduceIte]
    rw [concatenate_pair_apply_left 0 x y (joins0 hc) (ix2 i j) rfl (ix2 ⟨i.val, h⟩ j) (fun b => by match b with | 0 => rfl | 1 => rfl)]
    exact hx _ _
  · simp only [h, ↓reduceIte]
    rw [concatenate_pair_apply_right 0 x y (joins0 hc) (ix2 i j) rfl rfl (ix2 ⟨i.val - a, by omega⟩ j)
      (fun b hb => by match b with | 0 => exact absurd rfl hb | 1 => rfl) (by show i.val - a + a = i.val; omega)]
    exact hy _ _

theorem Is.stack {f : Fin n → ((⟨2, ![128, m]⟩ : Shape).Idx → EReal)} {g : ℕ → ℕ → ℕ → ℝ} (hf : ∀ r, Is (f r) (g r.val)) :
    Is (stack m n f) fun a c => g (a / 128) (a % 128) c := fun a c => by
  match n, f, hf, a with
  | 0, f, hf, a => exact absurd a.2 (by omega)
  | 1, f, hf, a =>
    have ha : a.val < 128 := by have := a.2; omega
    have e : a.val / 128 = 0 := by omega
    have e' : a.val % 128 = a.val := by omega
    simp only [e, e']
    exact hf 0 ⟨a.val, ha⟩ c
  | n + 2, f, hf, a =>
    have ha := a.2
    refine (concatenate_ofFn_apply (t := Rows (n + 2) m) (s₁ := ⟨2, ![128, m]⟩) 0 f (joinsRows n m f) rfl 128 rfl (ix2 a c)
      ⟨a.val / 128, by omega⟩ rfl (ix2 ⟨a.val % 128, by omega⟩ c) rfl (fun b hb => by match b with | 0 => exact absurd rfl hb | 1 => rfl)).trans ?_
    exact hf _ _ _

theorem Is.grid2 {f : Fin n → Fin 2 → (Tile.Idx → EReal)} {g : ℕ → ℕ → ℕ → ℕ → ℝ} (hf : ∀ r h, Is (f r h) (g r.val h.val)) :
    Is (grid2 n f) fun a c => g (a / 128) (c / 128) (a % 128) (c % 128) := by
  refine (Is.stack (g := fun r a c => if c < 128 then g r 0 a c else g r 1 a (c - 128)) fun r => (hf r 0).beside rfl (hf r 1)).congr ?_
  intro a ha c hc
  split
  · next h => rw [show c / 128 = 0 by omega, show c % 128 = c by omega]
  · next h => rw [show c / 128 = 1 by omega, show c % 128 = c - 128 by omega]

theorem Is.from4 {v : (Rows 4 m).Idx → EReal} {f : ℕ → ℕ → ℝ} (hv : Is v f) (n : ℕ) (hn : n ≤ 4) :
    Is (from4 n hn v) fun a c => f (128 * (4 - n) + a) c := by
  have key : ∀ n, n ≤ 4 → ∀ h, Is (extractStridedSlice (Rows n m) ![128 * (4 - n), 0] v h) fun a c => f (128 * (4 - n) + a) c :=
    fun n hn h => (hv.slice (n' := 128 * n) (m' := m) (128 * (4 - n)) 0 h (by omega) (by omega)).congr fun a _ c _ => by rw [Nat.zero_add]
  match n, hn with
  | 4, _ => exact hv.congr fun a _ c _ => by simp
  | 0, hn => exact key 0 hn (slices2 (by omega) (by omega))
  | 1, hn => exact key 1 hn (slices2 (by omega) (by omega))
  | 2, hn => exact key 2 hn (slices2 (by omega) (by omega))
  | 3, hn => exact key 3 hn (slices2 (by omega) (by omega))

theorem Is.addRows {x : (Rows 4 128).Idx → EReal} {f g : ℕ → ℕ → ℝ} (hx : Is x f) (n : ℕ) (hn : n ≤ 4) {y : (Rows n 128).Idx → EReal} (hy : Is y g) :
    Is (addRows (F := Ideal) n hn x y) fun a c => f a c + if 128 * (4 - n) ≤ a then g (a - 128 * (4 - n)) c else 0 := by
  have key : ∀ n, n ≤ 4 → ∀ (y : (Rows n 128).Idx → EReal), Is y g → ∀ h0 h1 hj,
      Is (concatenate (Rows 4 128) 0 [⟨Rows (4 - n) 128, extractStridedSlice (Rows (4 - n) 128) ![0, 0] x h0⟩,
        ⟨Rows n 128, addf (F := Ideal) (φ := .f32) (extractStridedSlice (Rows n 128) ![128 * (4 - n), 0] x h1) y⟩] hj)
        fun a c => f a c + if 128 * (4 - n) ≤ a then g (a - 128 * (4 - n)) c else 0 := by
    intro n hn y hy h0 h1 hj
    refine ((Is.under (a := 128 * (4 - n)) (b := 128 * n) (c := 128 * 4) (by omega) (hx.slice 0 0 h0 (by omega) (by omega))
      ((hx.slice (128 * (4 - n)) 0 h1 (by omega) (by omega)).add hy))).congr ?_
    intro a ha c hc
    split
    · next h => rw [if_neg (by omega)]; simp
    · next h =>
      rw [if_pos (by omega)]
      congr 2 <;> omega
  match n, hn, y, hy with
  | 4, _, y, hy => exact (hx.add hy).congr fun a _ c _ => by simp
  | 0, hn, y, hy => exact key 0 hn y hy (slices2 (by omega) (by omega)) (slices2 (by omega) (by omega)) (joins0 (by omega))
  | 1, hn, y, hy => exact key 1 hn y hy (slices2 (by omega) (by omega)) (slices2 (by omega) (by omega)) (joins0 (by omega))
  | 2, hn, y, hy => exact key 2 hn y hy (slices2 (by omega) (by omega)) (slices2 (by omega) (by omega)) (joins0 (by omega))
  | 3, hn, y, hy => exact key 3 hn y hy (slices2 (by omega) (by omega)) (slices2 (by omega) (by omega)) (joins0 (by omega))

/-- The lanes of head `h`. -/
def OnHead (w : IVec Lanes 1) (h : ℕ) : Prop := ∀ c : Fin 128, w (ix2 0 c) = if c.val / 64 = h then 1#1 else 0#1

theorem lanes_apply {a : ℕ} {w : IVec Lanes 1} {h : ℕ} (hw : OnHead w h) (i : Fin a) (c : Fin 128) :
    lanes (a := a) w (ix2 i c) = if c.val / 64 = h then 1#1 else 0#1 := by
  rw [← hw c]
  unfold lanes
  rw [Idealize.ShloMosaic.shapeCast_self]
  show w _ = w _
  congr 1; funext b
  match b with
  | 0 => rfl
  | 1 => rfl

theorem select_lanes {a : ℕ} {w : IVec Lanes 1} {h : ℕ} (hw : OnHead w h) {x y : (⟨2, ![a, 128]⟩ : Shape).Idx → EReal} {f g : ℕ → ℕ → ℝ}
    (hx : Is x f) (hy : Is y g) : Is (select (lanes w) x y) fun i c => if c / 64 = h then f i c else g i c := fun i c => by
  show (if lanes w (ix2 i c) = 1#1 then x (ix2 i c) else y (ix2 i c)) = _
  rw [lanes_apply hw]
  by_cases e : c.val / 64 = h
  · simp only [e, ↓reduceIte]; exact hx _ _
  · simp only [e, ↓reduceIte]
    rw [if_neg (by decide)]; exact hy _ _

theorem Is.byHead {w0 w1 : IVec Lanes 1} (h0 : OnHead w0 0) (h1 : OnHead w1 1) {x : Tile.Idx → EReal} {f : ℕ → ℕ → ℝ} (hx : Is x f) :
    Is (byHead (F := Ideal) w0 w1 x) fun γ c => if c / 64 = γ / 128 then f (γ % 128) c else 0 := by
  have hz : Is (broadcast Tile (Scalar.ofBits (F := Ideal) .bf16 0x0000#16)) fun _ _ => 0 := fun _ _ => Ideal.ofBits_zero_bf16
  refine (Is.under (a := 128) (b := 128) (c := 256) rfl (select_lanes h0 hx hz) (select_lanes h1 hx hz)).congr ?_
  intro γ hγ c hc
  split
  · next h => rw [show γ / 128 = 0 by omega, show γ % 128 = γ by omega]
  · next h => rw [show γ / 128 = 1 by omega, show γ % 128 = γ - 128 by omega]

theorem Is.pick {X : Fixed Ideal} (h0 : OnHead X.w0 0) {x : (⟨2, ![256, 128]⟩ : Shape).Idx → EReal} {f : ℕ → ℕ → ℝ} (hx : Is x f) :
    Is (pick X x) fun a c => f (128 * (c / 64) + a) c := by
  refine (select_lanes h0 (hx.slice 0 0 _ (by omega) (by omega)) (hx.slice 128 0 _ (by omega) (by omega))).congr ?_
  intro a ha c hc
  split
  · next h => rw [h]; simp
  · next h => rw [show c / 64 = 1 by omega]; simp

theorem Is.rowTotals {y : (Rows n 256).Idx → EReal} {f : ℕ → ℕ → ℝ} (hy : Is y f) (h : Fin 2) :
    Is (rowTotals (F := Ideal) n y h) fun a _ => f a (128 * h.val) := by
  refine (Is.stack (g := fun r a _ => f (128 * r + a) (128 * h.val)) fun r => ?_).congr fun a _ c _ => by
    rw [Nat.div_add_mod]
  intro a c
  refine Eq.trans ?_ (((hy.tile r h.val r.2 (by omega)).slice (n' := 128) (m' := 1) 0 0 (slices2 (by omega) (by omega)) (by omega) (by omega) a 0).trans (by simp))
  rw [Idealize.ShloMosaic.shapeCast_self]
  show extractStridedSlice _ _ _ _ _ = extractStridedSlice _ _ _ _ _
  congr 1; funext b
  match b with
  | 0 => rfl
  | 1 => rfl

end Layout

section Products

variable {M K N : ℕ} {f g : ℕ → ℕ → ℝ}

theorem Is.plain {φ₁ φ₂ : FTy} {x : FVec Ideal ⟨2, ![M, K]⟩ φ₁} {y : FVec Ideal ⟨2, ![K, N]⟩ φ₂} (hx : Is x f) (hy : Is y g) :
    Is (matmul (F := Ideal) (DotDims.plain M K N) none x y (constant _ .f32 0x00000000#32)) fun i j => ∑ k ∈ range K, f i k * g k j := fun i j => by
  refine (Ideal.matmul_plain_apply none x y _ i j).trans ?_
  rw [show constant (F := Ideal) ⟨2, ![M, N]⟩ .f32 0x00000000#32 (ix2 i j) = 0 from Ideal.ofBits_zero_f32, zero_add, coe_sum]
  exact Fintype.sum_congr _ _ fun k => by rw [hx i k, hy k j, ← EReal.coe_mul]

theorem Is.transposedRhs {φ₁ φ₂ : FTy} {x : FVec Ideal ⟨2, ![M, K]⟩ φ₁} {y : FVec Ideal ⟨2, ![N, K]⟩ φ₂} (hx : Is x f) (hy : Is y g) :
    Is (matmul (F := Ideal) (DotDims.transposedRhs M K N) none x y (constant _ .f32 0x00000000#32)) fun i j => ∑ k ∈ range K, f i k * g j k := fun i j => by
  refine (Ideal.matmul_transposedRhs_apply none x y _ i j).trans ?_
  rw [show constant (F := Ideal) ⟨2, ![M, N]⟩ .f32 0x00000000#32 (ix2 i j) = 0 from Ideal.ofBits_zero_f32, zero_add, coe_sum]
  exact Fintype.sum_congr _ _ fun k => by rw [hx i k, hy j k, ← EReal.coe_mul]

theorem transposedLhs_contr_rank (n : ℕ) : (transposedLhs n).contr.rank = 1 := rfl
theorem transposedLhs_contr_size (n : ℕ) : (transposedLhs n).contr.size ⟨0, by rw [transposedLhs_contr_rank]; exact Nat.one_pos⟩ = 128 * n := rfl

theorem Is.transposedLhs {φ₁ φ₂ : FTy} {x : FVec Ideal (Rows n 256) φ₁} {y : FVec Ideal (Rows n 128) φ₂} (hx : Is x f) (hy : Is y g) :
    Is (matmul (F := Ideal) (transposedLhs n) none x y (constant _ .f32 0x00000000#32)) fun i j => ∑ k ∈ range (128 * n), f k i * g k j := fun i j => by
  show FloatOps.matmul (SbModel.transposedLhs n) none x y _ (ix2 i j) = _
  rw [Ideal.matmul_apply, ← Equiv.sum_comp (contrEquiv1 _ (128 * n) (transposedLhs_contr_rank n) (transposedLhs_contr_size n)).symm]
  rw [show constant (F := Ideal) ⟨2, ![256, 128]⟩ .f32 0x00000000#32 (ix2 i j) = 0 from Ideal.ofBits_zero_f32, zero_add, coe_sum]
  refine Fintype.sum_congr _ _ fun k => ?_
  have hk := contrEquiv1_symm_val _ (128 * n) (transposedLhs_contr_rank n) (transposedLhs_contr_size n) k
  have el : (SbModel.transposedLhs n).lhsIdx (ix2 i j) ((contrEquiv1 _ (128 * n) (transposedLhs_contr_rank n) (transposedLhs_contr_size n)).symm k) = ix2 k i := by
    funext a; apply Fin.ext
    match a with
    | ⟨0, _⟩ => exact hk
    | ⟨1, _⟩ => rfl
  have er : (SbModel.transposedLhs n).rhsIdx (ix2 i j) ((contrEquiv1 _ (128 * n) (transposedLhs_contr_rank n) (transposedLhs_contr_size n)).symm k) = ix2 k j := by
    funext a; apply Fin.ext
    match a with
    | ⟨0, _⟩ => exact hk
    | ⟨1, _⟩ => rfl
  rw [el, er, hx k i, hy k j, ← EReal.coe_mul]

/-- The two triangles, once for the high parts and once for the remainders. -/
def triangles (row col : ℕ) : ℝ := if row % 256 / 128 = col / 128 ∧ col % 128 ≤ row % 128 then 1 else 0

theorem triangle_sum (F : ℕ → ℝ) (c : ℕ) (hc : c < 256) :
    ∑ k ∈ range 512, (if k < 256 then F k else 0) * triangles k c = ∑ s ∈ Ico (c % 128) 128, F (128 * (c / 128) + s) := by
  have half : ∀ b, b < 2 → ∑ k ∈ range 128, F (128 * b + k) * triangles (128 * b + k) c
      = if c / 128 = b then ∑ s ∈ Ico (c % 128) 128, F (128 * (c / 128) + s) else 0 := by
    intro b hb
    split
    · next e =>
      subst e
      rw [show Ico (c % 128) 128 = (range 128).filter (c % 128 ≤ ·) by ext; simp; omega, sum_filter]
      refine sum_congr rfl fun k hk => ?_
      have hk := mem_range.1 hk
      unfold triangles
      by_cases h : c % 128 ≤ k
      · rw [if_pos ⟨by omega, by omega⟩, if_pos h, mul_one]
      · rw [if_neg (by omega), if_neg h, mul_zero]
    · next e =>
      refine sum_eq_zero fun k hk => ?_
      have hk := mem_range.1 hk
      unfold triangles
      rw [if_neg (by omega), mul_zero]
  rw [show (512 : ℕ) = 256 + 256 from rfl, sum_range_add]
  rw [show ∑ x ∈ range 256, (if 256 + x < 256 then F (256 + x) else 0) * triangles (256 + x) c = 0 from
    sum_eq_zero fun x _ => by rw [if_neg (by omega), zero_mul], add_zero]
  rw [show ∑ x ∈ range 256, (if x < 256 then F x else 0) * triangles x c = ∑ x ∈ range 256, F x * triangles x c from
    sum_congr rfl fun x hx => by rw [if_pos (mem_range.1 hx)]]
  rw [show (256 : ℕ) = 128 + 128 from rfl, sum_range_add]
  have h0 := half 0 (by omega)
  have h1 := half 1 (by omega)
  simp only [Nat.mul_zero, Nat.zero_add, Nat.mul_one] at h0 h1
  rw [h0, h1]
  rcases (by omega : c / 128 = 0 ∨ c / 128 = 1) with e | e <;> simp [e]

theorem Is.suffixSums {d : Fin n → Fin 2 → FVec Ideal Tile .f32} {G : ℕ → ℕ → ℕ → ℕ → ℝ} (hd : ∀ r h, Is (d r h) (G r.val h.val))
    {tri : FVec Ideal ⟨2, ![512, 256]⟩ .bf16} (ht : Is tri triangles) :
    Is (suffixSums n d tri) fun a c => ∑ s ∈ Ico (c % 128) 128, G (a / 128) (c / 128) (a % 128) s := by
  have hi := Is.grid2 (g := G) fun r h => (hd r h).trunc (by decide)
  have lo := Is.grid2 (g := fun r h a c => G r h a c - G r h a c) fun r h => ((hd r h).sub (φ := .f32) (((hd r h).trunc (by decide)).ext (by decide))).trunc (by decide)
  refine ((Is.beside (b := 256) rfl hi lo).plain ht).congr ?_
  intro a ha c hc
  rw [← (sum_congr rfl fun s hs => by
    have hs := (mem_Ico.1 hs).2
    rw [show (128 * (c / 128) + s) / 128 = c / 128 by omega, show (128 * (c / 128) + s) % 128 = s by omega] :
    ∑ s ∈ Ico (c % 128) 128, G (a / 128) ((128 * (c / 128) + s) / 128) (a % 128) ((128 * (c / 128) + s) % 128)
      = ∑ s ∈ Ico (c % 128) 128, G (a / 128) (c / 128) (a % 128) s)]
  rw [← triangle_sum (fun k => G (a / 128) (k / 128) (a % 128) (k % 128)) c hc]
  refine sum_congr rfl fun k _ => ?_
  simp only [sub_self]

end Products

end Cert.SbModel
-- ==== Proof.Sb.Piece.lean ====
module

public import proofs.«01_k».proof.Proof.Sb.Calc

@[expose] public section

noncomputable section

/-! One key block's work over the reals. Suffix sums run to the last key, with masked terms zero. -/

namespace Cert.SbModel

open Idealize.ShloMosaic Idealize.ShloMosaic.ValueIdx Finset

/-- The scores of head `h`: scaled queries against keys, on the head's lanes. -/
def scores (Q K : ℕ → ℕ → ℝ) (h t s : ℕ) : ℝ := ∑ c ∈ range 128, Q t c * if c / 64 = h then K s c else 0

section Sticks

variable (Z U : ℕ → ℕ → ℕ → ℝ) (C : ℕ → ℕ → ℝ)

/-- The sum from key `s` on. -/
def suffix (f : ℕ → ℕ → ℕ → ℝ) (h t s : ℕ) : ℝ := ∑ s' ∈ Ico s 4096, f h t s'

/-- The share of the stick that a key drops, in logarithms. -/
def dropped (h t s : ℕ) : ℝ := if s < t then Real.log (1 + Real.exp (Z h t s)) else 0

/-- The attention's weights. -/
def weight (h t s : ℕ) : ℝ := if s < t then Real.exp (Z h t s - suffix (dropped Z) h t s) else 0

/-- The weights times what a weight's gradient is. -/
def flow (h t s : ℕ) : ℝ := weight Z h t s * U h t s

/-- The gradient of a score. -/
def slope (h t s : ℕ) : ℝ :=
  if s < t then flow Z U h t s - Real.exp (Z h t s - dropped Z h t s) * (C h t - (suffix (flow Z U) h t s - flow Z U h t s)) else 0

theorem suffix_cut (f : ℕ → ℕ → ℕ → ℝ) (h t s s1 : ℕ) (h1 : s ≤ s1) (h2 : s1 ≤ 4096) :
    ∑ s' ∈ Ico s s1, f h t s' + suffix f h t s1 = suffix f h t s := sum_Ico_consecutive _ h1 h2

theorem suffix_past (f : ℕ → ℕ → ℕ → ℝ) (hf : ∀ h t s, t ≤ s → f h t s = 0) (h t s : ℕ) (hs : t ≤ s) : suffix f h t s = 0 :=
  sum_eq_zero fun s' hs' => hf h t s' (le_trans hs (mem_Ico.1 hs').1)

theorem dropped_past (h t s : ℕ) (hs : t ≤ s) : dropped Z h t s = 0 := if_neg (by omega)
theorem weight_past (h t s : ℕ) (hs : t ≤ s) : weight Z h t s = 0 := if_neg (by omega)
theorem flow_past (h t s : ℕ) (hs : t ≤ s) : flow Z U h t s = 0 := by unfold flow; rw [weight_past Z h t s hs, zero_mul]
theorem slope_past (h t s : ℕ) (hs : t ≤ s) : slope Z U C h t s = 0 := if_neg (by omega)

end Sticks

section Blocks

variable {n : ℕ}

theorem block_sums {d : Fin n → Fin 2 → FVec Ideal Tile .f32} {f : ℕ → ℕ → ℕ → ℝ} {t0 s0 : ℕ}
    (hd : ∀ r h, Is (d r h) fun a c => f h.val (t0 + (128 * r.val + a)) (s0 + c))
    {tri : FVec Ideal ⟨2, ![512, 256]⟩ .bf16} (ht : Is tri triangles) :
    Is (suffixSums n d tri) fun a c => ∑ s ∈ Ico (s0 + c % 128) (s0 + 128), f (c / 128) (t0 + a) s := by
  refine (Is.suffixSums (G := fun r h a c => f h (t0 + (128 * r + a)) (s0 + c)) hd ht).congr ?_
  intro a _ c _
  show ∑ s ∈ Ico (c % 128) 128, f (c / 128) (t0 + (128 * (a / 128) + a % 128)) (s0 + s) = _
  rw [Nat.div_add_mod, sum_Ico_add (fun s => f (c / 128) (t0 + a) s), Nat.add_comm (c % 128), Nat.add_comm 128]

theorem tile_sums {y : (Rows n 256).Idx → EReal} {f : ℕ → ℕ → ℕ → ℝ} {t0 s0 : ℕ}
    (hy : Is y fun a c => ∑ s ∈ Ico (s0 + c % 128) (s0 + 128), f (c / 128) (t0 + a) s) (r : Fin n) (h : Fin 2) :
    Is (tile y r h r.2 (by omega)) fun a c => ∑ s ∈ Ico (s0 + c) (s0 + 128), f h.val (t0 + (128 * r.val + a)) s := by
  refine (hy.tile r h r.2 (by omega)).congr ?_
  intro a _ c hc
  rw [show (128 * h.val + c) % 128 = c by omega, show (128 * h.val + c) / 128 = h.val by omega]

theorem tile_scores {y : (Rows n 256).Idx → EReal} {f : ℕ → ℕ → ℕ → ℝ} {t0 s0 : ℕ}
    (hy : Is y fun a c => f (c / 128) (t0 + a) (s0 + c % 128)) (r : Fin n) (h : Fin 2) :
    Is (tile y r h r.2 (by omega)) fun a c => f h.val (t0 + (128 * r.val + a)) (s0 + c) := by
  refine (hy.tile r h r.2 (by omega)).congr ?_
  intro a _ c hc
  rw [show (128 * h.val + c) % 128 = c by omega, show (128 * h.val + c) / 128 = h.val by omega]

theorem grid_tiles {d : Fin n → Fin 2 → FVec Ideal Tile .bf16} {f : ℕ → ℕ → ℕ → ℝ} {t0 s0 : ℕ}
    (hd : ∀ r h, Is (d r h) fun a c => f h.val (t0 + (128 * r.val + a)) (s0 + c)) :
    Is (grid2 n d) fun a c => f (c / 128) (t0 + a) (s0 + c % 128) := by
  refine (Is.grid2 (g := fun r h a c => f h (t0 + (128 * r + a)) (s0 + c)) hd).congr ?_
  intro a _ c _
  show f (c / 128) (t0 + (128 * (a / 128) + a % 128)) (s0 + c % 128) = _
  rw [Nat.div_add_mod]

end Blocks

/-- What stays over a chunk, over the reals: queries from row `T` on. -/
structure Holds (X : Fixed Ideal) (Q G : ℕ → ℕ → ℝ) (C : ℕ → ℕ → ℝ) (T : ℕ) : Prop where
  w0 : OnHead X.w0 0
  w1 : OnHead X.w1 1
  q : Is X.q fun a c => Q (T + a) c
  g : Is X.g fun a c => G (T + a) c
  tri : Is X.tri triangles
  etot : ∀ h, Is (X.etot h) fun a _ => C h.val (T + a)

/-- The mask leaves the keys before the query. -/
def Masks (msk : Option (IVec Tile 1)) (n t0 s0 : ℕ) : Prop :=
  ∀ r < n, ∀ (x : FVec Ideal Tile .f32) (f : ℕ → ℕ → ℝ), Is x f → Is (masked msk r x) fun a c => if s0 + c < t0 + (128 * r + a) then f a c else 0

section Piece

variable {X : Fixed Ideal} {Q G K V : ℕ → ℕ → ℝ} {C : ℕ → ℕ → ℝ} {T : ℕ} (HX : Holds X Q G C T)
  {msk : Option (IVec Tile 1)} {n : ℕ} (hn : n ≤ 4) {s0 : ℕ} (hs : s0 + 128 ≤ 4096) (hm : Masks msk n (T + 128 * (4 - n)) s0)
  (hlow : ∀ a, a < 128 * (4 - n) → T + a ≤ s0)
  {k v : FVec Ideal Tile .bf16} (hk : Is k fun a c => K (s0 + a) c) (hv : Is v fun a c => V (s0 + a) c)
  {S : Sums Ideal}
  (hl : ∀ h, Is (S.l h) fun a _ => suffix (dropped (scores Q K)) h.val (T + a) (s0 + 128))
  (he : ∀ h, Is (S.e h) fun a _ => suffix (flow (scores Q K) (scores G V)) h.val (T + a) (s0 + 128))

include HX hk in
theorem zz_is : Is (zz X n hn k) fun a c => scores Q K (c / 128) (T + 128 * (4 - n) + a) (s0 + c % 128) :=
  ((HX.q.from4 n hn).transposedRhs (hk.byHead HX.w0 HX.w1)).congr fun a _ c _ => by simp only [scores, Nat.add_assoc]

include HX hv in
theorem da_is : Is (da X n hn v) fun a c => scores G V (c / 128) (T + 128 * (4 - n) + a) (s0 + c % 128) :=
  ((HX.g.from4 n hn).transposedRhs (hv.byHead HX.w0 HX.w1)).congr fun a _ c _ => by simp only [scores, Nat.add_assoc]

include HX hk in
theorem zt_is (r : Fin n) (h : Fin 2) : Is (zt X n hn k r h) fun a c => scores Q K h.val (T + 128 * (4 - n) + (128 * r.val + a)) (s0 + c) :=
  tile_scores (zz_is HX hn hk) r h

theorem beside4_is {x : FVec Ideal (Rows 4 128) .f32} {f : ℕ → ℝ} (hx : Is x fun a _ => f (T + a)) (r : Fin n) :
    Is (beside4 n hn x r) fun a _ => f (T + 128 * (4 - n) + (128 * r.val + a)) := by
  refine (hx.tile (4 - n + r.val) 0 (by omega) (by omega)).congr fun a _ c _ => congrArg f (by omega)

include HX hk hm in
theorem drops_is (r : Fin n) (h : Fin 2) :
    Is (drops X msk n hn k r h) fun a c => dropped (scores Q K) h.val (T + 128 * (4 - n) + (128 * r.val + a)) (s0 + c) :=
  hm r r.2 _ _ (zt_is HX hn hk r h).drop

include HX hk hm in
theorem csum_is : Is (csum X msk n hn k) fun a c =>
    ∑ s ∈ Ico (s0 + c % 128) (s0 + 128), dropped (scores Q K) (c / 128) (T + 128 * (4 - n) + a) s :=
  block_sums (drops_is HX hn hm hk) HX.tri

include HX hk hm hl hs in
theorem weights_is (r : Fin n) (h : Fin 2) :
    Is (weights X msk n hn k S r h) fun a c => weight (scores Q K) h.val (T + 128 * (4 - n) + (128 * r.val + a)) (s0 + c) := by
  refine (hm r r.2 _ _ (((zt_is HX hn hk r h).sub ((tile_sums (csum_is HX hn hm hk) r h).add (beside4_is (f := fun t => suffix (dropped (scores Q K)) h.val t (s0 + 128)) hn (hl h) r))).exp)).congr ?_
  intro a _ c hc
  unfold weight
  simp only [suffix_cut _ _ _ _ _ (show s0 + c ≤ s0 + 128 by omega) hs]

include HX hk hv hm hl hs in
theorem es_is (r : Fin n) (h : Fin 2) :
    Is (es X msk n hn k v S r h) fun a c => flow (scores Q K) (scores G V) h.val (T + 128 * (4 - n) + (128 * r.val + a)) (s0 + c) :=
  (((weights_is HX hn hs hm hk hl r h).trunc (by decide)).ext (by decide)).mul (tile_scores (da_is HX hn hv) r h)

include HX hk hv hm hl hs in
theorem esum_is : Is (esum X msk n hn k v S) fun a c =>
    ∑ s ∈ Ico (s0 + c % 128) (s0 + 128), flow (scores Q K) (scores G V) (c / 128) (T + 128 * (4 - n) + a) s :=
  block_sums (es_is HX hn hs hm hk hv hl) HX.tri

include HX hk hv hm hl he hs in
theorem dzt_is (r : Fin n) (h : Fin 2) :
    Is (dzt X msk n hn k v S r h) fun a c => slope (scores Q K) (scores G V) C h.val (T + 128 * (4 - n) + (128 * r.val + a)) (s0 + c) := by
  have E := es_is HX hn hs hm hk hv hl r h
  refine (hm r r.2 _ _ (E.sub (((zt_is HX hn hk r h).sub (drops_is HX hn hm hk r h)).exp.mul
    ((beside4_is (f := fun t => C h.val t) hn (HX.etot h) r).sub (((tile_sums (esum_is HX hn hs hm hk hv hl) r h).add (beside4_is (f := fun t => suffix (flow (scores Q K) (scores G V)) h.val t (s0 + 128)) hn (he h) r)).sub E))))).congr ?_
  intro a _ c hc
  unfold slope
  simp only [suffix_cut _ _ _ _ _ (show s0 + c ≤ s0 + 128 by omega) hs]

include HX hk hv hm hl he hs in
theorem dz_is : Is (dz X msk n hn k v S) fun a c => slope (scores Q K) (scores G V) C (c / 128) (T + 128 * (4 - n) + a) (s0 + c % 128) :=
  grid_tiles fun r h => (dzt_is HX hn hs hm hk hv hl he r h).trunc (by decide)

/-- Sums over the piece's rows are sums over the chunk's. -/
theorem rows_sum (f : ℕ → ℝ) (n : ℕ) (hn : n ≤ 4) (T s : ℕ) (hlow : ∀ a, a < 128 * (4 - n) → T + a ≤ s) (hf : ∀ t, t ≤ s → f t = 0) :
    ∑ a ∈ range (128 * n), f (T + 128 * (4 - n) + a) = ∑ t ∈ Ico T (T + 512), f t := by
  rw [sum_Ico_eq_sum_range, show T + 512 - T = 128 * (4 - n) + 128 * n by omega, sum_range_add,
    sum_eq_zero (s := range (128 * (4 - n))) fun a ha => hf _ (hlow a (mem_range.1 ha)), zero_add]
  exact sum_congr rfl fun a _ => by rw [Nat.add_assoc]

include HX hk hv hm hl he hs hlow in
theorem dkAdd_is : Is (dkAdd X msk n hn k v S) fun a c =>
    ∑ t ∈ Ico T (T + 512), slope (scores Q K) (scores G V) C (c / 64) t (s0 + a) * Q t c := by
  refine (((dz_is HX hn hs hm hk hv hl he).transposedLhs (HX.q.from4 n hn)).pick HX.w0).congr ?_
  intro a ha c hc
  rw [← rows_sum (fun t => slope (scores Q K) (scores G V) C (c / 64) t (s0 + a) * Q t c) n hn T (s0 + a)
    (fun b hb => le_trans (hlow b hb) (by omega)) (fun t ht => by rw [slope_past _ _ _ _ _ _ ht, zero_mul])]
  refine sum_congr rfl fun b _ => ?_
  rw [show (128 * (c / 64) + a) / 128 = c / 64 by omega, show (128 * (c / 64) + a) % 128 = a by omega, Nat.add_assoc T]

include HX hk hm hl hs hlow in
theorem dvAdd_is : Is (dvAdd X msk n hn k S) fun a c =>
    ∑ t ∈ Ico T (T + 512), weight (scores Q K) (c / 64) t (s0 + a) * G t c := by
  have hab : Is (grid2 n (ab X msk n hn k S)) fun a c => weight (scores Q K) (c / 128) (T + 128 * (4 - n) + a) (s0 + c % 128) :=
    grid_tiles fun r h => (weights_is HX hn hs hm hk hl r h).trunc (by decide)
  refine ((hab.transposedLhs (HX.g.from4 n hn)).pick HX.w0).congr ?_
  intro a ha c hc
  rw [← rows_sum (fun t => weight (scores Q K) (c / 64) t (s0 + a) * G t c) n hn T (s0 + a)
    (fun b hb => le_trans (hlow b hb) (by omega)) (fun t ht => by rw [weight_past _ _ _ _ ht, zero_mul])]
  refine sum_congr rfl fun b _ => ?_
  rw [show (128 * (c / 64) + a) / 128 = c / 64 by omega, show (128 * (c / 64) + a) % 128 = a by omega, Nat.add_assoc T]

/-- A running sum after the piece. -/
theorem run_step {f : ℕ → ℕ → ℕ → ℝ} (hf : ∀ h t s, t ≤ s → f h t s = 0) (hn : n ≤ 4) (hs : s0 + 128 ≤ 4096)
    (hlow : ∀ a, a < 128 * (4 - n) → T + a ≤ s0) {x : FVec Ideal (Rows 4 128) .f32} (h : Fin 2)
    (hx : Is x fun a _ => suffix f h.val (T + a) (s0 + 128)) {y : FVec Ideal (Rows n 256) .f32}
    (hy : Is y fun a c => ∑ s ∈ Ico (s0 + c % 128) (s0 + 128), f (c / 128) (T + 128 * (4 - n) + a) s) :
    Is (addRows n hn x (rowTotals n y h)) fun a _ => suffix f h.val (T + a) s0 := by
  refine (hx.addRows n hn (hy.rowTotals h)).congr ?_
  intro a ha c hc
  show _ + (if 128 * (4 - n) ≤ a then ∑ s ∈ Ico (s0 + 128 * h.val % 128) (s0 + 128), f (128 * h.val / 128) (T + 128 * (4 - n) + (a - 128 * (4 - n))) s else 0) = _
  rw [show 128 * h.val % 128 = 0 by omega, show 128 * h.val / 128 = h.val by omega]
  split
  · next ha' =>
    rw [show T + 128 * (4 - n) + (a - 128 * (4 - n)) = T + a by omega, Nat.add_zero, add_comm]
    exact suffix_cut f h.val (T + a) s0 (s0 + 128) (by omega) hs
  · next ha' =>
    have := hlow a (by omega)
    rw [suffix_past f hf _ _ _ (by omega), suffix_past f hf _ _ _ this, add_zero]

include HX hk hm hs hlow hl in
theorem piece_l (h : Fin 2) : Is ((piece X msk n hn k v S).l h) fun a _ => suffix (dropped (scores Q K)) h.val (T + a) s0 :=
  run_step (dropped_past _) hn hs hlow h (hl h) (csum_is HX hn hm hk)

include HX hk hv hm hs hlow hl he in
theorem piece_e (h : Fin 2) : Is ((piece X msk n hn k v S).e h) fun a _ => suffix (flow (scores Q K) (scores G V)) h.val (T + a) s0 :=
  run_step (flow_past _ _) hn hs hlow h (he h) (esum_is HX hn hs hm hk hv hl)

/-- A row of score gradients against the stacked keys. -/
theorem heads_sum (f : ℕ → ℕ → ℝ) (K : ℕ → ℕ → ℝ) (c : ℕ) (hc : c < 128) :
    ∑ γ ∈ range 256, f (γ / 128) (s0 + γ % 128) * (if c / 64 = γ / 128 then K (s0 + γ % 128) c else 0)
      = ∑ s ∈ Ico s0 (s0 + 128), f (c / 64) s * K s c := by
  rw [sum_Ico_eq_sum_range, show s0 + 128 - s0 = 128 by omega, show (256 : ℕ) = 128 + 128 from rfl, sum_range_add]
  have half : ∀ b, ∑ k ∈ range 128, f ((128 * b + k) / 128) (s0 + (128 * b + k) % 128) * (if c / 64 = (128 * b + k) / 128 then K (s0 + (128 * b + k) % 128) c else 0)
      = if c / 64 = b then ∑ k ∈ range 128, f (c / 64) (s0 + k) * K (s0 + k) c else 0 := by
    intro b
    split
    · next e =>
      refine sum_congr rfl fun k hk => ?_
      have := mem_range.1 hk
      rw [show (128 * b + k) / 128 = b by omega, show (128 * b + k) % 128 = k by omega, if_pos e, e]
    · next e =>
      refine sum_eq_zero fun k hk => ?_
      have := mem_range.1 hk
      rw [show (128 * b + k) / 128 = b by omega, if_neg e, mul_zero]
  have h0 := half 0
  have h1 := half 1
  simp only [Nat.mul_zero, Nat.zero_add, Nat.mul_one] at h0 h1
  rw [h0, h1]
  rcases (by omega : c / 64 = 0 ∨ c / 64 = 1) with e | e <;> simp [e]

include HX hk hv hm hs hlow hl he in
theorem piece_dq {f : ℕ → ℕ → ℝ} (hf : Is S.dq f) : Is (piece X msk n hn k v S).dq fun a c =>
    f a c + ∑ s ∈ Ico s0 (s0 + 128), slope (scores Q K) (scores G V) C (c / 64) (T + a) s * K s c := by
  refine (hf.addRows n hn ((dz_is HX hn hs hm hk hv hl he).plain (hk.byHead HX.w0 HX.w1))).congr ?_
  intro a ha c hc
  refine congrArg (f a c + ·) ?_
  rw [← heads_sum (fun h s => slope (scores Q K) (scores G V) C h (T + a) s) K c hc]
  split
  · next h => exact sum_congr rfl fun γ _ => by rw [show T + 128 * (4 - n) + (a - 128 * (4 - n)) = T + a by omega]
  · next h =>
    have := hlow a (by omega)
    exact (sum_eq_zero fun γ _ => by rw [slope_past _ _ _ _ _ _ (by omega), zero_mul]).symm

end Piece

end Cert.SbModel
-- ==== Proof.Sb.Forward.lean ====
module

public import proofs.«01_k».proof.Proof.Sb.Piece
public import Idealize.ShloMosaic.Lib.IdealHost
public import Idealize.ShloMosaic.Lib.Pointwise

@[expose] public section

set_option maxRecDepth 16384

noncomputable section

/-! The host's lines of stick breaking over the reals: the scores of eight heads, the running sums along the keys, and the lines between
them, element by element. -/

namespace Cert.SbModel

open Idealize.ShloMosaic hiding ix2 ix3 ix4 eq_ix2
open Idealize.ShloMosaic.ValueIdx Finset

/-- Eight heads of a two-axis array. -/
abbrev Heads (n m : ℕ) : Shape := ⟨4, ![1, 8, n, m]⟩

/-- An array of eight heads that reads a family of reals. -/
def Four {n m : ℕ} (v : (Heads n m).Idx → EReal) (f : ℕ → ℕ → ℕ → ℝ) : Prop :=
  ∀ (H : Fin 8) (a : Fin n) (c : Fin m), v (ix4 0 H a c) = ((f H.val a.val c.val : ℝ) : EReal)

section Window

/-- A left fold of sums is a sum. -/
theorem foldl_sum {ι : Type} (g : ι → EReal) (l : List ι) (v : EReal) : l.foldl (fun r n => r + g n) v = v + (l.map g).sum := by
  induction l generalizing v with
  | nil => simp
  | cons a l ih => rw [List.foldl_cons, ih, List.map_cons, List.sum_cons, add_assoc]

/-- The window's positions. -/
def along (K : ℕ) : (⟨4, ![1, 1, 1, K]⟩ : Shape).Idx ≃ Fin K where
  toFun i := i 3
  invFun k := ix4 0 0 0 k
  left_inv i := by
    funext a
    fin_cases a
    · exact Subsingleton.elim (α := Fin 1) _ _
    · exact Subsingleton.elim (α := Fin 1) _ _
    · exact Subsingleton.elim (α := Fin 1) _ _
    · rfl
  right_inv _ := rfl

variable {n K : ℕ} {lo hi : Fin 4 → ℕ} {x : (Heads n K).Idx → EReal} {f : ℕ → ℕ → ℕ → ℝ}

/-- A running sum along the last axis, as the sum over the window's positions. -/
theorem window_apply {u : Shape} (init : u.Idx → EReal) (h : (Heads n K).ReduceWindows ![1, 1, 1, K] ![1, 1, 1, 1] lo hi (Heads n K)) (hu : 0 < u.numel)
    (h0 : init (Shape.Idx.first hu) = 0) (H : Fin 8) (a : Fin n) (c : Fin K) (g : Fin K → EReal)
    (hg : ∀ w : (⟨4, ![1, 1, 1, K]⟩ : Shape).Idx, ∀ hin : (∀ b : Fin 4, lo b ≤ ((ix4 0 H a c : (Heads n K).Idx) b).val * (![1, 1, 1, 1] : Fin 4 → ℕ) b + (w b).val
          ∧ ((ix4 0 H a c : (Heads n K).Idx) b).val * (![1, 1, 1, 1] : Fin 4 → ℕ) b + (w b).val - lo b < (Heads n K).size b),
        x (fun b => ⟨((ix4 0 H a c : (Heads n K).Idx) b).val * (![1, 1, 1, 1] : Fin 4 → ℕ) b + (w b).val - lo b, (hin b).2⟩) = g (w 3))
    (hz : ∀ w : (⟨4, ![1, 1, 1, K]⟩ : Shape).Idx, ¬ (∀ b : Fin 4, lo b ≤ ((ix4 0 H a c : (Heads n K).Idx) b).val * (![1, 1, 1, 1] : Fin 4 → ℕ) b + (w b).val
          ∧ ((ix4 0 H a c : (Heads n K).Idx) b).val * (![1, 1, 1, 1] : Fin 4 → ℕ) b + (w b).val - lo b < (Heads n K).size b) → g (w 3) = 0) :
    Host.reduceWindowAdd (F := Ideal) (φ := .f32) ![1, 1, 1, K] ![1, 1, 1, 1] lo hi x init h hu (ix4 0 H a c) = ∑ k, g k := by
  unfold Host.reduceWindowAdd
  rw [Ideal.hostReduceWindowAdd_def]
  unfold Ideal.hostReduceWindowAdd Host.reduceWindow
  dsimp only
  rw [foldl_sum, h0, zero_add, ← Fin.sum_univ_def,
    Fintype.sum_equiv ((⟨4, ![1, 1, 1, K]⟩ : Shape).rowMajor.symm.trans (along K)) _ g]
  intro q
  split
  · rename_i hin
    exact hg _ hin
  · rename_i hin
    exact (hz _ hin).symm

/-- The sums over the keys from each key on. -/
theorem Four.suffixSum (hx : Four x f) {u : Shape} {hi : Fin 4 → ℕ} (init : u.Idx → EReal) (h : (Heads n K).ReduceWindows ![1, 1, 1, K] ![1, 1, 1, 1] ![0, 0, 0, 0] hi (Heads n K)) (hu : 0 < u.numel)
    (h0 : init (Shape.Idx.first hu) = 0) :
    Four (Host.reduceWindowAdd (F := Ideal) (φ := .f32) (s := Heads n K) (t := Heads n K) ![1, 1, 1, K] ![1, 1, 1, 1] ![0, 0, 0, 0] hi x init h hu)
      fun H a s => ∑ s' ∈ Ico s K, f H a s' := fun H a c => by
  rw [window_apply init h hu h0 H a c fun k => (((if c.val + k.val < K then f H a (c.val + k.val) else 0 : ℝ)) : EReal)]
  · rw [← coe_sum K fun k => if c.val + k < K then f H a (c.val + k) else 0]
    refine congrArg _ ?_
    show _ = ∑ s' ∈ Ico c.val K, f H.val a.val s'
    rw [sum_Ico_eq_sum_range, ← sum_filter]
    refine sum_congr ?_ fun _ _ => rfl
    ext k
    simp only [mem_filter, mem_range]
    omega
  · intro w hin
    have w0 : (w 0).val = 0 := Nat.lt_one_iff.1 (w 0).isLt
    have w1 : (w 1).val = 0 := Nat.lt_one_iff.1 (w 1).isLt
    have w2 : (w 2).val = 0 := Nat.lt_one_iff.1 (w 2).isLt
    have hk : c.val + (w 3).val < K := by have := (hin 3).2; simpa [ix4] using this
    rw [if_pos hk]
    exact (congrArg x (by funext b; fin_cases b <;> apply Fin.ext <;> simp [ix4, w0, w1, w2])).trans (hx H a ⟨c.val + (w 3).val, hk⟩)
  · intro w hin
    have w0 : (w 0).val = 0 := Nat.lt_one_iff.1 (w 0).isLt
    have w1 : (w 1).val = 0 := Nat.lt_one_iff.1 (w 1).isLt
    have w2 : (w 2).val = 0 := Nat.lt_one_iff.1 (w 2).isLt
    rw [if_neg]
    · rfl
    · intro hk
      refine hin fun b => ?_
      fin_cases b <;> simp [ix4, w0, w1, w2]
      omega

/-- The sums over the keys up to each key. -/
theorem Four.prefixSum {L : ℕ} (hL : L + 1 = K) (hx : Four x f) {u : Shape} {hi : Fin 4 → ℕ} (init : u.Idx → EReal) (h : (Heads n K).ReduceWindows ![1, 1, 1, K] ![1, 1, 1, 1] ![0, 0, 0, L] hi (Heads n K)) (hu : 0 < u.numel)
    (h0 : init (Shape.Idx.first hu) = 0) :
    Four (Host.reduceWindowAdd (F := Ideal) (φ := .f32) (s := Heads n K) (t := Heads n K) ![1, 1, 1, K] ![1, 1, 1, 1] ![0, 0, 0, L] hi x init h hu)
      fun H a s => ∑ s' ∈ range (s + 1), f H a s' := fun H a c => by
  rw [window_apply init h hu h0 H a c fun k => (((if L ≤ c.val + k.val then f H a (c.val + k.val - L) else 0 : ℝ)) : EReal)]
  · rw [← coe_sum K fun k => if L ≤ c.val + k then f H a (c.val + k - L) else 0]
    refine congrArg _ ?_
    rw [← sum_filter]
    have hc := c.isLt
    refine sum_bij (fun k _ => c.val + k - L) ?_ ?_ ?_ ?_
    · intro k hk; simp only [mem_filter, mem_range] at hk ⊢; omega
    · intro k hk k' hk' e; simp only [mem_filter, mem_range] at hk hk' e; omega
    · intro s hs; simp only [mem_range] at hs
      exact ⟨s + L - c.val, by simp only [mem_filter, mem_range]; omega, by omega⟩
    · intro k _; rfl
  · intro w hin
    have w0 : (w 0).val = 0 := Nat.lt_one_iff.1 (w 0).isLt
    have w1 : (w 1).val = 0 := Nat.lt_one_iff.1 (w 1).isLt
    have w2 : (w 2).val = 0 := Nat.lt_one_iff.1 (w 2).isLt
    have hc := c.isLt
    have hk' : (w 3).val < K := (w 3).isLt
    have hk : L ≤ c.val + (w 3).val := by have := (hin 3).1; simpa [ix4] using this
    rw [if_pos hk]
    exact (congrArg x (by funext b; fin_cases b <;> apply Fin.ext <;> simp [ix4, w0, w1, w2])).trans (hx H a ⟨c.val + (w 3).val - L, by omega⟩)
  · intro w hin
    have w0 : (w 0).val = 0 := Nat.lt_one_iff.1 (w 0).isLt
    have w1 : (w 1).val = 0 := Nat.lt_one_iff.1 (w 1).isLt
    have w2 : (w 2).val = 0 := Nat.lt_one_iff.1 (w 2).isLt
    have hc := c.isLt
    have hk' : (w 3).val < K := (w 3).isLt
    rw [if_neg]
    · rfl
    · intro hk
      refine hin fun b => ?_
      fin_cases b <;> simp [ix4, w0, w1, w2]
      omega

end Window

section Lines

variable {s : Shape} {x y z0 a b : s.Idx → EReal} {i : s.Idx} {r p : ℝ}

theorem neg_at (hx : x i = (r : EReal)) : (Host.negf (F := Ideal) (φ := .f32) x) i = ((-r : ℝ) : EReal) := by
  show -(x i) = _
  rw [hx, ← EReal.coe_neg]

/-- The host's `log (1 + exp x)`. -/
theorem softplus_at (hx : x i = (r : EReal)) (h0 : z0 i = 0) :
    (select (cmpf (F := Ideal) (φ := .f32) .une (subf (F := Ideal) (φ := .f32) x z0) (subf (F := Ideal) (φ := .f32) x z0)) (addf (F := Ideal) (φ := .f32) x z0)
      (addf (F := Ideal) (φ := .f32) (maximumf (F := Ideal) (φ := .f32) x z0)
        (Host.log1p (F := Ideal) (φ := .f32) (Host.exp (F := Ideal) (φ := .f32) (Host.negf (F := Ideal) (φ := .f32) (Host.absf (F := Ideal) (φ := .f32) (subf (F := Ideal) (φ := .f32) x z0))))))) i
      = ((Real.log (1 + Real.exp r) : ℝ) : EReal) := by
  have hc : (cmpf (F := Ideal) (φ := .f32) .une (subf (F := Ideal) (φ := .f32) x z0) (subf (F := Ideal) (φ := .f32) x z0)) i = 0#1 := by
    show BitVec.ofBool (decide (x i - z0 i ≠ x i - z0 i)) = _
    simp
  unfold select
  rw [hc]
  show max (x i) (z0 i) + Ideal.log (1 + Ideal.exp (-(max (x i - z0 i) (-(x i - z0 i))))) = _
  have e0 : (0 : EReal) = ((0 : ℝ) : EReal) := rfl
  have e1 : (1 : EReal) = ((1 : ℝ) : EReal) := rfl
  rw [hx, h0, sub_zero, ← EReal.coe_neg, coe_max, ← EReal.coe_neg, e0, coe_max]
  show _ + Ideal.log (1 + ((Real.exp _ : ℝ) : EReal)) = _
  rw [e1, ← EReal.coe_add, coe_log (by positivity), ← EReal.coe_add, ← softplus_eq r, zero_sub]

/-- The derivative of `log (1 + exp x)` as the host takes it. -/
theorem sigmoid_at {inf : s.Idx → EReal} (hx : x i = (r : EReal)) (hy : y i = (p : EReal)) (hi : inf i = ⊤) :
    (Host.exp (F := Ideal) (φ := .f32) (subf (F := Ideal) (φ := .f32) (select (cmpf (F := Ideal) (φ := .f32) .oeq x inf) a x) (select (cmpf (F := Ideal) (φ := .f32) .oeq y inf) b y))) i
      = ((Real.exp (r - p) : ℝ) : EReal) := by
  have h1 : ∀ (w : s.Idx → EReal) (q : ℝ), w i = (q : EReal) → (cmpf (F := Ideal) (φ := .f32) .oeq w inf) i = 0#1 := fun w q hw => by
    show BitVec.ofBool (decide (w i = inf i)) = _
    rw [hw, hi, decide_eq_false (EReal.coe_ne_top q)]; rfl
  show Ideal.exp ((select _ a x) i - (select _ b y) i) = _
  unfold select
  rw [h1 x r hx, h1 y p hy]
  show Ideal.exp (x i - y i) = _
  rw [hx, hy, ← EReal.coe_sub]; rfl

/-- The exponential of a line's sum. -/
theorem exp_at {u v w : s.Idx → EReal} {ru rv rw : ℝ} (hu : u i = (ru : EReal)) (hv : v i = (rv : EReal)) (hw : w i = (rw : EReal)) :
    (Host.exp (F := Ideal) (φ := .f32) (addf (F := Ideal) (φ := .f32) u (subf (F := Ideal) (φ := .f32) v w))) i = ((Real.exp (ru + (rv - rw)) : ℝ) : EReal) := by
  show Ideal.exp (u i + (v i - w i)) = _
  rw [hu, hv, hw, ← EReal.coe_sub, ← EReal.coe_add]; rfl

theorem exp_sum_at {u v : s.Idx → EReal} {ru rv : ℝ} (hu : u i = (ru : EReal)) (hv : v i = (rv : EReal)) :
    (Host.exp (F := Ideal) (φ := .f32) (addf (F := Ideal) (φ := .f32) u v)) i = ((Real.exp (ru + rv) : ℝ) : EReal) := by
  show Ideal.exp (u i + v i) = _
  rw [hu, hv, ← EReal.coe_add]; rfl

/-- The two lines of the scores' gradient, with the scale. -/
theorem slope_at {f d3 d0 P z k : s.Idx → EReal} {w : s.Idx → BitVec 1} {c : Prop} [Decidable c] {rf r3 r0 rP rk : ℝ} (hf : f i = (rf : EReal)) (h3 : d3 i = (r3 : EReal))
    (h0 : d0 i = (r0 : EReal)) (hP : P i = (rP : EReal)) (hw : w i = if c then 1#1 else 0#1) (hz : z i = 0) (hk : k i = (rk : EReal)) :
    (mulf (F := Ideal) (φ := .f32) (addf (F := Ideal) (φ := .f32) (Host.negf (F := Ideal) (φ := .f32) (mulf (F := Ideal) (φ := .f32) (Host.negf (F := Ideal) (φ := .f32) f) d3))
      (Host.negf (F := Ideal) (φ := .f32) (Host.negf (F := Ideal) (φ := .f32) (mulf (F := Ideal) (φ := .f32)
        (Host.negf (F := Ideal) (φ := .f32) (select w (addf (F := Ideal) (φ := .f32) (Host.negf (F := Ideal) (φ := .f32) f) P) z)) d0)))) k) i
      = (((-(-rf * r3) + -(-(-(if c then -rf + rP else 0) * r0))) * rk : ℝ) : EReal) := by
  have hs : (select w (addf (F := Ideal) (φ := .f32) (Host.negf (F := Ideal) (φ := .f32) f) P) z) i = (((if c then -rf + rP else 0) : ℝ) : EReal) := by
    unfold select
    rw [hw]
    by_cases h : c
    · rw [if_pos h, if_pos h]
      show -(f i) + P i = _
      rw [hf, hP, ← EReal.coe_neg, ← EReal.coe_add]
    · rw [if_neg h, if_neg h]
      exact hz.trans EReal.coe_zero.symm
  show (-(-(f i) * d3 i) + -(-(-((select w (addf (F := Ideal) (φ := .f32) (Host.negf (F := Ideal) (φ := .f32) f) P) z) i) * d0 i))) * k i = _
  rw [hs, hf, h3, h0, hk]
  simp only [← EReal.coe_neg, ← EReal.coe_mul, ← EReal.coe_add]

end Lines

section Heads

/-- A pair's lanes under one head are that head's lanes. -/
theorem head_lanes (A B : ℕ → ℝ) (h : ℕ) (hh : h < 2) :
    ∑ c ∈ range 128, A c * (if c / 64 = h then B c else 0) = ∑ d ∈ range 64, A (64 * h + d) * B (64 * h + d) := by
  simp only [mul_ite, mul_zero]
  rw [← sum_filter]
  symm
  refine sum_bij (fun d _ => 64 * h + d) ?_ ?_ ?_ ?_
  · intro d hd; simp only [mem_filter, mem_range] at hd ⊢; omega
  · intro d _ d' _ e; omega
  · intro c hc; simp only [mem_filter, mem_range] at hc
    exact ⟨c - 64 * h, by simp only [mem_range]; omega, by omega⟩
  · intro d _; rfl

/-- One head's scores from a pair's. -/
theorem scores_head (Q K : ℕ → ℕ → ℝ) (h t s : ℕ) (hh : h < 2) :
    scores Q K h t s = ∑ d ∈ range 64, Q t (64 * h + d) * K s (64 * h + d) := head_lanes (Q t) (K s) h hh

end Heads

section Slopes

variable (Z U : ℕ → ℕ → ℕ → ℝ) (h t s : ℕ)

theorem sum_split (f : ℕ → ℝ) (hs : s < 4096) : ∑ s' ∈ Ico 0 4096, f s' - ((∑ s' ∈ Ico s 4096, f s') - f s) = ∑ s' ∈ range (s + 1), f s' := by
  rw [← sum_Ico_consecutive f (Nat.zero_le s) hs.le, Nat.Ico_zero_eq_range, sum_range_succ]
  ring

/-- The scores' gradient as the two lines of `log (1 + exp x)` give it. -/
theorem slope_lines (C : ℕ → ℕ → ℝ) (hC : C h t = suffix (flow Z U) h t 0) (hs : s < 4096) (hst : s < t) :
    slope Z U C h t s = -(-(flow Z U h t s) * Real.exp (-Z h t s - Real.log (1 + Real.exp (-Z h t s))))
      + -(-(-(-(flow Z U h t s) + ∑ s' ∈ range (s + 1), flow Z U h t s') * Real.exp (Z h t s - Real.log (1 + Real.exp (Z h t s))))) := by
  have hp : (0 : ℝ) < 1 + Real.exp (Z h t s) := by positivity
  have hn : (0 : ℝ) < 1 + Real.exp (-Z h t s) := by positivity
  have e : Real.exp (-Z h t s - Real.log (1 + Real.exp (-Z h t s))) = 1 - Real.exp (Z h t s - Real.log (1 + Real.exp (Z h t s))) := by
    rw [Real.exp_sub, Real.exp_log hn, Real.exp_sub, Real.exp_log hp, Real.exp_neg]
    have : Real.exp (Z h t s) ≠ 0 := (Real.exp_pos _).ne'
    field_simp
    ring
  rw [e]
  unfold slope
  rw [if_pos hst, hC]
  unfold suffix
  rw [sum_split s (fun s' => flow Z U h t s') hs]
  unfold dropped
  rw [if_pos hst]
  ring

end Slopes

end Cert.SbModel

end
-- ==== Proof.Sb.Chunk.lean ====
module

public import proofs.«01_k».proof.Proof.Sb.Piece

@[expose] public section

noncomputable section

/-! A chunk of queries over the reals: what its sums are after the key blocks from block `b` on. -/

namespace Cert.SbModel

open Idealize.ShloMosaic Idealize.ShloMosaic.ValueIdx Finset

section Layout

variable {D : FVec Ideal Keys .f32} {f g : ℕ → ℕ → ℝ}

theorem Is.rowsAt {α : Keys.Idx → EReal} (h : Is α f) (b : ℕ) (hb : b < 32) : Is (rowsAt α b hb) fun a c => f (128 * b + a) c :=
  fun _ _ => h _ _

theorem Is.addBlock (hD : Is D f) (b : ℕ) (hb : b < 32) {x : FVec Ideal Tile .f32} (hx : Is x g) :
    Is (addBlock D b hb x) fun j c => f j c + if 128 * b ≤ j ∧ j < 128 * b + 128 then g (j - 128 * b) c else 0 := fun j c => by
  unfold SbModel.addBlock putRows
  by_cases h : 128 * b ≤ j.val ∧ j.val < 128 * b + 128
  · rw [dif_pos (show 128 * b ≤ ((ix2 j c : Keys.Idx) 0).val ∧ ((ix2 j c : Keys.Idx) 0).val < 128 * b + 128 from h)]
    refine ((hD.rowsAt b hb).add hx ⟨j.val - 128 * b, by omega⟩ c).trans (congrArg _ ?_)
    show f (128 * b + (j.val - 128 * b)) c.val + _ = _
    simp only []
    rw [Nat.add_sub_cancel' h.1, if_pos h]
  · rw [dif_neg (show ¬ (128 * b ≤ ((ix2 j c : Keys.Idx) 0).val ∧ ((ix2 j c : Keys.Idx) 0).val < 128 * b + 128) from h)]
    refine (hD j c).trans (congrArg _ ?_)
    show _ = _ + if 128 * b ≤ j.val ∧ j.val < 128 * b + 128 then _ else _
    rw [if_neg h, add_zero]

end Layout

/-- A weighted sum over the queries before the chunk, and over the chunk's where a key's block is done. -/
def keySum (w : ℕ → ℕ → ℕ → ℝ) (Q : ℕ → ℕ → ℝ) (i b j c : ℕ) : ℝ :=
  ∑ t ∈ range (512 * i), w (c / 64) t j * Q t c + if 128 * b ≤ j then ∑ t ∈ Ico (512 * i) (512 * i + 512), w (c / 64) t j * Q t c else 0

theorem keySum_step (w : ℕ → ℕ → ℕ → ℝ) (Q : ℕ → ℕ → ℝ) (i b j c : ℕ) :
    (keySum w Q i (b + 1) j c + if 128 * b ≤ j ∧ j < 128 * b + 128 then
      ∑ t ∈ Ico (512 * i) (512 * i + 512), w (c / 64) t (128 * b + (j - 128 * b)) * Q t c else 0) = keySum w Q i b j c := by
  unfold keySum
  by_cases h : 128 * b ≤ j
  · rw [Nat.add_sub_cancel' h]
    by_cases h' : j < 128 * b + 128
    · rw [if_neg (by omega), if_pos ⟨h, h'⟩, if_pos h, add_zero]
    · rw [if_pos (by omega), if_neg (by omega), if_pos h, add_zero]
  · rw [if_neg (by omega), if_neg (by omega), if_neg h, add_zero]

theorem keySum_past (w : ℕ → ℕ → ℕ → ℝ) (hw : ∀ h t s, t ≤ s → w h t s = 0) (Q : ℕ → ℕ → ℝ) (i b j c : ℕ) (hb : 4 * i + 4 ≤ b) :
    keySum w Q i b j c = ∑ t ∈ range (512 * i), w (c / 64) t j * Q t c := by
  unfold keySum
  split
  · next h =>
    rw [sum_eq_zero (s := Ico (512 * i) (512 * i + 512)) fun t ht => ?_, add_zero]
    have := (mem_Ico.1 ht).2
    rw [hw _ _ _ (by omega), zero_mul]
  · rw [add_zero]

theorem keySum_zero (w : ℕ → ℕ → ℕ → ℝ) (Q : ℕ → ℕ → ℝ) (i j c : ℕ) :
    keySum w Q i 0 j c = ∑ t ∈ range (512 * (i + 1)), w (c / 64) t j * Q t c := by
  unfold keySum
  rw [if_pos (Nat.zero_le _), range_eq_Ico, sum_Ico_consecutive _ (by omega) (by omega), range_eq_Ico]
  rfl

section Chunk

variable (Q G K V : ℕ → ℕ → ℝ) (C : ℕ → ℕ → ℝ)

/-- The scores' gradients. -/
abbrev slopes : ℕ → ℕ → ℕ → ℝ := slope (scores Q K) (scores G V) C

/-- Chunk `i` after the key blocks from `b` on, with the query gradient's sum up to block `b0`. -/
structure Inv (i b0 b : ℕ) (A : Acc Ideal) : Prop where
  l : ∀ h, Is (A.S.l h) fun a _ => suffix (dropped (scores Q K)) h.val (512 * i + a) (128 * b)
  e : ∀ h, Is (A.S.e h) fun a _ => suffix (flow (scores Q K) (scores G V)) h.val (512 * i + a) (128 * b)
  dq : Is A.S.dq fun a c => ∑ s ∈ Ico (128 * b) (128 * b0), slopes Q G K V C (c / 64) (512 * i + a) s * K s c
  dk : Is A.dk fun j c => keySum (slopes Q G K V C) Q i b j c
  dv : Is A.dv fun j c => keySum (weight (scores Q K)) G i b j c

variable {Q G K V C} {X : Fixed Ideal} {i b0 b : ℕ} {A : Acc Ideal}

theorem Inv.step (HX : Holds X Q G C (512 * i)) {msk : Option (IVec Tile 1)} {n : ℕ} (hn : n ≤ 4) (hb : b < 32) (hb0 : b + 1 ≤ b0)
    (hm : Masks msk n (512 * i + 128 * (4 - n)) (128 * b)) (hlow : ∀ a, a < 128 * (4 - n) → 512 * i + a ≤ 128 * b)
    {K' V' : FVec Ideal Keys .bf16} (hK : Is K' K) (hV : Is V' V) (I : Inv Q G K V C i b0 (b + 1) A) :
    Inv Q G K V C i b0 b (work X K' V' msk n hn b hb A) := by
  have hs : 128 * b + 128 ≤ 4096 := by omega
  have hk := hK.rowsAt b hb
  have hv := hV.rowsAt b hb
  have e1 : 128 * (b + 1) = 128 * b + 128 := Nat.mul_succ 128 b
  have hl := I.l
  have he := I.e
  rw [e1] at hl he
  refine ⟨piece_l HX hn hs hm hlow hk hl, piece_e HX hn hs hm hlow hk hv hl he, ?_, ?_, ?_⟩
  · refine (piece_dq HX hn hs hm hlow hk hv hl he I.dq).congr fun a _ c _ => ?_
    rw [add_comm, e1]
    exact sum_Ico_consecutive _ (by omega) (by omega)
  · exact (I.dk.addBlock b hb (dkAdd_is HX hn hs hm hlow hk hv hl he)).congr fun j _ c _ => keySum_step _ _ _ _ _ _
  · exact (I.dv.addBlock b hb (dvAdd_is HX hn hs hm hlow hk hl)).congr fun j _ c _ => keySum_step _ _ _ _ _ _

theorem Inv.start (I : Inv Q G K V C i b0 b A) : Inv Q G K V C i b b A.start :=
  ⟨I.l, I.e, Is.zeros.congr fun a _ c _ => by rw [Ico_self, sum_empty], I.dk, I.dv⟩

theorem Inv.finish {b1 : ℕ} (I : Inv Q G K V C i b0 b A) (hb : b ≤ b0) (hb1 : b0 ≤ b1) {dq : FVec Ideal (Rows 4 128) .f32}
    (hdq : Is dq fun a c => ∑ s ∈ Ico (128 * b0) (128 * b1), slopes Q G K V C (c / 64) (512 * i + a) s * K s c) :
    Inv Q G K V C i b1 b (A.finish dq) :=
  ⟨I.l, I.e, (hdq.add I.dq).congr fun a _ c _ => by rw [add_comm]; exact sum_Ico_consecutive _ (by omega) (by omega), I.dk, I.dv⟩

theorem masks_none {t0 s0 : ℕ} (h : s0 + 128 ≤ t0) (n : ℕ) : Masks none n t0 s0 := fun r _ x f hx => by
  refine hx.congr fun a _ c hc => ?_
  rw [if_pos (by omega)]

/-- The strict mask of a square tile. -/
def Strict (w : IVec Tile 1) : Prop := ∀ a c : Fin 128, w (ix2 a c) = if c.val < a.val then 1#1 else 0#1

theorem masks_some {w : IVec Tile 1} (hw : Strict w) (n t0 : ℕ) : Masks (some w) n t0 t0 := fun r hr x f hx => by
  match r with
  | 0 =>
    intro a c
    show (if w (ix2 a c) = 1#1 then x (ix2 a c) else zeros (F := Ideal) Tile (ix2 a c)) = _
    rw [hw a c]
    by_cases h : c.val < a.val
    · simp only [h, ↓reduceIte]
      rw [if_pos (by omega)]; exact hx a c
    · simp only [h, ↓reduceIte]
      rw [if_neg (by decide), if_neg (by omega)]; exact Is.zeros a c
  | r + 1 =>
    refine hx.congr fun a _ c hc => ?_
    rw [if_pos (by omega)]

theorem Inv.turn (HX : Holds X Q G C (512 * i)) {K' V' : FVec Ideal Keys .bf16} (hK : Is K' K) (hV : Is V' V) (a : Fin 16) (ha : a.val < 2 * i)
    (I : Inv Q G K V C i 32 (2 * a.val + 2) A) : Inv Q G K V C i 32 (2 * a.val) (turn X K' V' a A) := by
  have hlow : ∀ s x, x < 128 * (4 - 4) → 512 * i + x ≤ s := fun s x hx => absurd hx (by omega)
  have I1 := (I.start.step HX (Nat.le_refl 4) (b := 2 * a.val + 1) (by omega) (by omega) (masks_none (by omega) 4) (hlow _) hK hV)
  have I2 := I1.step HX (Nat.le_refl 4) (b := 2 * a.val) (by omega) (by omega) (masks_none (by omega) 4) (hlow _) hK hV
  exact I2.finish (by omega) (by omega) I.dq

theorem Inv.diag (HX : Holds X Q G C (512 * i)) {K' V' : FVec Ideal Keys .bf16} (hK : Is K' K) (hV : Is V' V) {w : IVec Tile 1} (hw : Strict w)
    (j : Fin 8) (hj : j.val = i) (I : Inv Q G K V C i 32 (4 * i + 4) A) : Inv Q G K V C i 32 (4 * i) (diag X K' V' w j A) := by
  subst hj
  have hm : ∀ n b, n ≤ 4 → 128 * b = 512 * j.val + 128 * (4 - n) → Masks (some w) n (512 * j.val + 128 * (4 - n)) (128 * b) :=
    fun n b _ e => by rw [e]; exact masks_some hw n _
  have I3 := I.start.step HX (n := 1) (by omega) (b := 4 * j.val + 3) (by omega) (by omega) (hm _ _ (by omega) (by omega)) (fun a ha => by omega) hK hV
  have I2 := I3.step HX (n := 2) (by omega) (b := 4 * j.val + 2) (by omega) (by omega) (hm _ _ (by omega) (by omega)) (fun a ha => by omega) hK hV
  have I1 := I2.step HX (n := 3) (by omega) (b := 4 * j.val + 1) (by omega) (by omega) (hm _ _ (by omega) (by omega)) (fun a ha => by omega) hK hV
  have I0 := I1.step HX (n := 4) (by omega) (b := 4 * j.val) (by omega) (by omega) (hm _ _ (by omega) (by omega)) (fun a ha => by omega) hK hV
  exact I0.finish (by omega) (by omega) I.dq

/-- A chunk before its key blocks. -/
theorem Inv.begin (hi : i < 8) (hl : ∀ h, Is (A.S.l h) fun _ _ => 0) (he : ∀ h, Is (A.S.e h) fun _ _ => 0) (hdq : Is A.S.dq fun _ _ => 0)
    (hdk : Is A.dk fun j c => ∑ t ∈ range (512 * i), slopes Q G K V C (c / 64) t j * Q t c)
    (hdv : Is A.dv fun j c => ∑ t ∈ range (512 * i), weight (scores Q K) (c / 64) t j * G t c) : Inv Q G K V C i 32 (4 * i + 4) A where
  l h := (hl h).congr fun a ha c _ => (suffix_past _ (dropped_past _) _ _ _ (by omega)).symm
  e h := (he h).congr fun a ha c _ => (suffix_past _ (flow_past _ _) _ _ _ (by omega)).symm
  dq := hdq.congr fun a ha c _ => (sum_eq_zero fun s hs => by
    have := (mem_Ico.1 hs).1
    rw [slopes, slope_past _ _ _ _ _ _ (by omega), zero_mul]).symm
  dk := hdk.congr fun j _ c _ => (keySum_past _ (slope_past _ _ _) _ _ _ _ _ (by omega)).symm
  dv := hdv.congr fun j _ c _ => (keySum_past _ (weight_past _) _ _ _ _ _ (by omega)).symm

end Chunk

end Cert.SbModel
-- ==== Proof.Sb.Worked.lean ====
module

public import proofs.«01_k».proof.Proof.Sb.Chunk
public import proofs.«01_k».proof.Proof.Sb.Body
public import Idealize.ShloMosaic.Lib.WordCmp
public import Idealize.ShloMosaic.Lib.WordArith.Masks
public import Idealize.ShloMosaic.Lib.KernelVsHost
public import Idealize.ShloMosaic.Lib.Pointwise

@[expose] public section

set_option maxRecDepth 16384

noncomputable section

/-! A chunk of the program over the reals: its masks, its triangles, its loop that no sum stops, and what it leaves. -/

namespace Cert.SbRun

open Cert.SbIdeal Cert.SbIdeal.Gen Cert.SbModel
open Idealize.ShloMosaic hiding ix2 ix3 ix4
open Idealize.ShloMosaic.ValueIdx Finset

theorem onHead0 : OnHead k0_pay9 0 := fun c => by
  have h : ∀ c : Fin 128, Scalar.cmpi .slt (BitVec.ofNat 32 c.val) 64#32 = if c.val / 64 = 0 then 1#1 else 0#1 := by decide
  refine Eq.trans ?_ (h c)
  unfold k0_pay9
  pointwise
  rfl

theorem onHead1 : OnHead k0_pay10 1 := fun c => by
  have h : ∀ c : Fin 128, Scalar.xori (if c.val / 64 = 0 then 1#1 else 0#1) 1#1 = if c.val / 64 = 1 then 1#1 else 0#1 := by decide
  rw [← h c, ← onHead0 c]
  rfl

theorem strict : Strict k0_pay17 := fun a c => by
  have e : k0_pay17 (ix2 a c) = IntOp.cmpi .slt (BitVec.ofNat 32 c.val) (BitVec.ofNat 32 a.val) := by
    unfold k0_pay17
    pointwise
  rw [e, WordCmp.cmpi_slt_ofNat (by have := c.2; omega) (by have := a.2; omega)]
  by_cases h : c.val < a.val <;> simp [h]

theorem ofBool_and (p q : Bool) : BitVec.ofBool p &&& BitVec.ofBool q = BitVec.ofBool (p && q) := by cases p <;> cases q <;> decide

theorem triangles_is : Is (k0_pay18 (F := Ideal)) triangles := fun r c => by
  have hr := r.2
  have hc := c.2
  have e : k0_pay18 (F := Ideal) (ix2 r c) = FloatOps.sitofp (F := Ideal) .f32 (BitVec.setWidth 32
      (IntOp.andi (IntOp.xori (IntOp.xori (IntOp.cmpi .sge (Scalar.andi (BitVec.ofNat 32 r.val) 255#32) 128#32) (IntOp.cmpi .sge (BitVec.ofNat 32 c.val) 128#32)) 1#1)
        (IntOp.cmpi .sge (Scalar.andi (BitVec.ofNat 32 r.val) 255#32) (BitVec.ofNat 32 c.val)))) := by
    unfold k0_pay18
    pointwise
    rfl
  have m : Scalar.andi (BitVec.ofNat 32 r.val) 255#32 = BitVec.ofNat 32 (r.val % 256) := by
    apply BitVec.eq_of_toNat_eq
    rw [WordArith.toNat_andi_lowMask _ _ 8 rfl, BitVec.toNat_ofNat, BitVec.toNat_ofNat]
    omega
  rw [e, m, WordCmp.cmpi_sge_ofNat (by omega) (by omega), WordCmp.cmpi_sge_ofNat (by omega) (by omega), WordCmp.cmpi_sge_ofNat (by omega) (by omega)]
  have key : ∀ p q s : Bool, ((BitVec.setWidth 32 (IntOp.andi (IntOp.xori (IntOp.xori (BitVec.ofBool p) (BitVec.ofBool q)) 1#1) (BitVec.ofBool s))).toInt)
      = if p = q ∧ s = true then 1 else 0 := by decide
  show ((((BitVec.setWidth 32 _).toInt : ℤ) : ℝ) : EReal) = _
  rw [key]
  unfold triangles
  congr 1
  simp only [decide_eq_decide, decide_eq_true_eq]
  by_cases h : r.val % 256 / 128 = c.val / 128 ∧ c.val % 128 ≤ r.val % 128
  · rw [if_pos h, if_pos ⟨by omega, by omega⟩]; norm_num
  · rw [if_neg h, if_neg (by omega)]; norm_num

theorem minimum_lt {s t : Shape} {axes : List (Fin s.rank)} {x : FVec Ideal s .f32} {acc : BitVec 32} (h : s.Reduces axes t) (hφ : _) (hacc : _) {i : s.Idx} {j : t.Idx}
    (hj : h.drop i = j) (hx : x i < (⊤ : EReal)) : multiReduction .minimumf axes t x acc h hφ hacc j < (⊤ : EReal) := by
  rw [multiReduction_minimumf_eq_fold]
  exact (Finset.fold_min_lt (c := (⊤ : EReal))).2 (.inr ⟨i, by simpa using hj, hx⟩)

theorem olt_top {x : Ideal .f32} (h : x < (⊤ : EReal)) : Scalar.cmpf (F := Ideal) (φ := .f32) .olt x (⊤ : EReal) = 1#1 :=
  congrArg BitVec.ofBool (decide_eq_true h)

/-- Over the reals the loop goes on. -/
theorem goesOn_of_is {A : Acc Ideal} {f : ℕ → ℕ → ℝ} (h : Is (A.S.l 0) f) : goesOn A := by
  have hlt : k0_pay5 (F := Ideal) (slabs A.S.l) < ⊤ := by
    refine minimum_lt (i := ix4 0 0 0 0) _ (.inl rfl) rfl (by funext a; match a with | 0 => rfl) ?_
    have e : shapeCast S1x2x512x128 (slabs A.S.l) shapeCasts_S2x512x128_S1x2x512x128 (ix4 0 0 0 0) = slabs A.S.l (ix3 0 0 0) := by
      pointwise
      rfl
    rw [e]
    show A.S.l 0 (ix2 0 0) < (⊤ : EReal)
    rw [h 0 0]
    exact EReal.coe_lt_top _
  unfold goesOn
  rw [IdealRules.named_const.ideal_named_scalar _ _ _ (⊤ : EReal) rfl]
  exact olt_top hlt

section Chunk

variable {Q G K V : ℕ → ℕ → ℝ} {C : ℕ → ℕ → ℝ} {X : Fixed Ideal} {i : ℕ}

theorem sweep_inv (HX : Holds X Q G C (512 * i)) {K' V' : FVec Ideal Keys .bf16} (hK : Is K' K) (hV : Is V' V) :
    ∀ (k : ℕ) (hk : k ≤ 16) (A : Acc Ideal), k ≤ 2 * i → Inv Q G K V C i 32 (2 * k) A → Inv Q G K V C i 32 0 (sweep X K' V' k hk A)
  | 0, _, A, _, I => I
  | k + 1, hk, A, hki, I => by
    have e : sweep X K' V' (k + 1) hk A = sweep X K' V' k (by omega) (turn X K' V' ⟨k, by omega⟩ A) := if_pos (goesOn_of_is (I.l 0))
    rw [e]
    exact sweep_inv HX hK hV k (by omega) _ (by omega) (Inv.turn HX hK hV ⟨k, by omega⟩ (by show k < _; omega) I)

end Chunk

theorem index2 {n m : ℕ} (a : Fin n) (b : Fin m) : Idealize.ShloMosaic.ix2 a b = ix2 a b := by
  funext k
  match k with
  | 0 => rfl
  | 1 => rfl

theorem rowDots_is {w : IVec Lanes 1} {h : ℕ} (hw : OnHead w h) {x : FVec Ideal (Rows 4 128) .f32} {f : ℕ → ℕ → ℝ} (hx : Is x f) :
    Is (rowDots (F := Ideal) w x) fun a _ => ∑ c ∈ range 128, if c / 64 = h then f a c else 0 := fun a c => by
  have e : rowDots (F := Ideal) w x (ix2 a c) = ∑ k : Fin 128, if w (ix2 0 k) = 1#1 then x (ix2 a k) else zeros (F := Ideal) (Rows 4 128) (ix2 a k) := by
    unfold rowDots
    pointwise
    refine Fintype.sum_congr _ _ fun k => ?_
    simp only [index2]
    rfl
  rw [e, coe_sum]
  refine Fintype.sum_congr _ _ fun k => ?_
  rw [hw k]
  by_cases h' : k.val / 64 = h
  · rw [if_pos h', if_pos rfl, if_pos h']
    exact hx a k
  · rw [if_neg h', if_neg (by decide), if_neg h']
    exact Is.zeros a k

theorem eighth_bf16 : Ideal.ofBits .bf16 0x3E00#16 = (((1 : ℝ) / 8 : ℝ) : EReal) := by
  simp [Ideal.ofBits, Ideal.ieee, -EReal.coe_mul]
  norm_num

theorem eighth_f32 : Ideal.ofBits .f32 0x3E000000#32 = (((1 : ℝ) / 8 : ℝ) : EReal) := by
  simp [Ideal.ofBits, Ideal.ieee, -EReal.coe_mul]
  norm_num

theorem k0_pay11_is {q : FVec Ideal (Rows 4 128) .bf16} {f : ℕ → ℕ → ℝ} (h : Is q f) : Is (k0_pay11 (F := Ideal) q) fun a c => f a c * (1 / 8) := fun a c => by
  have e : k0_pay11 (F := Ideal) q (ix2 a c) = (q (ix2 a c) : EReal) * Ideal.ofBits .bf16 0x3E00#16 := by
    unfold k0_pay11
    pointwise
  rw [e, h a c, eighth_bf16, ← EReal.coe_mul]

theorem k0_pay12_is {g : FVec Ideal (Rows 4 128) .bf16} {f : ℕ → ℕ → ℝ} (h : Is g f) : Is (k0_pay12 (F := Ideal) g) f := fun a c => by
  have e : k0_pay12 (F := Ideal) g (ix2 a c) = g (ix2 a c) := by
    unfold k0_pay12
    rw [Idealize.ShloMosaic.shapeCast_self]
  rw [e, h a c]

theorem k0_pay13_is {g : FVec Ideal (Rows 4 128) .bf16} {o : FVec Ideal (Rows 4 128) .f32} {f f' : ℕ → ℕ → ℝ} (h : Is g f) (h' : Is o f') :
    Is (k0_pay13 (F := Ideal) g o) fun a c => f a c * f' a c := fun a c => by
  have e : k0_pay13 (F := Ideal) g o (ix2 a c) = (k0_pay12 (F := Ideal) g (ix2 a c) : EReal) * o (ix2 a c) := by
    unfold k0_pay13
    rw [Idealize.ShloMosaic.shapeCast_self]
    rfl
  rw [e, k0_pay12_is h a c, h' a c, ← EReal.coe_mul]

theorem k0_pay2_is {x : FVec Ideal (Rows 4 128) .f32} {f : ℕ → ℕ → ℝ} (h : Is x f) : Is (k0_pay2 (F := Ideal) x) fun a c => f a c * (1 / 8) := fun a c => by
  have e : k0_pay2 (F := Ideal) x (ix2 a c) = (x (ix2 a c) : EReal) * Ideal.ofBits .f32 0x3E000000#32 := rfl
  rw [e, h a c, eighth_f32, ← EReal.coe_mul]

/-- What a weight's gradient sums to, of the output's gradient and the output. -/
def total (G O : ℕ → ℕ → ℝ) (h t : ℕ) : ℝ := ∑ c ∈ range 128, if c / 64 = h then G t c * O t c else 0

theorem fixed_holds {q g : FVec Ideal (Rows 4 128) .bf16} {o : FVec Ideal (Rows 4 128) .f32} {Q0 G O : ℕ → ℕ → ℝ} {T : ℕ}
    (hq : Is q fun a c => Q0 (T + a) c) (hg : Is g fun a c => G (T + a) c) (ho : Is o fun a c => O (T + a) c) :
    Holds (fixed (F := Ideal) q g o) (fun t c => Q0 t c * (1 / 8)) G (total G O) T where
  w0 := onHead0
  w1 := onHead1
  q := k0_pay11_is hq
  g := k0_pay12_is hg
  tri := triangles_is
  etot h := by
    match h with
    | 0 => exact rowDots_is onHead0 (k0_pay13_is hg ho)
    | 1 => exact rowDots_is onHead1 (k0_pay13_is hg ho)

/-- A point's chunk, with the keys' sums of the chunks before. -/
theorem worked_inv {q g : FVec Ideal (Rows 4 128) .bf16} {o : FVec Ideal (Rows 4 128) .f32} {Q0 G O K V : ℕ → ℕ → ℝ} {i : grid0.Coords} {n : ℕ} (hn : (chunk i).val = n)
    (hq : Is q fun a c => Q0 (512 * n + a) c) (hg : Is g fun a c => G (512 * n + a) c) (ho : Is o fun a c => O (512 * n + a) c)
    {K' V' : FVec Ideal Keys .bf16} (hK : Is K' K) (hV : Is V' V) {dk dv : FVec Ideal Keys .f32}
    (hdk : n ≠ 0 → Is dk fun j c => ∑ t ∈ range (512 * n), slopes (fun t c => Q0 t c * (1 / 8)) G K V (total G O) (c / 64) t j * (Q0 t c * (1 / 8)))
    (hdv : n ≠ 0 → Is dv fun j c => ∑ t ∈ range (512 * n), weight (scores (fun t c => Q0 t c * (1 / 8)) K) (c / 64) t j * G t c) :
    Inv (fun t c => Q0 t c * (1 / 8)) G K V (total G O) n 32 0 (worked (F := Ideal) K' V' i q g o dk dv) := by
  have HX := fixed_holds hq hg ho
  have hlt := (chunk i).2
  have hb : Inv (fun t c => Q0 t c * (1 / 8)) G K V (total G O) n 32 (4 * n + 4) (begun i dk dv) := by
    refine Inv.begin (by omega) (fun _ => Is.zeros) (fun _ => Is.zeros) Is.zeros ?_ ?_
    · show Is (if first i then zeros (F := Ideal) Keys else dk) _
      by_cases h : n = 0
      · rw [if_pos (show first i from hn.trans h)]
        exact Is.zeros.congr fun j _ c _ => by rw [h, Nat.mul_zero, range_zero, sum_empty]
      · rw [if_neg (show ¬ first i from fun e => h (hn.symm.trans e))]; exact hdk h
    · show Is (if first i then zeros (F := Ideal) Keys else dv) _
      by_cases h : n = 0
      · rw [if_pos (show first i from hn.trans h)]
        exact Is.zeros.congr fun j _ c _ => by rw [h, Nat.mul_zero, range_zero, sum_empty]
      · rw [if_neg (show ¬ first i from fun e => h (hn.symm.trans e))]; exact hdv h
  have hd := Inv.diag HX hK hV strict (chunk i) hn hb
  have e4 : 4 * n = 2 * (2 * n) := by omega
  rw [e4] at hd
  unfold worked
  have := sweep_inv HX hK hV (2 * n) (by omega) _ (le_refl _) hd
  subst hn
  exact this

end Cert.SbRun
-- ==== Proof.Sb.Points.lean ====
module

public import proofs.«01_k».proof.Proof.Sb.Worked
public import proofs.«01_k».proof.Proof.Sb.Frame
public import Idealize.ShloMosaic.Lib.Pipeline.ValueKit

@[expose] public section

set_option maxRecDepth 16384

noncomputable section

/-! The launch over the reals, of the arrays it finds: every point's sums, and the three result arrays. -/

namespace Cert.SbRun

open Cert.SbIdeal Cert.SbIdeal.Gen Cert.SbModel
open Idealize.ShloMosaic hiding ix2 ix3 ix4 eq_ix2
open Idealize.ShloMosaic.ValueIdx Finset

/-- What the launch finds: queries, keys and values, the output's gradient, the output. -/
structure Finds (m : (ℓ : Loc nD τ sig) → Buf (Elt Ideal) ℓ) (c : Dev nD) (qkv g o : ℕ → ℕ → ℝ) : Prop where
  qkv : ∀ (t : Fin 4096) (n : Fin 3072), n.val < 1536 → (V m c main_v0 : S4096x3072.Idx → EReal) (ix2 t n) = ((qkv t.val n.val : ℝ) : EReal)
  g : Is (n := 4096) (m := 512) (V m c main_v33) g
  o : Is (n := 4096) (m := 512) (V m c main_v32) o

theorem lt32 (t : Fin (cfg0 (F := Ideal)).N) : t.val < 32 := lt_of_lt_of_eq t.isLt N_0

theorem chunk_val : ∀ t : Fin (cfg0 (F := Ideal)).N, (chunk (grid0.coords t)).val = t.val % 8 :=
  (by decide +kernel : ∀ t : Fin grid0.N, (chunk (grid0.coords t)).val = t.val % 8)

theorem idx : ∀ t : Fin (cfg0 (F := Ideal)).N, win0_0.index t = ![t.val % 8, t.val / 8] ∧ win0_1.index t = ![0, 4 + t.val / 8] ∧ win0_2.index t = ![0, 8 + t.val / 8]
    ∧ win0_3.index t = ![t.val % 8, t.val / 8] ∧ win0_4.index t = ![t.val % 8, t.val / 8] ∧ win0_5.index t = ![t.val % 8, t.val / 8]
    ∧ win0_6.index t = ![0, t.val / 8] ∧ win0_7.index t = ![0, t.val / 8] :=
  (by decide +kernel : ∀ t : Fin grid0.N, _)

section Pairs

variable (qkv g o : ℕ → ℕ → ℝ) (p : ℕ)

/-- The queries of a pair of heads, before their scale. -/
abbrev pairQ (t c : ℕ) : ℝ := qkv t (128 * p + c)
abbrev pairK (s c : ℕ) : ℝ := qkv s (512 + 128 * p + c)
abbrev pairV (s c : ℕ) : ℝ := qkv s (1024 + 128 * p + c)
abbrev pairG (t c : ℕ) : ℝ := g t (128 * p + c)
abbrev pairO (t c : ℕ) : ℝ := o t (128 * p + c)
/-- The scaled queries. -/
abbrev pairS (t c : ℕ) : ℝ := pairQ qkv p t c * (1 / 8)

/-- The scores' gradients of a pair of heads. -/
abbrev pairSlopes : ℕ → ℕ → ℕ → ℝ := slopes (pairS qkv p) (pairG g p) (pairK qkv p) (pairV qkv p) (total (pairG g p) (pairO o p))
/-- The weights of a pair of heads. -/
abbrev pairWeights : ℕ → ℕ → ℕ → ℝ := weight (scores (pairS qkv p) (pairK qkv p))

end Pairs

section Points

variable {m : (ℓ : Loc nD τ sig) → Buf (Elt Ideal) ℓ} {c : Dev nD} {qkv g o : ℕ → ℕ → ℝ}

theorem Finds.q (H : Finds m c qkv g o) (t : Fin (cfg0 (F := Ideal)).N) :
    Is (n := 512) (m := 128) (iblk m c 0 t) fun a c => pairQ qkv (t.val / 8) (512 * (t.val % 8) + a) c := fun a x => by
  have := lt32 t
  refine Eq.trans ?_ (H.qkv ⟨512 * (t.val % 8) + a.val, by omega⟩ ⟨128 * (t.val / 8) + x.val, by omega⟩ (by dsimp only; omega))
  blk_ext [iblk, idx t]
  · show t.val % 8 * 512 + a.val = _; omega
  · show t.val / 8 * 128 + x.val = _; omega

theorem Finds.k (H : Finds m c qkv g o) (t : Fin (cfg0 (F := Ideal)).N) :
    Is (n := 4096) (m := 128) (iblk m c 1 t) (pairK qkv (t.val / 8)) := fun a x => by
  have := lt32 t
  refine Eq.trans ?_ (H.qkv a ⟨512 + 128 * (t.val / 8) + x.val, by omega⟩ (by dsimp only; omega))
  blk_ext [iblk, idx t]
  show (4 + t.val / 8) * 128 + x.val = _; omega

theorem Finds.v (H : Finds m c qkv g o) (t : Fin (cfg0 (F := Ideal)).N) :
    Is (n := 4096) (m := 128) (iblk m c 2 t) (pairV qkv (t.val / 8)) := fun a x => by
  have := lt32 t
  refine Eq.trans ?_ (H.qkv a ⟨1024 + 128 * (t.val / 8) + x.val, by omega⟩ (by dsimp only; omega))
  blk_ext [iblk, idx t]
  show (8 + t.val / 8) * 128 + x.val = _; omega

theorem Finds.out (H : Finds m c qkv g o) (t : Fin (cfg0 (F := Ideal)).N) :
    Is (n := 512) (m := 128) (iblk m c 3 t) fun a c => pairO o (t.val / 8) (512 * (t.val % 8) + a) c := fun a x => by
  have := lt32 t
  refine Eq.trans ?_ (H.o ⟨512 * (t.val % 8) + a.val, by omega⟩ ⟨128 * (t.val / 8) + x.val, by omega⟩)
  blk_ext [iblk, idx t]
  · show t.val % 8 * 512 + a.val = _; omega
  · show t.val / 8 * 128 + x.val = _; omega

theorem Finds.grad (H : Finds m c qkv g o) (t : Fin (cfg0 (F := Ideal)).N) :
    Is (n := 512) (m := 128) (iblk m c 4 t) fun a c => pairG g (t.val / 8) (512 * (t.val % 8) + a) c := fun a x => by
  have := lt32 t
  refine Eq.trans ?_ (H.g ⟨512 * (t.val % 8) + a.val, by omega⟩ ⟨128 * (t.val / 8) + x.val, by omega⟩)
  blk_ext [iblk, idx t]
  · show t.val % 8 * 512 + a.val = _; omega
  · show t.val / 8 * 128 + x.val = _; omega

/-- A point of pair `p` and chunk `i`. -/
abbrev PointInv (qkv g o : ℕ → ℕ → ℝ) (p i : ℕ) (A : Acc Ideal) : Prop :=
  Inv (pairS qkv p) (pairG g p) (pairK qkv p) (pairV qkv p) (total (pairG g p) (pairO o p)) i 32 0 A

theorem turnAt_inv (H : Finds m c qkv g o) (t : Fin (cfg0 (F := Ideal)).N) {dk dv : FVec Ideal Keys .f32}
    (hdk : t.val % 8 ≠ 0 → Is dk fun j c => ∑ r ∈ range (512 * (t.val % 8)), pairSlopes qkv g o (t.val / 8) (c / 64) r j * pairS qkv (t.val / 8) r c)
    (hdv : t.val % 8 ≠ 0 → Is dv fun j c => ∑ r ∈ range (512 * (t.val % 8)), pairWeights qkv (t.val / 8) (c / 64) r j * pairG g (t.val / 8) r c) :
    PointInv qkv g o (t.val / 8) (t.val % 8) (turnAt m c t dk dv) :=
  worked_inv (Q0 := pairQ qkv (t.val / 8)) (O := pairO o (t.val / 8)) (chunk_val t) (H.q t) (H.grad t) (H.out t) (H.k t) (H.v t) hdk hdv

theorem accAt_inv (H : Finds m c qkv g o) : ∀ (n : ℕ) (h : n < (cfg0 (F := Ideal)).N), PointInv qkv g o (n / 8) (n % 8) (accAt m c n h)
  | 0, h => turnAt_inv H ⟨0, h⟩ (fun h => absurd rfl h) (fun h => absurd rfl h)
  | n + 1, h => by
    have I := accAt_inv H n (Nat.lt_of_succ_lt h)
    refine turnAt_inv H ⟨n + 1, h⟩ (fun h0 => ?_) (fun h0 => ?_)
    all_goals
      have h0 : (n + 1) % 8 ≠ 0 := h0
      have e1 : (n + 1) / 8 = n / 8 := by omega
      have e2 : (n + 1) % 8 = n % 8 + 1 := by omega
      simp only [e1, e2]
    · exact I.dk.congr fun j _ x _ => keySum_zero _ _ _ _ _
    · exact I.dv.congr fun j _ x _ => keySum_zero _ _ _ _ _

/-! ## The results -/

/-- The queries' gradient. -/
def dqR (qkv g o : ℕ → ℕ → ℝ) (t n : ℕ) : ℝ :=
  (∑ s ∈ range 4096, pairSlopes qkv g o (n / 128) (n % 128 / 64) t s * pairK qkv (n / 128) s (n % 128)) * (1 / 8)
/-- The keys' gradient. -/
def dkR (qkv g o : ℕ → ℕ → ℝ) (s n : ℕ) : ℝ :=
  ∑ t ∈ range 4096, pairSlopes qkv g o (n / 128) (n % 128 / 64) t s * pairS qkv (n / 128) t (n % 128)
/-- The values' gradient. -/
def dvR (qkv g : ℕ → ℕ → ℝ) (s n : ℕ) : ℝ :=
  ∑ t ∈ range 4096, pairWeights qkv (n / 128) (n % 128 / 64) t s * pairG g (n / 128) t (n % 128)

/-- An array of reals. -/
def arrayOf (f : ℕ → ℕ → ℝ) : S4096x512.Idx → EReal := fun x => ((f (x 0).val (x 1).val : ℝ) : EReal)

theorem dq_array (H : Finds m c qkv g o) : (dats m 0 c).arrAt 5 (cfg0 (F := Ideal)).N = arrayOf (dqR qkv g o) := by
  refine (dats m 0 c).arrAt_eq_of_covers 5 _ (by decide +kernel) fun t hf y => ?_
  have I := accAt_inv H t.val t.isLt
  have := lt32 t
  blk_simp
  rw [after_5]
  obtain ⟨a, x, rfl⟩ : ∃ (a : Fin 512) (x : Fin 128), y = ix2 a x := ⟨y 0, y 1, eq_ix2 y⟩
  have e0 : ((win0_5.blk t).view.emb (ix2 a x) 0).val = 512 * (t.val % 8) + a.val := by
    blk_simp [idx t]
    show t.val % 8 * 512 + a.val = _
    omega
  have e1 : ((win0_5.blk t).view.emb (ix2 a x) 1).val = 128 * (t.val / 8) + x.val := by
    blk_simp [idx t]
    show t.val / 8 * 128 + x.val = _
    omega
  refine (k0_pay2_is I.dq a x).trans ?_
  unfold arrayOf dqR
  rw [e0, e1, show (128 * (t.val / 8) + x.val) / 128 = t.val / 8 by omega, show (128 * (t.val / 8) + x.val) % 128 = x.val by omega, range_eq_Ico]

theorem dk_array (H : Finds m c qkv g o) : (dats m 0 c).arrAt 6 (cfg0 (F := Ideal)).N = arrayOf (dkR qkv g o) := by
  refine (dats m 0 c).arrAt_eq_of_covers 6 _ (by decide +kernel) fun t hf y => ?_
  have I := accAt_inv H t.val t.isLt
  have := lt32 t
  blk_simp
  rw [after_6]
  obtain ⟨a, x, rfl⟩ : ∃ (a : Fin 4096) (x : Fin 128), y = ix2 a x := ⟨y 0, y 1, eq_ix2 y⟩
  have e0 : ((win0_6.blk t).view.emb (ix2 a x) 0).val = a.val := by
    blk_simp [idx t]
    rfl
  have e1 : ((win0_6.blk t).view.emb (ix2 a x) 1).val = 128 * (t.val / 8) + x.val := by
    blk_simp [idx t]
    show t.val / 8 * 128 + x.val = _
    omega
  have h7 : t.val % 8 = 7 := (flush0_6 t).1 hf
  refine (I.dk a x).trans ?_
  unfold arrayOf dkR
  rw [e0, e1, show (128 * (t.val / 8) + x.val) / 128 = t.val / 8 by omega, show (128 * (t.val / 8) + x.val) % 128 = x.val by omega]
  exact congrArg _ ((keySum_zero _ _ _ _ _).trans (by rw [h7]))

theorem dv_array (H : Finds m c qkv g o) : (dats m 0 c).arrAt 7 (cfg0 (F := Ideal)).N = arrayOf (dvR qkv g) := by
  refine (dats m 0 c).arrAt_eq_of_covers 7 _ (by decide +kernel) fun t hf y => ?_
  have I := accAt_inv H t.val t.isLt
  have := lt32 t
  blk_simp
  rw [after_7]
  obtain ⟨a, x, rfl⟩ : ∃ (a : Fin 4096) (x : Fin 128), y = ix2 a x := ⟨y 0, y 1, eq_ix2 y⟩
  have e0 : ((win0_7.blk t).view.emb (ix2 a x) 0).val = a.val := by
    blk_simp [idx t]
    rfl
  have e1 : ((win0_7.blk t).view.emb (ix2 a x) 1).val = 128 * (t.val / 8) + x.val := by
    blk_simp [idx t]
    show t.val / 8 * 128 + x.val = _
    omega
  have h7 : t.val % 8 = 7 := (flush0_7 t).1 hf
  refine (I.dv a x).trans ?_
  unfold arrayOf dvR
  rw [e0, e1, show (128 * (t.val / 8) + x.val) / 128 = t.val / 8 by omega, show (128 * (t.val / 8) + x.val) % 128 = x.val by omega]
  exact congrArg _ ((keySum_zero _ _ _ _ _).trans (by rw [h7]))

end Points

end Cert.SbRun
-- ==== Proof.Sb.Ref.lean ====
module

public import proofs.«01_k».proof.Proof.Sb.Forward
public import proofs.«01_k».proof.Proof.Sb.Points
public import proofs.«01_k».proof.Proof.Gen.SbRefIdeal.Run

@[expose] public section

set_option maxRecDepth 16384

noncomputable section

/-! The reference's run over the reals. -/

namespace Cert.SbRef

open Cert.SbRefIdeal Cert.SbRefIdeal.Gen Cert.SbModel Cert.SbRun Cert.SbRefIdeal.Value
open Idealize.ShloMosaic hiding ix2 ix3 ix4 eq_ix2
open Idealize.ShloMosaic.ValueIdx Finset

theorem index4 {a b c d : ℕ} (i : Fin a) (j : Fin b) (k : Fin c) (l : Fin d) : Idealize.ShloMosaic.ix4 i j k l = ix4 i j k l := by
  funext x
  match x with
  | 0 => rfl
  | 1 => rfl
  | 2 => rfl
  | 3 => rfl

/-- A product of two reals read. -/
theorem product {x y : EReal} {a b : ℝ} (hx : x = (a : EReal)) (hy : y = (b : EReal)) : x * y = ((a * b : ℝ) : EReal) := by
  rw [hx, hy, EReal.coe_mul]

theorem difference {x y : EReal} {a b : ℝ} (hx : x = (a : EReal)) (hy : y = (b : EReal)) : x - y = ((a - b : ℝ) : EReal) := by
  rw [hx, hy, EReal.coe_sub]

section Real

variable (qkv g : ℕ → ℕ → ℝ)

/-- The scores of the pair that holds head `H`. -/
abbrev zR (H : ℕ) : ℕ → ℕ → ℕ → ℝ := scores (pairS qkv (H / 2)) (pairK qkv (H / 2))
/-- The weights' gradients of the pair that holds head `H`. -/
abbrev uR (H : ℕ) : ℕ → ℕ → ℕ → ℝ := scores (pairG g (H / 2)) (pairV qkv (H / 2))

theorem lane (H d : ℕ) : 128 * (H / 2) + (64 * (H % 2) + d) = 64 * H + d := by omega

theorem zR_sum (H t s : ℕ) : zR qkv H (H % 2) t s = (∑ d ∈ range 64, qkv t (64 * H + d) * qkv s (512 + (64 * H + d))) * (1 / 8) := by
  unfold zR
  rw [scores_head _ _ _ _ _ (Nat.mod_lt _ Nat.two_pos), sum_mul]
  refine sum_congr rfl fun d _ => ?_
  unfold pairS pairQ pairK
  rw [lane, show 512 + 128 * (H / 2) + (64 * (H % 2) + d) = 512 + (64 * H + d) by omega]
  ring

theorem uR_sum (H t s : ℕ) : uR qkv g H (H % 2) t s = ∑ d ∈ range 64, g t (64 * H + d) * qkv s (1024 + (64 * H + d)) := by
  unfold uR
  rw [scores_head _ _ _ _ _ (Nat.mod_lt _ Nat.two_pos)]
  refine sum_congr rfl fun d _ => ?_
  unfold pairG pairV
  rw [lane, show 1024 + 128 * (H / 2) + (64 * (H % 2) + d) = 1024 + (64 * H + d) by omega]

/-- The logarithm of a weight as the host takes it. -/
theorem log_weight (z S : ℝ) : -Real.log (1 + Real.exp (-z)) + (-S - -Real.log (1 + Real.exp z)) = z - S := by
  have h : Real.log (1 + Real.exp z) = z + Real.log (1 + Real.exp (-z)) := by
    rw [← Real.log_exp z, ← Real.log_mul (Real.exp_pos _).ne' (by positivity), Real.log_exp, mul_add, mul_one, ← Real.exp_add, add_neg_cancel, Real.exp_zero, add_comm]
  rw [h]; ring

/-- The output of the forward lines. -/
def oR (t n : ℕ) : ℝ := ∑ s ∈ range 4096, pairWeights qkv (n / 128) (n % 128 / 64) t s * pairV qkv (n / 128) s (n % 128)

/-- A row's output against its gradient is the row's flow summed over all keys. -/
theorem total_flow (p h t : ℕ) :
    total (pairG g p) (pairO (oR qkv) p) h t = suffix (flow (scores (pairS qkv p) (pairK qkv p)) (scores (pairG g p) (pairV qkv p))) h t 0 := by
  unfold total suffix flow
  rw [Nat.Ico_zero_eq_range]
  have e : ∀ s, weight (scores (pairS qkv p) (pairK qkv p)) h t s * scores (pairG g p) (pairV qkv p) h t s
      = ∑ c ∈ range 128, weight (scores (pairS qkv p) (pairK qkv p)) h t s * (pairG g p t c * if c / 64 = h then pairV qkv p s c else 0) := fun s => by
    unfold scores; rw [mul_sum]
  rw [sum_congr rfl fun s _ => e s, sum_comm]
  refine sum_congr rfl fun c hc => ?_
  have hc' := mem_range.1 hc
  by_cases h' : c / 64 = h
  · simp only [if_pos h']
    unfold pairO oR
    rw [show (128 * p + c) / 128 = p by omega, show (128 * p + c) % 128 = c by omega, h', mul_sum]
    refine sum_congr rfl fun s _ => ?_
    unfold pairWeights
    ring
  · simp only [if_neg h', mul_zero, sum_const_zero]

end Real

variable (V0 : Valuation τ sig (Elt Ideal)) {qkv g : ℕ → ℕ → ℝ}

/-- The arguments read reals. -/
structure Reads (V0 : Valuation τ sig (Elt Ideal)) (qkv g : ℕ → ℕ → ℝ) : Prop where
  qkv : ∀ (t : Fin 4096) (n : Fin 3072), n.val < 1536 → (V0 (Proc.devRef .tc main_arg0) : S4096x3072.Idx → EReal) (ix2 t n) = ((qkv t.val n.val : ℝ) : EReal)
  g : Is (n := 4096) (m := 512) (V0 (Proc.devRef .tc main_arg1)) g

theorem mask_is (t s : Fin 4096) : (cmpi .slt (broadcastInDim S4096x4096 ![0, 1] bcast_S1x4096_S4096x4096_0_1 (broadcastInDim S1x4096 ![1] bcast_S4096_S1x4096_1 (iotaInDim S4096 32 0))) (broadcastInDim S4096x4096 ![0, 1] bcast_S4096x1_S4096x4096_0_1 (broadcastInDim S4096x1 ![0] bcast_S4096_S4096x1_0 (iotaInDim S4096 32 0)))) (ix2 t s)
    = if s.val < t.val then 1#1 else 0#1 := by
  pointwise
  exact (WordCmp.cmpi_slt_ofNat (w := 32) (by have := s.isLt; show s.val < 2147483648; omega) (by have := t.isLt; show t.val < 2147483648; omega)).trans (by by_cases h : s.val < t.val <;> simp [h])

theorem heads_mask_is {w : S4096x4096.Idx → BitVec 1} (hw : ∀ t s : Fin 4096, w (ix2 t s) = if s.val < t.val then 1#1 else 0#1) (H : Fin 8) (t s : Fin 4096) :
    (broadcastInDim S1x8x4096x4096 ![2, 3] bcast_S4096x4096_S1x8x4096x4096_2_3 w) (ix4 0 H t s) = if s.val < t.val then 1#1 else 0#1 := by
  pointwise
  exact (congrArg _ (index2 _ _)).trans (hw t s)

/-- A third of the columns, by heads. -/
theorem heads_is {x : S4096x3072.Idx → EReal} (hx : ∀ (t : Fin 4096) (n : Fin 3072), n.val < 1536 → x (ix2 t n) = ((qkv t.val n.val : ℝ) : EReal))
    (off : ℕ) (ho : off + 512 ≤ 1536) (h : S4096x3072.Slices ![0, off] S4096x512) :
    Four (n := 4096) (m := 64) (transpose S1x8x4096x64 [0, 2, 1, 3] (shapeCast S1x4096x8x64 (extractStridedSlice S4096x512 ![0, off] x h) shapeCasts_S4096x512_S1x4096x8x64) transposes_S1x4096x8x64_S1x8x4096x64_0_2_1_3)
      fun H t d => qkv t (off + (64 * H + d)) := fun H t d => by
  have hH := H.isLt; have hd := d.isLt
  pointwise
  refine (congrArg _ (index2 _ _)).trans ((hx t ⟨off + (H.val * 64 + d.val), by omega⟩ (show off + (H.val * 64 + d.val) < 1536 by omega)).trans ?_)
  exact congrArg (fun n => ((qkv t.val n : ℝ) : EReal)) (show off + (H.val * 64 + d.val) = off + (64 * H.val + d.val) by omega)

/-- The scaled scores of eight heads. -/
theorem scores_is {q k : S1x8x4096x64.Idx → EReal} (hq : Four (n := 4096) (m := 64) q fun H t d => qkv t (0 + (64 * H + d)))
    (hk : Four (n := 4096) (m := 64) k fun H t d => qkv t (512 + (64 * H + d))) :
    Four (n := 4096) (m := 4096) (mulf (Host.dotGeneral (F := Ideal) (φ₁ := .f32) (φ₂ := .f32) dot_S1x8x4096x64_S1x8x4096x64_S1x8x4096x4096_3_3_2_2_01_01 none q k) (broadcastInDim S1x8x4096x4096 ![] bcast_S_S1x8x4096x4096 (constant S_ .f32 0x3E000000#32)))
      fun H t s => zR qkv H (H % 2) t s := fun H t s => by
  pointwise
  rw [zR_sum, EReal.coe_mul, coe_sum, ← eighth_f32]
  refine congrArg (· * _) (Fintype.sum_congr _ _ fun d => ?_)
  refine product ((congrArg q (index4 0 H t d)).trans ((hq H t d).trans ?_)) ((congrArg k (index4 0 H s d)).trans (hk H s d))
  beta_reduce
  rw [Nat.zero_add]

theorem v18_is (t s : Fin 4096) : (res_main_v18 V0 : S4096x4096.Idx → BitVec 1) (ix2 t s) = if s.val < t.val then 1#1 else 0#1 := by
  exact mask_is t s

theorem v21_1_is (H : Fin 8) (t s : Fin 4096) : (res_main_v21_1 V0 : S1x8x4096x4096.Idx → BitVec 1) (ix4 0 H t s) = if s.val < t.val then 1#1 else 0#1 :=
  heads_mask_is (v18_is V0) H t s

theorem v27_1_is (H : Fin 8) (t s : Fin 4096) : (res_main_v27_1 V0 : S1x8x4096x4096.Idx → BitVec 1) (ix4 0 H t s) = if s.val < t.val then 1#1 else 0#1 := v21_1_is V0 H t s

variable {V0} (R : Reads V0 qkv g)

/-- A selection by the strict mask. -/
theorem masked_four {w : S1x8x4096x4096.Idx → BitVec 1} {x y : S1x8x4096x4096.Idx → EReal} {f : ℕ → ℕ → ℕ → ℝ}
    (hw : ∀ (H : Fin 8) (t s : Fin 4096), w (ix4 0 H t s) = if s.val < t.val then 1#1 else 0#1) (hx : Four (n := 4096) (m := 4096) x f) (hy : ∀ i, y i = 0) :
    Four (n := 4096) (m := 4096) (select w x y) fun H t s => if s < t then f H t s else 0 := fun H t s => by
  unfold select
  rw [hw]
  by_cases h : s.val < t.val
  · simp only [if_pos h]; exact hx H t s
  · simp only [if_neg h]; exact (hy _).trans EReal.coe_zero.symm

theorem zero_splat {i : S1x8x4096x4096.Idx} : (broadcastInDim S1x8x4096x4096 ![] bcast_S_S1x8x4096x4096 (constant (F := Ideal) S_ .f32 0x00000000#32)) i = (0 : EReal) := Ideal.ofBits_zero_f32

/-- The masked weights. -/
theorem weights_is {w : S1x8x4096x4096.Idx → BitVec 1} {x y : S1x8x4096x4096.Idx → EReal}
    (hw : ∀ (H : Fin 8) (t s : Fin 4096), w (ix4 0 H t s) = if s.val < t.val then 1#1 else 0#1)
    (hx : Four (n := 4096) (m := 4096) x fun H t s => Real.exp (-Real.log (1 + Real.exp (-zR qkv H (H % 2) t s)) + (-suffix (dropped (zR qkv H)) (H % 2) t s - -dropped (zR qkv H) (H % 2) t s)))
    (hy : ∀ i, y i = 0) : Four (n := 4096) (m := 4096) (select w x y) fun H t s => weight (zR qkv H) (H % 2) t s := fun H t s => by
  refine (masked_four hw hx hy H t s).trans ?_
  unfold weight
  beta_reduce
  by_cases h : s.val < t.val
  · rw [if_pos h, if_pos h, show dropped (zR qkv H) (H % 2) t s = _ from if_pos h, log_weight]
  · rw [if_neg h, if_neg h]

theorem inf_splat {i : S1x8x4096x4096.Idx} : (broadcastInDim S1x8x4096x4096 ![] bcast_S_S1x8x4096x4096 (constant (F := Ideal) S_ .f32 0x7F800000#32)) i = (⊤ : EReal) := by
  show Ideal.ofBits .f32 0x7F800000#32 = ⊤
  simp [Ideal.ofBits, Ideal.ieee]

include R

theorem v6_is : Four (n := 4096) (m := 64) (res_main_v6 V0) fun H t d => qkv t (0 + (64 * H + d)) := heads_is R.qkv 0 (by omega) _

theorem v7_is : Four (n := 4096) (m := 64) (res_main_v7 V0) fun H t d => qkv t (512 + (64 * H + d)) := heads_is R.qkv 512 (by omega) _

theorem v8_is : Four (n := 4096) (m := 64) (res_main_v8 V0) fun H t d => qkv t (1024 + (64 * H + d)) := heads_is R.qkv 1024 (by omega) _

theorem v34_is (H : Fin 8) (d : Fin 64) (t : Fin 4096) : (res_main_v34 V0 : S1x8x64x4096.Idx → EReal) (ix4 0 H d t) = ((g t.val (64 * H.val + d.val) : ℝ) : EReal) := by
  have hH := H.isLt; have hd := d.isLt
  unfold res_main_v34
  pointwise
  refine (congrArg _ (index2 _ _)).trans ((R.g t ⟨H.val * 64 + d.val, by omega⟩).trans ?_)
  exact congrArg (fun n => ((g t.val n : ℝ) : EReal)) (show H.val * 64 + d.val = 64 * H.val + d.val by omega)

theorem v11_is : Four (n := 4096) (m := 4096) (res_main_v11 V0) fun H t s => zR qkv H (H % 2) t s := scores_is (v6_is R) (v7_is R)

theorem call0_v0_is : Four (n := 4096) (m := 4096) (res_main_call0_v0 V0) fun H t s => zR qkv H (H % 2) t s := fun H t s => by
  unfold res_main_call0_v0
  exact (neg_at (neg_at (v11_is R H t s))).trans (by rw [neg_neg])

theorem call3_v0_is : Four (n := 4096) (m := 4096) (res_main_call3_v0 V0) fun H t s => -zR qkv H (H % 2) t s := fun H t s => by
  unfold res_main_call3_v0
  exact neg_at (v11_is R H t s)

theorem call0_v1_is : Four (n := 4096) (m := 4096) (res_main_call0_v1_0 V0) fun H t s => Real.log (1 + Real.exp (zR qkv H (H % 2) t s)) := fun H t s => by
  unfold res_main_call0_v1_0 res_main_call0_call0_v3 res_main_call0_call0_cst
  exact softplus_at (call0_v0_is R H t s) zero_splat

theorem call3_v1_is : Four (n := 4096) (m := 4096) (res_main_call3_v1_0 V0) fun H t s => Real.log (1 + Real.exp (-zR qkv H (H % 2) t s)) := fun H t s => by
  unfold res_main_call3_v1_0 res_main_call3_call0_v3 res_main_call3_call0_cst
  exact softplus_at (call3_v0_is R H t s) zero_splat

theorem v21_0_is : Four (n := 4096) (m := 4096) (res_main_v21_0 V0) fun H t s => -dropped (zR qkv H) (H % 2) t s := fun H t s => by
  unfold res_main_v21_0
  refine (masked_four (f := fun H t s => -Real.log (1 + Real.exp (zR qkv H (H % 2) t s))) (v21_1_is V0) (fun H t s => neg_at (call0_v1_is R H t s)) (fun i => zero_splat) H t s).trans ?_
  unfold dropped
  beta_reduce
  split <;> simp

theorem v26_is : Four (n := 4096) (m := 4096) (res_main_v26 V0) fun H t s =>
    Real.exp (-Real.log (1 + Real.exp (-zR qkv H (H % 2) t s)) + (-suffix (dropped (zR qkv H)) (H % 2) t s - -dropped (zR qkv H) (H % 2) t s)) := fun H t s => by
  unfold res_main_v26
  have e := (v21_0_is R).suffixSum (broadcastInDim S_ ![] bcast_S_S_ (constant (F := Ideal) S_ .f32 0x00000000#32)) reduceWindows_S1x8x4096x4096_S1x8x4096x4096_w1s1p0_0_w1s1p0_0_w1s1p0_0_w4096s1p0_4095 h_S_ Ideal.ofBits_zero_f32 H t s
  exact exp_at (neg_at (call3_v1_is R H t s)) (e.trans (by beta_reduce; rw [sum_neg_distrib]; rfl)) (v21_0_is R H t s)

theorem v27_0_is : Four (n := 4096) (m := 4096) (res_main_v27_0 V0) fun H t s => weight (zR qkv H) (H % 2) t s :=
  weights_is (v27_1_is V0) (v26_is R) fun i => zero_splat

theorem v39_is : Four (n := 4096) (m := 4096) (res_main_v39 V0) fun H t s => flow (zR qkv H) (uR qkv g H) (H % 2) t s := fun H t s => by
  unfold res_main_v39
  have e : Four (n := 4096) (m := 4096) (Host.dotGeneral (F := Ideal) (φ₁ := .f32) (φ₂ := .f32) dot_S1x8x64x4096_S1x8x4096x64_S1x8x4096x4096_2_3_3_2_01_01 none (res_main_v34 V0) (res_main_v8 V0))
      fun H t s => uR qkv g H (H % 2) t s := fun H t s => by
    pointwise
    rw [uR_sum, coe_sum]
    refine Fintype.sum_congr _ _ fun k => ?_
    rw [EReal.coe_mul]
    exact congrArg₂ (· * ·) ((congrArg (res_main_v34 V0) (index4 0 H k t)).trans (v34_is R H k t)) ((congrArg (res_main_v8 V0) (index4 0 H s k)).trans (v8_is R H s k))
  refine (congrArg₂ (· * ·) (masked_four (v27_1_is V0) e (fun i => zero_splat) H t s) (v26_is R H t s)).trans ?_
  rw [← EReal.coe_mul]
  unfold flow weight
  beta_reduce
  by_cases h : s.val < t.val
  · rw [if_pos h, if_pos h, show dropped (zR qkv H) (H % 2) t s = _ from if_pos h, log_weight, mul_comm]
  · rw [if_neg h, if_neg h, zero_mul, zero_mul]

/-- The scores' gradients, with the scale. -/
theorem v49_is (C : ℕ → ℕ → ℕ → ℝ) (hC : ∀ H h t, C H h t = suffix (flow (zR qkv H) (uR qkv g H)) h t 0) :
    Four (n := 4096) (m := 4096) (res_main_v49 V0) fun H t s => slope (zR qkv H) (uR qkv g H) (C H) (H % 2) t s * (1 / 8) := fun H t s => by
  unfold res_main_v49
  have eP := (v39_is R).prefixSum (L := 4095) rfl (broadcastInDim S_ ![] bcast_S_S_ (constant (F := Ideal) S_ .f32 0x00000000#32)) reduceWindows_S1x8x4096x4096_S1x8x4096x4096_w1s1p0_0_w1s1p0_0_w1s1p0_0_w4096s1p4095_0 h_S_ Ideal.ofBits_zero_f32
  have e3 := sigmoid_at (a := broadcastInDim S1x8x4096x4096 ![] bcast_S_S1x8x4096x4096 (constant (F := Ideal) S_ .f32 0x00000000#32)) (b := broadcastInDim S1x8x4096x4096 ![] bcast_S_S1x8x4096x4096 (constant (F := Ideal) S_ .f32 0x00000000#32)) (call3_v0_is R H t s) (call3_v1_is R H t s) (inf_splat (i := ix4 0 H t s))
  have e0 := sigmoid_at (a := broadcastInDim S1x8x4096x4096 ![] bcast_S_S1x8x4096x4096 (constant (F := Ideal) S_ .f32 0x00000000#32)) (b := broadcastInDim S1x8x4096x4096 ![] bcast_S_S1x8x4096x4096 (constant (F := Ideal) S_ .f32 0x00000000#32)) (call0_v0_is R H t s) (call0_v1_is R H t s) (inf_splat (i := ix4 0 H t s))
  refine (slope_at (v39_is R H t s) e3 e0 (eP H t s) (v21_1_is V0 H t s) zero_splat eighth_f32).trans ?_
  beta_reduce
  by_cases h : s.val < t.val
  · rw [slope_lines _ _ _ _ _ (C H) (hC _ _ _) s.isLt h, if_pos h]
  · rw [slope_past _ _ _ _ _ _ (not_lt.1 h), if_neg h, flow_past _ _ _ _ _ (not_lt.1 h)]
    simp

/-- The slopes' family at a head. -/
abbrev sR (qkv g : ℕ → ℕ → ℝ) (H : ℕ) : ℕ → ℕ → ℕ → ℝ := pairSlopes qkv g (oR qkv) (H / 2)

theorem slopes_is : Four (n := 4096) (m := 4096) (res_main_v49 V0) fun H t s => sR qkv g H (H % 2) t s * (1 / 8) :=
  v49_is R (fun H => total (pairG g (H / 2)) (pairO (oR qkv) (H / 2))) fun H h t => total_flow qkv g (H / 2) h t

theorem dq_is : Is (n := 4096) (m := 512) (truncf (F := Ideal) .bf16 (shapeCast _ (transpose S1x4096x8x64 [0, 2, 1, 3] (Host.dotGeneral (φ₁ := .f32) (φ₂ := .f32) dot_S1x8x4096x4096_S1x8x4096x64_S1x8x4096x64_3_2_2_3_01_01 none (res_main_v49 V0) (res_main_v7 V0)) transposes_S1x8x4096x64_S1x4096x8x64_0_2_1_3) shapeCasts_S1x4096x8x64_S4096x512) bitsLt_bf16_f32)
    (dqR qkv g (oR qkv)) := fun t n => by
  have hn := n.isLt
  pointwise
  unfold dqR
  rw [sum_mul, coe_sum]
  refine Fintype.sum_congr _ _ fun s => ?_
  refine (product ((congrArg (res_main_v49 V0) (index4 0 ⟨n.val / 64, by omega⟩ t s)).trans (slopes_is R ⟨n.val / 64, by omega⟩ t s))
    ((congrArg (res_main_v7 V0) (index4 0 ⟨n.val / 64, by omega⟩ s ⟨n.val % 64, by omega⟩)).trans (v7_is R ⟨n.val / 64, by omega⟩ s ⟨n.val % 64, by omega⟩))).trans ?_
  beta_reduce
  unfold sR pairK
  rw [show n.val / 64 / 2 = n.val / 128 by omega, show n.val / 64 % 2 = n.val % 128 / 64 by omega, show 512 + (64 * (n.val / 64) + n.val % 64) = 512 + 128 * (n.val / 128) + n.val % 128 by omega]
  congr 1; ring

theorem dk_is : Is (n := 4096) (m := 512) (truncf (F := Ideal) .bf16 (shapeCast _ (transpose S1x4096x8x64 [0, 2, 1, 3] (Host.dotGeneral (φ₁ := .f32) (φ₂ := .f32) dot_S1x8x4096x4096_S1x8x4096x64_S1x8x4096x64_2_2_3_3_01_01 none (res_main_v49 V0) (res_main_v6 V0)) transposes_S1x8x4096x64_S1x4096x8x64_0_2_1_3) shapeCasts_S1x4096x8x64_S4096x512) bitsLt_bf16_f32)
    (dkR qkv g (oR qkv)) := fun s n => by
  have hn := n.isLt
  pointwise
  unfold dkR
  rw [coe_sum]
  refine Fintype.sum_congr _ _ fun t => ?_
  refine (product ((congrArg (res_main_v49 V0) (index4 0 ⟨n.val / 64, by omega⟩ t s)).trans (slopes_is R ⟨n.val / 64, by omega⟩ t s))
    ((congrArg (res_main_v6 V0) (index4 0 ⟨n.val / 64, by omega⟩ t ⟨n.val % 64, by omega⟩)).trans (v6_is R ⟨n.val / 64, by omega⟩ t ⟨n.val % 64, by omega⟩))).trans ?_
  beta_reduce
  unfold sR pairS pairQ
  rw [show n.val / 64 / 2 = n.val / 128 by omega, show n.val / 64 % 2 = n.val % 128 / 64 by omega, show 0 + (64 * (n.val / 64) + n.val % 64) = 128 * (n.val / 128) + n.val % 128 by omega]
  congr 1; ring

theorem dv_is : Is (n := 4096) (m := 512) (truncf (F := Ideal) .bf16 (shapeCast _ (transpose S1x4096x8x64 [0, 2, 1, 3] (transpose S1x8x4096x64 [0, 1, 3, 2] (Host.dotGeneral (φ₁ := .f32) (φ₂ := .f32) dot_S1x8x64x4096_S1x8x4096x4096_S1x8x64x4096_3_2_2_3_01_01 none (res_main_v34 V0) (res_main_v27_0 V0)) transposes_S1x8x64x4096_S1x8x4096x64_0_1_3_2) transposes_S1x8x4096x64_S1x4096x8x64_0_2_1_3) shapeCasts_S1x4096x8x64_S4096x512) bitsLt_bf16_f32)
    (dvR qkv g) := fun s n => by
  have hn := n.isLt
  pointwise
  unfold dvR
  rw [coe_sum]
  refine Fintype.sum_congr _ _ fun t => ?_
  refine (product ((congrArg (res_main_v34 V0) (index4 0 ⟨n.val / 64, by omega⟩ ⟨n.val % 64, by omega⟩ t)).trans (v34_is R ⟨n.val / 64, by omega⟩ ⟨n.val % 64, by omega⟩ t))
    ((congrArg (res_main_v27_0 V0) (index4 0 ⟨n.val / 64, by omega⟩ t s)).trans (v27_0_is R ⟨n.val / 64, by omega⟩ t s))).trans ?_
  beta_reduce
  unfold pairWeights pairG zR
  rw [show n.val / 64 / 2 = n.val / 128 by omega, show n.val / 64 % 2 = n.val % 128 / 64 by omega, show 64 * (n.val / 64) + n.val % 64 = 128 * (n.val / 128) + n.val % 128 by omega]
  congr 1; ring

end Cert.SbRef

end
-- ==== Proof.Sb.Host.lean ====
module

public import proofs.«01_k».proof.Proof.Sb.Ref
public import Idealize.ShloMosaic.Lib.StableHlo.ReadAt

@[expose] public section

set_option maxRecDepth 16384

noncomputable section

/-! The kernel's host lines over the reals, stretch by stretch. -/

namespace Cert.SbRun

open Cert.SbIdeal Cert.SbIdeal.Gen Cert.SbModel Cert.SbRef
open Idealize.ShloMosaic hiding ix2 ix3 ix4 eq_ix2
open Idealize.ShloMosaic.ValueIdx Finset

section Stretches

variable (W : Valuation τ sig (Elt Ideal)) {qkv : ℕ → ℕ → ℝ}

/-- The arrays that later stretches read again. -/
abbrev Held (b : Ref sig .tc) : Prop := b = main_v0 ∨ b = main_v9 ∨ b = main_v12 ∨ b = main_v19 ∨ b = main_arg1

theorem held1 (b : Ref sig .tc) (hb : Held b) : StableHlo.after (hostOps0_1 (F := Ideal)) W (Proc.devRef .tc b) = W (Proc.devRef .tc b) := by
  rcases hb with rfl | rfl | rfl | rfl | rfl <;> after_reads_simp

theorem held3 (b : Ref sig .tc) (hb : Held b) :
    StableHlo.after (hostOps0_3 (F := Ideal)) (StableHlo.after (hostOps0_2 (F := Ideal)) W) (Proc.devRef .tc b) = W (Proc.devRef .tc b) := by
  rcases hb with rfl | rfl | rfl | rfl | rfl <;> after_reads_simp

theorem held5 (b : Ref sig .tc) (hb : Held b) :
    StableHlo.after (hostOps0_5 (F := Ideal)) (StableHlo.after (hostOps0_4 (F := Ideal)) W) (Proc.devRef .tc b) = W (Proc.devRef .tc b) := by
  rcases hb with rfl | rfl | rfl | rfl | rfl <;> after_reads_simp

theorem held6 (b : Ref sig .tc) (hb : Held b ∨ b = main_v24) : StableHlo.after (hostOps0_6 (F := Ideal)) W (Proc.devRef .tc b) = W (Proc.devRef .tc b) := by
  rcases hb with (rfl | rfl | rfl | rfl | rfl) | rfl <;> after_reads_simp

theorem held8 (b : Ref sig .tc) (hb : Held b) :
    StableHlo.after (hostOps0_8 (F := Ideal)) (StableHlo.after (hostOps0_7 (F := Ideal)) W) (Proc.devRef .tc b) = W (Proc.devRef .tc b) := by
  rcases hb with rfl | rfl | rfl | rfl | rfl <;> after_reads_simp

theorem first_v0 : (StableHlo.after (hostOps0 (F := Ideal)) W (Proc.devRef .tc main_v0) : S4096x3072.Idx → EReal) = W (Proc.devRef .tc main_arg0) := by
  after_reads_simp; rfl

theorem first_arg1 : StableHlo.after (hostOps0 (F := Ideal)) W (Proc.devRef .tc main_arg1) = W (Proc.devRef .tc main_arg1) := by
  after_reads_simp

variable {W}

section First

variable (hq : ∀ (t : Fin 4096) (n : Fin 3072), n.val < 1536 → (W (Proc.devRef .tc main_arg0) : S4096x3072.Idx → EReal) (ix2 t n) = ((qkv t.val n.val : ℝ) : EReal))

include hq

theorem first_v9 : Four (n := 4096) (m := 64) (StableHlo.after (hostOps0 (F := Ideal)) W (Proc.devRef .tc main_v9)) fun H t d => qkv t (1024 + (64 * H + d)) := by
  after_reads_simp
  exact heads_is hq 1024 (by omega) _

theorem first_v12 : Four (n := 4096) (m := 4096) (StableHlo.after (hostOps0 (F := Ideal)) W (Proc.devRef .tc main_v12)) fun H t s => zR qkv H (H % 2) t s := by
  after_reads_simp
  exact scores_is (heads_is hq 0 (by omega) _) (heads_is hq 512 (by omega) _)

theorem first_v20 : Four (n := 4096) (m := 4096) (StableHlo.after (hostOps0 (F := Ideal)) W (Proc.devRef .tc main_v20)) fun H t s => -zR qkv H (H % 2) t s := by
  after_reads_simp
  exact fun H t s => neg_at (scores_is (heads_is hq 0 (by omega) _) (heads_is hq 512 (by omega) _) H t s)

end First

theorem first_v19 (t s : Fin 4096) : (StableHlo.after (hostOps0 (F := Ideal)) W (Proc.devRef .tc main_v19) : S4096x4096.Idx → BitVec 1) (ix2 t s) = if s.val < t.val then 1#1 else 0#1 := by
  after_reads_simp
  exact mask_is t s

theorem then_v21 (h : Four (n := 4096) (m := 4096) (W (Proc.devRef .tc main_v20)) fun H t s => -zR qkv H (H % 2) t s) :
    Four (n := 4096) (m := 4096) (StableHlo.after (hostOps0_1 (F := Ideal)) W (Proc.devRef .tc main_v21)) fun H t s => -Real.log (1 + Real.exp (zR qkv H (H % 2) t s)) := by
  after_reads_simp
  simp -implicitDefEqProofs only [StableHlo.TRef.toBuf, StableHlo.TRef.ofBuf, cast_cast, cast_eq]
  exact fun H t s => neg_at (softplus_at ((neg_at (h H t s)).trans (by rw [neg_neg])) zero_splat)

theorem then_v22 (hm : ∀ t s : Fin 4096, (W (Proc.devRef .tc main_v19) : S4096x4096.Idx → BitVec 1) (ix2 t s) = if s.val < t.val then 1#1 else 0#1)
    (h : Four (n := 4096) (m := 4096) (W (Proc.devRef .tc main_v21)) fun H t s => -Real.log (1 + Real.exp (zR qkv H (H % 2) t s))) :
    Four (n := 4096) (m := 4096) (StableHlo.after (hostOps0_3 (F := Ideal)) (StableHlo.after (hostOps0_2 (F := Ideal)) W) (Proc.devRef .tc main_v22)) fun H t s => -dropped (zR qkv H) (H % 2) t s := by
  after_reads_simp
  simp -implicitDefEqProofs only [StableHlo.TRef.toBuf, StableHlo.TRef.ofBuf, cast_cast, cast_eq]
  intro H t s
  refine (masked_four (f := fun H t s => -Real.log (1 + Real.exp (zR qkv H (H % 2) t s))) (heads_mask_is hm) h (fun i => zero_splat) H t s).trans ?_
  unfold dropped
  beta_reduce
  split <;> simp

theorem then_v24 (h : Four (n := 4096) (m := 4096) (W (Proc.devRef .tc main_v22)) fun H t s => -dropped (zR qkv H) (H % 2) t s) :
    Four (n := 4096) (m := 4096) (StableHlo.after (hostOps0_5 (F := Ideal)) (StableHlo.after (hostOps0_4 (F := Ideal)) W) (Proc.devRef .tc main_v24))
      fun H t s => -suffix (dropped (zR qkv H)) (H % 2) t s - -dropped (zR qkv H) (H % 2) t s := by
  after_reads_simp
  simp -implicitDefEqProofs only [StableHlo.TRef.toBuf, StableHlo.TRef.ofBuf, cast_cast, cast_eq]
  have e := h.suffixSum (broadcastInDim S_ ![] bcast_S_S_ (constant (F := Ideal) S_ .f32 0x00000000#32)) reduceWindows_S1x8x4096x4096_S1x8x4096x4096_w1s1p0_0_w1s1p0_0_w1s1p0_0_w4096s1p0_4095 h_S_ Ideal.ofBits_zero_f32
  exact fun H t s => difference ((e H t s).trans (by beta_reduce; rw [sum_neg_distrib]; rfl)) (h H t s)

theorem then_v25 (h : Four (n := 4096) (m := 4096) (W (Proc.devRef .tc main_v12)) fun H t s => zR qkv H (H % 2) t s) :
    Four (n := 4096) (m := 4096) (StableHlo.after (hostOps0_6 (F := Ideal)) W (Proc.devRef .tc main_v25)) fun H t s => -Real.log (1 + Real.exp (-zR qkv H (H % 2) t s)) := by
  after_reads_simp
  simp -implicitDefEqProofs only [StableHlo.TRef.toBuf, StableHlo.TRef.ofBuf, cast_cast, cast_eq]
  exact fun H t s => neg_at (softplus_at (neg_at (h H t s)) zero_splat)

theorem then_v28 (hm : ∀ t s : Fin 4096, (W (Proc.devRef .tc main_v19) : S4096x4096.Idx → BitVec 1) (ix2 t s) = if s.val < t.val then 1#1 else 0#1)
    (h : Four (n := 4096) (m := 4096) (W (Proc.devRef .tc main_v24)) fun H t s => -suffix (dropped (zR qkv H)) (H % 2) t s - -dropped (zR qkv H) (H % 2) t s)
    (h' : Four (n := 4096) (m := 4096) (W (Proc.devRef .tc main_v25)) fun H t s => -Real.log (1 + Real.exp (-zR qkv H (H % 2) t s))) :
    Four (n := 4096) (m := 4096) (StableHlo.after (hostOps0_8 (F := Ideal)) (StableHlo.after (hostOps0_7 (F := Ideal)) W) (Proc.devRef .tc main_v28)) fun H t s => weight (zR qkv H) (H % 2) t s := by
  after_reads_simp
  simp -implicitDefEqProofs only [StableHlo.TRef.toBuf, StableHlo.TRef.ofBuf, cast_cast, cast_eq]
  exact weights_is (heads_mask_is hm) (fun H t s => exp_sum_at (h' H t s) (h H t s)) fun i => zero_splat

theorem last_v32 (hv : Four (n := 4096) (m := 64) (W (Proc.devRef .tc main_v9)) fun H t d => qkv t (1024 + (64 * H + d)))
    (h : Four (n := 4096) (m := 4096) (W (Proc.devRef .tc main_v28)) fun H t s => weight (zR qkv H) (H % 2) t s) :
    Is (n := 4096) (m := 512) (StableHlo.after (hostOps0_9 (F := Ideal)) W (Proc.devRef .tc main_v32)) (oR qkv) := by
  after_reads_simp
  clean_types
  intro t n
  have hn := n.isLt
  pointwise
  unfold oR
  rw [coe_sum]
  refine Fintype.sum_congr _ _ fun s => ?_
  refine (product ((congrArg (W (Proc.devRef .tc main_v9)) (index4 0 ⟨n.val / 64, by omega⟩ s ⟨n.val % 64, by omega⟩)).trans (hv ⟨n.val / 64, by omega⟩ s ⟨n.val % 64, by omega⟩))
    ((congrArg (W (Proc.devRef .tc main_v28)) (index4 0 ⟨n.val / 64, by omega⟩ t s)).trans (h ⟨n.val / 64, by omega⟩ t s))).trans ?_
  beta_reduce
  unfold pairWeights pairV zR
  rw [show n.val / 64 / 2 = n.val / 128 by omega, show n.val / 64 % 2 = n.val % 128 / 64 by omega, show 1024 + (64 * (n.val / 64) + n.val % 64) = 1024 + 128 * (n.val / 128) + n.val % 128 by omega]
  congr 1; ring

theorem last_v33 : (StableHlo.after (hostOps0_9 (F := Ideal)) W (Proc.devRef .tc main_v33) : S4096x512.Idx → EReal) = W (Proc.devRef .tc main_arg1) := by
  after_reads_simp; rfl

theorem last_v0 : StableHlo.after (hostOps0_9 (F := Ideal)) W (Proc.devRef .tc main_v0) = W (Proc.devRef .tc main_v0) := by
  after_reads_simp

end Stretches

/-- What the launch finds, of arguments that read reals. -/
theorem finds (m : (ℓ : Loc nD τ sig) → Buf (Elt Ideal) ℓ) (c : Dev nD) {qkv g : ℕ → ℕ → ℝ}
    (hq : ∀ (t : Fin 4096) (n : Fin 3072), n.val < 1536 → (m ((c.tc : Thread nD τ).loc main_arg0) : S4096x3072.Idx → EReal) (ix2 t n) = ((qkv t.val n.val : ℝ) : EReal))
    (hg : Is (n := 4096) (m := 512) (m ((c.tc : Thread nD τ).loc main_arg1)) g) : Finds m c qkv g (oR qkv) := by
  have hV : ∀ b : Ref sig .tc, V m c b = StableHlo.after (hostOps0_9 (F := Ideal)) (StableHlo.after (hostOps0_8 (F := Ideal)) (StableHlo.after (hostOps0_7 (F := Ideal))
      (StableHlo.after (hostOps0_6 (F := Ideal)) (StableHlo.after (hostOps0_5 (F := Ideal)) (StableHlo.after (hostOps0_4 (F := Ideal)) (StableHlo.after (hostOps0_3 (F := Ideal))
        (StableHlo.after (hostOps0_2 (F := Ideal)) (StableHlo.after (hostOps0_1 (F := Ideal)) (StableHlo.after (hostOps0 (F := Ideal)) (fun b => m (c, b))))))))))) (Proc.devRef .tc b) := fun b => by
    unfold V hostLines
    simp only [List.flatten_cons, List.flatten_nil, List.append_nil, StableHlo.after_append]
  set W0 : Valuation τ sig (Elt Ideal) := fun b => m (c, b) with hW0
  have q0 : ∀ (t : Fin 4096) (n : Fin 3072), n.val < 1536 → (W0 (Proc.devRef .tc main_arg0) : S4096x3072.Idx → EReal) (ix2 t n) = ((qkv t.val n.val : ℝ) : EReal) := hq
  have z12 := first_v12 q0
  have z20 := first_v20 q0
  have v9 := first_v9 q0
  have m19 := first_v19 (W := W0)
  have a0 := first_v0 W0
  have g0 := first_arg1 W0
  set W1 := StableHlo.after (hostOps0 (F := Ideal)) W0
  have z21 := then_v21 z20
  rw [← held1 W1 main_v9 (by decide)] at v9
  rw [← held1 W1 main_v12 (by decide)] at z12
  simp only [← held1 W1 main_v19 (by decide)] at m19
  rw [← held1 W1 main_v0 (by decide)] at a0
  rw [← held1 W1 main_arg1 (by decide)] at g0
  set W2 := StableHlo.after (hostOps0_1 (F := Ideal)) W1
  have z22 := then_v22 m19 z21
  rw [← held3 W2 main_v9 (by decide)] at v9
  rw [← held3 W2 main_v12 (by decide)] at z12
  simp only [← held3 W2 main_v19 (by decide)] at m19
  rw [← held3 W2 main_v0 (by decide)] at a0
  rw [← held3 W2 main_arg1 (by decide)] at g0
  set W3 := StableHlo.after (hostOps0_3 (F := Ideal)) (StableHlo.after (hostOps0_2 (F := Ideal)) W2)
  have z24 := then_v24 z22
  rw [← held5 W3 main_v9 (by decide)] at v9
  rw [← held5 W3 main_v12 (by decide)] at z12
  simp only [← held5 W3 main_v19 (by decide)] at m19
  rw [← held5 W3 main_v0 (by decide)] at a0
  rw [← held5 W3 main_arg1 (by decide)] at g0
  set W5 := StableHlo.after (hostOps0_5 (F := Ideal)) (StableHlo.after (hostOps0_4 (F := Ideal)) W3)
  have z25 := then_v25 z12
  rw [← held6 W5 main_v9 (by decide)] at v9
  rw [← held6 W5 main_v24 (by decide)] at z24
  simp only [← held6 W5 main_v19 (by decide)] at m19
  rw [← held6 W5 main_v0 (by decide)] at a0
  rw [← held6 W5 main_arg1 (by decide)] at g0
  set W6 := StableHlo.after (hostOps0_6 (F := Ideal)) W5
  have z28 := then_v28 m19 z24 z25
  rw [← held8 W6 main_v9 (by decide)] at v9
  rw [← held8 W6 main_v0 (by decide)] at a0
  rw [← held8 W6 main_arg1 (by decide)] at g0
  set W8 := StableHlo.after (hostOps0_8 (F := Ideal)) (StableHlo.after (hostOps0_7 (F := Ideal)) W6)
  refine ⟨fun t n hn => ?_, ?_, ?_⟩
  · rw [hV, last_v0, a0]; exact hq t n hn
  · rw [hV]
    exact fun t n => (congrFun (last_v33 (W := W8)) _).trans ((congrFun g0 _).trans (hg t n))
  · rw [hV]; exact last_v32 v9 z28

end Cert.SbRun

end
-- ==== Proof.Sb.Claim.lean ====
module

public import proofs.«01_k».proof.Defs
public import proofs.«01_k».proof.Proof.Sb.Frames
public import proofs.«01_k».proof.Proof.Sb.Host
public import Idealize.ShloMosaic.Lib.ReduceAll

/-! The attention gradient: the launch against the gradient written plainly, of finite arguments. -/

@[expose] public section
set_option maxRecDepth 16384
noncomputable section
namespace Cert.SbClaim
open Idealize Cert.SbModel Cert.SbRun
open Idealize.ShloMosaic hiding ix2 ix3 ix4 eq_ix2
open Idealize.ShloMosaic.ValueIdx

attribute [local instance] preFacts

/-- A number whose absolute value is below infinity is a real. -/
theorem real_of_abs_lt {s : Shape} {x : s.Idx → EReal} {i : s.Idx} {inf : s.Idx → EReal} (hi : inf i = ⊤)
    (h : cmpf (F := Ideal) (φ := .f32) .olt (Host.absf (F := Ideal) (φ := .f32) x) inf i = 1#1) : x i = (((x i).toReal : ℝ) : EReal) := by
  have h' : max (x i) (-(x i)) < ⊤ := by
    have := h
    change BitVec.ofBool (decide (max (x i) (-(x i)) < inf i)) = 1#1 at this
    rw [hi] at this
    by_contra hc
    rw [decide_eq_false hc] at this
    exact absurd this (by decide)
  refine (EReal.coe_toReal (fun e => ?_) fun e => ?_).symm
  · rw [e] at h'; simp at h'
  · rw [e] at h'; simp at h'

theorem top_splat {T : Shape} {h : (⟨0, ![]⟩ : Shape).BroadcastsInDim T ![]} (i : T.Idx) : (broadcastInDim T ![] h (constant (F := Ideal) ⟨0, ![]⟩ .f32 0x7F800000#32)) i = (⊤ : EReal) := by
  show Ideal.ofBits .f32 0x7F800000#32 = ⊤
  simp [Ideal.ofBits, Ideal.ieee]

/-- The reals of an array, zero past its ends. -/
def realsOf {n m : ℕ} (x : (⟨2, ![n, m]⟩ : Shape).Idx → EReal) (t c : ℕ) : ℝ :=
  if h : t < n ∧ c < m then (x (ix2 ⟨t, h.1⟩ ⟨c, h.2⟩)).toReal else 0

theorem realsOf_val {n m : ℕ} (x : (⟨2, ![n, m]⟩ : Shape).Idx → EReal) (t : Fin n) (c : Fin m) : realsOf x t.val c.val = (x (ix2 t c)).toReal :=
  dif_pos ⟨t.isLt, c.isLt⟩

/-- The precondition's two parts. -/
theorem finite_parts (x : Cert.Pre_sb_finite.S4096x3072.Idx → EReal) (y : Cert.Pre_sb_finite.S4096x512.Idx → EReal)
    (h : Cert.Pre_sb_finite.fn (F := Ideal) x y = fun _ => 1#1) :
    (∀ (t : Fin 4096) (n : Fin 3072), n.val < 1536 → x (ix2 t n) = ((realsOf x t.val n.val : ℝ) : EReal)) ∧ Is (n := 4096) (m := 512) y (realsOf y) := by
  have h0 := congrFun h ValueIdx.ix0
  unfold Cert.Pre_sb_finite.fn at h0
  dsimp only at h0
  obtain ⟨h1, h2⟩ := IntOp.andi_eq_one.1 h0
  refine ⟨fun t n hn => ?_, fun t n => ?_⟩
  · have e := real_of_abs_lt (top_splat _) (Host.reduce_andi_all _ _ _ _ _ h1 (ix2 t ⟨n.val, hn⟩))
    have es : (extractStridedSlice Cert.Pre_sb_finite.S4096x1536 ![0, 0] x Cert.Pre_sb_finite.Facts.slices_S4096x3072_S4096x1536_0_0) (ix2 t ⟨n.val, hn⟩) = x (ix2 t n) := by
      refine extractStridedSlice_apply _ _ _ _ _ fun b => ?_
      fin_cases b <;> simp [ix2]
    rw [realsOf_val, ← es]
    exact e
  · rw [realsOf_val]
    exact real_of_abs_lt (top_splat _) (Host.reduce_andi_all _ _ _ _ _ h2 (ix2 t n))

/-- Both programs' results, of a memory's arguments. -/
abbrev G5 (m : (ℓ : Loc Cert.SbIdeal.nD Cert.SbIdeal.τ Cert.SbIdeal.sig) → Buf (Elt Ideal) ℓ) (c : Dev Cert.SbIdeal.nD) : ℕ → ℕ → ℝ :=
  realsOf (n := 4096) (m := 3072) (m ((c.tc : Thread Cert.SbIdeal.nD Cert.SbIdeal.τ).loc Cert.SbIdeal.main_arg0))
abbrev G6 (m : (ℓ : Loc Cert.SbIdeal.nD Cert.SbIdeal.τ Cert.SbIdeal.sig) → Buf (Elt Ideal) ℓ) (c : Dev Cert.SbIdeal.nD) : ℕ → ℕ → ℝ :=
  realsOf (n := 4096) (m := 512) (m ((c.tc : Thread Cert.SbIdeal.nD Cert.SbIdeal.τ).loc Cert.SbIdeal.main_arg1))

theorem is_array {v : (⟨2, ![4096, 512]⟩ : Shape).Idx → EReal} {f : ℕ → ℕ → ℝ} (h : Is v f) : v = arrayOf f := by
  funext x
  rw [eq_ix2 x]
  exact h (x 0) (x 1)

theorem algebraic : Cert.algebraic_SbIdeal_SbRefIdeal_pre_sb_finite := by
  intro m ρ m' ρ' hpre hag
  refine ⟨fun c => arrayOf (dqR (G5 m c) (G6 m c) (Cert.SbRef.oR (G5 m c))), fun c => arrayOf (dkR (G5 m c) (G6 m c) (Cert.SbRef.oR (G5 m c))),
    fun c => arrayOf (dvR (G5 m c) (G6 m c)), ?_, ?_⟩
  · refine (θ_run _ _ _).mono (fun r h c => ?_) (run_main_quiescent (F := Ideal) m ρ)
    obtain ⟨hq, hg⟩ := finite_parts _ _ (hpre c)
    have H := finds m c hq hg
    have hc := h.1 c
    exact ⟨(hc.1 5).trans (dq_array H), (hc.1 6).trans (dk_array H), (hc.1 7).trans (dv_array H),
      (hc.2 _ rest_arg0).trans (V_main_arg0 m c), (hc.2 _ rest_arg1).trans (V_main_arg1 m c)⟩
  · refine (θ_run _ _ _).mono (fun r h c => ?_) (Cert.SbRefIdeal.Value.run m' ρ')
    obtain ⟨hq, hg⟩ := finite_parts _ _ (hpre c)
    obtain ⟨a0, a1⟩ := hag c
    have R : Cert.SbRef.Reads (StableHlo.launchContents m' c) (G5 m c) (G6 m c) :=
      ⟨fun t n hn => (congrFun a0 _).trans (hq t n hn), fun t n => (congrFun a1 _).trans (hg t n)⟩
    obtain ⟨h58, h59, h60, hargs⟩ := h c
    exact ⟨h58.trans (is_array (Cert.SbRef.dq_is R)), h59.trans (is_array (Cert.SbRef.dk_is R)), h60.trans (is_array (Cert.SbRef.dv_is R)), hargs⟩

theorem frame_ideal_pre : Cert.quiescent_SbIdeal_pre_sb_finite := fun m ρ _ => frame_ideal m ρ trivial

theorem frame_ref_pre : Cert.quiescent_SbRefIdeal_pre_sb_finite := fun m ρ _ => frame_ref m ρ trivial

end Cert.SbClaim

end
-- ==== Proof.Mlp.Slabs.lean ====
module

public import Idealize.ShloMosaic.Lib.VecWindow
public import Idealize.ShloMosaic.Lib.ValueIdx
public import Idealize.ShloMosaic.Lib.Pipeline.Value
public import Idealize.ShloMosaic.Lib.WritesUnit
public import Idealize.ShloMosaic.Lib.WholeRead
public import Idealize.ShloMosaic.Lib.Pipeline.FrameBody
public import Mathlib.Tactic.FinCases

@[expose] public section

noncomputable section

/-! Matrices cut into eight slabs of columns or eight bands of rows. -/

namespace Cert.MlpModel

open Idealize.ShloMosaic Idealize.ShloMosaic.ValueIdx

variable {α : Type} {n w t : ℕ}

/-- An `n` by `w` matrix. -/
abbrev Mat (n w : ℕ) : Shape := ⟨2, ![n, w]⟩

/-- The columns `w k … w k + w - 1`. -/
def slab (ht : t = 8 * w) (x : (Mat n t).Idx → α) (k : Fin 8) : (Mat n w).Idx → α := fun j =>
  x (ix2 (j 0) (⟨w * k.val + (j 1).val, by
    have h1 : (j 1).val < w := (j 1).isLt
    have h2 : k.val ≤ 7 := by omega
    have h3 : w * k.val ≤ w * 7 := Nat.mul_le_mul_left w h2
    show _ < t
    omega⟩ : Fin t))

/-- The rows `w k … w k + w - 1`. -/
def band (ht : t = 8 * w) (x : (Mat t n).Idx → α) (k : Fin 8) : (Mat w n).Idx → α := fun j =>
  x (ix2 (⟨w * k.val + (j 0).val, by
    have h1 : (j 0).val < w := (j 0).isLt
    have h2 : k.val ≤ 7 := by omega
    have h3 : w * k.val ≤ w * 7 := Nat.mul_le_mul_left w h2
    show _ < t
    omega⟩ : Fin t) (j 1))

theorem div_lt (ht : t = 8 * w) {x : ℕ} (hx : x < t) : x / w < 8 := Nat.div_lt_of_lt_mul (by omega)
theorem mod_lt (ht : t = 8 * w) {x : ℕ} (hx : x < t) : x % w < w := Nat.mod_lt _ (by omega)

/-- Eight slabs side by side. -/
def beside (ht : t = 8 * w) (f : Fin 8 → (Mat n w).Idx → α) : (Mat n t).Idx → α := fun j =>
  f ⟨(j 1).val / w, div_lt ht (j 1).isLt⟩ (ix2 (j 0) (⟨(j 1).val % w, mod_lt ht (j 1).isLt⟩ : Fin w))

section Reads

variable {sig : RefSig} {κ : Kind} {sp : Space} {e : EltTy} {Val : EltTy → Type}

theorem slab_read (ht : t = 8 * w) {v : View sig κ sp (Mat n t) e} (g : v.ty.Contents Val) (k : Fin 8) {off : Fin 2 → ℕ}
    (ho : off = ![0, w * k.val]) (inb) :
    View.readAt Val v (Rect.unit (s := Mat n t) off ![n, w] inb).toLoadRect g = slab ht (v.read Val g) k := by
  subst ho
  funext j
  show v.read Val g _ = v.read Val g _
  congr 1
  funext a
  match a with
  | 0 => exact Fin.ext (by show 0 + 1 * (j 0).val = (j 0).val; omega)
  | 1 => exact Fin.ext (by show w * k.val + 1 * (j 1).val = w * k.val + (j 1).val; omega)

theorem band_read (ht : t = 8 * w) {v : View sig κ sp (Mat t n) e} (g : v.ty.Contents Val) (k : Fin 8) {off : Fin 2 → ℕ}
    (ho : off = ![w * k.val, 0]) (inb) :
    View.readAt Val v (Rect.unit (s := Mat t n) off ![w, n] inb).toLoadRect g = band ht (v.read Val g) k := by
  subst ho
  funext j
  show v.read Val g _ = v.read Val g _
  congr 1
  funext a
  match a with
  | 0 => exact Fin.ext (by show w * k.val + 1 * (j 0).val = w * k.val + (j 0).val; omega)
  | 1 => exact Fin.ext (by show 0 + 1 * (j 1).val = (j 1).val; omega)

/-- A buffer after a slab is stored, at one position. -/
theorem slab_written {v : View sig κ sp (Mat n t) e} (g : v.ty.Contents Val) (L) (o : ℕ) {off : Fin 2 → ℕ} (ho : off = ![0, o])
    (inb) (x : (Mat n w).Idx → Val e) (j : (Mat n t).Idx) :
    v.read Val (v.writes Val g (⟨Rect.unit (s := Mat n t) off ![n, w] inb, x⟩ :: L)) j
      = if h : o ≤ (j 1).val ∧ (j 1).val < o + w then x (ix2 (j 0) (⟨(j 1).val - o, by omega⟩ : Fin w)) else v.read Val (v.writes Val g L) j := by
  split
  · rename_i h
    exact View.read_writes_cons_unit_of_mem v g inb _ _ j (ix2 (j 0) (⟨(j 1).val - o, by omega⟩ : Fin w)) ho
      (fun a => by match a with | 0 => exact (Nat.zero_add _).symm | 1 => show (j 1).val = o + ((j 1).val - o); omega)
  · rename_i h
    exact View.read_writes_cons_unit_of_not_mem v g inb _ _ j ho 1 (by show (j 1).val < o ∨ o + w ≤ (j 1).val; omega)

/-- The eight slabs as stored, the last first. -/
def slabPieces (f : Fin 8 → (Mat n w).Idx → Val e) (inb : ∀ k : Fin 8, ∀ a : Fin 2, (![0, w * k.val] : Fin 2 → ℕ) a + (![n, w] : Fin 2 → ℕ) a ≤ (![n, t] : Fin 2 → ℕ) a) :
    List (View.Piece Val (Mat n t) e) :=
  [⟨Rect.unit (s := Mat n t) ![0, w * 7] ![n, w] (inb 7), f 7⟩, ⟨Rect.unit (s := Mat n t) ![0, w * 6] ![n, w] (inb 6), f 6⟩,
   ⟨Rect.unit (s := Mat n t) ![0, w * 5] ![n, w] (inb 5), f 5⟩, ⟨Rect.unit (s := Mat n t) ![0, w * 4] ![n, w] (inb 4), f 4⟩,
   ⟨Rect.unit (s := Mat n t) ![0, w * 3] ![n, w] (inb 3), f 3⟩, ⟨Rect.unit (s := Mat n t) ![0, w * 2] ![n, w] (inb 2), f 2⟩,
   ⟨Rect.unit (s := Mat n t) ![0, w * 1] ![n, w] (inb 1), f 1⟩, ⟨Rect.unit (s := Mat n t) ![0, w * 0] ![n, w] (inb 0), f 0⟩]

theorem inb8 (ht : t = 8 * w) (k : Fin 8) (a : Fin 2) : (![0, w * k.val] : Fin 2 → ℕ) a + (![n, w] : Fin 2 → ℕ) a ≤ (![n, t] : Fin 2 → ℕ) a := by
  have h2 : k.val ≤ 7 := by omega
  have h3 : w * k.val ≤ w * 7 := Nat.mul_le_mul_left w h2
  match a with
  | 0 => show 0 + n ≤ n; omega
  | 1 => show w * k.val + w ≤ t; omega

theorem beside_at (ht : t = 8 * w) (f : Fin 8 → (Mat n w).Idx → α) (k : Fin 8) (j : (Mat n t).Idx)
    (h : w * k.val ≤ (j 1).val ∧ (j 1).val < w * k.val + w) : f k (ix2 (j 0) (⟨(j 1).val - w * k.val, by omega⟩ : Fin w)) = beside ht f j := by
  have hk : (⟨(j 1).val / w, div_lt ht (j 1).isLt⟩ : Fin 8) = k := Fin.ext (by
    show (j 1).val / w = k.val
    exact Nat.div_eq_of_lt_le (by rw [Nat.mul_comm]; exact h.1) (by rw [Nat.mul_comm, Nat.mul_succ]; exact h.2))
  have hm : (j 1).val % w = (j 1).val - w * k.val := by
    have := Nat.div_add_mod (j 1).val w
    have h1 : (j 1).val / w = k.val := congrArg Fin.val hk
    rw [h1] at this; omega
  unfold beside
  rw [hk]
  congr 2
  exact Fin.ext hm.symm

/-- All eight slabs stored. -/
theorem beside_read (ht : t = 8 * w) {v : View sig κ sp (Mat n t) e} (g : v.ty.Contents Val) (f : Fin 8 → (Mat n w).Idx → Val e) :
    v.read Val (v.writes Val g (slabPieces f (inb8 ht))) = beside ht f := by
  funext j
  have hj : (j 1).val < t := (j 1).isLt
  unfold slabPieces
  rw [slab_written g _ _ rfl]; split
  · rename_i h; exact beside_at ht f 7 j h
  rw [slab_written g _ _ rfl]; split
  · rename_i h; exact beside_at ht f 6 j h
  rw [slab_written g _ _ rfl]; split
  · rename_i h; exact beside_at ht f 5 j h
  rw [slab_written g _ _ rfl]; split
  · rename_i h; exact beside_at ht f 4 j h
  rw [slab_written g _ _ rfl]; split
  · rename_i h; exact beside_at ht f 3 j h
  rw [slab_written g _ _ rfl]; split
  · rename_i h; exact beside_at ht f 2 j h
  rw [slab_written g _ _ rfl]; split
  · rename_i h; exact beside_at ht f 1 j h
  rw [slab_written g _ _ rfl]; split
  · rename_i h; exact beside_at ht f 0 j h
  exfalso; omega

theorem slab_beside (ht : t = 8 * w) (f : Fin 8 → (Mat n w).Idx → α) (k : Fin 8) : slab ht (beside ht f) k = f k := by
  funext j
  have h1 : (j 1).val < w := (j 1).isLt
  refine (beside_at ht f k (ix2 (j 0) _) (by constructor <;> (show _ ; simp only [ix2]; first | omega | (show w * k.val + (j 1).val < _; omega) | (show _ ≤ w * k.val + (j 1).val; omega)))).symm.trans ?_
  congr 1
  refine Eq.trans ?_ (eq_ix2 j).symm
  refine congrArg₂ ix2 rfl (Fin.ext ?_)
  show w * k.val + (j 1).val - w * k.val = (j 1).val
  omega

end Reads

end Cert.MlpModel

end
-- ==== Proof.Mlp.Model.lean ====
module

public import proofs.«01_k».proof.Proof.Gen.MlpIdeal.Skeleton
public import proofs.«01_k».proof.Proof.Mlp.Slabs

@[expose] public section

noncomputable section

/-! What one point of the block works out, from the blocks it reads, the weights and the sums so far. -/

namespace Cert.MlpModel

open Cert.MlpIdeal Cert.MlpIdeal.Gen
open Idealize.ShloMosaic

variable {F : FTy → Type} [FloatOps F]

/-- The blocks a point reads: 256 tokens of the stream and of the two mixers' outputs, the gates, the target, and the two norms' weights. -/
structure Ins (F : FTy → Type) where
  x : FVec F S256x1024 .f32
  osb : FVec F S256x512 .f32
  oca : FVec F S256x512 .bf16
  lg : FVec F S256x2048 .f32
  bg : FVec F S1x2048 .f32
  tgt : FVec F S256x1024 .f32
  g1 : FVec F S1x1024 .f32
  b1 : FVec F S1x1024 .f32
  g2 : FVec F S1x1024 .f32
  b2 : FVec F S1x1024 .f32

/-- The weights, as the body holds them. -/
structure Wts (F : FTy → Type) where
  win : FVec F S1024x4096 .bf16
  wout : FVec F S4096x1024 .bf16
  wsb : FVec F S512x1024 .bf16
  wca : FVec F S512x1024 .bf16
  wproj : FVec F S1024x1024 .bf16

/-- The sums over the points. -/
structure Sums (F : FTy → Type) where
  loss : FVec F S1x1 .f32
  dg2 : FVec F S1x1024 .f32
  db2 : FVec F S1x1024 .f32
  dg1 : FVec F S1x1024 .f32
  db1 : FVec F S1x1024 .f32

/-- No point yet. -/
def Sums.zero : Sums F := ⟨k0_pay3, k0_pay4, k0_pay5, k0_pay6, k0_pay7⟩

variable (B : Ins F) (W : Wts F)

/-- The stream after the mixers, and its deviation. -/
def u1 : FVec F S256x1024 .f32 := k0_pay8 B.osb B.oca B.lg B.bg W.wsb W.wca B.x W.wproj
def c1 : FVec F S256x1024 .f32 := k0_pay9 B.osb B.oca B.lg B.bg W.wsb W.wca B.x W.wproj
def rstd1 : FVec F S256x1 .f32 := k0_pay11 (u1 B W) (c1 B W)
def xhat1 : FVec F S256x1024 .f32 := k0_pay12 (u1 B W) (c1 B W)
def x1 : FVec F S256x1024 .f32 := k0_pay13 (u1 B W) (c1 B W) B.g1 B.b1
def x1b : FVec F S256x1024 .bf16 := k0_pay14 (u1 B W) (c1 B W) B.g1 B.b1
/-- A slab of the hidden layer. -/
def hid (k : Fin 8) : FVec F S256x512 .f32 := k0_pay24 (x1b B W) (slab rfl W.win k)
def relu (k : Fin 8) : FVec F S256x512 .f32 := k0_pay19 (hid B W k)
def act : FVec F S256x4096 .bf16 := beside rfl fun k => k0_pay20 (hid B W k)
def rstd2 : FVec F S256x1 .f32 := k0_pay40 (x1 B W) (act B W) W.wout
def xhat2 : FVec F S256x1024 .f32 := k0_pay41 (x1 B W) (act B W) W.wout
def y2 : FVec F S256x1024 .f32 := k0_pay42 (x1 B W) (act B W) W.wout B.g2 B.b2
def dyg2 : FVec F S256x1024 .f32 := k0_pay48 (y2 B W) B.tgt B.g2
def sum2 : FVec F S256x1 .f32 := k0_pay49 (y2 B W) B.tgt B.g2
def du2 : FVec F S256x1024 .f32 := k0_pay50 (rstd2 B W) (xhat2 B W) (dyg2 B W) (sum2 B W)
def du2b : FVec F S256x1024 .bf16 := k0_pay51 (rstd2 B W) (xhat2 B W) (dyg2 B W) (sum2 B W)
def dhid (k : Fin 8) : FVec F S256x512 .bf16 := k0_pay55 (du2b B W) (band rfl W.wout k) (relu B W k)
def dh : FVec F S256x4096 .bf16 := beside rfl (dhid B W)
def dx1 : FVec F S256x1024 .f32 := k0_pay60 (du2 B W) (dh B W) W.win
def du1 : FVec F S256x1024 .f32 := k0_pay2 (rstd1 B W) (xhat1 B W) (dx1 B W) B.g1

/-- The sums after the point. -/
def summed (S : Sums F) : Sums F where
  loss := k0_pay44 (y2 B W) B.tgt S.loss
  dg2 := k0_pay46 (xhat2 B W) (y2 B W) B.tgt S.dg2
  db2 := k0_pay47 (y2 B W) B.tgt S.db2
  dg1 := k0_pay61 (xhat1 B W) (du2 B W) (dh B W) W.win S.dg1
  db1 := k0_pay1 (dx1 B W) S.db1

end Cert.MlpModel

end
-- ==== Proof.Mlp.Body.lean ====
module

public import proofs.«01_k».proof.Proof.Gen.MlpIdeal.Frame.Runs
public import proofs.«01_k».proof.Proof.Mlp.Model
public import Idealize.ShloMosaic.Lib.Pipeline.ReadBack
public import Idealize.ShloMosaic.Lib.Exec
public import Idealize.ShloMosaic.Lib.Tactic

@[expose] public section

set_option maxRecDepth 16384

noncomputable section

namespace Cert.MlpRun

open Cert.MlpIdeal Cert.MlpIdeal.Gen Cert.MlpModel
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Held

variable (c : Dev nD) {i1 : Memref sig .tc .vmem S256x1024 .f32}

/-- The input blocks. -/
def ownsIns (arg1 : Memref sig .tc .vmem S256x1024 .f32) (arg2 : Memref sig .tc .vmem S256x512 .f32) (arg3 : Memref sig .tc .vmem S256x512 .bf16)
    (arg4 : Memref sig .tc .vmem S256x2048 .f32) (arg5 : Memref sig .tc .vmem S1x2048 .f32) (arg9 : Memref sig .tc .vmem S256x1024 .f32)
    (arg12 arg13 arg14 arg15 : Memref sig .tc .vmem S1x1024 .f32) (B : Ins F) : sProp 𝕄 :=
  iprop(owns (c : Thread nD τ) arg1 fullShare B.x ∗ owns (c : Thread nD τ) arg2 fullShare B.osb ∗ owns (c : Thread nD τ) arg3 fullShare B.oca
    ∗ owns (c : Thread nD τ) arg4 fullShare B.lg ∗ owns (c : Thread nD τ) arg5 fullShare B.bg ∗ owns (c : Thread nD τ) arg9 fullShare B.tgt
    ∗ owns (c : Thread nD τ) arg12 fullShare B.g1 ∗ owns (c : Thread nD τ) arg13 fullShare B.b1 ∗ owns (c : Thread nD τ) arg14 fullShare B.g2
    ∗ owns (c : Thread nD τ) arg15 fullShare B.b2)

/-- The weights. -/
def ownsWts (arg26 : Memref sig .tc .vmem S1024x4096 .bf16) (arg27 : Memref sig .tc .vmem S4096x1024 .bf16)
    (arg30 arg31 : Memref sig .tc .vmem S512x1024 .bf16) (arg32 : Memref sig .tc .vmem S1024x1024 .bf16) (W : Wts F) : sProp 𝕄 :=
  iprop(owns (c : Thread nD τ) arg26 fullShare W.win ∗ owns (c : Thread nD τ) arg27 fullShare W.wout ∗ owns (c : Thread nD τ) arg30 fullShare W.wsb
    ∗ owns (c : Thread nD τ) arg31 fullShare W.wca ∗ owns (c : Thread nD τ) arg32 fullShare W.wproj)

/-- The sums. -/
def ownsSums (arg21 : Memref sig .tc .vmem S1x1 .f32) (arg22 arg23 arg24 arg25 : Memref sig .tc .vmem S1x1024 .f32) (S : Sums F) : sProp 𝕄 :=
  iprop(owns (c : Thread nD τ) arg21 fullShare S.loss ∗ owns (c : Thread nD τ) arg22 fullShare S.dg2 ∗ owns (c : Thread nD τ) arg23 fullShare S.db2
    ∗ owns (c : Thread nD τ) arg24 fullShare S.dg1 ∗ owns (c : Thread nD τ) arg25 fullShare S.db1)

/-- Some weights, and some sums. -/
def someWts (arg26 : Memref sig .tc .vmem S1024x4096 .bf16) (arg27 : Memref sig .tc .vmem S4096x1024 .bf16)
    (arg30 arg31 : Memref sig .tc .vmem S512x1024 .bf16) (arg32 : Memref sig .tc .vmem S1024x1024 .bf16) : sProp 𝕄 :=
  iprop((∃ d, owns (c : Thread nD τ) arg26 fullShare d) ∗ (∃ d, owns (c : Thread nD τ) arg27 fullShare d) ∗ (∃ d, owns (c : Thread nD τ) arg30 fullShare d)
    ∗ (∃ d, owns (c : Thread nD τ) arg31 fullShare d) ∗ (∃ d, owns (c : Thread nD τ) arg32 fullShare d))

/-- The outputs stored block by block. -/
def ownsOuts (arg16 : Memref sig .tc .vmem S256x4096 .bf16) (arg17 : Memref sig .tc .vmem S256x1024 .bf16) (arg18 : Memref sig .tc .vmem S256x4096 .bf16)
    (arg19 : Memref sig .tc .vmem S256x1024 .bf16) (arg20 : Memref sig .tc .vmem S256x1024 .f32) (B : Ins F) (W : Wts F) : sProp 𝕄 :=
  iprop(owns (c : Thread nD τ) arg16 fullShare (act B W) ∗ owns (c : Thread nD τ) arg17 fullShare (x1b B W) ∗ owns (c : Thread nD τ) arg18 fullShare (dh B W)
    ∗ owns (c : Thread nD τ) arg19 fullShare (du2b B W) ∗ owns (c : Thread nD τ) arg20 fullShare (du1 B W))

end Held

section Body

variable (c : Dev nD) (i : grid0.Coords)
  (arg1 : Memref sig .tc .vmem S256x1024 .f32) (harg1 : arg1.IsWhole)
  (arg2 : Memref sig .tc .vmem S256x512 .f32) (harg2 : arg2.IsWhole)
  (arg3 : Memref sig .tc .vmem S256x512 .bf16) (harg3 : arg3.IsWhole)
  (arg4 : Memref sig .tc .vmem S256x2048 .f32) (harg4 : arg4.IsWhole)
  (arg5 : Memref sig .tc .vmem S1x2048 .f32) (harg5 : arg5.IsWhole)
  (arg9 : Memref sig .tc .vmem S256x1024 .f32) (harg9 : arg9.IsWhole)
  (arg12 : Memref sig .tc .vmem S1x1024 .f32) (harg12 : arg12.IsWhole)
  (arg13 : Memref sig .tc .vmem S1x1024 .f32) (harg13 : arg13.IsWhole)
  (arg14 : Memref sig .tc .vmem S1x1024 .f32) (harg14 : arg14.IsWhole)
  (arg15 : Memref sig .tc .vmem S1x1024 .f32) (harg15 : arg15.IsWhole)
  (arg16 : Memref sig .tc .vmem S256x4096 .bf16) (harg16 : arg16.IsWhole)
  (arg17 : Memref sig .tc .vmem S256x1024 .bf16) (harg17 : arg17.IsWhole)
  (arg18 : Memref sig .tc .vmem S256x4096 .bf16) (harg18 : arg18.IsWhole)
  (arg19 : Memref sig .tc .vmem S256x1024 .bf16) (harg19 : arg19.IsWhole)
  (arg20 : Memref sig .tc .vmem S256x1024 .f32) (harg20 : arg20.IsWhole)
  (arg21 : Memref sig .tc .vmem S1x1 .f32) (harg21 : arg21.IsWhole)
  (arg22 : Memref sig .tc .vmem S1x1024 .f32) (harg22 : arg22.IsWhole)
  (arg23 : Memref sig .tc .vmem S1x1024 .f32) (harg23 : arg23.IsWhole)
  (arg24 : Memref sig .tc .vmem S1x1024 .f32) (harg24 : arg24.IsWhole)
  (arg25 : Memref sig .tc .vmem S1x1024 .f32) (harg25 : arg25.IsWhole)
  (arg26 : Memref sig .tc .vmem S1024x4096 .bf16) (harg26 : arg26.IsWhole)
  (arg27 : Memref sig .tc .vmem S4096x1024 .bf16) (harg27 : arg27.IsWhole)
  (arg29 : Memref sig .tc .vmem S256x4096 .f32) (harg29 : arg29.IsWhole)
  (arg30 : Memref sig .tc .vmem S512x1024 .bf16) (harg30 : arg30.IsWhole)
  (arg31 : Memref sig .tc .vmem S512x1024 .bf16) (harg31 : arg31.IsWhole)
  (arg32 : Memref sig .tc .vmem S1024x1024 .bf16) (harg32 : arg32.IsWhole)

local notation "insAt" => ownsIns c arg1 arg2 arg3 arg4 arg5 arg9 arg12 arg13 arg14 arg15
local notation "wtsAt" => ownsWts c arg26 arg27 arg30 arg31 arg32
local notation "sumsAt" => ownsSums c arg21 arg22 arg23 arg24 arg25
local notation "outsAt" => ownsOuts c arg16 arg17 arg18 arg19 arg20

set_option maxHeartbeats 4000000 in
/-- A point's work, from what its opening leaves. -/
theorem body (B : Ins F) (W : Wts F) (S : Sums F) (x16 x18 : FVec F S256x4096 .bf16) (x17 x19 : FVec F S256x1024 .bf16) (x20 : FVec F S256x1024 .f32)
    (x29 : FVec F S256x4096 .f32) (P R : sProp 𝕄) (Q : PUnit → sProp 𝕄)
    (hopen : ∀ Q' : (Σ' (v28 : FVec F S256x1024 .f32), FVec F S256x1024 .f32) → sProp 𝕄,
      iprop((insAt B ∗ P) ∗ ((insAt B ∗ wtsAt W ∗ sumsAt S ∗ R) -∗ Q' ⟨u1 B W, c1 B W⟩))
        ⊢ wp frame (wpE (defs₀ (F := F)) Variants.none c none) Set.univ (k0_part11 (F := F) i arg1 harg1 arg2 harg2 arg3 harg3 arg4 harg4 arg5 harg5 (Memref.whole main_v3) (Memref.isWhole_whole _) (Memref.whole main_v6) (Memref.isWhole_whole _) (Memref.whole main_v7) (Memref.isWhole_whole _) arg9 harg9 (Memref.whole main_v10) (Memref.isWhole_whole _) (Memref.whole main_v11) (Memref.isWhole_whole _) arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 cc0_scratch2 arg29 harg29 arg30 harg30 arg31 harg31 arg32 harg32 cc0_scratch7) Q') :
    iprop(((insAt B ∗ P) ∗ owns (c : Thread nD τ) arg16 fullShare x16 ∗ owns (c : Thread nD τ) arg17 fullShare x17 ∗ owns (c : Thread nD τ) arg18 fullShare x18
        ∗ owns (c : Thread nD τ) arg19 fullShare x19 ∗ owns (c : Thread nD τ) arg20 fullShare x20 ∗ owns (c : Thread nD τ) arg29 fullShare x29)
      ∗ ((insAt B ∗ wtsAt W ∗ sumsAt (summed B W S) ∗ outsAt B W ∗ R ∗ (∃ d, owns (c : Thread nD τ) arg29 fullShare d)) -∗ Q ⟨⟩))
    ⊢ wp frame (wpE (defs₀ (F := F)) Variants.none c none) Set.univ (cc0_mlp (F := F) i arg1 harg1 arg2 harg2 arg3 harg3 arg4 harg4 arg5 harg5 (Memref.whole main_v3) (Memref.isWhole_whole _) (Memref.whole main_v6) (Memref.isWhole_whole _) (Memref.whole main_v7) (Memref.isWhole_whole _) arg9 harg9 (Memref.whole main_v10) (Memref.isWhole_whole _) (Memref.whole main_v11) (Memref.isWhole_whole _) arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 cc0_scratch2 arg29 harg29 arg30 harg30 arg31 harg31 arg32 harg32 cc0_scratch7) Q := by
  simp only [cc0_mlp_eq_skeleton]
  unfold cc0_mlp_skel
  rw [wp_bind]
  iintro ⟨⟨HP, H16, H17, H18, H19, H20, H29⟩, HK⟩
  iapply (hopen _)
  isplitl [HP]; · iexact HP
  unfold ownsIns ownsWts ownsSums ownsOuts
  iintro ⟨⟨H1, H2, H3, H4, H5, H9, H12, H13, H14, H15⟩, ⟨H26, H27, H30, H31, H32⟩, ⟨H21, H22, H23, H24, H25⟩, HR⟩
  simp only [k0_part12_eq_skeleton, k0_part13_eq_skeleton, k0_part14_eq_skeleton, k0_part15_eq_skeleton, k0_part16_eq_skeleton, k0_part17_eq_skeleton, k0_part18_eq_skeleton, k0_part19_eq_skeleton]
  unfold owns
  icases H9 with ⟨%f9, %hf9, H9⟩
  icases H12 with ⟨%f12, %hf12, H12⟩
  icases H13 with ⟨%f13, %hf13, H13⟩
  icases H14 with ⟨%f14, %hf14, H14⟩
  icases H15 with ⟨%f15, %hf15, H15⟩
  icases H16 with ⟨%f16, %hf16, H16⟩
  icases H17 with ⟨%f17, %hf17, H17⟩
  icases H18 with ⟨%f18, %hf18, H18⟩
  icases H19 with ⟨%f19, %hf19, H19⟩
  icases H20 with ⟨%f20, %hf20, H20⟩
  icases H21 with ⟨%f21, %hf21, H21⟩
  icases H22 with ⟨%f22, %hf22, H22⟩
  icases H23 with ⟨%f23, %hf23, H23⟩
  icases H24 with ⟨%f24, %hf24, H24⟩
  icases H25 with ⟨%f25, %hf25, H25⟩
  icases H26 with ⟨%f26, %hf26, H26⟩
  icases H27 with ⟨%f27, %hf27, H27⟩
  icases H29 with ⟨%f29, %hf29, H29⟩
  obtain rfl := harg9.eq_unread hf9; obtain rfl := harg12.eq_unread hf12; obtain rfl := harg13.eq_unread hf13; obtain rfl := harg14.eq_unread hf14; obtain rfl := harg15.eq_unread hf15; obtain rfl := harg16.eq_unread hf16; obtain rfl := harg17.eq_unread hf17; obtain rfl := harg18.eq_unread hf18; obtain rfl := harg19.eq_unread hf19; obtain rfl := harg20.eq_unread hf20; obtain rfl := harg21.eq_unread hf21; obtain rfl := harg22.eq_unread hf22; obtain rfl := harg23.eq_unread hf23; obtain rfl := harg24.eq_unread hf24; obtain rfl := harg25.eq_unread hf25; obtain rfl := harg26.eq_unread hf26; obtain rfl := harg27.eq_unread hf27; obtain rfl := harg29.eq_unread hf29
  sl_exec
  sl_step
  have h9 : View.readAt (Elt F) arg9.view (Rect.unit ![0, 0] S256x1024.size inb_S256x1024_S256x1024_0_0).toLoadRect (harg9.unread B.tgt) = B.tgt :=
    (View.readAt_full _ _ _).trans (harg9.read_unread _)
  have h12 : View.readAt (Elt F) arg12.view (Rect.unit ![0, 0] S1x1024.size inb_S1x1024_S1x1024_0_0).toLoadRect (harg12.unread B.g1) = B.g1 :=
    (View.readAt_full _ _ _).trans (harg12.read_unread _)
  have h13 : View.readAt (Elt F) arg13.view (Rect.unit ![0, 0] S1x1024.size inb_S1x1024_S1x1024_0_0).toLoadRect (harg13.unread B.b1) = B.b1 :=
    (View.readAt_full _ _ _).trans (harg13.read_unread _)
  have h14 : View.readAt (Elt F) arg14.view (Rect.unit ![0, 0] S1x1024.size inb_S1x1024_S1x1024_0_0).toLoadRect (harg14.unread B.g2) = B.g2 :=
    (View.readAt_full _ _ _).trans (harg14.read_unread _)
  have h15 : View.readAt (Elt F) arg15.view (Rect.unit ![0, 0] S1x1024.size inb_S1x1024_S1x1024_0_0).toLoadRect (harg15.unread B.b2) = B.b2 :=
    (View.readAt_full _ _ _).trans (harg15.read_unread _)
  have h21 : View.readAt (Elt F) arg21.view (Rect.unit ![0, 0] S1x1.size inb_S1x1_S1x1_0_0).toLoadRect (harg21.unread S.loss) = S.loss :=
    (View.readAt_full _ _ _).trans (harg21.read_unread _)
  have h22 : View.readAt (Elt F) arg22.view (Rect.unit ![0, 0] S1x1024.size inb_S1x1024_S1x1024_0_0).toLoadRect (harg22.unread S.dg2) = S.dg2 :=
    (View.readAt_full _ _ _).trans (harg22.read_unread _)
  have h23 : View.readAt (Elt F) arg23.view (Rect.unit ![0, 0] S1x1024.size inb_S1x1024_S1x1024_0_0).toLoadRect (harg23.unread S.db2) = S.db2 :=
    (View.readAt_full _ _ _).trans (harg23.read_unread _)
  have h24 : View.readAt (Elt F) arg24.view (Rect.unit ![0, 0] S1x1024.size inb_S1x1024_S1x1024_0_0).toLoadRect (harg24.unread S.dg1) = S.dg1 :=
    (View.readAt_full _ _ _).trans (harg24.read_unread _)
  have h25 : View.readAt (Elt F) arg25.view (Rect.unit ![0, 0] S1x1024.size inb_S1x1024_S1x1024_0_0).toLoadRect (harg25.unread S.db1) = S.db1 :=
    (View.readAt_full _ _ _).trans (harg25.read_unread _)
  have hin : View.readAt (Elt F) arg26.view (Rect.unit ![0, 0] S1024x4096.size inb_S1024x4096_S1024x4096_0_0).toLoadRect (harg26.unread W.win) = W.win :=
    (View.readAt_full _ _ _).trans (harg26.read_unread _)
  have hout : View.readAt (Elt F) arg27.view (Rect.unit ![0, 0] S4096x1024.size inb_S4096x1024_S4096x1024_0_0).toLoadRect (harg27.unread W.wout) = W.wout :=
    (View.readAt_full _ _ _).trans (harg27.read_unread _)
  have hw : ∀ (k : Fin 8) {off : Fin 2 → ℕ} (ho : off = ![0, 512 * k.val]) (inb),
      View.readAt (Elt F) arg26.view (Rect.unit (s := S1024x4096) off S1024x512.size inb).toLoadRect (harg26.unread W.win) = slab (n := 1024) rfl W.win k :=
    fun k off ho inb => (slab_read (n := 1024) (t := 4096) rfl _ k ho inb).trans (by rw [harg26.read_unread])
  have hv : ∀ (k : Fin 8) {off : Fin 2 → ℕ} (ho : off = ![512 * k.val, 0]) (inb),
      View.readAt (Elt F) arg27.view (Rect.unit (s := S4096x1024) off S512x1024.size inb).toLoadRect (harg27.unread W.wout) = band (n := 1024) rfl W.wout k :=
    fun k off ho inb => (band_read (n := 1024) (t := 4096) rfl _ k ho inb).trans (by rw [harg27.read_unread])
  have e2 : body.sl.r_2 c arg12 harg12 arg13 harg13 B W = x1 B W := by unfold body.sl.r_2; rw [h12, h13]; rfl
  have e3 : body.sl.r_3 c arg12 harg12 arg13 harg13 B W = x1b B W := by unfold body.sl.r_3; rw [h12, h13]; rfl
  have e4 : body.sl.r_4 c arg12 harg12 arg13 harg13 arg26 harg26 B W = hid B W 1 := by unfold body.sl.r_4; rw [h12, h13, hw 1 (off := ![0, 512]) rfl]; rfl
  have e5 : body.sl.r_5 c arg12 harg12 arg13 harg13 arg26 harg26 B W = hid B W 4 := by unfold body.sl.r_5; rw [e3, hw 4 (off := ![0, 2048]) rfl]; rfl
  have e6 : body.sl.r_6 c arg12 harg12 arg13 harg13 arg26 harg26 B W = hid B W 7 := by unfold body.sl.r_6; rw [e3, hw 7 (off := ![0, 3584]) rfl]; rfl
  have e16 : body.sl.H16_8 c arg12 harg12 arg13 harg13 arg26 harg26 B W = slabPieces (n := 256) (w := 512) (t := 4096) (fun k => k0_pay20 (hid B W k)) (inb8 rfl) := by
    unfold body.sl.H16_8; simp only [e3, e4, e5, e6, h12, h13, hw 0 (off := ![0, 0]) rfl, hw 1 (off := ![0, 512]) rfl, hw 2 (off := ![0, 1024]) rfl, hw 3 (off := ![0, 1536]) rfl, hw 4 (off := ![0, 2048]) rfl, hw 5 (off := ![0, 2560]) rfl, hw 6 (off := ![0, 3072]) rfl, hw 7 (off := ![0, 3584]) rfl]; rfl
  have e29 : body.sl.H29_8 c arg12 harg12 arg13 harg13 arg26 harg26 B W = slabPieces (n := 256) (w := 512) (t := 4096) (relu B W) (inb8 rfl) := by
    unfold body.sl.H29_8; simp only [e3, e4, e5, e6, h12, h13, hw 0 (off := ![0, 0]) rfl, hw 1 (off := ![0, 512]) rfl, hw 2 (off := ![0, 1024]) rfl, hw 3 (off := ![0, 1536]) rfl, hw 4 (off := ![0, 2048]) rfl, hw 5 (off := ![0, 2560]) rfl, hw 6 (off := ![0, 3072]) rfl, hw 7 (off := ![0, 3584]) rfl]; rfl
  have ev137 : body.sl.v137 c arg12 harg12 arg13 harg13 arg16 arg26 harg26 B W = act B W := by
    unfold body.sl.v137 View.readCov; rw [e16]; exact (View.readAt_full _ _ _).trans (beside_read (n := 256) (w := 512) (t := 4096) rfl _ _)
  have er : ∀ (k : Fin 8) {off : Fin 2 → ℕ} (ho : off = ![0, 512 * k.val]) (inb),
      arg29.view.readCov (body.sl.H29_8 c arg12 harg12 arg13 harg13 arg26 harg26 B W) (Rect.unit (s := S256x4096) off S256x512.size inb).toLoadRect = relu B W k := fun k off ho inb => by
    unfold View.readCov
    rw [e29]
    exact (slab_read (n := 256) (w := 512) (t := 4096) rfl _ k ho inb).trans ((congrArg (fun x => slab (n := 256) (w := 512) (t := 4096) rfl x k) (beside_read (n := 256) (w := 512) (t := 4096) rfl _ _)).trans (slab_beside (n := 256) (w := 512) (t := 4096) rfl _ k))
  have ev220 : body.sl.v220 c arg12 harg12 arg13 harg13 arg26 harg26 arg29 B W = relu B W 0 := by unfold body.sl.v220; exact er 0 rfl _
  have ev228 : body.sl.v228 c arg12 harg12 arg13 harg13 arg26 harg26 arg29 B W = relu B W 1 := by unfold body.sl.v228; exact er 1 rfl _
  have ev236 : body.sl.v236 c arg12 harg12 arg13 harg13 arg26 harg26 arg29 B W = relu B W 2 := by unfold body.sl.v236; exact er 2 rfl _
  have ev244 : body.sl.v244 c arg12 harg12 arg13 harg13 arg26 harg26 arg29 B W = relu B W 3 := by unfold body.sl.v244; exact er 3 rfl _
  have ev252 : body.sl.v252 c arg12 harg12 arg13 harg13 arg26 harg26 arg29 B W = relu B W 4 := by unfold body.sl.v252; exact er 4 rfl _
  have ev260 : body.sl.v260 c arg12 harg12 arg13 harg13 arg26 harg26 arg29 B W = relu B W 5 := by unfold body.sl.v260; exact er 5 rfl _
  have ev268 : body.sl.v268 c arg12 harg12 arg13 harg13 arg26 harg26 arg29 B W = relu B W 6 := by unfold body.sl.v268; exact er 6 rfl _
  have ev276 : body.sl.v276 c arg12 harg12 arg13 harg13 arg26 harg26 arg29 B W = relu B W 7 := by unfold body.sl.v276; exact er 7 rfl _
  have e7 : body.sl.r_7 c arg12 harg12 arg13 harg13 arg16 arg26 harg26 arg27 harg27 B W = rstd2 B W := by unfold body.sl.r_7; rw [e2, ev137, hout]; rfl
  have e8 : body.sl.r_8 c arg12 harg12 arg13 harg13 arg16 arg26 harg26 arg27 harg27 B W = xhat2 B W := by unfold body.sl.r_8; rw [e2, ev137, hout]; rfl
  have e9 : body.sl.r_9 c arg12 harg12 arg13 harg13 arg14 harg14 arg15 harg15 arg16 arg26 harg26 arg27 harg27 B W = y2 B W := by unfold body.sl.r_9; rw [e2, ev137, hout, h14, h15]; rfl
  have e10 : body.sl.r_10 c arg9 harg9 B = B.tgt := by unfold body.sl.r_10; exact h9
  have e11 : body.sl.r_11 c arg9 harg9 arg12 harg12 arg13 harg13 arg14 harg14 arg15 harg15 arg16 arg26 harg26 arg27 harg27 B W = dyg2 B W := by unfold body.sl.r_11; rw [e9, e10, h14]; rfl
  have e12 : body.sl.r_12 c arg9 harg9 arg12 harg12 arg13 harg13 arg14 harg14 arg15 harg15 arg16 arg26 harg26 arg27 harg27 B W = sum2 B W := by unfold body.sl.r_12; rw [e9, e10, h14]; rfl
  have e13 : body.sl.r_13 c arg9 harg9 arg12 harg12 arg13 harg13 arg14 harg14 arg15 harg15 arg16 arg26 harg26 arg27 harg27 B W = du2 B W := by unfold body.sl.r_13; rw [e7, e8, e11, e12]; rfl
  have e14 : body.sl.r_14 c arg9 harg9 arg12 harg12 arg13 harg13 arg14 harg14 arg15 harg15 arg16 arg26 harg26 arg27 harg27 B W = du2b B W := by unfold body.sl.r_14; rw [e7, e8, e11, e12]; rfl
  have e18 : body.sl.H18_8 c arg9 harg9 arg12 harg12 arg13 harg13 arg14 harg14 arg15 harg15 arg16 arg26 harg26 arg27 harg27 arg29 B W = slabPieces (n := 256) (w := 512) (t := 4096) (dhid B W) (inb8 rfl) := by
    unfold body.sl.H18_8; try unfold body.sl.r_15
    try unfold body.sl.r_16
    simp only [e7, e8, e11, e12, e14, ev220, ev228, ev236, ev244, ev252, ev260, ev268, ev276, hv 0 (off := ![0, 0]) rfl, hv 1 (off := ![512, 0]) rfl, hv 2 (off := ![1024, 0]) rfl, hv 3 (off := ![1536, 0]) rfl, hv 4 (off := ![2048, 0]) rfl, hv 5 (off := ![2560, 0]) rfl, hv 6 (off := ![3072, 0]) rfl, hv 7 (off := ![3584, 0]) rfl]; rfl
  have ev284 : body.sl.v284 c arg9 harg9 arg12 harg12 arg13 harg13 arg14 harg14 arg15 harg15 arg16 arg18 arg26 harg26 arg27 harg27 arg29 B W = dh B W := by
    unfold body.sl.v284 View.readCov; rw [e18]; exact (View.readAt_full _ _ _).trans (beside_read (n := 256) (w := 512) (t := 4096) rfl _ _)
  have e17 : body.sl.r_17 c arg9 harg9 arg12 harg12 arg13 harg13 arg14 harg14 arg15 harg15 arg16 arg18 arg26 harg26 arg27 harg27 arg29 B W = dx1 B W := by unfold body.sl.r_17; rw [e13, ev284, hin]; rfl
  iapply HK
  isplitl [H1 H2 H3 H4 H5 H9 H12 H13 H14 H15]
  · iframe H1 H2 H3 H4 H5
    isplitl [H9]; · iexists _; isplitr; rotate_left; · iexact H9
                    ipureintro; exact harg9.read_unread _
    isplitl [H12]; · iexists _; isplitr; rotate_left; · iexact H12
                     ipureintro; exact harg12.read_unread _
    isplitl [H13]; · iexists _; isplitr; rotate_left; · iexact H13
                     ipureintro; exact harg13.read_unread _
    isplitl [H14]; · iexists _; isplitr; rotate_left; · iexact H14
                     ipureintro; exact harg14.read_unread _
    iexists _; isplitr; rotate_left; · iexact H15
    ipureintro; exact harg15.read_unread _
  isplitl [H26 H27 H30 H31 H32]
  · iframe H30 H31 H32
    isplitl [H26]; · iexists _; isplitr; rotate_left; · iexact H26
                     ipureintro; exact harg26.read_unread _
    iexists _; isplitr; rotate_left; · iexact H27
    ipureintro; exact harg27.read_unread _
  isplitl [H21 H22 H23 H24 H25]
  · isplitl [H21]
    · iexists _; isplitr; rotate_left; · iexact H21
      ipureintro
      refine (View.read_writes_full _ _ _ _ _).trans ?_
      try simp only [e2, e3, e4, e7, e8, e9, e10, e11, e12, e13, e14, e17, ev284, hin, h9, h12, h13, h14, h15, h21, h22, h23, h24, h25]
      first | rfl | (unfold body.sl.r_18; simp only [e2, e3, e4, e7, e8, e9, e10, e11, e12, e13, e14, e17, ev284, hin, h9, h12, h13, h14, h15, h21, h22, h23, h24, h25]; rfl) | sl_kernel_rfl
    isplitl [H22]
    · iexists _; isplitr; rotate_left; · iexact H22
      ipureintro
      refine (View.read_writes_full _ _ _ _ _).trans ?_
      try simp only [e2, e3, e4, e7, e8, e9, e10, e11, e12, e13, e14, e17, ev284, hin, h9, h12, h13, h14, h15, h21, h22, h23, h24, h25]
      first | rfl | (unfold body.sl.r_18; simp only [e2, e3, e4, e7, e8, e9, e10, e11, e12, e13, e14, e17, ev284, hin, h9, h12, h13, h14, h15, h21, h22, h23, h24, h25]; rfl) | sl_kernel_rfl
    isplitl [H23]
    · iexists _; isplitr; rotate_left; · iexact H23
      ipureintro
      refine (View.read_writes_full _ _ _ _ _).trans ?_
      try simp only [e2, e3, e4, e7, e8, e9, e10, e11, e12, e13, e14, e17, ev284, hin, h9, h12, h13, h14, h15, h21, h22, h23, h24, h25]
      first | rfl | (unfold body.sl.r_18; simp only [e2, e3, e4, e7, e8, e9, e10, e11, e12, e13, e14, e17, ev284, hin, h9, h12, h13, h14, h15, h21, h22, h23, h24, h25]; rfl) | sl_kernel_rfl
    isplitl [H24]
    · iexists _; isplitr; rotate_left; · iexact H24
      ipureintro
      refine (View.read_writes_full _ _ _ _ _).trans ?_
      try simp only [e2, e3, e4, e7, e8, e9, e10, e11, e12, e13, e14, e17, ev284, hin, h9, h12, h13, h14, h15, h21, h22, h23, h24, h25]
      first | rfl | (unfold body.sl.r_18; simp only [e2, e3, e4, e7, e8, e9, e10, e11, e12, e13, e14, e17, ev284, hin, h9, h12, h13, h14, h15, h21, h22, h23, h24, h25]; rfl) | sl_kernel_rfl
    iexists _; isplitr; rotate_left; · iexact H25
    · ipureintro
      refine (View.read_writes_full _ _ _ _ _).trans ?_
      try simp only [e2, e3, e4, e7, e8, e9, e10, e11, e12, e13, e14, e17, ev284, hin, h9, h12, h13, h14, h15, h21, h22, h23, h24, h25]
      first | rfl | (unfold body.sl.r_18; simp only [e2, e3, e4, e7, e8, e9, e10, e11, e12, e13, e14, e17, ev284, hin, h9, h12, h13, h14, h15, h21, h22, h23, h24, h25]; rfl) | sl_kernel_rfl
  isplitl [H16 H17 H18 H19 H20]
  · isplitl [H16]
    · iexists _; isplitr; rotate_left; · iexact H16
      ipureintro
      rw [e16]; exact beside_read (n := 256) (w := 512) (t := 4096) rfl _ _
    isplitl [H17]
    · iexists _; isplitr; rotate_left; · iexact H17
      ipureintro
      refine (View.read_writes_full _ _ _ _ _).trans ?_
      try simp only [e2, e3, e4, e7, e8, e9, e10, e11, e12, e13, e14, e17, ev284, hin, h9, h12, h13, h14, h15, h21, h22, h23, h24, h25]
      first | rfl | (unfold body.sl.r_18; simp only [e2, e3, e4, e7, e8, e9, e10, e11, e12, e13, e14, e17, ev284, hin, h9, h12, h13, h14, h15, h21, h22, h23, h24, h25]; rfl) | sl_kernel_rfl
    isplitl [H18]
    · iexists _; isplitr; rotate_left; · iexact H18
      ipureintro
      rw [e18]; exact beside_read (n := 256) (w := 512) (t := 4096) rfl _ _
    isplitl [H19]
    · iexists _; isplitr; rotate_left; · iexact H19
      ipureintro
      refine (View.read_writes_full _ _ _ _ _).trans ?_
      try simp only [e2, e3, e4, e7, e8, e9, e10, e11, e12, e13, e14, e17, ev284, hin, h9, h12, h13, h14, h15, h21, h22, h23, h24, h25]
      first | rfl | (unfold body.sl.r_18; simp only [e2, e3, e4, e7, e8, e9, e10, e11, e12, e13, e14, e17, ev284, hin, h9, h12, h13, h14, h15, h21, h22, h23, h24, h25]; rfl) | sl_kernel_rfl
    iexists _; isplitr; rotate_left; · iexact H20
    · ipureintro
      refine (View.read_writes_full _ _ _ _ _).trans ?_
      try simp only [e2, e3, e4, e7, e8, e9, e10, e11, e12, e13, e14, e17, ev284, hin, h9, h12, h13, h14, h15, h21, h22, h23, h24, h25]
      first | rfl | (unfold body.sl.r_18; simp only [e2, e3, e4, e7, e8, e9, e10, e11, e12, e13, e14, e17, ev284, hin, h9, h12, h13, h14, h15, h21, h22, h23, h24, h25]; rfl) | sl_kernel_rfl
  isplitl [HR]; · iexact HR
  iexists (View.read (Elt F) arg29.view (arg29.view.writes (Elt F) (harg29.unread x29) (body.sl.H29_8 c arg12 harg12 arg13 harg13 arg26 harg26 B W))); iexists _; isplitr; rotate_left; · iexact H29
  ipureintro; rfl

end Body

end Cert.MlpRun

end
-- ==== Proof.Mlp.Opens.lean ====
module

public import proofs.«01_k».proof.Proof.Gen.MlpIdeal.Frame.Runs
public import Idealize.ShloMosaic.Lib.Pointwise.Index
public import proofs.«01_k».proof.Proof.Mlp.Model
public import proofs.«01_k».proof.Proof.Mlp.Body
public import Idealize.ShloMosaic.Lib.Pipeline.ReadBack
public import Idealize.ShloMosaic.Lib.Exec
public import Idealize.ShloMosaic.Lib.Tactic

@[expose] public section

set_option maxRecDepth 16384

noncomputable section

namespace Cert.MlpRun

open Cert.MlpIdeal Cert.MlpIdeal.Gen Cert.MlpModel
open Idealize Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Held

variable (c : Dev nD)

/-- The cells of the copies, at rest. -/
def cells : sProp 𝕄 := iprop(semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0 ∗ semVal ((c : Thread nD τ), SemLoc.dma 40) 0 ∗ semVal ((c : Thread nD τ), SemLoc.dma 41) 0 ∗ semVal ((c : Thread nD τ), SemLoc.dma 42) 0 ∗ semVal ((c : Thread nD τ), SemLoc.dma 43) 0 ∗ semVal ((c : Thread nD τ), SemLoc.dma 44) 0 ∗ semVal ((c : Thread nD τ), SemLoc.dma 45) 0 ∗ semVal ((c : Thread nD τ), SemLoc.dma 46) 0 ∗ semVal ((c : Thread nD τ), SemLoc.dma 47) 0 ∗ semVal ((c : Thread nD τ), SemLoc.dma 48) 0 ∗ semVal ((c : Thread nD τ), SemLoc.dma 49) 0 ∗ semVal ((c : Thread nD τ), SemLoc.dma 50) 0 ∗ semVal ((c : Thread nD τ), SemLoc.dma 51) 0 ∗ semVal ((c : Thread nD τ), SemLoc.dma 52) 0 ∗ semVal ((c : Thread nD τ), SemLoc.dma 53) 0 ∗ semVal ((c : Thread nD τ), SemLoc.dma 54) 0 ∗ semVal ((c : Thread nD τ), SemLoc.dma 55) 0)

/-- The weights where they lie. -/
def lying (f0 : HbBuf0 (F := F) c hbM0_0) (f1 : HbBuf0 (F := F) c hbM0_1) (f2 : HbBuf0 (F := F) c hbM0_2) (f3 : HbBuf0 (F := F) c hbM0_3)
    (f4 : HbBuf0 (F := F) c hbM0_4) : sProp 𝕄 :=
  iprop(hbPt0 c hbM0_0 f0 ∗ hbPt0 c hbM0_1 f1 ∗ hbPt0 c hbM0_2 f2 ∗ hbPt0 c hbM0_3 f3 ∗ hbPt0 c hbM0_4 f4)

/-- Some sums. -/
def someSums (arg21 : Memref sig .tc .vmem S1x1 .f32) (arg22 arg23 arg24 arg25 : Memref sig .tc .vmem S1x1024 .f32) : sProp 𝕄 :=
  iprop((∃ d, owns (c : Thread nD τ) arg21 fullShare d) ∗ (∃ d, owns (c : Thread nD τ) arg22 fullShare d) ∗ (∃ d, owns (c : Thread nD τ) arg23 fullShare d)
    ∗ (∃ d, owns (c : Thread nD τ) arg24 fullShare d) ∗ (∃ d, owns (c : Thread nD τ) arg25 fullShare d))

end Held

/-- A stack of planes set side by side. -/
def planes {α : Type} {n w t : ℕ} (ht : t = 8 * w) (x : (⟨3, ![8, n, w]⟩ : Shape).Idx → α) : (Mat n t).Idx → α := beside ht fun k j => x (ix3 k (j 0) (j 1))

/-- The weights as the first point lays them. -/
def laid (c : Dev nD) (f0 : HbBuf0 (F := F) c hbM0_0) (f1 : HbBuf0 (F := F) c hbM0_1) (f2 : HbBuf0 (F := F) c hbM0_2) (f3 : HbBuf0 (F := F) c hbM0_3)
    (f4 : HbBuf0 (F := F) c hbM0_4) : Wts F where
  win := planes (n := 1024) (w := 512) (t := 4096) rfl (hbM0_3.view.read (Elt F) f3)
  wout := hbM0_4.view.read (Elt F) f4
  wsb := planes (n := 512) (w := 128) (t := 1024) rfl (hbM0_0.view.read (Elt F) f0)
  wca := planes (n := 512) (w := 128) (t := 1024) rfl (hbM0_1.view.read (Elt F) f1)
  wproj := hbM0_2.view.read (Elt F) f2

/-- One plane of a stack, as a copy reads it. -/
theorem plane_read {sig : RefSig} {κ : Kind} {sp : Space} {e : EltTy} {Val : EltTy → Type} {n w : ℕ} (M : Memref sig κ sp ⟨3, ![8, n, w]⟩ e) (k : Fin 8)
    {off : Fin 3 → ℕ} (ho : off = ![k.val, 0, 0]) (inb) (hr) (hq : (Rect.unit (s := ⟨3, ![8, n, w]⟩) off ![1, n, w] inb).shape.Squeezes (Mat n w)) (f : M.view.ty.Contents Val) :
    ReadAs.same.apply (((M.slice (Rect.unit (s := ⟨3, ![8, n, w]⟩) off ![1, n, w] inb) hr).squeeze (Mat n w) hq).view.read Val f)
      = fun j => M.view.read Val f (ix3 k (j 0) (j 1)) := by
  subst ho
  funext j
  show M.view.read Val f ((Rect.unit (s := ⟨3, ![8, n, w]⟩) ![k.val, 0, 0] ![1, n, w] inb).emb (Shape.reshapeEquiv hq.numel_eq j)) = _
  rw [show Shape.reshapeEquiv hq.numel_eq j = Fin.cons ⟨0, Nat.one_pos⟩ j from Shape.reshapeEquiv_cons_one (d := ![n, w]) hq.numel_eq j]
  congr 1
  funext a
  match a with
  | 0 => exact Fin.ext (by show k.val + 1 * 0 = k.val; omega)
  | 1 => exact Fin.ext (by show 0 + 1 * (j 0).val = (j 0).val; omega)
  | 2 => exact Fin.ext (by show 0 + 1 * (j 1).val = (j 1).val; omega)

section Opens

variable (c : Dev nD) (i : grid0.Coords)
  (arg1 : Memref sig .tc .vmem S256x1024 .f32) (harg1 : arg1.IsWhole)
  (arg2 : Memref sig .tc .vmem S256x512 .f32) (harg2 : arg2.IsWhole)
  (arg3 : Memref sig .tc .vmem S256x512 .bf16) (harg3 : arg3.IsWhole)
  (arg4 : Memref sig .tc .vmem S256x2048 .f32) (harg4 : arg4.IsWhole)
  (arg5 : Memref sig .tc .vmem S1x2048 .f32) (harg5 : arg5.IsWhole)
  (arg9 : Memref sig .tc .vmem S256x1024 .f32) (harg9 : arg9.IsWhole)
  (arg12 : Memref sig .tc .vmem S1x1024 .f32) (harg12 : arg12.IsWhole)
  (arg13 : Memref sig .tc .vmem S1x1024 .f32) (harg13 : arg13.IsWhole)
  (arg14 : Memref sig .tc .vmem S1x1024 .f32) (harg14 : arg14.IsWhole)
  (arg15 : Memref sig .tc .vmem S1x1024 .f32) (harg15 : arg15.IsWhole)
  (arg16 : Memref sig .tc .vmem S256x4096 .bf16) (harg16 : arg16.IsWhole)
  (arg17 : Memref sig .tc .vmem S256x1024 .bf16) (harg17 : arg17.IsWhole)
  (arg18 : Memref sig .tc .vmem S256x4096 .bf16) (harg18 : arg18.IsWhole)
  (arg19 : Memref sig .tc .vmem S256x1024 .bf16) (harg19 : arg19.IsWhole)
  (arg20 : Memref sig .tc .vmem S256x1024 .f32) (harg20 : arg20.IsWhole)
  (arg21 : Memref sig .tc .vmem S1x1 .f32) (harg21 : arg21.IsWhole)
  (arg22 : Memref sig .tc .vmem S1x1024 .f32) (harg22 : arg22.IsWhole)
  (arg23 : Memref sig .tc .vmem S1x1024 .f32) (harg23 : arg23.IsWhole)
  (arg24 : Memref sig .tc .vmem S1x1024 .f32) (harg24 : arg24.IsWhole)
  (arg25 : Memref sig .tc .vmem S1x1024 .f32) (harg25 : arg25.IsWhole)
  (arg26 : Memref sig .tc .vmem S1024x4096 .bf16) (harg26 : arg26.IsWhole)
  (arg27 : Memref sig .tc .vmem S4096x1024 .bf16) (harg27 : arg27.IsWhole)
  (arg29 : Memref sig .tc .vmem S256x4096 .f32) (harg29 : arg29.IsWhole)
  (arg30 : Memref sig .tc .vmem S512x1024 .bf16) (harg30 : arg30.IsWhole)
  (arg31 : Memref sig .tc .vmem S512x1024 .bf16) (harg31 : arg31.IsWhole)
  (arg32 : Memref sig .tc .vmem S1024x1024 .bf16) (harg32 : arg32.IsWhole)

local notation "insAt" => ownsIns c arg1 arg2 arg3 arg4 arg5 arg9 arg12 arg13 arg14 arg15
local notation "wtsAt" => ownsWts c arg26 arg27 arg30 arg31 arg32
local notation "sumsAt" => ownsSums c arg21 arg22 arg23 arg24 arg25
local notation "wtsSome" => someWts (F := F) c arg26 arg27 arg30 arg31 arg32
local notation "sumsSome" => someSums (F := F) c arg21 arg22 arg23 arg24 arg25

set_option maxHeartbeats 1000000 in
/-- A later point's opening only reads. -/
theorem opens_later (hc0 : ¬cond0_0 i) (B : Ins F) (W : Wts F) (S : Sums F) (R : sProp 𝕄) (Q' : (Σ' (v28 : FVec F S256x1024 .f32), FVec F S256x1024 .f32) → sProp 𝕄) :
    iprop((insAt B ∗ wtsAt W ∗ sumsAt S ∗ R) ∗ ((insAt B ∗ wtsAt W ∗ sumsAt S ∗ R) -∗ Q' ⟨u1 B W, c1 B W⟩))
      ⊢ wp frame (wpE (defs₀ (F := F)) Variants.none c none) Set.univ (k0_part11 (F := F) i arg1 harg1 arg2 harg2 arg3 harg3 arg4 harg4 arg5 harg5 (Memref.whole main_v3) (Memref.isWhole_whole _) (Memref.whole main_v6) (Memref.isWhole_whole _) (Memref.whole main_v7) (Memref.isWhole_whole _) arg9 harg9 (Memref.whole main_v10) (Memref.isWhole_whole _) (Memref.whole main_v11) (Memref.isWhole_whole _) arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 cc0_scratch2 arg29 harg29 arg30 harg30 arg31 harg31 arg32 harg32 cc0_scratch7) Q' := by
  simp only [k0_part11_eq_skeleton]
  unfold ownsIns ownsWts ownsSums
  iintro ⟨⟨⟨H1, H2, H3, H4, H5, H9, H12, H13, H14, H15⟩, ⟨H26, H27, H30, H31, H32⟩, HS, HR⟩, HK⟩
  unfold owns
  icases H1 with ⟨%f1, %hf1, H1⟩
  icases H2 with ⟨%f2, %hf2, H2⟩
  icases H3 with ⟨%f3, %hf3, H3⟩
  icases H4 with ⟨%f4, %hf4, H4⟩
  icases H5 with ⟨%f5, %hf5, H5⟩
  icases H30 with ⟨%f30, %hf30, H30⟩
  icases H31 with ⟨%f31, %hf31, H31⟩
  icases H32 with ⟨%f32, %hf32, H32⟩
  obtain rfl := harg1.eq_unread hf1; obtain rfl := harg2.eq_unread hf2; obtain rfl := harg3.eq_unread hf3; obtain rfl := harg4.eq_unread hf4; obtain rfl := harg5.eq_unread hf5; obtain rfl := harg30.eq_unread hf30; obtain rfl := harg31.eq_unread hf31; obtain rfl := harg32.eq_unread hf32
  sl_exec (disch := first | sl_exact hc0)
  sl_step
  have h1 : View.readAt (Elt F) arg1.view (Rect.unit ![0, 0] S256x1024.size inb_S256x1024_S256x1024_0_0).toLoadRect (harg1.unread B.x) = B.x :=
    (View.readAt_full _ _ _).trans (harg1.read_unread _)
  have h2 : View.readAt (Elt F) arg2.view (Rect.unit ![0, 0] S256x512.size inb_S256x512_S256x512_0_0).toLoadRect (harg2.unread B.osb) = B.osb :=
    (View.readAt_full _ _ _).trans (harg2.read_unread _)
  have h3 : View.readAt (Elt F) arg3.view (Rect.unit ![0, 0] S256x512.size inb_S256x512_S256x512_0_0).toLoadRect (harg3.unread B.oca) = B.oca :=
    (View.readAt_full _ _ _).trans (harg3.read_unread _)
  have h4 : View.readAt (Elt F) arg4.view (Rect.unit ![0, 0] S256x2048.size inb_S256x2048_S256x2048_0_0).toLoadRect (harg4.unread B.lg) = B.lg :=
    (View.readAt_full _ _ _).trans (harg4.read_unread _)
  have h5 : View.readAt (Elt F) arg5.view (Rect.unit ![0, 0] S1x2048.size inb_S1x2048_S1x2048_0_0).toLoadRect (harg5.unread B.bg) = B.bg :=
    (View.readAt_full _ _ _).trans (harg5.read_unread _)
  have h30 : View.readAt (Elt F) arg30.view (Rect.unit ![0, 0] S512x1024.size inb_S512x1024_S512x1024_0_0).toLoadRect (harg30.unread W.wsb) = W.wsb :=
    (View.readAt_full _ _ _).trans (harg30.read_unread _)
  have h31 : View.readAt (Elt F) arg31.view (Rect.unit ![0, 0] S512x1024.size inb_S512x1024_S512x1024_0_0).toLoadRect (harg31.unread W.wca) = W.wca :=
    (View.readAt_full _ _ _).trans (harg31.read_unread _)
  have h32 : View.readAt (Elt F) arg32.view (Rect.unit ![0, 0] S1024x1024.size inb_S1024x1024_S1024x1024_0_0).toLoadRect (harg32.unread W.wproj) = W.wproj :=
    (View.readAt_full _ _ _).trans (harg32.read_unread _)
  rw [h1, h2, h3, h4, h5, h30, h31, h32]
  unfold u1 c1
  iapply HK
  isplitl [H1 H2 H3 H4 H5 H9 H12 H13 H14 H15]
  · isplitl [H1]; · iexists _; isplitr; rotate_left; · iexact H1
                    ipureintro; exact harg1.read_unread _
    isplitl [H2]; · iexists _; isplitr; rotate_left; · iexact H2
                    ipureintro; exact harg2.read_unread _
    isplitl [H3]; · iexists _; isplitr; rotate_left; · iexact H3
                    ipureintro; exact harg3.read_unread _
    isplitl [H4]; · iexists _; isplitr; rotate_left; · iexact H4
                    ipureintro; exact harg4.read_unread _
    isplitl [H5]; · iexists _; isplitr; rotate_left; · iexact H5
                    ipureintro; exact harg5.read_unread _
    iframe H9 H12 H13 H14 H15
  iframe H26 H27 HS HR
  isplitl [H30]; · iexists _; isplitr; rotate_left; · iexact H30
                   ipureintro; exact harg30.read_unread _
  isplitl [H31]; · iexists _; isplitr; rotate_left; · iexact H31
                   ipureintro; exact harg31.read_unread _
  iexists _; isplitr; rotate_left; · iexact H32
  ipureintro; exact harg32.read_unread _

set_option sl_exec.dmaWindow true in
set_option sl_exec.rejoinHeartbeats 400000 in
set_option sl_exec.dmaWindowSet true in
set_option sl_exec.dmaWindowLent true in
set_option maxHeartbeats 8000000 in
/-- The first point's opening brings the weights in and clears the sums. -/
theorem opens_first (hc0 : cond0_0 i) (B : Ins F) (f0 : HbBuf0 (F := F) c hbM0_0) (f1 : HbBuf0 (F := F) c hbM0_1) (f2 : HbBuf0 (F := F) c hbM0_2) (f3 : HbBuf0 (F := F) c hbM0_3)
    (f4 : HbBuf0 (F := F) c hbM0_4) (W₀ : Waits sig Unit) (Q' : (Σ' (v28 : FVec F S256x1024 .f32), FVec F S256x1024 .f32) → sProp 𝕄) :
    iprop((insAt B ∗ wtsSome ∗ sumsSome ∗ cells c ∗ lying c f0 f1 f2 f3 f4 ∗ owes (c.tc : Thread nD τ) 0 W₀)
        ∗ ((insAt B ∗ wtsAt (laid c f0 f1 f2 f3 f4) ∗ sumsAt Sums.zero ∗ (cells c ∗ lying c f0 f1 f2 f3 f4 ∗ (∃ W', owes (c.tc : Thread nD τ) 0 W')))
          -∗ Q' ⟨u1 B (laid c f0 f1 f2 f3 f4), c1 B (laid c f0 f1 f2 f3 f4)⟩))
      ⊢ wp frame (wpE (defs₀ (F := F)) Variants.none c none) Set.univ (k0_part11 (F := F) i arg1 harg1 arg2 harg2 arg3 harg3 arg4 harg4 arg5 harg5 (Memref.whole main_v3) (Memref.isWhole_whole _) (Memref.whole main_v6) (Memref.isWhole_whole _) (Memref.whole main_v7) (Memref.isWhole_whole _) arg9 harg9 (Memref.whole main_v10) (Memref.isWhole_whole _) (Memref.whole main_v11) (Memref.isWhole_whole _) arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 cc0_scratch2 arg29 harg29 arg30 harg30 arg31 harg31 arg32 harg32 cc0_scratch7) Q' := by
  simp only [k0_part11_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
  unfold ownsIns ownsWts ownsSums someWts someSums cells lying
  iintro ⟨⟨⟨H1, H2, H3, H4, H5, HI⟩, ⟨⟨%d26, H26⟩, ⟨%d27, H27⟩, ⟨%d30, H30⟩, ⟨%d31, H31⟩, ⟨%d32, H32⟩⟩, ⟨⟨%d21, H21⟩, ⟨%d22, H22⟩, ⟨%d23, H23⟩, ⟨%d24, H24⟩, ⟨%d25, H25⟩⟩, ⟨Hq0, Hq1, Hq2, Hq3, Hq4, Hq5, Hq6, Hq7, Hq8, Hq9, Hq10, Hq11, Hq12, Hq13, Hq14, Hq15, Hq16, Hq17, Hq18, Hq19, Hq20, Hq21, Hq22, Hq23, Hq24, Hq25⟩, ⟨Hh0, Hh1, Hh2, Hh3, Hh4⟩, HW⟩, HK⟩
  unfold owns
  icases H1 with ⟨%f1, %hf1, H1⟩
  icases H2 with ⟨%f2, %hf2, H2⟩
  icases H3 with ⟨%f3, %hf3, H3⟩
  icases H4 with ⟨%f4, %hf4, H4⟩
  icases H5 with ⟨%f5, %hf5, H5⟩
  icases H21 with ⟨%f21, %hf21, H21⟩
  icases H22 with ⟨%f22, %hf22, H22⟩
  icases H23 with ⟨%f23, %hf23, H23⟩
  icases H24 with ⟨%f24, %hf24, H24⟩
  icases H25 with ⟨%f25, %hf25, H25⟩
  icases H26 with ⟨%f26, %hf26, H26⟩
  icases H27 with ⟨%f27, %hf27, H27⟩
  icases H30 with ⟨%f30, %hf30, H30⟩
  icases H31 with ⟨%f31, %hf31, H31⟩
  icases H32 with ⟨%f32, %hf32, H32⟩
  obtain rfl := harg1.eq_unread hf1; obtain rfl := harg2.eq_unread hf2; obtain rfl := harg3.eq_unread hf3; obtain rfl := harg4.eq_unread hf4; obtain rfl := harg5.eq_unread hf5
  sl_exec (disch := first | sl_exact hc0)
  sl_step
  have h1 : View.readAt (Elt F) arg1.view (Rect.unit ![0, 0] S256x1024.size inb_S256x1024_S256x1024_0_0).toLoadRect (harg1.unread B.x) = B.x :=
    (View.readAt_full _ _ _).trans (harg1.read_unread _)
  have h2 : View.readAt (Elt F) arg2.view (Rect.unit ![0, 0] S256x512.size inb_S256x512_S256x512_0_0).toLoadRect (harg2.unread B.osb) = B.osb :=
    (View.readAt_full _ _ _).trans (harg2.read_unread _)
  have h3 : View.readAt (Elt F) arg3.view (Rect.unit ![0, 0] S256x512.size inb_S256x512_S256x512_0_0).toLoadRect (harg3.unread B.oca) = B.oca :=
    (View.readAt_full _ _ _).trans (harg3.read_unread _)
  have h4 : View.readAt (Elt F) arg4.view (Rect.unit ![0, 0] S256x2048.size inb_S256x2048_S256x2048_0_0).toLoadRect (harg4.unread B.lg) = B.lg :=
    (View.readAt_full _ _ _).trans (harg4.read_unread _)
  have h5 : View.readAt (Elt F) arg5.view (Rect.unit ![0, 0] S1x2048.size inb_S1x2048_S1x2048_0_0).toLoadRect (harg5.unread B.bg) = B.bg :=
    (View.readAt_full _ _ _).trans (harg5.read_unread _)
  have g26 : (![opens_first.sl.dma0 c f3, opens_first.sl.dma0_1 c f3, opens_first.sl.dma0_2 c f3, opens_first.sl.dma0_3 c f3, opens_first.sl.dma0_4 c f3, opens_first.sl.dma0_5 c f3, opens_first.sl.dma0_6 c f3, opens_first.sl.dma0_7 c f3] : Fin 8 → (Mat 1024 512).Idx → Elt F .bf16)
      = fun k j => View.read (Elt F) hbM0_3.view f3 (ix3 k (j 0) (j 1)) := by
    funext k; fin_cases k
    exacts [by show opens_first.sl.dma0 c f3 = fun j => View.read (Elt F) hbM0_3.view f3 (ix3 0 (j 0) (j 1)); exact plane_read hbM0_3 0 (off := ![0, 0, 0]) rfl _ _ _ f3, by show opens_first.sl.dma0_1 c f3 = fun j => View.read (Elt F) hbM0_3.view f3 (ix3 1 (j 0) (j 1)); exact plane_read hbM0_3 1 (off := ![1, 0, 0]) rfl _ _ _ f3, by show opens_first.sl.dma0_2 c f3 = fun j => View.read (Elt F) hbM0_3.view f3 (ix3 2 (j 0) (j 1)); exact plane_read hbM0_3 2 (off := ![2, 0, 0]) rfl _ _ _ f3, by show opens_first.sl.dma0_3 c f3 = fun j => View.read (Elt F) hbM0_3.view f3 (ix3 3 (j 0) (j 1)); exact plane_read hbM0_3 3 (off := ![3, 0, 0]) rfl _ _ _ f3, by show opens_first.sl.dma0_4 c f3 = fun j => View.read (Elt F) hbM0_3.view f3 (ix3 4 (j 0) (j 1)); exact plane_read hbM0_3 4 (off := ![4, 0, 0]) rfl _ _ _ f3, by show opens_first.sl.dma0_5 c f3 = fun j => View.read (Elt F) hbM0_3.view f3 (ix3 5 (j 0) (j 1)); exact plane_read hbM0_3 5 (off := ![5, 0, 0]) rfl _ _ _ f3, by show opens_first.sl.dma0_6 c f3 = fun j => View.read (Elt F) hbM0_3.view f3 (ix3 6 (j 0) (j 1)); exact plane_read hbM0_3 6 (off := ![6, 0, 0]) rfl _ _ _ f3, by show opens_first.sl.dma0_7 c f3 = fun j => View.read (Elt F) hbM0_3.view f3 (ix3 7 (j 0) (j 1)); exact plane_read hbM0_3 7 (off := ![7, 0, 0]) rfl _ _ _ f3]
  have l26 : ∀ g, View.read (Elt F) arg26.view (arg26.view.writes (Elt F) g (slabPieces (n := 1024) (w := 512) (t := 4096) ![opens_first.sl.dma0 c f3, opens_first.sl.dma0_1 c f3, opens_first.sl.dma0_2 c f3, opens_first.sl.dma0_3 c f3, opens_first.sl.dma0_4 c f3, opens_first.sl.dma0_5 c f3, opens_first.sl.dma0_6 c f3, opens_first.sl.dma0_7 c f3] (inb8 rfl))) = (laid c f0 f1 f2 f3 f4).win :=
    fun g => by rw [g26]; exact beside_read (n := 1024) (w := 512) (t := 4096) rfl g _
  have g30 : (![opens_first.sl.dma0_9 c f0, opens_first.sl.dma0_11 c f0, opens_first.sl.dma0_13 c f0, opens_first.sl.dma0_15 c f0, opens_first.sl.dma0_17 c f0, opens_first.sl.dma0_19 c f0, opens_first.sl.dma0_21 c f0, opens_first.sl.dma0_23 c f0] : Fin 8 → (Mat 512 128).Idx → Elt F .bf16)
      = fun k j => View.read (Elt F) hbM0_0.view f0 (ix3 k (j 0) (j 1)) := by
    funext k; fin_cases k
    exacts [by show opens_first.sl.dma0_9 c f0 = fun j => View.read (Elt F) hbM0_0.view f0 (ix3 0 (j 0) (j 1)); exact plane_read hbM0_0 0 (off := ![0, 0, 0]) rfl _ _ _ f0, by show opens_first.sl.dma0_11 c f0 = fun j => View.read (Elt F) hbM0_0.view f0 (ix3 1 (j 0) (j 1)); exact plane_read hbM0_0 1 (off := ![1, 0, 0]) rfl _ _ _ f0, by show opens_first.sl.dma0_13 c f0 = fun j => View.read (Elt F) hbM0_0.view f0 (ix3 2 (j 0) (j 1)); exact plane_read hbM0_0 2 (off := ![2, 0, 0]) rfl _ _ _ f0, by show opens_first.sl.dma0_15 c f0 = fun j => View.read (Elt F) hbM0_0.view f0 (ix3 3 (j 0) (j 1)); exact plane_read hbM0_0 3 (off := ![3, 0, 0]) rfl _ _ _ f0, by show opens_first.sl.dma0_17 c f0 = fun j => View.read (Elt F) hbM0_0.view f0 (ix3 4 (j 0) (j 1)); exact plane_read hbM0_0 4 (off := ![4, 0, 0]) rfl _ _ _ f0, by show opens_first.sl.dma0_19 c f0 = fun j => View.read (Elt F) hbM0_0.view f0 (ix3 5 (j 0) (j 1)); exact plane_read hbM0_0 5 (off := ![5, 0, 0]) rfl _ _ _ f0, by show opens_first.sl.dma0_21 c f0 = fun j => View.read (Elt F) hbM0_0.view f0 (ix3 6 (j 0) (j 1)); exact plane_read hbM0_0 6 (off := ![6, 0, 0]) rfl _ _ _ f0, by show opens_first.sl.dma0_23 c f0 = fun j => View.read (Elt F) hbM0_0.view f0 (ix3 7 (j 0) (j 1)); exact plane_read hbM0_0 7 (off := ![7, 0, 0]) rfl _ _ _ f0]
  have l30 : ∀ g, View.read (Elt F) arg30.view (arg30.view.writes (Elt F) g (slabPieces (n := 512) (w := 128) (t := 1024) ![opens_first.sl.dma0_9 c f0, opens_first.sl.dma0_11 c f0, opens_first.sl.dma0_13 c f0, opens_first.sl.dma0_15 c f0, opens_first.sl.dma0_17 c f0, opens_first.sl.dma0_19 c f0, opens_first.sl.dma0_21 c f0, opens_first.sl.dma0_23 c f0] (inb8 rfl))) = (laid c f0 f1 f2 f3 f4).wsb :=
    fun g => by rw [g30]; exact beside_read (n := 512) (w := 128) (t := 1024) rfl g _
  have g31 : (![opens_first.sl.dma0_10 c f1, opens_first.sl.dma0_12 c f1, opens_first.sl.dma0_14 c f1, opens_first.sl.dma0_16 c f1, opens_first.sl.dma0_18 c f1, opens_first.sl.dma0_20 c f1, opens_first.sl.dma0_22 c f1, opens_first.sl.dma0_24 c f1] : Fin 8 → (Mat 512 128).Idx → Elt F .bf16)
      = fun k j => View.read (Elt F) hbM0_1.view f1 (ix3 k (j 0) (j 1)) := by
    funext k; fin_cases k
    exacts [by show opens_first.sl.dma0_10 c f1 = fun j => View.read (Elt F) hbM0_1.view f1 (ix3 0 (j 0) (j 1)); exact plane_read hbM0_1 0 (off := ![0, 0, 0]) rfl _ _ _ f1, by show opens_first.sl.dma0_12 c f1 = fun j => View.read (Elt F) hbM0_1.view f1 (ix3 1 (j 0) (j 1)); exact plane_read hbM0_1 1 (off := ![1, 0, 0]) rfl _ _ _ f1, by show opens_first.sl.dma0_14 c f1 = fun j => View.read (Elt F) hbM0_1.view f1 (ix3 2 (j 0) (j 1)); exact plane_read hbM0_1 2 (off := ![2, 0, 0]) rfl _ _ _ f1, by show opens_first.sl.dma0_16 c f1 = fun j => View.read (Elt F) hbM0_1.view f1 (ix3 3 (j 0) (j 1)); exact plane_read hbM0_1 3 (off := ![3, 0, 0]) rfl _ _ _ f1, by show opens_first.sl.dma0_18 c f1 = fun j => View.read (Elt F) hbM0_1.view f1 (ix3 4 (j 0) (j 1)); exact plane_read hbM0_1 4 (off := ![4, 0, 0]) rfl _ _ _ f1, by show opens_first.sl.dma0_20 c f1 = fun j => View.read (Elt F) hbM0_1.view f1 (ix3 5 (j 0) (j 1)); exact plane_read hbM0_1 5 (off := ![5, 0, 0]) rfl _ _ _ f1, by show opens_first.sl.dma0_22 c f1 = fun j => View.read (Elt F) hbM0_1.view f1 (ix3 6 (j 0) (j 1)); exact plane_read hbM0_1 6 (off := ![6, 0, 0]) rfl _ _ _ f1, by show opens_first.sl.dma0_24 c f1 = fun j => View.read (Elt F) hbM0_1.view f1 (ix3 7 (j 0) (j 1)); exact plane_read hbM0_1 7 (off := ![7, 0, 0]) rfl _ _ _ f1]
  have l31 : ∀ g, View.read (Elt F) arg31.view (arg31.view.writes (Elt F) g (slabPieces (n := 512) (w := 128) (t := 1024) ![opens_first.sl.dma0_10 c f1, opens_first.sl.dma0_12 c f1, opens_first.sl.dma0_14 c f1, opens_first.sl.dma0_16 c f1, opens_first.sl.dma0_18 c f1, opens_first.sl.dma0_20 c f1, opens_first.sl.dma0_22 c f1, opens_first.sl.dma0_24 c f1] (inb8 rfl))) = (laid c f0 f1 f2 f3 f4).wca :=
    fun g => by rw [g31]; exact beside_read (n := 512) (w := 128) (t := 1024) rfl g _
  have v9 : opens_first.sl.v9 c arg30 f0 = (laid c f0 f1 f2 f3 f4).wsb := by
      unfold opens_first.sl.v9 View.readCov
      refine (View.readAt_full _ _ _).trans ?_
      exact l30 _
  have v10 : opens_first.sl.v10 c arg31 f1 = (laid c f0 f1 f2 f3 f4).wca := by
      unfold opens_first.sl.v10 View.readCov
      refine (View.readAt_full _ _ _).trans ?_
      exact l31 _
  have v26 : opens_first.sl.v26 c arg32 f2 = (laid c f0 f1 f2 f3 f4).wproj := by
      unfold opens_first.sl.v26 View.readCov
      refine (View.readAt_full _ _ _).trans ?_
      exact (View.read_writes_whole _ _ _).trans rfl
  rw [h1, h2, h3, h4, h5, v9, v10, v26]
  unfold u1 c1
  iapply HK
  isplitl [H1 H2 H3 H4 H5 HI]
  · isplitl [H1]; · iexists _; isplitr; rotate_left; · iexact H1
                    ipureintro; exact harg1.read_unread _
    isplitl [H2]; · iexists _; isplitr; rotate_left; · iexact H2
                    ipureintro; exact harg2.read_unread _
    isplitl [H3]; · iexists _; isplitr; rotate_left; · iexact H3
                    ipureintro; exact harg3.read_unread _
    isplitl [H4]; · iexists _; isplitr; rotate_left; · iexact H4
                    ipureintro; exact harg4.read_unread _
    isplitl [H5]; · iexists _; isplitr; rotate_left; · iexact H5
                    ipureintro; exact harg5.read_unread _
    iexact HI
  isplitl [H26 H27 H30 H31 H32]
  · isplitl [H26]
    · iexists _; isplitr; rotate_left; · iexact H26
      ipureintro
      exact l26 _
    isplitl [H27]
    · iexists _; isplitr; rotate_left; · iexact H27
      ipureintro
      exact (View.read_writes_whole _ _ _).trans rfl
    isplitl [H30]
    · iexists _; isplitr; rotate_left; · iexact H30
      ipureintro
      exact l30 _
    isplitl [H31]
    · iexists _; isplitr; rotate_left; · iexact H31
      ipureintro
      exact l31 _
    iexists _; isplitr; rotate_left; · iexact H32
    ipureintro
    exact (View.read_writes_whole _ _ _).trans rfl
  isplitl [H21 H22 H23 H24 H25]
  · isplitl [H21]
    · iexists _; isplitr; rotate_left; · iexact H21
      ipureintro; exact (View.read_writes_full _ _ _ _ _).trans rfl
    isplitl [H22]
    · iexists _; isplitr; rotate_left; · iexact H22
      ipureintro; exact (View.read_writes_full _ _ _ _ _).trans rfl
    isplitl [H23]
    · iexists _; isplitr; rotate_left; · iexact H23
      ipureintro; exact (View.read_writes_full _ _ _ _ _).trans rfl
    isplitl [H24]
    · iexists _; isplitr; rotate_left; · iexact H24
      ipureintro; exact (View.read_writes_full _ _ _ _ _).trans rfl
    iexists _; isplitr; rotate_left; · iexact H25
    ipureintro; exact (View.read_writes_full _ _ _ _ _).trans rfl
  isplitr [Hh0 Hh1 Hh2 Hh3 Hh4 HW]
  · iframe Hq0 Hq1 Hq2 Hq3 Hq4 Hq5 Hq6 Hq7 Hq8 Hq9 Hq10 Hq11 Hq12 Hq13 Hq14 Hq15 Hq16 Hq17 Hq18 Hq19 Hq20 Hq21 Hq22 Hq23 Hq24 Hq25
  isplitr [HW]; · iframe Hh0 Hh1 Hh2 Hh3 Hh4
  iexists _; iexact HW

end Opens

end Cert.MlpRun

end
-- ==== Proof.Mlp.Frame.lean ====
module

public import proofs.«01_k».proof.Proof.Gen.MlpIdeal.Frame.Runs
public import Idealize.ShloMosaic.Lib.Pointwise.Index
public import proofs.«01_k».proof.Proof.Mlp.Model
public import proofs.«01_k».proof.Proof.Mlp.Body
public import proofs.«01_k».proof.Proof.Mlp.Opens
public import Idealize.ShloMosaic.Lib.Pipeline.FrameBody
public import Idealize.ShloMosaic.Lib.Pipeline.Frame
public import Idealize.ShloMosaic.Lib.Pipeline.ReadBack
public import Idealize.ShloMosaic.Lib.Exec
public import Idealize.ShloMosaic.Lib.Tactic
public import Idealize.ShloMosaic.Lib.Claim

@[expose] public section

set_option maxRecDepth 16384

noncomputable section

namespace Cert.MlpRun

open Cert.MlpIdeal Cert.MlpIdeal.Gen Cert.MlpModel
open Idealize Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg) (c : Dev nD)

/-! ## What the points work on -/

/-- The weights as every point finds them. -/
def wts : Wts F := laid c (V m c main_v3) (V m c main_v6) (V m c main_v7) (V m c main_v10) (V m c main_v11)

/-- The blocks of point `t`. -/
def ins (t : Fin cfg0.N) : Ins F where
  x := iblk m c 0 t
  osb := iblk m c 1 t
  oca := iblk m c 2 t
  lg := iblk m c 3 t
  bg := iblk m c 4 t
  tgt := iblk m c 5 t
  g1 := iblk m c 6 t
  b1 := iblk m c 7 t
  g2 := iblk m c 8 t
  b2 := iblk m c 9 t

/-- The sums before point `n`. -/
def started : (n : ℕ) → n ≤ cfg0.N → Sums F
  | 0, _ => Sums.zero
  | n + 1, h => summed (ins m c ⟨n, h⟩) (wts m c) (started n (Nat.le_of_lt h))

/-- What lies about after a point, the weights in their places. -/
def kept : sProp 𝕄 :=
  iprop((ownsWts c scM0_0 scM0_1 scM0_3 scM0_4 scM0_5 (wts m c) ∗ (∃ d, owns (c : Thread nD τ) scM0_2 fullShare d)) ∗ (∃ r, prngReg c r)
    ∗ cells c ∗ lying c (V m c main_v3) (V m c main_v6) (V m c main_v7) (V m c main_v10) (V m c main_v11))

/-- The scratch arrays between points. -/
def PhiS : (n : ℕ) → n ≤ cfg0.N → sProp 𝕄
  | 0, _ => Pipeline.ΦD osem0 spec0 H0 (V m) c
  | _ + 1, _ => kept m c

theorem PhiS_pos (n : ℕ) (h : n ≤ cfg0.N) (hn : n ≠ 0) : PhiS m c n h = kept m c := by
  cases n with
  | zero => exact absurd rfl hn
  | succ n => rfl

theorem PhiD_eq : (Pipeline.ΦD osem0 spec0 H0 (V m) c : sProp 𝕄)
    = iprop(iprop((∃ d, owns (c : Thread nD τ) scM0_0 fullShare d) ∗ (∃ d, owns (c : Thread nD τ) scM0_1 fullShare d) ∗ (∃ d, owns (c : Thread nD τ) scM0_2 fullShare d)
        ∗ (∃ d, owns (c : Thread nD τ) scM0_3 fullShare d) ∗ (∃ d, owns (c : Thread nD τ) scM0_4 fullShare d) ∗ (∃ d, owns (c : Thread nD τ) scM0_5 fullShare d))
      ∗ (∃ r, prngReg c r) ∗ cells c ∗ lying c (V m c main_v3) (V m c main_v6) (V m c main_v7) (V m c main_v10) (V m c main_v11)) :=
  PhiD0_eq m c

/-- The windows' contents after a point. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => act (ins m c t) (wts m c)
    | ⟨11, _⟩ => x1b (ins m c t) (wts m c)
    | ⟨12, _⟩ => dh (ins m c t) (wts m c)
    | ⟨13, _⟩ => du2b (ins m c t) (wts m c)
    | ⟨14, _⟩ => du1 (ins m c t) (wts m c)
    | ⟨15, _⟩ => (started m c (t.val + 1) t.isLt).loss
    | ⟨16, _⟩ => (started m c (t.val + 1) t.isLt).dg2
    | ⟨17, _⟩ => (started m c (t.val + 1) t.isLt).db2
    | ⟨18, _⟩ => (started m c (t.val + 1) t.isLt).dg1
    | ⟨19, _⟩ => (started m c (t.val + 1) t.isLt).db1
    | ⟨_ + 20, h⟩ => absurd h (Nat.not_lt.2 (Nat.le_add_left _ _))
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (t : Fin cfg0.N) : (dats m 0 c).Φ t.castSucc = PhiS m c t.val (Nat.le_of_lt t.isLt) := by
  dsimp only [dats]; exact Pipeline.Dat.Φ_castSucc (PhiS m c) t

variable (t : Fin cfg0.N)

theorem after_0 : (dats m 0 c).after 0 t = iblk m c 0 t := by dsimp only [dats]
theorem after_1 : (dats m 0 c).after 1 t = iblk m c 1 t := by dsimp only [dats]
theorem after_2 : (dats m 0 c).after 2 t = iblk m c 2 t := by dsimp only [dats]
theorem after_3 : (dats m 0 c).after 3 t = iblk m c 3 t := by dsimp only [dats]
theorem after_4 : (dats m 0 c).after 4 t = iblk m c 4 t := by dsimp only [dats]
theorem after_5 : (dats m 0 c).after 5 t = iblk m c 5 t := by dsimp only [dats]
theorem after_6 : (dats m 0 c).after 6 t = iblk m c 6 t := by dsimp only [dats]
theorem after_7 : (dats m 0 c).after 7 t = iblk m c 7 t := by dsimp only [dats]
theorem after_8 : (dats m 0 c).after 8 t = iblk m c 8 t := by dsimp only [dats]
theorem after_9 : (dats m 0 c).after 9 t = iblk m c 9 t := by dsimp only [dats]
theorem after_10 : (dats m 0 c).after 10 t = act (ins m c t) (wts m c) := by dsimp only [dats]
theorem after_11 : (dats m 0 c).after 11 t = x1b (ins m c t) (wts m c) := by dsimp only [dats]
theorem after_12 : (dats m 0 c).after 12 t = dh (ins m c t) (wts m c) := by dsimp only [dats]
theorem after_13 : (dats m 0 c).after 13 t = du2b (ins m c t) (wts m c) := by dsimp only [dats]
theorem after_14 : (dats m 0 c).after 14 t = du1 (ins m c t) (wts m c) := by dsimp only [dats]
theorem after_15 : (dats m 0 c).after 15 t = (started m c (t.val + 1) t.isLt).loss := by dsimp only [dats]
theorem after_16 : (dats m 0 c).after 16 t = (started m c (t.val + 1) t.isLt).dg2 := by dsimp only [dats]
theorem after_17 : (dats m 0 c).after 17 t = (started m c (t.val + 1) t.isLt).db2 := by dsimp only [dats]
theorem after_18 : (dats m 0 c).after 18 t = (started m c (t.val + 1) t.isLt).dg1 := by dsimp only [dats]
theorem after_19 : (dats m 0 c).after 19 t = (started m c (t.val + 1) t.isLt).db1 := by dsimp only [dats]

theorem before_0 (d) : (dats m 0 c).before 0 t d = iblk m c 0 t := before0_0_of m (dats m 0 c) (A_eq m c 0) (after_0 m c) t d
theorem before_1 (d) : (dats m 0 c).before 1 t d = iblk m c 1 t := before0_1_of m (dats m 0 c) (A_eq m c 1) (after_1 m c) t d
theorem before_2 (d) : (dats m 0 c).before 2 t d = iblk m c 2 t := before0_2_of m (dats m 0 c) (A_eq m c 2) (after_2 m c) t d
theorem before_3 (d) : (dats m 0 c).before 3 t d = iblk m c 3 t := before0_3_of m (dats m 0 c) (A_eq m c 3) (after_3 m c) t d
theorem before_4 (d) : (dats m 0 c).before 4 t d = iblk m c 4 t := before0_4_of m (dats m 0 c) (A_eq m c 4) (after_4 m c) t d
theorem before_5 (d) : (dats m 0 c).before 5 t d = iblk m c 5 t := before0_5_of m (dats m 0 c) (A_eq m c 5) (after_5 m c) t d
theorem before_6 (d) : (dats m 0 c).before 6 t d = iblk m c 6 t := before0_6_of m (dats m 0 c) (A_eq m c 6) (after_6 m c) t d
theorem before_7 (d) : (dats m 0 c).before 7 t d = iblk m c 7 t := before0_7_of m (dats m 0 c) (A_eq m c 7) (after_7 m c) t d
theorem before_8 (d) : (dats m 0 c).before 8 t d = iblk m c 8 t := before0_8_of m (dats m 0 c) (A_eq m c 8) (after_8 m c) t d
theorem before_9 (d) : (dats m 0 c).before 9 t d = iblk m c 9 t := before0_9_of m (dats m 0 c) (A_eq m c 9) (after_9 m c) t d

/-- A sum's buffer holds, at every point but the first, what the point before left. -/
theorem started_prev (h : t.val ≠ 0) (hp : t.val - 1 + 1 ≤ cfg0.N) : started m c (t.val - 1 + 1) hp = started m c t.val (Nat.le_of_lt t.isLt) := by
  congr 1; omega

theorem before_15 (h : t.val ≠ 0) (d) : (dats m 0 c).before 15 t d = (started m c t.val (Nat.le_of_lt t.isLt)).loss := by
  have hN : t.val < 16 := lt_of_lt_of_eq t.isLt (show cfg0.N = 16 from N_0)
  rw [Dat.before_out_kept _ 15 rfl t h (Bool.eq_false_iff.mpr fun h => by have := (flush0_15 _).mp h; dsimp only at this; omega) (fun _ => rfl) (fun _ _ => rfl),
    after_15]
  exact congrArg Sums.loss (started_prev m c t h _)
theorem before_16 (h : t.val ≠ 0) (d) : (dats m 0 c).before 16 t d = (started m c t.val (Nat.le_of_lt t.isLt)).dg2 := by
  have hN : t.val < 16 := lt_of_lt_of_eq t.isLt (show cfg0.N = 16 from N_0)
  rw [Dat.before_out_kept _ 16 rfl t h (Bool.eq_false_iff.mpr fun h => by have := (flush0_16 _).mp h; dsimp only at this; omega) (fun _ => rfl) (fun _ _ => rfl),
    after_16]
  exact congrArg Sums.dg2 (started_prev m c t h _)
theorem before_17 (h : t.val ≠ 0) (d) : (dats m 0 c).before 17 t d = (started m c t.val (Nat.le_of_lt t.isLt)).db2 := by
  have hN : t.val < 16 := lt_of_lt_of_eq t.isLt (show cfg0.N = 16 from N_0)
  rw [Dat.before_out_kept _ 17 rfl t h (Bool.eq_false_iff.mpr fun h => by have := (flush0_17 _).mp h; dsimp only at this; omega) (fun _ => rfl) (fun _ _ => rfl),
    after_17]
  exact congrArg Sums.db2 (started_prev m c t h _)
theorem before_18 (h : t.val ≠ 0) (d) : (dats m 0 c).before 18 t d = (started m c t.val (Nat.le_of_lt t.isLt)).dg1 := by
  have hN : t.val < 16 := lt_of_lt_of_eq t.isLt (show cfg0.N = 16 from N_0)
  rw [Dat.before_out_kept _ 18 rfl t h (Bool.eq_false_iff.mpr fun h => by have := (flush0_18 _).mp h; dsimp only at this; omega) (fun _ => rfl) (fun _ _ => rfl),
    after_18]
  exact congrArg Sums.dg1 (started_prev m c t h _)
theorem before_19 (h : t.val ≠ 0) (d) : (dats m 0 c).before 19 t d = (started m c t.val (Nat.le_of_lt t.isLt)).db1 := by
  have hN : t.val < 16 := lt_of_lt_of_eq t.isLt (show cfg0.N = 16 from N_0)
  rw [Dat.before_out_kept _ 19 rfl t h (Bool.eq_false_iff.mpr fun h => by have := (flush0_19 _).mp h; dsimp only at this; omega) (fun _ => rfl) (fun _ _ => rfl),
    after_19]
  exact congrArg Sums.db1 (started_prev m c t h _)

/-! ## The body at a point -/

def bodyPre : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d)))

def bodyPost : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t))

set_option maxHeartbeats 8000000 in
theorem sound_body : bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9]
  rw [PhiS_castSucc, show (dats m 0 c).Φ t.succ = kept m c from rfl, after_0, after_1, after_2, after_3, after_4, after_5, after_6, after_7, after_8, after_9, after_10, after_11, after_12, after_13, after_14, after_15, after_16, after_17, after_18, after_19]
  unfold Dat.owesAt Pipeline.owesWithin
  rw [show (dats m 0 c).owed t.castSucc = 0 from rfl, show (dats m 0 c).owed t.succ = 0 from rfl]
  rw [show started m c (t.val + 1) t.isLt = summed (ins m c t) (wts m c) (started m c t.val (Nat.le_of_lt t.isLt)) from rfl]
  have hN : t.val < 16 := lt_of_lt_of_eq t.isLt (show cfg0.N = 16 from N_0)
  have hb := body (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (Memref.whole cc0_scratch0) (Memref.isWhole_whole _) (Memref.whole cc0_scratch1) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _)
  by_cases hz : t.val = 0
  · have hc := (hcond0_0 t).mpr (by omega)
    have ho := opens_first (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (Memref.whole cc0_scratch0) (Memref.isWhole_whole _) (Memref.whole cc0_scratch1) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) hc (ins m c t) (V m c main_v3) (V m c main_v6) (V m c main_v7) (V m c main_v10) (V m c main_v11)
    rw [show PhiS m c t.val (Nat.le_of_lt t.isLt) = Pipeline.ΦD osem0 spec0 H0 (V m) c by
        obtain ⟨n, hn⟩ := t; subst hz; rfl, PhiD_eq,
      show started m c t.val (Nat.le_of_lt t.isLt) = Sums.zero by obtain ⟨n, hn⟩ := t; subst hz; rfl]
    iintro ⟨⟨⟨HW0, HW1, ⟨%y, S2⟩, HW3, HW4, HW5⟩, Hg, HC, HL⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
    iapply (hb (ins m c t) (wts m c) Sums.zero ((dats m 0 c).before 10 t d10) ((dats m 0 c).before 12 t d12) ((dats m 0 c).before 11 t d11) ((dats m 0 c).before 13 t d13) ((dats m 0 c).before 14 t d14) y _ _ _ (fun Q' => ho W Q'))
    isplitl [H0 H1 H2 H3 H4 H5 H6 H7 H8 H9 H10 H11 H12 H13 H14 H15 H16 H17 H18 H19 HW0 HW1 S2 HW3 HW4 HW5 HC HL HW]
    · unfold ownsIns someWts someSums ins
      isplitr [H10 H11 H12 H13 H14 S2]; rotate_left
      · isplitl [H10]; · iexact H10
        isplitl [H11]; · iexact H11
        isplitl [H12]; · iexact H12
        isplitl [H13]; · iexact H13
        isplitl [H14]; · iexact H14
        iexact S2
      isplitl [H0 H1 H2 H3 H4 H5 H6 H7 H8 H9]
      · isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        iexact H9
      isplitl [HW0 HW1 HW3 HW4 HW5]
      · isplitl [HW0]; · iexact HW0
        isplitl [HW1]; · iexact HW1
        isplitl [HW3]; · iexact HW3
        isplitl [HW4]; · iexact HW4
        iexact HW5
      isplitl [H15 H16 H17 H18 H19]
      · isplitl [H15]; · iexists _; iexact H15
        isplitl [H16]; · iexists _; iexact H16
        isplitl [H17]; · iexists _; iexact H17
        isplitl [H18]; · iexists _; iexact H18
        iexists _; iexact H19
      isplitl [HC]; · iexact HC
      isplitl [HL]; · iexact HL
      iexact HW
    unfold ownsIns ownsWts ownsSums ownsOuts
    iintro ⟨⟨H0, H1, H2, H3, H4, H5, H6, H7, H8, H9⟩, ⟨HW0, HW1, HW3, HW4, HW5⟩, ⟨H15, H16, H17, H18, H19⟩, ⟨H10, H11, H12, H13, H14⟩, ⟨HC, HL, ⟨%W', HW⟩⟩, S2⟩
    isplitl [HW0 HW1 HW3 HW4 HW5 S2 Hg HC HL]
    · (try unfold kept ownsWts)
      isplitl [HW0 HW1 HW3 HW4 HW5 S2]
      · isplitl [HW0 HW1 HW3 HW4 HW5]
        · isplitl [HW0]; · iexact HW0
          isplitl [HW1]; · iexact HW1
          isplitl [HW3]; · iexact HW3
          isplitl [HW4]; · iexact HW4
          iexact HW5
        iexact S2
      isplitl [Hg]; · iexact Hg
      isplitl [HC]; · iexact HC
      iexact HL
    isplitl [HW]
    · iexists W'; isplitr
      · ipureintro; exact fun _ _ => Or.inl trivial
      iexact HW
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    iexact H19
  · have hc : ¬cond0_0 (grid0.coords t) := fun h => hz (by have := (hcond0_0 t).mp h; omega)
    have ho := opens_later (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (Memref.whole cc0_scratch0) (Memref.isWhole_whole _) (Memref.whole cc0_scratch1) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) hc (ins m c t) (wts m c) (started m c t.val (Nat.le_of_lt t.isLt))
    simp only [before_15 m c t hz, before_16 m c t hz, before_17 m c t hz, before_18 m c t hz, before_19 m c t hz]
    rw [PhiS_pos m c _ _ hz]
    unfold kept ownsWts
    iintro ⟨⟨⟨⟨HW0, HW1, HW3, HW4, HW5⟩, ⟨%y, S2⟩⟩, Hg, HC, HL⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
    iapply (hb (ins m c t) (wts m c) (started m c t.val (Nat.le_of_lt t.isLt)) ((dats m 0 c).before 10 t d10) ((dats m 0 c).before 12 t d12) ((dats m 0 c).before 11 t d11) ((dats m 0 c).before 13 t d13) ((dats m 0 c).before 14 t d14) y _ _ _ (fun Q' => ho iprop(cells c ∗ lying c (V m c main_v3) (V m c main_v6) (V m c main_v7) (V m c main_v10) (V m c main_v11)) Q'))
    isplitl [H0 H1 H2 H3 H4 H5 H6 H7 H8 H9 H10 H11 H12 H13 H14 H15 H16 H17 H18 H19 HW0 HW1 S2 HW3 HW4 HW5 HC HL]
    · unfold ownsIns ownsWts ownsSums ins
      isplitr [H10 H11 H12 H13 H14 S2]; rotate_left
      · isplitl [H10]; · iexact H10
        isplitl [H11]; · iexact H11
        isplitl [H12]; · iexact H12
        isplitl [H13]; · iexact H13
        isplitl [H14]; · iexact H14
        iexact S2
      isplitl [H0 H1 H2 H3 H4 H5 H6 H7 H8 H9]
      · isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        iexact H9
      isplitl [HW0 HW1 HW3 HW4 HW5]
      · isplitl [HW0]; · iexact HW0
        isplitl [HW1]; · iexact HW1
        isplitl [HW3]; · iexact HW3
        isplitl [HW4]; · iexact HW4
        iexact HW5
      isplitl [H15 H16 H17 H18 H19]
      · isplitl [H15]; · iexact H15
        isplitl [H16]; · iexact H16
        isplitl [H17]; · iexact H17
        isplitl [H18]; · iexact H18
        iexact H19
      isplitl [HC]; · iexact HC
      iexact HL
    unfold ownsIns ownsWts ownsSums ownsOuts
    iintro ⟨⟨H0, H1, H2, H3, H4, H5, H6, H7, H8, H9⟩, ⟨HW0, HW1, HW3, HW4, HW5⟩, ⟨H15, H16, H17, H18, H19⟩, ⟨H10, H11, H12, H13, H14⟩, ⟨HC, HL⟩, S2⟩
    isplitl [HW0 HW1 HW3 HW4 HW5 S2 Hg HC HL]
    · (try unfold kept ownsWts)
      isplitl [HW0 HW1 HW3 HW4 HW5 S2]
      · isplitl [HW0 HW1 HW3 HW4 HW5]
        · isplitl [HW0]; · iexact HW0
          isplitl [HW1]; · iexact HW1
          isplitl [HW3]; · iexact HW3
          isplitl [HW4]; · iexact HW4
          iexact HW5
        iexact S2
      isplitl [Hg]; · iexact Hg
      isplitl [HC]; · iexact HC
      iexact HL
    isplitl [HW]
    · iexists W; isplitr
      · ipureintro; exact fun _ _ => Or.inl trivial
      iexact HW
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    iexact H19

theorem defs₀_row : defs₀ (F := F) .tc cfg0.body (cfg0.bodyArgs t (cfg0.slots t)) = bodyAt0 t := by
  unfold defs₀; rw [Defs.onTc_tc]

omit t in
theorem body_obligation : BodyObligation (dats (F := F) m 0 c) (defs₀ (F := F)) Variants.none () Set.univ := fun t => by
  rw [bigSep_W0, bigSep_W0, defs₀_row]
  exact triple_restated (sound_body m c t) rfl .rfl fun _ => .rfl

omit t in
theorem hin : Pipeline.ΦD osem0 spec0 H0 (V m) c ⊢ (dats m 0 c).Φ 0 := by
  rw [show (dats m 0 c).Φ 0 = PhiS m c 0 (Nat.zero_le _) from rfl]
  exact Idealize.SL.BI.Entails.refl _

omit t in
theorem hout : (dats m 0 c).Φ (Fin.last cfg0.N) ⊢ Pipeline.ΦD osem0 spec0 H0 (V m) c := by
  rw [show (dats m 0 c).Φ (Fin.last cfg0.N) = PhiS m c cfg0.N (le_refl _) from rfl,
    PhiS_pos m c _ _ (by rw [show cfg0.N = 16 from N_0]; decide), PhiD_eq]
  unfold kept ownsWts
  iintro ⟨⟨⟨H0, H1, H3, H4, H5⟩, S2⟩, HR⟩
  isplitr [HR]; rotate_left; · iexact HR
  isplitl [H0]; · iexists _; iexact H0
  isplitl [H1]; · iexists _; iexact H1
  isplitl [S2]; · iexact S2
  isplitl [H3]; · iexists _; iexact H3
  isplitl [H4]; · iexists _; iexact H4
  iexists _; iexact H5

/-! ## The launch -/

omit t c in
set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m) (hin := hin m) (hout := hout m)

omit t c in
/-- The arguments end as they were, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14))
      ∧ r.2.sem = fun _ => 0) :=
  θ_run_and (frame_of m ρ (dats m) (A_eq m) ((θ_run defs _ _).mono (fun _ h => h.1) (run_main_quiescent m ρ)))
    ((θ_run defs _ _).mono (fun _ h => h.2) (run_main_quiescent m ρ))

end Cert.MlpRun

end
-- ==== Proof.Mlp.Frames.lean ====
module

public import proofs.«01_k».proof.Defs
public import proofs.«01_k».proof.Proof.Gen.Mlp
public import proofs.«01_k».proof.Proof.Mlp.Frame
public import proofs.«01_k».proof.Proof.Gen.MlpRefIdeal.Run

/-! The block's frames. The two kernels are one text, so one run serves both. -/

@[expose] public section
set_option maxRecDepth 16384
noncomputable section
namespace Cert.MlpClaim
open Idealize Idealize.ShloMosaic

theorem frame_ideal : Cert.quiescent_MlpIdeal := fun m ρ _ => Cert.MlpRun.frame (F := Ideal) m ρ

set_option maxHeartbeats 4000000 in
/-- The two texts' bodies are one table. -/
theorem rows_eq : Cert.Mlp.defs₀ (F := Bits) = Cert.MlpIdeal.defs₀ (F := Bits) := by
  unfold Cert.Mlp.defs₀ Cert.MlpIdeal.defs₀
  refine congrArg Defs.onTc ?_
  funext l x
  match l, x with
  | ⟨0, _⟩, (t, s) => rfl
  | ⟨n + 1, h⟩, _ => exact absurd h (Nat.not_lt.2 (Nat.le_add_left _ _))

set_option maxHeartbeats 4000000 in
theorem defs_eq : Cert.Mlp.defs (F := Bits) = Cert.MlpIdeal.defs (F := Bits) := by
  unfold Cert.Mlp.defs Cert.MlpIdeal.defs
  rw [rows_eq]; rfl

set_option maxHeartbeats 4000000 in
theorem frame : Cert.quiescent_Mlp := fun m ρ _ => by
  rw [defs_eq]
  exact Cert.MlpRun.frame (F := Bits) m ρ

/-- The reference's run leaves the arguments alone, and it has no semaphore. -/
theorem frame_ref : Cert.quiescent_MlpRefIdeal := fun m ρ _ =>
  (θ_run Cert.MlpRefIdeal.defs _ _).mono
    (fun r h => ⟨fun c => (h c).2.2.2.2.2.2.2.2.2.2, sem_eq_zero_of_no_sems (by decide) r.2⟩)
    (Cert.MlpRefIdeal.Value.run (F := Ideal) m ρ)

end Cert.MlpClaim
-- ==== Proof.Mlp.Spec.lean ====
module

public import Idealize.ShloMosaic.Lib.Pointwise

/-! The block of the second half of the layer over the reals: what both programs compute of real arguments. -/

@[expose] public section
noncomputable section
namespace Cert.MlpSpec
open Idealize Idealize.ShloMosaic

/-! ## Reals among the extended reals -/

theorem coe_fsum {ι : Type} (s : Finset ι) (f : ι → ℝ) : ((∑ k ∈ s, f k : ℝ) : EReal) = ∑ k ∈ s, ((f k : ℝ) : EReal) := by
  classical
  induction s using Finset.induction_on with
  | empty => simp
  | insert a s h ih => rw [Finset.sum_insert h, Finset.sum_insert h, EReal.coe_add, ih]

theorem div_coe {x y : ℝ} (h : y ≠ 0) : Ideal.div (x : EReal) (y : EReal) = ((x / y : ℝ) : EReal) := by
  rw [Ideal.div, if_neg (by exact_mod_cast h), ← EReal.coe_inv, ← EReal.coe_mul, div_eq_mul_inv]

theorem rsqrt_coe {x : ℝ} (h : 0 < x) : Ideal.rsqrt (x : EReal) = (((Real.sqrt x)⁻¹ : ℝ) : EReal) := by
  show (if x < 0 then (⊥ : EReal) else if x = 0 then ⊤ else (((Real.sqrt x)⁻¹ : ℝ) : EReal)) = _
  rw [if_neg (not_lt.2 h.le), if_neg h.ne']

theorem max_coe (x y : ℝ) : max (x : EReal) (y : EReal) = ((max x y : ℝ) : EReal) := (EReal.coe_strictMono.monotone.map_max).symm

/-- A gate is a real, of any logit. -/
theorem logistic_real (x : EReal) : Ideal.logistic x = (((Ideal.logistic x).toReal : ℝ) : EReal) := by
  have key : ∃ y : ℝ, Ideal.logistic x = (y : EReal) := by
    induction x using EReal.rec with
    | bot =>
      refine ⟨0, ?_⟩
      show Ideal.div 1 (1 + Ideal.exp (-⊥)) = _
      rw [EReal.neg_bot]
      show Ideal.div 1 (1 + ⊤) = _
      rw [EReal.add_top_of_ne_bot (x := 1) (EReal.coe_ne_bot 1), Ideal.div, if_neg (by simp)]
      simp
    | top =>
      refine ⟨1, ?_⟩
      show Ideal.div 1 (1 + Ideal.exp (-⊤)) = _
      rw [EReal.neg_top]
      show Ideal.div 1 (1 + 0) = _
      rw [add_zero, ← EReal.coe_one, div_coe one_ne_zero, div_one]
    | coe r =>
      refine ⟨1 / (1 + Real.exp (-r)), ?_⟩
      show Ideal.div 1 (1 + Ideal.exp (-(r : EReal))) = _
      rw [← EReal.coe_neg]
      show Ideal.div 1 (1 + ((Real.exp (-r) : ℝ) : EReal)) = _
      rw [← EReal.coe_one, ← EReal.coe_add, div_coe (by positivity)]
  obtain ⟨y, hy⟩ := key
  rw [hy, EReal.toReal_coe]

/-- The residual's weight and the norms' guard. -/
def alpha : ℝ := 9975792 / 8388608
def eps : ℝ := 10995116 / 1099511627776

theorem eps_pos : 0 < eps := by unfold eps; norm_num

theorem k_alpha : Ideal.ofBits .f32 0x3F9837F0#32 = ((alpha : ℝ) : EReal) := by
  unfold alpha; simp [Ideal.ofBits, Ideal.ieee, -EReal.coe_mul]; norm_num
theorem k_eps : Ideal.ofBits .f32 0x3727C5AC#32 = ((eps : ℝ) : EReal) := by
  unfold eps; simp [Ideal.ofBits, Ideal.ieee, -EReal.coe_mul]; norm_num
theorem k_width : Ideal.ofBits .f32 0x44800000#32 = ((1024 : ℝ) : EReal) := by
  simp [Ideal.ofBits, Ideal.ieee, -EReal.coe_mul]; norm_num
theorem k_part : Ideal.ofBits .f32 0x3A800000#32 = ((1 / 1024 : ℝ) : EReal) := by
  simp [Ideal.ofBits, Ideal.ieee, -EReal.coe_mul]; norm_num
theorem k_half : Ideal.ofBits .f32 0x3F000000#32 = ((1 / 2 : ℝ) : EReal) := by
  simp [Ideal.ofBits, Ideal.ieee, -EReal.coe_mul]; norm_num
theorem k_minus : Ideal.ofBits .f32 0xBF000000#32 = ((-(1 / 2) : ℝ) : EReal) := by
  simp [Ideal.ofBits, Ideal.ieee, -EReal.coe_mul]; norm_num
theorem k_two : Ideal.ofBits .f32 0x40000000#32 = ((2 : ℝ) : EReal) := by
  simp [Ideal.ofBits, Ideal.ieee, -EReal.coe_mul]; norm_num
theorem k_one : Ideal.ofBits .f32 0x3F800000#32 = ((1 : ℝ) : EReal) := by
  simp [Ideal.ofBits, Ideal.ieee, -EReal.coe_mul]; norm_num
theorem k_zero : Ideal.ofBits .f32 0x00000000#32 = ((0 : ℝ) : EReal) := by
  simp [Ideal.ofBits, Ideal.ieee, -EReal.coe_mul]

/-! ## The norm of a row and its gradient -/

section Norm

variable (u g : Fin 1024 → ℝ)

def mu : ℝ := (∑ n, u n) / 1024
def dev (n : Fin 1024) : ℝ := u n - mu u
def spread : ℝ := (∑ n, dev u n * dev u n) / 1024 + eps
def rs : ℝ := (Real.sqrt (spread u))⁻¹
def xh (n : Fin 1024) : ℝ := dev u n * rs u
/-- The gradient of the norm, written by hand. -/
def back (n : Fin 1024) : ℝ := rs u * (g n - (∑ k, g k) / 1024 - xh u n * ((∑ k, g k * xh u k) / 1024))
/-- The spread's gradient, as the chain rule gives it. -/
def pull : ℝ := (∑ n, dev u n * g n) * (-(1 / 2) * (rs u / spread u)) / 1024
/-- The norm's gradient, as the chain rule gives it. -/
def chain (n : Fin 1024) : ℝ := g n * rs u + pull u g * (2 * dev u n) + ((∑ k, -(g k * rs u)) + ∑ k, -(pull u g * (2 * dev u k))) / 1024

theorem spread_pos : 0 < spread u := by
  have h : 0 ≤ ∑ n, dev u n * dev u n := Finset.sum_nonneg fun n _ => mul_self_nonneg _
  have := eps_pos
  unfold spread
  positivity

theorem sum_dev : ∑ n, dev u n = 0 := by
  unfold dev mu
  rw [Finset.sum_sub_distrib]
  simp
  ring

theorem rs_sq : rs u * rs u = (spread u)⁻¹ := by
  unfold rs
  rw [← mul_inv, Real.mul_self_sqrt (spread_pos u).le]

theorem chain_eq (n : Fin 1024) : chain u g n = back u g n := by
  have h1 : ∑ k, -(pull u g * (2 * dev u k)) = 0 := by
    rw [Finset.sum_neg_distrib, ← Finset.mul_sum, ← Finset.mul_sum, sum_dev]; simp
  have h2 : ∑ k, -(g k * rs u) = -((∑ k, g k) * rs u) := by rw [Finset.sum_neg_distrib, ← Finset.sum_mul]
  have h3 : ∑ k, g k * xh u k = (∑ k, dev u k * g k) * rs u := by
    rw [Finset.sum_mul]; exact Finset.sum_congr rfl fun k _ => by unfold xh; ring
  unfold chain back
  rw [h1, h2, h3]
  unfold pull xh
  rw [div_eq_mul_inv (rs u) (spread u), ← rs_sq]
  ring

end Norm

/-! ## Quotients, roots and maxima of reals, read from the left -/

theorem over_width (x : ℝ) : ((x / 1024 : ℝ) : EReal) = Ideal.div (x : EReal) ((1024 : ℝ) : EReal) := (div_coe (by norm_num)).symm
theorem rs_coe (u : Fin 1024 → ℝ) : ((rs u : ℝ) : EReal) = Ideal.rsqrt ((spread u : ℝ) : EReal) := (rsqrt_coe (spread_pos u)).symm
theorem coe_max (x y : ℝ) : ((max x y : ℝ) : EReal) = max (x : EReal) (y : EReal) := (max_coe x y).symm

/-! ## The block -/

/-- The arguments, the gates in their logits' place. -/
structure Args where
  x : Fin 4096 → Fin 1024 → ℝ
  osb : Fin 4096 → Fin 512 → ℝ
  oca : Fin 4096 → Fin 512 → ℝ
  gate : Fin 4096 → Fin 2048 → ℝ
  wsb : Fin 512 → Fin 1024 → ℝ
  wca : Fin 512 → Fin 1024 → ℝ
  wo : Fin 1024 → Fin 1024 → ℝ
  g1 : Fin 1024 → ℝ
  b1 : Fin 1024 → ℝ
  win : Fin 1024 → Fin 4096 → ℝ
  wout : Fin 4096 → Fin 1024 → ℝ
  g2 : Fin 1024 → ℝ
  b2 : Fin 1024 → ℝ
  tgt : Fin 4096 → Fin 1024 → ℝ

variable (A : Args) (r : Fin 4096)

/-- A gate's column in the first or the second half. -/
def lo (n : Fin 1024) : Fin 2048 := ⟨n.val, by omega⟩
def hi (n : Fin 1024) : Fin 2048 := ⟨1024 + n.val, by omega⟩

def merged (n : Fin 1024) : ℝ := A.gate r (lo n) * (∑ k, A.osb r k * A.wsb k n) + A.gate r (hi n) * (∑ k, A.oca r k * A.wca k n)
/-- The stream after the mixers. -/
def u1 (n : Fin 1024) : ℝ := alpha * A.x r n + ∑ k, merged A r k * A.wo k n
def x1 (n : Fin 1024) : ℝ := xh (u1 A r) n * A.g1 n + A.b1 n
/-- The hidden layer. -/
def relu (f : Fin 4096) : ℝ := max (∑ n, x1 A r n * A.win n f) 0
def act (f : Fin 4096) : ℝ := relu A r f * relu A r f
def u2 (n : Fin 1024) : ℝ := alpha * x1 A r n + ∑ f, act A r f * A.wout f n
def diff (n : Fin 1024) : ℝ := xh (u2 A r) n * A.g2 n + A.b2 n - A.tgt r n
def dy (n : Fin 1024) : ℝ := diff A r n * (1 / 1024)
def dyg (n : Fin 1024) : ℝ := dy A r n * A.g2 n
def du2 (n : Fin 1024) : ℝ := back (u2 A r) (dyg A r) n
def dh (f : Fin 4096) : ℝ := 2 * relu A r f * ∑ n, du2 A r n * A.wout f n
def dx1 (n : Fin 1024) : ℝ := alpha * du2 A r n + ∑ f, dh A r f * A.win n f
def dxg (n : Fin 1024) : ℝ := dx1 A r n * A.g1 n
def du1 (n : Fin 1024) : ℝ := back (u1 A r) (dxg A r) n

/-- A row's loss, before its half. -/
def miss : ℝ := (∑ n, diff A r n * diff A r n) / 1024

/-! ## The sums over the rows -/

def lossOf : ℝ := ∑ r, 1 / 2 * miss A r
def dg2Of (n : Fin 1024) : ℝ := ∑ r, dy A r n * xh (u2 A r) n
def db2Of (n : Fin 1024) : ℝ := ∑ r, dy A r n
def dg1Of (n : Fin 1024) : ℝ := ∑ r, dx1 A r n * xh (u1 A r) n
def db1Of (n : Fin 1024) : ℝ := ∑ r, dx1 A r n

/-! ## Arrays -/

/-- An array of reals. -/
def mat {n m : ℕ} (f : Fin n → Fin m → ℝ) : (⟨2, ![n, m]⟩ : Shape).Idx → EReal := fun i => ((f (i 0) (i 1) : ℝ) : EReal)

theorem mat_eq {n m : ℕ} {v : (⟨2, ![n, m]⟩ : Shape).Idx → EReal} {f : Fin n → Fin m → ℝ} (h : ∀ a b, v (ix2 a b) = ((f a b : ℝ) : EReal)) : v = mat f :=
  funext fun i => (congrArg v (eq_ix2 i)).trans (h (i 0) (i 1))

/-- An array of one row. -/
theorem mat_row {m : ℕ} {v : (⟨2, ![1, m]⟩ : Shape).Idx → EReal} {f : Fin m → ℝ} (h : ∀ b, v (ix2 0 b) = ((f b : ℝ) : EReal)) : v = mat fun _ => f :=
  mat_eq fun a b => by rw [Subsingleton.elim a 0]; exact h b

/-- The argument arrays. -/
structure Given where
  x : (⟨2, ![4096, 1024]⟩ : Shape).Idx → EReal
  osb : (⟨2, ![4096, 512]⟩ : Shape).Idx → EReal
  oca : (⟨2, ![4096, 512]⟩ : Shape).Idx → EReal
  lg : (⟨2, ![4096, 2048]⟩ : Shape).Idx → EReal
  bg : (⟨1, ![2048]⟩ : Shape).Idx → EReal
  wsb : (⟨2, ![512, 1024]⟩ : Shape).Idx → EReal
  wca : (⟨2, ![512, 1024]⟩ : Shape).Idx → EReal
  wo : (⟨2, ![1024, 1024]⟩ : Shape).Idx → EReal
  g1 : (⟨1, ![1024]⟩ : Shape).Idx → EReal
  b1 : (⟨1, ![1024]⟩ : Shape).Idx → EReal
  win : (⟨2, ![1024, 4096]⟩ : Shape).Idx → EReal
  wout : (⟨2, ![4096, 1024]⟩ : Shape).Idx → EReal
  g2 : (⟨1, ![1024]⟩ : Shape).Idx → EReal
  b2 : (⟨1, ![1024]⟩ : Shape).Idx → EReal
  tgt : (⟨2, ![4096, 1024]⟩ : Shape).Idx → EReal

/-- Their reals. -/
def Given.args (G : Given) : Args where
  x r n := (G.x (ix2 r n)).toReal
  osb r n := (G.osb (ix2 r n)).toReal
  oca r n := (G.oca (ix2 r n)).toReal
  gate r n := (Ideal.logistic (G.lg (ix2 r n) + G.bg (ix1 n))).toReal
  wsb k n := (G.wsb (ix2 k n)).toReal
  wca k n := (G.wca (ix2 k n)).toReal
  wo k n := (G.wo (ix2 k n)).toReal
  g1 n := (G.g1 (ix1 n)).toReal
  b1 n := (G.b1 (ix1 n)).toReal
  win n f := (G.win (ix2 n f)).toReal
  wout f n := (G.wout (ix2 f n)).toReal
  g2 n := (G.g2 (ix1 n)).toReal
  b2 n := (G.b2 (ix1 n)).toReal
  tgt r n := (G.tgt (ix2 r n)).toReal

/-- Every entry of an array is a real. -/
def IsReal {s : Shape} (v : s.Idx → EReal) : Prop := ∀ i, v i = (((v i).toReal : ℝ) : EReal)

/-- All but the gates' logits and their bias are reals. -/
structure Given.Finite (G : Given) : Prop where
  x : IsReal G.x
  osb : IsReal G.osb
  oca : IsReal G.oca
  wsb : IsReal G.wsb
  wca : IsReal G.wca
  wo : IsReal G.wo
  g1 : IsReal G.g1
  b1 : IsReal G.b1
  win : IsReal G.win
  wout : IsReal G.wout
  g2 : IsReal G.g2
  b2 : IsReal G.b2
  tgt : IsReal G.tgt

end Cert.MlpSpec
end
-- ==== Proof.Mlp.Worked.lean ====
module

public import proofs.«01_k».proof.Proof.Mlp.Spec
public import proofs.«01_k».proof.Proof.Mlp.Model
public import Idealize.ShloMosaic.Lib.Pointwise

/-! What a point computes of real blocks, quantity by quantity. -/

@[expose] public section
set_option maxRecDepth 16384
noncomputable section
namespace Cert.MlpWorked
open Idealize Idealize.ShloMosaic Cert.MlpIdeal Cert.MlpIdeal.Gen Cert.MlpSpec
open Cert.MlpModel (Ins Wts Sums slab band beside)

/-- The blocks hold these rows of the arguments, and the weights are whole. -/
structure Reads (B : Ins Ideal) (W : Wts Ideal) (A : Args) (ρ : Fin 256 → Fin 4096) : Prop where
  x : ∀ a n, B.x (ix2 a n) = ((A.x (ρ a) n : ℝ) : EReal)
  osb : ∀ a n, B.osb (ix2 a n) = ((A.osb (ρ a) n : ℝ) : EReal)
  oca : ∀ a n, B.oca (ix2 a n) = ((A.oca (ρ a) n : ℝ) : EReal)
  gate : ∀ a n, Ideal.logistic (B.lg (ix2 a n) + B.bg (ix2 0 n)) = ((A.gate (ρ a) n : ℝ) : EReal)
  tgt : ∀ a n, B.tgt (ix2 a n) = ((A.tgt (ρ a) n : ℝ) : EReal)
  g1 : ∀ n, B.g1 (ix2 0 n) = ((A.g1 n : ℝ) : EReal)
  b1 : ∀ n, B.b1 (ix2 0 n) = ((A.b1 n : ℝ) : EReal)
  g2 : ∀ n, B.g2 (ix2 0 n) = ((A.g2 n : ℝ) : EReal)
  b2 : ∀ n, B.b2 (ix2 0 n) = ((A.b2 n : ℝ) : EReal)
  win : ∀ n f, W.win (ix2 n f) = ((A.win n f : ℝ) : EReal)
  wout : ∀ f n, W.wout (ix2 f n) = ((A.wout f n : ℝ) : EReal)
  wsb : ∀ k n, W.wsb (ix2 k n) = ((A.wsb k n : ℝ) : EReal)
  wca : ∀ k n, W.wca (ix2 k n) = ((A.wca k n : ℝ) : EReal)
  wo : ∀ k n, W.wproj (ix2 k n) = ((A.wo k n : ℝ) : EReal)

variable {B : Ins Ideal} {W : Wts Ideal} {A : Args} {ρ : Fin 256 → Fin 4096}

/-! ## The first norm -/

theorem u1_at (h : Reads B W A ρ) (a : Fin 256) (n : Fin 1024) : MlpModel.u1 B W (ix2 a n) = ((u1 A (ρ a) n : ℝ) : EReal) := by
  unfold MlpModel.u1
  pointwise [k0_pay8, h.x, h.osb, h.oca, h.wsb, h.wca, h.wo, h.gate, k_alpha]
  simp only [u1, merged, EReal.coe_add, EReal.coe_mul, coe_fsum]
  rfl

theorem c1_at (h : Reads B W A ρ) (a : Fin 256) (n : Fin 1024) : MlpModel.c1 B W (ix2 a n) = ((mu (u1 A (ρ a)) : ℝ) : EReal) := by
  have e := u1_at h
  unfold MlpModel.u1 at e
  unfold MlpModel.c1
  pointwise [k0_pay9, e, k_width]
  simp only [mu, over_width, coe_fsum]

section First

variable {v c : FVec Ideal S256x1024 .f32} {U : Fin 256 → Fin 1024 → ℝ} (hv : ∀ a n, v (ix2 a n) = ((U a n : ℝ) : EReal))
  (hc : ∀ a n, c (ix2 a n) = ((mu (U a) : ℝ) : EReal))

include hv hc

theorem pay10_at (a : Fin 256) (n : Fin 1024) : k0_pay10 v c (ix2 a n) = ((dev (U a) n : ℝ) : EReal) := by
  pointwise [k0_pay10, hv, hc]
  simp only [dev, EReal.coe_sub]

theorem pay11_at (a : Fin 256) : k0_pay11 v c (ix2 a 0) = ((rs (U a) : ℝ) : EReal) := by
  pointwise [k0_pay11, pay10_at hv hc, k_width, k_eps]
  simp only [rs_coe, spread, EReal.coe_add, EReal.coe_mul, over_width, coe_fsum]

theorem pay12_at (a : Fin 256) (n : Fin 1024) : k0_pay12 v c (ix2 a n) = ((xh (U a) n : ℝ) : EReal) := by
  pointwise [k0_pay12, pay10_at hv hc, pay11_at hv hc]
  simp only [xh, EReal.coe_mul]

end First

theorem rstd1_at (h : Reads B W A ρ) (a : Fin 256) : MlpModel.rstd1 B W (ix2 a 0) = ((rs (u1 A (ρ a)) : ℝ) : EReal) :=
  pay11_at (U := fun a => u1 A (ρ a)) (u1_at h) (c1_at h) a

theorem xhat1_at (h : Reads B W A ρ) (a : Fin 256) (n : Fin 1024) : MlpModel.xhat1 B W (ix2 a n) = ((xh (u1 A (ρ a)) n : ℝ) : EReal) :=
  pay12_at (U := fun a => u1 A (ρ a)) (u1_at h) (c1_at h) a n

theorem x1_at (h : Reads B W A ρ) (a : Fin 256) (n : Fin 1024) : MlpModel.x1 B W (ix2 a n) = ((x1 A (ρ a) n : ℝ) : EReal) := by
  unfold MlpModel.x1
  pointwise [k0_pay13, pay12_at (U := fun a => u1 A (ρ a)) (u1_at h) (c1_at h), h.g1, h.b1]
  simp only [x1, EReal.coe_add, EReal.coe_mul]

theorem x1b_at (h : Reads B W A ρ) (a : Fin 256) (n : Fin 1024) : MlpModel.x1b B W (ix2 a n) = ((x1 A (ρ a) n : ℝ) : EReal) := x1_at h a n

/-! ## The hidden layer -/

/-- A column of the hidden layer, from its slab. -/
def colOf (k : Fin 8) (j : Fin 512) : Fin 4096 := ⟨512 * k.val + j.val, by omega⟩

theorem slab_at (h : Reads B W A ρ) (k : Fin 8) (n : Fin 1024) (j : Fin 512) :
    (slab (n := 1024) (w := 512) (t := 4096) rfl W.win k : S1024x512.Idx → EReal) (ix2 n j) = ((A.win n (colOf k j) : ℝ) : EReal) := by
  refine Eq.trans (congrArg W.win ?_) (h.win n (colOf k j))
  funext b
  match b with
  | ⟨0, _⟩ => rfl
  | ⟨1, _⟩ => rfl

theorem band_at (h : Reads B W A ρ) (k : Fin 8) (j : Fin 512) (n : Fin 1024) :
    (band (n := 1024) (w := 512) (t := 4096) rfl W.wout k : S512x1024.Idx → EReal) (ix2 j n) = ((A.wout (colOf k j) n : ℝ) : EReal) := by
  refine Eq.trans (congrArg W.wout ?_) (h.wout (colOf k j) n)
  funext b
  match b with
  | ⟨0, _⟩ => rfl
  | ⟨1, _⟩ => rfl

/-- Slabs side by side, each read where it lies. -/
theorem beside_is {f : Fin 8 → S256x512.Idx → EReal} {g : Fin 256 → Fin 4096 → ℝ}
    (hf : ∀ k a j, f k (ix2 a j) = ((g a (colOf k j) : ℝ) : EReal)) (a : Fin 256) (i : Fin 4096) :
    (beside (n := 256) (w := 512) (t := 4096) rfl f : S256x4096.Idx → EReal) (ix2 a i) = ((g a i : ℝ) : EReal) := by
  have hi := i.isLt
  have e : colOf ⟨i.val / 512, by omega⟩ ⟨i.val % 512, by omega⟩ = i := Fin.ext (by show 512 * (i.val / 512) + i.val % 512 = i.val; omega)
  refine Eq.trans (congrArg (f _) ?_) ((hf ⟨i.val / 512, by omega⟩ a ⟨i.val % 512, by omega⟩).trans (by rw [e]))
  funext b
  match b with
  | ⟨0, _⟩ => rfl
  | ⟨1, _⟩ => rfl

theorem hid_at (h : Reads B W A ρ) (k : Fin 8) (a : Fin 256) (j : Fin 512) :
    MlpModel.hid B W k (ix2 a j) = ((relu A (ρ a) (colOf k j) : ℝ) : EReal) := by
  unfold MlpModel.hid
  pointwise [k0_pay24, x1b_at h, slab_at h]
  simp only [relu, EReal.coe_mul, coe_fsum, coe_max, EReal.coe_zero]

theorem relu_at (h : Reads B W A ρ) (k : Fin 8) (a : Fin 256) (j : Fin 512) :
    MlpModel.relu B W k (ix2 a j) = ((relu A (ρ a) (colOf k j) : ℝ) : EReal) := by
  unfold MlpModel.relu
  pointwise [k0_pay19, hid_at h]

theorem act_at (h : Reads B W A ρ) (a : Fin 256) (i : Fin 4096) : MlpModel.act B W (ix2 a i) = ((act A (ρ a) i : ℝ) : EReal) := by
  refine beside_is (g := fun a i => act A (ρ a) i) (fun k a j => ?_) a i
  pointwise [k0_pay20, hid_at h]
  simp only [act, EReal.coe_mul]

/-! ## The second norm and the loss -/

theorem pay39_at (h : Reads B W A ρ) (a : Fin 256) (n : Fin 1024) :
    k0_pay39 (MlpModel.x1 B W) (MlpModel.act B W) W.wout (ix2 a n) = ((dev (u2 A (ρ a)) n : ℝ) : EReal) := by
  pointwise [k0_pay39, x1_at h, act_at h, h.wout, k_alpha, k_width]
  simp only [dev, mu, u2, EReal.coe_sub, EReal.coe_add, EReal.coe_mul, over_width, coe_fsum]

theorem rstd2_at (h : Reads B W A ρ) (a : Fin 256) : MlpModel.rstd2 B W (ix2 a 0) = ((rs (u2 A (ρ a)) : ℝ) : EReal) := by
  unfold MlpModel.rstd2
  pointwise [k0_pay40, pay39_at h, k_width, k_eps]
  simp only [rs_coe, spread, EReal.coe_add, EReal.coe_mul, over_width, coe_fsum]

theorem xhat2_at (h : Reads B W A ρ) (a : Fin 256) (n : Fin 1024) : MlpModel.xhat2 B W (ix2 a n) = ((xh (u2 A (ρ a)) n : ℝ) : EReal) := by
  have e := rstd2_at h
  unfold MlpModel.rstd2 at e
  unfold MlpModel.xhat2
  pointwise [k0_pay41, pay39_at h, e]
  simp only [xh, EReal.coe_mul]

theorem y2_at (h : Reads B W A ρ) (a : Fin 256) (n : Fin 1024) :
    MlpModel.y2 B W (ix2 a n) = ((xh (u2 A (ρ a)) n * A.g2 n + A.b2 n : ℝ) : EReal) := by
  have e := xhat2_at h
  unfold MlpModel.xhat2 at e
  unfold MlpModel.y2
  pointwise [k0_pay42, e, h.g2, h.b2]
  simp only [EReal.coe_add, EReal.coe_mul]

theorem diff_at (h : Reads B W A ρ) (a : Fin 256) (n : Fin 1024) : k0_pay43 (MlpModel.y2 B W) B.tgt (ix2 a n) = ((diff A (ρ a) n : ℝ) : EReal) := by
  pointwise [k0_pay43, y2_at h, h.tgt]
  simp only [diff, EReal.coe_sub]

theorem dy_at (h : Reads B W A ρ) (a : Fin 256) (n : Fin 1024) : k0_pay45 (MlpModel.y2 B W) B.tgt (ix2 a n) = ((dy A (ρ a) n : ℝ) : EReal) := by
  pointwise [k0_pay45, diff_at h, k_part]
  simp only [dy, EReal.coe_mul]

theorem dyg2_at (h : Reads B W A ρ) (a : Fin 256) (n : Fin 1024) : MlpModel.dyg2 B W (ix2 a n) = ((dyg A (ρ a) n : ℝ) : EReal) := by
  unfold MlpModel.dyg2
  pointwise [k0_pay48, dy_at h, h.g2]
  simp only [dyg, EReal.coe_mul]

theorem sum2_at (h : Reads B W A ρ) (a : Fin 256) : MlpModel.sum2 B W (ix2 a 0) = ((∑ n, dyg A (ρ a) n : ℝ) : EReal) := by
  have e := dyg2_at h
  unfold MlpModel.dyg2 at e
  unfold MlpModel.sum2
  pointwise [k0_pay49, e]
  simp only [coe_fsum]

theorem du2_at (h : Reads B W A ρ) (a : Fin 256) (n : Fin 1024) : MlpModel.du2 B W (ix2 a n) = ((du2 A (ρ a) n : ℝ) : EReal) := by
  unfold MlpModel.du2
  pointwise [k0_pay50, rstd2_at h, xhat2_at h, dyg2_at h, sum2_at h, k_width]
  simp only [du2, back, EReal.coe_sub, EReal.coe_mul, over_width, coe_fsum]

theorem du2b_at (h : Reads B W A ρ) (a : Fin 256) (n : Fin 1024) : MlpModel.du2b B W (ix2 a n) = ((du2 A (ρ a) n : ℝ) : EReal) := du2_at h a n

/-! ## Back through the hidden layer -/

theorem dh_at (h : Reads B W A ρ) (a : Fin 256) (i : Fin 4096) : MlpModel.dh B W (ix2 a i) = ((dh A (ρ a) i : ℝ) : EReal) := by
  refine beside_is (g := fun a i => dh A (ρ a) i) (fun k a j => ?_) a i
  unfold MlpModel.dhid
  pointwise [k0_pay55, du2b_at h, band_at h, relu_at h, k_two]
  simp only [dh, EReal.coe_mul, coe_fsum]

theorem dx1_at (h : Reads B W A ρ) (a : Fin 256) (n : Fin 1024) : MlpModel.dx1 B W (ix2 a n) = ((dx1 A (ρ a) n : ℝ) : EReal) := by
  unfold MlpModel.dx1
  pointwise [k0_pay60, du2_at h, dh_at h, h.win, k_alpha]
  simp only [dx1, EReal.coe_add, EReal.coe_mul, coe_fsum]

theorem du1_at (h : Reads B W A ρ) (a : Fin 256) (n : Fin 1024) : MlpModel.du1 B W (ix2 a n) = ((du1 A (ρ a) n : ℝ) : EReal) := by
  unfold MlpModel.du1
  pointwise [k0_pay2, rstd1_at h, xhat1_at h, dx1_at h, h.g1, k_width]
  simp only [du1, back, dxg, EReal.coe_sub, EReal.coe_mul, over_width, coe_fsum]

/-! ## The sums -/

variable (S : Sums Ideal)

theorem loss_at (h : Reads B W A ρ) : (MlpModel.summed B W S).loss (ix2 0 0) = S.loss (ix2 0 0) + ((1 / 2 : ℝ) : EReal) * ∑ a, ((miss A (ρ a) : ℝ) : EReal) := by
  unfold MlpModel.summed
  pointwise [k0_pay44, diff_at h, k_width, k_half]
  simp only [miss, EReal.coe_mul, over_width, coe_fsum]

theorem dg2_at (h : Reads B W A ρ) (n : Fin 1024) :
    (MlpModel.summed B W S).dg2 (ix2 0 n) = S.dg2 (ix2 0 n) + ∑ a, ((dy A (ρ a) n * xh (u2 A (ρ a)) n : ℝ) : EReal) := by
  unfold MlpModel.summed
  pointwise [k0_pay46, dy_at h, xhat2_at h]
  simp only [EReal.coe_mul]

theorem db2_at (h : Reads B W A ρ) (n : Fin 1024) : (MlpModel.summed B W S).db2 (ix2 0 n) = S.db2 (ix2 0 n) + ∑ a, ((dy A (ρ a) n : ℝ) : EReal) := by
  unfold MlpModel.summed
  pointwise [k0_pay47, dy_at h]

theorem dg1_at (h : Reads B W A ρ) (n : Fin 1024) :
    (MlpModel.summed B W S).dg1 (ix2 0 n) = S.dg1 (ix2 0 n) + ∑ a, ((dx1 A (ρ a) n * xh (u1 A (ρ a)) n : ℝ) : EReal) := by
  have e := dx1_at h
  unfold MlpModel.dx1 at e
  unfold MlpModel.summed
  pointwise [k0_pay61, e, xhat1_at h]
  simp only [EReal.coe_mul]

theorem db1_at (h : Reads B W A ρ) (n : Fin 1024) : (MlpModel.summed B W S).db1 (ix2 0 n) = S.db1 (ix2 0 n) + ∑ a, ((dx1 A (ρ a) n : ℝ) : EReal) := by
  unfold MlpModel.summed
  pointwise [k0_pay1, dx1_at h]

end Cert.MlpWorked
end
-- ==== Proof.Mix.Spec.lean ====
module

public import Idealize.ShloMosaic.Lib.Pointwise

/-! The gates' gradient as sums over rows: what both programs compute, written over the extended reals. -/

@[expose] public section
set_option maxRecDepth 16384
noncomputable section
namespace Cert.MixSpec
open Idealize Idealize.ShloMosaic

/-- The arrays the gradient is taken at: the incoming gradient, the two attention outputs, the gates' logits and bias, the
    two projections and the output projection. -/
structure In where
  du : Fin 4096 → Fin 1024 → EReal
  osb : Fin 4096 → Fin 512 → EReal
  oca : Fin 4096 → Fin 512 → EReal
  lg : Fin 4096 → Fin 2048 → EReal
  bg : Fin 2048 → EReal
  wsb : Fin 512 → Fin 1024 → EReal
  wca : Fin 512 → Fin 1024 → EReal
  wo : Fin 1024 → Fin 1024 → EReal

variable (A : In)

/-- A gate's column in the first or the second half of the logits. -/
def lo (n : Fin 1024) : Fin 2048 := ⟨n.val, by omega⟩
def hi (n : Fin 1024) : Fin 2048 := ⟨1024 + n.val, by omega⟩

def gate (r : Fin 4096) (n : Fin 2048) : EReal := Ideal.logistic (A.lg r n + A.bg n)
def ysb (r : Fin 4096) (n : Fin 1024) : EReal := ∑ k, A.osb r k * A.wsb k n
def yca (r : Fin 4096) (n : Fin 1024) : EReal := ∑ k, A.oca r k * A.wca k n
def dm (r : Fin 4096) (n : Fin 1024) : EReal := ∑ k, A.du r k * A.wo n k
def merged (r : Fin 4096) (n : Fin 1024) : EReal := gate A r (lo n) * ysb A r n + gate A r (hi n) * yca A r n
def dlsb (r : Fin 4096) (n : Fin 1024) : EReal := dm A r n * ysb A r n * gate A r (lo n) * (1 - gate A r (lo n))
def dlca (r : Fin 4096) (n : Fin 1024) : EReal := dm A r n * yca A r n * gate A r (hi n) * (1 - gate A r (hi n))
def dysb (r : Fin 4096) (n : Fin 1024) : EReal := dm A r n * gate A r (lo n)
def dyca (r : Fin 4096) (n : Fin 1024) : EReal := dm A r n * gate A r (hi n)
def dosb (r : Fin 4096) (k : Fin 512) : EReal := ∑ n, dysb A r n * A.wsb k n
def doca (r : Fin 4096) (k : Fin 512) : EReal := ∑ n, dyca A r n * A.wca k n

/-- The logits' gradient over both halves. -/
def dl (r : Fin 4096) (n : Fin 2048) : EReal :=
  if h : n.val < 1024 then dlsb A r ⟨n.val, h⟩ else dlca A r ⟨n.val - 1024, by omega⟩

theorem dl_lo (r : Fin 4096) (n : Fin 1024) (i : Fin 2048) (h : i.val = n.val) : dl A r i = dlsb A r n := by
  have e : (⟨i.val, by omega⟩ : Fin 1024) = n := Fin.ext h
  rw [dl, dif_pos (by omega), e]

theorem dl_hi (r : Fin 4096) (n : Fin 1024) (i : Fin 2048) (h : i.val = 1024 + n.val) : dl A r i = dlca A r n := by
  have e : (⟨i.val - 1024, by omega⟩ : Fin 1024) = n := Fin.ext (by dsimp only; omega)
  rw [dl, dif_neg (by omega), e]

/-- Row `a` of the block of 256 rows number `s`. -/
def row (s : ℕ) (a : Fin 256) : Fin 4096 := ⟨(s * 256 + a.val) % 4096, Nat.mod_lt _ (by decide)⟩

/-- The sum of `f` over the rows of the first `n` blocks. -/
def rows (n : ℕ) (f : Fin 4096 → EReal) : EReal := ∑ s ∈ Finset.range n, ∑ a, f (row s a)

theorem rows_succ (n : ℕ) (f : Fin 4096 → EReal) : rows (n + 1) f = rows n f + ∑ a, f (row n a) := Finset.sum_range_succ _ _

theorem rows_one (f : Fin 4096 → EReal) : rows 1 f = ∑ a, f (row 0 a) := by rw [rows_succ]; simp [rows]

theorem rows_all (f : Fin 4096 → EReal) : rows 16 f = ∑ r, f r := by
  rw [rows, Fin.sum_univ_tiles 16 256 rfl f, Finset.sum_range]
  refine Finset.sum_congr rfl fun s _ => Finset.sum_congr rfl fun a _ => congrArg f (Fin.ext ?_)
  show (s.val * 256 + a.val) % 4096 = s.val * 256 + a.val
  omega

end Cert.MixSpec
-- ==== Proof.Mlp.Points.lean ====
module

public import proofs.«01_k».proof.Proof.Mlp.Worked
public import proofs.«01_k».proof.Proof.Mlp.Frame
public import proofs.«01_k».proof.Proof.Mix.Spec
public import Idealize.ShloMosaic.Lib.StableHlo.ReadAt
public import Idealize.ShloMosaic.Lib.Pipeline.ValueKit

/-! The launch over the reals, of the arrays it finds: what each point reads, the sums, and the ten result arrays. -/

@[expose] public section
set_option maxRecDepth 16384
noncomputable section
namespace Cert.MlpRun
open Idealize Idealize.ShloMosaic Idealize.ShloMosaic.TcCoe Idealize.ShloMosaic.Tactic Cert.MlpIdeal Cert.MlpIdeal.Gen Cert.MlpSpec Cert.MlpWorked
open Idealize.ShloMosaic.Pipeline (Dat)
open Cert.MixSpec (row rows rows_succ rows_all)
open Cert.MlpModel (Ins Wts Sums)

theorem lt16 (t : Fin cfg0.N) : t.val < 16 := lt_of_lt_of_eq t.isLt N_0

theorem idx : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![t.val, 0] ∧ win0_6.index t = ![0, 0] ∧ win0_7.index t = ![0, 0]
    ∧ win0_8.index t = ![0, 0] ∧ win0_9.index t = ![0, 0] ∧ win0_10.index t = ![t.val, 0] ∧ win0_11.index t = ![t.val, 0] ∧ win0_12.index t = ![t.val, 0]
    ∧ win0_13.index t = ![t.val, 0] ∧ win0_14.index t = ![t.val, 0] ∧ win0_15.index t = ![0, 0] ∧ win0_16.index t = ![0, 0] ∧ win0_17.index t = ![0, 0]
    ∧ win0_18.index t = ![0, 0] ∧ win0_19.index t = ![0, 0] :=
  (by decide +kernel : ∀ t : Fin grid0.N, _)

variable (m : (ℓ : Loc nD τ sig) → Buf (Elt Ideal) ℓ) (c : Dev nD)

theorem row_val {t : ℕ} (ht : t < 16) (a : Fin 256) : t * 256 + a.val = (row t a).val := by
  show _ = (t * 256 + a.val) % 4096
  omega

/-- The arrays as launched. -/
def given : Given where
  x := m ((c.tc : Thread nD τ).loc main_arg0)
  osb := m ((c.tc : Thread nD τ).loc main_arg1)
  oca := m ((c.tc : Thread nD τ).loc main_arg2)
  lg := m ((c.tc : Thread nD τ).loc main_arg3)
  bg := m ((c.tc : Thread nD τ).loc main_arg4)
  wsb := m ((c.tc : Thread nD τ).loc main_arg5)
  wca := m ((c.tc : Thread nD τ).loc main_arg6)
  wo := m ((c.tc : Thread nD τ).loc main_arg7)
  g1 := m ((c.tc : Thread nD τ).loc main_arg8)
  b1 := m ((c.tc : Thread nD τ).loc main_arg9)
  win := m ((c.tc : Thread nD τ).loc main_arg10)
  wout := m ((c.tc : Thread nD τ).loc main_arg11)
  g2 := m ((c.tc : Thread nD τ).loc main_arg12)
  b2 := m ((c.tc : Thread nD τ).loc main_arg13)
  tgt := m ((c.tc : Thread nD τ).loc main_arg14)

/-! ## Before the launch -/

theorem V_v0 (a : Fin 4096) (n : Fin 512) : (V m c main_v0 : S4096x512.Idx → EReal) (ix2 a n) = (given m c).oca (ix2 a n) := by
  unfold V; after_reads_simp; rfl

theorem V_v3 (k : Fin 8) (i : Fin 512) (j : Fin 128) :
    (V m c main_v3 : S8x512x128.Idx → EReal) (ix3 k i j) = (given m c).wsb (ix2 i ⟨k.val * 128 + j.val, by omega⟩) := by
  unfold V; after_reads_simp; clean_types; pointwise; rfl

theorem V_v6 (k : Fin 8) (i : Fin 512) (j : Fin 128) :
    (V m c main_v6 : S8x512x128.Idx → EReal) (ix3 k i j) = (given m c).wca (ix2 i ⟨k.val * 128 + j.val, by omega⟩) := by
  unfold V; after_reads_simp; clean_types; pointwise; rfl

theorem V_v7 (k n : Fin 1024) : (V m c main_v7 : S1024x1024.Idx → EReal) (ix2 k n) = (given m c).wo (ix2 k n) := by
  unfold V; after_reads_simp; rfl

theorem V_v10 (k : Fin 8) (i : Fin 1024) (j : Fin 512) :
    (V m c main_v10 : S8x1024x512.Idx → EReal) (ix3 k i j) = (given m c).win (ix2 i ⟨k.val * 512 + j.val, by omega⟩) := by
  unfold V; after_reads_simp; clean_types; pointwise; rfl

theorem V_v11 (f : Fin 4096) (n : Fin 1024) : (V m c main_v11 : S4096x1024.Idx → EReal) (ix2 f n) = (given m c).wout (ix2 f n) := by
  unfold V; after_reads_simp; rfl

theorem V_v12 (n : Fin 2048) : (V m c main_v12 : S1x2048.Idx → EReal) (ix2 0 n) = (given m c).bg (ix1 n) := by
  unfold V; after_reads_simp; clean_types; pointwise; rfl

theorem V_v13 (n : Fin 1024) : (V m c main_v13 : S1x1024.Idx → EReal) (ix2 0 n) = (given m c).g1 (ix1 n) := by
  unfold V; after_reads_simp; clean_types; pointwise; rfl

theorem V_v14 (n : Fin 1024) : (V m c main_v14 : S1x1024.Idx → EReal) (ix2 0 n) = (given m c).b1 (ix1 n) := by
  unfold V; after_reads_simp; clean_types; pointwise; rfl

theorem V_v15 (n : Fin 1024) : (V m c main_v15 : S1x1024.Idx → EReal) (ix2 0 n) = (given m c).g2 (ix1 n) := by
  unfold V; after_reads_simp; clean_types; pointwise; rfl

theorem V_v16 (n : Fin 1024) : (V m c main_v16 : S1x1024.Idx → EReal) (ix2 0 n) = (given m c).b2 (ix1 n) := by
  unfold V; after_reads_simp; clean_types; pointwise; rfl

/-! ## What a point reads -/

section Blocks

variable (t : Fin cfg0.N)

theorem in_x (a : Fin 256) (n : Fin 1024) : (ins m c t).x (ix2 a n) = (given m c).x (ix2 (row t.val a) n) := by
  have := lt16 t
  refine Eq.trans ?_ (congrFun (V_main_arg0 m c) _)
  show iblk m c 0 t (ix2 a n) = _
  blk_ext [iblk, idx t]
  exact row_val (lt16 t) a

theorem in_osb (a : Fin 256) (n : Fin 512) : (ins m c t).osb (ix2 a n) = (given m c).osb (ix2 (row t.val a) n) := by
  have := lt16 t
  refine Eq.trans ?_ (congrFun (V_main_arg1 m c) _)
  show iblk m c 1 t (ix2 a n) = _
  blk_ext [iblk, idx t]
  exact row_val (lt16 t) a

theorem in_oca (a : Fin 256) (n : Fin 512) : (ins m c t).oca (ix2 a n) = (given m c).oca (ix2 (row t.val a) n) := by
  have := lt16 t
  refine Eq.trans ?_ (V_v0 m c _ _)
  show iblk m c 2 t (ix2 a n) = _
  blk_ext [iblk, idx t]
  exact row_val (lt16 t) a

theorem in_lg (a : Fin 256) (n : Fin 2048) : (ins m c t).lg (ix2 a n) = (given m c).lg (ix2 (row t.val a) n) := by
  have := lt16 t
  refine Eq.trans ?_ (congrFun (V_main_arg3 m c) _)
  show iblk m c 3 t (ix2 a n) = _
  blk_ext [iblk, idx t]
  exact row_val (lt16 t) a

theorem in_tgt (a : Fin 256) (n : Fin 1024) : (ins m c t).tgt (ix2 a n) = (given m c).tgt (ix2 (row t.val a) n) := by
  have := lt16 t
  refine Eq.trans ?_ (congrFun (V_main_arg14 m c) _)
  show iblk m c 5 t (ix2 a n) = _
  blk_ext [iblk, idx t]
  exact row_val (lt16 t) a

theorem in_bg (n : Fin 2048) : (ins m c t).bg (ix2 0 n) = (given m c).bg (ix1 n) := by
  refine Eq.trans ?_ (V_v12 m c n)
  show iblk m c 4 t (ix2 0 n) = _
  blk_ext [iblk, idx t]

theorem in_g1 (n : Fin 1024) : (ins m c t).g1 (ix2 0 n) = (given m c).g1 (ix1 n) := by
  refine Eq.trans ?_ (V_v13 m c n)
  show iblk m c 6 t (ix2 0 n) = _
  blk_ext [iblk, idx t]

theorem in_b1 (n : Fin 1024) : (ins m c t).b1 (ix2 0 n) = (given m c).b1 (ix1 n) := by
  refine Eq.trans ?_ (V_v14 m c n)
  show iblk m c 7 t (ix2 0 n) = _
  blk_ext [iblk, idx t]

theorem in_g2 (n : Fin 1024) : (ins m c t).g2 (ix2 0 n) = (given m c).g2 (ix1 n) := by
  refine Eq.trans ?_ (V_v15 m c n)
  show iblk m c 8 t (ix2 0 n) = _
  blk_ext [iblk, idx t]

theorem in_b2 (n : Fin 1024) : (ins m c t).b2 (ix2 0 n) = (given m c).b2 (ix1 n) := by
  refine Eq.trans ?_ (V_v16 m c n)
  show iblk m c 9 t (ix2 0 n) = _
  blk_ext [iblk, idx t]

end Blocks

theorem w_wsb (k : Fin 512) (n : Fin 1024) : (wts m c).wsb (ix2 k n) = (given m c).wsb (ix2 k n) :=
  (V_v3 m c ⟨n.val / 128, by omega⟩ k ⟨n.val % 128, by omega⟩).trans (congrArg (given m c).wsb (congrArg (ix2 k) (Fin.ext (Nat.div_add_mod' _ _))))

theorem w_wca (k : Fin 512) (n : Fin 1024) : (wts m c).wca (ix2 k n) = (given m c).wca (ix2 k n) :=
  (V_v6 m c ⟨n.val / 128, by omega⟩ k ⟨n.val % 128, by omega⟩).trans (congrArg (given m c).wca (congrArg (ix2 k) (Fin.ext (Nat.div_add_mod' _ _))))

theorem w_win (k : Fin 1024) (n : Fin 4096) : (wts m c).win (ix2 k n) = (given m c).win (ix2 k n) :=
  (V_v10 m c ⟨n.val / 512, by omega⟩ k ⟨n.val % 512, by omega⟩).trans (congrArg (given m c).win (congrArg (ix2 k) (Fin.ext (Nat.div_add_mod' _ _))))

variable {m c}

/-- Every point reads its rows of the arguments, all but the gates' logits real. -/
theorem reads (hf : (given m c).Finite) (t : Fin cfg0.N) : Reads (ins m c t) (wts m c) (given m c).args (row t.val) where
  x a n := (in_x m c t a n).trans (hf.x _)
  osb a n := (in_osb m c t a n).trans (hf.osb _)
  oca a n := (in_oca m c t a n).trans (hf.oca _)
  gate a n := (congrArg Ideal.logistic (congrArg₂ (· + ·) (in_lg m c t a n) (in_bg m c t n))).trans (logistic_real _)
  tgt a n := (in_tgt m c t a n).trans (hf.tgt _)
  g1 n := (in_g1 m c t n).trans (hf.g1 _)
  b1 n := (in_b1 m c t n).trans (hf.b1 _)
  g2 n := (in_g2 m c t n).trans (hf.g2 _)
  b2 n := (in_b2 m c t n).trans (hf.b2 _)
  win n f := (w_win m c n f).trans (hf.win _)
  wout f n := (V_v11 m c f n).trans (hf.wout _)
  wsb k n := (w_wsb m c k n).trans (hf.wsb _)
  wca k n := (w_wca m c k n).trans (hf.wca _)
  wo k n := (V_v7 m c k n).trans (hf.wo _)

/-! ## The sums -/

/-- The sums over the rows of the first blocks. -/
structure Totals (A : Args) (n : ℕ) (S : Sums Ideal) : Prop where
  loss : S.loss (ix2 0 0) = rows n fun r => ((1 / 2 * miss A r : ℝ) : EReal)
  dg2 : ∀ i, S.dg2 (ix2 0 i) = rows n fun r => ((dy A r i * xh (u2 A r) i : ℝ) : EReal)
  db2 : ∀ i, S.db2 (ix2 0 i) = rows n fun r => ((dy A r i : ℝ) : EReal)
  dg1 : ∀ i, S.dg1 (ix2 0 i) = rows n fun r => ((dx1 A r i * xh (u1 A r) i : ℝ) : EReal)
  db1 : ∀ i, S.db1 (ix2 0 i) = rows n fun r => ((dx1 A r i : ℝ) : EReal)

theorem totals_zero (A : Args) : Totals A 0 Sums.zero where
  loss := by unfold Sums.zero; pointwise [k0_pay3, k_zero]; simp [rows]
  dg2 i := by unfold Sums.zero; pointwise [k0_pay4, k_zero]; simp [rows]
  db2 i := by unfold Sums.zero; pointwise [k0_pay5, k_zero]; simp [rows]
  dg1 i := by unfold Sums.zero; pointwise [k0_pay6, k_zero]; simp [rows]
  db1 i := by unfold Sums.zero; pointwise [k0_pay7, k_zero]; simp [rows]

/-- Half a sum of reals. -/
theorem half_sum {ι : Type} (s : Finset ι) (f : ι → ℝ) : ((1 / 2 : ℝ) : EReal) * ∑ k ∈ s, ((f k : ℝ) : EReal) = ∑ k ∈ s, ((1 / 2 * f k : ℝ) : EReal) := by
  rw [← coe_fsum, ← EReal.coe_mul, Finset.mul_sum, coe_fsum]

theorem totals (hf : (given m c).Finite) : ∀ (n : ℕ) (h : n ≤ cfg0.N), Totals (given m c).args n (started m c n h)
  | 0, _ => totals_zero _
  | n + 1, h =>
    have T := totals hf n (Nat.le_of_lt h)
    have R := reads hf ⟨n, h⟩
    { loss := (loss_at _ R).trans (by rw [T.loss, half_sum, rows_succ])
      dg2 := fun i => (dg2_at _ R i).trans (by rw [T.dg2, rows_succ])
      db2 := fun i => (db2_at _ R i).trans (by rw [T.db2, rows_succ])
      dg1 := fun i => (dg1_at _ R i).trans (by rw [T.dg1, rows_succ])
      db1 := fun i => (db1_at _ R i).trans (by rw [T.db1, rows_succ]) }

/-- The sums over every row. -/
theorem rows_real (f : Fin 4096 → ℝ) : rows 16 (fun r => ((f r : ℝ) : EReal)) = ((∑ r, f r : ℝ) : EReal) := by rw [rows_all, coe_fsum]

/-! ## The result arrays -/

/-- A point's rows of an array. -/
theorem rows_of {d : ℕ} {f : Fin 4096 → Fin d → ℝ} {t : ℕ} (ht : t < 16) {v : (⟨2, ![256, d]⟩ : Shape).Idx → EReal} (hv : ∀ a x, v (ix2 a x) = ((f (row t a) x : ℝ) : EReal))
    {z : (⟨2, ![4096, d]⟩ : Shape).Idx} (y : (⟨2, ![256, d]⟩ : Shape).Idx) (h0 : (z 0).val = t * 256 + (y 0).val) (h1 : (z 1).val = (y 1).val) : v y = mat f z := by
  have e0 : row t (y 0) = z 0 := Fin.ext ((row_val ht (y 0)).symm.trans h0.symm)
  have e1 : y 1 = z 1 := Fin.ext h1.symm
  exact (congrArg v (eq_ix2 y)).trans ((hv (y 0) (y 1)).trans (congrArg (fun r : ℝ => (r : EReal)) (congrArg₂ f e0 e1)))

/-- A row of sums, whole. -/
theorem sums_of {d : ℕ} {f : Fin d → ℝ} {v : (⟨2, ![1, d]⟩ : Shape).Idx → EReal} (hv : ∀ x, v (ix2 0 x) = ((f x : ℝ) : EReal))
    {z : (⟨2, ![1, d]⟩ : Shape).Idx} (y : (⟨2, ![1, d]⟩ : Shape).Idx) (h1 : (z 1).val = (y 1).val) : v y = mat (fun _ => f) z := by
  have e0 : y 0 = (0 : Fin 1) := Subsingleton.elim (α := Fin 1) _ _
  have e1 : y 1 = z 1 := Fin.ext h1.symm
  exact (congrArg v ((eq_ix2 y).trans (congrArg (fun a : Fin 1 => ix2 a (n1 := d) (y 1)) e0))).trans ((hv (y 1)).trans (congrArg (fun x : Fin d => ((f x : ℝ) : EReal)) e1))

/-- After the last point the sums are whole. -/
theorem last {t : Fin cfg0.N} (h : t.val % 16 = 15) : started m c (t.val + 1) t.isLt = started m c 16 N_0.ge := by
  have := lt16 t
  congr 1; omega

variable (hf : (given m c).Finite)

include hf

theorem act_array : (dats m 0 c).arrAt 10 cfg0.N = mat (act (given m c).args) := by
  refine (dats m 0 c).arrAt_eq_of_covers 10 _ (by decide +kernel) fun t _ y => ?_
  blk_simp
  rw [after_10]
  refine rows_of (lt16 t) (act_at (reads hf t)) y ?_ ?_ <;> blk_simp [idx t] <;> rfl

theorem x1b_array : (dats m 0 c).arrAt 11 cfg0.N = mat (x1 (given m c).args) := by
  refine (dats m 0 c).arrAt_eq_of_covers 11 _ (by decide +kernel) fun t _ y => ?_
  blk_simp
  rw [after_11]
  refine rows_of (lt16 t) (x1b_at (reads hf t)) y ?_ ?_ <;> blk_simp [idx t] <;> rfl

theorem dh_array : (dats m 0 c).arrAt 12 cfg0.N = mat (dh (given m c).args) := by
  refine (dats m 0 c).arrAt_eq_of_covers 12 _ (by decide +kernel) fun t _ y => ?_
  blk_simp
  rw [after_12]
  refine rows_of (lt16 t) (dh_at (reads hf t)) y ?_ ?_ <;> blk_simp [idx t] <;> rfl

theorem du2b_array : (dats m 0 c).arrAt 13 cfg0.N = mat (du2 (given m c).args) := by
  refine (dats m 0 c).arrAt_eq_of_covers 13 _ (by decide +kernel) fun t _ y => ?_
  blk_simp
  rw [after_13]
  refine rows_of (lt16 t) (du2b_at (reads hf t)) y ?_ ?_ <;> blk_simp [idx t] <;> rfl

theorem du1_array : (dats m 0 c).arrAt 14 cfg0.N = mat (du1 (given m c).args) := by
  refine (dats m 0 c).arrAt_eq_of_covers 14 _ (by decide +kernel) fun t _ y => ?_
  blk_simp
  rw [after_14]
  refine rows_of (lt16 t) (du1_at (reads hf t)) y ?_ ?_ <;> blk_simp [idx t] <;> rfl

theorem loss_array : (dats m 0 c).arrAt 15 cfg0.N = mat (fun _ _ => lossOf (given m c).args) := by
  refine (dats m 0 c).arrAt_eq_of_covers 15 _ (by decide +kernel) fun t h y => ?_
  have T := totals hf 16 N_0.ge
  blk_simp
  rw [after_15, last ((flush0_15 t).1 h)]
  refine sums_of (fun x => by rw [Subsingleton.elim x 0, T.loss]; exact rows_real _) y ?_
  blk_simp [idx t] <;> rfl

theorem dg2_array : (dats m 0 c).arrAt 16 cfg0.N = mat (fun _ => dg2Of (given m c).args) := by
  refine (dats m 0 c).arrAt_eq_of_covers 16 _ (by decide +kernel) fun t h y => ?_
  have T := totals hf 16 N_0.ge
  blk_simp
  rw [after_16, last ((flush0_16 t).1 h)]
  refine sums_of (fun x => (T.dg2 x).trans (rows_real _)) y ?_
  blk_simp [idx t] <;> rfl

theorem db2_array : (dats m 0 c).arrAt 17 cfg0.N = mat (fun _ => db2Of (given m c).args) := by
  refine (dats m 0 c).arrAt_eq_of_covers 17 _ (by decide +kernel) fun t h y => ?_
  have T := totals hf 16 N_0.ge
  blk_simp
  rw [after_17, last ((flush0_17 t).1 h)]
  refine sums_of (fun x => (T.db2 x).trans (rows_real _)) y ?_
  blk_simp [idx t] <;> rfl

theorem dg1_array : (dats m 0 c).arrAt 18 cfg0.N = mat (fun _ => dg1Of (given m c).args) := by
  refine (dats m 0 c).arrAt_eq_of_covers 18 _ (by decide +kernel) fun t h y => ?_
  have T := totals hf 16 N_0.ge
  blk_simp
  rw [after_18, last ((flush0_18 t).1 h)]
  refine sums_of (fun x => (T.dg1 x).trans (rows_real _)) y ?_
  blk_simp [idx t] <;> rfl

theorem db1_array : (dats m 0 c).arrAt 19 cfg0.N = mat (fun _ => db1Of (given m c).args) := by
  refine (dats m 0 c).arrAt_eq_of_covers 19 _ (by decide +kernel) fun t h y => ?_
  have T := totals hf 16 N_0.ge
  blk_simp
  rw [after_19, last ((flush0_19 t).1 h)]
  refine sums_of (fun x => (T.db1 x).trans (rows_real _)) y ?_
  blk_simp [idx t] <;> rfl

end Cert.MlpRun
end
-- ==== Proof.Mlp.Ref.lean ====
module

public import proofs.«01_k».proof.Proof.Gen.MlpRefIdeal.Run
public import proofs.«01_k».proof.Proof.Mlp.Spec
public import Idealize.ShloMosaic.Lib.Pointwise

/-! The block written plainly, and its gradient by the chain rule, of real arguments: the same quantities. -/

@[expose] public section
set_option maxRecDepth 16384
noncomputable section
namespace Cert.MlpPlain
open Idealize Idealize.ShloMosaic Idealize.ShloMosaic.TcCoe Cert.MlpRefIdeal Cert.MlpRefIdeal.Gen Cert.MlpRefIdeal.Value Cert.MlpSpec

/-- The arguments hold these reals. -/
structure Holds (V0 : Valuation τ sig (Elt Ideal)) (A : Args) : Prop where
  x : ∀ r n, V0 (Proc.devRef .tc main_arg0) (ix2 r n) = ((A.x r n : ℝ) : EReal)
  osb : ∀ r n, V0 (Proc.devRef .tc main_arg1) (ix2 r n) = ((A.osb r n : ℝ) : EReal)
  oca : ∀ r n, V0 (Proc.devRef .tc main_arg2) (ix2 r n) = ((A.oca r n : ℝ) : EReal)
  gate : ∀ r n, Ideal.logistic (@HAdd.hAdd EReal EReal EReal _ (V0 (Proc.devRef .tc main_arg3) (ix2 r n)) (V0 (Proc.devRef .tc main_arg4) (ix1 n))) = ((A.gate r n : ℝ) : EReal)
  wsb : ∀ k n, V0 (Proc.devRef .tc main_arg5) (ix2 k n) = ((A.wsb k n : ℝ) : EReal)
  wca : ∀ k n, V0 (Proc.devRef .tc main_arg6) (ix2 k n) = ((A.wca k n : ℝ) : EReal)
  wo : ∀ k n, V0 (Proc.devRef .tc main_arg7) (ix2 k n) = ((A.wo k n : ℝ) : EReal)
  g1 : ∀ n, V0 (Proc.devRef .tc main_arg8) (ix1 n) = ((A.g1 n : ℝ) : EReal)
  b1 : ∀ n, V0 (Proc.devRef .tc main_arg9) (ix1 n) = ((A.b1 n : ℝ) : EReal)
  win : ∀ n f, V0 (Proc.devRef .tc main_arg10) (ix2 n f) = ((A.win n f : ℝ) : EReal)
  wout : ∀ f n, V0 (Proc.devRef .tc main_arg11) (ix2 f n) = ((A.wout f n : ℝ) : EReal)
  g2 : ∀ n, V0 (Proc.devRef .tc main_arg12) (ix1 n) = ((A.g2 n : ℝ) : EReal)
  b2 : ∀ n, V0 (Proc.devRef .tc main_arg13) (ix1 n) = ((A.b2 n : ℝ) : EReal)
  tgt : ∀ r n, V0 (Proc.devRef .tc main_arg14) (ix2 r n) = ((A.tgt r n : ℝ) : EReal)

variable {V0 : Valuation τ sig (Elt Ideal)} {A : Args}

/-! ## The first norm -/

theorem gates_at (h : Holds V0 A) (r : Fin 4096) (n : Fin 2048) : res_main_v12 V0 (ix2 r n) = ((A.gate r n : ℝ) : EReal) := by
  refine Eq.trans ?_ (h.gate r n)
  pointwise [res_main_v12]
  rfl

theorem u1_at (h : Holds V0 A) (r : Fin 4096) (n : Fin 1024) : res_main_v19 V0 (ix2 r n) = ((u1 A r n : ℝ) : EReal) := by
  pointwise [res_main_v19, gates_at h, h.x, h.osb, h.oca, h.wsb, h.wca, h.wo, k_alpha]
  simp only [u1, merged, EReal.coe_add, EReal.coe_mul, coe_fsum]
  rfl

theorem mu1_at (h : Holds V0 A) (r : Fin 4096) : res_main_v25 V0 (ix2 r 0) = ((mu (u1 A r) : ℝ) : EReal) := by
  pointwise [res_main_v25, u1_at h, k_width]
  simp only [mu, over_width, coe_fsum]

theorem dev1_at (h : Holds V0 A) (r : Fin 4096) (n : Fin 1024) : res_main_v27 V0 (ix2 r n) = ((dev (u1 A r) n : ℝ) : EReal) := by
  pointwise [res_main_v27, u1_at h, mu1_at h]
  simp only [dev, EReal.coe_sub]

theorem dev1'_at (h : Holds V0 A) (r : Fin 4096) (n : Fin 1024) : res_main_v36 V0 (ix2 r n) = ((dev (u1 A r) n : ℝ) : EReal) := dev1_at h r n

theorem spread1_at (h : Holds V0 A) (r : Fin 4096) : res_main_v38 V0 (ix2 r 0) = ((spread (u1 A r) : ℝ) : EReal) := by
  pointwise [res_main_v38, dev1_at h, k_width, k_eps]
  simp only [spread, EReal.coe_add, EReal.coe_mul, over_width, coe_fsum]

theorem rs1_at (h : Holds V0 A) (r : Fin 4096) : res_main_v39 V0 (ix2 r 0) = ((rs (u1 A r) : ℝ) : EReal) := by
  pointwise [res_main_v39, spread1_at h]
  simp only [rs_coe]

theorem xh1_at (h : Holds V0 A) (r : Fin 4096) (n : Fin 1024) : res_main_v44 V0 (ix2 r n) = ((xh (u1 A r) n : ℝ) : EReal) := by
  pointwise [res_main_v44, dev1'_at h, rs1_at h]
  simp only [xh, EReal.coe_mul]

theorem g1_at (h : Holds V0 A) (n : Fin 1024) : res_main_v45 V0 (ix2 0 n) = ((A.g1 n : ℝ) : EReal) := by
  pointwise [res_main_v45, h.g1]

theorem x1_at (h : Holds V0 A) (r : Fin 4096) (n : Fin 1024) : res_main_v50 V0 (ix2 r n) = ((x1 A r n : ℝ) : EReal) := by
  pointwise [res_main_v50, xh1_at h, g1_at h, h.b1]
  simp only [x1, EReal.coe_add, EReal.coe_mul]

/-! ## The hidden layer -/

theorem hid_at (h : Holds V0 A) (r f : Fin 4096) : res_main_v52 V0 (ix2 r f) = ((∑ n, x1 A r n * A.win n f : ℝ) : EReal) := by
  pointwise [res_main_v52, x1_at h, h.win]
  simp only [EReal.coe_mul, coe_fsum]

theorem relu_at (h : Holds V0 A) (r f : Fin 4096) : res_main_v53 V0 (ix2 r f) = ((relu A r f : ℝ) : EReal) := by
  pointwise [res_main_v53, hid_at h]
  simp only [relu, coe_max, EReal.coe_zero]

theorem act_at (h : Holds V0 A) (r f : Fin 4096) : res_main_v57 V0 (ix2 r f) = ((act A r f : ℝ) : EReal) := by
  pointwise [res_main_v57, relu_at h]
  simp only [act, EReal.coe_mul]

/-! ## The second norm and the loss -/

theorem u2_at (h : Holds V0 A) (r : Fin 4096) (n : Fin 1024) : res_main_v64 V0 (ix2 r n) = ((u2 A r n : ℝ) : EReal) := by
  pointwise [res_main_v64, x1_at h, act_at h, h.wout, k_alpha]
  simp only [u2, EReal.coe_add, EReal.coe_mul, coe_fsum]

theorem mu2_at (h : Holds V0 A) (r : Fin 4096) : res_main_v68 V0 (ix2 r 0) = ((mu (u2 A r) : ℝ) : EReal) := by
  pointwise [res_main_v68, u2_at h, k_width]
  simp only [mu, over_width, coe_fsum]

theorem dev2_at (h : Holds V0 A) (r : Fin 4096) (n : Fin 1024) : res_main_v70 V0 (ix2 r n) = ((dev (u2 A r) n : ℝ) : EReal) := by
  pointwise [res_main_v70, u2_at h, mu2_at h]
  simp only [dev, EReal.coe_sub]

theorem dev2'_at (h : Holds V0 A) (r : Fin 4096) (n : Fin 1024) : res_main_v79 V0 (ix2 r n) = ((dev (u2 A r) n : ℝ) : EReal) := dev2_at h r n

theorem spread2_at (h : Holds V0 A) (r : Fin 4096) : res_main_v81 V0 (ix2 r 0) = ((spread (u2 A r) : ℝ) : EReal) := by
  pointwise [res_main_v81, dev2_at h, k_width, k_eps]
  simp only [spread, EReal.coe_add, EReal.coe_mul, over_width, coe_fsum]

theorem rs2_at (h : Holds V0 A) (r : Fin 4096) : res_main_v82 V0 (ix2 r 0) = ((rs (u2 A r) : ℝ) : EReal) := by
  pointwise [res_main_v82, spread2_at h]
  simp only [rs_coe]

theorem xh2_at (h : Holds V0 A) (r : Fin 4096) (n : Fin 1024) : res_main_v87 V0 (ix2 r n) = ((xh (u2 A r) n : ℝ) : EReal) := by
  pointwise [res_main_v87, dev2'_at h, rs2_at h]
  simp only [xh, EReal.coe_mul]

theorem g2_at (h : Holds V0 A) (n : Fin 1024) : res_main_v88 V0 (ix2 0 n) = ((A.g2 n : ℝ) : EReal) := by
  pointwise [res_main_v88, h.g2]

theorem diff_at (h : Holds V0 A) (r : Fin 4096) (n : Fin 1024) : res_main_v94 V0 (ix2 r n) = ((diff A r n : ℝ) : EReal) := by
  pointwise [res_main_v94, xh2_at h, g2_at h, h.b2, h.tgt]
  simp only [diff, EReal.coe_sub, EReal.coe_add, EReal.coe_mul]

theorem dy_at (h : Holds V0 A) (r : Fin 4096) (n : Fin 1024) : res_main_v108 V0 (ix2 r n) = ((dy A r n : ℝ) : EReal) := by
  have e : dy A r n = (1 / 2 * 1) / 1024 * (2 * diff A r n) := by unfold dy; ring
  rw [e]
  pointwise [res_main_v108, diff_at h, k_width, k_half, k_one, k_two]
  simp only [EReal.coe_mul, over_width, EReal.coe_one, mul_one]

theorem dyg_at (h : Holds V0 A) (r : Fin 4096) (n : Fin 1024) : res_main_v116 V0 (ix2 r n) = ((dyg A r n : ℝ) : EReal) := by
  pointwise [res_main_v116, dy_at h, g2_at h]
  simp only [dyg, EReal.coe_mul]

theorem part2_at (h : Holds V0 A) (r : Fin 4096) (n : Fin 1024) : res_main_v122 V0 (ix2 r n) = ((dyg A r n * rs (u2 A r) : ℝ) : EReal) := by
  pointwise [res_main_v122, dyg_at h, rs2_at h]
  simp only [EReal.coe_mul]

/-- A root over what it is the root of. -/
theorem rs_over (u : Fin 1024 → ℝ) : ((rs u / spread u : ℝ) : EReal) = Ideal.div ((rs u : ℝ) : EReal) ((spread u : ℝ) : EReal) := (div_coe (spread_pos u).ne').symm

theorem pull2_at (h : Holds V0 A) (r : Fin 4096) (n : Fin 1024) :
    res_main_v131 V0 (ix2 r n) = ((pull (u2 A r) (dyg A r) * (2 * dev (u2 A r) n) : ℝ) : EReal) := by
  pointwise [res_main_v131, dev2_at h, dev2'_at h, dyg_at h, rs2_at h, spread2_at h, k_width, k_minus, k_two]
  simp only [pull, EReal.coe_mul, over_width, rs_over, coe_fsum, Fin.sum_univ_one, rs2_at h, spread2_at h]

theorem du2_at (h : Holds V0 A) (r : Fin 4096) (n : Fin 1024) : res_main_v141 V0 (ix2 r n) = ((du2 A r n : ℝ) : EReal) := by
  unfold du2
  rw [← chain_eq]
  pointwise [res_main_v141, part2_at h, pull2_at h, k_width]
  simp only [chain, EReal.coe_add, EReal.coe_mul, EReal.coe_neg, over_width, coe_fsum, Fin.sum_univ_one]

/-! ## Back through the hidden layer -/

theorem dh_at (h : Holds V0 A) (r f : Fin 4096) : res_main_v147 V0 (ix2 r f) = ((dh A r f : ℝ) : EReal) := by
  pointwise [res_main_v147, hid_at h, du2_at h, h.wout, relu_at h, k_two]
  split
  · simp only [dh, EReal.coe_mul, coe_fsum]
    exact mul_comm (G := EReal) _ _
  · rename_i hc
    have e : relu A r f = 0 := max_eq_right (by exact_mod_cast not_lt.1 hc)
    rw [dh, e]
    simp

theorem dx1_at (h : Holds V0 A) (r : Fin 4096) (n : Fin 1024) : res_main_v149 V0 (ix2 r n) = ((dx1 A r n : ℝ) : EReal) := by
  pointwise [res_main_v149, du2_at h, dh_at h, h.win, k_alpha]
  simp only [dx1, EReal.coe_add, EReal.coe_mul, coe_fsum]

theorem dxg_at (h : Holds V0 A) (r : Fin 4096) (n : Fin 1024) : res_main_v157 V0 (ix2 r n) = ((dxg A r n : ℝ) : EReal) := by
  pointwise [res_main_v157, dx1_at h, g1_at h]
  simp only [dxg, EReal.coe_mul]

theorem part1_at (h : Holds V0 A) (r : Fin 4096) (n : Fin 1024) : res_main_v163 V0 (ix2 r n) = ((dxg A r n * rs (u1 A r) : ℝ) : EReal) := by
  pointwise [res_main_v163, dxg_at h, rs1_at h]
  simp only [EReal.coe_mul]

theorem pull1_at (h : Holds V0 A) (r : Fin 4096) (n : Fin 1024) :
    res_main_v172 V0 (ix2 r n) = ((pull (u1 A r) (dxg A r) * (2 * dev (u1 A r) n) : ℝ) : EReal) := by
  pointwise [res_main_v172, dev1_at h, dev1'_at h, dxg_at h, rs1_at h, spread1_at h, k_width, k_minus, k_two]
  simp only [pull, EReal.coe_mul, over_width, rs_over, coe_fsum, Fin.sum_univ_one, rs1_at h, spread1_at h]

end Cert.MlpPlain
end
-- ==== Proof.Mlp.Claim.lean ====
module

public import proofs.«01_k».proof.Defs
public import proofs.«01_k».proof.Proof.Mlp.Frames
public import proofs.«01_k».proof.Proof.Mlp.Points
public import proofs.«01_k».proof.Proof.Mlp.Ref
public import proofs.«01_k».proof.Proof.Sb.Claim

/-! The block: the launch against the block written plainly and its gradient by the chain rule, of finite arguments. -/

@[expose] public section
set_option maxRecDepth 16384
noncomputable section
namespace Cert.MlpClaim
open Idealize Idealize.ShloMosaic Cert.MlpSpec Cert.MlpRun
open Cert.SbClaim (real_of_abs_lt top_splat)

/-- The precondition's own side conditions. -/
theorem preFacts : Cert.Pre_mlp_finite.Facts where
  bcast_S_S4096x1024 := by decide
  reducesTo_S4096x1024_S_d0_1 := by decide
  h_S_ := by decide
  bcast_S_S4096x512 := by decide
  reducesTo_S4096x512_S_d0_1 := by decide
  bcast_S_S512x1024 := by decide
  reducesTo_S512x1024_S_d0_1 := by decide
  bcast_S_S1024x1024 := by decide
  reducesTo_S1024x1024_S_d0_1 := by decide
  bcast_S_S1024 := by decide
  reducesTo_S1024_S_d0 := by decide
  bcast_S_S1024x4096 := by decide
  reducesTo_S1024x4096_S_d0_1 := by decide

attribute [local instance] preFacts

/-- An array whose entries' absolute values are all below infinity is of reals. -/
theorem real_array {s : Shape} {axes : List (Fin s.rank)} {hb : (⟨0, ![]⟩ : Shape).BroadcastsInDim s ![]} {h0 : 0 < (⟨0, ![]⟩ : Shape).numel} {x : s.Idx → EReal}
    (hr : s.ReducesTo axes ⟨0, ![]⟩) (h : Host.reduce IntOp.andi (cmpf (F := Ideal) (φ := .f32) .olt (Host.absf (F := Ideal) (φ := .f32) x) (broadcastInDim s ![] hb (constant (F := Ideal) ⟨0, ![]⟩ .f32 0x7F800000#32)))
      (constantI ⟨0, ![]⟩ 1 1#1) hr h0 ix0 = 1#1) : IsReal x :=
  fun i => real_of_abs_lt (top_splat _) (Host.reduce_andi_all _ _ _ _ _ h i)

open Cert.Pre_mlp_finite.Facts in
/-- The precondition's parts. -/
theorem finite_parts (G : Given) (h : Cert.Pre_mlp_finite.fn (F := Ideal) G.x G.osb G.oca G.lg G.bg G.wsb G.wca G.wo G.g1 G.b1 G.win G.wout G.g2 G.b2 G.tgt = fun _ => 1#1) : G.Finite := by
  have h := congrFun h ix0
  unfold Cert.Pre_mlp_finite.fn Cert.Pre_mlp_finite.fn_part1 Cert.Pre_mlp_finite.fn_part2 Cert.Pre_mlp_finite.fn_part3 at h
  dsimp only at h
  replace ⟨h, k14⟩ := IntOp.andi_eq_one.1 h
  replace k14 := real_array reducesTo_S4096x1024_S_d0_1 k14
  replace ⟨h, k13⟩ := IntOp.andi_eq_one.1 h
  replace k13 := real_array reducesTo_S1024_S_d0 k13
  replace ⟨h, k12⟩ := IntOp.andi_eq_one.1 h
  replace k12 := real_array reducesTo_S1024_S_d0 k12
  replace ⟨h, k11⟩ := IntOp.andi_eq_one.1 h
  replace k11 := real_array reducesTo_S4096x1024_S_d0_1 k11
  replace ⟨h, k10⟩ := IntOp.andi_eq_one.1 h
  replace k10 := real_array reducesTo_S1024x4096_S_d0_1 k10
  replace ⟨h, k9⟩ := IntOp.andi_eq_one.1 h
  replace k9 := real_array reducesTo_S1024_S_d0 k9
  replace ⟨h, k8⟩ := IntOp.andi_eq_one.1 h
  replace k8 := real_array reducesTo_S1024_S_d0 k8
  replace ⟨h, k7⟩ := IntOp.andi_eq_one.1 h
  replace k7 := real_array reducesTo_S1024x1024_S_d0_1 k7
  replace ⟨h, k6⟩ := IntOp.andi_eq_one.1 h
  replace k6 := real_array reducesTo_S512x1024_S_d0_1 k6
  replace ⟨h, k5⟩ := IntOp.andi_eq_one.1 h
  replace k5 := real_array reducesTo_S512x1024_S_d0_1 k5
  replace ⟨h, k2⟩ := IntOp.andi_eq_one.1 h
  replace k2 := real_array reducesTo_S4096x512_S_d0_1 k2
  replace ⟨h, k1⟩ := IntOp.andi_eq_one.1 h
  replace k1 := real_array reducesTo_S4096x512_S_d0_1 k1
  replace ⟨h, k0⟩ := IntOp.andi_eq_one.1 h
  replace k0 := real_array reducesTo_S4096x1024_S_d0_1 k0
  exact ⟨k0, k1, k2, k5, k6, k7, k8, k9, k10, k11, k12, k13, k14⟩

/-- The reals of a memory's arguments. -/
abbrev reals (m : (ℓ : Loc Cert.MlpIdeal.nD Cert.MlpIdeal.τ Cert.MlpIdeal.sig) → Buf (Elt Ideal) ℓ) (c : Dev Cert.MlpIdeal.nD) : Args := (given m c).args

open Cert.MlpIdeal Cert.MlpIdeal.Gen in
set_option maxHeartbeats 4000000 in
theorem algebraic : Cert.algebraic_MlpIdeal_MlpRefIdeal_pre_mlp_finite := by
  intro m ρ m' ρ' hpre hag
  refine ⟨fun c => mat (act (reals m c)),
    fun c => mat (x1 (reals m c)),
    fun c => mat (dh (reals m c)),
    fun c => mat (du2 (reals m c)),
    fun c => mat (du1 (reals m c)),
    fun c => mat fun _ _ => lossOf (reals m c),
    fun c => mat fun _ => dg2Of (reals m c),
    fun c => mat fun _ => db2Of (reals m c),
    fun c => mat fun _ => dg1Of (reals m c),
    fun c => mat fun _ => db1Of (reals m c), ?_, ?_⟩
  · refine (θ_run _ _ _).mono (fun r h c => ?_) (run_main_quiescent (F := Ideal) m ρ)
    have hf : (given m c).Finite := finite_parts _ (hpre c)
    exact ⟨((h.1 c).1 10).trans (act_array hf),
      ((h.1 c).1 11).trans (x1b_array hf),
      ((h.1 c).1 12).trans (dh_array hf),
      ((h.1 c).1 13).trans (du2b_array hf),
      ((h.1 c).1 14).trans (du1_array hf),
      ((h.1 c).1 15).trans (loss_array hf),
      ((h.1 c).1 16).trans (dg2_array hf),
      ((h.1 c).1 17).trans (db2_array hf),
      ((h.1 c).1 18).trans (dg1_array hf),
      ((h.1 c).1 19).trans (db1_array hf),
      ((h.1 c).1 0).trans (((dats m 0 c).arrAt_in 0 rfl _).trans ((A_eq m c 0).trans (V_main_arg0 m c))),
      ((h.1 c).1 1).trans (((dats m 0 c).arrAt_in 1 rfl _).trans ((A_eq m c 1).trans (V_main_arg1 m c))),
      ((h.1 c).2 _ (Pipeline.mem_restRefs_of main_arg2 (by decide) (by decide))).trans (V_main_arg2 m c),
      ((h.1 c).1 3).trans (((dats m 0 c).arrAt_in 3 rfl _).trans ((A_eq m c 3).trans (V_main_arg3 m c))),
      ((h.1 c).2 _ (Pipeline.mem_restRefs_of main_arg4 (by decide) (by decide))).trans (V_main_arg4 m c),
      ((h.1 c).2 _ (Pipeline.mem_restRefs_of main_arg5 (by decide) (by decide))).trans (V_main_arg5 m c),
      ((h.1 c).2 _ (Pipeline.mem_restRefs_of main_arg6 (by decide) (by decide))).trans (V_main_arg6 m c),
      ((h.1 c).2 _ (Pipeline.mem_restRefs_of main_arg7 (by decide) (by decide))).trans (V_main_arg7 m c),
      ((h.1 c).2 _ (Pipeline.mem_restRefs_of main_arg8 (by decide) (by decide))).trans (V_main_arg8 m c),
      ((h.1 c).2 _ (Pipeline.mem_restRefs_of main_arg9 (by decide) (by decide))).trans (V_main_arg9 m c),
      ((h.1 c).2 _ (Pipeline.mem_restRefs_of main_arg10 (by decide) (by decide))).trans (V_main_arg10 m c),
      ((h.1 c).2 _ (Pipeline.mem_restRefs_of main_arg11 (by decide) (by decide))).trans (V_main_arg11 m c),
      ((h.1 c).2 _ (Pipeline.mem_restRefs_of main_arg12 (by decide) (by decide))).trans (V_main_arg12 m c),
      ((h.1 c).2 _ (Pipeline.mem_restRefs_of main_arg13 (by decide) (by decide))).trans (V_main_arg13 m c),
      ((h.1 c).1 5).trans (((dats m 0 c).arrAt_in 5 rfl _).trans ((A_eq m c 5).trans (V_main_arg14 m c)))⟩
  · refine (θ_run _ _ _).mono (fun r h c => ?_) (Cert.MlpRefIdeal.Value.run (F := Ideal) m' ρ')
    have hf : (given m c).Finite := finite_parts _ (hpre c)
    obtain ⟨a0, a1, a2, a3, a4, a5, a6, a7, a8, a9, a10, a11, a12, a13, a14⟩ := hag c
    have H : Cert.MlpPlain.Holds (StableHlo.launchContents m' c) (reals m c) :=
      ⟨fun r n => (congrFun a0 (ix2 r n)).trans (hf.x _),
        fun r n => (congrFun a1 (ix2 r n)).trans (hf.osb _),
        fun r n => (congrFun a2 (ix2 r n)).trans (hf.oca _),
        fun r n => (congrArg Ideal.logistic (congrArg₂ (fun a b : EReal => a + b) (congrFun a3 (ix2 r n)) (congrFun a4 (ix1 n)))).trans (logistic_real _),
        fun r n => (congrFun a5 (ix2 r n)).trans (hf.wsb _),
        fun r n => (congrFun a6 (ix2 r n)).trans (hf.wca _),
        fun r n => (congrFun a7 (ix2 r n)).trans (hf.wo _),
        fun n => (congrFun a8 (ix1 n)).trans (hf.g1 _),
        fun n => (congrFun a9 (ix1 n)).trans (hf.b1 _),
        fun r n => (congrFun a10 (ix2 r n)).trans (hf.win _),
        fun r n => (congrFun a11 (ix2 r n)).trans (hf.wout _),
        fun n => (congrFun a12 (ix1 n)).trans (hf.g2 _),
        fun n => (congrFun a13 (ix1 n)).trans (hf.b2 _),
        fun r n => (congrFun a14 (ix2 r n)).trans (hf.tgt _)⟩
    obtain ⟨h0, h1, h2, h3, h4, h5, h6, h7, h8, h9, hargs⟩ := h c
    refine ⟨h0.trans (mat_eq (Cert.MlpPlain.act_at H)), h1.trans (mat_eq (Cert.MlpPlain.x1_at H)), h2.trans (mat_eq (Cert.MlpPlain.dh_at H)), h3.trans (mat_eq (Cert.MlpPlain.du2_at H)),
      h4.trans (mat_eq fun a n => ?_), h5.trans (mat_row fun n => ?_), h6.trans (mat_row fun n => ?_), h7.trans (mat_row fun n => ?_),
      h8.trans (mat_row fun n => ?_), h9.trans (mat_row fun n => ?_), hargs⟩
    · pointwise [Cert.MlpPlain.part1_at H, Cert.MlpPlain.pull1_at H, k_width]
      rw [du1, ← chain_eq]
      simp only [chain, EReal.coe_add, EReal.coe_mul, EReal.coe_neg, over_width, coe_fsum, Fin.sum_univ_one]
    · pointwise [Cert.MlpPlain.diff_at H, k_width, k_half]
      rw [lossOf, coe_fsum, ← half_sum]
      simp only [miss, over_width, EReal.coe_mul, coe_fsum, Fin.sum_univ_one]
    · pointwise [Cert.MlpPlain.xh2_at H, Cert.MlpPlain.dy_at H]
      simp only [dg2Of, EReal.coe_mul, coe_fsum, Fin.sum_univ_one, mul_comm]
    · pointwise [Cert.MlpPlain.dy_at H]
      simp only [db2Of, coe_fsum, Fin.sum_univ_one]
    · pointwise [Cert.MlpPlain.xh1_at H, Cert.MlpPlain.dx1_at H]
      simp only [dg1Of, EReal.coe_mul, coe_fsum, Fin.sum_univ_one, mul_comm]
    · pointwise [Cert.MlpPlain.dx1_at H]
      simp only [db1Of, coe_fsum, Fin.sum_univ_one]

theorem frame_ideal_pre : Cert.quiescent_MlpIdeal_pre_mlp_finite := fun m ρ _ => frame_ideal m ρ trivial

theorem frame_ref_pre : Cert.quiescent_MlpRefIdeal_pre_mlp_finite := fun m ρ _ => frame_ref m ρ trivial

end Cert.MlpClaim

end
-- ==== Proof.SbFwd.Model.lean ====
module

public import proofs.«01_k».proof.Proof.Sb.Chunk

@[expose] public section

noncomputable section

/-! The forward call: what a key block adds to the running drops and to the output, and what a chunk's sums are over the reals. -/

namespace Cert.SbModel

open Idealize.ShloMosaic Idealize.ShloMosaic.ValueIdx Finset

section Run

variable {F : FTy → Type} [FloatOps F]

/-- A key block's part of the running drops and of the output; the output stands in the place of the query gradient. -/
def outPiece (X : Fixed F) (msk : Option (IVec Tile 1)) (n : ℕ) (hn : n ≤ 4) (k v : FVec F Tile .bf16) (S : Sums F) : Sums F where
  l h := addRows n hn (S.l h) (rowTotals n (csum X msk n hn k) h)
  e := S.e
  dq := addRows n hn S.dq (matmul (DotDims.plain (128 * n) 256 128) none (grid2 n (ab X msk n hn k S)) (kk X v) (constant _ .f32 0x00000000#32))

/-- The same for block `b` of the keys and values. -/
def outWork (X : Fixed F) (K V : FVec F Keys .bf16) (msk : Option (IVec Tile 1)) (n : ℕ) (hn : n ≤ 4) (b : ℕ) (hb : b < 32) (S : Sums F) : Sums F :=
  outPiece X msk n hn (rowsAt K b hb) (rowsAt V b hb) S

def Sums.start (S : Sums F) : Sums F := { S with dq := zeros _ }

def Sums.finish (S : Sums F) (o : FVec F (Rows 4 128) .f32) : Sums F := { S with dq := addf o S.dq }

/-- The two key blocks of one turn. -/
def outTurn (X : Fixed F) (K V : FVec F Keys .bf16) (a : Fin 16) (S : Sums F) : Sums F :=
  (outWork X K V none 4 (Nat.le_refl 4) (2 * a) (by omega) (outWork X K V none 4 (Nat.le_refl 4) (2 * a + 1) (by omega) S.start)).finish S.dq

/-- The four key blocks on the diagonal. -/
def outDiag (X : Fixed F) (K V : FVec F Keys .bf16) (strict : IVec Tile 1) (i : Fin 8) (S : Sums F) : Sums F :=
  (outWork X K V (some strict) 4 (by omega) (4 * i) (by omega) (outWork X K V (some strict) 3 (by omega) (4 * i + 1) (by omega)
    (outWork X K V (some strict) 2 (by omega) (4 * i + 2) (by omega) (outWork X K V (some strict) 1 (by omega) (4 * i + 3) (by omega) S.start)))).finish S.dq

variable {sig : RefSig} {κ : Kind} {sp : Space}

/-- What a whole buffer holds, loaded, with a value added. -/
def loadSum (v : View sig κ sp (Rows 4 128) .f32) (g : v.ty.Contents (Elt F)) (inb : ∀ a : Fin 2, (![0, 0] : Fin 2 → ℕ) a + (![512, 128] : Fin 2 → ℕ) a ≤ (![512, 128] : Fin 2 → ℕ) a)
    (x : FVec F (Rows 4 128) .f32) : FVec F (Rows 4 128) .f32 :=
  addf (shapeCast (s := Rows 4 128) (Rows 4 128) (View.readAt (Elt F) v (Rect.unit (s := Rows 4 128) ![0, 0] ![512, 128] inb).toLoadRect g) rfl) x

theorem loadSum_eq {arg : Memref sig κ sp (Rows 4 128) .f32} (harg : arg.IsWhole) (inb) (D x : FVec F (Rows 4 128) .f32) :
    loadSum arg.view (harg.unread D) inb x = addf D x :=
  congrArg (fun y => addf y x) ((Idealize.ShloMosaic.shapeCast_self _ _).trans
    ((View.readAt_full (v := arg.view) _ inb).trans (harg.read_unread (Val := Elt F) D)))

end Run

/-- Chunk `i` after the key blocks from `b` on, with the output's sum up to block `b0`. -/
structure Out (Q K V : ℕ → ℕ → ℝ) (i b0 b : ℕ) (S : Sums Ideal) : Prop where
  l : ∀ h, Is (S.l h) fun a _ => suffix (dropped (scores Q K)) h.val (512 * i + a) (128 * b)
  o : Is S.dq fun a c => ∑ s ∈ Ico (128 * b) (128 * b0), weight (scores Q K) (c / 64) (512 * i + a) s * V s c

variable {Q G K V : ℕ → ℕ → ℝ} {C : ℕ → ℕ → ℝ} {X : Fixed Ideal} {i b0 b : ℕ} {S : Sums Ideal}

theorem Out.step (HX : Holds X Q G C (512 * i)) {msk : Option (IVec Tile 1)} {n : ℕ} (hn : n ≤ 4) (hb : b < 32) (hb0 : b + 1 ≤ b0)
    (hm : Masks msk n (512 * i + 128 * (4 - n)) (128 * b)) (hlow : ∀ a, a < 128 * (4 - n) → 512 * i + a ≤ 128 * b)
    {K' V' : FVec Ideal Keys .bf16} (hK : Is K' K) (hV : Is V' V) (I : Out Q K V i b0 (b + 1) S) :
    Out Q K V i b0 b (outWork X K' V' msk n hn b hb S) := by
  have hs : 128 * b + 128 ≤ 4096 := by omega
  have hk := hK.rowsAt b hb
  have hv := hV.rowsAt b hb
  have e1 : 128 * (b + 1) = 128 * b + 128 := Nat.mul_succ 128 b
  have hl := I.l
  have ho := I.o
  rw [e1] at hl ho
  refine ⟨fun h => run_step (dropped_past _) hn hs hlow h (hl h) (csum_is HX hn hm hk), ?_⟩
  have hab : Is (grid2 n (ab X msk n hn (rowsAt K' b hb) S)) fun a c => weight (scores Q K) (c / 128) (512 * i + 128 * (4 - n) + a) (128 * b + c % 128) :=
    grid_tiles fun r h => (weights_is HX hn hs hm hk hl r h).trunc (by decide)
  refine (ho.addRows n hn (hab.plain (hv.byHead HX.w0 HX.w1))).congr ?_
  intro a ha c hc
  rw [← sum_Ico_consecutive (m := 128 * b) (n := 128 * b + 128) _ (by omega) (by omega), add_comm (∑ s ∈ Ico (128 * b) (128 * b + 128), _)]
  refine congrArg (_ + ·) ?_
  rw [← heads_sum (fun h s => weight (scores Q K) h (512 * i + a) s) V c hc]
  split
  · next h => exact sum_congr rfl fun γ _ => by rw [show 512 * i + 128 * (4 - n) + (a - 128 * (4 - n)) = 512 * i + a by omega]
  · next h =>
    have := hlow a (by omega)
    exact (sum_eq_zero fun γ _ => by rw [weight_past _ _ _ _ (by omega), zero_mul]).symm

theorem Out.start (I : Out Q K V i b0 b S) : Out Q K V i b b S.start :=
  ⟨I.l, Is.zeros.congr fun a _ c _ => by rw [Ico_self, sum_empty]⟩

theorem Out.finish {b1 : ℕ} (I : Out Q K V i b0 b S) (hb : b ≤ b0) (hb1 : b0 ≤ b1) {o : FVec Ideal (Rows 4 128) .f32}
    (ho : Is o fun a c => ∑ s ∈ Ico (128 * b0) (128 * b1), weight (scores Q K) (c / 64) (512 * i + a) s * V s c) : Out Q K V i b1 b (S.finish o) :=
  ⟨I.l, (ho.add I.o).congr fun a _ c _ => by rw [add_comm]; exact sum_Ico_consecutive _ (by omega) (by omega)⟩

theorem Out.turn (HX : Holds X Q G C (512 * i)) {K' V' : FVec Ideal Keys .bf16} (hK : Is K' K) (hV : Is V' V) (a : Fin 16) (ha : a.val < 2 * i)
    (I : Out Q K V i 32 (2 * a.val + 2) S) : Out Q K V i 32 (2 * a.val) (outTurn X K' V' a S) := by
  have hlow : ∀ s x, x < 128 * (4 - 4) → 512 * i + x ≤ s := fun s x hx => absurd hx (by omega)
  have I1 := I.start.step HX (Nat.le_refl 4) (b := 2 * a.val + 1) (by omega) (by omega) (masks_none (by omega) 4) (hlow _) hK hV
  have I2 := I1.step HX (Nat.le_refl 4) (b := 2 * a.val) (by omega) (by omega) (masks_none (by omega) 4) (hlow _) hK hV
  exact I2.finish (by omega) (by omega) I.o

theorem Out.diag (HX : Holds X Q G C (512 * i)) {K' V' : FVec Ideal Keys .bf16} (hK : Is K' K) (hV : Is V' V) {w : IVec Tile 1} (hw : Strict w)
    (j : Fin 8) (hj : j.val = i) (I : Out Q K V i 32 (4 * i + 4) S) : Out Q K V i 32 (4 * i) (outDiag X K' V' w j S) := by
  subst hj
  have hm : ∀ n b, n ≤ 4 → 128 * b = 512 * j.val + 128 * (4 - n) → Masks (some w) n (512 * j.val + 128 * (4 - n)) (128 * b) :=
    fun n b _ e => by rw [e]; exact masks_some hw n _
  have I3 := I.start.step HX (n := 1) (by omega) (b := 4 * j.val + 3) (by omega) (by omega) (hm _ _ (by omega) (by omega)) (fun a ha => by omega) hK hV
  have I2 := I3.step HX (n := 2) (by omega) (b := 4 * j.val + 2) (by omega) (by omega) (hm _ _ (by omega) (by omega)) (fun a ha => by omega) hK hV
  have I1 := I2.step HX (n := 3) (by omega) (b := 4 * j.val + 1) (by omega) (by omega) (hm _ _ (by omega) (by omega)) (fun a ha => by omega) hK hV
  have I0 := I1.step HX (n := 4) (by omega) (b := 4 * j.val) (by omega) (by omega) (hm _ _ (by omega) (by omega)) (fun a ha => by omega) hK hV
  exact I0.finish (by omega) (by omega) I.o

/-- A chunk before its key blocks. -/
theorem Out.begin (hi : i < 8) (hl : ∀ h, Is (S.l h) fun _ _ => 0) (ho : Is S.dq fun _ _ => 0) : Out Q K V i 32 (4 * i + 4) S where
  l h := (hl h).congr fun a ha c _ => (suffix_past _ (dropped_past _) _ _ _ (by omega)).symm
  o := ho.congr fun a ha c _ => (sum_eq_zero fun s hs => by
    have := (mem_Ico.1 hs).1
    rw [weight_past _ _ _ _ (by omega), zero_mul]).symm

end Cert.SbModel
-- ==== Proof.SbFwd.Frame.lean ====
module

public import proofs.«01_k».proof.Proof.Gen.SbFwdIdeal.Launch
public import proofs.«01_k».proof.Proof.Gen.SbFwdIdeal.Points
public import proofs.«01_k».proof.Proof.Gen.SbFwdIdeal.Skeleton
public import Idealize.ShloMosaic.Lib.Pipeline.FrameBody
public import Idealize.ShloMosaic.Lib.Pipeline.Frame
public import proofs.«01_k».proof.Proof.SbFwd.Model
public import Idealize.ShloMosaic.Lib.Pipeline.ReadBack
public import Idealize.ShloMosaic.Lib.Exec
public import Idealize.ShloMosaic.Lib.Tactic

@[expose] public section

set_option maxRecDepth 16384

noncomputable section

namespace Cert.SbFwdRun

open Cert.SbFwdIdeal Cert.SbFwdIdeal.Gen Cert.SbModel
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! Where a turn and a diagonal step read, and the loop's counter. -/

theorem off2_eq : ∀ (a : Fin 16) (r : Fin 2), k0_off2 (BitVec.ofNat 32 a) (BitVec.ofNat 32 (128 * r.val)) = ![128 * (2 * a.val + r.val), 0] := by
  intro a r
  have h : ∀ (a : Fin 16) (r : Fin 2), k0_off2 (BitVec.ofNat 32 a) (BitVec.ofNat 32 (128 * r.val)) 0 = 128 * (2 * a.val + r.val) := by decide
  funext x
  fin_cases x
  · exact h a r
  · rfl

theorem chk1 : ∀ a : Fin 16, k0_chk1 (BitVec.ofNat 32 a) := by
  intro a
  refine ⟨?_, ?_, ?_⟩
  · revert a; decide
  · intro r x
    rw [off2_eq]
    fin_cases x
    · show 128 * (2 * a.val + r.val) + 128 ≤ 4096; omega
    · show 0 + 128 ≤ 128; omega
  · revert a; decide

/-- The chunk of a point. -/
def chunk (i : grid0.Coords) : Fin 8 := i 1

theorem off1_eq (i : grid0.Coords) (j : Fin 4) : k0_off1 i (BitVec.ofNat 32 (128 * j.val)) = ![128 * (4 * (chunk i).val + j.val), 0] := by
  have h : ∀ (a : Fin 8) (j : Fin 4), (Scalar.indexCast (Scalar.addi (Scalar.muli (BitVec.ofNat 32 a.val) 512#32) (BitVec.ofNat 32 (128 * j.val)))).toNat = 128 * (4 * a.val + j.val) := by decide
  funext x
  fin_cases x
  · exact h (chunk i) j
  · rfl

theorem counter_eq (i : grid0.Coords) : Scalar.subi (Scalar.muli (BitVec.ofNat 32 (i 1).val) 2#32) 1#32 = Scalar.subi (BitVec.ofNat 32 (2 * (chunk i).val)) 1#32 := by
  have h : ∀ a : Fin 8, Scalar.subi (Scalar.muli (BitVec.ofNat 32 a.val) 2#32) 1#32 = Scalar.subi (BitVec.ofNat 32 (2 * a.val)) 1#32 := by decide
  exact h (i 1)

theorem counter_pos : ∀ a : Fin 16, Scalar.cmpi .sge (Scalar.subi (BitVec.ofNat 32 (a.val + 1)) 1#32) 0#32 = 1#1 ∧ Scalar.subi (BitVec.ofNat 32 (a.val + 1)) 1#32 = BitVec.ofNat 32 a.val := by decide

theorem counter_zero : Scalar.cmpi .sge (Scalar.subi (BitVec.ofNat 32 0) 1#32) 0#32 = 0#1 := by decide

theorem one_and : ∀ b : BitVec 1, Scalar.andi 1#1 b = b := by decide

theorem zero_and : ∀ b : BitVec 1, ¬ Scalar.andi 0#1 b = 1#1 := by decide

/-- The buffers the loop works on, at definite contents. -/
def held (c : Dev nD) (arg6 : Memref sig .tc .vmem S2x512x128 .f32) (arg3 arg4 : Memref sig .tc .vmem S4096x128 .bf16)
    (arg5 : Memref sig .tc .vmem S512x128 .f32) (K V : FVec F Keys .bf16) (S : Sums F) : sProp 𝕄 :=
  iprop(owns (c : Thread nD τ) arg6 fullShare (slabs S.l) ∗ owns (c : Thread nD τ) arg3 fullShare K ∗ owns (c : Thread nD τ) arg4 fullShare V
    ∗ owns (c : Thread nD τ) arg5 fullShare S.dq)

/-- Whether the loop goes on: the least of the running drops is below the cut. -/
def goesOn (S : Sums F) : Prop := Scalar.cmpf .olt (k0_pay1 (slabs S.l)) (Named.named κ "cut" 0x42D00000#32 : F .f32) = 1#1

open Classical in
/-- The turns from turn `k - 1` down, as long as the loop goes on. -/
def sweep (X : Fixed F) (K V : FVec F Keys .bf16) : (k : ℕ) → k ≤ 16 → Sums F → Sums F
  | 0, _, S => S
  | k + 1, h, S => if goesOn S then sweep X K V k (by omega) (outTurn X K V ⟨k, by omega⟩ S) else S

section Loop

variable (X : Fixed F) (K V : FVec F Keys .bf16)

/-- A turn from the blocks it reads. -/
theorem turn_parts (a : Fin 16) (S : Sums F) (b1 d1 b0 d0 : FVec F Tile .bf16) (S0 : Sums F)
    (hk1 : b1 = rowsAt K (2 * a + 1) (by omega)) (hv1 : d1 = rowsAt V (2 * a + 1) (by omega))
    (hk0 : b0 = rowsAt K (2 * a) (by omega)) (hv0 : d0 = rowsAt V (2 * a) (by omega)) (hS : S0 = S.start) :
    (outPiece X none 4 (Nat.le_refl 4) b0 d0 (outPiece X none 4 (Nat.le_refl 4) b1 d1 S0)).l = (outTurn X K V a S).l
    ∧ addf S.dq (outPiece X none 4 (Nat.le_refl 4) b0 d0 (outPiece X none 4 (Nat.le_refl 4) b1 d1 S0)).dq = (outTurn X K V a S).dq := by
  subst hk1 hv1 hk0 hv0 hS
  exact ⟨rfl, rfl⟩

/-- What the loop does with `k` turns to go: the buffers held before, the swept ones after. -/
def loopSpec (c : Dev nD) (arg6 : Memref sig .tc .vmem S2x512x128 .f32) (arg3 arg4 : Memref sig .tc .vmem S4096x128 .bf16)
    (arg5 : Memref sig .tc .vmem S512x128 .f32) (k : ℕ) (hk : k ≤ 16) (S : Sums F) : sWPT 𝕄 (BitVec 32) := do
  sWPT.consume (held c arg6 arg3 arg4 arg5 K V S)
  let r ← sWPT.arbitrary
  sWPT.produce (held c arg6 arg3 arg4 arg5 K V (sweep X K V k hk S))
  pure r

theorem loopSpec_apply (c : Dev nD) (arg6 : Memref sig .tc .vmem S2x512x128 .f32) (arg3 arg4 : Memref sig .tc .vmem S4096x128 .bf16)
    (arg5 : Memref sig .tc .vmem S512x128 .f32) (k : ℕ) (hk : k ≤ 16) (S : Sums F) (Q : BitVec 32 → sProp 𝕄) :
    loopSpec X K V c arg6 arg3 arg4 arg5 k hk S Q
      = iprop(held c arg6 arg3 arg4 arg5 K V S ∗ ∀ r, (held c arg6 arg3 arg4 arg5 K V (sweep X K V k hk S) -∗ Q r)) := rfl

set_option maxHeartbeats 400000 in
theorem loop_meets (c : Dev nD) (i : grid0.Coords) (arg6 : Memref sig .tc .vmem S2x512x128 .f32) (harg6 : arg6.IsWhole)
    (arg3 : Memref sig .tc .vmem S4096x128 .bf16) (harg3 : arg3.IsWhole) (arg4 : Memref sig .tc .vmem S4096x128 .bf16) (harg4 : arg4.IsWhole)
    (arg5 : Memref sig .tc .vmem S512x128 .f32) (harg5 : arg5.IsWhole) (E : Set ℕ) :
    ∀ (k : ℕ) (hk : k ≤ 16) (S : Sums F) (Q : BitVec 32 → sProp 𝕄), loopSpec X K V c arg6 arg3 arg4 arg5 k hk S Q
      ⊢ wp frame (wpE (defs₀ (F := F)) Variants.nat (c : Thread nD τ) (some k)) E
          (defs₀ (F := F) .tc 1 ⟨i, arg6, harg6, arg3, harg3, X.w0, X.w1, X.q, X.tri, arg4, harg4, arg5, harg5, Scalar.subi (BitVec.ofNat 32 k) 1#32⟩) Q := by
  intro k
  induction k with
  | zero =>
    intro hk S Q
    rw [loopSpec_apply]
    show _ ⊢ wp frame (wpE (defs₀ (F := F)) Variants.nat (c : Thread nD τ) (some 0)) E
      (cc0_while1 i arg6 harg6 arg3 harg3 X.w0 X.w1 X.q X.tri arg4 harg4 arg5 harg5 (Scalar.subi (BitVec.ofNat 32 0) 1#32)) Q
    simp only [cc0_while1_eq_skeleton]; unfold cc0_while1_skel
    rw [counter_zero]
    simp only [Prog.lift, Prog.bind_op, Prog.bind_ret, Prog.pure_eq_ret, zero_and, ↓reduceIte]
    unfold held owns
    iintro ⟨⟨⟨%f6, %hf6, H6⟩, HR⟩, HK⟩
    iapply (wp_load Variants.nat (c : Thread nD τ) (some 0) E (m := arg6) (View.setOn_subset_set _ _)) $$ H6; iintro H6
    rw [wp_ret]; imodintro
    iapply HK
    isplitl [H6]
    · iexists _; isplitr; rotate_left; · iexact H6
      ipureintro; exact hf6
    iexact HR
  | succ k ih =>
    intro hk S Q
    rw [loopSpec_apply]
    show _ ⊢ wp frame (wpE (defs₀ (F := F)) Variants.nat (c : Thread nD τ) (some (k + 1))) E
      (cc0_while1 i arg6 harg6 arg3 harg3 X.w0 X.w1 X.q X.tri arg4 harg4 arg5 harg5 (Scalar.subi (BitVec.ofNat 32 (k + 1)) 1#32)) Q
    simp only [cc0_while1_eq_skeleton]; unfold cc0_while1_skel
    obtain ⟨hpos, hdown⟩ := counter_pos ⟨k, by omega⟩
    simp only at hpos hdown
    rw [hpos, hdown]
    simp only [Prog.lift, Prog.bind_op, Prog.bind_ret, Prog.pure_eq_ret, one_and]
    unfold held owns
    iintro ⟨⟨⟨%f6, %hf6, H6⟩, ⟨%f3, %hf3, H3⟩, ⟨%f4, %hf4, H4⟩, ⟨%f5, %hf5, H5⟩⟩, HK⟩
    iapply (wp_load Variants.nat (c : Thread nD τ) (some (k + 1)) E (m := arg6) (View.setOn_subset_set _ _)) $$ H6; iintro H6
    have er : View.readAt (Elt F) arg6.view (Rect.unit (s := S2x512x128) ![0, 0, 0] S2x512x128.size inb_S2x512x128_S2x512x128_0_0_0).toLoadRect f6 = slabs S.l :=
      (View.readAt_full _ _ _).trans hf6
    rw [er]
    by_cases hg : goesOn S
    · have hg' := hg
      unfold goesOn at hg'
      rw [if_pos hg']
      have es : sweep X K V (k + 1) hk S = sweep X K V k (by omega) (outTurn X K V ⟨k, by omega⟩ S) := if_pos hg
      rw [es]
      obtain rfl := harg6.eq_unread hf6; obtain rfl := harg3.eq_unread hf3; obtain rfl := harg4.eq_unread hf4; obtain rfl := harg5.eq_unread hf5
      have hw := chk1 ⟨k, by omega⟩
      have o0 := off2_eq ⟨k, by omega⟩ 0
      have o1 := off2_eq ⟨k, by omega⟩ 1
      have ih' := ih (by omega) (outTurn X K V ⟨k, by omega⟩ S)
      simp only at hw o0 o1
      generalize BitVec.ofNat 32 k = arg7 at hw o0 o1 ih' ⊢
      simp only [k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton]
      clear er hf3 hf4 hf5 hf6
      sl_exec (disch := sl_exact hw)
      -- the values, over the loads as the run names them
      let b1 := rowsLoad (Val := Elt F) arg3.view (harg3.unread K) _ (k0_off2_inb arg7 hw 1)
      let b0 := rowsLoad (Val := Elt F) arg3.view (harg3.unread K) _ (k0_off2_inb arg7 hw 0)
      let d1 := rowsLoad (Val := Elt F) arg4.view (harg4.unread V) _ (k0_off2_inb arg7 hw 1)
      let d0 := rowsLoad (Val := Elt F) arg4.view (harg4.unread V) _ (k0_off2_inb arg7 hw 0)
      let S0 : Sums F := { l := slabLoad (Val := Elt F) arg6 (harg6.unread (slabs S.l)), e := S.e, dq := zeros _ }
      have ek1 : b1 = rowsAt K (2 * k + 1) (by omega) := (rowsLoad_eq _ (2 * k + 1) (by omega) o1 _).trans (by rw [harg3.read_unread])
      have ek0 : b0 = rowsAt K (2 * k) (by omega) := (rowsLoad_eq _ (2 * k) (by omega) o0 _).trans (by rw [harg3.read_unread])
      have ev1 : d1 = rowsAt V (2 * k + 1) (by omega) := (rowsLoad_eq _ (2 * k + 1) (by omega) o1 _).trans (by rw [harg4.read_unread])
      have ev0 : d0 = rowsAt V (2 * k) (by omega) := (rowsLoad_eq _ (2 * k) (by omega) o0 _).trans (by rw [harg4.read_unread])
      have eS0 : S0 = S.start := by unfold Sums.start; simp only [S0]; rw [slabLoad_eq]
      have hT := turn_parts X K V ⟨k, by omega⟩ S b1 d1 b0 d0 S0 ek1 ev1 ek0 ev0 eS0
      have r6 := (slabPieces_read (Val := Elt F) (v := arg6.view) (harg6.unread (slabs S.l)) (outPiece X none 4 (Nat.le_refl 4) b0 d0 (outPiece X none 4 (Nat.le_refl 4) b1 d1 S0)).l).trans (congrArg slabs hT.1)
      have r5 := (loadSum_eq harg5 inb_S512x128_S512x128_0_0 S.dq (outPiece X none 4 (Nat.le_refl 4) b0 d0 (outPiece X none 4 (Nat.le_refl 4) b1 d1 S0)).dq).trans hT.2
      iapply (wp_call_spec Variants.nat (c : Thread nD τ) (some (k + 1)) E
        (loopSpec X K V c arg6 arg3 arg4 arg5 k (by omega) (outTurn X K V ⟨k, by omega⟩ S)) k
        (fun u hu => by cases hu; exact Nat.lt_succ_self k) ih')
      rw [loopSpec_apply]
      isplitl [H6 H3 H4 H5]
      · unfold held owns
        isplitl [H6]
        · iexists _; isplitr; rotate_left; · iexact H6
          ipureintro
          refine Eq.trans ?_ r6
          sl_kernel_rfl
        isplitl [H3]
        · iexists _; isplitr; rotate_left; · iexact H3
          ipureintro; exact harg3.read_unread _
        isplitl [H4]
        · iexists _; isplitr; rotate_left; · iexact H4
          ipureintro; exact harg4.read_unread _
        iexists _; isplitr; rotate_left; · iexact H5
        ipureintro
        refine (View.read_writes_full (Val := Elt F) arg5.view (harg5.unread S.dq) inb_S512x128_S512x128_0_0 _ []).trans (Eq.trans ?_ r5)
        sl_kernel_rfl
      iintro %r HH
      rw [wp_ret]; imodintro
      iapply HK
      unfold held owns
      iexact HH
    · have hg' := hg
      unfold goesOn at hg'
      rw [if_neg hg']
      have es : sweep X K V (k + 1) hk S = S := if_neg hg
      rw [es, wp_ret]; imodintro
      iapply HK
      isplitl [H6]
      · iexists _; isplitr; rotate_left; · iexact H6
        ipureintro; exact hf6
      isplitl [H3]
      · iexists _; isplitr; rotate_left; · iexact H3
        ipureintro; exact hf3
      isplitl [H4]
      · iexists _; isplitr; rotate_left; · iexact H4
        ipureintro; exact hf4
      iexists _; isplitr; rotate_left; · iexact H5
      ipureintro; exact hf5

end Loop

/-- What a chunk's sums are computed from besides the keys and values; the last two of the backward call's are not read. -/
def fixed (q : FVec F (Rows 4 128) .bf16) : Fixed F where
  w0 := k0_pay4
  w1 := k0_pay5
  q := k0_pay6 q
  g := k0_pay6 q
  tri := k0_pay8
  etot _ := zeros _

/-- A chunk's sums before its key blocks. -/
def begun : Sums F where
  l _ := zeros _
  e _ := zeros _
  dq := zeros _

section Point

variable (K V : FVec F Keys .bf16)

theorem diag_parts (a : Fin 8) (X : Fixed F) (b0 d0 b1 d1 b2 d2 b3 d3 : FVec F Tile .bf16) (S0 : Sums F)
    (hk0 : b0 = rowsAt K (4 * a + 0) (by omega)) (hv0 : d0 = rowsAt V (4 * a + 0) (by omega))
    (hk1 : b1 = rowsAt K (4 * a + 1) (by omega)) (hv1 : d1 = rowsAt V (4 * a + 1) (by omega))
    (hk2 : b2 = rowsAt K (4 * a + 2) (by omega)) (hv2 : d2 = rowsAt V (4 * a + 2) (by omega))
    (hk3 : b3 = rowsAt K (4 * a + 3) (by omega)) (hv3 : d3 = rowsAt V (4 * a + 3) (by omega)) (hS : S0 = begun.start) :
    (outPiece X (some k0_pay7) 4 (by omega) b0 d0 (outPiece X (some k0_pay7) 3 (by omega) b1 d1 (outPiece X (some k0_pay7) 2 (by omega) b2 d2 (outPiece X (some k0_pay7) 1 (by omega) b3 d3 S0)))).l = (outDiag X K V k0_pay7 a begun).l
    ∧ addf (zeros (Rows 4 128)) (outPiece X (some k0_pay7) 4 (by omega) b0 d0 (outPiece X (some k0_pay7) 3 (by omega) b1 d1 (outPiece X (some k0_pay7) 2 (by omega) b2 d2 (outPiece X (some k0_pay7) 1 (by omega) b3 d3 S0)))).dq = (outDiag X K V k0_pay7 a begun).dq := by
  subst hk0 hv0 hk1 hv1 hk2 hv2 hk3 hv3 hS
  exact ⟨rfl, rfl⟩

theorem begun_eq {arg6 : Memref sig .tc .vmem S2x512x128 .f32} (harg6 : arg6.IsWhole) :
    ({ l := fun h => match h with | 0 => zeros _ | 1 => slabLoad (Val := Elt F) arg6 (harg6.unread (slabs fun _ => zeros (Rows 4 128))) 1
       e := fun _ => zeros _
       dq := zeros _ } : Sums F) = begun.start := by
  rw [slabLoad_eq]
  unfold begun Sums.start
  congr 1
  funext h
  match h with | 0 => rfl | 1 => rfl

/-- The sums after a point's work. -/
def worked (i : grid0.Coords) (q : FVec F (Rows 4 128) .bf16) : Sums F :=
  sweep (fixed q) K V (2 * (chunk i).val) (by omega) (outDiag (fixed q) K V k0_pay7 (chunk i) begun)

theorem opens (c : Dev nD) (u : Option ℕ) (i : grid0.Coords)
    (arg2 : Memref sig .tc .vmem S512x128 .bf16) (harg2 : arg2.IsWhole)
    (arg3 : Memref sig .tc .vmem S4096x128 .bf16) (harg3 : arg3.IsWhole)
    (arg4 : Memref sig .tc .vmem S4096x128 .bf16) (harg4 : arg4.IsWhole)
    (arg5 : Memref sig .tc .vmem S512x128 .f32) (harg5 : arg5.IsWhole)
    (arg6 : Memref sig .tc .vmem S2x512x128 .f32) (harg6 : arg6.IsWhole)
    (q : FVec F (Rows 4 128) .bf16) (x5 : FVec F (Rows 4 128) .f32) (x6 : S2x512x128.Idx → F .f32) (E : Set ℕ) (Q : _ → sProp 𝕄) :
    iprop((owns (c : Thread nD τ) arg2 fullShare q ∗ owns (c : Thread nD τ) arg5 fullShare x5 ∗ owns (c : Thread nD τ) arg6 fullShare x6)
      ∗ ((owns (c : Thread nD τ) arg2 fullShare q ∗ owns (c : Thread nD τ) arg5 fullShare (zeros (Rows 4 128))
          ∗ owns (c : Thread nD τ) arg6 fullShare (slabs fun _ => zeros (Rows 4 128)))
        -∗ Q ⟨BitVec.ofNat 32 (i 1).val, k0_pay4, k0_pay5, k0_pay6 q, k0_pay7, k0_pay8, Scalar.muli (BitVec.ofNat 32 (i 1).val) 512#32, zeros (Rows 4 128)⟩))
    ⊢ wp frame (wpE (defs₀ (F := F)) Variants.nat c u) E (k0_part1 i arg2 harg2 arg3 harg3 arg4 harg4 arg5 harg5 arg6 harg6) Q := by
  simp only [k0_part1_eq_skeleton]
  unfold k0_part1_skel owns
  iintro ⟨⟨⟨%f2, %hf2, H2⟩, ⟨%f5, %hf5, H5⟩, ⟨%f6, %hf6, H6⟩⟩, HK⟩
  obtain rfl := harg2.eq_unread hf2; obtain rfl := harg5.eq_unread hf5; obtain rfl := harg6.eq_unread hf6
  have e2 : View.readAt (Elt F) arg2.view (Rect.unit (s := S512x128) ![0, 0] S512x128.size inb_S512x128_S512x128_0_0).toLoadRect (harg2.unread q) = q :=
    (View.readAt_full _ _ _).trans (harg2.read_unread (Val := Elt F) _)
  sl_exec
  have ez : k0_pay11 (opens.sl.v33 (F := F) c arg6) = zeros (Rows 4 128) := by
    unfold opens.sl.v33 opens.sl.H6_1
    have e9 : k0_pay9 (F := F) = fun _ => Scalar.ofBits .f32 0x00000000#32 := Idealize.ShloMosaic.shapeCast_self _ _
    rw [e9]
    refine (congrArg k0_pay11 (View.readCov_fill (Val := Elt F) arg6.view inb_S2x512x128_S2x512x128_0_0_0 (fun _ => Scalar.ofBits .f32 0x00000000#32) []
      (Rect.unit (s := S2x512x128) ![0, 0, 0] S1x512x128.size inb_S2x512x128_S1x512x128_0_0_0) (by decide))).trans ?_
    funext j
    exact shapeCast_dropUnit_apply (n := 2) ![512, 128] (View.ld (Val := Elt F) (e' := .f32) (fun _ => (Scalar.ofBits .f32 0x00000000#32 : F .f32)) (Rect.unit (s := S2x512x128) ![0, 0, 0] S1x512x128.size inb_S2x512x128_S1x512x128_0_0_0)) shapeCasts_S1x512x128_S512x128 j
  have e32 : opens.sl.v32 i = Scalar.muli (BitVec.ofNat 32 (i 1).val) 512#32 := rfl
  rw [wp_ret]
  simp only [e2, ez, e32]
  imodintro
  iapply HK
  isplitl [H2]
  · iexists _; isplitr; rotate_left; · iexact H2
    ipureintro; exact harg2.read_unread _
  isplitl [H5]
  · iexists _; isplitr; rotate_left; · iexact H5
    ipureintro; exact View.read_writes_full (Val := Elt F) arg5.view _ _ _ []
  iexists _; isplitr; rotate_left; · iexact H6
  ipureintro; exact (View.read_writes_full (Val := Elt F) arg6.view _ _ _ []).trans (Idealize.ShloMosaic.shapeCast_self _ _)

set_option maxHeartbeats 1000000 in
theorem body (c : Dev nD) (i : grid0.Coords)
    (arg2 : Memref sig .tc .vmem S512x128 .bf16) (harg2 : arg2.IsWhole)
    (arg3 : Memref sig .tc .vmem S4096x128 .bf16) (harg3 : arg3.IsWhole)
    (arg4 : Memref sig .tc .vmem S4096x128 .bf16) (harg4 : arg4.IsWhole)
    (arg5 : Memref sig .tc .vmem S512x128 .f32) (harg5 : arg5.IsWhole)
    (arg6 : Memref sig .tc .vmem S2x512x128 .f32) (harg6 : arg6.IsWhole)
    (q : FVec F (Rows 4 128) .bf16) (x5 : FVec F (Rows 4 128) .f32) (x6 : S2x512x128.Idx → F .f32) (E : Set ℕ) (Q : PUnit → sProp 𝕄) :
    iprop((owns (c : Thread nD τ) arg2 fullShare q ∗ owns (c : Thread nD τ) arg3 fullShare K ∗ owns (c : Thread nD τ) arg4 fullShare V
        ∗ owns (c : Thread nD τ) arg5 fullShare x5 ∗ owns (c : Thread nD τ) arg6 fullShare x6)
      ∗ ((owns (c : Thread nD τ) arg2 fullShare q ∗ held c arg6 arg3 arg4 arg5 K V (worked K V i q)) -∗ Q ⟨⟩))
    ⊢ wp frame (wpE (defs₀ (F := F)) Variants.nat c none) E (cc0_sb_fwd i arg2 harg2 arg3 harg3 arg4 harg4 arg5 harg5 arg6 harg6) Q := by
  simp only [cc0_sb_fwd_eq_skeleton]
  unfold cc0_sb_fwd_skel
  simp only [k0_part16_eq_skeleton]
  unfold k0_part16_skel
  rw [Prog.bind_assoc, wp_bind]
  iintro ⟨⟨H2, H3, H4, H5, H6⟩, HK⟩
  iapply (opens c none i arg2 harg2 arg3 harg3 arg4 harg4 arg5 harg5 arg6 harg6 q x5 x6 E _)
  isplitl [H2 H5 H6]
  · isplitl [H2]; · iexact H2
    isplitl [H5]; · iexact H5
    iexact H6
  iintro ⟨H2, H5, H6⟩
  simp only [k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton]
  unfold owns
  icases H2 with ⟨%f2, %hf2, H2⟩
  icases H3 with ⟨%f3, %hf3, H3⟩
  icases H4 with ⟨%f4, %hf4, H4⟩
  icases H5 with ⟨%f5, %hf5, H5⟩
  icases H6 with ⟨%f6, %hf6, H6⟩
  obtain rfl := harg3.eq_unread hf3; obtain rfl := harg4.eq_unread hf4; obtain rfl := harg5.eq_unread hf5; obtain rfl := harg6.eq_unread hf6
  sl_exec
  have o0 : k0_off1 i 0#32 = ![128 * (4 * (chunk i).val + 0), 0] := off1_eq i 0
  let b0 := rowsLoad (Val := Elt F) arg3.view (harg3.unread K) _ (k0_off1_inb i 0)
  let d0 := rowsLoad (Val := Elt F) arg4.view (harg4.unread V) _ (k0_off1_inb i 0)
  have ek0 : b0 = rowsAt K (4 * (chunk i).val + 0) (by omega) := (rowsLoad_eq _ (4 * (chunk i).val + 0) (by omega) o0 _).trans (by rw [harg3.read_unread])
  have ev0 : d0 = rowsAt V (4 * (chunk i).val + 0) (by omega) := (rowsLoad_eq _ (4 * (chunk i).val + 0) (by omega) o0 _).trans (by rw [harg4.read_unread])
  have o1 : k0_off1 i 128#32 = ![128 * (4 * (chunk i).val + 1), 0] := off1_eq i 1
  let b1 := rowsLoad (Val := Elt F) arg3.view (harg3.unread K) _ (k0_off1_inb i 1)
  let d1 := rowsLoad (Val := Elt F) arg4.view (harg4.unread V) _ (k0_off1_inb i 1)
  have ek1 : b1 = rowsAt K (4 * (chunk i).val + 1) (by omega) := (rowsLoad_eq _ (4 * (chunk i).val + 1) (by omega) o1 _).trans (by rw [harg3.read_unread])
  have ev1 : d1 = rowsAt V (4 * (chunk i).val + 1) (by omega) := (rowsLoad_eq _ (4 * (chunk i).val + 1) (by omega) o1 _).trans (by rw [harg4.read_unread])
  have o2 : k0_off1 i 256#32 = ![128 * (4 * (chunk i).val + 2), 0] := off1_eq i 2
  let b2 := rowsLoad (Val := Elt F) arg3.view (harg3.unread K) _ (k0_off1_inb i 2)
  let d2 := rowsLoad (Val := Elt F) arg4.view (harg4.unread V) _ (k0_off1_inb i 2)
  have ek2 : b2 = rowsAt K (4 * (chunk i).val + 2) (by omega) := (rowsLoad_eq _ (4 * (chunk i).val + 2) (by omega) o2 _).trans (by rw [harg3.read_unread])
  have ev2 : d2 = rowsAt V (4 * (chunk i).val + 2) (by omega) := (rowsLoad_eq _ (4 * (chunk i).val + 2) (by omega) o2 _).trans (by rw [harg4.read_unread])
  have o3 : k0_off1 i 384#32 = ![128 * (4 * (chunk i).val + 3), 0] := off1_eq i 3
  let b3 := rowsLoad (Val := Elt F) arg3.view (harg3.unread K) _ (k0_off1_inb i 3)
  let d3 := rowsLoad (Val := Elt F) arg4.view (harg4.unread V) _ (k0_off1_inb i 3)
  have ek3 : b3 = rowsAt K (4 * (chunk i).val + 3) (by omega) := (rowsLoad_eq _ (4 * (chunk i).val + 3) (by omega) o3 _).trans (by rw [harg3.read_unread])
  have ev3 : d3 = rowsAt V (4 * (chunk i).val + 3) (by omega) := (rowsLoad_eq _ (4 * (chunk i).val + 3) (by omega) o3 _).trans (by rw [harg4.read_unread])
  let S0 : Sums F := {
    l := fun h => match h with | 0 => zeros _ | 1 => slabLoad (Val := Elt F) arg6 (harg6.unread (slabs fun _ => zeros (Rows 4 128))) 1
    e := fun _ => zeros _
    dq := zeros _ }
  have eS0 : S0 = begun.start := begun_eq harg6
  have hT := diag_parts K V (chunk i) (fixed q) b0 d0 b1 d1 b2 d2 b3 d3 S0 ek0 ev0 ek1 ev1 ek2 ev2 ek3 ev3 eS0
  have r6 := (slabPieces_read (Val := Elt F) (v := arg6.view) (harg6.unread (slabs fun _ => zeros (Rows 4 128))) (outPiece (fixed q) (some k0_pay7) 4 (by omega) b0 d0 (outPiece (fixed q) (some k0_pay7) 3 (by omega) b1 d1 (outPiece (fixed q) (some k0_pay7) 2 (by omega) b2 d2 (outPiece (fixed q) (some k0_pay7) 1 (by omega) b3 d3 S0)))).l).trans (congrArg slabs hT.1)
  have r5 := (loadSum_eq harg5 inb_S512x128_S512x128_0_0 (zeros (Rows 4 128)) (outPiece (fixed q) (some k0_pay7) 4 (by omega) b0 d0 (outPiece (fixed q) (some k0_pay7) 3 (by omega) b1 d1 (outPiece (fixed q) (some k0_pay7) 2 (by omega) b2 d2 (outPiece (fixed q) (some k0_pay7) 1 (by omega) b3 d3 S0)))).dq).trans hT.2
  rw [counter_eq]
  iapply (wp_call_spec Variants.nat (c : Thread nD τ) none E
    (loopSpec (fixed q) K V c arg6 arg3 arg4 arg5 (2 * (chunk i).val) (by omega) (outDiag (fixed q) K V k0_pay7 (chunk i) begun))
    (2 * (chunk i).val) (fun u hu => nomatch hu)
    (loop_meets (fixed q) K V c i arg6 harg6 arg3 harg3 arg4 harg4 arg5 harg5 E (2 * (chunk i).val) (by omega) _))
  rw [loopSpec_apply]
  isplitl [H6 H3 H4 H5]
  · unfold held owns
    isplitl [H6]
    · iexists _; isplitr; rotate_left; · iexact H6
      ipureintro
      refine Eq.trans ?_ r6
      sl_kernel_rfl
    isplitl [H3]
    · iexists _; isplitr; rotate_left; · iexact H3
      ipureintro; exact harg3.read_unread _
    isplitl [H4]
    · iexists _; isplitr; rotate_left; · iexact H4
      ipureintro; exact harg4.read_unread _
    iexists _; isplitr; rotate_left; · iexact H5
    ipureintro
    refine (View.read_writes_full (Val := Elt F) arg5.view (harg5.unread (zeros (Rows 4 128))) inb_S512x128_S512x128_0_0 _ []).trans (Eq.trans ?_ r5)
    sl_kernel_rfl
  iintro %r HH
  rw [Prog.pure_eq_ret, wp_ret]; imodintro
  iapply HK
  isplitl [H2]
  · iexists _; isplitr; rotate_left; · iexact H2
    ipureintro; exact hf2
  iexact HH

end Point

variable (m : (ℓ : Loc nD τ sig) → Buf (Elt F) ℓ) (ρ : Dev nD → PrngReg)

/-! ## The host line before the launch -/

abbrev hostLines : List (List (HloOp τ sig (Elt F))) := [hostOps0]

theorem hostLines_sub : (hostLines (F := F)).Forall fun ops => ops.Forall fun op => op.bufs ⊆ StableHlo.tcRefs τ sig := hostOps0_sub

theorem hostLines_fresh : (hostLines (F := F)).Forall fun ops => ops.Forall fun op => op.fresh = ∅ := by
  simp only [hostLines, List.Forall]; repeat' constructor

/-- What core `c`'s arrays hold when the call is reached. -/
abbrev V (c : Dev nD) (b : Ref sig .tc) : Buf (Elt F) ((c : Thread nD τ).loc b) :=
  StableHlo.after (hostLines (F := F)).flatten (fun b => m (c, b)) b

theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main hostLines hostLines_sub hostLines_fresh main_chain

theorem V_main_arg0 (c : Dev nD) : V m c main_arg0 = m ((c : Thread nD τ).loc main_arg0) :=
  StableHlo.after_of_forall_not_mem (b := Proc.devRef .tc main_arg0) _ _ (List.forall_iff_forall_mem.mp (by
    simp only [hostLines, hostOps0, List.flatten_cons, List.flatten_nil, List.append_nil, List.cons_append,
      List.nil_append, List.Forall, StableHlo.TRef.nullary, StableHlo.TRef.unary, StableHlo.TRef.binary, StableHlo.TRef.ternary,
      StableHlo.nullary_writes, StableHlo.unary_writes, StableHlo.binary_writes, StableHlo.ternary_writes, StableHlo.reshape_writes, Finset.mem_singleton]
    repeat' apply And.intro
    all_goals exact StableHlo.devRef_ne_of_ne (by decide)))

/-- Window `w`'s block at point `t`. -/
def iblk (c : Dev nD) (w : Fin (cfg0 (F := F)).W) (t : Fin (cfg0 (F := F)).N) : (((cfg0 (F := F)).win w).xblock ((cfg0 (F := F)).grid.coords t)).Idx → Elt F ((cfg0 (F := F)).win w).elt :=
  (((cfg0 (F := F)).win w).blk t).view.read (Elt F) (V m c (Pipeline.arrRef spec0 w))

/-! ## The points -/

variable (c : Dev nD)

/-- What point `t` works out. -/
def sumsAt (t : Fin (cfg0 (F := F)).N) : Sums F := worked (iblk m c 1 t) (iblk m c 2 t) (grid0.coords t) (iblk m c 0 t)

theorem PhiA_eq :
    (Pipeline.ΦA spec0 c : sProp 𝕄) = iprop((∃ d, owns (c : Thread nD τ) (Memref.whole cc0_scratch0) fullShare d) ∗ (∃ r, prngReg c r)) := by
  unfold Pipeline.ΦA; rw [scopedRest0_eq]; simp only [owns_whole]; try rfl

/-- The windows' contents after a point. -/
def dats (_ : Fin 1) (c : Dev nD) : Dat τ (Elt F) Unit ℕ (UR sig nD τ) ℕ (cfg0 (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => (sumsAt m c t).dq
  Φ _ := Pipeline.ΦA spec0 c
  q := Pipeline.shareOf spec0
  owed _ := 0

theorem A_eq (c : Dev nD) (w : Fin (cfg0 (F := F)).W) : (dats m 0 c).A w = V m c (Pipeline.arrRef spec0 w) := by
  dsimp only [dats]

theorem after_0 (t : Fin (cfg0 (F := F)).N) : (dats m 0 c).after 0 t = iblk m c 0 t := by dsimp only [dats]; rfl
theorem after_1 (t : Fin (cfg0 (F := F)).N) : (dats m 0 c).after 1 t = iblk m c 1 t := by dsimp only [dats]; rfl
theorem after_2 (t : Fin (cfg0 (F := F)).N) : (dats m 0 c).after 2 t = iblk m c 2 t := by dsimp only [dats]; rfl
theorem after_3 (t : Fin (cfg0 (F := F)).N) : (dats m 0 c).after 3 t = (sumsAt m c t).dq := by dsimp only [dats]; rfl

theorem before_0 (t : Fin (cfg0 (F := F)).N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (t : Fin (cfg0 (F := F)).N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (t : Fin (cfg0 (F := F)).N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)

/-! ## The body at a point -/

def bodyPre (t : Fin (cfg0 (F := F)).N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

def bodyPost (t : Fin (cfg0 (F := F)).N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

theorem leaves_live (w : Fin (cfg0 (F := F)).W) (t : Fin (cfg0 (F := F)).N) (h : (cfg0 (F := F)).idle w (grid0.coords t) = false) :
    (dats m 0 c).leavesExact w t = owns (c : Thread nD τ) (((cfg0 (F := F)).win w).stage ((cfg0 (F := F)).slots t w)) fullShare ((dats m 0 c).after w t) := by
  unfold Dat.leavesExact; rw [h]

set_option maxHeartbeats 4000000 in
theorem sound_body (t : Fin (cfg0 (F := F)).N) :
    bodyPre m c t ⊢ wp frame (wpE (defs₀ (F := F)) Variants.nat c none) Set.univ (bodyAt0 t) (fun _ => bodyPost m c t) := by
  unfold bodyPre bodyPost bodyAt0
  simp only [before_0, before_1, before_2]
  rw [show (dats m 0 c).owesAt () t.succ = (dats m 0 c).owesAt () t.castSucc from rfl]
  rw [show (dats m 0 c).Φ t.succ = Pipeline.ΦA spec0 c from rfl, show (dats m 0 c).Φ t.castSucc = Pipeline.ΦA spec0 c from rfl, PhiA_eq]
  rw [leaves_live m c 0 t rfl, leaves_live m c 1 t rfl, leaves_live m c 2 t rfl, leaves_live m c 3 t rfl]
  rw [after_0, after_1, after_2, after_3]
  iintro ⟨⟨⟨%x6, S0⟩, Hg⟩, Ho, ⟨%d0, H0⟩, ⟨%d1, H1⟩, ⟨%d2, H2⟩, ⟨%d3, H3⟩⟩
  iapply (body (iblk m c 1 t) (iblk m c 2 t) c (grid0.coords t) _ _ _ _ _ _ _ _ _ _ (iblk m c 0 t) ((dats m 0 c).before 3 t d3) x6 Set.univ _)
  isplitl [H0 H1 H2 H3 S0]
  · isplitl [H0]; · iexact H0
    isplitl [H1]; · iexact H1
    isplitl [H2]; · iexact H2
    isplitl [H3]; · iexact H3
    iexact S0
  rw [show worked (iblk m c 1 t) (iblk m c 2 t) (grid0.coords t) (iblk m c 0 t) = sumsAt m c t from rfl]
  unfold held
  iintro ⟨H0, S0, H1, H2, H3⟩
  isplitl [S0 Hg]
  · isplitl [S0]; · iexists _; iexact S0
    iexact Hg
  isplitl [Ho]; · iexact Ho
  isplitl [H0]; · iexact H0
  isplitl [H1]; · iexact H1
  isplitl [H2]; · iexact H2
  iexact H3

theorem defs₀_row (t : Fin (cfg0 (F := F)).N) :
    defs₀ (F := F) .tc (cfg0 (F := F)).body ((cfg0 (F := F)).bodyArgs t ((cfg0 (F := F)).slots t)) = bodyAt0 t := by
  unfold defs₀; rw [Defs.onTc_tc]

theorem body_obligation : BodyObligation (dats (F := F) m 0 c) (defs₀ (F := F)) Variants.nat () Set.univ := fun t => by
  rw [bigSep_W0, bigSep_W0, defs₀_row]
  exact triple_restated (sound_body m c t) rfl .rfl fun _ => .rfl

theorem hin : Pipeline.ΦA spec0 c ⊢ (dats m 0 c).Φ 0 := Idealize.SL.BI.Entails.refl _

theorem hout : (dats m 0 c).Φ (Fin.last (cfg0 (F := F)).N) ⊢ Pipeline.ΦA spec0 c := Idealize.SL.BI.Entails.refl _

/-! ## The launch -/

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.nat m ρ main
    (hbody := fun c => (body_obligation m c).loose) (hq := fun _ _ _ => rfl)
    (howed := fun _ _ => rfl) (V := V m) (hmain := hmain m Variants.nat) (hA := A_eq m) (hin := hin m) (hout := hout m)

theorem rest_arg0 : main_arg0 ∈ Pipeline.restRefs sig ((cfgs (F := F)) 0).spec := (by decide : main_arg0 ∈ Pipeline.restRefs sig spec0)

/-- The argument ends as it was, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  (θ_run defs _ _).mono (fun _ h => ⟨fun c => ((h.1 c).2 main_arg0 (rest_arg0 (F := F))).trans (V_main_arg0 m c), h.2⟩)
    (run_main_quiescent m ρ)

end Cert.SbFwdRun
-- ==== Proof.SbFwd.Value.lean ====
module

public import proofs.«01_k».proof.Proof.SbFwd.Frame
public import proofs.«01_k».proof.Proof.Sb.Ref
public import proofs.«01_k».proof.Proof.Gen.SbFwdRefIdeal.Run
public import Idealize.ShloMosaic.Lib.StableHlo.ReadAt

@[expose] public section

set_option maxRecDepth 16384

noncomputable section

/-! The forward launch over the reals: every point's sums, the result array, and the reference's. The masks, the triangles and the scale are the backward call's. -/

namespace Cert.SbFwdRun

open Cert.SbFwdIdeal Cert.SbFwdIdeal.Gen Cert.SbModel
open Cert.SbRun (pairQ pairK pairV pairS pairWeights arrayOf)
open Idealize.ShloMosaic hiding ix2 ix3 ix4 eq_ix2
open Idealize.ShloMosaic.ValueIdx Finset

/-- Over the reals the loop goes on. -/
theorem goesOn_of_is {S : Sums Ideal} {f : ℕ → ℕ → ℝ} (h : Is (S.l 0) f) : goesOn S :=
  Cert.SbRun.goesOn_of_is (A := ⟨S, fun _ => 0, fun _ => 0⟩) h

theorem sweep_out {Q G K V : ℕ → ℕ → ℝ} {C : ℕ → ℕ → ℝ} {X : Fixed Ideal} {i : ℕ} (HX : Holds X Q G C (512 * i)) {K' V' : FVec Ideal Keys .bf16} (hK : Is K' K) (hV : Is V' V) :
    ∀ (k : ℕ) (hk : k ≤ 16) (S : Sums Ideal), k ≤ 2 * i → Out Q K V i 32 (2 * k) S → Out Q K V i 32 0 (sweep X K' V' k hk S)
  | 0, _, S, _, I => I
  | k + 1, hk, S, hki, I => by
    have e : sweep X K' V' (k + 1) hk S = sweep X K' V' k (by omega) (outTurn X K' V' ⟨k, by omega⟩ S) := if_pos (goesOn_of_is (I.l 0))
    rw [e]
    exact sweep_out HX hK hV k (by omega) _ (by omega) (Out.turn HX hK hV ⟨k, by omega⟩ (by show k < _; omega) I)

theorem fixed_holds {q : FVec Ideal (Rows 4 128) .bf16} {Q0 : ℕ → ℕ → ℝ} {T : ℕ} (hq : Is q fun a c => Q0 (T + a) c) :
    Holds (fixed (F := Ideal) q) (fun t c => Q0 t c * (1 / 8)) (fun t c => Q0 t c * (1 / 8)) (fun _ _ => 0) T where
  w0 := Cert.SbRun.onHead0
  w1 := Cert.SbRun.onHead1
  q := Cert.SbRun.k0_pay11_is hq
  g := Cert.SbRun.k0_pay11_is hq
  tri := Cert.SbRun.triangles_is
  etot _ := Is.zeros

theorem worked_out {q : FVec Ideal (Rows 4 128) .bf16} {Q0 K V : ℕ → ℕ → ℝ} {i : grid0.Coords} {n : ℕ} (hn : (chunk i).val = n)
    (hq : Is q fun a c => Q0 (512 * n + a) c) {K' V' : FVec Ideal Keys .bf16} (hK : Is K' K) (hV : Is V' V) :
    Out (fun t c => Q0 t c * (1 / 8)) K V n 32 0 (worked (F := Ideal) K' V' i q) := by
  have HX := fixed_holds hq
  have hlt := (chunk i).2
  have hb : Out (fun t c => Q0 t c * (1 / 8)) K V n 32 (4 * n + 4) (begun (F := Ideal)) := Out.begin (by omega) (fun _ => Is.zeros) Is.zeros
  have hd := Out.diag HX hK hV Cert.SbRun.strict (chunk i) hn hb
  have e4 : 4 * n = 2 * (2 * n) := by omega
  rw [e4] at hd
  unfold worked
  have := sweep_out HX hK hV (2 * n) (by omega) _ (le_refl _) hd
  subst hn
  exact this

theorem lt32 (t : Fin (cfg0 (F := Ideal)).N) : t.val < 32 := lt_of_lt_of_eq t.isLt N_0

theorem chunk_val : ∀ t : Fin (cfg0 (F := Ideal)).N, (chunk (grid0.coords t)).val = t.val % 8 :=
  (by decide +kernel : ∀ t : Fin grid0.N, (chunk (grid0.coords t)).val = t.val % 8)

theorem idx : ∀ t : Fin (cfg0 (F := Ideal)).N, win0_0.index t = ![t.val % 8, t.val / 8] ∧ win0_1.index t = ![0, 4 + t.val / 8] ∧ win0_2.index t = ![0, 8 + t.val / 8]
    ∧ win0_3.index t = ![t.val % 8, t.val / 8] :=
  (by decide +kernel : ∀ t : Fin grid0.N, _)

section Points

variable {m : (ℓ : Loc nD τ sig) → Buf (Elt Ideal) ℓ} {c : Dev nD} {qkv : ℕ → ℕ → ℝ}

/-- The first half of the columns are reals. -/
abbrev Finds (x : S4096x3072.Idx → EReal) (qkv : ℕ → ℕ → ℝ) : Prop := ∀ (t : Fin 4096) (n : Fin 3072), n.val < 1536 → x (ix2 t n) = ((qkv t.val n.val : ℝ) : EReal)

theorem finds (H : Finds (m ((c.tc : Thread nD τ).loc main_arg0)) qkv) : Finds (V m c main_v0) qkv := by
  have e : (V m c main_v0 : S4096x3072.Idx → EReal) = m ((c.tc : Thread nD τ).loc main_arg0) := by
    unfold V hostLines
    simp only [List.flatten_cons, List.flatten_nil, List.append_nil]
    after_reads_simp
    rfl
  rw [e]; exact H

theorem queries (H : Finds (V m c main_v0) qkv) (t : Fin (cfg0 (F := Ideal)).N) :
    Is (n := 512) (m := 128) (iblk m c 0 t) fun a c => pairQ qkv (t.val / 8) (512 * (t.val % 8) + a) c := fun a x => by
  have := lt32 t
  refine Eq.trans ?_ (H ⟨512 * (t.val % 8) + a.val, by omega⟩ ⟨128 * (t.val / 8) + x.val, by omega⟩ (by dsimp only; omega))
  blk_ext [iblk, idx t]
  · show t.val % 8 * 512 + a.val = _; omega
  · show t.val / 8 * 128 + x.val = _; omega

theorem keys (H : Finds (V m c main_v0) qkv) (t : Fin (cfg0 (F := Ideal)).N) : Is (n := 4096) (m := 128) (iblk m c 1 t) (pairK qkv (t.val / 8)) := fun a x => by
  have := lt32 t
  refine Eq.trans ?_ (H a ⟨512 + 128 * (t.val / 8) + x.val, by omega⟩ (by dsimp only; omega))
  blk_ext [iblk, idx t]
  show (4 + t.val / 8) * 128 + x.val = _; omega

theorem values (H : Finds (V m c main_v0) qkv) (t : Fin (cfg0 (F := Ideal)).N) : Is (n := 4096) (m := 128) (iblk m c 2 t) (pairV qkv (t.val / 8)) := fun a x => by
  have := lt32 t
  refine Eq.trans ?_ (H a ⟨1024 + 128 * (t.val / 8) + x.val, by omega⟩ (by dsimp only; omega))
  blk_ext [iblk, idx t]
  show (8 + t.val / 8) * 128 + x.val = _; omega

theorem o_array (H : Finds (V m c main_v0) qkv) : (dats m 0 c).arrAt 3 (cfg0 (F := Ideal)).N = arrayOf (Cert.SbRef.oR qkv) := by
  refine (dats m 0 c).arrAt_eq_of_covers 3 _ (by decide +kernel) fun t hf y => ?_
  have I := worked_out (Q0 := pairQ qkv (t.val / 8)) (chunk_val t) (queries H t) (keys H t) (values H t)
  have := lt32 t
  blk_simp
  rw [after_3]
  obtain ⟨a, x, rfl⟩ : ∃ (a : Fin 512) (x : Fin 128), y = ix2 a x := ⟨y 0, y 1, eq_ix2 y⟩
  have e0 : ((win0_3.blk t).view.emb (ix2 a x) 0).val = 512 * (t.val % 8) + a.val := by
    blk_simp [idx t]
    show t.val % 8 * 512 + a.val = _
    omega
  have e1 : ((win0_3.blk t).view.emb (ix2 a x) 1).val = 128 * (t.val / 8) + x.val := by
    blk_simp [idx t]
    show t.val / 8 * 128 + x.val = _
    omega
  refine (I.o a x).trans ?_
  unfold arrayOf Cert.SbRef.oR
  rw [e0, e1, show (128 * (t.val / 8) + x.val) / 128 = t.val / 8 by omega, show (128 * (t.val / 8) + x.val) % 128 = x.val by omega, range_eq_Ico]

end Points

end Cert.SbFwdRun

namespace Cert.SbFwdRef

open Cert.SbFwdRefIdeal Cert.SbFwdRefIdeal.Gen Cert.SbFwdRefIdeal.Value Cert.SbModel Cert.SbRef
open Cert.SbRun (pairV pairWeights)
open Idealize.ShloMosaic hiding ix2 ix3 ix4 eq_ix2
open Idealize.ShloMosaic.ValueIdx Finset

variable {qkv : ℕ → ℕ → ℝ}

/-- The values by the weights, laid side by side again. -/
theorem heads_out {v : S1x8x4096x64.Idx → EReal} {w : S1x8x4096x4096.Idx → EReal} (hv : Four (n := 4096) (m := 64) v fun H t d => qkv t (1024 + (64 * H + d)))
    (hw : Four (n := 4096) (m := 4096) w fun H t s => weight (zR qkv H) (H % 2) t s) :
    Is (n := 4096) (m := 512) (shapeCast S4096x512 (shapeCast S1x4096x512 (transpose S1x4096x8x64 [0, 3, 1, 2]
      (Host.dotGeneral (F := Ideal) (φ₁ := .f32) (φ₂ := .f32) dot_S1x8x4096x64_S1x8x4096x4096_S1x8x64x4096_2_3_3_2_01_01 none v w)
      transposes_S1x8x64x4096_S1x4096x8x64_0_3_1_2) shapeCasts_S1x4096x8x64_S1x4096x512) shapeCasts_S1x4096x512_S4096x512) (oR qkv) := by
  intro t n
  have hn := n.isLt
  pointwise
  unfold oR
  rw [coe_sum]
  refine Fintype.sum_congr _ _ fun s => ?_
  refine (product ((congrArg v (index4 0 ⟨n.val / 64, by omega⟩ s ⟨n.val % 64, by omega⟩)).trans (hv ⟨n.val / 64, by omega⟩ s ⟨n.val % 64, by omega⟩))
    ((congrArg w (index4 0 ⟨n.val / 64, by omega⟩ t s)).trans (hw ⟨n.val / 64, by omega⟩ t s))).trans ?_
  beta_reduce
  unfold pairWeights pairV zR
  rw [show n.val / 64 / 2 = n.val / 128 by omega, show n.val / 64 % 2 = n.val % 128 / 64 by omega, show 1024 + (64 * (n.val / 64) + n.val % 64) = 1024 + 128 * (n.val / 128) + n.val % 128 by omega]
  congr 1; ring

/-- The masked drops. -/
theorem drops_four {w : S1x8x4096x4096.Idx → BitVec 1} {x y : S1x8x4096x4096.Idx → EReal}
    (hw : ∀ (H : Fin 8) (t s : Fin 4096), w (ix4 0 H t s) = if s.val < t.val then 1#1 else 0#1)
    (hx : Four (n := 4096) (m := 4096) x fun H t s => -Real.log (1 + Real.exp (zR qkv H (H % 2) t s))) (hy : ∀ i, y i = 0) :
    Four (n := 4096) (m := 4096) (select w x y) fun H t s => -dropped (zR qkv H) (H % 2) t s := fun H t s => by
  refine (masked_four hw hx hy H t s).trans ?_
  unfold dropped
  beta_reduce
  split <;> simp

theorem out_is (m : (ℓ : Loc nD τ sig) → Buf (Elt Ideal) ℓ) (c : Dev nD) (hq : Cert.SbFwdRun.Finds (m ((c.tc : Thread nD τ).loc main_arg0)) qkv) :
    Is (n := 4096) (m := 512) (res_main_v31 m c) (oR qkv) := by
  unfold res_main_v31
  refine heads_out (heads_is hq 1024 (by omega) _) (weights_is (heads_mask_is mask_is) (fun H t s => ?_) fun i => zero_splat)
  have hz := scores_is (heads_is hq 0 (by omega) slices_S4096x3072_S4096x512_0_0) (heads_is hq 512 (by omega) slices_S4096x3072_S4096x512_0_512)
  have hd := drops_four (heads_mask_is mask_is) (fun H t s => neg_at (softplus_at ((neg_at (neg_at (hz H t s))).trans (by rw [neg_neg])) zero_splat)) (fun i => zero_splat (i := i))
  have hs := hd.suffixSum (broadcastInDim S_ ![] bcast_S_S_ (constant (F := Ideal) S_ .f32 0x00000000#32)) reduceWindows_S1x8x4096x4096_S1x8x4096x4096_w1s1p0_0_w1s1p0_0_w1s1p0_0_w4096s1p0_4095 h_S_ Ideal.ofBits_zero_f32
  exact exp_sum_at (neg_at (softplus_at (neg_at (hz H t s)) zero_splat))
    (difference ((hs H t s).trans (by beta_reduce; rw [sum_neg_distrib]; rfl)) (hd H t s))

end Cert.SbFwdRef

end
-- ==== Proof.SbFwd.Claim.lean ====
module

public import proofs.«01_k».proof.Proof.Sb.Claim
public import proofs.«01_k».proof.Proof.SbFwd.Value
public import proofs.«01_k».proof.Proof.SbFwdWords.Frame

/-! The forward call against the attention written plainly, of finite queries, keys and values. -/

@[expose] public section
set_option maxRecDepth 16384
noncomputable section
namespace Cert.SbFwdClaim
open Idealize Cert.SbModel Cert.SbFwdRun
open Cert.SbRun (arrayOf)
open Cert.SbClaim (realsOf realsOf_val real_of_abs_lt top_splat is_array)
open Idealize.ShloMosaic hiding ix2 ix3 ix4 eq_ix2
open Idealize.ShloMosaic.ValueIdx

theorem frame : Cert.quiescent_SbFwd := fun m ρ _ => Cert.SbFwdWordsRun.frame (F := Bits) m ρ

theorem frame_ideal : Cert.quiescent_SbFwdIdeal := fun m ρ _ => Cert.SbFwdRun.frame (F := Ideal) m ρ

/-- The reference's run leaves the argument alone, and it has no semaphore. -/
theorem frame_ref : Cert.quiescent_SbFwdRefIdeal := fun m ρ _ =>
  (θ_run Cert.SbFwdRefIdeal.defs _ _).mono
    (fun r h => ⟨fun c => (h c).2, sem_eq_zero_of_no_sems (by decide) r.2⟩)
    (Cert.SbFwdRefIdeal.Value.run (F := Ideal) m ρ)

/-- The cut is past by the constant's name. -/
theorem preserves : Cert.preserves_SbFwd_SbFwdIdeal := IdealRules.named_const.statement _ _ _ _ _ rfl

/-- The precondition's own side conditions. -/
theorem preFacts : Cert.Pre_sb_fwd_finite.Facts where
  slices_S4096x3072_S4096x1536_0_0 := by decide
  bcast_S_S4096x1536 := by decide
  reducesTo_S4096x1536_S_d0_1 := by decide
  h_S_ := by decide

attribute [local instance] preFacts

theorem finite_part (x : Cert.Pre_sb_fwd_finite.S4096x3072.Idx → EReal) (h : Cert.Pre_sb_fwd_finite.fn (F := Ideal) x = fun _ => 1#1) :
    Finds x (realsOf x) := fun t n hn => by
  have h0 := congrFun h ValueIdx.ix0
  unfold Cert.Pre_sb_fwd_finite.fn at h0
  dsimp only at h0
  have e := real_of_abs_lt (top_splat _) (Host.reduce_andi_all _ _ _ _ _ h0 (ix2 t ⟨n.val, hn⟩))
  have es : (extractStridedSlice Cert.Pre_sb_fwd_finite.S4096x1536 ![0, 0] x Cert.Pre_sb_fwd_finite.Facts.slices_S4096x3072_S4096x1536_0_0) (ix2 t ⟨n.val, hn⟩) = x (ix2 t n) := by
    refine extractStridedSlice_apply _ _ _ _ _ fun b => ?_
    fin_cases b <;> simp [ix2]
  rw [realsOf_val, ← es]
  exact e

theorem algebraic : Cert.algebraic_SbFwdIdeal_SbFwdRefIdeal_pre_sb_fwd_finite := by
  intro m ρ m' ρ' hpre hag
  refine ⟨fun c => arrayOf (Cert.SbRef.oR (realsOf (n := 4096) (m := 3072) (m ((c.tc : Thread Cert.SbFwdIdeal.nD Cert.SbFwdIdeal.τ).loc Cert.SbFwdIdeal.main_arg0)))), ?_, ?_⟩
  · refine (θ_run _ _ _).mono (fun r h c => ?_) (run_main_quiescent (F := Ideal) m ρ)
    have hc := h.1 c
    exact ⟨(hc.1 3).trans (o_array (finds (finite_part _ (hpre c)))), (hc.2 _ rest_arg0).trans (V_main_arg0 m c)⟩
  · refine (θ_run _ _ _).mono (fun r h c => ?_) (Cert.SbFwdRefIdeal.Value.run m' ρ')
    obtain ⟨h31, harg⟩ := h c
    refine ⟨h31.trans (is_array (Cert.SbFwdRef.out_is m' c fun t n hn => ?_)), harg⟩
    exact (congrFun (hag c) _).trans (finite_part _ (hpre c) t n hn)

theorem frame_ideal_pre : Cert.quiescent_SbFwdIdeal_pre_sb_fwd_finite := fun m ρ _ => frame_ideal m ρ trivial

theorem frame_ref_pre : Cert.quiescent_SbFwdRefIdeal_pre_sb_fwd_finite := fun m ρ _ => frame_ref m ρ trivial

end Cert.SbFwdClaim

end
-- ==== Proof.Mix.Blocks.lean ====
module

public import proofs.«01_k».proof.Proof.Gen.MixIdeal.Value
public import proofs.«01_k».proof.Proof.Mix.Spec
public import Idealize.ShloMosaic.Lib.Pipeline.ValueKit
public import Idealize.ShloMosaic.Lib.Pipeline.ReadBack
public import Idealize.ShloMosaic.Lib.Pointwise

/-! What one block of 256 rows computes, payload by payload, as the gradient's own rows. -/

@[expose] public section
set_option maxRecDepth 16384
noncomputable section
namespace Cert.MixBlocks
open Idealize Idealize.ShloMosaic Cert.MixIdeal Cert.MixIdeal.Gen Cert.MixSpec

/-- The blocks staged at point `s` hold the arrays' rows of block `s`, and the assembled projections are the arrays'. -/
structure Blk (A : In) (s : ℕ) (x0 : Vec Ideal S256x1024 .f32) (x1 : Vec Ideal S256x512 .f32) (x2 : Vec Ideal S256x512 .bf16)
    (x3 : Vec Ideal S256x2048 .f32) (x4 : Vec Ideal S1x2048 .f32) (x7 : Vec Ideal S1024x1024 .bf16)
    (w0 w1 : Vec Ideal S512x1024 .bf16) : Prop where
  e0 : ∀ a n, x0 (ix2 a n) = A.du (row s a) n
  e1 : ∀ a n, x1 (ix2 a n) = A.osb (row s a) n
  e2 : ∀ a n, x2 (ix2 a n) = A.oca (row s a) n
  e3 : ∀ a n, x3 (ix2 a n) = A.lg (row s a) n
  e4 : ∀ n, x4 (ix2 0 n) = A.bg n
  e7 : ∀ i n, x7 (ix2 i n) = A.wo i n
  f0 : ∀ k n, w0 (ix2 k n) = A.wsb k n
  f1 : ∀ k n, w1 (ix2 k n) = A.wca k n

variable {A : In} {s : ℕ} {x0 : Vec Ideal S256x1024 .f32} {x1 : Vec Ideal S256x512 .f32} {x2 : Vec Ideal S256x512 .bf16}
    {x3 : Vec Ideal S256x2048 .f32} {x4 : Vec Ideal S1x2048 .f32} {x7 : Vec Ideal S1024x1024 .bf16}
    {w0 w1 : Vec Ideal S512x1024 .bf16}

theorem pay44_at (h : Blk A s x0 x1 x2 x3 x4 x7 w0 w1) (a : Fin 256) (n : Fin 1024) : k0_pay44 x1 w0 (ix2 a n) = ysb A (row s a) n := by
  pointwise [k0_pay44, k0_pay41, h.e1, h.f0]; rfl
theorem pay45_at (h : Blk A s x0 x1 x2 x3 x4 x7 w0 w1) (a : Fin 256) (n : Fin 1024) : k0_pay45 x2 w1 (ix2 a n) = yca A (row s a) n := by
  pointwise [k0_pay45, k0_pay42, h.e2, h.f1]; rfl
theorem pay47_at (h : Blk A s x0 x1 x2 x3 x4 x7 w0 w1) (a : Fin 256) (n : Fin 1024) : k0_pay47 x3 x4 (ix2 a n) = gate A (row s a) (lo n) := by
  pointwise [k0_pay47, k0_pay46, h.e3, h.e4]; rfl
theorem pay48_at (h : Blk A s x0 x1 x2 x3 x4 x7 w0 w1) (a : Fin 256) (n : Fin 1024) : k0_pay48 x3 x4 (ix2 a n) = gate A (row s a) (hi n) := by
  pointwise [k0_pay48, k0_pay46, h.e3, h.e4]; rfl
theorem pay50_at (h : Blk A s x0 x1 x2 x3 x4 x7 w0 w1) (a : Fin 256) (n : Fin 1024) : k0_pay50 x0 x7 (ix2 a n) = dm A (row s a) n := by
  pointwise [k0_pay50, k0_pay43, h.e0, h.e7]; rfl
theorem pay49_at (h : Blk A s x0 x1 x2 x3 x4 x7 w0 w1) (a : Fin 256) (n : Fin 1024) :
    k0_pay49 x1 x2 x3 x4 w0 w1 (ix2 a n) = merged A (row s a) n := by
  pointwise [k0_pay49, pay44_at h, pay45_at h, pay47_at h, pay48_at h]; rfl
theorem pay51_at (h : Blk A s x0 x1 x2 x3 x4 x7 w0 w1) (a : Fin 256) (n : Fin 1024) :
    k0_pay51 x1 x0 x3 x4 w0 x7 (ix2 a n) = dlsb A (row s a) n := by
  pointwise [k0_pay51, pay44_at h, pay47_at h, pay50_at h]; rfl
theorem pay54_at (h : Blk A s x0 x1 x2 x3 x4 x7 w0 w1) (a : Fin 256) (n : Fin 1024) :
    k0_pay54 (k0_pay48 x3 x4) (k0_pay52 x2 x0 x3 x4 w1 x7) k0_pay53 (ix2 a n) = dlca A (row s a) n := by
  pointwise [k0_pay54, k0_pay52, k0_pay53, pay45_at h, pay48_at h, pay50_at h]; rfl
theorem pay55_at (h : Blk A s x0 x1 x2 x3 x4 x7 w0 w1) (a : Fin 256) (n : Fin 1024) :
    k0_pay55 (k0_pay51 x1 x0 x3 x4 w0 x7) (ix2 a n) = dlsb A (row s a) n := by
  pointwise [k0_pay55, pay51_at h]
theorem pay56_at (h : Blk A s x0 x1 x2 x3 x4 x7 w0 w1) (a : Fin 256) (n : Fin 1024) :
    k0_pay56 (k0_pay48 x3 x4) (k0_pay52 x2 x0 x3 x4 w1 x7) k0_pay53 (ix2 a n) = dlca A (row s a) n := by
  pointwise [k0_pay56, pay54_at h]
theorem pay57_at (h : Blk A s x0 x1 x2 x3 x4 x7 w0 w1) (v : Vec Ideal S1x1024 .f32) (n : Fin 1024) :
    k0_pay57 (k0_pay51 x1 x0 x3 x4 w0 x7) v (ix2 0 n) = v (ix2 0 n) + ∑ a, dlsb A (row s a) n := by
  pointwise [k0_pay57, pay51_at h]
theorem pay58_at (h : Blk A s x0 x1 x2 x3 x4 x7 w0 w1) (v : Vec Ideal S1x1024 .f32) (n : Fin 1024) :
    k0_pay58 (k0_pay48 x3 x4) (k0_pay52 x2 x0 x3 x4 w1 x7) k0_pay53 v (ix2 0 n) = v (ix2 0 n) + ∑ a, dlca A (row s a) n := by
  pointwise [k0_pay58, pay54_at h]
theorem pay59_at (h : Blk A s x0 x1 x2 x3 x4 x7 w0 w1) (a : Fin 256) (n : Fin 1024) :
    k0_pay59 (k0_pay47 x3 x4) (k0_pay50 x0 x7) (ix2 a n) = dysb A (row s a) n := by
  pointwise [k0_pay59, pay47_at h, pay50_at h]; rfl
theorem pay60_at (h : Blk A s x0 x1 x2 x3 x4 x7 w0 w1) (a : Fin 256) (n : Fin 1024) :
    k0_pay60 (k0_pay48 x3 x4) (k0_pay50 x0 x7) (ix2 a n) = dyca A (row s a) n := by
  pointwise [k0_pay60, pay48_at h, pay50_at h]; rfl
theorem pay61_at (h : Blk A s x0 x1 x2 x3 x4 x7 w0 w1) (a : Fin 256) (k : Fin 512) :
    k0_pay61 (k0_pay47 x3 x4) (k0_pay50 x0 x7) w0 (ix2 a k) = dosb A (row s a) k := by
  pointwise [k0_pay61, pay59_at h, h.f0]; rfl
theorem pay62_at (h : Blk A s x0 x1 x2 x3 x4 x7 w0 w1) (a : Fin 256) (k : Fin 512) :
    k0_pay62 (k0_pay48 x3 x4) (k0_pay50 x0 x7) w1 (ix2 a k) = doca A (row s a) k := by
  pointwise [k0_pay62, pay60_at h, h.f1]; rfl
theorem pay1_at (h : Blk A s x0 x1 x2 x3 x4 x7 w0 w1) (v : Vec Ideal S1024x1024 .f32) (i j : Fin 1024) :
    k0_pay1 (k0_pay43 x0) (k0_pay49 x1 x2 x3 x4 w0 w1) v (ix2 i j)
      = v (ix2 i j) + ∑ a, merged A (row s a) i * A.du (row s a) j := by
  pointwise [k0_pay1, k0_pay43, pay49_at h, h.e0]
theorem pay2_at (h : Blk A s x0 x1 x2 x3 x4 x7 w0 w1) (v : Vec Ideal S512x1024 .f32) (k : Fin 512) (n : Fin 1024) :
    k0_pay2 (k0_pay41 x1) (k0_pay59 (k0_pay47 x3 x4) (k0_pay50 x0 x7)) v (ix2 k n)
      = v (ix2 k n) + ∑ a, A.osb (row s a) k * dysb A (row s a) n := by
  pointwise [k0_pay2, k0_pay41, pay59_at h, h.e1]
theorem pay3_at (h : Blk A s x0 x1 x2 x3 x4 x7 w0 w1) (v : Vec Ideal S512x1024 .f32) (k : Fin 512) (n : Fin 1024) :
    k0_pay3 (k0_pay42 x2) (k0_pay60 (k0_pay48 x3 x4) (k0_pay50 x0 x7)) v (ix2 k n)
      = v (ix2 k n) + ∑ a, A.oca (row s a) k * dyca A (row s a) n := by
  pointwise [k0_pay3, k0_pay42, pay60_at h, h.e2]

/-- The projection whose columns arrive in eight slabs, put side by side. -/
def asm (x : Vec Ideal S8x512x128 .bf16) : Vec Ideal S512x1024 .bf16 := fun i =>
  x (ix3 ⟨(i 1).val / 128, by have h : (i 1).val < 1024 := (i 1).isLt; omega⟩ (i 0) ⟨(i 1).val % 128, Nat.mod_lt _ (by decide)⟩)

/-- The two halves of the logits' gradient, where the kernel stores them. -/
theorem dl_piece_hi (h : Blk A s x0 x1 x2 x3 x4 x7 w0 w1) (a : Fin 256) (i : Fin 2048) (x : S256x1024.Idx)
    (ha : a.val = (x 0).val) (hi : i.val = 1024 + (x 1).val) :
    k0_pay56 (k0_pay48 x3 x4) (k0_pay52 x2 x0 x3 x4 w1 x7) k0_pay53 x = dl A (row s a) i := by
  idx_vars x
  rw [pay56_at h, dl_hi A _ x1 i hi, show a = x0 from Fin.ext ha]
theorem dl_piece_lo (h : Blk A s x0 x1 x2 x3 x4 x7 w0 w1) (a : Fin 256) (i : Fin 2048) (x : S256x1024.Idx)
    (ha : a.val = (x 0).val) (hi : i.val = (x 1).val) :
    k0_pay55 (k0_pay51 x1 x0 x3 x4 w0 x7) x = dl A (row s a) i := by
  idx_vars x
  rw [pay55_at h, dl_lo A _ x1 i hi, show a = x0 from Fin.ext ha]
theorem db_piece_hi (h : Blk A s x0 x1 x2 x3 x4 x7 w0 w1) (v : Vec Ideal S1x1024 .f32) (i : Fin 2048) (x : S1x1024.Idx)
    (hi : i.val = 1024 + (x 1).val) (e : EReal) (hv : v x = e) :
    k0_pay58 (k0_pay48 x3 x4) (k0_pay52 x2 x0 x3 x4 w1 x7) k0_pay53 v x = e + ∑ a, dl A (row s a) i := by
  idx_vars x
  obtain rfl : x0 = 0 := Subsingleton.elim _ _
  rw [pay58_at h, hv]
  exact congrArg (e + ·) (Finset.sum_congr rfl fun a _ => (dl_hi A _ x1 i hi).symm)
theorem db_piece_lo (h : Blk A s x0 x1 x2 x3 x4 x7 w0 w1) (v : Vec Ideal S1x1024 .f32) (i : Fin 2048) (x : S1x1024.Idx)
    (hi : i.val = (x 1).val) (e : EReal) (hv : v x = e) :
    k0_pay57 (k0_pay51 x1 x0 x3 x4 w0 x7) v x = e + ∑ a, dl A (row s a) i := by
  idx_vars x
  obtain rfl : x0 = 0 := Subsingleton.elim _ _
  rw [pay57_at h, hv]
  exact congrArg (e + ·) (Finset.sum_congr rfl fun a _ => (dl_lo A _ x1 i hi).symm)

end Cert.MixBlocks
-- ==== Proof.Mix.Cases.lean ====
module

public import proofs.«01_k».proof.Proof.Mix.Blocks

/-! One grid point carries the sums over the rows seen so far one block further. -/

@[expose] public section
set_option maxRecDepth 16384
noncomputable section
namespace Cert.MixBlocks
open Idealize Idealize.ShloMosaic Cert.MixIdeal Cert.MixIdeal.Gen Cert.MixIdeal.Value Cert.MixSpec

/-- The carried state of the kernel: its seven outputs' blocks and its four scratches. -/
abbrev St : Type := Vec Ideal S256x2048 .bf16 × Vec Ideal S256x512 .bf16 × Vec Ideal S256x512 .bf16 × Vec Ideal S1x2048 .f32 × Vec Ideal S1024x1024 .f32 × Vec Ideal S8x512x128 .f32 × Vec Ideal S8x512x128 .f32 × Vec Ideal S512x1024 .bf16 × Vec Ideal S512x1024 .bf16 × Vec Ideal S512x1024 .f32 × Vec Ideal S512x1024 .f32

/-- What the state holds after `n` blocks of rows and the block number `n`. -/
structure Inv (A : In) (n : ℕ) (S : St) : Prop where
  c8 : ∀ a i, S.1 (ix2 a i) = dl A (row n a) i
  c9 : ∀ a k, S.2.1 (ix2 a k) = dosb A (row n a) k
  c10 : ∀ a k, S.2.2.1 (ix2 a k) = doca A (row n a) k
  c11 : ∀ i, S.2.2.2.1 (ix2 0 i) = rows (n + 1) fun r => dl A r i
  c12 : ∀ i j, S.2.2.2.2.1 (ix2 i j) = rows (n + 1) fun r => merged A r i * A.du r j
  s0 : ∀ k i, S.2.2.2.2.2.2.2.1 (ix2 k i) = A.wsb k i
  s1 : ∀ k i, S.2.2.2.2.2.2.2.2.1 (ix2 k i) = A.wca k i
  s2 : ∀ k i, S.2.2.2.2.2.2.2.2.2.1 (ix2 k i) = rows (n + 1) fun r => A.osb r k * dysb A r i
  s3 : ∀ k i, S.2.2.2.2.2.2.2.2.2.2 (ix2 k i) = rows (n + 1) fun r => A.oca r k * dyca A r i

variable (m : (ℓ : Loc nD τ sig) → Buf (Elt Ideal) ℓ) (c : Dev nD) (A : In)

theorem inv_B (t : Fin cfg0.N) (n : ℕ) (acc : St) (h0 : ¬t.val % 16 = 0) (h1 : ¬t.val % 16 = 15) (hI : Inv A n acc)
    (hb : Blk A (n + 1) (iblk m c 0 t) (iblk m c 1 t) (iblk m c 2 t) (iblk m c 3 t) (iblk m c 4 t) (iblk m c 7 t)
      acc.2.2.2.2.2.2.2.1 acc.2.2.2.2.2.2.2.2.1) :
    Inv A (n + 1) (stAt0 m c t.val t.isLt acc) := by
  rw [stAt0_B m c t acc h0 h1]
  constructor
  · intro a i
    frame_out
    simp only [read_unread_whole]
    canon_tiles x hx
    · exact dl_piece_hi hb a i x hx0 hx1
    · exact dl_piece_lo hb a i x hx0 hx1
  · intro a k
    frame_out
    simp only [read_unread_whole]
    exact pay61_at hb a k
  · intro a k
    frame_out
    simp only [read_unread_whole]
    exact pay62_at hb a k
  · intro i
    frame_out
    simp only [read_unread_whole]
    rw [rows_succ, ← hI.c11]
    canon_tiles x hx
    · refine db_piece_hi hb _ i x hx1 _ ?_
      pointwise
      blk_ext
      exact hx1.symm
    · refine db_piece_lo hb _ i x hx1 _ ?_
      pointwise
      blk_ext
      exact hx1.symm
  · intro i j
    frame_out
    simp only [read_unread_whole]
    rw [pay1_at hb, hI.c12, ← rows_succ]
  · exact hI.s0
  · exact hI.s1
  · intro k i
    frame_out
    simp only [read_unread_whole]
    rw [pay2_at hb, hI.s2, ← rows_succ (f := fun r => A.osb r k * dysb A r i)]
  · intro k i
    frame_out
    simp only [read_unread_whole]
    rw [pay3_at hb, hI.s3, ← rows_succ (f := fun r => A.oca r k * dyca A r i)]

theorem inv_C (t : Fin cfg0.N) (n : ℕ) (acc : St) (h0 : ¬t.val % 16 = 0) (h1 : t.val % 16 = 15) (hI : Inv A n acc)
    (hb : Blk A (n + 1) (iblk m c 0 t) (iblk m c 1 t) (iblk m c 2 t) (iblk m c 3 t) (iblk m c 4 t) (iblk m c 7 t)
      acc.2.2.2.2.2.2.2.1 acc.2.2.2.2.2.2.2.2.1) :
    Inv A (n + 1) (stAt0 m c t.val t.isLt acc) := by
  rw [stAt0_C m c t acc h0 h1]
  constructor
  · intro a i
    frame_out
    simp only [read_unread_whole]
    canon_tiles x hx
    · exact dl_piece_hi hb a i x hx0 hx1
    · exact dl_piece_lo hb a i x hx0 hx1
  · intro a k
    frame_out
    simp only [read_unread_whole]
    exact pay61_at hb a k
  · intro a k
    frame_out
    simp only [read_unread_whole]
    exact pay62_at hb a k
  · intro i
    frame_out
    simp only [read_unread_whole]
    rw [rows_succ, ← hI.c11]
    canon_tiles x hx
    · refine db_piece_hi hb _ i x hx1 _ ?_
      pointwise
      blk_ext
      exact hx1.symm
    · refine db_piece_lo hb _ i x hx1 _ ?_
      pointwise
      blk_ext
      exact hx1.symm
  · intro i j
    frame_out
    simp only [read_unread_whole]
    rw [pay1_at hb, hI.c12, ← rows_succ]
  · exact hI.s0
  · exact hI.s1
  · intro k i
    frame_out
    simp only [read_unread_whole]
    rw [pay2_at hb, hI.s2, ← rows_succ (f := fun r => A.osb r k * dysb A r i)]
  · intro k i
    frame_out
    simp only [read_unread_whole]
    rw [pay3_at hb, hI.s3, ← rows_succ (f := fun r => A.oca r k * dyca A r i)]

theorem out13_C (t : Fin cfg0.N) (n : ℕ) (acc : St) (h0 : ¬t.val % 16 = 0) (h1 : t.val % 16 = 15) (hI : Inv A n acc)
    (hb : Blk A (n + 1) (iblk m c 0 t) (iblk m c 1 t) (iblk m c 2 t) (iblk m c 3 t) (iblk m c 4 t) (iblk m c 7 t)
      acc.2.2.2.2.2.2.2.1 acc.2.2.2.2.2.2.2.2.1) (j : Fin 8) (k : Fin 512) (i : Fin 128) :
    (stAt0 m c t.val t.isLt acc).2.2.2.2.2.1 (ix3 j k i)
      = rows (n + 1 + 1) fun r => A.osb r k * dysb A r ⟨j.val * 128 + i.val, by omega⟩ := by
  rw [stAt0_C m c t acc h0 h1]
  frame_out
  simp only [read_unread_whole]
  simp (disch := decide) only [View.readCov_fill]
  have hV := pay2_at hb acc.2.2.2.2.2.2.2.2.2.1 k ⟨j.val * 128 + i.val, by omega⟩
  rw [hI.s2, ← rows_succ (f := fun r => A.osb r k * dysb A r ⟨j.val * 128 + i.val, by omega⟩)] at hV
  generalize k0_pay2 (F := Ideal) _ _ _ = V at hV ⊢
  rw [← hV]
  canon_tiles x hx
  all_goals
    open_payloads
    pointwise
    blk_ext
    all_goals (blk_simp at hx0 hx1 hx2; omega)

theorem out14_C (t : Fin cfg0.N) (n : ℕ) (acc : St) (h0 : ¬t.val % 16 = 0) (h1 : t.val % 16 = 15) (hI : Inv A n acc)
    (hb : Blk A (n + 1) (iblk m c 0 t) (iblk m c 1 t) (iblk m c 2 t) (iblk m c 3 t) (iblk m c 4 t) (iblk m c 7 t)
      acc.2.2.2.2.2.2.2.1 acc.2.2.2.2.2.2.2.2.1) (j : Fin 8) (k : Fin 512) (i : Fin 128) :
    (stAt0 m c t.val t.isLt acc).2.2.2.2.2.2.1 (ix3 j k i)
      = rows (n + 1 + 1) fun r => A.oca r k * dyca A r ⟨j.val * 128 + i.val, by omega⟩ := by
  rw [stAt0_C m c t acc h0 h1]
  frame_out
  simp only [read_unread_whole]
  simp (disch := decide) only [View.readCov_fill]
  have hV := pay3_at hb acc.2.2.2.2.2.2.2.2.2.2 k ⟨j.val * 128 + i.val, by omega⟩
  rw [hI.s3, ← rows_succ (f := fun r => A.oca r k * dyca A r ⟨j.val * 128 + i.val, by omega⟩)] at hV
  generalize k0_pay3 (F := Ideal) _ _ _ = V at hV ⊢
  rw [← hV]
  canon_tiles x hx
  all_goals
    open_payloads
    pointwise
    blk_ext
    all_goals (blk_simp at hx0 hx1 hx2; omega)

/-- The eight stores that put a projection's slabs side by side. -/
def slabs (x : Vec Ideal S8x512x128 .bf16) : List (View.Piece (Elt Ideal) S512x1024 .bf16) :=
  [⟨Rect.unit ![0, 896] ![512, 128] inb_S512x1024_S512x128_0_896, k0_pay24 (View.ld x (Rect.unit ![7, 0, 0] ![1, 512, 128] inb_S8x512x128_S1x512x128_7_0_0))⟩,
   ⟨Rect.unit ![0, 768] ![512, 128] inb_S512x1024_S512x128_0_768, k0_pay24 (View.ld x (Rect.unit ![6, 0, 0] ![1, 512, 128] inb_S8x512x128_S1x512x128_6_0_0))⟩,
   ⟨Rect.unit ![0, 640] ![512, 128] inb_S512x1024_S512x128_0_640, k0_pay24 (View.ld x (Rect.unit ![5, 0, 0] ![1, 512, 128] inb_S8x512x128_S1x512x128_5_0_0))⟩,
   ⟨Rect.unit ![0, 512] ![512, 128] inb_S512x1024_S512x128_0_512, k0_pay24 (View.ld x (Rect.unit ![4, 0, 0] ![1, 512, 128] inb_S8x512x128_S1x512x128_4_0_0))⟩,
   ⟨Rect.unit ![0, 384] ![512, 128] inb_S512x1024_S512x128_0_384, k0_pay24 (View.ld x (Rect.unit ![3, 0, 0] ![1, 512, 128] inb_S8x512x128_S1x512x128_3_0_0))⟩,
   ⟨Rect.unit ![0, 256] ![512, 128] inb_S512x1024_S512x128_0_256, k0_pay24 (View.ld x (Rect.unit ![2, 0, 0] ![1, 512, 128] inb_S8x512x128_S1x512x128_2_0_0))⟩,
   ⟨Rect.unit ![0, 128] ![512, 128] inb_S512x1024_S512x128_0_128, k0_pay24 (View.ld x (Rect.unit ![1, 0, 0] ![1, 512, 128] inb_S8x512x128_S1x512x128_1_0_0))⟩,
   ⟨Rect.unit ![0, 0] ![512, 128] inb_S512x1024_S512x128_0_0, k0_pay24 (View.ld x (Rect.unit ![0, 0, 0] ![1, 512, 128] inb_S8x512x128_S1x512x128_0_0_0))⟩]

theorem canon_slabs (x : Vec Ideal S8x512x128 .bf16) (k : Fin 512) (i : Fin 1024) : View.canon (slabs x) (ix2 k i) = asm x (ix2 k i) := by
  unfold slabs
  canon_tiles y hy
  all_goals
    open_payloads
    pointwise
    unfold asm
    blk_ext
    all_goals (blk_simp at hy0 hy1; omega)

theorem readCov_slabs {κ : Kind} {sp : Space} (v : View sig κ sp S512x1024 .bf16) (x : Vec Ideal S8x512x128 .bf16) :
    v.readCov (slabs x) (Rect.unit ![0, 0] ![512, 1024] inb_S512x1024_S512x1024_0_0).toLoadRect = asm x := by
  rw [View.readCov_eq_canon']
  funext y
  idx_vars y
  pointwise
  exact canon_slabs x _ _

/-- The right half of a zero-filled row, read after its left half was stored. -/
theorem readCov_right {κ : Kind} {sp : Space} (v : View sig κ sp S1x2048 .f32) (p : Vec Ideal S1x1024 .f32) (x : Fin 1024) :
    v.readCov (Val := Elt Ideal)
      [⟨Rect.unit ![0, 0] ![1, 1024] inb_S1x2048_S1x1024_0_0, p⟩, ⟨Rect.unit ![0, 0] ![1, 2048] inb_S1x2048_S1x2048_0_0, k0_pay25 (F := Ideal)⟩]
      (Rect.unit (s := S1x2048) ![0, 1024] ![1, 1024] inb_S1x2048_S1x1024_0_1024).toLoadRect (ix2 0 x) = (0 : EReal) := by
  rw [View.readCov_eq_canon']
  pointwise
  rw [View.canon_cons_of_not_mem]
  · canon_tiles y hy
    pointwise [k0_pay25]
  · show ¬_ ∈ (Rect.unit _ _ inb_S1x2048_S1x1024_0_0).set
    rw [Rect.mem_set_unit]
    intro h
    exact absurd (h 1).2 (not_lt.mpr (Nat.le_add_right 1024 _))

set_option maxHeartbeats 1000000 in
theorem inv_A (t : Fin cfg0.N) (acc : St) (h0 : t.val % 16 = 0) (h1 : ¬t.val % 16 = 15)
    (hb : Blk A 0 (iblk m c 0 t) (iblk m c 1 t) (iblk m c 2 t) (iblk m c 3 t) (iblk m c 4 t) (iblk m c 7 t)
      (asm (iblk m c 5 t)) (asm (iblk m c 6 t))) :
    Inv A 0 (stAt0 m c t.val t.isLt acc) := by
  rw [stAt0_A m c t acc h0 h1]
  constructor
  · intro a i
    frame_out
    generalize hw0 : (View.whole cc0_scratch0).readCov (Val := Elt Ideal) _ _ = w0
    generalize hw1 : (View.whole cc0_scratch1).readCov (Val := Elt Ideal) _ _ = w1
    obtain rfl : w0 = asm (iblk m c 5 t) := hw0.symm.trans (readCov_slabs _ _)
    obtain rfl : w1 = asm (iblk m c 6 t) := hw1.symm.trans (readCov_slabs _ _)
    canon_tiles x hx
    · exact dl_piece_hi hb a i x hx0 hx1
    · exact dl_piece_lo hb a i x hx0 hx1
  · intro a k
    frame_out
    generalize hw0 : (View.whole cc0_scratch0).readCov (Val := Elt Ideal) _ _ = w0
    obtain rfl : w0 = asm (iblk m c 5 t) := hw0.symm.trans (readCov_slabs _ _)
    exact pay61_at hb a k
  · intro a k
    frame_out
    generalize hw1 : (View.whole cc0_scratch1).readCov (Val := Elt Ideal) _ _ = w1
    obtain rfl : w1 = asm (iblk m c 6 t) := hw1.symm.trans (readCov_slabs _ _)
    exact pay62_at hb a k
  · intro i
    frame_out
    generalize hw0 : (View.whole cc0_scratch0).readCov (Val := Elt Ideal) _ _ = w0
    generalize hw1 : (View.whole cc0_scratch1).readCov (Val := Elt Ideal) _ _ = w1
    obtain rfl : w0 = asm (iblk m c 5 t) := hw0.symm.trans (readCov_slabs _ _)
    obtain rfl : w1 = asm (iblk m c 6 t) := hw1.symm.trans (readCov_slabs _ _)
    refine (View.canon_append_of_piecesOf (fun y => 0 + ∑ a, dl A (row 0 a) (y 1)) [_] [_, _] ⟨?_, ?_, trivial⟩ (ix2 0 i) ?_).trans ?_
    · intro x
      refine db_piece_hi hb _ _ x ?_ _ ?_
      · exact congrArg (1024 + ·) (Nat.one_mul _)
      idx_vars x
      obtain rfl : x0 = 0 := Subsingleton.elim _ _
      exact readCov_right _ _ x1
    · intro x
      refine db_piece_lo hb _ _ x ?_ _ ?_
      · exact (congrArg (0 + ·) (Nat.one_mul _)).trans (Nat.zero_add _)
      simp (disch := decide) only [View.readCov_fill]
      idx_vars x
      pointwise [k0_pay25]
    · by_cases h : i.val < 1024
      · refine ⟨_, .tail _ (.head _), ?_⟩
        rw [Rect.mem_set_unit]
        exact Fin.forall_fin_two.2 ⟨⟨le_rfl, Nat.one_pos⟩, ⟨Nat.zero_le _, h⟩⟩
      · refine ⟨_, .head _, ?_⟩
        rw [Rect.mem_set_unit]
        exact Fin.forall_fin_two.2 ⟨⟨le_rfl, Nat.one_pos⟩, ⟨not_lt.1 h, i.isLt⟩⟩
    · rw [rows_succ]
      rfl
  · intro i j
    frame_out
    generalize hw0 : (View.whole cc0_scratch0).readCov (Val := Elt Ideal) _ _ = w0
    generalize hw1 : (View.whole cc0_scratch1).readCov (Val := Elt Ideal) _ _ = w1
    obtain rfl : w0 = asm (iblk m c 5 t) := hw0.symm.trans (readCov_slabs _ _)
    obtain rfl : w1 = asm (iblk m c 6 t) := hw1.symm.trans (readCov_slabs _ _)
    rw [rows_succ, pay1_at hb]
    pointwise [k0_pay38]
    exact (zero_add _).symm
  · intro k i
    frame_out
    exact (canon_slabs _ k i).trans (hb.f0 k i)
  · intro k i
    frame_out
    exact (canon_slabs _ k i).trans (hb.f1 k i)
  · intro k i
    frame_out
    rw [rows_succ, pay2_at hb]
    pointwise [k0_pay39]
    exact (zero_add _).symm
  · intro k i
    frame_out
    rw [rows_succ, pay3_at hb]
    pointwise [k0_pay40]
    exact (zero_add _).symm

end Cert.MixBlocks
-- ==== Proof.Mix.Launch.lean ====
module

public import proofs.«01_k».proof.Proof.Mix.Cases

/-! The launch of the gates' gradient from the arrays it is called with: its seven results as sums over the rows. -/

@[expose] public section
set_option maxRecDepth 16384
noncomputable section
namespace Cert.MixBlocks
open Idealize Idealize.ShloMosaic Cert.MixIdeal Cert.MixIdeal.Gen Cert.MixIdeal.Value Cert.MixSpec

variable (m : (ℓ : Loc nD τ sig) → Buf (Elt Ideal) ℓ) (c : Dev nD)

/-- The arrays of the call, by element. -/
def inK : In where
  du r n := m ((c.tc : Thread nD τ).loc main_arg0) (ix2 r n)
  osb r n := m ((c.tc : Thread nD τ).loc main_arg1) (ix2 r n)
  oca r n := m ((c.tc : Thread nD τ).loc main_arg2) (ix2 r n)
  lg r n := m ((c.tc : Thread nD τ).loc main_arg3) (ix2 r n)
  bg n := m ((c.tc : Thread nD τ).loc main_arg4) (ix1 n)
  wsb k n := m ((c.tc : Thread nD τ).loc main_arg5) (ix2 k n)
  wca k n := m ((c.tc : Thread nD τ).loc main_arg6) (ix2 k n)
  wo i n := m ((c.tc : Thread nD τ).loc main_arg7) (ix2 i n)

theorem idx : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![0, 0, 0] ∧ win0_6.index t = ![0, 0, 0]
    ∧ win0_7.index t = ![0, 0] :=
  (by decide +kernel : ∀ t : Fin grid0.N, _)

theorem lt16 (t : Fin cfg0.N) : t.val < 16 := lt_of_lt_of_eq t.isLt N_0

theorem b0 (t : Fin cfg0.N) (a : Fin 256) (n : Fin 1024) : iblk m c 0 t (ix2 a n) = (inK m c).du (row t.val a) n := by
  have := lt16 t
  unfold inK row
  blk_ext [iblk, V, idx t]

theorem b1 (t : Fin cfg0.N) (a : Fin 256) (n : Fin 512) : iblk m c 1 t (ix2 a n) = (inK m c).osb (row t.val a) n := by
  have := lt16 t
  unfold inK row
  blk_ext [iblk, V, idx t]

theorem b2 (t : Fin cfg0.N) (a : Fin 256) (n : Fin 512) : iblk m c 2 t (ix2 a n) = (inK m c).oca (row t.val a) n := by
  have := lt16 t
  unfold inK row
  blk_ext [iblk, V, idx t]

theorem b3 (t : Fin cfg0.N) (a : Fin 256) (n : Fin 2048) : iblk m c 3 t (ix2 a n) = (inK m c).lg (row t.val a) n := by
  have := lt16 t
  unfold inK row
  blk_ext [iblk, V, idx t]

theorem b4 (t : Fin cfg0.N) (n : Fin 2048) : iblk m c 4 t (ix2 0 n) = (inK m c).bg n := by
  show _ = m ((c.tc : Thread nD τ).loc main_arg4) (ix1 n)
  blk_ext! [iblk, V, idx t]

theorem b5 (t : Fin cfg0.N) (k : Fin 512) (n : Fin 1024) : asm (iblk m c 5 t) (ix2 k n) = (inK m c).wsb k n := by
  unfold asm
  show _ = m ((c.tc : Thread nD τ).loc main_arg5) (ix2 k n)
  blk_ext! [iblk, V, idx t]

theorem b6 (t : Fin cfg0.N) (k : Fin 512) (n : Fin 1024) : asm (iblk m c 6 t) (ix2 k n) = (inK m c).wca k n := by
  unfold asm
  show _ = m ((c.tc : Thread nD τ).loc main_arg6) (ix2 k n)
  blk_ext! [iblk, V, idx t]

theorem b7 (t : Fin cfg0.N) (i n : Fin 1024) : iblk m c 7 t (ix2 i n) = (inK m c).wo i n := by
  unfold inK
  blk_ext [iblk, V, idx t]

theorem blk_of (t : Fin cfg0.N) (s : ℕ) (hs : s = t.val) (w0 w1 : Vec Ideal S512x1024 .bf16)
    (h0 : ∀ k n, w0 (ix2 k n) = (inK m c).wsb k n) (h1 : ∀ k n, w1 (ix2 k n) = (inK m c).wca k n) :
    Blk (inK m c) s (iblk m c 0 t) (iblk m c 1 t) (iblk m c 2 t) (iblk m c 3 t) (iblk m c 4 t) (iblk m c 7 t) w0 w1 := by
  subst hs
  exact ⟨b0 m c t, b1 m c t, b2 m c t, b3 m c t, b4 m c t, b7 m c t, h0, h1⟩

/-- The state after point `n`, from the launch's first point on. -/
abbrev st (n : ℕ) (h : 0 + n < cfg0.N) : St := Pipeline.accAt (fun n h => stAt0 m c n h junk0) (stAt0 m c) 0 n h

theorem inv_all (n : ℕ) (h : 0 + n < cfg0.N) : Inv (inK m c) n (st m c n h) := by
  induction n with
  | zero =>
    exact inv_A m c _ ⟨0, h⟩ junk0 rfl (by show ¬0 % 16 = 15; decide) (blk_of m c ⟨0, h⟩ 0 rfl _ _ (b5 m c _) (b6 m c _))
  | succ n ih =>
    have hI := ih (by omega)
    have hn : 0 + (n + 1) < 16 := lt_of_lt_of_eq h N_0
    rw [st, Pipeline.accAt_succ]
    have hb := blk_of m c ⟨0 + (n + 1), h⟩ (n + 1) (by dsimp only; omega) _ _ hI.s0 hI.s1
    by_cases h15 : (0 + (n + 1)) % 16 = 15
    · exact inv_C m c _ ⟨0 + (n + 1), h⟩ n _ (by dsimp only; omega) h15 hI hb
    · exact inv_B m c _ ⟨0 + (n + 1), h⟩ n _ (by dsimp only; omega) h15 hI hb

theorem row_at (r : Fin 4096) (a : Fin 256) (n : ℕ) (hn : n = r.val / 256) (ha : a.val = r.val % 256) : row n a = r := by
  refine Fin.ext ?_
  show (n * 256 + a.val) % 4096 = r.val
  omega

theorem last_lt : 0 + 15 < cfg0.N := lt_of_lt_of_eq (by decide) N_0.symm

theorem inv_last : Inv (inK m c) 15 (st m c 15 last_lt) := inv_all m c 15 last_lt

theorem G8_at (r : Fin 4096) (n : Fin 2048) : G8 m c (ix2 r n) = dl (inK m c) r n := by
  have hr := r.isLt
  have hn := n.isLt
  have hp : pt8Of (ix2 r n) = r.val / 256 := by
    show 1 * (r.val / 256 - 0) + 1 * (n.val / 2048 - 0) = _
    omega
  have h : pt8Of (ix2 r n) < cfg0.N := by rw [hp]; exact lt_of_lt_of_eq (by omega) N_0.symm
  have hl : loc8Of (ix2 r n) = ix2 ⟨r.val % 256, by omega⟩ n :=
    funext fun a => match a with
      | ⟨0, _⟩ => rfl
      | ⟨1, _⟩ => Fin.ext (Nat.mod_eq_of_lt hn)
  unfold G8
  rw [dif_pos h, hl, (inv_all m c (pt8Of (ix2 r n)) (by omega)).c8, row_at r ⟨r.val % 256, by omega⟩ _ hp rfl]

theorem G9_at (r : Fin 4096) (n : Fin 512) : G9 m c (ix2 r n) = dosb (inK m c) r n := by
  have hr := r.isLt
  have hn := n.isLt
  have hp : pt9Of (ix2 r n) = r.val / 256 := by
    show 1 * (r.val / 256 - 0) + 1 * (n.val / 512 - 0) = _
    omega
  have h : pt9Of (ix2 r n) < cfg0.N := by rw [hp]; exact lt_of_lt_of_eq (by omega) N_0.symm
  have hl : loc9Of (ix2 r n) = ix2 ⟨r.val % 256, by omega⟩ n :=
    funext fun a => match a with
      | ⟨0, _⟩ => rfl
      | ⟨1, _⟩ => Fin.ext (Nat.mod_eq_of_lt hn)
  unfold G9
  rw [dif_pos h, hl, (inv_all m c (pt9Of (ix2 r n)) (by omega)).c9, row_at r ⟨r.val % 256, by omega⟩ _ hp rfl]

theorem G10_at (r : Fin 4096) (n : Fin 512) : G10 m c (ix2 r n) = doca (inK m c) r n := by
  have hr := r.isLt
  have hn := n.isLt
  have hp : pt10Of (ix2 r n) = r.val / 256 := by
    show 1 * (r.val / 256 - 0) + 1 * (n.val / 512 - 0) = _
    omega
  have h : pt10Of (ix2 r n) < cfg0.N := by rw [hp]; exact lt_of_lt_of_eq (by omega) N_0.symm
  have hl : loc10Of (ix2 r n) = ix2 ⟨r.val % 256, by omega⟩ n :=
    funext fun a => match a with
      | ⟨0, _⟩ => rfl
      | ⟨1, _⟩ => Fin.ext (Nat.mod_eq_of_lt hn)
  unfold G10
  rw [dif_pos h, hl, (inv_all m c (pt10Of (ix2 r n)) (by omega)).c10, row_at r ⟨r.val % 256, by omega⟩ _ hp rfl]

theorem G11_at (n : Fin 2048) : G11 m c (ix2 0 n) = ∑ r, dl (inK m c) r n := by
  rw [G11_last]
  exact ((inv_last m c).c11 n).trans (rows_all _)

theorem G12_at (i j : Fin 1024) : G12 m c (ix2 i j) = ∑ r, merged (inK m c) r i * (inK m c).du r j := by
  rw [G12_last]
  exact ((inv_last m c).c12 i j).trans (rows_all _)

theorem G13_at (j : Fin 8) (k : Fin 512) (i : Fin 128) :
    G13 m c (ix3 j k i) = ∑ r, (inK m c).osb r k * dysb (inK m c) r ⟨j.val * 128 + i.val, by omega⟩ := by
  rw [G13_last, Pipeline.accAt_succ]
  have hI := inv_all m c 14 (lt_of_lt_of_eq (by decide) N_0.symm)
  exact (out13_C m c _ ⟨0 + 15, last_lt⟩ 14 _ (by decide) (by decide) hI (blk_of m c _ 15 rfl _ _ hI.s0 hI.s1) j k i).trans (rows_all _)

theorem G14_at (j : Fin 8) (k : Fin 512) (i : Fin 128) :
    G14 m c (ix3 j k i) = ∑ r, (inK m c).oca r k * dyca (inK m c) r ⟨j.val * 128 + i.val, by omega⟩ := by
  rw [G14_last, Pipeline.accAt_succ]
  have hI := inv_all m c 14 (lt_of_lt_of_eq (by decide) N_0.symm)
  exact (out14_C m c _ ⟨0 + 15, last_lt⟩ 14 _ (by decide) (by decide) hI (blk_of m c _ 15 rfl _ _ hI.s0 hI.s1) j k i).trans (rows_all _)

end Cert.MixBlocks
-- ==== Proof.Mix.Ref.lean ====
module

public import proofs.«01_k».proof.Proof.Gen.MixRefIdeal.Run
public import Idealize.ShloMosaic.Lib.Pipeline.ValueKit
public import proofs.«01_k».proof.Proof.Mix.Spec

/-! The gates' gradient written plainly, by element: its seven results as the same sums over the rows. -/

@[expose] public section
set_option maxRecDepth 16384
noncomputable section
namespace Cert.MixPlain
open Idealize Idealize.ShloMosaic Cert.MixRefIdeal Cert.MixRefIdeal.Gen Cert.MixSpec

variable (m : (ℓ : Loc nD τ sig) → Buf (Elt Ideal) ℓ) (c : Dev nD)

/-- The arrays of the call, by element. -/
def inR : In where
  du r n := m ((c.tc : Thread nD τ).loc main_arg0) (ix2 r n)
  osb r n := m ((c.tc : Thread nD τ).loc main_arg1) (ix2 r n)
  oca r n := m ((c.tc : Thread nD τ).loc main_arg2) (ix2 r n)
  lg r n := m ((c.tc : Thread nD τ).loc main_arg3) (ix2 r n)
  bg n := m ((c.tc : Thread nD τ).loc main_arg4) (ix1 n)
  wsb k n := m ((c.tc : Thread nD τ).loc main_arg5) (ix2 k n)
  wca k n := m ((c.tc : Thread nD τ).loc main_arg6) (ix2 k n)
  wo i n := m ((c.tc : Thread nD τ).loc main_arg7) (ix2 i n)

/-- The arrays the results share: both gates, the merged value's gradient, the two projected outputs, the logits' gradient. -/
def gates : FVec Ideal S4096x2048 .f32 := Host.divf (broadcastInDim S4096x2048 ![] bcast_S_S4096x2048 (constant S_ .f32 0x3F800000#32)) (addf (broadcastInDim S4096x2048 ![] bcast_S_S4096x2048 (constant S_ .f32 0x3F800000#32)) (Host.exp (Host.negf (addf (m ((c.tc : Thread nD τ).loc main_arg3)) (broadcastInDim S4096x2048 ![0, 1] bcast_S1x2048_S4096x2048_0_1 (broadcastInDim S1x2048 ![1] bcast_S2048_S1x2048_1 (m ((c.tc : Thread nD τ).loc main_arg4))))))))
def dmv : FVec Ideal S4096x1024 .f32 := Host.dotGeneral (φ₁ := .f32) (φ₂ := .f32) dot_S4096x1024_S1024x1024_S4096x1024_1_1_0_0_n_n none (m ((c.tc : Thread nD τ).loc main_arg0)) (m ((c.tc : Thread nD τ).loc main_arg7))
def ysbv : FVec Ideal S4096x1024 .f32 := Host.dotGeneral (φ₁ := .f32) (φ₂ := .f32) dot_S4096x512_S512x1024_S4096x1024_1_0_0_1_n_n none (m ((c.tc : Thread nD τ).loc main_arg1)) (m ((c.tc : Thread nD τ).loc main_arg5))
def ycav : FVec Ideal S4096x1024 .f32 := Host.dotGeneral (φ₁ := .f32) (φ₂ := .f32) dot_S4096x512_S512x1024_S4096x1024_1_0_0_1_n_n none (m ((c.tc : Thread nD τ).loc main_arg2)) (m ((c.tc : Thread nD τ).loc main_arg6))
def dysbv : FVec Ideal S4096x1024 .f32 := mulf (extractStridedSlice S4096x1024 ![0, 0] (gates m c) slices_S4096x2048_S4096x1024_0_0) (dmv m c)
def dycav : FVec Ideal S4096x1024 .f32 := mulf (extractStridedSlice S4096x1024 ![0, 1024] (gates m c) slices_S4096x2048_S4096x1024_0_1024) (dmv m c)
def dlv : FVec Ideal S4096x2048 .f32 :=
  mulf (addf (pad S4096x2048 ![0, 1024] ![0, 0] ![0, 0] (mulf (dmv m c) (ycav m c)) (constant S_ .f32 0x00000000#32) pads_S4096x1024_S4096x2048_000_102400 h_S_)
    (pad S4096x2048 ![0, 0] ![0, 1024] ![0, 0] (mulf (dmv m c) (ysbv m c)) (constant S_ .f32 0x00000000#32) pads_S4096x1024_S4096x2048_000_010240 h_S_))
    (mulf (gates m c) (subf (broadcastInDim S4096x2048 ![] bcast_S_S4096x2048 (constant S_ .f32 0x3F800000#32)) (gates m c)))

theorem gates_at (r : Fin 4096) (n : Fin 2048) : gates m c (ix2 r n) = gate (inR m c) r n := by
  pointwise [gates]
  rfl
theorem dmv_at (r : Fin 4096) (n : Fin 1024) : dmv m c (ix2 r n) = dm (inR m c) r n := by
  pointwise [dmv]
  rfl
theorem ysbv_at (r : Fin 4096) (n : Fin 1024) : ysbv m c (ix2 r n) = ysb (inR m c) r n := by
  pointwise [ysbv]
  rfl
theorem ycav_at (r : Fin 4096) (n : Fin 1024) : ycav m c (ix2 r n) = yca (inR m c) r n := by
  pointwise [ycav]
  rfl
theorem dysbv_at (r : Fin 4096) (n : Fin 1024) : dysbv m c (ix2 r n) = dysb (inR m c) r n := by
  pointwise [dysbv, gates_at, dmv_at]
  exact mul_comm _ _
theorem dycav_at (r : Fin 4096) (n : Fin 1024) : dycav m c (ix2 r n) = dyca (inR m c) r n := by
  pointwise [dycav, gates_at, dmv_at]
  exact mul_comm _ _
theorem dlv_at (r : Fin 4096) (n : Fin 2048) : dlv m c (ix2 r n) = dl (inR m c) r n := by
  pointwise [dlv, gates_at, dmv_at, ysbv_at, ycav_at]
  by_cases h : n.val < 1024
  · rw [dif_neg (by omega), dif_pos h, zero_add, dl_lo _ r ⟨n.val, h⟩ n rfl, dlsb, show lo ⟨n.val, h⟩ = n from rfl]
    exact (mul_assoc (G := EReal) _ _ _).symm
  · have e : 1024 + (n.val - 1024) = n.val := by omega
    have hh : hi ⟨n.val - 1024, by omega⟩ = n := Fin.ext e
    rw [dif_pos (by omega), dif_neg h, add_zero, dl_hi _ r ⟨n.val - 1024, by omega⟩ n e.symm, dlca, hh]
    exact (mul_assoc (G := EReal) _ _ _).symm

/-- The results. -/
def r41 : FVec Ideal S4096x512 .f32 := Host.dotGeneral (φ₁ := .f32) (φ₂ := .f32) dot_S4096x1024_S512x1024_S4096x512_1_1_0_0_n_n none (dysbv m c) (m ((c.tc : Thread nD τ).loc main_arg5))
def r42 : FVec Ideal S4096x512 .f32 := Host.dotGeneral (φ₁ := .f32) (φ₂ := .f32) dot_S4096x1024_S512x1024_S4096x512_1_1_0_0_n_n none (dycav m c) (m ((c.tc : Thread nD τ).loc main_arg6))
def r43 : FVec Ideal S1x2048 .f32 :=
  shapeCast S1x2048 (Host.reduceAdd (shapeCast S1x2048 (Host.reduceAdd (dlv m c) (constant S_ .f32 0x00000000#32) reducesTo_S4096x2048_S2048_d0 h_S_) shapeCasts_S2048_S1x2048) (constant S_ .f32 0x00000000#32) reducesTo_S1x2048_S2048_d0 h_S_) shapeCasts_S2048_S1x2048
def r21 : FVec Ideal S1024x1024 .f32 :=
  transpose S1024x1024 [1, 0] (Host.dotGeneral (φ₁ := .f32) (φ₂ := .f32) dot_S4096x1024_S4096x1024_S1024x1024_0_0_1_1_n_n none (m ((c.tc : Thread nD τ).loc main_arg0))
    (addf (mulf (extractStridedSlice S4096x1024 ![0, 0] (gates m c) slices_S4096x2048_S4096x1024_0_0) (ysbv m c)) (mulf (extractStridedSlice S4096x1024 ![0, 1024] (gates m c) slices_S4096x2048_S4096x1024_0_1024) (ycav m c)))) transposes_S1024x1024_S1024x1024_1_0
def r45 : FVec Ideal S8x512x128 .f32 :=
  transpose S8x512x128 [1, 0, 2] (shapeCast S512x8x128 (transpose S512x1024 [1, 0] (Host.dotGeneral (φ₁ := .f32) (φ₂ := .f32) dot_S4096x1024_S4096x512_S1024x512_0_0_1_1_n_n none (dysbv m c) (m ((c.tc : Thread nD τ).loc main_arg1))) transposes_S1024x512_S512x1024_1_0) shapeCasts_S512x1024_S512x8x128) transposes_S512x8x128_S8x512x128_1_0_2
def r47 : FVec Ideal S8x512x128 .f32 :=
  transpose S8x512x128 [1, 0, 2] (shapeCast S512x8x128 (transpose S512x1024 [1, 0] (Host.dotGeneral (φ₁ := .f32) (φ₂ := .f32) dot_S4096x1024_S4096x512_S1024x512_0_0_1_1_n_n none (dycav m c) (m ((c.tc : Thread nD τ).loc main_arg2))) transposes_S1024x512_S512x1024_1_0) shapeCasts_S512x1024_S512x8x128) transposes_S512x8x128_S8x512x128_1_0_2

theorem r41_at (r : Fin 4096) (k : Fin 512) : r41 m c (ix2 r k) = dosb (inR m c) r k := by
  pointwise [r41, dysbv_at]
  rfl
theorem r42_at (r : Fin 4096) (k : Fin 512) : r42 m c (ix2 r k) = doca (inR m c) r k := by
  pointwise [r42, dycav_at]
  rfl
theorem r43_at (n : Fin 2048) : r43 m c (ix2 0 n) = ∑ r, dl (inR m c) r n := by
  pointwise [r43, dlv_at]
  exact Fintype.sum_unique _
theorem r21_at (i j : Fin 1024) : r21 m c (ix2 i j) = ∑ r, merged (inR m c) r i * (inR m c).du r j := by
  pointwise [r21, gates_at, ysbv_at, ycav_at]
  exact Finset.sum_congr rfl fun r _ => mul_comm (G := EReal) _ _
theorem r45_at (j : Fin 8) (k : Fin 512) (i : Fin 128) :
    r45 m c (ix3 j k i) = ∑ r, (inR m c).osb r k * dysb (inR m c) r ⟨j.val * 128 + i.val, by omega⟩ := by
  pointwise [r45, dysbv_at]
  exact Finset.sum_congr rfl fun r _ => mul_comm (G := EReal) _ _
theorem r47_at (j : Fin 8) (k : Fin 512) (i : Fin 128) :
    r47 m c (ix3 j k i) = ∑ r, (inR m c).oca r k * dyca (inR m c) r ⟨j.val * 128 + i.val, by omega⟩ := by
  pointwise [r47, dycav_at]
  exact Finset.sum_congr rfl fun r _ => mul_comm (G := EReal) _ _

end Cert.MixPlain
-- ==== Proof.Mix.Claim.lean ====
module

public import proofs.«01_k».proof.Defs
public import proofs.«01_k».proof.Proof.Gen.MixIdeal.Frame
public import proofs.«01_k».proof.Proof.Mix.Launch
public import proofs.«01_k».proof.Proof.Mix.Ref

/-! The gates' gradient: both frames from one run, and the launch against the gradient written plainly. -/

@[expose] public section
set_option maxRecDepth 16384
noncomputable section
namespace Cert.MixClaim
open Idealize Idealize.ShloMosaic Cert.MixSpec

/-- The kernel's arrays are the reference's where the memories agree. -/
theorem in_eq (m : (ℓ : Loc Cert.MixIdeal.nD Cert.MixIdeal.τ Cert.MixIdeal.sig) → Buf (Elt Ideal) ℓ)
    (m' : (ℓ : Loc Cert.MixRefIdeal.nD Cert.MixRefIdeal.τ Cert.MixRefIdeal.sig) → Buf (Elt Ideal) ℓ) (c : Dev Cert.MixIdeal.nD)
    (h0 : m' ((c.tc : Thread Cert.MixRefIdeal.nD Cert.MixRefIdeal.τ).loc Cert.MixRefIdeal.main_arg0) = m ((c.tc : Thread Cert.MixIdeal.nD Cert.MixIdeal.τ).loc Cert.MixIdeal.main_arg0))
    (h1 : m' ((c.tc : Thread Cert.MixRefIdeal.nD Cert.MixRefIdeal.τ).loc Cert.MixRefIdeal.main_arg1) = m ((c.tc : Thread Cert.MixIdeal.nD Cert.MixIdeal.τ).loc Cert.MixIdeal.main_arg1))
    (h2 : m' ((c.tc : Thread Cert.MixRefIdeal.nD Cert.MixRefIdeal.τ).loc Cert.MixRefIdeal.main_arg2) = m ((c.tc : Thread Cert.MixIdeal.nD Cert.MixIdeal.τ).loc Cert.MixIdeal.main_arg2))
    (h3 : m' ((c.tc : Thread Cert.MixRefIdeal.nD Cert.MixRefIdeal.τ).loc Cert.MixRefIdeal.main_arg3) = m ((c.tc : Thread Cert.MixIdeal.nD Cert.MixIdeal.τ).loc Cert.MixIdeal.main_arg3))
    (h4 : m' ((c.tc : Thread Cert.MixRefIdeal.nD Cert.MixRefIdeal.τ).loc Cert.MixRefIdeal.main_arg4) = m ((c.tc : Thread Cert.MixIdeal.nD Cert.MixIdeal.τ).loc Cert.MixIdeal.main_arg4))
    (h5 : m' ((c.tc : Thread Cert.MixRefIdeal.nD Cert.MixRefIdeal.τ).loc Cert.MixRefIdeal.main_arg5) = m ((c.tc : Thread Cert.MixIdeal.nD Cert.MixIdeal.τ).loc Cert.MixIdeal.main_arg5))
    (h6 : m' ((c.tc : Thread Cert.MixRefIdeal.nD Cert.MixRefIdeal.τ).loc Cert.MixRefIdeal.main_arg6) = m ((c.tc : Thread Cert.MixIdeal.nD Cert.MixIdeal.τ).loc Cert.MixIdeal.main_arg6))
    (h7 : m' ((c.tc : Thread Cert.MixRefIdeal.nD Cert.MixRefIdeal.τ).loc Cert.MixRefIdeal.main_arg7) = m ((c.tc : Thread Cert.MixIdeal.nD Cert.MixIdeal.τ).loc Cert.MixIdeal.main_arg7)) :
    Cert.MixPlain.inR m' c = Cert.MixBlocks.inK m c := by
  unfold Cert.MixPlain.inR Cert.MixBlocks.inK
  rw [h0, h1, h2, h3, h4, h5, h6, h7]

theorem algebraic : Cert.algebraic_MixIdeal_MixRefIdeal := by
  intro m ρ m' ρ' _ hag
  refine ⟨fun c => Cert.MixIdeal.Value.G8 m c, fun c => Cert.MixIdeal.Value.G9 m c, fun c => Cert.MixIdeal.Value.G10 m c,
    fun c => Cert.MixIdeal.Value.G11 m c, fun c => Cert.MixIdeal.Value.G12 m c, fun c => Cert.MixIdeal.Value.G13 m c,
    fun c => Cert.MixIdeal.Value.G14 m c, Cert.MixIdeal.Value.run m ρ, ?_⟩
  refine (θ_run _ _ _).mono (fun r h c => ?_) (Cert.MixRefIdeal.Value.run m' ρ')
  obtain ⟨a0, a1, a2, a3, a4, a5, a6, a7⟩ := hag c
  have e := in_eq m m' c a0 a1 a2 a3 a4 a5 a6 a7
  obtain ⟨h40, h41, h42, h43, h21, h45, h47, hargs⟩ := h c
  refine ⟨h40.trans ?_, h41.trans ?_, h42.trans ?_, h43.trans ?_, h21.trans ?_, h45.trans ?_, h47.trans ?_, hargs⟩
  · funext x; idx_vars x
    exact (Cert.MixPlain.dlv_at m' c x0 x1).trans (by rw [e]; exact (Cert.MixBlocks.G8_at m c x0 x1).symm)
  · funext x; idx_vars x
    exact (Cert.MixPlain.r41_at m' c x0 x1).trans (by rw [e]; exact (Cert.MixBlocks.G9_at m c x0 x1).symm)
  · funext x; idx_vars x
    exact (Cert.MixPlain.r42_at m' c x0 x1).trans (by rw [e]; exact (Cert.MixBlocks.G10_at m c x0 x1).symm)
  · funext x; idx_vars x
    obtain rfl : x0 = 0 := Subsingleton.elim _ _
    exact (Cert.MixPlain.r43_at m' c x1).trans (by rw [e]; exact (Cert.MixBlocks.G11_at m c x1).symm)
  · funext x; idx_vars x
    exact (Cert.MixPlain.r21_at m' c x0 x1).trans (by rw [e]; exact (Cert.MixBlocks.G12_at m c x0 x1).symm)
  · funext x; idx_vars x
    exact (Cert.MixPlain.r45_at m' c x0 x1 x2).trans (by rw [e]; exact (Cert.MixBlocks.G13_at m c x0 x1 x2).symm)
  · funext x; idx_vars x
    exact (Cert.MixPlain.r47_at m' c x0 x1 x2).trans (by rw [e]; exact (Cert.MixBlocks.G14_at m c x0 x1 x2).symm)

/-- The frame of the kernel over the reals: the generated one. -/
theorem frame_ideal : Cert.quiescent_MixIdeal := fun m ρ _ => Cert.MixIdeal.Gen.frame m ρ

/-- The frame of the reference: its run leaves the arguments alone, and it has no semaphore. -/
theorem frame_ref : Cert.quiescent_MixRefIdeal := fun m ρ _ =>
  (θ_run Cert.MixRefIdeal.defs _ _).mono
    (fun r h => ⟨fun c => (h c).2.2.2.2.2.2.2, sem_eq_zero_of_no_sems (by decide) r.2⟩)
    (Cert.MixRefIdeal.Value.run (F := Ideal) m ρ)

end Cert.MixClaim
-- ==== Proof.Rel.Kernel.lean ====
module

public import proofs.«01_k».proof.Proof.Gen.RelIdeal.Value
public import Idealize.ShloMosaic.Lib.ValueIdx
public import Idealize.ShloMosaic.Lib.Pointwise
public import Idealize.ShloMosaic.PureOps.Ideal
public import Mathlib.Tactic.FinCases

/-! The relative bias's gradient: what the call's one store holds, tile by tile. -/

@[expose] public section
set_option maxRecDepth 16384
noncomputable section
namespace Cert.RelSum
open Idealize Idealize.ShloMosaic
open Cert.RelIdeal Cert.RelIdeal.Gen
open Finset

section Any

variable {F : FTy → Type} [FloatOps F]

/-- The tile of head `h` and of the keys `j` blocks back. -/
def tile (x : Vec F S8x5x128x128 .f32) (h : Fin 8) (j : Fin 5) : Vec F S1x1x128x128 .f32 :=
  View.ld x (Rect.unit (s := S8x5x128x128) ![h.val, j.val, 0, 0] S1x1x128x128.size (by revert h j; decide))

/-- Eight lines, one under another. -/
def rows8 (f : Fin 8 → FVec F S1x128 .f32) : FVec F S8x128 .f32 :=
  concatenate S8x128 0 [⟨S1x128, f 0⟩, ⟨S1x128, f 1⟩, ⟨S1x128, f 2⟩, ⟨S1x128, f 3⟩, ⟨S1x128, f 4⟩, ⟨S1x128, f 5⟩, ⟨S1x128, f 6⟩, ⟨S1x128, f 7⟩]
    Gen.concatenates_S1x128_S1x128_S1x128_S1x128_S1x128_S1x128_S1x128_S1x128_S8x128_d0

/-- A line number's bin: clipped and shifted. -/
def bin (v : IVec S128x640 32) : IVec S128x640 32 :=
  addi (minsi (broadcast S128x640 256#32) (maxsi (broadcast S128x640 4294967040#32) v)) (broadcast S128x640 256#32)

/-- One where the bin is the column. -/
def hot (v : IVec S128x640 32) : FVec F S128x640 .f32 :=
  sitofp .f32 (extui 32 (cmpi .eq (bin v) (iota .tc S128x640 32 [1] Gen.iota_S128x640_d1_w32)) Gen.natLt_1_32)

abbrev lineNo : IVec S128x640 32 := iota .tc S128x640 32 [0] Gen.iota_S128x640_d0_w32

/-- The tiles of one distance added to what there is. -/
def addTiles (x : Vec F S8x5x128x128 .f32) (j : Fin 5) (w : BitVec 32) (acc : FVec F S8x640 .f32) : FVec F S8x640 .f32 :=
  addf (addf acc (matmul dot_S8x128_S128x640_S8x640_1_0_0_1_n_n (some .fp32) (rows8 fun h => k0_pay6 (tile x h j))
      (hot (subi (addi (broadcast S128x640 w) lineNo) (broadcast S128x640 127#32))) (constant S8x640 .f32 0x00000000#32)))
    (matmul dot_S8x128_S128x640_S8x640_1_0_0_1_n_n (some .fp32) (rows8 fun h => k0_pay7 (tile x h j))
      (hot (addi (addi (broadcast S128x640 w) lineNo) (broadcast S128x640 1#32))) (constant S8x640 .f32 0x00000000#32))

theorem G1_tiles (x : Vec F S8x5x128x128 .f32) : Value.G1 x =
    addTiles x 4 512#32 (addTiles x 3 384#32 (addTiles x 2 256#32 (addTiles x 1 128#32 (addTiles x 0 0#32 (broadcast S8x640 (Scalar.ofBits .f32 0x00000000#32)))))) := by
  rfl

end Any

/-- A bit that says two words agree, as a number. -/
theorem agree_word (a b : BitVec 32) :
    FloatOps.sitofp (F := Ideal) .f32 (BitVec.setWidth 32 (IntOp.cmpi .eq a b)) = if a = b then (1 : EReal) else 0 := by
  by_cases h : a = b
  · subst h
    simp [IntOp.cmpi, FloatOps.sitofp]
  · have hb : (a == b) = false := by simpa using h
    simp [IntOp.cmpi, FloatOps.sitofp, h, hb]

theorem small_words {a b : ℕ} (ha : a < 4294967296) (hb : b < 4294967296) : BitVec.ofNat 32 a = BitVec.ofNat 32 b ↔ a = b := by
  constructor
  · intro h
    have := congrArg BitVec.toNat h
    simpa [Nat.mod_eq_of_lt ha, Nat.mod_eq_of_lt hb] using this
  · rintro rfl; rfl

theorem sum_times_bit {n : ℕ} (f : Fin n → EReal) (p : Prop) [Decidable p] :
    (∑ r, f r) * (if p then (1 : EReal) else 0) = ∑ r, if p then f r else 0 := by
  split_ifs <;> simp

/-- The column a row's turned place `c` came from. -/
def source (r c : Fin 128) : Fin 128 := ⟨127 - (c.val + 128 - r.val) % 128, by omega⟩

theorem source_lt {r c : Fin 128} (h : c < r) : (source r c).val = r.val - c.val - 1 := by
  have := Fin.lt_def.1 h
  simp only [source]; omega

theorem source_ge {r c : Fin 128} (h : ¬ c < r) : (source r c).val = 127 + r.val - c.val := by
  have := fun hh => h (Fin.lt_def.2 hh)
  simp only [source]; omega

theorem source_inj (r : Fin 128) : Function.Injective (source r) := by
  intro c d h
  have h' := congrArg Fin.val h
  simp only [source] at h'
  ext; omega

/-- The bin of the pair row `r`, column `c`, in the tile `j` blocks back. -/
def seat (j r c : ℕ) : ℕ := min (128 * j + r + 256 - c) 512

theorem clip_below : ∀ n : Fin 768, IntOp.addi (IntOp.minsi 256#32 (IntOp.maxsi 4294967040#32 (IntOp.subi (BitVec.ofNat 32 n.val) 127#32))) 256#32
    = BitVec.ofNat 32 (min (n.val + 129) 512) := by decide +kernel

theorem clip_above : ∀ n : Fin 768, IntOp.addi (IntOp.minsi 256#32 (IntOp.maxsi 4294967040#32 (IntOp.addi (BitVec.ofNat 32 n.val) 1#32))) 256#32
    = BitVec.ofNat 32 (min (n.val + 257) 512) := by decide +kernel

theorem turned_at (t : Vec Ideal S1x1x128x128 .f32) (r c : Fin 128) :
    k0_pay5 (F := Ideal) t (ix2 r c) = t (ix4 0 0 r (source r c)) := by
  pointwise [k0_pay5, k0_pay2]
  rw [Finset.sum_eq_single (source r c)]
  · rw [agree_word, if_pos, mul_one]
    have : (source r c).val + ((c.val + 128 - r.val % 128) % 128) = 127 := by simp only [source]; omega
    simp only [IntOp.addi, ← BitVec.ofNat_add, this]
  · intro d _ hd
    rw [agree_word, if_neg, mul_zero]
    intro h
    refine hd (Fin.ext ?_)
    simp only [IntOp.addi, ← BitVec.ofNat_add] at h
    have := (small_words (by omega) (by omega)).1 h
    simp only [source]; omega
  · intro h; exact absurd (Finset.mem_univ _) h

theorem below_word (c r : Fin 128) {α : Type} (a b : α) :
    Scalar.select (IntOp.cmpi .slt (BitVec.ofNat 32 c.val) (BitVec.ofNat 32 r.val)) a b = if c < r then a else b := by
  have h : IntOp.cmpi .slt (BitVec.ofNat 32 c.val) (BitVec.ofNat 32 r.val) = BitVec.ofBool (decide (c < r)) := by
    simp only [IntOp.cmpi, BitVec.slt]
    congr 1
    rw [decide_eq_decide, Fin.lt_def]
    rw [BitVec.toInt_eq_toNat_of_lt, BitVec.toInt_eq_toNat_of_lt] <;> simp <;> omega
  rw [h]
  by_cases hc : c < r <;> simp [Scalar.select, hc]

theorem neg_at (t : Vec Ideal S1x1x128x128 .f32) (c : Fin 128) :
    k0_pay6 (F := Ideal) t (ix2 0 c) = ∑ r : Fin 128, if c < r then 0 else t (ix4 0 0 r (source r c)) := by
  pointwise [k0_pay6, k0_pay3]
  simp only [below_word, turned_at]

theorem pos_at (t : Vec Ideal S1x1x128x128 .f32) (c : Fin 128) :
    k0_pay7 (F := Ideal) t (ix2 0 c) = ∑ r : Fin 128, if c < r then t (ix4 0 0 r (source r c)) else 0 := by
  pointwise [k0_pay7, k0_pay3]
  simp only [below_word, turned_at]

theorem hot_below (j : Fin 5) (c : Fin 128) (b : Fin 640) :
    hot (F := Ideal) (subi (addi (broadcast S128x640 (BitVec.ofNat 32 (128 * j.val))) lineNo) (broadcast S128x640 127#32)) (ix2 c b)
      = if min (128 * j.val + c.val + 129) 512 = b.val then (1 : EReal) else 0 := by
  pointwise [hot, bin]
  rw [agree_word]
  have h : IntOp.addi (BitVec.ofNat 32 (128 * j.val)) (BitVec.ofNat 32 c.val) = BitVec.ofNat 32 (128 * j.val + c.val) := by
    simp only [IntOp.addi, BitVec.ofNat_add]
  rw [h, clip_below ⟨128 * j.val + c.val, by omega⟩]
  simp only [small_words (show min (128 * j.val + c.val + 129) 512 < 4294967296 by omega) (show b.val < 4294967296 by omega)]

theorem hot_above (j : Fin 5) (c : Fin 128) (b : Fin 640) :
    hot (F := Ideal) (addi (addi (broadcast S128x640 (BitVec.ofNat 32 (128 * j.val))) lineNo) (broadcast S128x640 1#32)) (ix2 c b)
      = if min (128 * j.val + c.val + 257) 512 = b.val then (1 : EReal) else 0 := by
  pointwise [hot, bin]
  rw [agree_word]
  have h : IntOp.addi (BitVec.ofNat 32 (128 * j.val)) (BitVec.ofNat 32 c.val) = BitVec.ofNat 32 (128 * j.val + c.val) := by
    simp only [IntOp.addi, BitVec.ofNat_add]
  rw [h, clip_above ⟨128 * j.val + c.val, by omega⟩]
  simp only [small_words (show min (128 * j.val + c.val + 257) 512 < 4294967296 by omega) (show b.val < 4294967296 by omega)]

theorem rows_at (f : Fin 8 → FVec Ideal S1x128 .f32) (h : Fin 8) (c : Fin 128) :
    rows8 f (ix2 h c) = f h (ix2 0 c) := by
  fin_cases h <;> pointwise [rows8]

theorem tile_at (x : Vec Ideal S8x5x128x128 .f32) (h : Fin 8) (j : Fin 5) (r c : Fin 128) :
    tile x h j (ix4 0 0 r c) = x (ix4 h j r c) := by
  pointwise [tile]

/-- Two sums over places and rows, each row's places brought back to its columns. -/
theorem row_sums (a : EReal) (t : Fin 128 → Fin 128 → EReal) (j b : ℕ) :
    a + (∑ c : Fin 128, ∑ r : Fin 128, if min (128 * j + c.val + 129) 512 = b then (if c < r then 0 else t r (source r c)) else 0)
      + (∑ c : Fin 128, ∑ r : Fin 128, if min (128 * j + c.val + 257) 512 = b then (if c < r then t r (source r c) else 0) else 0)
    = a + ∑ r : Fin 128, ∑ c : Fin 128, if seat j r.val c.val = b then t r c else 0 := by
  rw [add_assoc]
  refine congrArg (fun u => a + u) ?_
  conv_lhs =>
    arg 1
    rw [Finset.sum_comm]
  conv_lhs =>
    arg 2
    rw [Finset.sum_comm]
  rw [← Finset.sum_add_distrib]
  refine Finset.sum_congr rfl fun r _ => ?_
  rw [← Finset.sum_add_distrib]
  refine Eq.trans ?_ (Equiv.sum_comp (Equiv.ofBijective _ (Finite.injective_iff_bijective.1 (source_inj r)))
    (fun c : Fin 128 => if seat j r.val c.val = b then t r c else 0))
  refine Finset.sum_congr rfl fun c _ => ?_
  have hr := r.isLt
  by_cases hc : c < r
  · have hs : seat j r.val (source r c).val = min (128 * j + c.val + 257) 512 := by
      have := Fin.lt_def.1 hc
      rw [source_lt hc, seat]; congr 1; omega
    simp [hc, hs]
  · have hs : seat j r.val (source r c).val = min (128 * j + c.val + 129) 512 := by
      have := fun hh => hc (Fin.lt_def.2 hh)
      rw [source_ge hc, seat]; congr 1; omega
    simp [hc, hs]

theorem addTiles_at (x : Vec Ideal S8x5x128x128 .f32) (j : Fin 5) (acc : FVec Ideal S8x640 .f32) (h : Fin 8) (b : Fin 640) :
    addTiles x j (BitVec.ofNat 32 (128 * j.val)) acc (ix2 h b)
      = acc (ix2 h b) + ∑ r : Fin 128, ∑ c : Fin 128, if seat j.val r.val c.val = b.val then x (ix4 h j r c) else 0 := by
  refine Eq.trans ?_ (row_sums (acc (ix2 h b)) (fun r c => x (ix4 h j r c)) j.val b.val)
  pointwise [addTiles]
  simp only [rows_at, neg_at, pos_at, hot_below, hot_above, sum_times_bit, tile_at]

/-- What the call stores: each bin the sum of the pairs that fall in it. -/
theorem G1_at (x : Vec Ideal S8x5x128x128 .f32) (h : Fin 8) (b : Fin 640) :
    Value.G1 x (ix2 h b) = ∑ j : Fin 5, ∑ r : Fin 128, ∑ c : Fin 128, if seat j.val r.val c.val = b.val then x (ix4 h j r c) else 0 := by
  rw [G1_tiles]
  rw [show (512#32) = BitVec.ofNat 32 (128 * (4 : Fin 5).val) from rfl, show (384#32) = BitVec.ofNat 32 (128 * (3 : Fin 5).val) from rfl,
    show (256#32) = BitVec.ofNat 32 (128 * (2 : Fin 5).val) from rfl, show (128#32) = BitVec.ofNat 32 (128 * (1 : Fin 5).val) from rfl,
    show addTiles x 0 (0#32) = addTiles x 0 (BitVec.ofNat 32 (128 * (0 : Fin 5).val)) from rfl]
  simp only [addTiles_at]
  rw [Fin.sum_univ_five]
  have h0 : (broadcast S8x640 (Scalar.ofBits (F := Ideal) .f32 0x00000000#32) : FVec Ideal S8x640 .f32) (ix2 h b) = (0 : EReal) := by
    pointwise
  rw [h0, zero_add]

end Cert.RelSum
end
-- ==== Proof.Rel.Ref.lean ====
module

public import proofs.«01_k».proof.Proof.Gen.RelRefIdeal.Run
public import Idealize.ShloMosaic.Lib.ValueIdx
public import Idealize.ShloMosaic.Lib.Pointwise
public import Idealize.ShloMosaic.PureOps.Ideal

/-! The reference's scatter, read as a sum over the pairs. -/

@[expose] public section
set_option maxRecDepth 16384
noncomputable section
namespace Cert.RelPlain
open Idealize Idealize.ShloMosaic
open Cert.RelRefIdeal Cert.RelRefIdeal.Gen

abbrev scatterOf : ScatterDims S8x513 S5x128x128x1 S8x5x128x128 := scatter_S8x513_S5x128x128x1_S8x5x128x128_0_1_1_3

theorem siIdx_at (h : Fin 8) (j : Fin 5) (r c : Fin 128) (k : Fin scatterOf.scatterDimsToOperandDims.length) :
    scatterOf.siIdx (ix4 h j r c) k = ix4 j r c 0 := by
  obtain rfl : k = ⟨0, by decide⟩ := Subsingleton.elim (α := Fin 1) _ _
  funext a; fin_cases a <;> rfl

theorem lands_at (I : IVec S5x128x128x1 32) (n : ℕ) (h : Fin 8) (j : Fin 5) (r c : Fin 128)
    (hI : I (ix4 j r c 0) = BitVec.ofNat 32 n) (hn : n < 513) :
    scatterOf.resultIdx? (ix4 h j r c) I = some (ix2 h ⟨n, hn⟩) := by
  have s0 : scatterOf.start (ix4 h j r c) I 0 = 0 := rfl
  have s1 : scatterOf.start (ix4 h j r c) I 1 = n := by
    have e : scatterOf.start (ix4 h j r c) I 1 = (I (scatterOf.siIdx (ix4 h j r c) ⟨0, by decide⟩)).toInt := rfl
    rw [e, siIdx_at, hI, BitVec.toInt_eq_toNat_of_lt] <;> simp <;> omega
  have w0 : scatterOf.window (ix4 h j r c) 0 = h.val := rfl
  have w1 : scatterOf.window (ix4 h j r c) 1 = 0 := rfl
  have hh := h.isLt
  unfold ScatterDims.resultIdx?
  rw [dif_pos]
  · congr 1
    funext a; refine Fin.ext ?_
    fin_cases a
    · simp [s0, w0]
    · simp [s1, w1]
  · intro a
    fin_cases a
    · simp [s0, w0]
    · simp [s1, w1]; omega

theorem sum_four {n0 n1 n2 n3 : ℕ} (f : (⟨4, ![n0, n1, n2, n3]⟩ : Shape).Idx → EReal) :
    ∑ i, f i = ∑ a, ∑ b, ∑ c, ∑ d, f (ix4 a b c d) := sum_idx4 f

theorem scatter_at (I : IVec S5x128x128x1 32) (x : Vec Ideal S8x5x128x128 .f32) (z : FVec Ideal S8x513 .f32) (n : Fin 5 → Fin 128 → Fin 128 → ℕ)
    (hI : ∀ j r c, I (ix4 j r c 0) = BitVec.ofNat 32 (n j r c)) (hn : ∀ j r c, n j r c < 513) (h : Fin 8) (b : Fin 513) :
    Host.scatterAdd (F := Ideal) scatterOf z I x (ix2 h b)
      = z (ix2 h b) + ∑ j : Fin 5, ∑ r : Fin 128, ∑ c : Fin 128, if n j r c = b.val then x (ix4 h j r c) else 0 := by
  have e : Host.scatterAdd (F := Ideal) scatterOf z I x (ix2 h b)
      = z (ix2 h b) + ∑ u ∈ Finset.univ.filter (fun u => scatterOf.resultIdx? u I = some (ix2 h b)), x u := rfl
  rw [e, Finset.sum_filter, sum_four]
  refine congrArg (fun u : EReal => z (ix2 h b) + u) ?_
  rw [Finset.sum_eq_single h]
  · refine Finset.sum_congr rfl fun j _ => Finset.sum_congr rfl fun r _ => Finset.sum_congr rfl fun c _ => ?_
    rw [lands_at I _ h j r c (hI j r c) (hn j r c)]
    refine if_congr ?_ rfl rfl
    constructor
    · intro q; exact congrArg Fin.val (congrFun (Option.some.inj q) 1)
    · intro q; congr 2; exact Fin.ext q
  · intro g _ hg
    refine Finset.sum_eq_zero fun j _ => Finset.sum_eq_zero fun r _ => Finset.sum_eq_zero fun c _ => ?_
    rw [lands_at I _ g j r c (hI j r c) (hn j r c), if_neg]
    intro q; exact hg (congrFun (Option.some.inj q) 0)
  · intro q; exact absurd (Finset.mem_univ _) q

/-- The bin of the pair row `r`, column `c`, in the tile `j` blocks back. -/
def seat (j r c : ℕ) : ℕ := min (128 * j + r + 256 - c) 512

theorem clipped : ∀ n : Fin 768,
    Scalar.select (IntOp.cmpi .slt (IntOp.addi (IntOp.minsi 256#32 (IntOp.maxsi 4294967040#32 (IntOp.subi (BitVec.ofNat 32 n.val) 127#32))) 256#32) 0#32)
      (IntOp.addi (IntOp.addi (IntOp.minsi 256#32 (IntOp.maxsi 4294967040#32 (IntOp.subi (BitVec.ofNat 32 n.val) 127#32))) 256#32) 513#32)
      (IntOp.addi (IntOp.minsi 256#32 (IntOp.maxsi 4294967040#32 (IntOp.subi (BitVec.ofNat 32 n.val) 127#32))) 256#32)
    = BitVec.ofNat 32 (min (n.val + 129) 512) := by decide +kernel

theorem distance (j : Fin 5) (r c : Fin 128) :
    IntOp.subi (IntOp.addi (IntOp.muli (BitVec.ofNat 32 j.val) 128#32) (BitVec.ofNat 32 r.val)) (BitVec.ofNat 32 c.val)
      = IntOp.subi (BitVec.ofNat 32 (128 * j.val + r.val + 127 - c.val)) 127#32 := by
  simp only [IntOp.subi, IntOp.addi, IntOp.muli]
  have hj := j.isLt; have hr := r.isLt; have hc := c.isLt
  apply BitVec.eq_of_toNat_eq
  simp [BitVec.toNat_sub, BitVec.toNat_add, BitVec.toNat_mul]
  omega

theorem padded_at (I : IVec S5x128x128x1 32) (x : Vec Ideal S8x5x128x128 .f32)
    (hI : ∀ (j : Fin 5) (r c : Fin 128), I (ix4 j r c 0) = BitVec.ofNat 32 (seat j.val r.val c.val)) (h : Fin 8) (b : Fin 640) :
    pad S8x640 ![0, 0] ![0, 127] ![0, 0] (Host.scatterAdd (F := Ideal) scatterOf (broadcastInDim S8x513 ![] bcast_S_S8x513 (constant S_ .f32 0x00000000#32)) I x)
        (sitofp .f32 (constantI S_ 32 0#32)) pads_S8x513_S8x640_000_01270 h_S_ (ix2 h b)
      = ∑ j : Fin 5, ∑ r : Fin 128, ∑ c : Fin 128, if seat j.val r.val c.val = b.val then x (ix4 h j r c) else 0 := by
  have hn : ∀ (j : Fin 5) (r c : Fin 128), seat j.val r.val c.val < 513 := fun j r c => by unfold seat; omega
  by_cases hb : b.val < 513
  · have e := scatter_at I x (broadcastInDim S8x513 ![] bcast_S_S8x513 (constant S_ .f32 0x00000000#32)) (fun j r c => seat j.val r.val c.val) hI hn h ⟨b.val, hb⟩
    have z : (broadcastInDim S8x513 ![] bcast_S_S8x513 (constant (F := Ideal) S_ .f32 0x00000000#32) : FVec Ideal S8x513 .f32) (ix2 h ⟨b.val, hb⟩) = (0 : EReal) := by
      pointwise
    rw [z, zero_add] at e
    pointwise
    rw [dif_pos hb]
    exact e
  · rw [Finset.sum_eq_zero]
    · pointwise
      rw [dif_neg hb]
      simp [FloatOps.sitofp]
    · intro j _
      refine Finset.sum_eq_zero fun r _ => Finset.sum_eq_zero fun c _ => if_neg ?_
      have := hn j r c
      omega

end Cert.RelPlain
end
-- ==== Proof.Rel.Claim.lean ====
module

public import proofs.«01_k».proof.Defs
public import proofs.«01_k».proof.Proof.Gen.RelIdeal.Frame
public import proofs.«01_k».proof.Proof.Rel.Kernel
public import proofs.«01_k».proof.Proof.Rel.Ref

/-! The relative bias's gradient: the call against the gradient of the bias's own line. -/

@[expose] public section
set_option maxRecDepth 16384
noncomputable section
namespace Cert.RelClaim
open Idealize Idealize.ShloMosaic

theorem algebraic : Cert.algebraic_RelIdeal_RelRefIdeal := by
  intro m ρ m' ρ' _ hag
  refine ⟨fun c => Cert.RelIdeal.Value.G1 (m ((c.tc : Thread Cert.RelIdeal.nD Cert.RelIdeal.τ).loc Cert.RelIdeal.main_arg0)),
    Cert.RelIdeal.Value.run m ρ, ?_⟩
  refine (θ_run _ _ _).mono (fun r h c => ?_) (Cert.RelRefIdeal.Value.run m' ρ')
  have e := hag c
  obtain ⟨h27, harg⟩ := h c
  refine ⟨h27.trans ?_, harg⟩
  rw [e]
  funext x; idx_vars x
  refine Eq.trans (Cert.RelPlain.padded_at _ _ (fun j r c => ?_) x0 x1) (Cert.RelSum.G1_at _ x0 x1).symm
  pointwise [id_eq]
  rw [Cert.RelPlain.distance, Cert.RelPlain.clipped ⟨128 * j.val + r.val + 127 - c.val, by omega⟩]
  unfold Cert.RelPlain.seat
  congr 2
  dsimp only
  omega

/-- The frame of the idealized call. -/
theorem frame_ideal : Cert.quiescent_RelIdeal := fun m ρ _ => Cert.RelIdeal.Gen.frame m ρ

/-- The frame of the reference: its run leaves the argument alone, and it has no semaphore. -/
theorem frame_ref : Cert.quiescent_RelRefIdeal := fun m ρ _ =>
  (θ_run Cert.RelRefIdeal.defs _ _).mono
    (fun r h => ⟨fun c => (h c).2, sem_eq_zero_of_no_sems (by decide) r.2⟩)
    (Cert.RelRefIdeal.Value.run (F := Ideal) m ρ)

end Cert.RelClaim
end
-- ==== Proof.lean ====
/- The proof of the claims. -/
module

public import proofs.«01_k».proof.Defs
public import proofs.«01_k».proof.Proof.Gen.Mix
public import proofs.«01_k».proof.Proof.Gen.Mix.Frame
public import proofs.«01_k».proof.Proof.Gen.MixIdeal
public import proofs.«01_k».proof.Proof.Gen.MixIdeal.Frame
public import proofs.«01_k».proof.Proof.Gen.MixIdeal.Value
public import proofs.«01_k».proof.Proof.Gen.MixRefIdeal
public import proofs.«01_k».proof.Proof.Gen.MixRefIdeal.Run
public import proofs.«01_k».proof.Proof.Sb.Claim
public import proofs.«01_k».proof.Proof.Gen.Rel
public import proofs.«01_k».proof.Proof.Gen.Rel.Frame
public import proofs.«01_k».proof.Proof.Gen.RelIdeal
public import proofs.«01_k».proof.Proof.Gen.RelIdeal.Frame
public import proofs.«01_k».proof.Proof.Gen.RelIdeal.Value
public import proofs.«01_k».proof.Proof.Gen.RelRefIdeal
public import proofs.«01_k».proof.Proof.Gen.RelRefIdeal.Run
public import proofs.«01_k».proof.Proof.Gen.Mlp
public import proofs.«01_k».proof.Proof.Gen.MlpIdeal
public import proofs.«01_k».proof.Proof.Gen.MlpRefIdeal
public import proofs.«01_k».proof.Proof.Mlp.Claim
public import proofs.«01_k».proof.Proof.SbFwd.Claim
public import proofs.«01_k».proof.Proof.Mix.Claim
public import proofs.«01_k».proof.Proof.Rel.Claim

@[expose] public section

noncomputable section

namespace Cert.Proof

open Idealize.ShloMosaic Idealize.SL.Sem Cert.Mix

/-- Everything that is claimed, in the order of the statement. -/
theorem claim : Cert.Claim := ⟨Cert.Mix.Gen.facts, Cert.MixIdeal.Gen.facts, Cert.MixRefIdeal.Gen.facts,
  Cert.Sb.Gen.facts, Cert.SbIdeal.Gen.facts, Cert.SbRefIdeal.Gen.facts,
  Cert.Rel.Gen.facts, Cert.RelIdeal.Gen.facts, Cert.RelRefIdeal.Gen.facts,
  Cert.Mlp.Gen.facts, Cert.MlpIdeal.Gen.facts, Cert.MlpRefIdeal.Gen.facts,
  Cert.SbFwd.Gen.facts, Cert.SbFwdIdeal.Gen.facts, Cert.SbFwdRefIdeal.Gen.facts, Cert.SbClaim.preFacts, Cert.MlpClaim.preFacts, Cert.SbFwdClaim.preFacts,
  fun m ρ _ => Cert.Mix.Gen.frame m ρ, Cert.MixClaim.frame_ideal, Cert.MixClaim.frame_ref,
  Cert.SbClaim.frame, Cert.SbClaim.frame_ideal, Cert.SbClaim.frame_ideal_pre, Cert.SbClaim.frame_ref, Cert.SbClaim.frame_ref_pre,
  fun m ρ _ => Cert.Rel.Gen.frame m ρ, Cert.RelClaim.frame_ideal, Cert.RelClaim.frame_ref,
  Cert.MlpClaim.frame, Cert.MlpClaim.frame_ideal, Cert.MlpClaim.frame_ideal_pre, Cert.MlpClaim.frame_ref, Cert.MlpClaim.frame_ref_pre,
  Cert.SbFwdClaim.frame, Cert.SbFwdClaim.frame_ideal, Cert.SbFwdClaim.frame_ideal_pre, Cert.SbFwdClaim.frame_ref, Cert.SbFwdClaim.frame_ref_pre,
  trivial, Cert.MixClaim.algebraic, Cert.SbClaim.preserves, Cert.SbClaim.algebraic,
  trivial, Cert.RelClaim.algebraic, trivial, Cert.MlpClaim.algebraic, Cert.SbFwdClaim.preserves, Cert.SbFwdClaim.algebraic⟩

end Cert.Proof

end
